-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dhq (m : (ℓ : Loc Cert.Dhq.nD Cert.Dhq.τ Cert.Dhq.sig) → Buf (Elt Bits) ℓ) : Prop :=
  True

def Pre_DhqIdeal (m : (ℓ : Loc Cert.DhqIdeal.nD Cert.DhqIdeal.τ Cert.DhqIdeal.sig) → Buf (Elt Ideal) ℓ) : Prop :=
  True

def Pre_DhqRefIdeal (m : (ℓ : Loc Cert.DhqRefIdeal.nD Cert.DhqRefIdeal.τ Cert.DhqRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_BQ (m : (ℓ : Loc Cert.BQ.nD Cert.BQ.τ Cert.BQ.sig) → Buf (Elt Bits) ℓ) : Prop :=
  True

def Pre_BQIdeal (m : (ℓ : Loc Cert.BQIdeal.nD Cert.BQIdeal.τ Cert.BQIdeal.sig) → Buf (Elt Ideal) ℓ) : Prop :=
  True

def Pre_BQRefIdeal (m : (ℓ : Loc Cert.BQRefIdeal.nD Cert.BQRefIdeal.τ Cert.BQRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def quiescent_Dhq [hDhq : Cert.Dhq.Facts] : Prop :=
  ∀ (m : (ℓ : Loc Cert.Dhq.nD Cert.Dhq.τ Cert.Dhq.sig) → Buf (Elt Bits) ℓ) (g : Dev Cert.Dhq.nD → PrngReg), Pre_Dhq m →
    θ_run (Cert.Dhq.defs (F := Bits)) (onTc (τ := Cert.Dhq.τ) (Cert.Dhq.main (F := Bits))) ⟨m, fun _ => 0, g⟩ (fun r => (∀ c : Dev Cert.Dhq.nD,
      r.2.mem ((c.tc : Thread Cert.Dhq.nD Cert.Dhq.τ).loc Cert.Dhq.main_arg0) = m ((c.tc : Thread Cert.Dhq.nD Cert.Dhq.τ).loc Cert.Dhq.main_arg0)
      ∧ r.2.mem ((c.tc : Thread Cert.Dhq.nD Cert.Dhq.τ).loc Cert.Dhq.main_arg1) = m ((c.tc : Thread Cert.Dhq.nD Cert.Dhq.τ).loc Cert.Dhq.main_arg1)
      ∧ r.2.mem ((c.tc : Thread Cert.Dhq.nD Cert.Dhq.τ).loc Cert.Dhq.main_arg2) = m ((c.tc : Thread Cert.Dhq.nD Cert.Dhq.τ).loc Cert.Dhq.main_arg2)
      ∧ r.2.mem ((c.tc : Thread Cert.Dhq.nD Cert.Dhq.τ).loc Cert.Dhq.main_arg3) = m ((c.tc : Thread Cert.Dhq.nD Cert.Dhq.τ).loc Cert.Dhq.main_arg3)
      ∧ r.2.mem ((c.tc : Thread Cert.Dhq.nD Cert.Dhq.τ).loc Cert.Dhq.main_arg4) = m ((c.tc : Thread Cert.Dhq.nD Cert.Dhq.τ).loc Cert.Dhq.main_arg4))
      ∧ r.2.sem = fun _ => 0)

def quiescent_DhqIdeal [hDhqIdeal : Cert.DhqIdeal.Facts] : Prop :=
  ∀ (m : (ℓ : Loc Cert.DhqIdeal.nD Cert.DhqIdeal.τ Cert.DhqIdeal.sig) → Buf (Elt Ideal) ℓ) (g : Dev Cert.DhqIdeal.nD → PrngReg), Pre_DhqIdeal m →
    θ_run (Cert.DhqIdeal.defs (F := Ideal)) (onTc (τ := Cert.DhqIdeal.τ) (Cert.DhqIdeal.main (F := Ideal))) ⟨m, fun _ => 0, g⟩ (fun r => (∀ c : Dev Cert.DhqIdeal.nD,
      r.2.mem ((c.tc : Thread Cert.DhqIdeal.nD Cert.DhqIdeal.τ).loc Cert.DhqIdeal.main_arg0) = m ((c.tc : Thread Cert.DhqIdeal.nD Cert.DhqIdeal.τ).loc Cert.DhqIdeal.main_arg0)
      ∧ r.2.mem ((c.tc : Thread Cert.DhqIdeal.nD Cert.DhqIdeal.τ).loc Cert.DhqIdeal.main_arg1) = m ((c.tc : Thread Cert.DhqIdeal.nD Cert.DhqIdeal.τ).loc Cert.DhqIdeal.main_arg1)
      ∧ r.2.mem ((c.tc : Thread Cert.DhqIdeal.nD Cert.DhqIdeal.τ).loc Cert.DhqIdeal.main_arg2) = m ((c.tc : Thread Cert.DhqIdeal.nD Cert.DhqIdeal.τ).loc Cert.DhqIdeal.main_arg2)
      ∧ r.2.mem ((c.tc : Thread Cert.DhqIdeal.nD Cert.DhqIdeal.τ).loc Cert.DhqIdeal.main_arg3) = m ((c.tc : Thread Cert.DhqIdeal.nD Cert.DhqIdeal.τ).loc Cert.DhqIdeal.main_arg3)
      ∧ r.2.mem ((c.tc : Thread Cert.DhqIdeal.nD Cert.DhqIdeal.τ).loc Cert.DhqIdeal.main_arg4) = m ((c.tc : Thread Cert.DhqIdeal.nD Cert.DhqIdeal.τ).loc Cert.DhqIdeal.main_arg4))
      ∧ r.2.sem = fun _ => 0)

def quiescent_DhqRefIdeal [hDhqRefIdeal : Cert.DhqRefIdeal.Facts] : Prop :=
  ∀ (m : (ℓ : Loc Cert.DhqRefIdeal.nD Cert.DhqRefIdeal.τ Cert.DhqRefIdeal.sig) → Buf (Elt Ideal) ℓ) (g : Dev Cert.DhqRefIdeal.nD → PrngReg), Pre_DhqRefIdeal m →
    θ_run (Cert.DhqRefIdeal.defs (F := Ideal)) (onTc (τ := Cert.DhqRefIdeal.τ) (Cert.DhqRefIdeal.main (F := Ideal))) ⟨m, fun _ => 0, g⟩ (fun r => (∀ c : Dev Cert.DhqRefIdeal.nD,
      r.2.mem ((c.tc : Thread Cert.DhqRefIdeal.nD Cert.DhqRefIdeal.τ).loc Cert.DhqRefIdeal.main_arg0) = m ((c.tc : Thread Cert.DhqRefIdeal.nD Cert.DhqRefIdeal.τ).loc Cert.DhqRefIdeal.main_arg0)
      ∧ r.2.mem ((c.tc : Thread Cert.DhqRefIdeal.nD Cert.DhqRefIdeal.τ).loc Cert.DhqRefIdeal.main_arg1) = m ((c.tc : Thread Cert.DhqRefIdeal.nD Cert.DhqRefIdeal.τ).loc Cert.DhqRefIdeal.main_arg1)
      ∧ r.2.mem ((c.tc : Thread Cert.DhqRefIdeal.nD Cert.DhqRefIdeal.τ).loc Cert.DhqRefIdeal.main_arg2) = m ((c.tc : Thread Cert.DhqRefIdeal.nD Cert.DhqRefIdeal.τ).loc Cert.DhqRefIdeal.main_arg2)
      ∧ r.2.mem ((c.tc : Thread Cert.DhqRefIdeal.nD Cert.DhqRefIdeal.τ).loc Cert.DhqRefIdeal.main_arg3) = m ((c.tc : Thread Cert.DhqRefIdeal.nD Cert.DhqRefIdeal.τ).loc Cert.DhqRefIdeal.main_arg3)
      ∧ r.2.mem ((c.tc : Thread Cert.DhqRefIdeal.nD Cert.DhqRefIdeal.τ).loc Cert.DhqRefIdeal.main_arg4) = m ((c.tc : Thread Cert.DhqRefIdeal.nD Cert.DhqRefIdeal.τ).loc Cert.DhqRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2))
      ∧ r.2.sem = fun _ => 0)

def quiescent_BQ [hBQ : Cert.BQ.Facts] : Prop :=
  ∀ (m : (ℓ : Loc Cert.BQ.nD Cert.BQ.τ Cert.BQ.sig) → Buf (Elt Bits) ℓ) (g : Dev Cert.BQ.nD → PrngReg), Pre_BQ m →
    θ_run (Cert.BQ.defs (F := Bits)) (onTc (τ := Cert.BQ.τ) (Cert.BQ.main (F := Bits))) ⟨m, fun _ => 0, g⟩ (fun r => (∀ c : Dev Cert.BQ.nD,
      r.2.mem ((c.tc : Thread Cert.BQ.nD Cert.BQ.τ).loc Cert.BQ.main_arg0) = m ((c.tc : Thread Cert.BQ.nD Cert.BQ.τ).loc Cert.BQ.main_arg0)
      ∧ r.2.mem ((c.tc : Thread Cert.BQ.nD Cert.BQ.τ).loc Cert.BQ.main_arg1) = m ((c.tc : Thread Cert.BQ.nD Cert.BQ.τ).loc Cert.BQ.main_arg1)
      ∧ r.2.mem ((c.tc : Thread Cert.BQ.nD Cert.BQ.τ).loc Cert.BQ.main_arg2) = m ((c.tc : Thread Cert.BQ.nD Cert.BQ.τ).loc Cert.BQ.main_arg2))
      ∧ r.2.sem = fun _ => 0)

def quiescent_BQIdeal [hBQIdeal : Cert.BQIdeal.Facts] : Prop :=
  ∀ (m : (ℓ : Loc Cert.BQIdeal.nD Cert.BQIdeal.τ Cert.BQIdeal.sig) → Buf (Elt Ideal) ℓ) (g : Dev Cert.BQIdeal.nD → PrngReg), Pre_BQIdeal m →
    θ_run (Cert.BQIdeal.defs (F := Ideal)) (onTc (τ := Cert.BQIdeal.τ) (Cert.BQIdeal.main (F := Ideal))) ⟨m, fun _ => 0, g⟩ (fun r => (∀ c : Dev Cert.BQIdeal.nD,
      r.2.mem ((c.tc : Thread Cert.BQIdeal.nD Cert.BQIdeal.τ).loc Cert.BQIdeal.main_arg0) = m ((c.tc : Thread Cert.BQIdeal.nD Cert.BQIdeal.τ).loc Cert.BQIdeal.main_arg0)
      ∧ r.2.mem ((c.tc : Thread Cert.BQIdeal.nD Cert.BQIdeal.τ).loc Cert.BQIdeal.main_arg1) = m ((c.tc : Thread Cert.BQIdeal.nD Cert.BQIdeal.τ).loc Cert.BQIdeal.main_arg1)
      ∧ r.2.mem ((c.tc : Thread Cert.BQIdeal.nD Cert.BQIdeal.τ).loc Cert.BQIdeal.main_arg2) = m ((c.tc : Thread Cert.BQIdeal.nD Cert.BQIdeal.τ).loc Cert.BQIdeal.main_arg2))
      ∧ r.2.sem = fun _ => 0)

def quiescent_BQRefIdeal [hBQRefIdeal : Cert.BQRefIdeal.Facts] : Prop :=
  ∀ (m : (ℓ : Loc Cert.BQRefIdeal.nD Cert.BQRefIdeal.τ Cert.BQRefIdeal.sig) → Buf (Elt Ideal) ℓ) (g : Dev Cert.BQRefIdeal.nD → PrngReg), Pre_BQRefIdeal m →
    θ_run (Cert.BQRefIdeal.defs (F := Ideal)) (onTc (τ := Cert.BQRefIdeal.τ) (Cert.BQRefIdeal.main (F := Ideal))) ⟨m, fun _ => 0, g⟩ (fun r => (∀ c : Dev Cert.BQRefIdeal.nD,
      r.2.mem ((c.tc : Thread Cert.BQRefIdeal.nD Cert.BQRefIdeal.τ).loc Cert.BQRefIdeal.main_arg0) = m ((c.tc : Thread Cert.BQRefIdeal.nD Cert.BQRefIdeal.τ).loc Cert.BQRefIdeal.main_arg0)
      ∧ r.2.mem ((c.tc : Thread Cert.BQRefIdeal.nD Cert.BQRefIdeal.τ).loc Cert.BQRefIdeal.main_arg1) = m ((c.tc : Thread Cert.BQRefIdeal.nD Cert.BQRefIdeal.τ).loc Cert.BQRefIdeal.main_arg1)
      ∧ r.2.mem ((c.tc : Thread Cert.BQRefIdeal.nD Cert.BQRefIdeal.τ).loc Cert.BQRefIdeal.main_arg2) = m ((c.tc : Thread Cert.BQRefIdeal.nD Cert.BQRefIdeal.τ).loc Cert.BQRefIdeal.main_arg2))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v1_0)) (v1 : (c : Dev Cert.DhIdeal.nD) → Buf (Elt Ideal) ((c.tc : Thread Cert.DhIdeal.nD Cert.DhIdeal.τ).loc Cert.DhIdeal.main_v1_2)) (v2 : (c : Dev Cert.DhIdeal.nD) → Buf (Elt Ideal) ((c.tc : Thread Cert.DhIdeal.nD Cert.DhIdeal.τ).loc Cert.DhIdeal.main_v1_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v1_0) = v0 c
          ∧ r.2.mem ((c.tc : Thread Cert.DhIdeal.nD Cert.DhIdeal.τ).loc Cert.DhIdeal.main_v1_2) = v1 c
          ∧ r.2.mem ((c.tc : Thread Cert.DhIdeal.nD Cert.DhIdeal.τ).loc Cert.DhIdeal.main_v1_1) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v42) = v0 c
          ∧ r.2.mem ((c.tc : Thread Cert.DhRefIdeal.nD Cert.DhRefIdeal.τ).loc Cert.DhRefIdeal.main_v43) = v1 c
          ∧ r.2.mem ((c.tc : Thread Cert.DhRefIdeal.nD Cert.DhRefIdeal.τ).loc Cert.DhRefIdeal.main_v44) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v18) = v0 c
          ∧ r.2.mem ((c.tc : Thread Cert.DownLossRefIdeal.nD Cert.DownLossRefIdeal.τ).loc Cert.DownLossRefIdeal.main_v19) = v1 c
          ∧ r.2.mem ((c.tc : Thread Cert.DownLossRefIdeal.nD Cert.DownLossRefIdeal.τ).loc Cert.DownLossRefIdeal.main_v20) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v9) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v5) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v48) = v0 c
          ∧ r.2.mem ((c.tc : Thread Cert.DxRefIdeal.nD Cert.DxRefIdeal.τ).loc Cert.DxRefIdeal.main_v49) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def preserves_Dhq_DhqIdeal : Prop :=
  True

def algebraic_DhqIdeal_DhqRefIdeal [hDhqIdeal : Cert.DhqIdeal.Facts] [hDhqRefIdeal : Cert.DhqRefIdeal.Facts] : Prop :=
  ∀ (m : (ℓ : Loc Cert.DhqIdeal.nD Cert.DhqIdeal.τ Cert.DhqIdeal.sig) → Buf (Elt Ideal) ℓ) (g : Dev Cert.DhqIdeal.nD → PrngReg)
    (m' : (ℓ : Loc Cert.DhqRefIdeal.nD Cert.DhqRefIdeal.τ Cert.DhqRefIdeal.sig) → Buf (Elt Ideal) ℓ) (g' : Dev Cert.DhqRefIdeal.nD → PrngReg), Pre_DhqIdeal m →
    (∀ c : Dev Cert.DhqIdeal.nD,
      m' ((c.tc : Thread Cert.DhqRefIdeal.nD Cert.DhqRefIdeal.τ).loc Cert.DhqRefIdeal.main_arg0) = m ((c.tc : Thread Cert.DhqIdeal.nD Cert.DhqIdeal.τ).loc Cert.DhqIdeal.main_arg0)
      ∧ m' ((c.tc : Thread Cert.DhqRefIdeal.nD Cert.DhqRefIdeal.τ).loc Cert.DhqRefIdeal.main_arg1) = m ((c.tc : Thread Cert.DhqIdeal.nD Cert.DhqIdeal.τ).loc Cert.DhqIdeal.main_arg1)
      ∧ m' ((c.tc : Thread Cert.DhqRefIdeal.nD Cert.DhqRefIdeal.τ).loc Cert.DhqRefIdeal.main_arg2) = m ((c.tc : Thread Cert.DhqIdeal.nD Cert.DhqIdeal.τ).loc Cert.DhqIdeal.main_arg2)
      ∧ m' ((c.tc : Thread Cert.DhqRefIdeal.nD Cert.DhqRefIdeal.τ).loc Cert.DhqRefIdeal.main_arg3) = m ((c.tc : Thread Cert.DhqIdeal.nD Cert.DhqIdeal.τ).loc Cert.DhqIdeal.main_arg3)
      ∧ m' ((c.tc : Thread Cert.DhqRefIdeal.nD Cert.DhqRefIdeal.τ).loc Cert.DhqRefIdeal.main_arg4) = m ((c.tc : Thread Cert.DhqIdeal.nD Cert.DhqIdeal.τ).loc Cert.DhqIdeal.main_arg4)) →
    ∃ (v0 : (c : Dev Cert.DhqIdeal.nD) → Buf (Elt Ideal) ((c.tc : Thread Cert.DhqIdeal.nD Cert.DhqIdeal.τ).loc Cert.DhqIdeal.main_v1_0)) (v1 : (c : Dev Cert.DhqIdeal.nD) → Buf (Elt Ideal) ((c.tc : Thread Cert.DhqIdeal.nD Cert.DhqIdeal.τ).loc Cert.DhqIdeal.main_v1_1)),
      θ_run (Cert.DhqIdeal.defs (F := Ideal)) (onTc (τ := Cert.DhqIdeal.τ) (Cert.DhqIdeal.main (F := Ideal))) ⟨m, fun _ => 0, g⟩ (fun r => ∀ c : Dev Cert.DhqIdeal.nD,
          r.2.mem ((c.tc : Thread Cert.DhqIdeal.nD Cert.DhqIdeal.τ).loc Cert.DhqIdeal.main_v1_0) = v0 c
          ∧ r.2.mem ((c.tc : Thread Cert.DhqIdeal.nD Cert.DhqIdeal.τ).loc Cert.DhqIdeal.main_v1_1) = v1 c
          ∧ r.2.mem ((c.tc : Thread Cert.DhqIdeal.nD Cert.DhqIdeal.τ).loc Cert.DhqIdeal.main_arg0) = m ((c.tc : Thread Cert.DhqIdeal.nD Cert.DhqIdeal.τ).loc Cert.DhqIdeal.main_arg0)
          ∧ r.2.mem ((c.tc : Thread Cert.DhqIdeal.nD Cert.DhqIdeal.τ).loc Cert.DhqIdeal.main_arg1) = m ((c.tc : Thread Cert.DhqIdeal.nD Cert.DhqIdeal.τ).loc Cert.DhqIdeal.main_arg1)
          ∧ r.2.mem ((c.tc : Thread Cert.DhqIdeal.nD Cert.DhqIdeal.τ).loc Cert.DhqIdeal.main_arg2) = m ((c.tc : Thread Cert.DhqIdeal.nD Cert.DhqIdeal.τ).loc Cert.DhqIdeal.main_arg2)
          ∧ r.2.mem ((c.tc : Thread Cert.DhqIdeal.nD Cert.DhqIdeal.τ).loc Cert.DhqIdeal.main_arg3) = m ((c.tc : Thread Cert.DhqIdeal.nD Cert.DhqIdeal.τ).loc Cert.DhqIdeal.main_arg3)
          ∧ r.2.mem ((c.tc : Thread Cert.DhqIdeal.nD Cert.DhqIdeal.τ).loc Cert.DhqIdeal.main_arg4) = m ((c.tc : Thread Cert.DhqIdeal.nD Cert.DhqIdeal.τ).loc Cert.DhqIdeal.main_arg4))
      ∧ θ_run (Cert.DhqRefIdeal.defs (F := Ideal)) (onTc (τ := Cert.DhqRefIdeal.τ) (Cert.DhqRefIdeal.main (F := Ideal))) ⟨m', fun _ => 0, g'⟩ (fun r => ∀ c : Dev Cert.DhqRefIdeal.nD,
          r.2.mem ((c.tc : Thread Cert.DhqRefIdeal.nD Cert.DhqRefIdeal.τ).loc Cert.DhqRefIdeal.main_v40) = v0 c
          ∧ r.2.mem ((c.tc : Thread Cert.DhqRefIdeal.nD Cert.DhqRefIdeal.τ).loc Cert.DhqRefIdeal.main_v41) = v1 c
          ∧ r.2.mem ((c.tc : Thread Cert.DhqRefIdeal.nD Cert.DhqRefIdeal.τ).loc Cert.DhqRefIdeal.main_arg0) = m' ((c.tc : Thread Cert.DhqRefIdeal.nD Cert.DhqRefIdeal.τ).loc Cert.DhqRefIdeal.main_arg0)
          ∧ r.2.mem ((c.tc : Thread Cert.DhqRefIdeal.nD Cert.DhqRefIdeal.τ).loc Cert.DhqRefIdeal.main_arg1) = m' ((c.tc : Thread Cert.DhqRefIdeal.nD Cert.DhqRefIdeal.τ).loc Cert.DhqRefIdeal.main_arg1)
          ∧ r.2.mem ((c.tc : Thread Cert.DhqRefIdeal.nD Cert.DhqRefIdeal.τ).loc Cert.DhqRefIdeal.main_arg2) = m' ((c.tc : Thread Cert.DhqRefIdeal.nD Cert.DhqRefIdeal.τ).loc Cert.DhqRefIdeal.main_arg2)
          ∧ r.2.mem ((c.tc : Thread Cert.DhqRefIdeal.nD Cert.DhqRefIdeal.τ).loc Cert.DhqRefIdeal.main_arg3) = m' ((c.tc : Thread Cert.DhqRefIdeal.nD Cert.DhqRefIdeal.τ).loc Cert.DhqRefIdeal.main_arg3)
          ∧ r.2.mem ((c.tc : Thread Cert.DhqRefIdeal.nD Cert.DhqRefIdeal.τ).loc Cert.DhqRefIdeal.main_arg4) = m' ((c.tc : Thread Cert.DhqRefIdeal.nD Cert.DhqRefIdeal.τ).loc Cert.DhqRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v19) = v0 c
          ∧ r.2.mem ((c.tc : Thread Cert.UpRefIdeal.nD Cert.UpRefIdeal.τ).loc Cert.UpRefIdeal.main_v20) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)) →
    ∃ (v0 : (c : Dev Cert.AInIdeal.nD) → Buf (Elt Ideal) ((c.tc : Thread Cert.AInIdeal.nD Cert.AInIdeal.τ).loc Cert.AInIdeal.main_v1_0)) (v1 : (c : Dev Cert.AInIdeal.nD) → Buf (Elt Ideal) ((c.tc : Thread Cert.AInIdeal.nD Cert.AInIdeal.τ).loc Cert.AInIdeal.main_v1_1)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v1_0) = v0 c
          ∧ r.2.mem ((c.tc : Thread Cert.AInIdeal.nD Cert.AInIdeal.τ).loc Cert.AInIdeal.main_v1_1) = v1 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v15) = v0 c
          ∧ r.2.mem ((c.tc : Thread Cert.AInRefIdeal.nD Cert.AInRefIdeal.τ).loc Cert.AInRefIdeal.main_v16) = v1 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2))

def preserves_BQ_BQIdeal : Prop :=
  True

def algebraic_BQIdeal_BQRefIdeal [hBQIdeal : Cert.BQIdeal.Facts] [hBQRefIdeal : Cert.BQRefIdeal.Facts] : Prop :=
  ∀ (m : (ℓ : Loc Cert.BQIdeal.nD Cert.BQIdeal.τ Cert.BQIdeal.sig) → Buf (Elt Ideal) ℓ) (g : Dev Cert.BQIdeal.nD → PrngReg)
    (m' : (ℓ : Loc Cert.BQRefIdeal.nD Cert.BQRefIdeal.τ Cert.BQRefIdeal.sig) → Buf (Elt Ideal) ℓ) (g' : Dev Cert.BQRefIdeal.nD → PrngReg), Pre_BQIdeal m →
    (∀ c : Dev Cert.BQIdeal.nD,
      m' ((c.tc : Thread Cert.BQRefIdeal.nD Cert.BQRefIdeal.τ).loc Cert.BQRefIdeal.main_arg0) = m ((c.tc : Thread Cert.BQIdeal.nD Cert.BQIdeal.τ).loc Cert.BQIdeal.main_arg0)
      ∧ m' ((c.tc : Thread Cert.BQRefIdeal.nD Cert.BQRefIdeal.τ).loc Cert.BQRefIdeal.main_arg1) = m ((c.tc : Thread Cert.BQIdeal.nD Cert.BQIdeal.τ).loc Cert.BQIdeal.main_arg1)
      ∧ m' ((c.tc : Thread Cert.BQRefIdeal.nD Cert.BQRefIdeal.τ).loc Cert.BQRefIdeal.main_arg2) = m ((c.tc : Thread Cert.BQIdeal.nD Cert.BQIdeal.τ).loc Cert.BQIdeal.main_arg2)) →
    ∃ (v0 : (c : Dev Cert.BQIdeal.nD) → Buf (Elt Ideal) ((c.tc : Thread Cert.BQIdeal.nD Cert.BQIdeal.τ).loc Cert.BQIdeal.main_v1_0)) (v1 : (c : Dev Cert.BQIdeal.nD) → Buf (Elt Ideal) ((c.tc : Thread Cert.BQIdeal.nD Cert.BQIdeal.τ).loc Cert.BQIdeal.main_v1_1)),
      θ_run (Cert.BQIdeal.defs (F := Ideal)) (onTc (τ := Cert.BQIdeal.τ) (Cert.BQIdeal.main (F := Ideal))) ⟨m, fun _ => 0, g⟩ (fun r => ∀ c : Dev Cert.BQIdeal.nD,
          r.2.mem ((c.tc : Thread Cert.BQIdeal.nD Cert.BQIdeal.τ).loc Cert.BQIdeal.main_v1_0) = v0 c
          ∧ r.2.mem ((c.tc : Thread Cert.BQIdeal.nD Cert.BQIdeal.τ).loc Cert.BQIdeal.main_v1_1) = v1 c
          ∧ r.2.mem ((c.tc : Thread Cert.BQIdeal.nD Cert.BQIdeal.τ).loc Cert.BQIdeal.main_arg0) = m ((c.tc : Thread Cert.BQIdeal.nD Cert.BQIdeal.τ).loc Cert.BQIdeal.main_arg0)
          ∧ r.2.mem ((c.tc : Thread Cert.BQIdeal.nD Cert.BQIdeal.τ).loc Cert.BQIdeal.main_arg1) = m ((c.tc : Thread Cert.BQIdeal.nD Cert.BQIdeal.τ).loc Cert.BQIdeal.main_arg1)
          ∧ r.2.mem ((c.tc : Thread Cert.BQIdeal.nD Cert.BQIdeal.τ).loc Cert.BQIdeal.main_arg2) = m ((c.tc : Thread Cert.BQIdeal.nD Cert.BQIdeal.τ).loc Cert.BQIdeal.main_arg2))
      ∧ θ_run (Cert.BQRefIdeal.defs (F := Ideal)) (onTc (τ := Cert.BQRefIdeal.τ) (Cert.BQRefIdeal.main (F := Ideal))) ⟨m', fun _ => 0, g'⟩ (fun r => ∀ c : Dev Cert.BQRefIdeal.nD,
          r.2.mem ((c.tc : Thread Cert.BQRefIdeal.nD Cert.BQRefIdeal.τ).loc Cert.BQRefIdeal.main_v14) = v0 c
          ∧ r.2.mem ((c.tc : Thread Cert.BQRefIdeal.nD Cert.BQRefIdeal.τ).loc Cert.BQRefIdeal.main_v15) = v1 c
          ∧ r.2.mem ((c.tc : Thread Cert.BQRefIdeal.nD Cert.BQRefIdeal.τ).loc Cert.BQRefIdeal.main_arg0) = m' ((c.tc : Thread Cert.BQRefIdeal.nD Cert.BQRefIdeal.τ).loc Cert.BQRefIdeal.main_arg0)
          ∧ r.2.mem ((c.tc : Thread Cert.BQRefIdeal.nD Cert.BQRefIdeal.τ).loc Cert.BQRefIdeal.main_arg1) = m' ((c.tc : Thread Cert.BQRefIdeal.nD Cert.BQRefIdeal.τ).loc Cert.BQRefIdeal.main_arg1)
          ∧ r.2.mem ((c.tc : Thread Cert.BQRefIdeal.nD Cert.BQRefIdeal.τ).loc Cert.BQRefIdeal.main_arg2) = m' ((c.tc : Thread Cert.BQRefIdeal.nD Cert.BQRefIdeal.τ).loc Cert.BQRefIdeal.main_arg2))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v7) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v5) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v1_0)) (v1 : (c : Dev Cert.KvIdeal.nD) → Buf (Elt Ideal) ((c.tc : Thread Cert.KvIdeal.nD Cert.KvIdeal.τ).loc Cert.KvIdeal.main_v1_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1_0) = v0 c
          ∧ r.2.mem ((c.tc : Thread Cert.KvIdeal.nD Cert.KvIdeal.τ).loc Cert.KvIdeal.main_v1_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_v15) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDh : Cert.Dh.Facts) (hDhIdeal : Cert.DhIdeal.Facts) (hDhRefIdeal : Cert.DhRefIdeal.Facts) (hDown : Cert.Down.Facts) (hDownIdeal : Cert.DownIdeal.Facts) (hDownRefIdeal : Cert.DownRefIdeal.Facts) (hDownLoss : Cert.DownLoss.Facts) (hDownLossIdeal : Cert.DownLossIdeal.Facts) (hDownLossRefIdeal : Cert.DownLossRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDOut : Cert.DOut.Facts) (hDOutIdeal : Cert.DOutIdeal.Facts) (hDOutRefIdeal : Cert.DOutRefIdeal.Facts) (hOutProj : Cert.OutProj.Facts) (hOutProjIdeal : Cert.OutProjIdeal.Facts) (hOutProjRefIdeal : Cert.OutProjRefIdeal.Facts) (hDx : Cert.Dx.Facts) (hDxIdeal : Cert.DxIdeal.Facts) (hDxRefIdeal : Cert.DxRefIdeal.Facts) (hDhq : Cert.Dhq.Facts) (hDhqIdeal : Cert.DhqIdeal.Facts) (hDhqRefIdeal : Cert.DhqRefIdeal.Facts) (hUp : Cert.Up.Facts) (hUpIdeal : Cert.UpIdeal.Facts) (hUpRefIdeal : Cert.UpRefIdeal.Facts) (hAIn : Cert.AIn.Facts) (hAInIdeal : Cert.AInIdeal.Facts) (hAInRefIdeal : Cert.AInRefIdeal.Facts) (hBQ : Cert.BQ.Facts) (hBQIdeal : Cert.BQIdeal.Facts) (hBQRefIdeal : Cert.BQRefIdeal.Facts) (hDwGate : Cert.DwGate.Facts) (hDwGateIdeal : Cert.DwGateIdeal.Facts) (hDwGateRefIdeal : Cert.DwGateRefIdeal.Facts) (hDwKv : Cert.DwKv.Facts) (hDwKvIdeal : Cert.DwKvIdeal.Facts) (hDwKvRefIdeal : Cert.DwKvRefIdeal.Facts) (hKv : Cert.Kv.Facts) (hKvIdeal : Cert.KvIdeal.Facts) (hKvRefIdeal : Cert.KvRefIdeal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dh (hDh := hDh)
    ∧ quiescent_DhIdeal (hDhIdeal := hDhIdeal)
    ∧ quiescent_DhRefIdeal (hDhRefIdeal := hDhRefIdeal)
    ∧ quiescent_Down (hDown := hDown)
    ∧ quiescent_DownIdeal (hDownIdeal := hDownIdeal)
    ∧ quiescent_DownRefIdeal (hDownRefIdeal := hDownRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DOut (hDOut := hDOut)
    ∧ quiescent_DOutIdeal (hDOutIdeal := hDOutIdeal)
    ∧ quiescent_DOutRefIdeal (hDOutRefIdeal := hDOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Dx (hDx := hDx)
    ∧ quiescent_DxIdeal (hDxIdeal := hDxIdeal)
    ∧ quiescent_DxRefIdeal (hDxRefIdeal := hDxRefIdeal)
    ∧ quiescent_Dhq (hDhq := hDhq)
    ∧ quiescent_DhqIdeal (hDhqIdeal := hDhqIdeal)
    ∧ quiescent_DhqRefIdeal (hDhqRefIdeal := hDhqRefIdeal)
    ∧ quiescent_Up (hUp := hUp)
    ∧ quiescent_UpIdeal (hUpIdeal := hUpIdeal)
    ∧ quiescent_UpRefIdeal (hUpRefIdeal := hUpRefIdeal)
    ∧ quiescent_AIn (hAIn := hAIn)
    ∧ quiescent_AInIdeal (hAInIdeal := hAInIdeal)
    ∧ quiescent_AInRefIdeal (hAInRefIdeal := hAInRefIdeal)
    ∧ quiescent_BQ (hBQ := hBQ)
    ∧ quiescent_BQIdeal (hBQIdeal := hBQIdeal)
    ∧ quiescent_BQRefIdeal (hBQRefIdeal := hBQRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_Kv (hKv := hKv)
    ∧ quiescent_KvIdeal (hKvIdeal := hKvIdeal)
    ∧ quiescent_KvRefIdeal (hKvRefIdeal := hKvRefIdeal)
    ∧ preserves_Kernel_KernelIdeal
    ∧ algebraic_KernelIdeal_ReferenceIdeal_pre_real_inputs (hKernelIdeal := hKernelIdeal) (hReferenceIdeal := hReferenceIdeal) (hPre_real_inputs := hPre_real_inputs)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dh_DhIdeal
    ∧ algebraic_DhIdeal_DhRefIdeal (hDhIdeal := hDhIdeal) (hDhRefIdeal := hDhRefIdeal)
    ∧ preserves_Down_DownIdeal
    ∧ algebraic_DownIdeal_DownRefIdeal (hDownIdeal := hDownIdeal) (hDownRefIdeal := hDownRefIdeal)
    ∧ preserves_DownLoss_DownLossIdeal
    ∧ algebraic_DownLossIdeal_DownLossRefIdeal (hDownLossIdeal := hDownLossIdeal) (hDownLossRefIdeal := hDownLossRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DOut_DOutIdeal
    ∧ algebraic_DOutIdeal_DOutRefIdeal (hDOutIdeal := hDOutIdeal) (hDOutRefIdeal := hDOutRefIdeal)
    ∧ preserves_OutProj_OutProjIdeal
    ∧ algebraic_OutProjIdeal_OutProjRefIdeal (hOutProjIdeal := hOutProjIdeal) (hOutProjRefIdeal := hOutProjRefIdeal)
    ∧ preserves_Dx_DxIdeal
    ∧ algebraic_DxIdeal_DxRefIdeal (hDxIdeal := hDxIdeal) (hDxRefIdeal := hDxRefIdeal)
    ∧ preserves_Dhq_DhqIdeal
    ∧ algebraic_DhqIdeal_DhqRefIdeal (hDhqIdeal := hDhqIdeal) (hDhqRefIdeal := hDhqRefIdeal)
    ∧ preserves_Up_UpIdeal
    ∧ algebraic_UpIdeal_UpRefIdeal (hUpIdeal := hUpIdeal) (hUpRefIdeal := hUpRefIdeal)
    ∧ preserves_AIn_AInIdeal
    ∧ algebraic_AInIdeal_AInRefIdeal (hAInIdeal := hAInIdeal) (hAInRefIdeal := hAInRefIdeal)
    ∧ preserves_BQ_BQIdeal
    ∧ algebraic_BQIdeal_BQRefIdeal (hBQIdeal := hBQIdeal) (hBQRefIdeal := hBQRefIdeal)
    ∧ preserves_DwGate_DwGateIdeal
    ∧ algebraic_DwGateIdeal_DwGateRefIdeal (hDwGateIdeal := hDwGateIdeal) (hDwGateRefIdeal := hDwGateRefIdeal)
    ∧ preserves_DwKv_DwKvIdeal
    ∧ algebraic_DwKvIdeal_DwKvRefIdeal (hDwKvIdeal := hDwKvIdeal) (hDwKvRefIdeal := hDwKvRefIdeal)
    ∧ preserves_Kv_KvIdeal
    ∧ algebraic_KvIdeal_KvRefIdeal (hKvIdeal := hKvIdeal) (hKvRefIdeal := hKvRefIdeal)
-- ==== Pre_real_inputs.lean ====
abbrev S2048x3200 : Shape := ⟨2, ![2048, 3200]⟩
abbrev S2048x128 : Shape := ⟨2, ![2048, 128]⟩
abbrev S1x64 : Shape := ⟨2, ![1, 64]⟩
abbrev S2048x1024 : Shape := ⟨2, ![2048, 1024]⟩
abbrev S2048x3072 : Shape := ⟨2, ![2048, 3072]⟩
abbrev S_ : Shape := ⟨0, ![]⟩
abbrev S2048x16 : Shape := ⟨2, ![2048, 16]⟩

class Facts : Prop where
  slices_S2048x3200_S2048x3072_0_0 : S2048x3200.Slices ![0, 0] S2048x3072
  bcast_S_S2048x3072 : S_.BroadcastsInDim S2048x3072 (![] : Fin 0 → Fin S2048x3072.rank)
  slices_S2048x128_S2048x16_0_0 : S2048x128.Slices ![0, 0] S2048x16
  bcast_S_S2048x16 : S_.BroadcastsInDim S2048x16 (![] : Fin 0 → Fin S2048x16.rank)
  bcast_S_S1x64 : S_.BroadcastsInDim S1x64 (![] : Fin 0 → Fin S1x64.rank)
  bcast_S_S2048x1024 : S_.BroadcastsInDim S2048x1024 (![] : Fin 0 → Fin S2048x1024.rank)

variable [Facts]

def fn {F : FTy → Type} [FloatOps F] (main_arg0 : FVec F S2048x3200 .f32) (main_arg1 : FVec F S2048x128 .f32) (main_arg2 : FVec F S1x64 .f32) (main_arg3 : FVec F S1x64 .f32) (main_arg4 : FVec F S2048x1024 .bf16) : IVec S2048x3072 1 × IVec S2048x16 1 × IVec S1x64 1 × IVec S1x64 1 × IVec S2048x1024 1 :=
  let main_v0 : FVec F S2048x3072 .f32 := (extractStridedSlice S2048x3072 ![0, 0] · slices_S2048x3200_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S2048x16 .f32 := (extractStridedSlice S2048x16 ![0, 0] · slices_S2048x128_S2048x16_0_0) main_arg1
  let main_v5 : FVec F S2048x16 .f32 := Host.absf main_v4
  let main_cst_0 : FVec F S_ .f32 := constant S_ .f32 0x7F800000#32
  let main_v6 : FVec F S2048x16 .f32 := broadcastInDim S2048x16 ![] bcast_S_S2048x16 main_cst_0
  let main_v7 : IVec S2048x16 1 := cmpf .olt main_v5 main_v6
  let main_v8 : FVec F S1x64 .f32 := Host.absf main_arg2
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : FVec F S2048x1024 .bf16 := Host.absf main_arg4
  let main_cst_3 : FVec F S_ .bf16 := constant S_ .bf16 0x7F80#16
  let main_v15 : FVec F S2048x1024 .bf16 := broadcastInDim S2048x1024 ![] bcast_S_S2048x1024 main_cst_3
  let main_v16 : IVec S2048x1024 1 := cmpf .olt main_v14 main_v15
  (main_v3, main_v7, main_v10, main_v13, main_v16)
-- ==== Kernel.lean ====
abbrev S2048x3200 : Shape := ⟨2, ![2048, 3200]⟩
abbrev S2048x128 : Shape := ⟨2, ![2048, 128]⟩
abbrev S1x64 : Shape := ⟨2, ![1, 64]⟩
abbrev S2048x1024 : Shape := ⟨2, ![2048, 1024]⟩
abbrev S2048x16x64 : Shape := ⟨3, ![2048, 16, 64]⟩
abbrev S2048x16 : Shape := ⟨2, ![2048, 16]⟩
abbrev S16x2048 : Shape := ⟨2, ![16, 2048]⟩
abbrev S64 : Shape := ⟨1, ![64]⟩
abbrev S_ : Shape := ⟨0, ![]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S8x2x2048 : Shape := ⟨3, ![8, 2, 2048]⟩
abbrev S8x8x2048 : Shape := ⟨3, ![8, 8, 2048]⟩
abbrev S3x2048x1024 : Shape := ⟨3, ![3, 2048, 1024]⟩
abbrev S1x2x2048 : Shape := ⟨3, ![1, 2, 2048]⟩
abbrev S1x8x2048 : Shape := ⟨3, ![1, 8, 2048]⟩
abbrev S3x2048x128 : Shape := ⟨3, ![3, 2048, 128]⟩
abbrev S2048x64 : Shape := ⟨2, ![2048, 64]⟩
abbrev S2048 : Shape := ⟨1, ![2048]⟩
abbrev S2048x1 : Shape := ⟨2, ![2048, 1]⟩
abbrev S64x2048 : Shape := ⟨2, ![64, 2048]⟩
abbrev S1x1x2048 : Shape := ⟨3, ![1, 1, 2048]⟩
abbrev S1x2048 : Shape := ⟨2, ![1, 2048]⟩
abbrev S256x64 : Shape := ⟨2, ![256, 64]⟩
abbrev S1x256 : Shape := ⟨2, ![1, 256]⟩
abbrev S256x256 : Shape := ⟨2, ![256, 256]⟩
abbrev S256x1 : Shape := ⟨2, ![256, 1]⟩
abbrev S256 : Shape := ⟨1, ![256]⟩
abbrev S64x256 : Shape := ⟨2, ![64, 256]⟩
abbrev S256x128 : Shape := ⟨2, ![256, 128]⟩
abbrev S512x64 : Shape := ⟨2, ![512, 64]⟩
abbrev S512x256 : Shape := ⟨2, ![512, 256]⟩
abbrev S512x1 : Shape := ⟨2, ![512, 1]⟩
abbrev S64x512 : Shape := ⟨2, ![64, 512]⟩
abbrev S512x128 : Shape := ⟨2, ![512, 128]⟩
abbrev S768x64 : Shape := ⟨2, ![768, 64]⟩
abbrev S768x256 : Shape := ⟨2, ![768, 256]⟩
abbrev S768x1 : Shape := ⟨2, ![768, 1]⟩
abbrev S64x768 : Shape := ⟨2, ![64, 768]⟩
abbrev S768x128 : Shape := ⟨2, ![768, 128]⟩
abbrev S1024x64 : Shape := ⟨2, ![1024, 64]⟩
abbrev S1024x256 : Shape := ⟨2, ![1024, 256]⟩
abbrev S1024x1 : Shape := ⟨2, ![1024, 1]⟩
abbrev S64x1024 : Shape := ⟨2, ![64, 1024]⟩
abbrev S1024x128 : Shape := ⟨2, ![1024, 128]⟩
abbrev S1280x64 : Shape := ⟨2, ![1280, 64]⟩
abbrev S1280x256 : Shape := ⟨2, ![1280, 256]⟩
abbrev S1280x1 : Shape := ⟨2, ![1280, 1]⟩
abbrev S64x1280 : Shape := ⟨2, ![64, 1280]⟩
abbrev S1280x128 : Shape := ⟨2, ![1280, 128]⟩
abbrev S1536x64 : Shape := ⟨2, ![1536, 64]⟩
abbrev S1536x256 : Shape := ⟨2, ![1536, 256]⟩
abbrev S1536x1 : Shape := ⟨2, ![1536, 1]⟩
abbrev S64x1536 : Shape := ⟨2, ![64, 1536]⟩
abbrev S1536x128 : Shape := ⟨2, ![1536, 128]⟩
abbrev S1792x64 : Shape := ⟨2, ![1792, 64]⟩
abbrev S1792x256 : Shape := ⟨2, ![1792, 256]⟩
abbrev S1792x1 : Shape := ⟨2, ![1792, 1]⟩
abbrev S64x1792 : Shape := ⟨2, ![64, 1792]⟩
abbrev S1792x128 : Shape := ⟨2, ![1792, 128]⟩
abbrev S2048x256 : Shape := ⟨2, ![2048, 256]⟩
abbrev S1x2048x128 : Shape := ⟨3, ![1, 2048, 128]⟩

abbrev nBuf : Space → Nat
  | .hbm => 85
  | .vmem => 23
  | .smem => 0
  | _ => 0

abbrev bufTy : (tb : Table) → Fin (tcTables nBuf tb) → BufTy
  | .hbm, ⟨0, _⟩ => ⟨S2048x3200, .f32⟩
  | .hbm, ⟨1, _⟩ => ⟨S2048x128, .f32⟩
  | .hbm, ⟨2, _⟩ => ⟨S1x64, .f32⟩
  | .hbm, ⟨3, _⟩ => ⟨S1x64, .f32⟩
  | .hbm, ⟨4, _⟩ => ⟨S2048x1024, .bf16⟩
  | .hbm, ⟨5, _⟩ => ⟨S2048x1024, .f32⟩
  | .hbm, ⟨6, _⟩ => ⟨S2048x16x64, .f32⟩
  | .hbm, ⟨7, _⟩ => ⟨S2048x1024, .f32⟩
  | .hbm, ⟨8, _⟩ => ⟨S2048x16x64, .f32⟩
  | .hbm, ⟨9, _⟩ => ⟨S2048x1024, .f32⟩
  | .hbm, ⟨10, _⟩ => ⟨S2048x16x64, .f32⟩
  | .hbm, ⟨11, _⟩ => ⟨S2048x16, .f32⟩
  | .hbm, ⟨12, _⟩ => ⟨S16x2048, .f32⟩
  | .hbm, ⟨13, _⟩ => ⟨S64, .f32⟩
  | .hbm, ⟨14, _⟩ => ⟨S64, .f32⟩
  | .hbm, ⟨15, _⟩ => ⟨S2048x16x64, .f32⟩
  | .hbm, ⟨16, _⟩ => ⟨S_, .f32⟩
  | .hbm, ⟨17, _⟩ => ⟨S2048x16, .f32⟩
  | .hbm, ⟨18, _⟩ => ⟨S2048x16x1, .f32⟩
  | .hbm, ⟨19, _⟩ => ⟨S_, .f32⟩
  | .hbm, ⟨20, _⟩ => ⟨S2048x16x1, .f32⟩
  | .hbm, ⟨21, _⟩ => ⟨S2048x16x1, .f32⟩
  | .hbm, ⟨22, _⟩ => ⟨S_, .f32⟩
  | .hbm, ⟨23, _⟩ => ⟨S2048x16x1, .f32⟩
  | .hbm, ⟨24, _⟩ => ⟨S2048x16x1, .f32⟩
  | .hbm, ⟨25, _⟩ => ⟨S2048x16x1, .f32⟩
  | .hbm, ⟨26, _⟩ => ⟨S2048x16x64, .f32⟩
  | .hbm, ⟨27, _⟩ => ⟨S2048x16x64, .f32⟩
  | .hbm, ⟨28, _⟩ => ⟨S1x1x64, .f32⟩
  | .hbm, ⟨29, _⟩ => ⟨S2048x16x64, .f32⟩
  | .hbm, ⟨30, _⟩ => ⟨S2048x16x64, .f32⟩
  | .hbm, ⟨31, _⟩ => ⟨S2048x16x64, .f32⟩
  | .hbm, ⟨32, _⟩ => ⟨S_, .f32⟩
  | .hbm, ⟨33, _⟩ => ⟨S2048x16, .f32⟩
  | .hbm, ⟨34, _⟩ => ⟨S2048x16x1, .f32⟩
  | .hbm, ⟨35, _⟩ => ⟨S_, .f32⟩
  | .hbm, ⟨36, _⟩ => ⟨S2048x16x1, .f32⟩
  | .hbm, ⟨37, _⟩ => ⟨S2048x16x1, .f32⟩
  | .hbm, ⟨38, _⟩ => ⟨S_, .f32⟩
  | .hbm, ⟨39, _⟩ => ⟨S2048x16x1, .f32⟩
  | .hbm, ⟨40, _⟩ => ⟨S2048x16x1, .f32⟩
  | .hbm, ⟨41, _⟩ => ⟨S2048x16x1, .f32⟩
  | .hbm, ⟨42, _⟩ => ⟨S2048x16x64, .f32⟩
  | .hbm, ⟨43, _⟩ => ⟨S2048x16x64, .f32⟩
  | .hbm, ⟨44, _⟩ => ⟨S1x1x64, .f32⟩
  | .hbm, ⟨45, _⟩ => ⟨S2048x16x64, .f32⟩
  | .hbm, ⟨46, _⟩ => ⟨S2048x16x64, .f32⟩
  | .hbm, ⟨47, _⟩ => ⟨S16x2048x2048, .f32⟩
  | .hbm, ⟨48, _⟩ => ⟨S_, .f32⟩
  | .hbm, ⟨49, _⟩ => ⟨S16x2048x2048, .f32⟩
  | .hbm, ⟨50, _⟩ => ⟨S16x2048x2048, .f32⟩
  | .hbm, ⟨51, _⟩ => ⟨S16x2048x1, .f32⟩
  | .hbm, ⟨52, _⟩ => ⟨S16x2048x2048, .f32⟩
  | .hbm, ⟨53, _⟩ => ⟨S16x2048x2048, .f32⟩
  | .hbm, ⟨54, _⟩ => ⟨S16x1x2048, .f32⟩
  | .hbm, ⟨55, _⟩ => ⟨S16x2048x2048, .f32⟩
  | .hbm, ⟨56, _⟩ => ⟨S16x2048x2048, .f32⟩
  | .hbm, ⟨57, _⟩ => ⟨S16x2048x2048, .i32⟩
  | .hbm, ⟨58, _⟩ => ⟨S16x2048x2048, .i32⟩
  | .hbm, ⟨59, _⟩ => ⟨S16x2048x2048, .i1⟩
  | .hbm, ⟨60, _⟩ => ⟨S_, .f32⟩
  | .hbm, ⟨61, _⟩ => ⟨S_, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x2048, .f32⟩
  | .hbm, ⟨70, _⟩ => ⟨S_, .f32⟩
  | .hbm, ⟨71, _⟩ => ⟨S16x2048, .f32⟩
  | .hbm, ⟨72, _⟩ => ⟨S16x2048, .f32⟩
  | .hbm, ⟨73, _⟩ => ⟨S16x2048, .f32⟩
  | .hbm, ⟨74, _⟩ => ⟨S8x2x2048, .f32⟩
  | .hbm, ⟨75, _⟩ => ⟨S_, .i32⟩
  | .hbm, ⟨76, _⟩ => ⟨S_, .f32⟩
  | .hbm, ⟨77, _⟩ => ⟨S8x8x2048, .f32⟩
  | .hbm, ⟨78, _⟩ => ⟨S2048x16, .f32⟩
  | .hbm, ⟨79, _⟩ => ⟨S16x2048, .f32⟩
  | .hbm, ⟨80, _⟩ => ⟨S8x2x2048, .f32⟩
  | .hbm, ⟨81, _⟩ => ⟨S3x2048x1024, .bf16⟩
  | .hbm, ⟨82, _⟩ => ⟨S2048x128, .f32⟩
  | .hbm, ⟨83, _⟩ => ⟨S1x64, .f32⟩
  | .hbm, ⟨84, _⟩ => ⟨S1x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2x2048, .f32⟩
  | .local _ .vmem, ⟨8, _⟩ => ⟨S1x2x2048, .f32⟩
  | .local _ .vmem, ⟨9, _⟩ => ⟨S1x64, .f32⟩
  | .local _ .vmem, ⟨10, _⟩ => ⟨S1x64, .f32⟩
  | .local _ .vmem, ⟨11, _⟩ => ⟨S1x8x2048, .f32⟩
  | .local _ .vmem, ⟨12, _⟩ => ⟨S1x8x2048, .f32⟩
  | .local _ .vmem, ⟨13, _⟩ => ⟨S2048x128, .bf16⟩
  | .local _ .vmem, ⟨14, _⟩ => ⟨S2048x128, .bf16⟩
  | .local _ .vmem, ⟨15, _⟩ => ⟨S3x2048x128, .bf16⟩
  | .local _ .vmem, ⟨16, _⟩ => ⟨S3x2048x128, .bf16⟩
  | .local _ .vmem, ⟨17, _⟩ => ⟨S2048x128, .f32⟩
  | .local _ .vmem, ⟨18, _⟩ => ⟨S1x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S2048x128, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_call1_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev main_v62_2 : Ref sig .tc := ⟨.hbm, 83, rfl⟩
abbrev main_v62_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x3200 : Shape := ⟨2, ![2048, 3200]⟩
abbrev S2048x128 : Shape := ⟨2, ![2048, 128]⟩
abbrev S1x64 : Shape := ⟨2, ![1, 64]⟩
abbrev S2048x1024 : Shape := ⟨2, ![2048, 1024]⟩
abbrev S2048x16x64 : Shape := ⟨3, ![2048, 16, 64]⟩
abbrev S2048x16 : Shape := ⟨2, ![2048, 16]⟩
abbrev S16x2048 : Shape := ⟨2, ![16, 2048]⟩
abbrev S64 : Shape := ⟨1, ![64]⟩
abbrev S_ : Shape := ⟨0, ![]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S16x64x2048 : Shape := ⟨3, ![16, 64, 2048]⟩
abbrev S16x2048x64 : Shape := ⟨3, ![16, 2048, 64]⟩
abbrev S1x2048x1024 : Shape := ⟨3, ![1, 2048, 1024]⟩
abbrev S3x2048x1024 : Shape := ⟨3, ![3, 2048, 1024]⟩

abbrev nBuf : Space → Nat
  | .hbm => 220
  | .vmem => 0
  | .smem => 0
  | _ => 0

abbrev hbmTy0_0 (i : Nat) : BufTy := match i % 128 with
  | 0 => ⟨S2048x3200, .f32⟩
  | 1 => ⟨S2048x128, .f32⟩
  | 2 => ⟨S1x64, .f32⟩
  | 3 => ⟨S1x64, .f32⟩
  | 4 => ⟨S2048x1024, .bf16⟩
  | 5 => ⟨S2048x1024, .f32⟩
  | 6 => ⟨S2048x16x64, .f32⟩
  | 7 => ⟨S2048x1024, .f32⟩
  | 8 => ⟨S2048x16x64, .f32⟩
  | 9 => ⟨S2048x1024, .f32⟩
  | 10 => ⟨S2048x16x64, .f32⟩
  | 11 => ⟨S2048x1024, .f32⟩
  | 12 => ⟨S2048x16x64, .f32⟩
  | 13 => ⟨S2048x16, .f32⟩
  | 14 => ⟨S16x2048, .f32⟩
  | 15 => ⟨S64, .f32⟩
  | 16 => ⟨S64, .f32⟩
  | 17 => ⟨S2048x16x64, .f32⟩
  | 18 => ⟨S_, .f32⟩
  | 19 => ⟨S2048x16, .f32⟩
  | 20 => ⟨S2048x16x1, .f32⟩
  | 21 => ⟨S_, .f32⟩
  | 22 => ⟨S2048x16x1, .f32⟩
  | 23 => ⟨S2048x16x1, .f32⟩
  | 24 => ⟨S_, .f32⟩
  | 25 => ⟨S2048x16x1, .f32⟩
  | 26 => ⟨S2048x16x1, .f32⟩
  | 27 => ⟨S2048x16x1, .f32⟩
  | 28 => ⟨S2048x16x1, .f32⟩
  | 29 => ⟨S_, .f32⟩
  | 30 => ⟨S2048x16x1, .f32⟩
  | 31 => ⟨S2048x16x1, .f32⟩
  | 32 => ⟨S2048x16x64, .f32⟩
  | 33 => ⟨S2048x16x64, .f32⟩
  | 34 => ⟨S1x1x64, .f32⟩
  | 35 => ⟨S2048x16x64, .f32⟩
  | 36 => ⟨S2048x16x64, .f32⟩
  | 37 => ⟨S2048x16x64, .f32⟩
  | 38 => ⟨S_, .f32⟩
  | 39 => ⟨S2048x16, .f32⟩
  | 40 => ⟨S2048x16x1, .f32⟩
  | 41 => ⟨S_, .f32⟩
  | 42 => ⟨S2048x16x1, .f32⟩
  | 43 => ⟨S2048x16x1, .f32⟩
  | 44 => ⟨S_, .f32⟩
  | 45 => ⟨S2048x16x1, .f32⟩
  | 46 => ⟨S2048x16x1, .f32⟩
  | 47 => ⟨S2048x16x1, .f32⟩
  | 48 => ⟨S2048x16x1, .f32⟩
  | 49 => ⟨S_, .f32⟩
  | 50 => ⟨S2048x16x1, .f32⟩
  | 51 => ⟨S2048x16x1, .f32⟩
  | 52 => ⟨S2048x16x64, .f32⟩
  | 53 => ⟨S2048x16x64, .f32⟩
  | 54 => ⟨S1x1x64, .f32⟩
  | 55 => ⟨S2048x16x64, .f32⟩
  | 56 => ⟨S2048x16x64, .f32⟩
  | 57 => ⟨S16x2048x2048, .f32⟩
  | 58 => ⟨S_, .f32⟩
  | 59 => ⟨S16x2048x2048, .f32⟩
  | 60 => ⟨S16x2048x2048, .f32⟩
  | 61 => ⟨S16x2048x1, .f32⟩
  | 62 => ⟨S16x2048x2048, .f32⟩
  | 63 => ⟨S16x2048x2048, .f32⟩
  | 64 => ⟨S16x1x2048, .f32⟩
  | 65 => ⟨S16x2048x2048, .f32⟩
  | 66 => ⟨S16x2048x2048, .f32⟩
  | 67 => ⟨S16x2048x2048, .i32⟩
  | 68 => ⟨S16x2048x2048, .i32⟩
  | 69 => ⟨S16x2048x2048, .i1⟩
  | 70 => ⟨S_, .f32⟩
  | 71 => ⟨S_, .f32⟩
  | 72 => ⟨S16x2048x2048, .f32⟩
  | 73 => ⟨S16x2048x2048, .f32⟩
  | 74 => ⟨S_, .f32⟩
  | 75 => ⟨S16x2048x2048, .f32⟩
  | 76 => ⟨S_, .f32⟩
  | 77 => ⟨S16x2048, .f32⟩
  | 78 => ⟨S16x2048x1, .f32⟩
  | 79 => ⟨S16x2048x2048, .f32⟩
  | 80 => ⟨S16x2048x2048, .i1⟩
  | 81 => ⟨S16x2048x2048, .f32⟩
  | 82 => ⟨S_, .f32⟩
  | 83 => ⟨S16x2048, .f32⟩
  | 84 => ⟨S_, .f32⟩
  | 85 => ⟨S16x2048, .f32⟩
  | 86 => ⟨S16x2048, .f32⟩
  | 87 => ⟨S_, .f32⟩
  | 88 => ⟨S16x2048, .f32⟩
  | 89 => ⟨S16x2048, .i1⟩
  | 90 => ⟨S_, .f32⟩
  | 91 => ⟨S16x2048, .f32⟩
  | 92 => ⟨S16x2048, .i1⟩
  | 93 => ⟨S_, .f32⟩
  | 94 => ⟨S16x2048, .f32⟩
  | 95 => ⟨S_, .f32⟩
  | 96 => ⟨S16x2048, .f32⟩
  | 97 => ⟨S_, .f32⟩
  | 98 => ⟨S16x2048, .f32⟩
  | 99 => ⟨S16x2048, .f32⟩
  | 100 => ⟨S16x2048, .f32⟩
  | 101 => ⟨S16x2048x1, .f32⟩
  | 102 => ⟨S16x2048x2048, .f32⟩
  | 103 => ⟨S16x2048x2048, .f32⟩
  | 104 => ⟨S16x2048x2048, .f32⟩
  | 105 => ⟨S_, .f32⟩
  | 106 => ⟨S16x2048, .f32⟩
  | 107 => ⟨S16x2048x1, .f32⟩
  | 108 => ⟨S16x2048x2048, .f32⟩
  | 109 => ⟨S16x2048x2048, .f32⟩
  | 110 => ⟨S16x2048x1, .f32⟩
  | 111 => ⟨S_, .f32⟩
  | 112 => ⟨S16x2048x1, .f32⟩
  | 113 => ⟨S16x2048x1, .f32⟩
  | 114 => ⟨S16x64x2048, .f32⟩
  | 115 => ⟨S2048x16x64, .f32⟩
  | 116 => ⟨S16x64x2048, .f32⟩
  | 117 => ⟨S16x2048x2048, .f32⟩
  | 118 => ⟨S16x64x2048, .f32⟩
  | 119 => ⟨S2048x16x64, .f32⟩
  | 120 => ⟨S16x2048x2048, .f32⟩
  | 121 => ⟨S16x2048x2048, .f32⟩
  | 122 => ⟨S16x2048x2048, .f32⟩
  | 123 => ⟨S_, .f32⟩
  | 124 => ⟨S16x2048, .f32⟩
  | 125 => ⟨S16x2048x1, .f32⟩
  | 126 => ⟨S16x2048x1, .f32⟩
  | 127 => ⟨S16x2048x2048, .f32⟩
  | _ => ⟨S2048x3200, .f32⟩

abbrev hbmTy0_1 (i : Nat) : BufTy := match i % 128 with
  | 0 => ⟨S16x2048x2048, .f32⟩
  | 1 => ⟨S_, .f32⟩
  | 2 => ⟨S16x2048, .f32⟩
  | 3 => ⟨S16x2048x2048, .f32⟩
  | 4 => ⟨S16x2048x2048, .f32⟩
  | 5 => ⟨S16x2048x2048, .f32⟩
  | 6 => ⟨S_, .f32⟩
  | 7 => ⟨S16x2048x2048, .f32⟩
  | 8 => ⟨S16x2048x2048, .f32⟩
  | 9 => ⟨S16x2048x2048, .f32⟩
  | 10 => ⟨S_, .f32⟩
  | 11 => ⟨S16x2048, .f32⟩
  | 12 => ⟨S16x1x2048, .f32⟩
  | 13 => ⟨S_, .f32⟩
  | 14 => ⟨S16x2048, .f32⟩
  | 15 => ⟨S_, .f32⟩
  | 16 => ⟨S16x2048, .f32⟩
  | 17 => ⟨S16x2048x1, .f32⟩
  | 18 => ⟨S_, .f32⟩
  | 19 => ⟨S16x2048, .f32⟩
  | 20 => ⟨S16x2048, .f32⟩
  | 21 => ⟨S_, .f32⟩
  | 22 => ⟨S16x2048x2048, .f32⟩
  | 23 => ⟨S16x2048x2048, .f32⟩
  | 24 => ⟨S16x2048x64, .f32⟩
  | 25 => ⟨S2048x16x64, .f32⟩
  | 26 => ⟨S16x2048x64, .f32⟩
  | 27 => ⟨S2048x16x64, .f32⟩
  | 28 => ⟨S2048x16x64, .f32⟩
  | 29 => ⟨S_, .f32⟩
  | 30 => ⟨S64, .f32⟩
  | 31 => ⟨S1x1x64, .f32⟩
  | 32 => ⟨S2048x16x64, .f32⟩
  | 33 => ⟨S2048x16x64, .f32⟩
  | 34 => ⟨S_, .f32⟩
  | 35 => ⟨S64, .f32⟩
  | 36 => ⟨S2048x16x64, .f32⟩
  | 37 => ⟨S_, .f32⟩
  | 38 => ⟨S2048x16, .f32⟩
  | 39 => ⟨S2048x16x1, .f32⟩
  | 40 => ⟨S2048x16x64, .f32⟩
  | 41 => ⟨S2048x16x64, .f32⟩
  | 42 => ⟨S2048x16x1, .f32⟩
  | 43 => ⟨S_, .f32⟩
  | 44 => ⟨S2048x16x1, .f32⟩
  | 45 => ⟨S2048x16x1, .f32⟩
  | 46 => ⟨S_, .f32⟩
  | 47 => ⟨S2048x16, .f32⟩
  | 48 => ⟨S2048x16x64, .f32⟩
  | 49 => ⟨S2048x16x64, .f32⟩
  | 50 => ⟨S2048x16x64, .f32⟩
  | 51 => ⟨S2048x16x64, .f32⟩
  | 52 => ⟨S2048x16x64, .f32⟩
  | 53 => ⟨S2048x16x64, .f32⟩
  | 54 => ⟨S_, .f32⟩
  | 55 => ⟨S64, .f32⟩
  | 56 => ⟨S1x1x64, .f32⟩
  | 57 => ⟨S2048x16x64, .f32⟩
  | 58 => ⟨S2048x16x64, .f32⟩
  | 59 => ⟨S_, .f32⟩
  | 60 => ⟨S64, .f32⟩
  | 61 => ⟨S2048x16x64, .f32⟩
  | 62 => ⟨S_, .f32⟩
  | 63 => ⟨S2048x16, .f32⟩
  | 64 => ⟨S2048x16x1, .f32⟩
  | 65 => ⟨S2048x16x64, .f32⟩
  | 66 => ⟨S2048x16x64, .f32⟩
  | 67 => ⟨S2048x16x1, .f32⟩
  | 68 => ⟨S_, .f32⟩
  | 69 => ⟨S2048x16x1, .f32⟩
  | 70 => ⟨S2048x16x1, .f32⟩
  | 71 => ⟨S_, .f32⟩
  | 72 => ⟨S2048x16, .f32⟩
  | 73 => ⟨S2048x16x64, .f32⟩
  | 74 => ⟨S2048x16x64, .f32⟩
  | 75 => ⟨S2048x16x64, .f32⟩
  | 76 => ⟨S2048x16x64, .f32⟩
  | 77 => ⟨S2048x16x64, .f32⟩
  | 78 => ⟨S2048x1024, .f32⟩
  | 79 => ⟨S2048x1024, .f32⟩
  | 80 => ⟨S2048x1024, .f32⟩
  | 81 => ⟨S1x2048x1024, .f32⟩
  | 82 => ⟨S1x2048x1024, .f32⟩
  | 83 => ⟨S1x2048x1024, .f32⟩
  | 84 => ⟨S3x2048x1024, .f32⟩
  | 85 => ⟨S3x2048x1024, .bf16⟩
  | 86 => ⟨S2048x16, .f32⟩
  | 87 => ⟨S_, .i32⟩
  | 88 => ⟨S_, .f32⟩
  | 89 => ⟨S2048x128, .f32⟩
  | 90 => ⟨S1x64, .f32⟩
  | 91 => ⟨S1x64, .f32⟩
  | _ => ⟨S2048x3200, .f32⟩

abbrev hbmTy (i : Nat) : BufTy := match i / 128 with
  | 0 => hbmTy0_0 i
  | 1 => hbmTy0_1 i
  | _ => ⟨S2048x3200, .f32⟩

abbrev bufTy : (tb : Table) → Fin (tcTables nBuf tb) → BufTy
  | .hbm, ⟨i, _⟩ => hbmTy i
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_call0_v0 : Ref sig .tc := ⟨.hbm, 71, rfl⟩
abbrev main_call0_v1 : Ref sig .tc := ⟨.hbm, 72, rfl⟩
abbrev main_v56_0 : Ref sig .tc := ⟨.hbm, 73, rfl⟩
abbrev main_call0_cst : Ref sig .tc := ⟨.hbm, 74, rfl⟩
abbrev main_v56_1 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_call1_cst : Ref sig .tc := ⟨.hbm, 134, rfl⟩
abbrev main_call1_v0 : Ref sig .tc := ⟨.hbm, 135, rfl⟩
abbrev main_v103 : Ref sig .tc := ⟨.hbm, 136, rfl⟩
abbrev main_v104 : Ref sig .tc := ⟨.hbm, 137, rfl⟩
abbrev main_cst_21 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_cst_23 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_26 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_27 : Ref sig .tc := ⟨.hbm, 162, rfl⟩
abbrev main_v123 : Ref sig .tc := ⟨.hbm, 163, rfl⟩
abbrev main_v124 : Ref sig .tc := ⟨.hbm, 164, rfl⟩
abbrev main_cst_28 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_29 : Ref sig .tc := ⟨.hbm, 171, rfl⟩
abbrev main_v130 : Ref sig .tc := ⟨.hbm, 172, rfl⟩
abbrev main_v131 : Ref sig .tc := ⟨.hbm, 173, rfl⟩
abbrev main_cst_30 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_31 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_32 : Ref sig .tc := ⟨.hbm, 187, rfl⟩
abbrev main_v143 : Ref sig .tc := ⟨.hbm, 188, rfl⟩
abbrev main_v144 : Ref sig .tc := ⟨.hbm, 189, rfl⟩
abbrev main_cst_33 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_34 : Ref sig .tc := ⟨.hbm, 196, rfl⟩
abbrev main_v150 : Ref sig .tc := ⟨.hbm, 197, rfl⟩
abbrev main_v151 : Ref sig .tc := ⟨.hbm, 198, rfl⟩
abbrev main_cst_35 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_c : Ref sig .tc := ⟨.hbm, 215, rfl⟩
abbrev main_call2_v0 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩

abbrev nD : Nat := 1
abbrev τ : Topo := Topo.v7x

variable {F : FTy → Type} [FloatOps F]
-- ==== DwDown.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DhRefIdeal.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S1024x8x512 : Shape := ⟨3, ![1024, 8, 512]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S2048x4096, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Down.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownLoss.lean ====
abbrev S2048x4096 : Shape := ⟨2, ![2048, 4096]⟩
abbrev S4096x1024 : Shape := ⟨2, ![4096, 1024]⟩
abbrev S2048x1024 : Shape := ⟨2, ![2048, 1024]⟩
abbrev S8x128 : Shape := ⟨2, ![8, 128]⟩
abbrev S1024x4096 : Shape := ⟨2, ![1024, 4096]⟩
abbrev S4096x512 : Shape := ⟨2, ![4096, 512]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S8x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DownLossRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S2048x4096, .f32⟩
  | .hbm, ⟨5, _⟩ => ⟨S4096x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S8x128, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== DwIn.lean ====
abbrev S3x2048x1024 : Shape := ⟨3, ![3, 2048, 1024]⟩
abbrev S2048x1024 : Shape := ⟨2, ![2048, 1024]⟩
abbrev S3072x1024 : Shape := ⟨2, ![3072, 1024]⟩
abbrev S1x2048x512 : Shape := ⟨3, ![1, 2048, 512]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S3x2048x1024, .bf16⟩
  | .hbm, ⟨1, _⟩ => ⟨S2048x1024, .bf16⟩
  | .hbm, ⟨2, _⟩ => ⟨S3072x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S3x2048x1024 : Shape := ⟨3, ![3, 2048, 1024]⟩
abbrev S2048x1024 : Shape := ⟨2, ![2048, 1024]⟩
abbrev S_ : Shape := ⟨0, ![]⟩
abbrev S1024x3072 : Shape := ⟨2, ![1024, 3072]⟩
abbrev S2048x3x1024 : Shape := ⟨3, ![2048, 3, 1024]⟩
abbrev S2048x3072 : Shape := ⟨2, ![2048, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S2048x1024, .bf16⟩
  | .hbm, ⟨2, _⟩ => ⟨S_, .f32⟩
  | .hbm, ⟨3, _⟩ => ⟨S1024x3072, .f32⟩
  | .hbm, ⟨4, _⟩ => ⟨S3x2048x1024, .f32⟩
  | .hbm, ⟨5, _⟩ => ⟨S2048x3x1024, .f32⟩
  | .hbm, ⟨6, _⟩ => ⟨S2048x3072, .f32⟩
  | .hbm, ⟨7, _⟩ => ⟨S2048x1024, .f32⟩
  | .hbm, ⟨8, _⟩ => ⟨S2048x3072, .f32⟩
  | .hbm, ⟨9, _⟩ => ⟨S3072x1024, .f32⟩
  | .hbm, ⟨10, _⟩ => ⟨S1024x3072, .f32⟩
  | .hbm, ⟨11, _⟩ => ⟨S3072x1024, .f32⟩
  | .hbm, ⟨12, _⟩ => ⟨S3072x1024, .bf16⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwOut.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwOutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOut.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DOutRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dx.lean ====
abbrev S3x2048x1024 : Shape := ⟨3, ![3, 2048, 1024]⟩
abbrev S2048x128 : Shape := ⟨2, ![2048, 128]⟩
abbrev S3200x1024 : Shape := ⟨2, ![3200, 1024]⟩
abbrev S2048x1024 : Shape := ⟨2, ![2048, 1024]⟩
abbrev S1024 : Shape := ⟨1, ![1024]⟩
abbrev S1x1024 : Shape := ⟨2, ![1, 1024]⟩
abbrev S3x512x1024 : Shape := ⟨3, ![3, 512, 1024]⟩
abbrev S512x128 : Shape := ⟨2, ![512, 128]⟩
abbrev S512x1024 : Shape := ⟨2, ![512, 1024]⟩
abbrev S128x1024 : Shape := ⟨2, ![128, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S3x2048x1024, .bf16⟩
  | .hbm, ⟨1, _⟩ => ⟨S2048x128, .bf16⟩
  | .hbm, ⟨2, _⟩ => ⟨S3200x1024, .bf16⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S512x128, .bf16⟩
  | .local _ .vmem, ⟨3, _⟩ => ⟨S512x128, .bf16⟩
  | .local _ .vmem, ⟨4, _⟩ => ⟨S3200x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DxRefIdeal.lean ====
abbrev S3x2048x1024 : Shape := ⟨3, ![3, 2048, 1024]⟩
abbrev S2048x128 : Shape := ⟨2, ![2048, 128]⟩
abbrev S3200x1024 : Shape := ⟨2, ![3200, 1024]⟩
abbrev S2048x1024 : Shape := ⟨2, ![2048, 1024]⟩
abbrev S1024 : Shape := ⟨1, ![1024]⟩
abbrev S1024x3200 : Shape := ⟨2, ![1024, 3200]⟩
abbrev S1x2048x1024 : Shape := ⟨3, ![1, 2048, 1024]⟩
abbrev S2048x3200 : Shape := ⟨2, ![2048, 3200]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S2048x128, .bf16⟩
  | .hbm, ⟨2, _⟩ => ⟨S3200x1024, .bf16⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S3200x1024, .f32⟩
  | .hbm, ⟨7, _⟩ => ⟨S1024x3200, .f32⟩
  | .hbm, ⟨8, _⟩ => ⟨S1x2048x1024, .bf16⟩
  | .hbm, ⟨9, _⟩ => ⟨S2048x1024, .bf16⟩
  | .hbm, ⟨10, _⟩ => ⟨S1x2048x1024, .bf16⟩
  | .hbm, ⟨11, _⟩ => ⟨S2048x1024, .bf16⟩
  | .hbm, ⟨12, _⟩ => ⟨S1x2048x1024, .bf16⟩
  | .hbm, ⟨13, _⟩ => ⟨S2048x1024, .bf16⟩
  | .hbm, ⟨14, _⟩ => ⟨S2048x3200, .bf16⟩
  | .hbm, ⟨15, _⟩ => ⟨S2048x3200, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x3200, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1x1024, .f32⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Dhq.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DhqRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Up.lean ====
abbrev S2048x1024 : Shape := ⟨2, ![2048, 1024]⟩
abbrev S1024 : Shape := ⟨1, ![1024]⟩
abbrev S8x1024x512 : Shape := ⟨3, ![8, 1024, 512]⟩
abbrev S1x1024 : Shape := ⟨2, ![1, 1024]⟩
abbrev S2048x4096 : Shape := ⟨2, ![2048, 4096]⟩
abbrev S1024x1024 : Shape := ⟨2, ![1024, 1024]⟩
abbrev S2x1024x512 : Shape := ⟨3, ![2, 1024, 512]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x1024x512, .bf16⟩
  | .hbm, ⟨3, _⟩ => ⟨S1x1024, .f32⟩
  | .hbm, ⟨4, _⟩ => ⟨S2048x4096, .bf16⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x512, .bf16⟩
  | .local _ .vmem, ⟨4, _⟩ => ⟨S2x1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpRefIdeal.lean ====
abbrev S2048x1024 : Shape := ⟨2, ![2048, 1024]⟩
abbrev S1024 : Shape := ⟨1, ![1024]⟩
abbrev S8x1024x512 : Shape := ⟨3, ![8, 1024, 512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x8x512 : Shape := ⟨3, ![1024, 8, 512]⟩
abbrev S1024x4096 : Shape := ⟨2, ![1024, 4096]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x1024x512, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S8x1024x512, .f32⟩
  | .hbm, ⟨20, _⟩ => ⟨S1024x8x512, .f32⟩
  | .hbm, ⟨21, _⟩ => ⟨S1024x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .bf16⟩
  | .hbm, ⟨28, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== AIn.lean ====
abbrev S2048x1024 : Shape := ⟨2, ![2048, 1024]⟩
abbrev S1024 : Shape := ⟨1, ![1024]⟩
abbrev S3200x1024 : Shape := ⟨2, ![3200, 1024]⟩
abbrev S1x1024 : Shape := ⟨2, ![1, 1024]⟩
abbrev S2048x3200 : Shape := ⟨2, ![2048, 3200]⟩
abbrev S1024x1024 : Shape := ⟨2, ![1024, 1024]⟩
abbrev S640x1024 : Shape := ⟨2, ![640, 1024]⟩
abbrev S1024x640 : Shape := ⟨2, ![1024, 640]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S3200x1024, .bf16⟩
  | .hbm, ⟨3, _⟩ => ⟨S1x1024, .f32⟩
  | .hbm, ⟨4, _⟩ => ⟨S2048x3200, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S1024x640, .f32⟩
  | .local _ .vmem, ⟨6, _⟩ => ⟨S1024x640, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AInRefIdeal.lean ====
abbrev S2048x1024 : Shape := ⟨2, ![2048, 1024]⟩
abbrev S1024 : Shape := ⟨1, ![1024]⟩
abbrev S3200x1024 : Shape := ⟨2, ![3200, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x3200 : Shape := ⟨2, ![1024, 3200]⟩
abbrev S2048x3200 : Shape := ⟨2, ![2048, 3200]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S3200x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S3200x1024, .f32⟩
  | .hbm, ⟨20, _⟩ => ⟨S1024x3200, .f32⟩
  | .hbm, ⟨21, _⟩ => ⟨S2048x3200, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== BQ.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== BQRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DwGate.lean ====
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x128, .bf16⟩
  | .hbm, ⟨1, _⟩ => ⟨S2048x1024, .bf16⟩
  | .hbm, ⟨2, _⟩ => ⟨S128x1024, .bf16⟩
  | .local _ .vmem, ⟨0, _⟩ => ⟨S2048x128, .bf16⟩
  | .local _ .vmem, ⟨1, _⟩ => ⟨S2048x1024, .bf16⟩
  | .local _ .vmem, ⟨2, _⟩ => ⟨S128x1024, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwGateRefIdeal.lean ====
abbrev S2048x128 : Shape := ⟨2, ![2048, 128]⟩
abbrev S2048x1024 : Shape := ⟨2, ![2048, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x1024, .bf16⟩
  | .hbm, ⟨2, _⟩ => ⟨S_, .f32⟩
  | .hbm, ⟨3, _⟩ => ⟨S1024x128, .f32⟩
  | .hbm, ⟨4, _⟩ => ⟨S2048x1024, .f32⟩
  | .hbm, ⟨5, _⟩ => ⟨S2048x128, .f32⟩
  | .hbm, ⟨6, _⟩ => ⟨S2048x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwKv.lean ====
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S1024x256, .bf16⟩
  | .local _ .vmem, ⟨0, _⟩ => ⟨S2048x1024, .bf16⟩
  | .local _ .vmem, ⟨1, _⟩ => ⟨S2048x256, .f32⟩
  | .local _ .vmem, ⟨2, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwKvRefIdeal.lean ====
abbrev S2048x1024 : Shape := ⟨2, ![2048, 1024]⟩
abbrev S2048x256 : Shape := ⟨2, ![2048, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S_, .f32⟩
  | .hbm, ⟨3, _⟩ => ⟨S1024x256, .f32⟩
  | .hbm, ⟨4, _⟩ => ⟨S2048x1024, .f32⟩
  | .hbm, ⟨5, _⟩ => ⟨S2048x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kv.lean ====
abbrev S2048x1024 : Shape := ⟨2, ![2048, 1024]⟩
abbrev S1024 : Shape := ⟨1, ![1024]⟩
abbrev S1024x256 : Shape := ⟨2, ![1024, 256]⟩
abbrev S1x1024 : Shape := ⟨2, ![1, 1024]⟩
abbrev S2048x256 : Shape := ⟨2, ![2048, 256]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .bf16⟩
  | .hbm, ⟨3, _⟩ => ⟨S1x1024, .f32⟩
  | .hbm, ⟨4, _⟩ => ⟨S2048x256, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvRefIdeal.lean ====
abbrev S2048x1024 : Shape := ⟨2, ![2048, 1024]⟩
abbrev S1024 : Shape := ⟨1, ![1024]⟩
abbrev S1024x256 : Shape := ⟨2, ![1024, 256]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x256 : Shape := ⟨2, ![2048, 256]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1024x256, .f32⟩
  | .hbm, ⟨20, _⟩ => ⟨S2048x256, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Math.lean ====
/- The gradient of one attention head over the real numbers: the formulas that both programs are read as, and the
   identities between the two programs' forms of them. -/
module

public import Mathlib.Analysis.SpecialFunctions.Pow.Real
public import Mathlib.Algebra.BigOperators.Field
public import Mathlib.Algebra.BigOperators.Fin
public import Mathlib.Tactic.FieldSimp
public import Mathlib.Tactic.Ring
public import Mathlib.Tactic.Positivity

@[expose] public section

noncomputable section

namespace Cert.Fox

open Finset

/-- The norm's epsilon, as the single-precision number nearest to 1e-6. -/
def eps : ℝ := 8796093 / 2 ^ 43

theorem eps_pos : 0 < eps := by unfold eps; positivity

/-- A sum over the keys before `L` is the whole sum where the rest is zero. -/
theorem sum_prefix {L : ℕ} (hL : L ≤ 2048) (f : Fin 2048 → ℝ) (h : ∀ k : Fin 2048, L ≤ k.val → f k = 0) :
    ∑ k : Fin L, f (k.castLE hL) = ∑ k, f k := by
  refine sum_bij_ne_zero (fun k _ _ => k.castLE hL) (fun _ _ _ => mem_univ _)
    (fun a _ _ b _ _ e => Fin.castLE_injective hL e) (fun b _ hb => ?_) (fun _ _ _ => rfl)
  have hlt : b.val < L := by by_contra hn; exact hb (h b (not_lt.mp hn))
  exact ⟨⟨b.val, hlt⟩, mem_univ _, hb, rfl⟩

/-- One head's operands: queries, keys, values, the cotangent, the two gains, the cumulated decay. -/
structure Hd where
  xq : Fin 2048 → Fin 64 → ℝ
  xk : Fin 2048 → Fin 64 → ℝ
  v : Fin 2048 → Fin 64 → ℝ
  o : Fin 2048 → Fin 64 → ℝ
  gq : Fin 64 → ℝ
  gk : Fin 64 → ℝ
  c : Fin 2048 → ℝ

/-- A row's mean square plus epsilon. -/
def ms (x : Fin 2048 → Fin 64 → ℝ) (t : Fin 2048) : ℝ := (∑ d, x t d * x t d) / 64 + eps
/-- The row's scale. -/
def rs (x : Fin 2048 → Fin 64 → ℝ) (t : Fin 2048) : ℝ := (Real.sqrt (ms x t))⁻¹
/-- The row scaled. -/
def xn (x : Fin 2048 → Fin 64 → ℝ) (t : Fin 2048) (d : Fin 64) : ℝ := x t d * rs x t
/-- The norm. -/
def nrm (x : Fin 2048 → Fin 64 → ℝ) (g : Fin 64 → ℝ) (t : Fin 2048) (d : Fin 64) : ℝ := xn x t d * g d
/-- The derivative of the scale by the mean square. -/
def sl (x : Fin 2048 → Fin 64 → ℝ) (t : Fin 2048) : ℝ := -(1 / 2) * (rs x t / ms x t)
/-- The norm's gradient in the row, of a cotangent `dy`. -/
def vjpX (x : Fin 2048 → Fin 64 → ℝ) (g : Fin 64 → ℝ) (dy : Fin 2048 → Fin 64 → ℝ) (t : Fin 2048) (d : Fin 64) : ℝ :=
  dy t d * g d * rs x t + 2 * (x t d * ((∑ e, x t e * (dy t e * g e)) * sl x t / 64))
/-- The norm's gradient in the gain. -/
def vjpG (x : Fin 2048 → Fin 64 → ℝ) (dy : Fin 2048 → Fin 64 → ℝ) (d : Fin 64) : ℝ := ∑ t, xn x t d * dy t d

theorem ms_pos (x : Fin 2048 → Fin 64 → ℝ) (t : Fin 2048) : 0 < ms x t := by
  have : 0 ≤ ∑ d, x t d * x t d := sum_nonneg fun d _ => mul_self_nonneg _
  have := eps_pos
  unfold ms; positivity

namespace Hd

variable (H : Hd)

def qn : Fin 2048 → Fin 64 → ℝ := nrm H.xq H.gq
def kn : Fin 2048 → Fin 64 → ℝ := nrm H.xk H.gk
/-- The score of query `t` and key `k`. -/
def sc (t k : Fin 2048) : ℝ := (∑ d, H.qn t d * H.kn k d) * (1 / 8) + H.c t - H.c k
/-- The row's sum of exponentials. -/
def Z (t : Fin 2048) : ℝ := ∑ k, if k ≤ t then Real.exp (H.sc t k) else 0
/-- The probability. -/
def P (t k : Fin 2048) : ℝ := if k ≤ t then Real.exp (H.sc t k) / H.Z t else 0
def dP (t k : Fin 2048) : ℝ := ∑ d, H.o t d * H.v k d
def dS (t k : Fin 2048) : ℝ := H.P t k * (H.dP t k - ∑ k', H.P t k' * H.dP t k')
def dNq (t : Fin 2048) (d : Fin 64) : ℝ := (∑ k, H.dS t k * H.kn k d) * (1 / 8)
def dNk (k : Fin 2048) (d : Fin 64) : ℝ := (∑ t, H.dS t k * H.qn t d) * (1 / 8)
/-- The gradients. -/
def dQ : Fin 2048 → Fin 64 → ℝ := vjpX H.xq H.gq H.dNq
def dK : Fin 2048 → Fin 64 → ℝ := vjpX H.xk H.gk H.dNk
def dV (k : Fin 2048) (d : Fin 64) : ℝ := ∑ t, H.P t k * H.o t d
def dC (k : Fin 2048) : ℝ := -∑ t, H.dS t k
def dGq : Fin 64 → ℝ := vjpG H.xq H.dNq
def dGk : Fin 64 → ℝ := vjpG H.xk H.dNk

theorem Z_pos (t : Fin 2048) : 0 < H.Z t := by
  unfold Z
  refine lt_of_lt_of_le (Real.exp_pos (H.sc t t)) ?_
  have h := single_le_sum (f := fun k => if k ≤ t then Real.exp (H.sc t k) else 0) (s := univ)
    (fun k _ => by split_ifs <;> positivity) (mem_univ t)
  simpa using h

theorem P_of_lt {t k : Fin 2048} (h : t < k) : H.P t k = 0 := by
  unfold P; rw [if_neg (not_le.mpr h)]
theorem dS_of_lt {t k : Fin 2048} (h : t < k) : H.dS t k = 0 := by
  unfold dS; rw [H.P_of_lt h, zero_mul]

theorem sum_P (t : Fin 2048) : ∑ k, H.P t k = 1 := by
  have h : ∀ k, H.P t k = (if k ≤ t then Real.exp (H.sc t k) else 0) / H.Z t := fun k => by
    unfold P; split_ifs <;> simp
  simp only [h]
  rw [← sum_div]
  exact div_self (H.Z_pos t).ne'

theorem sum_dS (t : Fin 2048) : ∑ k, H.dS t k = 0 := by
  simp only [dS, mul_sub, sum_sub_distrib]
  rw [← sum_mul, H.sum_P, one_mul, sub_self]

/-! ## The forms with a shift `M` of the row -/

/-- The shifted exponential. -/
def e (M : Fin 2048 → ℝ) (t k : Fin 2048) : ℝ := if k ≤ t then Real.exp (H.sc t k - M t) else 0
def ZM (M : Fin 2048 → ℝ) (t : Fin 2048) : ℝ := ∑ k, H.e M t k

theorem e_eq (M : Fin 2048 → ℝ) (t k : Fin 2048) :
    H.e M t k = (if k ≤ t then Real.exp (H.sc t k) else 0) * Real.exp (-M t) := by
  unfold e; split_ifs
  · rw [← Real.exp_add, sub_eq_add_neg]
  · simp
theorem ZM_eq (M : Fin 2048 → ℝ) (t : Fin 2048) : H.ZM M t = H.Z t * Real.exp (-M t) := by
  unfold ZM Z; rw [sum_mul]; exact sum_congr rfl fun k _ => H.e_eq M t k
theorem ZM_pos (M : Fin 2048 → ℝ) (t : Fin 2048) : 0 < H.ZM M t := by
  rw [ZM_eq]; exact mul_pos (H.Z_pos t) (Real.exp_pos _)
theorem e_div (M : Fin 2048 → ℝ) (t k : Fin 2048) : H.e M t k / H.ZM M t = H.P t k := by
  rw [e_eq, ZM_eq, mul_div_mul_right _ _ (Real.exp_pos _).ne']
  unfold P; split_ifs <;> simp
theorem e_of_lt (M : Fin 2048 → ℝ) {t k : Fin 2048} (h : t < k) : H.e M t k = 0 := by
  unfold e; rw [if_neg (not_le.mpr h)]

/-- The kernel's probability, out of the saved logarithm of the row's sum. -/
theorem exp_lse (M : Fin 2048 → ℝ) {t k : Fin 2048} (h : k ≤ t) :
    Real.exp (H.sc t k - (M t + Real.log (H.ZM M t))) = H.P t k := by
  rw [← sub_sub, Real.exp_sub, Real.exp_log (H.ZM_pos M t), ← H.e_div M]
  unfold e; rw [if_pos h]

/-- The reference's gradient of the softmax, as differentiation of the quotient writes it. -/
theorem dS_ref (M : Fin 2048 → ℝ) (t k : Fin 2048) :
    (H.dP t k / H.ZM M t + -(∑ k', H.dP t k' * (1 / (H.ZM M t * H.ZM M t)) * H.e M t k')) * H.e M t k = H.dS t k := by
  have hz := (H.ZM_pos M t).ne'
  have h : ∑ k', H.dP t k' * (1 / (H.ZM M t * H.ZM M t)) * H.e M t k' = (∑ k', H.P t k' * H.dP t k') / H.ZM M t := by
    rw [sum_div]; refine sum_congr rfl fun k' _ => ?_
    rw [← H.e_div M]; field_simp
  rw [h]; unfold dS; rw [← H.e_div M]; field_simp; ring

end Hd

end Cert.Fox
-- ==== Proof.Ops.lean ====
/- Arrays of extended reals that hold REAL numbers, and the vector operations on them: `Is x f` says that the rank-2 array
   `x` holds the real matrix `f`; each operation of a kernel's body takes such arrays to such an array. -/
module

public import proofs.«01_k».proof.Proof.Math
public import Idealize.ShloMosaic.Lib.ValueIdx
public import Idealize.ShloMosaic.Lib.Pipeline.Value
public import Idealize.ShloMosaic.PureOps.Ideal.Laws
public import Idealize.ShloMosaic.PureOps.IdealRules
public import Idealize.ShloMosaic.Lib.ValueLayout
public import Idealize.ShloMosaic.Lib.WordCmp

@[expose] public section

noncomputable section

namespace Cert.Fox

open Idealize.ShloMosaic Idealize.ShloMosaic.ValueIdx

/-- A finite sum of reals, as extended reals. -/
theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, ← EReal.coe_add]

/-! ## The literals -/

theorem ofBits_64 : Ideal.ofBits .f32 0x42800000#32 = ((64 : ℝ) : EReal) := by
  simp [Ideal.ofBits, Ideal.ieee, -EReal.coe_mul]; norm_num
theorem ofBits_eps : Ideal.ofBits .f32 0x358637BD#32 = ((eps : ℝ) : EReal) := by
  simp [Ideal.ofBits, Ideal.ieee, -EReal.coe_mul, eps]; norm_num
theorem ofBits_neg_half : Ideal.ofBits .f32 0xBF000000#32 = ((-(1 / 2) : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]
theorem ofBits_inf16 : Ideal.ofBits .bf16 0x7F80#16 = ⊤ := by
  simp [Ideal.ofBits, Ideal.ieee]

/-! ## The scalar operations -/

theorem div_coe {a b : ℝ} (h : b ≠ 0) : Ideal.div (a : EReal) (b : EReal) = ((a / b : ℝ) : EReal) := by
  rw [Ideal.div_coe h, ← EReal.coe_mul, mul_one_div]
theorem rsqrt_coe {a : ℝ} (h : 0 < a) : Ideal.rsqrt (a : EReal) = (((Real.sqrt a)⁻¹ : ℝ) : EReal) := by
  rw [Ideal.rsqrt_coe, if_neg (not_lt.mpr h.le), if_neg h.ne']
theorem log_coe {a : ℝ} (h : 0 < a) : Ideal.log (a : EReal) = ((Real.log a : ℝ) : EReal) := by
  rw [Ideal.log_coe, if_neg (not_le.mpr h)]
theorem bot_sub_coe (a : ℝ) : (⊥ : EReal) - (a : EReal) = ⊥ := EReal.bot_sub _

/-! ## Arrays that hold reals -/

/-- The rank-2 array holds the real matrix. -/
def Is {a b : ℕ} (x : (⟨2, ![a, b]⟩ : Shape).Idx → EReal) (f : Fin a → Fin b → ℝ) : Prop :=
  ∀ i j, x (ix2 i j) = ((f i j : ℝ) : EReal)
/-- The rank-1 array holds the real vector. -/
def Is1 {a : ℕ} (x : (⟨1, ![a]⟩ : Shape).Idx → EReal) (f : Fin a → ℝ) : Prop := ∀ i, x (ix1 i) = ((f i : ℝ) : EReal)

section Elementwise

variable {a b : ℕ} {φ : FTy} {x y : FVec Ideal ⟨2, ![a, b]⟩ φ} {f g : Fin a → Fin b → ℝ}

theorem Is.congr {x : (⟨2, ![a, b]⟩ : Shape).Idx → EReal} (h : Is x f) (e : ∀ i j, f i j = g i j) : Is x g := fun i j => (h i j).trans (congrArg _ (e i j))
theorem Is.mul (hx : Is x f) (hy : Is y g) : Is (mulf x y) fun i j => f i j * g i j := fun i j => by
  rw [mulf_apply, hx i j, hy i j, EReal.coe_mul]
theorem Is.add (hx : Is x f) (hy : Is y g) : Is (addf x y) fun i j => f i j + g i j := fun i j => by
  rw [addf_apply, hx i j, hy i j, EReal.coe_add]
theorem Is.sub (hx : Is x f) (hy : Is y g) : Is (subf x y) fun i j => f i j - g i j := fun i j => by
  rw [subf_apply, hx i j, hy i j, EReal.coe_sub]
theorem Is.div (hx : Is x f) (hy : Is y g) (h : ∀ i j, g i j ≠ 0) : Is (divf x y) fun i j => f i j / g i j := fun i j => by
  rw [divf_apply, hx i j, hy i j, div_coe (h i j)]
theorem Is.rsqrt (hx : Is x f) (h : ∀ i j, 0 < f i j) : Is (rsqrt x) fun i j => (Real.sqrt (f i j))⁻¹ := fun i j => by
  show Ideal.rsqrt (x (ix2 i j)) = _
  rw [hx i j, rsqrt_coe (h i j)]
theorem Is.trunc {ψ : FTy} (hx : Is x f) (h : ψ.bits < φ.bits) : Is (truncf ψ x h : FVec Ideal ⟨2, ![a, b]⟩ ψ) f := hx
theorem Is.splat {w : EReal} {r : ℝ} (h : w = (r : EReal)) : Is (broadcast ⟨2, ![a, b]⟩ w) fun _ _ => r := fun _ _ => h
/-- A splat of a literal. -/
theorem Is.lit {w : BitVec 32} {r : ℝ} (h : Ideal.ofBits .f32 w = (r : EReal)) :
    Is (broadcast ⟨2, ![a, b]⟩ (Scalar.ofBits .f32 w : Ideal .f32)) fun _ _ => r := fun _ _ => h
theorem Is.neg0 (hx : Is x f) : Is (subf (broadcast ⟨2, ![a, b]⟩ (0 : EReal)) x) fun i j => -f i j := fun i j => by
  show (0 : EReal) - x (ix2 i j) = _
  rw [hx i j, zero_sub, EReal.coe_neg]

end Elementwise

section Layout

variable {a b : ℕ} {φ : FTy}

/-- A shape cast to the same shape. -/
theorem Is.cast {x : (⟨2, ![a, b]⟩ : Shape).Idx → EReal} {f : Fin a → Fin b → ℝ} (hx : Is x f)
    (h : (⟨2, ![a, b]⟩ : Shape).ShapeCasts ⟨2, ![a, b]⟩) : Is (shapeCast ⟨2, ![a, b]⟩ x h) f := by
  rw [shapeCast_self]; exact hx

/-- A column repeated over `b` columns. -/
theorem Is.bcCol {x : (⟨2, ![a, 1]⟩ : Shape).Idx → EReal} {f : Fin a → Fin 1 → ℝ} (hx : Is x f)
    (h : (⟨2, ![a, 1]⟩ : Shape).Broadcasts ⟨2, ![a, b]⟩) : Is (broadcastTo ⟨2, ![a, b]⟩ x h) fun i _ => f i 0 := fun i j => by
  refine (broadcastTo_apply x h (ix2 i j) (ix2 i 0) fun c => ?_).trans (hx i 0)
  match c with
  | ⟨0, _⟩ =>
    show i.val = if a = 1 then 0 else i.val
    split_ifs with h1
    · have := i.isLt; omega
    · rfl
  | ⟨1, _⟩ => rfl

/-- A row repeated over `a` rows. -/
theorem Is.bcRow {x : (⟨2, ![1, b]⟩ : Shape).Idx → EReal} {f : Fin 1 → Fin b → ℝ} (hx : Is x f)
    (h : (⟨2, ![1, b]⟩ : Shape).Broadcasts ⟨2, ![a, b]⟩) : Is (broadcastTo ⟨2, ![a, b]⟩ x h) fun _ j => f 0 j := fun i j => by
  refine (broadcastTo_apply x h (ix2 i j) (ix2 0 j) fun c => ?_).trans (hx 0 j)
  match c with
  | ⟨0, _⟩ => rfl
  | ⟨1, _⟩ =>
    show j.val = if b = 1 then 0 else j.val
    split_ifs with h1
    · have := j.isLt; omega
    · rfl

/-- A unit-stride slice. -/
theorem Is.slice {a' b' : ℕ} {o p : ℕ} {x : (⟨2, ![a, b]⟩ : Shape).Idx → EReal} {f : Fin a → Fin b → ℝ} (hx : Is x f)
    (h : (⟨2, ![a, b]⟩ : Shape).Slices ![o, p] ⟨2, ![a', b']⟩) (ha : o + a' ≤ a) (hb : p + b' ≤ b) :
    Is (extractStridedSlice ⟨2, ![a', b']⟩ ![o, p] x h)
      fun i j => f ⟨o + i.val, by have := i.isLt; omega⟩ ⟨p + j.val, by have := j.isLt; omega⟩ := fun i j => by
  refine (extractStridedSlice_apply ![o, p] x h (ix2 i j) (ix2 ⟨o + i.val, by have := i.isLt; omega⟩ ⟨p + j.val, by have := j.isLt; omega⟩)
    fun c => ?_).trans (hx _ _)
  match c with
  | ⟨0, _⟩ => rfl
  | ⟨1, _⟩ => rfl

theorem Is.transpose {x : (⟨2, ![a, b]⟩ : Shape).Idx → EReal} {f : Fin a → Fin b → ℝ} (hx : Is x f)
    (h : (⟨2, ![a, b]⟩ : Shape).Transposes [1, 0] ⟨2, ![b, a]⟩) : Is (transpose ⟨2, ![b, a]⟩ [1, 0] x h) fun i j => f j i :=
  fun i j => by
    refine (transpose_apply [1, 0] x h (ix2 i j) (ix2 j i) fun c => ?_).trans (hx j i)
    match c with
    | ⟨0, _⟩ => rfl
    | ⟨1, _⟩ => rfl

/-- A sum over the columns. -/
theorem Is.sumCols {x : FVec Ideal ⟨2, ![a, b]⟩ .f32} {f : Fin a → Fin b → ℝ} (hx : Is x f)
    (h : (⟨2, ![a, b]⟩ : Shape).Reduces [1] ⟨1, ![a]⟩) (hφ : FKind.Formats .f32) (hacc : (0x00000000#32 : BitVec 32) = FKind.add.neutral .f32 hφ) :
    Is1 (multiReduction .add [1] ⟨1, ![a]⟩ x 0x00000000#32 h hφ hacc) fun i => ∑ j, f i j := fun i => by
  rw [Ideal.multiReduction_add_single]
  refine (Finset.sum_congr rfl fun j _ => ?_).trans (coe_sum _ fun j : Fin b => f i j)
  refine (congrArg x ?_).trans (hx i j)
  refine Shape.idx_ext₂ ?_ ?_
  · exact (Shape.Reduces.lift_val h _ _ _).trans rfl
  · exact (Shape.Reduces.lift_val h _ _ _).trans rfl

/-- A sum over the rows. -/
theorem Is.sumRows {x : FVec Ideal ⟨2, ![a, b]⟩ .f32} {f : Fin a → Fin b → ℝ} (hx : Is x f)
    (h : (⟨2, ![a, b]⟩ : Shape).Reduces [0] ⟨1, ![b]⟩) (hφ : FKind.Formats .f32) (hacc : (0x00000000#32 : BitVec 32) = FKind.add.neutral .f32 hφ) :
    Is1 (multiReduction .add [0] ⟨1, ![b]⟩ x 0x00000000#32 h hφ hacc) fun j => ∑ i, f i j := fun j => by
  rw [Ideal.multiReduction_add_single]
  refine (Finset.sum_congr rfl fun i _ => ?_).trans (coe_sum _ fun i : Fin a => f i j)
  refine (congrArg x ?_).trans (hx i j)
  refine Shape.idx_ext₂ ?_ ?_
  · exact (Shape.Reduces.lift_val h _ _ _).trans rfl
  · exact (Shape.Reduces.lift_val h _ _ _).trans rfl

/-- A vector as a column … -/
theorem Is1.col {x : (⟨1, ![a]⟩ : Shape).Idx → EReal} {f : Fin a → ℝ} (hx : Is1 x f)
    (h : (⟨1, ![a]⟩ : Shape).ShapeCasts ⟨2, ![a, 1]⟩) : Is (shapeCast ⟨2, ![a, 1]⟩ x h) fun i _ => f i := fun i j => by
  refine (shapeCast_apply x h (ix2 i j) (ix1 i) ?_).trans (hx i)
  rw [Shape.rowMajor_val_two, Shape.rowMajor_val_one]
  show i.val = i.val * 1 + j.val
  have := j.isLt; omega
/-- … and as a row. -/
theorem Is1.row {x : (⟨1, ![a]⟩ : Shape).Idx → EReal} {f : Fin a → ℝ} (hx : Is1 x f)
    (h : (⟨1, ![a]⟩ : Shape).ShapeCasts ⟨2, ![1, a]⟩) : Is (shapeCast ⟨2, ![1, a]⟩ x h) fun _ i => f i := fun i j => by
  rw [shapeCast_a_1a_apply]; exact hx j

end Layout

/-! ## Products -/

section Dots

variable {m n k : ℕ} {φ₁ φ₂ : FTy}

/-- The dimension numbers of a product of rows by rows … -/
abbrev dNT (wf : DotDims.WF (⟨2, ![m, k]⟩ : Shape) ⟨2, ![n, k]⟩ ⟨2, ![m, n]⟩ [1] [1] [0] [0] [] []) :
    DotDims (⟨2, ![m, k]⟩ : Shape) ⟨2, ![n, k]⟩ ⟨2, ![m, n]⟩ where
  lhsContracting := [1]
  rhsContracting := [1]
  lhsNonContracting := [0]
  rhsNonContracting := [0]
  lhsBatch := []
  rhsBatch := []
  wf := wf
/-- … and of rows by columns. -/
abbrev dNN (wf : DotDims.WF (⟨2, ![m, k]⟩ : Shape) ⟨2, ![k, n]⟩ ⟨2, ![m, n]⟩ [1] [0] [0] [1] [] []) :
    DotDims (⟨2, ![m, k]⟩ : Shape) ⟨2, ![k, n]⟩ ⟨2, ![m, n]⟩ where
  lhsContracting := [1]
  rhsContracting := [0]
  lhsNonContracting := [0]
  rhsNonContracting := [1]
  lhsBatch := []
  rhsBatch := []
  wf := wf

theorem Is.dotNT {x : FVec Ideal ⟨2, ![m, k]⟩ φ₁} {y : FVec Ideal ⟨2, ![n, k]⟩ φ₂} {f : Fin m → Fin k → ℝ} {g : Fin n → Fin k → ℝ}
    (hx : Is x f) (hy : Is y g) (wf : DotDims.WF (⟨2, ![m, k]⟩ : Shape) ⟨2, ![n, k]⟩ ⟨2, ![m, n]⟩ [1] [1] [0] [0] [] []) :
    Is (matmul (dNT wf) none x y (constant ⟨2, ![m, n]⟩ .f32 0x00000000#32)) fun i j => ∑ c, f i c * g j c := fun i j => by
  refine (Ideal.matmul_constant_zero_apply (dNT wf) none x y (ix2 i j)).trans ?_
  refine (Fintype.sum_equiv (contrEquiv1 (dNT wf) k rfl rfl) _ (fun c : Fin k => ((f i c * g j c : ℝ) : EReal)) fun q => ?_).trans
    (coe_sum _ _)
  rw [EReal.coe_mul, ← hx, ← hy]
  congr 1
  · exact congrArg x (Shape.idx_ext₂ rfl rfl)
  · exact congrArg y (Shape.idx_ext₂ rfl rfl)

theorem Is.dotNN {x : FVec Ideal ⟨2, ![m, k]⟩ φ₁} {y : FVec Ideal ⟨2, ![k, n]⟩ φ₂} {f : Fin m → Fin k → ℝ} {g : Fin k → Fin n → ℝ}
    (hx : Is x f) (hy : Is y g) (wf : DotDims.WF (⟨2, ![m, k]⟩ : Shape) ⟨2, ![k, n]⟩ ⟨2, ![m, n]⟩ [1] [0] [0] [1] [] []) :
    Is (matmul (dNN wf) none x y (constant ⟨2, ![m, n]⟩ .f32 0x00000000#32)) fun i j => ∑ c, f i c * g c j := fun i j => by
  refine (Ideal.matmul_constant_zero_apply (dNN wf) none x y (ix2 i j)).trans ?_
  refine (Fintype.sum_equiv (contrEquiv1 (dNN wf) k rfl rfl) _ (fun c : Fin k => ((f i c * g c j : ℝ) : EReal)) fun q => ?_).trans
    (coe_sum _ _)
  rw [EReal.coe_mul, ← hx, ← hy]
  congr 1
  · exact congrArg x (Shape.idx_ext₂ rfl rfl)
  · exact congrArg y (Shape.idx_ext₂ rfl rfl)

end Dots

/-! ## The masked exponential -/

/-- The exponential of scores masked by −∞ where the key comes after the query, less a row. -/
theorem Is.maskedExp {a b o : ℕ} {s l : FVec Ideal ⟨2, ![a, b]⟩ .f32} {f g : Fin a → Fin b → ℝ} (hs : Is s f) (hl : Is l g)
    {w : EReal} (hw : w = ⊥) (h0 : (⟨2, ![a, b]⟩ : Shape).Iotas .tc 32 [0]) (h1 : (⟨2, ![a, b]⟩ : Shape).Iotas .tc 32 [1])
    (ha : a < 2 ^ 20) (hb : b < 2 ^ 20) (ho : o < 2 ^ 20) :
    Is (exp (subf (select (cmpi .sle (iota .tc ⟨2, ![a, b]⟩ 32 [0] h0) (addi (iota .tc ⟨2, ![a, b]⟩ 32 [1] h1) (broadcast ⟨2, ![a, b]⟩ (BitVec.ofNat 32 o))))
        s (broadcast ⟨2, ![a, b]⟩ w)) l) : FVec Ideal ⟨2, ![a, b]⟩ .f32)
      fun i j => if i.val ≤ o + j.val then Real.exp (f i j - g i j) else 0 := fun i j => by
  have hi := i.isLt
  have hj := j.isLt
  show Ideal.exp (Scalar.select (IntOp.cmpi .sle (BitVec.ofNat 32 (0 * a + i.val)) (BitVec.ofNat 32 (0 * b + j.val) + BitVec.ofNat 32 o))
    (s (ix2 i j)) w - l (ix2 i j)) = _
  rw [hs i j, hl i j, hw, zero_mul, zero_add, zero_mul, zero_add, ← BitVec.ofNat_add,
    WordCmp.cmpi_sle_ofNat (by omega) (by omega)]
  by_cases h : i.val ≤ o + j.val
  · simp only [if_pos h, decide_eq_true (by omega : i.val ≤ j.val + o)]
    show Ideal.exp (((f i j : ℝ) : EReal) - ((g i j : ℝ) : EReal)) = _
    rw [← EReal.coe_sub]; rfl
  · simp only [if_neg h, decide_eq_false (by omega : ¬ i.val ≤ j.val + o)]
    show Ideal.exp (⊥ - ((g i j : ℝ) : EReal)) = _
    rw [bot_sub_coe]; rfl

end Cert.Fox
-- ==== Proof.Args.lean ====
/- The five arguments as real numbers, head by head, and the readings of elementwise operations and sums at real operands. -/
module

public import proofs.«01_k».proof.Proof.Ops

@[expose] public section

noncomputable section

namespace Cert.Fox

open Idealize.ShloMosaic Idealize.ShloMosaic.ValueIdx

section Args

variable (x0 : FVec Ideal ⟨2, ![2048, 3200]⟩ .f32) (x1 : FVec Ideal ⟨2, ![2048, 128]⟩ .f32) (x2 x3 : FVec Ideal ⟨2, ![1, 64]⟩ .f32)
  (x4 : FVec Ideal ⟨2, ![2048, 1024]⟩ .bf16)

/-- The operands of head `h`, read off the arguments. -/
def Hof (h : Fin 16) : Hd where
  xq t d := (x0 (ix2 t ⟨64 * h.val + d.val, by omega⟩)).toReal
  xk t d := (x0 (ix2 t ⟨1024 + (64 * h.val + d.val), by omega⟩)).toReal
  v t d := (x0 (ix2 t ⟨2048 + (64 * h.val + d.val), by omega⟩)).toReal
  o t d := (x4 (ix2 t ⟨64 * h.val + d.val, by omega⟩)).toReal
  gq d := (x2 (ix2 0 d)).toReal
  gk d := (x3 (ix2 0 d)).toReal
  c t := (x1 (ix2 t ⟨h.val, by omega⟩)).toReal

/-- What the precondition says: the elements that the function reads are real. -/
structure Args : Prop where
  p : ∀ t (j : Fin 3200), j.val < 3072 → x0 (ix2 t j) = ((x0 (ix2 t j)).toReal : EReal)
  c : ∀ t (j : Fin 128), j.val < 16 → x1 (ix2 t j) = ((x1 (ix2 t j)).toReal : EReal)
  gq : ∀ d, x2 (ix2 0 d) = ((x2 (ix2 0 d)).toReal : EReal)
  gk : ∀ d, x3 (ix2 0 d) = ((x3 (ix2 0 d)).toReal : EReal)
  o : ∀ t j, x4 (ix2 t j) = ((x4 (ix2 t j)).toReal : EReal)

end Args

/-! ## Operations at real operands -/

section Real

variable {a b : EReal} {f g : ℝ}

theorem r_mul (ha : a = (f : EReal)) (hb : b = (g : EReal)) : FloatOps.mulf (F := Ideal) (φ := .f32) a b = ((f * g : ℝ) : EReal) := by
  subst ha hb; exact (EReal.coe_mul f g).symm
theorem r_add (ha : a = (f : EReal)) (hb : b = (g : EReal)) : FloatOps.addf (F := Ideal) (φ := .f32) a b = ((f + g : ℝ) : EReal) := by
  subst ha hb; exact (EReal.coe_add f g).symm
theorem r_sub (ha : a = (f : EReal)) (hb : b = (g : EReal)) : FloatOps.subf (F := Ideal) (φ := .f32) a b = ((f - g : ℝ) : EReal) := by
  subst ha hb; exact (EReal.coe_sub f g).symm
theorem r_div (ha : a = (f : EReal)) (hb : b = (g : EReal)) (h : g ≠ 0) : FloatOps.hostDivf (F := Ideal) (φ := .f32) a b = ((f / g : ℝ) : EReal) := by
  subst ha hb; exact div_coe h
theorem r_neg (ha : a = (f : EReal)) : FloatOps.hostNegf (F := Ideal) (φ := .f32) a = ((-f : ℝ) : EReal) := by
  subst ha; exact (EReal.coe_neg f).symm
theorem r_rsqrt (ha : a = (f : EReal)) (h : 0 < f) : FloatOps.hostUnary (F := Ideal) (φ := .f32) .rsqrt a = (((Real.sqrt f)⁻¹ : ℝ) : EReal) := by
  subst ha; exact rsqrt_coe h
theorem r_log (ha : a = (f : EReal)) (h : 0 < f) : FloatOps.hostUnary (F := Ideal) (φ := .f32) .log a = ((Real.log f : ℝ) : EReal) := by
  subst ha; exact log_coe h
theorem r_sum {n : ℕ} {x : Fin n → EReal} {y : Fin n → ℝ} (ha : a = ((0 : ℝ) : EReal)) (h : ∀ k, x k = ((y k : ℝ) : EReal)) :
    a + ∑ k, x k = ((∑ k, y k : ℝ) : EReal) := by
  subst ha; simp only [h, EReal.coe_zero, zero_add]; exact coe_sum _ _
theorem r_dot {n : ℕ} {x x' : Fin n → EReal} {y y' : Fin n → ℝ} (h : ∀ k, x k = ((y k : ℝ) : EReal)) (h' : ∀ k, x' k = ((y' k : ℝ) : EReal)) :
    ∑ k, x k * x' k = ((∑ k, y k * y' k : ℝ) : EReal) := by
  simp only [h, h', ← EReal.coe_mul]; exact coe_sum _ _

/-- A function of three coordinates at equal coordinates. -/
theorem at3 {A B C : Type} (F : A → B → C → EReal) {a a' : A} {b b' : B} {c c' : C} (ha : a = a') (hb : b = b') (hc : c = c') :
    F a b c = F a' b' c' := by subst ha hb hc; rfl

end Real

/-! ## A row's maximum -/

theorem foldl_max_ne_top {ι : Type} (x : ι → EReal) (h : ∀ i, x i ≠ ⊤) :
    ∀ (l : List ι) (r : EReal), r ≠ ⊤ → l.foldl (fun r i => max r (x i)) r ≠ ⊤
  | [], _, hr => hr
  | i :: l, r, hr => foldl_max_ne_top x h l _ (by
    show max r (x i) ≠ ⊤
    rcases max_choice r (x i) with e | e
    · rw [e]; exact hr
    · rw [e]; exact h i)

theorem le_foldl_max {ι : Type} (x : ι → EReal) : ∀ (l : List ι) (r : EReal), r ≤ l.foldl (fun r i => max r (x i)) r
  | [], _ => le_rfl
  | i :: l, r => (le_max_left r (x i)).trans (le_foldl_max x l _)

theorem mem_le_foldl_max {ι : Type} (x : ι → EReal) {i : ι} : ∀ (l : List ι) (r : EReal), i ∈ l → x i ≤ l.foldl (fun r i => max r (x i)) r
  | j :: l, r, hi => by
    rcases List.mem_cons.mp hi with e | hl
    · subst e; exact (le_max_right r (x i)).trans (le_foldl_max x l _)
    · exact mem_le_foldl_max x l _ hl

/-- The maximum over the last axis is real where no element is `⊤` and the row has an element above `⊥`. -/
theorem max_real {a b n : ℕ} {u : Shape} (x : (⟨3, ![a, b, n]⟩ : Shape).Idx → EReal) (init : u.Idx → EReal)
    (h : (⟨3, ![a, b, n]⟩ : Shape).ReducesTo [2] ⟨2, ![a, b]⟩) (hu : 0 < u.numel) (hi : init (Shape.Idx.first hu) ≠ ⊤)
    (hx : ∀ i, x i ≠ ⊤) (i : Fin a) (j : Fin b) (k : Fin n) (hk : x (ix3 i j k) ≠ ⊥) :
    Host.reduce (FloatOps.maximumf (F := Ideal) (φ := .f32)) x init h hu (ix2 i j)
      = ((EReal.toReal (Host.reduce (FloatOps.maximumf (F := Ideal) (φ := .f32)) x init h hu (ix2 i j)) : ℝ) : EReal) := by
  refine (EReal.coe_toReal ?_ ?_).symm
  · rw [Host.reduce_eq_foldl]
    exact foldl_max_ne_top x hx _ _ hi
  · rw [Host.reduce_eq_foldl]
    refine ne_bot_of_le_ne_bot hk (mem_le_foldl_max x _ _ ?_)
    rw [List.mem_filter]
    refine ⟨List.mem_map.mpr ⟨Shape.rowMajor _ (ix3 i j k), List.mem_finRange _, Equiv.symm_apply_apply _ _⟩, ?_⟩
    rw [decide_eq_true_eq]
    refine Shape.idx_ext₂ ?_ ?_
    · rfl
    · rfl

/-- The host's sum over the first two axes. -/
theorem sum01 {a b n : ℕ} (x : (⟨3, ![a, b, n]⟩ : Shape).Idx → EReal) (init : EReal)
    (h : (⟨3, ![a, b, n]⟩ : Shape).ReducesTo [0, 1] ⟨1, ![n]⟩) (j : (⟨1, ![n]⟩ : Shape).Idx) :
    Ideal.hostReduceAdd h x init j = init + ∑ s : Fin a, ∑ t : Fin b, x (ix3 s t (j 0)) := by
  unfold Ideal.hostReduceAdd
  refine congrArg (init + ·) ?_
  rw [← Fintype.sum_prod_type (f := fun p : Fin a × Fin b => x (ix3 p.1 p.2 (j 0)))]
  have hd : ∀ i : (⟨3, ![a, b, n]⟩ : Shape).Idx, h.drop i = j ↔ i 2 = j 0 := fun i =>
    ⟨fun e => Fin.ext ((show (i 2).val = (h.drop i 0).val from rfl).trans (by rw [e])),
      fun e => funext fun c => Fin.ext (by
        match c with
        | ⟨0, _⟩ => exact (show (h.drop i 0).val = (i 2).val from rfl).trans (congrArg Fin.val e))⟩
  refine Finset.sum_nbij' (fun i => (i 0, i 1)) (fun p => ix3 p.1 p.2 (j 0)) (fun _ _ => Finset.mem_univ _)
    (fun p _ => Finset.mem_filter.mpr ⟨Finset.mem_univ _, (hd _).mpr rfl⟩) (fun i hi => ?_) (fun _ _ => rfl) (fun i hi => ?_)
  all_goals
    have e := (hd i).mp (Finset.mem_filter.mp hi).2
    first
      | exact (show ix3 (i 0) (i 1) (j 0) = i by rw [← e]; exact (eq_ix3 i).symm)
      | exact congrArg x (show i = ix3 (i 0) (i 1) (j 0) by rw [← e]; exact eq_ix3 i)

end Cert.Fox
-- ==== Proof.RefRead.lean ====
/- The reference program read at real arguments, one operation after another: each is an array of the reals that Math.lean names. -/
module

public import proofs.«01_k».proof.Proof.Args
public import proofs.«01_k».proof.Proof.Gen.ReferenceIdeal.Read
public import Idealize.ShloMosaic.Lib.KernelVsHost

@[expose] public section

noncomputable section

namespace Cert.Fox.Ref

open Idealize.ShloMosaic Idealize.ShloMosaic.ValueIdx Cert.ReferenceIdeal Cert.ReferenceIdeal.Gen

/-- The head and the lane of a column. -/
def hd (j : Fin 1024) : Fin 16 := ⟨j.val / 64, by omega⟩
def ln (j : Fin 1024) : Fin 64 := ⟨j.val % 64, by omega⟩

theorem twice (a x c : ℝ) : a + x * c + c * x = a + 2 * (x * c) := by ring

/-- The row's maximum. -/
def Mof (x0 : FVec Ideal ⟨2, ![2048, 3200]⟩ .f32) (x1 : FVec Ideal ⟨2, ![2048, 128]⟩ .f32) (x2 x3 : FVec Ideal ⟨2, ![1, 64]⟩ .f32)
    (h : Fin 16) (t : Fin 2048) : ℝ := EReal.toReal (Read.val_main_v57 (F := Ideal) x0 x1 x2 x3 (ix2 h t))

theorem masked_exp (H : Hd) (M : Fin 2048 → ℝ) (t k : Fin 2048) {a b : EReal} (ha : a = if k.val ≤ t.val then ((H.sc t k : ℝ) : EReal) else ⊥)
    (hb : b = ((M t : ℝ) : EReal)) :
    FloatOps.hostUnary (F := Ideal) (φ := .f32) .exp (FloatOps.subf (F := Ideal) (φ := .f32) a b) = ((H.e M t k : ℝ) : EReal) := by
  subst ha hb
  unfold Hd.e
  by_cases h : k.val ≤ t.val
  · rw [if_pos h, if_pos (show k ≤ t from h)]
    exact congrArg Ideal.exp (EReal.coe_sub _ _).symm
  · rw [if_neg h, if_neg (show ¬ k ≤ t from h)]
    exact (congrArg Ideal.exp (bot_sub_coe (M t))).trans rfl

theorem max_bot {a b : EReal} {m : ℝ} (ha : a = ⊥) (hb : b = (m : EReal)) : FloatOps.maximumf (F := Ideal) (φ := .f32) a b = (m : EReal) := by
  subst ha hb; exact max_eq_right bot_le

theorem sum_dC (H : Hd) (t : Fin 2048) : ∑ k, -H.dS k t + ∑ k, H.dS t k = H.dC t := by
  rw [Hd.sum_dS, add_zero, Finset.sum_neg_distrib]; rfl

variable {x0 : FVec Ideal ⟨2, ![2048, 3200]⟩ .f32} {x1 : FVec Ideal ⟨2, ![2048, 128]⟩ .f32} {x2 x3 : FVec Ideal ⟨2, ![1, 64]⟩ .f32}
  {x4 : FVec Ideal ⟨2, ![2048, 1024]⟩ .bf16} (w : Args x0 x1 x2 x3 x4)

include w in
theorem r1 (i : ReferenceIdeal.S2048x16x64.Idx) : Read.val_main_v1 (F := Ideal) x0 i = (((Hof x0 x1 x2 x3 x4 (i 1)).xq (i 0) (i 2) : ℝ) : EReal) :=
  by
  have h0 : (i 0).val < 2048 := (i 0).isLt
  have h1 : (i 1).val < 16 := (i 1).isLt
  have h2 : (i 2).val < 64 := (i 2).isLt
  rw [Read.val_main_v1_apply, Read.val_main_v0_apply]
  have e : Read.idx_main_v0 (Read.idx_main_v1 i) = ix2 (i 0) (⟨64 * (i 1).val + (i 2).val, by omega⟩ : Fin 3200) := by
    refine Shape.idx_ext₂ ?_ ?_
    · show (((i 0).val * 16 + (i 1).val) * 64 + (i 2).val) / 1024 = (i 0).val
      omega
    · show (((i 0).val * 16 + (i 1).val) * 64 + (i 2).val) % 1024 = 64 * (i 1).val + (i 2).val
      omega
  rw [e]
  exact w.p _ _ (by show 64 * (i 1).val + (i 2).val < 3072; omega)
include w in
theorem r3 (i : ReferenceIdeal.S2048x16x64.Idx) : Read.val_main_v3 (F := Ideal) x0 i = (((Hof x0 x1 x2 x3 x4 (i 1)).xk (i 0) (i 2) : ℝ) : EReal) :=
  by
  have h0 : (i 0).val < 2048 := (i 0).isLt
  have h1 : (i 1).val < 16 := (i 1).isLt
  have h2 : (i 2).val < 64 := (i 2).isLt
  rw [Read.val_main_v3_apply, Read.val_main_v2_apply]
  have e : Read.idx_main_v2 (Read.idx_main_v3 i) = ix2 (i 0) (⟨1024 + (64 * (i 1).val + (i 2).val), by omega⟩ : Fin 3200) := by
    refine Shape.idx_ext₂ ?_ ?_
    · show (((i 0).val * 16 + (i 1).val) * 64 + (i 2).val) / 1024 = (i 0).val
      omega
    · show 1024 + (((i 0).val * 16 + (i 1).val) * 64 + (i 2).val) % 1024 = 1024 + (64 * (i 1).val + (i 2).val)
      omega
  rw [e]
  exact w.p _ _ (by show 1024 + (64 * (i 1).val + (i 2).val) < 3072; omega)
include w in
theorem r5 (i : ReferenceIdeal.S2048x16x64.Idx) : Read.val_main_v5 (F := Ideal) x0 i = (((Hof x0 x1 x2 x3 x4 (i 1)).v (i 0) (i 2) : ℝ) : EReal) :=
  by
  have h0 : (i 0).val < 2048 := (i 0).isLt
  have h1 : (i 1).val < 16 := (i 1).isLt
  have h2 : (i 2).val < 64 := (i 2).isLt
  rw [Read.val_main_v5_apply, Read.val_main_v4_apply]
  have e : Read.idx_main_v4 (Read.idx_main_v5 i) = ix2 (i 0) (⟨2048 + (64 * (i 1).val + (i 2).val), by omega⟩ : Fin 3200) := by
    refine Shape.idx_ext₂ ?_ ?_
    · show (((i 0).val * 16 + (i 1).val) * 64 + (i 2).val) / 1024 = (i 0).val
      omega
    · show 2048 + (((i 0).val * 16 + (i 1).val) * 64 + (i 2).val) % 1024 = 2048 + (64 * (i 1).val + (i 2).val)
      omega
  rw [e]
  exact w.p _ _ (by show 2048 + (64 * (i 1).val + (i 2).val) < 3072; omega)
include w in
theorem r7 (i : ReferenceIdeal.S2048x16x64.Idx) : Read.val_main_v7 (F := Ideal) x4 i = (((Hof x0 x1 x2 x3 x4 (i 1)).o (i 0) (i 2) : ℝ) : EReal) :=
  by
  have h0 : (i 0).val < 2048 := (i 0).isLt
  have h1 : (i 1).val < 16 := (i 1).isLt
  have h2 : (i 2).val < 64 := (i 2).isLt
  rw [Read.val_main_v7_apply, Read.val_main_v6_apply]
  have e : Read.idx_main_v7 i = ix2 (i 0) (⟨64 * (i 1).val + (i 2).val, by omega⟩ : Fin 1024) := by
    refine Shape.idx_ext₂ ?_ ?_
    · show (((i 0).val * 16 + (i 1).val) * 64 + (i 2).val) / 1024 = (i 0).val
      omega
    · show (((i 0).val * 16 + (i 1).val) * 64 + (i 2).val) % 1024 = 64 * (i 1).val + (i 2).val
      omega
  rw [e]
  exact w.o _ _
include w in
theorem r9 (i : ReferenceIdeal.S16x2048.Idx) : Read.val_main_v9 (F := Ideal) x1 i = (((Hof x0 x1 x2 x3 x4 (i 0)).c (i 1) : ℝ) : EReal) :=
  by
  have h0 : (i 0).val < 16 := (i 0).isLt
  rw [Read.val_main_v9_apply, Read.val_main_v8_apply]
  have e : Read.idx_main_v8 (Read.idx_main_v9 i) = ix2 (i 1) (⟨(i 0).val, by omega⟩ : Fin 128) := Shape.idx_ext₂ rfl rfl
  rw [e]
  exact w.c _ _ h0
include w in
theorem r10 (i : ReferenceIdeal.S64.Idx) : Read.val_main_v10 (F := Ideal) x2 i = (((Hof x0 x1 x2 x3 x4 0).gq (i 0) : ℝ) : EReal) :=
  by
  have h0 : (i 0).val < 64 := (i 0).isLt
  rw [Read.val_main_v10_apply]
  have e : Read.idx_main_v10 i = ix2 (0 : Fin 1) (i 0) := by
    refine Shape.idx_ext₂ rfl ?_
    show (i 0).val % 64 = (i 0).val
    omega
  rw [e]
  exact w.gq _
include w in
theorem r11 (i : ReferenceIdeal.S64.Idx) : Read.val_main_v11 (F := Ideal) x3 i = (((Hof x0 x1 x2 x3 x4 0).gk (i 0) : ℝ) : EReal) :=
  by
  have h0 : (i 0).val < 64 := (i 0).isLt
  rw [Read.val_main_v11_apply]
  have e : Read.idx_main_v11 i = ix2 (0 : Fin 1) (i 0) := by
    refine Shape.idx_ext₂ rfl ?_
    show (i 0).val % 64 = (i 0).val
    omega
  rw [e]
  exact w.gk _
include w in
theorem r12 (i : ReferenceIdeal.S2048x16x64.Idx) : Read.val_main_v12 (F := Ideal) x0 i = (((Hof x0 x1 x2 x3 x4 (i 1)).xq (i 0) (i 2) * (Hof x0 x1 x2 x3 x4 (i 1)).xq (i 0) (i 2) : ℝ) : EReal) :=
  (Read.val_main_v12_apply _ i).trans (r_mul (r1 w _) (r1 w _))
include w in
theorem r13 (i : ReferenceIdeal.S2048x16.Idx) : Read.val_main_v13 (F := Ideal) x0 i = ((∑ k, (Hof x0 x1 x2 x3 x4 (i 1)).xq (i 0) k * (Hof x0 x1 x2 x3 x4 (i 1)).xq (i 0) k : ℝ) : EReal) :=
  (Read.val_main_v13_apply _ i).trans (r_sum ((Read.val_main_cst_apply _).trans ofBits_zero) fun k => r12 w _)
include w in
theorem r14 (i : ReferenceIdeal.S2048x16x1.Idx) : Read.val_main_v14 (F := Ideal) x0 i = ((∑ k, (Hof x0 x1 x2 x3 x4 (i 1)).xq (i 0) k * (Hof x0 x1 x2 x3 x4 (i 1)).xq (i 0) k : ℝ) : EReal) :=
  (Read.val_main_v14_apply _ i).trans (r13 w _)
include w in
theorem r15 (i : ReferenceIdeal.S2048x16x1.Idx) : Read.val_main_v15 (F := Ideal) i = ((64 : ℝ) : EReal) :=
  (Read.val_main_v15_apply i).trans ((Read.val_main_cst_0_apply _).trans ofBits_64)
include w in
theorem r16 (i : ReferenceIdeal.S2048x16x1.Idx) : Read.val_main_v16 (F := Ideal) x0 i = (((∑ k, (Hof x0 x1 x2 x3 x4 (i 1)).xq (i 0) k * (Hof x0 x1 x2 x3 x4 (i 1)).xq (i 0) k) / 64 : ℝ) : EReal) :=
  (Read.val_main_v16_apply _ i).trans (r_div (r14 w _) (r15 w _) (by norm_num))
include w in
theorem r17 (i : ReferenceIdeal.S2048x16x1.Idx) : Read.val_main_v17 (F := Ideal) i = ((eps : ℝ) : EReal) :=
  (Read.val_main_v17_apply i).trans ((Read.val_main_cst_1_apply _).trans ofBits_eps)
include w in
theorem r18 (i : ReferenceIdeal.S2048x16x1.Idx) : Read.val_main_v18 (F := Ideal) x0 i = ((ms (Hof x0 x1 x2 x3 x4 (i 1)).xq (i 0) : ℝ) : EReal) :=
  (Read.val_main_v18_apply _ i).trans (r_add (r16 w _) (r17 w _))
include w in
theorem r19 (i : ReferenceIdeal.S2048x16x1.Idx) : Read.val_main_v19 (F := Ideal) x0 i = ((rs (Hof x0 x1 x2 x3 x4 (i 1)).xq (i 0) : ℝ) : EReal) :=
  (Read.val_main_v19_apply _ i).trans (r_rsqrt (r18 w _) (ms_pos _ _))
include w in
theorem r20 (i : ReferenceIdeal.S2048x16x1.Idx) : Read.val_main_v20 (F := Ideal) x0 i = ((rs (Hof x0 x1 x2 x3 x4 (i 1)).xq (i 0) / ms (Hof x0 x1 x2 x3 x4 (i 1)).xq (i 0) : ℝ) : EReal) :=
  (Read.val_main_v20_apply _ i).trans (r_div (r19 w _) (r18 w _) (ms_pos _ _).ne')
include w in
theorem r21 (i : ReferenceIdeal.S2048x16x1.Idx) : Read.val_main_v21 (F := Ideal) i = ((-(1 / 2) : ℝ) : EReal) :=
  (Read.val_main_v21_apply i).trans ((Read.val_main_cst_2_apply _).trans ofBits_neg_half)
include w in
theorem r22 (i : ReferenceIdeal.S2048x16x1.Idx) : Read.val_main_v22 (F := Ideal) x0 i = ((sl (Hof x0 x1 x2 x3 x4 (i 1)).xq (i 0) : ℝ) : EReal) :=
  (Read.val_main_v22_apply _ i).trans (r_mul (r21 w _) (r20 w _))
include w in
theorem r23 (i : ReferenceIdeal.S2048x16x64.Idx) : Read.val_main_v23 (F := Ideal) x0 i = ((rs (Hof x0 x1 x2 x3 x4 (i 1)).xq (i 0) : ℝ) : EReal) :=
  (Read.val_main_v23_apply _ i).trans (r19 w _)
include w in
theorem r24 (i : ReferenceIdeal.S2048x16x64.Idx) : Read.val_main_v24 (F := Ideal) x0 i = ((xn (Hof x0 x1 x2 x3 x4 (i 1)).xq (i 0) (i 2) : ℝ) : EReal) :=
  (Read.val_main_v24_apply _ i).trans (r_mul (r1 w _) (r23 w _))
include w in
theorem r25 (i : ReferenceIdeal.S1x1x64.Idx) : Read.val_main_v25 (F := Ideal) x2 i = (((Hof x0 x1 x2 x3 x4 0).gq (i 2) : ℝ) : EReal) :=
  (Read.val_main_v25_apply _ i).trans (r10 w _)
include w in
theorem r26 (i : ReferenceIdeal.S2048x16x64.Idx) : Read.val_main_v26 (F := Ideal) x2 i = (((Hof x0 x1 x2 x3 x4 (i 1)).gq (i 2) : ℝ) : EReal) :=
  (Read.val_main_v26_apply _ i).trans (r25 w _)
include w in
theorem r27 (i : ReferenceIdeal.S2048x16x64.Idx) : Read.val_main_v27 (F := Ideal) x0 x2 i = (((Hof x0 x1 x2 x3 x4 (i 1)).qn (i 0) (i 2) : ℝ) : EReal) :=
  (Read.val_main_v27_apply _ _ i).trans (r_mul (r24 w _) (r26 w _))
include w in
theorem r28 (i : ReferenceIdeal.S2048x16x64.Idx) : Read.val_main_v28 (F := Ideal) x0 i = (((Hof x0 x1 x2 x3 x4 (i 1)).xk (i 0) (i 2) * (Hof x0 x1 x2 x3 x4 (i 1)).xk (i 0) (i 2) : ℝ) : EReal) :=
  (Read.val_main_v28_apply _ i).trans (r_mul (r3 w _) (r3 w _))
include w in
theorem r29 (i : ReferenceIdeal.S2048x16.Idx) : Read.val_main_v29 (F := Ideal) x0 i = ((∑ k, (Hof x0 x1 x2 x3 x4 (i 1)).xk (i 0) k * (Hof x0 x1 x2 x3 x4 (i 1)).xk (i 0) k : ℝ) : EReal) :=
  (Read.val_main_v29_apply _ i).trans (r_sum ((Read.val_main_cst_3_apply _).trans ofBits_zero) fun k => r28 w _)
include w in
theorem r30 (i : ReferenceIdeal.S2048x16x1.Idx) : Read.val_main_v30 (F := Ideal) x0 i = ((∑ k, (Hof x0 x1 x2 x3 x4 (i 1)).xk (i 0) k * (Hof x0 x1 x2 x3 x4 (i 1)).xk (i 0) k : ℝ) : EReal) :=
  (Read.val_main_v30_apply _ i).trans (r29 w _)
include w in
theorem r31 (i : ReferenceIdeal.S2048x16x1.Idx) : Read.val_main_v31 (F := Ideal) i = ((64 : ℝ) : EReal) :=
  (Read.val_main_v31_apply i).trans ((Read.val_main_cst_4_apply _).trans ofBits_64)
include w in
theorem r32 (i : ReferenceIdeal.S2048x16x1.Idx) : Read.val_main_v32 (F := Ideal) x0 i = (((∑ k, (Hof x0 x1 x2 x3 x4 (i 1)).xk (i 0) k * (Hof x0 x1 x2 x3 x4 (i 1)).xk (i 0) k) / 64 : ℝ) : EReal) :=
  (Read.val_main_v32_apply _ i).trans (r_div (r30 w _) (r31 w _) (by norm_num))
include w in
theorem r33 (i : ReferenceIdeal.S2048x16x1.Idx) : Read.val_main_v33 (F := Ideal) i = ((eps : ℝ) : EReal) :=
  (Read.val_main_v33_apply i).trans ((Read.val_main_cst_5_apply _).trans ofBits_eps)
include w in
theorem r34 (i : ReferenceIdeal.S2048x16x1.Idx) : Read.val_main_v34 (F := Ideal) x0 i = ((ms (Hof x0 x1 x2 x3 x4 (i 1)).xk (i 0) : ℝ) : EReal) :=
  (Read.val_main_v34_apply _ i).trans (r_add (r32 w _) (r33 w _))
include w in
theorem r35 (i : ReferenceIdeal.S2048x16x1.Idx) : Read.val_main_v35 (F := Ideal) x0 i = ((rs (Hof x0 x1 x2 x3 x4 (i 1)).xk (i 0) : ℝ) : EReal) :=
  (Read.val_main_v35_apply _ i).trans (r_rsqrt (r34 w _) (ms_pos _ _))
include w in
theorem r36 (i : ReferenceIdeal.S2048x16x1.Idx) : Read.val_main_v36 (F := Ideal) x0 i = ((rs (Hof x0 x1 x2 x3 x4 (i 1)).xk (i 0) / ms (Hof x0 x1 x2 x3 x4 (i 1)).xk (i 0) : ℝ) : EReal) :=
  (Read.val_main_v36_apply _ i).trans (r_div (r35 w _) (r34 w _) (ms_pos _ _).ne')
include w in
theorem r37 (i : ReferenceIdeal.S2048x16x1.Idx) : Read.val_main_v37 (F := Ideal) i = ((-(1 / 2) : ℝ) : EReal) :=
  (Read.val_main_v37_apply i).trans ((Read.val_main_cst_6_apply _).trans ofBits_neg_half)
include w in
theorem r38 (i : ReferenceIdeal.S2048x16x1.Idx) : Read.val_main_v38 (F := Ideal) x0 i = ((sl (Hof x0 x1 x2 x3 x4 (i 1)).xk (i 0) : ℝ) : EReal) :=
  (Read.val_main_v38_apply _ i).trans (r_mul (r37 w _) (r36 w _))
include w in
theorem r39 (i : ReferenceIdeal.S2048x16x64.Idx) : Read.val_main_v39 (F := Ideal) x0 i = ((rs (Hof x0 x1 x2 x3 x4 (i 1)).xk (i 0) : ℝ) : EReal) :=
  (Read.val_main_v39_apply _ i).trans (r35 w _)
include w in
theorem r40 (i : ReferenceIdeal.S2048x16x64.Idx) : Read.val_main_v40 (F := Ideal) x0 i = ((xn (Hof x0 x1 x2 x3 x4 (i 1)).xk (i 0) (i 2) : ℝ) : EReal) :=
  (Read.val_main_v40_apply _ i).trans (r_mul (r3 w _) (r39 w _))
include w in
theorem r41 (i : ReferenceIdeal.S1x1x64.Idx) : Read.val_main_v41 (F := Ideal) x3 i = (((Hof x0 x1 x2 x3 x4 0).gk (i 2) : ℝ) : EReal) :=
  (Read.val_main_v41_apply _ i).trans (r11 w _)
include w in
theorem r42 (i : ReferenceIdeal.S2048x16x64.Idx) : Read.val_main_v42 (F := Ideal) x3 i = (((Hof x0 x1 x2 x3 x4 (i 1)).gk (i 2) : ℝ) : EReal) :=
  (Read.val_main_v42_apply _ i).trans (r41 w _)
include w in
theorem r43 (i : ReferenceIdeal.S2048x16x64.Idx) : Read.val_main_v43 (F := Ideal) x0 x3 i = (((Hof x0 x1 x2 x3 x4 (i 1)).kn (i 0) (i 2) : ℝ) : EReal) :=
  (Read.val_main_v43_apply _ _ i).trans (r_mul (r40 w _) (r42 w _))
include w in
theorem r44 (i : ReferenceIdeal.S16x2048x2048.Idx) : Read.val_main_v44 (F := Ideal) x0 x2 x3 i = ((∑ k, (Hof x0 x1 x2 x3 x4 (i 0)).qn (i 1) k * (Hof x0 x1 x2 x3 x4 (i 0)).kn (i 2) k : ℝ) : EReal) :=
  (Read.val_main_v44_apply _ _ _ i).trans (r_dot (fun k => r27 w _) fun k => r43 w _)
include w in
theorem r45 (i : ReferenceIdeal.S16x2048x2048.Idx) : Read.val_main_v45 (F := Ideal) i = ((1 / 8 : ℝ) : EReal) :=
  (Read.val_main_v45_apply i).trans ((Read.val_main_cst_7_apply _).trans ofBits_eighth)
include w in
theorem r46 (i : ReferenceIdeal.S16x2048x2048.Idx) : Read.val_main_v46 (F := Ideal) x0 x2 x3 i = (((∑ k, (Hof x0 x1 x2 x3 x4 (i 0)).qn (i 1) k * (Hof x0 x1 x2 x3 x4 (i 0)).kn (i 2) k) * (1 / 8) : ℝ) : EReal) :=
  (Read.val_main_v46_apply _ _ _ i).trans (r_mul (r44 w _) (r45 w _))
include w in
theorem r47 (i : ReferenceIdeal.S16x2048x1.Idx) : Read.val_main_v47 (F := Ideal) x1 i = (((Hof x0 x1 x2 x3 x4 (i 0)).c (i 1) : ℝ) : EReal) :=
  (Read.val_main_v47_apply _ i).trans (r9 w _)
include w in
theorem r48 (i : ReferenceIdeal.S16x2048x2048.Idx) : Read.val_main_v48 (F := Ideal) x1 i = (((Hof x0 x1 x2 x3 x4 (i 0)).c (i 1) : ℝ) : EReal) :=
  (Read.val_main_v48_apply _ i).trans (r47 w _)
include w in
theorem r49 (i : ReferenceIdeal.S16x2048x2048.Idx) : Read.val_main_v49 (F := Ideal) x0 x1 x2 x3 i = (((∑ k, (Hof x0 x1 x2 x3 x4 (i 0)).qn (i 1) k * (Hof x0 x1 x2 x3 x4 (i 0)).kn (i 2) k) * (1 / 8) + (Hof x0 x1 x2 x3 x4 (i 0)).c (i 1) : ℝ) : EReal) :=
  (Read.val_main_v49_apply _ _ _ _ i).trans (r_add (r46 w _) (r48 w _))
include w in
theorem r50 (i : ReferenceIdeal.S16x1x2048.Idx) : Read.val_main_v50 (F := Ideal) x1 i = (((Hof x0 x1 x2 x3 x4 (i 0)).c (i 2) : ℝ) : EReal) :=
  (Read.val_main_v50_apply _ i).trans (r9 w _)
include w in
theorem r51 (i : ReferenceIdeal.S16x2048x2048.Idx) : Read.val_main_v51 (F := Ideal) x1 i = (((Hof x0 x1 x2 x3 x4 (i 0)).c (i 2) : ℝ) : EReal) :=
  (Read.val_main_v51_apply _ i).trans (r50 w _)
include w in
theorem r52 (i : ReferenceIdeal.S16x2048x2048.Idx) : Read.val_main_v52 (F := Ideal) x0 x1 x2 x3 i = (((Hof x0 x1 x2 x3 x4 (i 0)).sc (i 1) (i 2) : ℝ) : EReal) :=
  (Read.val_main_v52_apply _ _ _ _ i).trans (r_sub (r49 w _) (r51 w _))
include w in
theorem r55 (i : ReferenceIdeal.S16x2048x2048.Idx) : Read.val_main_v55 (F := Ideal) i = if (i 2).val ≤ (i 1).val then 1#1 else 0#1 := by
  have h1 : (i 1).val < 2048 := (i 1).isLt
  have h2 : (i 2).val < 2048 := (i 2).isLt
  rw [Read.val_main_v55_apply, Read.val_main_v53_apply, Read.val_main_v54_apply, WordCmp.cmpi_sle_ofNat (by omega) (by omega)]
  by_cases h : (i 2).val ≤ (i 1).val
  · rw [if_pos h, decide_eq_true h]; rfl
  · rw [if_neg h, decide_eq_false h]; rfl
include w in
theorem r56 (i : ReferenceIdeal.S16x2048x2048.Idx) : Read.val_main_v56_0 (F := Ideal) x0 x1 x2 x3 i
    = if (i 2).val ≤ (i 1).val then (((Hof x0 x1 x2 x3 x4 (i 0)).sc (i 1) (i 2) : ℝ) : EReal) else ⊥ := by
  rw [Read.val_main_v56_0_apply, r55 w, r52 w]
  split_ifs
  · exact select_one _ _
  · exact (select_zero _ _).trans ((Read.val_main_call0_v1_apply _).trans ofBits_neg_inf)
include w in
theorem r56_top (i : ReferenceIdeal.S16x2048x2048.Idx) : Read.val_main_v56_0 (F := Ideal) x0 x1 x2 x3 i ≠ ⊤ := by rw [r56 w]; split_ifs <;> simp
include w in
theorem r56_bot (h : Fin 16) (t : Fin 2048) : Read.val_main_v56_0 (F := Ideal) x0 x1 x2 x3 (ix3 h t t) ≠ ⊥ := by
  rw [r56 w, if_pos (le_refl _)]; simp
theorem r57_init : Read.val_main_cst_9 (F := Ideal) (Shape.Idx.first h_S_) ≠ ⊤ :=
  ne_of_eq_of_ne ((Read.val_main_cst_9_apply _).trans ofBits_neg_inf) bot_ne_top
include w in
theorem r57_at (h : Fin 16) (t : Fin 2048) : Read.val_main_v57 (F := Ideal) x0 x1 x2 x3 (ix2 h t) = ((Mof x0 x1 x2 x3 h t : ℝ) : EReal) :=
  max_real (Read.val_main_v56_0 (F := Ideal) x0 x1 x2 x3) _ reducesTo_S16x2048x2048_S16x2048_d2 h_S_ r57_init (r56_top w) h t t (r56_bot w h t)
include w in
theorem r57 (i : ReferenceIdeal.S16x2048.Idx) : Read.val_main_v57 (F := Ideal) x0 x1 x2 x3 i = ((Mof x0 x1 x2 x3 (i 0) (i 1) : ℝ) : EReal) :=
  by rw [eq_ix2 i]; exact r57_at w _ _
include w in
theorem r64 (i : ReferenceIdeal.S16x2048.Idx) : Read.val_main_v64 (F := Ideal) x0 x1 x2 x3 i = ((Mof x0 x1 x2 x3 (i 0) (i 1) : ℝ) : EReal) :=
  (Read.val_main_v64_apply _ _ _ _ i).trans (max_bot ((Read.val_main_v63_apply i).trans ((Read.val_main_cst_11_apply _).trans ofBits_neg_inf)) (r57 w i))
include w in
theorem r74 (i : ReferenceIdeal.S16x2048x1.Idx) : Read.val_main_v74 (F := Ideal) x0 x1 x2 x3 i = ((Mof x0 x1 x2 x3 (i 0) (i 1) : ℝ) : EReal) :=
  (Read.val_main_v74_apply _ _ _ _ i).trans (r64 w _)
include w in
theorem r75 (i : ReferenceIdeal.S16x2048x2048.Idx) : Read.val_main_v75 (F := Ideal) x0 x1 x2 x3 i = ((Mof x0 x1 x2 x3 (i 0) (i 1) : ℝ) : EReal) :=
  (Read.val_main_v75_apply _ _ _ _ i).trans (r74 w _)
include w in
theorem r77 (i : ReferenceIdeal.S16x2048x2048.Idx) : Read.val_main_v77 (F := Ideal) x0 x1 x2 x3 i = (((Hof x0 x1 x2 x3 x4 (i 0)).e (Mof x0 x1 x2 x3 (i 0)) (i 1) (i 2) : ℝ) : EReal) :=
  (Read.val_main_v77_apply _ _ _ _ i).trans ((congrArg _ (Read.val_main_v76_apply _ _ _ _ i)).trans (masked_exp _ _ (i 1) (i 2) (r56 w i) (r75 w i)))
include w in
theorem r78 (i : ReferenceIdeal.S16x2048.Idx) : Read.val_main_v78 (F := Ideal) x0 x1 x2 x3 i = (((Hof x0 x1 x2 x3 x4 (i 0)).ZM (Mof x0 x1 x2 x3 (i 0)) (i 1) : ℝ) : EReal) :=
  (Read.val_main_v78_apply _ _ _ _ i).trans (r_sum ((Read.val_main_cst_17_apply _).trans ofBits_zero) fun k => r77 w _)
include w in
theorem r79 (i : ReferenceIdeal.S16x2048x1.Idx) : Read.val_main_v79 (F := Ideal) x0 x1 x2 x3 i = (((Hof x0 x1 x2 x3 x4 (i 0)).ZM (Mof x0 x1 x2 x3 (i 0)) (i 1) : ℝ) : EReal) :=
  (Read.val_main_v79_apply _ _ _ _ i).trans (r78 w _)
include w in
theorem r80 (i : ReferenceIdeal.S16x2048x2048.Idx) : Read.val_main_v80 (F := Ideal) x0 x1 x2 x3 i = (((Hof x0 x1 x2 x3 x4 (i 0)).ZM (Mof x0 x1 x2 x3 (i 0)) (i 1) : ℝ) : EReal) :=
  (Read.val_main_v80_apply _ _ _ _ i).trans (r79 w _)
include w in
theorem r81 (i : ReferenceIdeal.S16x2048x2048.Idx) : Read.val_main_v81 (F := Ideal) x0 x1 x2 x3 i = (((Hof x0 x1 x2 x3 x4 (i 0)).P (i 1) (i 2) : ℝ) : EReal) :=
  ((Read.val_main_v81_apply _ _ _ _ i).trans (r_div (r77 w _) (r80 w _) (Hd.ZM_pos _ _ _).ne')).trans (congrArg _ (Hd.e_div _ _ _ _))
include w in
theorem r82 (i : ReferenceIdeal.S16x2048x1.Idx) : Read.val_main_v82 (F := Ideal) x0 x1 x2 x3 i = (((Hof x0 x1 x2 x3 x4 (i 0)).ZM (Mof x0 x1 x2 x3 (i 0)) (i 1) * (Hof x0 x1 x2 x3 x4 (i 0)).ZM (Mof x0 x1 x2 x3 (i 0)) (i 1) : ℝ) : EReal) :=
  (Read.val_main_v82_apply _ _ _ _ i).trans (r_mul (r79 w _) (r79 w _))
include w in
theorem r83 (i : ReferenceIdeal.S16x2048x1.Idx) : Read.val_main_v83 (F := Ideal) i = ((1 : ℝ) : EReal) :=
  (Read.val_main_v83_apply i).trans ((Read.val_main_cst_18_apply _).trans ofBits_one)
include w in
theorem r84 (i : ReferenceIdeal.S16x2048x1.Idx) : Read.val_main_v84 (F := Ideal) x0 x1 x2 x3 i = ((1 / ((Hof x0 x1 x2 x3 x4 (i 0)).ZM (Mof x0 x1 x2 x3 (i 0)) (i 1) * (Hof x0 x1 x2 x3 x4 (i 0)).ZM (Mof x0 x1 x2 x3 (i 0)) (i 1)) : ℝ) : EReal) :=
  (Read.val_main_v84_apply _ _ _ _ i).trans (r_div (r83 w _) (r82 w _) (mul_pos (Hd.ZM_pos _ _ _) (Hd.ZM_pos _ _ _)).ne')
include w in
theorem r87 (i : ReferenceIdeal.S16x64x2048.Idx) : Read.val_main_v87 (F := Ideal) x4 i = (((Hof x0 x1 x2 x3 x4 (i 0)).o (i 2) (i 1) : ℝ) : EReal) :=
  (Read.val_main_v87_apply _ i).trans (r7 w _)
include w in
theorem r88 (i : ReferenceIdeal.S16x2048x2048.Idx) : Read.val_main_v88 (F := Ideal) x0 x4 i = (((Hof x0 x1 x2 x3 x4 (i 0)).dP (i 1) (i 2) : ℝ) : EReal) :=
  (Read.val_main_v88_apply _ _ i).trans (r_dot (fun k => r87 w _) fun k => r5 w _)
include w in
theorem r89 (i : ReferenceIdeal.S16x64x2048.Idx) : Read.val_main_v89 (F := Ideal) x0 x1 x2 x3 x4 i = ((∑ t, (Hof x0 x1 x2 x3 x4 (i 0)).o t (i 1) * (Hof x0 x1 x2 x3 x4 (i 0)).P t (i 2) : ℝ) : EReal) :=
  (Read.val_main_v89_apply _ _ _ _ _ i).trans (r_dot (fun k => r87 w _) fun k => r81 w _)
include w in
theorem r90 (i : ReferenceIdeal.S2048x16x64.Idx) : Read.val_main_v90 (F := Ideal) x0 x1 x2 x3 x4 i = (((Hof x0 x1 x2 x3 x4 (i 1)).dV (i 0) (i 2) : ℝ) : EReal) :=
  ((Read.val_main_v90_apply _ _ _ _ _ i).trans (r89 w _)).trans (congrArg _ (Finset.sum_congr rfl fun t _ => mul_comm _ _))
include w in
theorem r91 (i : ReferenceIdeal.S16x2048x2048.Idx) : Read.val_main_v91 (F := Ideal) x0 x1 x2 x3 i = (((1 / ((Hof x0 x1 x2 x3 x4 (i 0)).ZM (Mof x0 x1 x2 x3 (i 0)) (i 1) * (Hof x0 x1 x2 x3 x4 (i 0)).ZM (Mof x0 x1 x2 x3 (i 0)) (i 1))) : ℝ) : EReal) :=
  (Read.val_main_v91_apply _ _ _ _ i).trans (r84 w _)
include w in
theorem r92 (i : ReferenceIdeal.S16x2048x2048.Idx) : Read.val_main_v92 (F := Ideal) x0 x1 x2 x3 x4 i = (((Hof x0 x1 x2 x3 x4 (i 0)).dP (i 1) (i 2) * (1 / ((Hof x0 x1 x2 x3 x4 (i 0)).ZM (Mof x0 x1 x2 x3 (i 0)) (i 1) * (Hof x0 x1 x2 x3 x4 (i 0)).ZM (Mof x0 x1 x2 x3 (i 0)) (i 1))) : ℝ) : EReal) :=
  (Read.val_main_v92_apply _ _ _ _ _ i).trans (r_mul (r88 w _) (r91 w _))
include w in
theorem r93 (i : ReferenceIdeal.S16x2048x2048.Idx) : Read.val_main_v93 (F := Ideal) x0 x1 x2 x3 x4 i = (((Hof x0 x1 x2 x3 x4 (i 0)).dP (i 1) (i 2) * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) (i 2) : ℝ) : EReal) :=
  (Read.val_main_v93_apply _ _ _ _ _ i).trans (r_mul (r92 w _) (r77 w _))
include w in
theorem r94 (i : ReferenceIdeal.S16x2048.Idx) : Read.val_main_v94 (F := Ideal) x0 x1 x2 x3 x4 i = ((∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k : ℝ) : EReal) :=
  (Read.val_main_v94_apply _ _ _ _ _ i).trans (r_sum ((Read.val_main_cst_19_apply _).trans ofBits_zero) fun k => r93 w _)
include w in
theorem r95 (i : ReferenceIdeal.S16x2048x1.Idx) : Read.val_main_v95 (F := Ideal) x0 x1 x2 x3 x4 i = ((∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k : ℝ) : EReal) :=
  by
  have h0 : (i 0).val < 16 := (i 0).isLt; have h1 : (i 1).val < 2048 := (i 1).isLt; have h2 : (i 2).val < 1 := (i 2).isLt
  have e0 : (Read.idx_main_v95 i 0).val = (i 0).val := by show (((i 0).val * 2048 + (i 1).val) * 1 + (i 2).val) / 2048 = (i 0).val; omega
  have e1 : (Read.idx_main_v95 i 1).val = (i 1).val := by show (((i 0).val * 2048 + (i 1).val) * 1 + (i 2).val) % 2048 = (i 1).val; omega
  rw [Read.val_main_v95_apply, show Read.idx_main_v95 i = ix2 (i 0) (i 1) from Shape.idx_ext₂ e0 e1]
  exact r94 w _
include w in
theorem r96 (i : ReferenceIdeal.S16x2048x1.Idx) : Read.val_main_v96 (F := Ideal) x0 x1 x2 x3 x4 i = ((-(∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k) : ℝ) : EReal) :=
  (Read.val_main_v96_apply _ _ _ _ _ i).trans (r_neg (r95 w _))
include w in
theorem r97 (i : ReferenceIdeal.S16x2048x2048.Idx) : Read.val_main_v97 (F := Ideal) x0 x1 x2 x3 i = (((Hof x0 x1 x2 x3 x4 (i 0)).ZM (Mof x0 x1 x2 x3 (i 0)) (i 1) : ℝ) : EReal) :=
  (Read.val_main_v97_apply _ _ _ _ i).trans (r79 w _)
include w in
theorem r98 (i : ReferenceIdeal.S16x2048x2048.Idx) : Read.val_main_v98 (F := Ideal) x0 x1 x2 x3 x4 i = (((Hof x0 x1 x2 x3 x4 (i 0)).dP (i 1) (i 2) / (Hof x0 x1 x2 x3 x4 (i 0)).ZM (Mof x0 x1 x2 x3 (i 0)) (i 1) : ℝ) : EReal) :=
  (Read.val_main_v98_apply _ _ _ _ _ i).trans (r_div (r88 w _) (r97 w _) (Hd.ZM_pos _ _ _).ne')
include w in
theorem r99 (i : ReferenceIdeal.S16x2048.Idx) : Read.val_main_v99 (F := Ideal) x0 x1 x2 x3 x4 i = ((-(∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k) : ℝ) : EReal) :=
  ((Read.val_main_v99_apply _ _ _ _ _ i).trans (r_sum ((Read.val_main_cst_20_apply _).trans ofBits_zero) fun k => r96 w _)).trans (congrArg _ (Fintype.sum_unique _))
include w in
theorem r100 (i : ReferenceIdeal.S16x2048x2048.Idx) : Read.val_main_v100 (F := Ideal) x0 x1 x2 x3 x4 i = ((-(∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k) : ℝ) : EReal) :=
  (Read.val_main_v100_apply _ _ _ _ _ i).trans (r99 w _)
include w in
theorem r101 (i : ReferenceIdeal.S16x2048x2048.Idx) : Read.val_main_v101 (F := Ideal) x0 x1 x2 x3 x4 i = (((Hof x0 x1 x2 x3 x4 (i 0)).dP (i 1) (i 2) / (Hof x0 x1 x2 x3 x4 (i 0)).ZM (Mof x0 x1 x2 x3 (i 0)) (i 1) + -(∑ k, (Hof x0 x1 x2 x3 x4 (i 0)).dP (i 1) k * (1 / ((Hof x0 x1 x2 x3 x4 (i 0)).ZM (Mof x0 x1 x2 x3 (i 0)) (i 1) * (Hof x0 x1 x2 x3 x4 (i 0)).ZM (Mof x0 x1 x2 x3 (i 0)) (i 1))) * (Hof x0 x1 x2 x3 x4 (i 0)).e (Mof x0 x1 x2 x3 (i 0)) (i 1) k) : ℝ) : EReal) :=
  (Read.val_main_v101_apply _ _ _ _ _ i).trans (r_add (r98 w _) (r100 w _))
include w in
theorem r102 (i : ReferenceIdeal.S16x2048x2048.Idx) : Read.val_main_v102 (F := Ideal) x0 x1 x2 x3 x4 i = (((Hof x0 x1 x2 x3 x4 (i 0)).dS (i 1) (i 2) : ℝ) : EReal) :=
  ((Read.val_main_v102_apply _ _ _ _ _ i).trans (r_mul (r101 w _) (r77 w _))).trans (congrArg _ (Hd.dS_ref _ _ _ _))
include w in
theorem r103 (i : ReferenceIdeal.S16x2048x2048.Idx) : Read.val_main_v103 (F := Ideal) x0 x1 x2 x3 x4 i = (((Hof x0 x1 x2 x3 x4 (i 0)).dS (i 1) (i 2) : ℝ) : EReal) :=
  by
  rw [Read.val_main_v103_apply, r55 w, r102 w]
  split_ifs with h
  · exact select_one _ _
  · rw [Hd.dS_of_lt _ (show (i 1 : Fin 2048) < (i 2 : Fin 2048) from not_le.mp h)]
    exact (select_zero _ _).trans ((Read.val_main_call1_v0_apply _).trans ofBits_zero)
include w in
theorem r104 (i : ReferenceIdeal.S16x2048x2048.Idx) : Read.val_main_v104 (F := Ideal) x0 x1 x2 x3 x4 i = ((-(Hof x0 x1 x2 x3 x4 (i 0)).dS (i 1) (i 2) : ℝ) : EReal) :=
  (Read.val_main_v104_apply _ _ _ _ _ i).trans (r_neg (r103 w _))
include w in
theorem r105 (i : ReferenceIdeal.S16x2048.Idx) : Read.val_main_v105 (F := Ideal) x0 x1 x2 x3 x4 i = ((∑ t, -(Hof x0 x1 x2 x3 x4 (i 0)).dS t (i 1) : ℝ) : EReal) :=
  (Read.val_main_v105_apply _ _ _ _ _ i).trans (r_sum ((Read.val_main_cst_21_apply _).trans ofBits_zero) fun k => r104 w _)
include w in
theorem r106 (i : ReferenceIdeal.S16x1x2048.Idx) : Read.val_main_v106 (F := Ideal) x0 x1 x2 x3 x4 i = ((∑ t, -(Hof x0 x1 x2 x3 x4 (i 0)).dS t (i 2) : ℝ) : EReal) :=
  by
  have h0 : (i 0).val < 16 := (i 0).isLt; have h1 : (i 1).val < 1 := (i 1).isLt; have h2 : (i 2).val < 2048 := (i 2).isLt
  have e0 : (Read.idx_main_v106 i 0).val = (i 0).val := by show (((i 0).val * 1 + (i 1).val) * 2048 + (i 2).val) / 2048 = (i 0).val; omega
  have e1 : (Read.idx_main_v106 i 1).val = (i 2).val := by show (((i 0).val * 1 + (i 1).val) * 2048 + (i 2).val) % 2048 = (i 2).val; omega
  rw [Read.val_main_v106_apply, show Read.idx_main_v106 i = ix2 (i 0) (i 2) from Shape.idx_ext₂ e0 e1]
  exact r105 w _
include w in
theorem r107 (i : ReferenceIdeal.S16x2048.Idx) : Read.val_main_v107 (F := Ideal) x0 x1 x2 x3 x4 i = ((∑ t, -(Hof x0 x1 x2 x3 x4 (i 0)).dS t (i 1) : ℝ) : EReal) :=
  ((Read.val_main_v107_apply _ _ _ _ _ i).trans (r_sum ((Read.val_main_cst_22_apply _).trans ofBits_zero) fun k => r106 w _)).trans (congrArg _ (Fintype.sum_unique _))
include w in
theorem r108 (i : ReferenceIdeal.S16x2048.Idx) : Read.val_main_v108 (F := Ideal) x0 x1 x2 x3 x4 i = ((∑ k, (Hof x0 x1 x2 x3 x4 (i 0)).dS (i 1) k : ℝ) : EReal) :=
  (Read.val_main_v108_apply _ _ _ _ _ i).trans (r_sum ((Read.val_main_cst_23_apply _).trans ofBits_zero) fun k => r103 w _)
include w in
theorem r109 (i : ReferenceIdeal.S16x2048x1.Idx) : Read.val_main_v109 (F := Ideal) x0 x1 x2 x3 x4 i = ((∑ k, (Hof x0 x1 x2 x3 x4 (i 0)).dS (i 1) k : ℝ) : EReal) :=
  by
  have h0 : (i 0).val < 16 := (i 0).isLt; have h1 : (i 1).val < 2048 := (i 1).isLt; have h2 : (i 2).val < 1 := (i 2).isLt
  have e0 : (Read.idx_main_v109 i 0).val = (i 0).val := by show (((i 0).val * 2048 + (i 1).val) * 1 + (i 2).val) / 2048 = (i 0).val; omega
  have e1 : (Read.idx_main_v109 i 1).val = (i 1).val := by show (((i 0).val * 2048 + (i 1).val) * 1 + (i 2).val) % 2048 = (i 1).val; omega
  rw [Read.val_main_v109_apply, show Read.idx_main_v109 i = ix2 (i 0) (i 1) from Shape.idx_ext₂ e0 e1]
  exact r108 w _
include w in
theorem r110 (i : ReferenceIdeal.S16x2048.Idx) : Read.val_main_v110 (F := Ideal) x0 x1 x2 x3 x4 i = ((∑ k, (Hof x0 x1 x2 x3 x4 (i 0)).dS (i 1) k : ℝ) : EReal) :=
  ((Read.val_main_v110_apply _ _ _ _ _ i).trans (r_sum ((Read.val_main_cst_24_apply _).trans ofBits_zero) fun k => r109 w _)).trans (congrArg _ (Fintype.sum_unique _))
include w in
theorem r111 (i : ReferenceIdeal.S16x2048.Idx) : Read.val_main_v111 (F := Ideal) x0 x1 x2 x3 x4 i = (((Hof x0 x1 x2 x3 x4 (i 0)).dC (i 1) : ℝ) : EReal) :=
  ((Read.val_main_v111_apply _ _ _ _ _ i).trans (r_add (r107 w _) (r110 w _))).trans (congrArg _ (sum_dC _ _))
include w in
theorem r112 (i : ReferenceIdeal.S16x2048x2048.Idx) : Read.val_main_v112 (F := Ideal) i = ((1 / 8 : ℝ) : EReal) :=
  (Read.val_main_v112_apply i).trans ((Read.val_main_cst_25_apply _).trans ofBits_eighth)
include w in
theorem r113 (i : ReferenceIdeal.S16x2048x2048.Idx) : Read.val_main_v113 (F := Ideal) x0 x1 x2 x3 x4 i = (((Hof x0 x1 x2 x3 x4 (i 0)).dS (i 1) (i 2) * (1 / 8) : ℝ) : EReal) :=
  (Read.val_main_v113_apply _ _ _ _ _ i).trans (r_mul (r103 w _) (r112 w _))
include w in
theorem r114 (i : ReferenceIdeal.S16x2048x64.Idx) : Read.val_main_v114 (F := Ideal) x0 x1 x2 x3 x4 i = (((Hof x0 x1 x2 x3 x4 (i 0)).dNk (i 1) (i 2) : ℝ) : EReal) :=
  ((Read.val_main_v114_apply _ _ _ _ _ i).trans (r_dot (fun k => r113 w _) fun k => r27 w _)).trans (congrArg _ ((Finset.sum_congr rfl fun t _ => mul_right_comm _ _ _).trans (Finset.sum_mul _ _ _).symm))
include w in
theorem r115 (i : ReferenceIdeal.S2048x16x64.Idx) : Read.val_main_v115 (F := Ideal) x0 x1 x2 x3 x4 i = (((Hof x0 x1 x2 x3 x4 (i 1)).dNk (i 0) (i 2) : ℝ) : EReal) :=
  (Read.val_main_v115_apply _ _ _ _ _ i).trans (r114 w _)
include w in
theorem r116 (i : ReferenceIdeal.S16x2048x64.Idx) : Read.val_main_v116 (F := Ideal) x0 x1 x2 x3 x4 i = (((Hof x0 x1 x2 x3 x4 (i 0)).dNq (i 1) (i 2) : ℝ) : EReal) :=
  ((Read.val_main_v116_apply _ _ _ _ _ i).trans (r_dot (fun k => r113 w _) fun k => r43 w _)).trans (congrArg _ ((Finset.sum_congr rfl fun t _ => mul_right_comm _ _ _).trans (Finset.sum_mul _ _ _).symm))
include w in
theorem r117 (i : ReferenceIdeal.S2048x16x64.Idx) : Read.val_main_v117 (F := Ideal) x0 x1 x2 x3 x4 i = (((Hof x0 x1 x2 x3 x4 (i 1)).dNq (i 0) (i 2) : ℝ) : EReal) :=
  (Read.val_main_v117_apply _ _ _ _ _ i).trans (r116 w _)
include w in
theorem r118 (i : ReferenceIdeal.S2048x16x64.Idx) : Read.val_main_v118 (F := Ideal) x0 x1 x2 x3 x4 i = ((xn (Hof x0 x1 x2 x3 x4 (i 1)).xk (i 0) (i 2) * (Hof x0 x1 x2 x3 x4 (i 1)).dNk (i 0) (i 2) : ℝ) : EReal) :=
  (Read.val_main_v118_apply _ _ _ _ _ i).trans (r_mul (r40 w _) (r115 w _))
include w in
theorem r119 (i : ReferenceIdeal.S64.Idx) : Read.val_main_v119 (F := Ideal) x0 x1 x2 x3 x4 i
    = ((∑ t : Fin 2048, ∑ h : Fin 16, xn (Hof x0 x1 x2 x3 x4 h).xk t (i 0) * (Hof x0 x1 x2 x3 x4 h).dNk t (i 0) : ℝ) : EReal) := by
  unfold Read.val_main_v119
  refine (sum01 _ _ reducesTo_S2048x16x64_S64_d0_1 i).trans (r_sum ((Read.val_main_cst_26_apply _).trans ofBits_zero) fun t => ?_)
  rw [← coe_sum]
  exact Finset.sum_congr rfl fun h _ => r118 w (ix3 t h (i 0))
include w in
theorem r120 (i : ReferenceIdeal.S1x1x64.Idx) : Read.val_main_v120 (F := Ideal) x0 x1 x2 x3 x4 i = ((∑ t : Fin 2048, ∑ h : Fin 16, xn (Hof x0 x1 x2 x3 x4 h).xk t (i 2) * (Hof x0 x1 x2 x3 x4 h).dNk t (i 2) : ℝ) : EReal) :=
  by
  have h0 : (i 0).val < 1 := (i 0).isLt; have h1 : (i 1).val < 1 := (i 1).isLt; have h2 : (i 2).val < 64 := (i 2).isLt
  have e0 : (Read.idx_main_v120 i 0).val = (i 2).val := by show ((i 0).val * 1 + (i 1).val) * 64 + (i 2).val = (i 2).val; omega
  rw [Read.val_main_v120_apply, show Read.idx_main_v120 i = ix1 (i 2) from funext fun a => Fin.ext (match a with | ⟨0, _⟩ => e0)]
  exact r119 w _
include w in
theorem r121 (i : ReferenceIdeal.S2048x16x64.Idx) : Read.val_main_v121 (F := Ideal) x3 i = (((Hof x0 x1 x2 x3 x4 (i 1)).gk (i 2) : ℝ) : EReal) :=
  (Read.val_main_v121_apply _ i).trans (r41 w _)
include w in
theorem r122 (i : ReferenceIdeal.S2048x16x64.Idx) : Read.val_main_v122 (F := Ideal) x0 x1 x2 x3 x4 i = (((Hof x0 x1 x2 x3 x4 (i 1)).dNk (i 0) (i 2) * (Hof x0 x1 x2 x3 x4 (i 1)).gk (i 2) : ℝ) : EReal) :=
  (Read.val_main_v122_apply _ _ _ _ _ i).trans (r_mul (r115 w _) (r121 w _))
include w in
theorem r123 (i : ReferenceIdeal.S64.Idx) : Read.val_main_v123 (F := Ideal) x0 x1 x2 x3 x4 i = ((∑ h : Fin 16, (Hof x0 x1 x2 x3 x4 h).dGk (i 0) : ℝ) : EReal) := by
  unfold Read.val_main_v123
  refine (sum01 _ _ reducesTo_S1x1x64_S64_d0_1 i).trans ((r_sum (y := fun _ => ∑ h : Fin 16, (Hof x0 x1 x2 x3 x4 h).dGk (i 0)) ((Read.val_main_cst_27_apply _).trans ofBits_zero) fun t => ?_).trans (congrArg _ (Fintype.sum_unique _)))
  rw [Fintype.sum_unique, r120 w]
  exact congrArg _ Finset.sum_comm
include w in
theorem r124 (i : ReferenceIdeal.S2048x16x64.Idx) : Read.val_main_v124 (F := Ideal) x0 x1 x2 x3 x4 i = (((Hof x0 x1 x2 x3 x4 (i 1)).xk (i 0) (i 2) * ((Hof x0 x1 x2 x3 x4 (i 1)).dNk (i 0) (i 2) * (Hof x0 x1 x2 x3 x4 (i 1)).gk (i 2)) : ℝ) : EReal) :=
  (Read.val_main_v124_apply _ _ _ _ _ i).trans (r_mul (r3 w _) (r122 w _))
include w in
theorem r125 (i : ReferenceIdeal.S2048x16.Idx) : Read.val_main_v125 (F := Ideal) x0 x1 x2 x3 x4 i = ((∑ k, (Hof x0 x1 x2 x3 x4 (i 1)).xk (i 0) k * ((Hof x0 x1 x2 x3 x4 (i 1)).dNk (i 0) k * (Hof x0 x1 x2 x3 x4 (i 1)).gk k) : ℝ) : EReal) :=
  (Read.val_main_v125_apply _ _ _ _ _ i).trans (r_sum ((Read.val_main_cst_28_apply _).trans ofBits_zero) fun k => r124 w _)
include w in
theorem r126 (i : ReferenceIdeal.S2048x16x1.Idx) : Read.val_main_v126 (F := Ideal) x0 x1 x2 x3 x4 i = ((∑ k, (Hof x0 x1 x2 x3 x4 (i 1)).xk (i 0) k * ((Hof x0 x1 x2 x3 x4 (i 1)).dNk (i 0) k * (Hof x0 x1 x2 x3 x4 (i 1)).gk k) : ℝ) : EReal) :=
  by
  have h0 : (i 0).val < 2048 := (i 0).isLt; have h1 : (i 1).val < 16 := (i 1).isLt; have h2 : (i 2).val < 1 := (i 2).isLt
  have e0 : (Read.idx_main_v126 i 0).val = (i 0).val := by show (((i 0).val * 16 + (i 1).val) * 1 + (i 2).val) / 16 = (i 0).val; omega
  have e1 : (Read.idx_main_v126 i 1).val = (i 1).val := by show (((i 0).val * 16 + (i 1).val) * 1 + (i 2).val) % 16 = (i 1).val; omega
  rw [Read.val_main_v126_apply, show Read.idx_main_v126 i = ix2 (i 0) (i 1) from Shape.idx_ext₂ e0 e1]
  exact r125 w _
include w in
theorem r127 (i : ReferenceIdeal.S2048x16x64.Idx) : Read.val_main_v127 (F := Ideal) x0 i = ((rs (Hof x0 x1 x2 x3 x4 (i 1)).xk (i 0) : ℝ) : EReal) :=
  (Read.val_main_v127_apply _ i).trans (r35 w _)
include w in
theorem r128 (i : ReferenceIdeal.S2048x16x64.Idx) : Read.val_main_v128 (F := Ideal) x0 x1 x2 x3 x4 i = (((Hof x0 x1 x2 x3 x4 (i 1)).dNk (i 0) (i 2) * (Hof x0 x1 x2 x3 x4 (i 1)).gk (i 2) * rs (Hof x0 x1 x2 x3 x4 (i 1)).xk (i 0) : ℝ) : EReal) :=
  (Read.val_main_v128_apply _ _ _ _ _ i).trans (r_mul (r122 w _) (r127 w _))
include w in
theorem r129 (i : ReferenceIdeal.S2048x16x1.Idx) : Read.val_main_v129 (F := Ideal) x0 x1 x2 x3 x4 i = (((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) : ℝ) : EReal) :=
  (Read.val_main_v129_apply _ _ _ _ _ i).trans (r_mul (r126 w _) (r38 w _))
include w in
theorem r130 (i : ReferenceIdeal.S2048x16x1.Idx) : Read.val_main_v130 (F := Ideal) i = ((64 : ℝ) : EReal) :=
  (Read.val_main_v130_apply i).trans ((Read.val_main_cst_29_apply _).trans ofBits_64)
include w in
theorem r131 (i : ReferenceIdeal.S2048x16x1.Idx) : Read.val_main_v131 (F := Ideal) x0 x1 x2 x3 x4 i = (((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64 : ℝ) : EReal) :=
  (Read.val_main_v131_apply _ _ _ _ _ i).trans (r_div (r129 w _) (r130 w _) (by norm_num))
include w in
theorem r132 (i : ReferenceIdeal.S2048x16.Idx) : Read.val_main_v132 (F := Ideal) x0 x1 x2 x3 x4 i = (((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64 : ℝ) : EReal) :=
  ((Read.val_main_v132_apply _ _ _ _ _ i).trans (r_sum ((Read.val_main_cst_30_apply _).trans ofBits_zero) fun k => r131 w _)).trans (congrArg _ (Fintype.sum_unique _))
include w in
theorem r133 (i : ReferenceIdeal.S2048x16x64.Idx) : Read.val_main_v133 (F := Ideal) x0 x1 x2 x3 x4 i = (((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64 : ℝ) : EReal) :=
  (Read.val_main_v133_apply _ _ _ _ _ i).trans (r132 w _)
include w in
theorem r134 (i : ReferenceIdeal.S2048x16x64.Idx) : Read.val_main_v134 (F := Ideal) x0 x1 x2 x3 x4 i = (((Hof x0 x1 x2 x3 x4 (i 1)).xk (i 0) (i 2) * ((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64) : ℝ) : EReal) :=
  (Read.val_main_v134_apply _ _ _ _ _ i).trans (r_mul (r3 w _) (r133 w _))
include w in
theorem r135 (i : ReferenceIdeal.S2048x16x64.Idx) : Read.val_main_v135 (F := Ideal) x0 x1 x2 x3 x4 i = (((Hof x0 x1 x2 x3 x4 (i 1)).dNk (i 0) (i 2) * (Hof x0 x1 x2 x3 x4 (i 1)).gk (i 2) * rs (Hof x0 x1 x2 x3 x4 (i 1)).xk (i 0) + (Hof x0 x1 x2 x3 x4 (i 1)).xk (i 0) (i 2) * ((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64) : ℝ) : EReal) :=
  (Read.val_main_v135_apply _ _ _ _ _ i).trans (r_add (r128 w _) (r134 w _))
include w in
theorem r136 (i : ReferenceIdeal.S2048x16x64.Idx) : Read.val_main_v136 (F := Ideal) x0 x1 x2 x3 x4 i = ((((∑ k, (Hof x0 x1 x2 x3 x4 (i 1)).xk (i 0) k * ((Hof x0 x1 x2 x3 x4 (i 1)).dNk (i 0) k * (Hof x0 x1 x2 x3 x4 (i 1)).gk k)) * sl (Hof x0 x1 x2 x3 x4 (i 1)).xk (i 0) / 64) * (Hof x0 x1 x2 x3 x4 (i 1)).xk (i 0) (i 2) : ℝ) : EReal) :=
  (Read.val_main_v136_apply _ _ _ _ _ i).trans (r_mul (r133 w _) (r3 w _))
include w in
theorem r137 (i : ReferenceIdeal.S2048x16x64.Idx) : Read.val_main_v137 (F := Ideal) x0 x1 x2 x3 x4 i = (((Hof x0 x1 x2 x3 x4 (i 1)).dK (i 0) (i 2) : ℝ) : EReal) :=
  ((Read.val_main_v137_apply _ _ _ _ _ i).trans (r_add (r135 w _) (r136 w _))).trans (congrArg _ (twice _ _ _))
include w in
theorem r138 (i : ReferenceIdeal.S2048x16x64.Idx) : Read.val_main_v138 (F := Ideal) x0 x1 x2 x3 x4 i = ((xn (Hof x0 x1 x2 x3 x4 (i 1)).xq (i 0) (i 2) * (Hof x0 x1 x2 x3 x4 (i 1)).dNq (i 0) (i 2) : ℝ) : EReal) :=
  (Read.val_main_v138_apply _ _ _ _ _ i).trans (r_mul (r24 w _) (r117 w _))
include w in
theorem r139 (i : ReferenceIdeal.S64.Idx) : Read.val_main_v139 (F := Ideal) x0 x1 x2 x3 x4 i
    = ((∑ t : Fin 2048, ∑ h : Fin 16, xn (Hof x0 x1 x2 x3 x4 h).xq t (i 0) * (Hof x0 x1 x2 x3 x4 h).dNq t (i 0) : ℝ) : EReal) := by
  unfold Read.val_main_v139
  refine (sum01 _ _ reducesTo_S2048x16x64_S64_d0_1 i).trans (r_sum ((Read.val_main_cst_31_apply _).trans ofBits_zero) fun t => ?_)
  rw [← coe_sum]
  exact Finset.sum_congr rfl fun h _ => r138 w (ix3 t h (i 0))
include w in
theorem r140 (i : ReferenceIdeal.S1x1x64.Idx) : Read.val_main_v140 (F := Ideal) x0 x1 x2 x3 x4 i = ((∑ t : Fin 2048, ∑ h : Fin 16, xn (Hof x0 x1 x2 x3 x4 h).xq t (i 2) * (Hof x0 x1 x2 x3 x4 h).dNq t (i 2) : ℝ) : EReal) :=
  by
  have h0 : (i 0).val < 1 := (i 0).isLt; have h1 : (i 1).val < 1 := (i 1).isLt; have h2 : (i 2).val < 64 := (i 2).isLt
  have e0 : (Read.idx_main_v140 i 0).val = (i 2).val := by show ((i 0).val * 1 + (i 1).val) * 64 + (i 2).val = (i 2).val; omega
  rw [Read.val_main_v140_apply, show Read.idx_main_v140 i = ix1 (i 2) from funext fun a => Fin.ext (match a with | ⟨0, _⟩ => e0)]
  exact r139 w _
include w in
theorem r141 (i : ReferenceIdeal.S2048x16x64.Idx) : Read.val_main_v141 (F := Ideal) x2 i = (((Hof x0 x1 x2 x3 x4 (i 1)).gq (i 2) : ℝ) : EReal) :=
  (Read.val_main_v141_apply _ i).trans (r25 w _)
include w in
theorem r142 (i : ReferenceIdeal.S2048x16x64.Idx) : Read.val_main_v142 (F := Ideal) x0 x1 x2 x3 x4 i = (((Hof x0 x1 x2 x3 x4 (i 1)).dNq (i 0) (i 2) * (Hof x0 x1 x2 x3 x4 (i 1)).gq (i 2) : ℝ) : EReal) :=
  (Read.val_main_v142_apply _ _ _ _ _ i).trans (r_mul (r117 w _) (r141 w _))
include w in
theorem r143 (i : ReferenceIdeal.S64.Idx) : Read.val_main_v143 (F := Ideal) x0 x1 x2 x3 x4 i = ((∑ h : Fin 16, (Hof x0 x1 x2 x3 x4 h).dGq (i 0) : ℝ) : EReal) := by
  unfold Read.val_main_v143
  refine (sum01 _ _ reducesTo_S1x1x64_S64_d0_1 i).trans ((r_sum (y := fun _ => ∑ h : Fin 16, (Hof x0 x1 x2 x3 x4 h).dGq (i 0)) ((Read.val_main_cst_32_apply _).trans ofBits_zero) fun t => ?_).trans (congrArg _ (Fintype.sum_unique _)))
  rw [Fintype.sum_unique, r140 w]
  exact congrArg _ Finset.sum_comm
include w in
theorem r144 (i : ReferenceIdeal.S2048x16x64.Idx) : Read.val_main_v144 (F := Ideal) x0 x1 x2 x3 x4 i = (((Hof x0 x1 x2 x3 x4 (i 1)).xq (i 0) (i 2) * ((Hof x0 x1 x2 x3 x4 (i 1)).dNq (i 0) (i 2) * (Hof x0 x1 x2 x3 x4 (i 1)).gq (i 2)) : ℝ) : EReal) :=
  (Read.val_main_v144_apply _ _ _ _ _ i).trans (r_mul (r1 w _) (r142 w _))
include w in
theorem r145 (i : ReferenceIdeal.S2048x16.Idx) : Read.val_main_v145 (F := Ideal) x0 x1 x2 x3 x4 i = ((∑ k, (Hof x0 x1 x2 x3 x4 (i 1)).xq (i 0) k * ((Hof x0 x1 x2 x3 x4 (i 1)).dNq (i 0) k * (Hof x0 x1 x2 x3 x4 (i 1)).gq k) : ℝ) : EReal) :=
  (Read.val_main_v145_apply _ _ _ _ _ i).trans (r_sum ((Read.val_main_cst_33_apply _).trans ofBits_zero) fun k => r144 w _)
include w in
theorem r146 (i : ReferenceIdeal.S2048x16x1.Idx) : Read.val_main_v146 (F := Ideal) x0 x1 x2 x3 x4 i = ((∑ k, (Hof x0 x1 x2 x3 x4 (i 1)).xq (i 0) k * ((Hof x0 x1 x2 x3 x4 (i 1)).dNq (i 0) k * (Hof x0 x1 x2 x3 x4 (i 1)).gq k) : ℝ) : EReal) :=
  by
  have h0 : (i 0).val < 2048 := (i 0).isLt; have h1 : (i 1).val < 16 := (i 1).isLt; have h2 : (i 2).val < 1 := (i 2).isLt
  have e0 : (Read.idx_main_v146 i 0).val = (i 0).val := by show (((i 0).val * 16 + (i 1).val) * 1 + (i 2).val) / 16 = (i 0).val; omega
  have e1 : (Read.idx_main_v146 i 1).val = (i 1).val := by show (((i 0).val * 16 + (i 1).val) * 1 + (i 2).val) % 16 = (i 1).val; omega
  rw [Read.val_main_v146_apply, show Read.idx_main_v146 i = ix2 (i 0) (i 1) from Shape.idx_ext₂ e0 e1]
  exact r145 w _
include w in
theorem r147 (i : ReferenceIdeal.S2048x16x64.Idx) : Read.val_main_v147 (F := Ideal) x0 i = ((rs (Hof x0 x1 x2 x3 x4 (i 1)).xq (i 0) : ℝ) : EReal) :=
  (Read.val_main_v147_apply _ i).trans (r19 w _)
include w in
theorem r148 (i : ReferenceIdeal.S2048x16x64.Idx) : Read.val_main_v148 (F := Ideal) x0 x1 x2 x3 x4 i = (((Hof x0 x1 x2 x3 x4 (i 1)).dNq (i 0) (i 2) * (Hof x0 x1 x2 x3 x4 (i 1)).gq (i 2) * rs (Hof x0 x1 x2 x3 x4 (i 1)).xq (i 0) : ℝ) : EReal) :=
  (Read.val_main_v148_apply _ _ _ _ _ i).trans (r_mul (r142 w _) (r147 w _))
include w in
theorem r149 (i : ReferenceIdeal.S2048x16x1.Idx) : Read.val_main_v149 (F := Ideal) x0 x1 x2 x3 x4 i = (((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) : ℝ) : EReal) :=
  (Read.val_main_v149_apply _ _ _ _ _ i).trans (r_mul (r146 w _) (r22 w _))
include w in
theorem r150 (i : ReferenceIdeal.S2048x16x1.Idx) : Read.val_main_v150 (F := Ideal) i = ((64 : ℝ) : EReal) :=
  (Read.val_main_v150_apply i).trans ((Read.val_main_cst_34_apply _).trans ofBits_64)
include w in
theorem r151 (i : ReferenceIdeal.S2048x16x1.Idx) : Read.val_main_v151 (F := Ideal) x0 x1 x2 x3 x4 i = (((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64 : ℝ) : EReal) :=
  (Read.val_main_v151_apply _ _ _ _ _ i).trans (r_div (r149 w _) (r150 w _) (by norm_num))
include w in
theorem r152 (i : ReferenceIdeal.S2048x16.Idx) : Read.val_main_v152 (F := Ideal) x0 x1 x2 x3 x4 i = (((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64 : ℝ) : EReal) :=
  ((Read.val_main_v152_apply _ _ _ _ _ i).trans (r_sum ((Read.val_main_cst_35_apply _).trans ofBits_zero) fun k => r151 w _)).trans (congrArg _ (Fintype.sum_unique _))
include w in
theorem r153 (i : ReferenceIdeal.S2048x16x64.Idx) : Read.val_main_v153 (F := Ideal) x0 x1 x2 x3 x4 i = (((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64 : ℝ) : EReal) :=
  (Read.val_main_v153_apply _ _ _ _ _ i).trans (r152 w _)
include w in
theorem r154 (i : ReferenceIdeal.S2048x16x64.Idx) : Read.val_main_v154 (F := Ideal) x0 x1 x2 x3 x4 i = (((Hof x0 x1 x2 x3 x4 (i 1)).xq (i 0) (i 2) * ((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64) : ℝ) : EReal) :=
  (Read.val_main_v154_apply _ _ _ _ _ i).trans (r_mul (r1 w _) (r153 w _))
include w in
theorem r155 (i : ReferenceIdeal.S2048x16x64.Idx) : Read.val_main_v155 (F := Ideal) x0 x1 x2 x3 x4 i = (((Hof x0 x1 x2 x3 x4 (i 1)).dNq (i 0) (i 2) * (Hof x0 x1 x2 x3 x4 (i 1)).gq (i 2) * rs (Hof x0 x1 x2 x3 x4 (i 1)).xq (i 0) + (Hof x0 x1 x2 x3 x4 (i 1)).xq (i 0) (i 2) * ((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64) : ℝ) : EReal) :=
  (Read.val_main_v155_apply _ _ _ _ _ i).trans (r_add (r148 w _) (r154 w _))
include w in
theorem r156 (i : ReferenceIdeal.S2048x16x64.Idx) : Read.val_main_v156 (F := Ideal) x0 x1 x2 x3 x4 i = ((((∑ k, (Hof x0 x1 x2 x3 x4 (i 1)).xq (i 0) k * ((Hof x0 x1 x2 x3 x4 (i 1)).dNq (i 0) k * (Hof x0 x1 x2 x3 x4 (i 1)).gq k)) * sl (Hof x0 x1 x2 x3 x4 (i 1)).xq (i 0) / 64) * (Hof x0 x1 x2 x3 x4 (i 1)).xq (i 0) (i 2) : ℝ) : EReal) :=
  (Read.val_main_v156_apply _ _ _ _ _ i).trans (r_mul (r153 w _) (r1 w _))
include w in
theorem r157 (i : ReferenceIdeal.S2048x16x64.Idx) : Read.val_main_v157 (F := Ideal) x0 x1 x2 x3 x4 i = (((Hof x0 x1 x2 x3 x4 (i 1)).dQ (i 0) (i 2) : ℝ) : EReal) :=
  ((Read.val_main_v157_apply _ _ _ _ _ i).trans (r_add (r155 w _) (r156 w _))).trans (congrArg _ (twice _ _ _))
include w in
theorem r158 (i : ReferenceIdeal.S2048x1024.Idx) : Read.val_main_v158 (F := Ideal) x0 x1 x2 x3 x4 i = (((Hof x0 x1 x2 x3 x4 (hd (i 1))).dQ (i 0) (ln (i 1)) : ℝ) : EReal) :=
  by
  have h0 : (i 0).val < 2048 := (i 0).isLt; have h1 : (i 1).val < 1024 := (i 1).isLt
  have e0 : (Read.idx_main_v158 i 0).val = (i 0).val := by show ((i 0).val * 1024 + (i 1).val) / 1024 = (i 0).val; omega
  have e1 : (Read.idx_main_v158 i 1).val = (i 1).val / 64 := by show ((i 0).val * 1024 + (i 1).val) / 64 % 16 = (i 1).val / 64; omega
  have e2 : (Read.idx_main_v158 i 2).val = (i 1).val % 64 := by show ((i 0).val * 1024 + (i 1).val) % 64 = (i 1).val % 64; omega
  rw [Read.val_main_v158_apply, show Read.idx_main_v158 i = ix3 (i 0) (⟨(i 1).val / 64, by omega⟩ : Fin 16) (⟨(i 1).val % 64, by omega⟩ : Fin 64) from funext fun a => Fin.ext (match a with | ⟨0, _⟩ => e0 | ⟨1, _⟩ => e1 | ⟨2, _⟩ => e2)]
  exact r157 w _
include w in
theorem r161 (i : ReferenceIdeal.S1x2048x1024.Idx) : Read.val_main_v161 (F := Ideal) x0 x1 x2 x3 x4 i = (((Hof x0 x1 x2 x3 x4 (hd (i 2))).dQ (i 1) (ln (i 2)) : ℝ) : EReal) :=
  (Read.val_main_v161_apply _ _ _ _ _ i).trans (r158 w _)
include w in
theorem r159 (i : ReferenceIdeal.S2048x1024.Idx) : Read.val_main_v159 (F := Ideal) x0 x1 x2 x3 x4 i = (((Hof x0 x1 x2 x3 x4 (hd (i 1))).dK (i 0) (ln (i 1)) : ℝ) : EReal) :=
  by
  have h0 : (i 0).val < 2048 := (i 0).isLt; have h1 : (i 1).val < 1024 := (i 1).isLt
  have e0 : (Read.idx_main_v159 i 0).val = (i 0).val := by show ((i 0).val * 1024 + (i 1).val) / 1024 = (i 0).val; omega
  have e1 : (Read.idx_main_v159 i 1).val = (i 1).val / 64 := by show ((i 0).val * 1024 + (i 1).val) / 64 % 16 = (i 1).val / 64; omega
  have e2 : (Read.idx_main_v159 i 2).val = (i 1).val % 64 := by show ((i 0).val * 1024 + (i 1).val) % 64 = (i 1).val % 64; omega
  rw [Read.val_main_v159_apply, show Read.idx_main_v159 i = ix3 (i 0) (⟨(i 1).val / 64, by omega⟩ : Fin 16) (⟨(i 1).val % 64, by omega⟩ : Fin 64) from funext fun a => Fin.ext (match a with | ⟨0, _⟩ => e0 | ⟨1, _⟩ => e1 | ⟨2, _⟩ => e2)]
  exact r137 w _
include w in
theorem r162 (i : ReferenceIdeal.S1x2048x1024.Idx) : Read.val_main_v162 (F := Ideal) x0 x1 x2 x3 x4 i = (((Hof x0 x1 x2 x3 x4 (hd (i 2))).dK (i 1) (ln (i 2)) : ℝ) : EReal) :=
  (Read.val_main_v162_apply _ _ _ _ _ i).trans (r159 w _)
include w in
theorem r160 (i : ReferenceIdeal.S2048x1024.Idx) : Read.val_main_v160 (F := Ideal) x0 x1 x2 x3 x4 i = (((Hof x0 x1 x2 x3 x4 (hd (i 1))).dV (i 0) (ln (i 1)) : ℝ) : EReal) :=
  by
  have h0 : (i 0).val < 2048 := (i 0).isLt; have h1 : (i 1).val < 1024 := (i 1).isLt
  have e0 : (Read.idx_main_v160 i 0).val = (i 0).val := by show ((i 0).val * 1024 + (i 1).val) / 1024 = (i 0).val; omega
  have e1 : (Read.idx_main_v160 i 1).val = (i 1).val / 64 := by show ((i 0).val * 1024 + (i 1).val) / 64 % 16 = (i 1).val / 64; omega
  have e2 : (Read.idx_main_v160 i 2).val = (i 1).val % 64 := by show ((i 0).val * 1024 + (i 1).val) % 64 = (i 1).val % 64; omega
  rw [Read.val_main_v160_apply, show Read.idx_main_v160 i = ix3 (i 0) (⟨(i 1).val / 64, by omega⟩ : Fin 16) (⟨(i 1).val % 64, by omega⟩ : Fin 64) from funext fun a => Fin.ext (match a with | ⟨0, _⟩ => e0 | ⟨1, _⟩ => e1 | ⟨2, _⟩ => e2)]
  exact r90 w _
include w in
theorem r163 (i : ReferenceIdeal.S1x2048x1024.Idx) : Read.val_main_v163 (F := Ideal) x0 x1 x2 x3 x4 i = (((Hof x0 x1 x2 x3 x4 (hd (i 2))).dV (i 1) (ln (i 2)) : ℝ) : EReal) :=
  (Read.val_main_v163_apply _ _ _ _ _ i).trans (r160 w _)
include w in
theorem r165 (s : Fin 3) (t : Fin 2048) (j : Fin 1024) : Read.val_main_v165 (F := Ideal) x0 x1 x2 x3 x4 (ix3 s t j)
    = (((![fun h => (Hof x0 x1 x2 x3 x4 h).dQ, fun h => (Hof x0 x1 x2 x3 x4 h).dK, fun h => (Hof x0 x1 x2 x3 x4 h).dV] : Fin 3 → Fin 16 → Fin 2048 → Fin 64 → ℝ) s (hd j) t (ln j) : ℝ) : EReal) := by
  rw [Read.val_main_v165_apply]
  refine Eq.trans (b := Read.val_main_v164 (F := Ideal) x0 x1 x2 x3 x4 (ix3 s t j)) rfl ?_
  unfold Read.val_main_v164
  match s with
  | ⟨0, _⟩ =>
    refine Eq.trans (concatenate_apply_piece 0 _ _ (ix3 (⟨0, by omega⟩ : Fin 3) t j) 0 (by simp) ReferenceIdeal.S1x2048x1024 _ rfl rfl 0 rfl (ix3 0 t j)
      (fun b hb => by match b with | ⟨0, _⟩ => exact absurd rfl hb | ⟨1, _⟩ => rfl | ⟨2, _⟩ => rfl) rfl) (r161 w (ix3 0 t j))
  | ⟨1, _⟩ =>
    refine Eq.trans (concatenate_apply_piece 0 _ _ (ix3 (⟨1, by omega⟩ : Fin 3) t j) 1 (by simp) ReferenceIdeal.S1x2048x1024 _ rfl rfl 1 rfl (ix3 0 t j)
      (fun b hb => by match b with | ⟨0, _⟩ => exact absurd rfl hb | ⟨1, _⟩ => rfl | ⟨2, _⟩ => rfl) rfl) (r162 w (ix3 0 t j))
  | ⟨2, _⟩ =>
    refine Eq.trans (concatenate_apply_piece 0 _ _ (ix3 (⟨2, by omega⟩ : Fin 3) t j) 2 (by simp) ReferenceIdeal.S1x2048x1024 _ rfl rfl 2 rfl (ix3 0 t j)
      (fun b hb => by match b with | ⟨0, _⟩ => exact absurd rfl hb | ⟨1, _⟩ => rfl | ⟨2, _⟩ => rfl) rfl) (r163 w (ix3 0 t j))
include w in
theorem r166 (i : ReferenceIdeal.S2048x16.Idx) : Read.val_main_v166 (F := Ideal) x0 x1 x2 x3 x4 i = (((Hof x0 x1 x2 x3 x4 (i 1)).dC (i 0) : ℝ) : EReal) :=
  (Read.val_main_v166_apply _ _ _ _ _ i).trans (r111 w _)
include w in
theorem r167 (t : Fin 2048) (j : Fin 128) : Read.val_main_v167 (F := Ideal) x0 x1 x2 x3 x4 (ix2 t j)
    = ((if h : j.val < 16 then (Hof x0 x1 x2 x3 x4 ⟨j.val, h⟩).dC t else 0 : ℝ) : EReal) := by
  unfold Read.val_main_v167
  split_ifs with h
  · exact (pad_apply_of_inside _ _ _ _ _ pads_S2048x16_S2048x128_000_01120 h_S_ (ix2 t j) (ix2 t (⟨j.val, h⟩ : Fin 16))
      (fun a => by match a with | ⟨0, _⟩ => (show t.val = 0 + t.val * (0 + 1); omega) | ⟨1, _⟩ => (show j.val = 0 + j.val * (0 + 1); omega))).trans (r166 w _)
  · refine (pad_apply_of_not_inside _ _ _ _ _ pads_S2048x16_S2048x128_000_01120 h_S_ (ix2 t j) 1 fun hin => h ?_).trans ?_
    · have := hin.2.2
      simpa using this
    · rw [Read.val_main_call2_v0_apply]
      exact (show ((((0#32 : BitVec 32).toInt : ℝ)) : EReal) = ((0 : ℝ) : EReal) by simp)
include w in
theorem r168 (i : ReferenceIdeal.S1x64.Idx) : Read.val_main_v168 (F := Ideal) x0 x1 x2 x3 x4 i = ((∑ h : Fin 16, (Hof x0 x1 x2 x3 x4 h).dGq (i 1) : ℝ) : EReal) :=
  (Read.val_main_v168_apply _ _ _ _ _ i).trans (r143 w _)
include w in
theorem r169 (i : ReferenceIdeal.S1x64.Idx) : Read.val_main_v169 (F := Ideal) x0 x1 x2 x3 x4 i = ((∑ h : Fin 16, (Hof x0 x1 x2 x3 x4 h).dGk (i 1) : ℝ) : EReal) :=
  (Read.val_main_v169_apply _ _ _ _ _ i).trans (r123 w _)

end Cert.Fox.Ref
-- ==== Proof.HostA.lean ====
/- What the kernel's host operations leave in the two arrays that they prepare: the log-sum-exp of the scores, and the
   gates laid out by head pair. The scores themselves are the reference's own first operations. -/
module

public import proofs.«01_k».proof.Proof.RefRead
public import proofs.«01_k».proof.Proof.Gen.KernelIdeal.Value
public import Idealize.ShloMosaic.Lib.StableHlo.RunRead

@[expose] public section

noncomputable section

namespace Cert.Fox.HostA

open Idealize.ShloMosaic Idealize.ShloMosaic.ValueIdx Idealize.ShloMosaic.TcCoe Idealize.SL Idealize.SL.Sem
open Cert.KernelIdeal Cert.KernelIdeal.Gen

section Line

variable {F : FTy → Type} [FloatOps F] [Named F]
variable (m : (k : Loc nD τ sig) → Buf (Elt F) k) (c : Dev nD)

/-- The terms `exp (s - max)` of every row, from the scores and the rows' maxima. -/
def terms (s : (⟨S16x2048x2048, .f32⟩ : BufTy).Contents (Elt F)) (x : (⟨S16x2048, .f32⟩ : BufTy).Contents (Elt F)) :
    (⟨S16x2048x2048, .f32⟩ : BufTy).Contents (Elt F) :=
  Host.exp (subf s (broadcastInDim S16x2048x2048 ![0, 1, 2] bcast_S16x2048x1_S16x2048x2048_0_1_2
    (broadcastInDim S16x2048x1 ![0, 1] bcast_S16x2048_S16x2048x1_0_1 x)))

/-- The log-sum-exp of every row, from the rows' maxima and the terms. -/
def logSum (x : (⟨S16x2048, .f32⟩ : BufTy).Contents (Elt F)) (y : (⟨S16x2048x2048, .f32⟩ : BufTy).Contents (Elt F)) :
    (⟨S16x2048, .f32⟩ : BufTy).Contents (Elt F) :=
  addf x (Host.log (Host.reduceAdd y (constant S_ .f32 0x00000000#32) reducesTo_S16x2048x2048_S16x2048_d2 h_S_))

/-- The log-sum-exp of every row of scores, by the host's operations. -/
def lse (x0 : (⟨S2048x3200, .f32⟩ : BufTy).Contents (Elt F)) (x1 : (⟨S2048x128, .f32⟩ : BufTy).Contents (Elt F))
    (x2 x3 : (⟨S1x64, .f32⟩ : BufTy).Contents (Elt F)) : (⟨S16x2048, .f32⟩ : BufTy).Contents (Elt F) :=
  logSum (Cert.ReferenceIdeal.Read.val_main_v57 (F := F) x0 x1 x2 x3)
    (terms (Cert.ReferenceIdeal.Read.val_main_v56_0 (F := F) x0 x1 x2 x3) (Cert.ReferenceIdeal.Read.val_main_v57 (F := F) x0 x1 x2 x3))

theorem V58 : (V m c main_v58 : (⟨S8x8x2048, .f32⟩ : BufTy).Contents (Elt F)) =
    pad S8x8x2048 ![0, 0, 0] ![0, 6, 0] ![0, 0, 0]
      (shapeCast S8x2x2048 (lse (F := F) (m ((c : Thread nD τ).loc main_arg0)) (m ((c : Thread nD τ).loc main_arg1))
        (m ((c : Thread nD τ).loc main_arg2)) (m ((c : Thread nD τ).loc main_arg3))) shapeCasts_S16x2048_S8x2x2048)
      (sitofp .f32 (constantI S_ 32 0#32) : (⟨S_, .f32⟩ : BufTy).Contents (Elt F)) pads_S8x2x2048_S8x8x2048_000_060_000 h_S_ := by
  unfold_abbrev_sides
  after_reads_simp
  rfl

theorem V61 : (V m c main_v61 : (⟨S8x2x2048, .f32⟩ : BufTy).Contents (Elt F)) =
    shapeCast S8x2x2048 (transpose S16x2048 [1, 0]
      (extractStridedSlice S2048x16 ![0, 0] (m ((c : Thread nD τ).loc main_arg1) : (⟨S2048x128, .f32⟩ : BufTy).Contents (Elt F)) slices_S2048x128_S2048x16_0_0)
      transposes_S2048x16_S16x2048_1_0) shapeCasts_S16x2048_S8x2x2048 := by
  unfold_abbrev_sides
  after_reads_simp
  rfl

end Line

/-! ## At an index -/

/-- Row `r` of pair `p` is head `2p + r`. -/
theorem cast_at {α : Type} (x : S16x2048.Idx → α) (p : Fin 8) (r : Fin 2) (t : Fin 2048) :
    shapeCast S8x2x2048 x shapeCasts_S16x2048_S8x2x2048 (ix3 p r t) = x (ix2 (⟨2 * p.val + r.val, by omega⟩ : Fin 16) t) :=
  shapeCast_apply x _ _ _ (by
    rw [Shape.rowMajor_val_two, Shape.rowMajor_val_three]
    show (2 * p.val + r.val) * 2048 + t.val = (p.val * 2 + r.val) * 2048 + t.val
    ring)

theorem terms_at (s : FVec Ideal S16x2048x2048 .f32) (x : FVec Ideal S16x2048 .f32) (h : Fin 16) (t k : Fin 2048) :
    terms (F := Ideal) s x (ix3 h t k)
      = FloatOps.hostUnary (F := Ideal) (φ := .f32) .exp (FloatOps.subf (F := Ideal) (φ := .f32) (s (ix3 h t k)) (x (ix2 h t))) := by
  have e : broadcastInDim S16x2048x2048 ![0, 1, 2] bcast_S16x2048x1_S16x2048x2048_0_1_2
      (broadcastInDim S16x2048x1 ![0, 1] bcast_S16x2048_S16x2048x1_0_1 x) (ix3 h t k) = x (ix2 h t) := by
    rw [broadcastInDim_apply _ bcast_S16x2048x1_S16x2048x2048_0_1_2 _ (ix3 h t k) (ix3 h t 0) (fun a => by fin_cases a <;> rfl),
      broadcastInDim_apply _ bcast_S16x2048_S16x2048x1_0_1 _ (ix3 h t 0) (ix2 h t) (fun a => by fin_cases a <;> rfl)]
  exact congrArg (fun z => FloatOps.hostUnary (F := Ideal) (φ := .f32) .exp (FloatOps.subf (F := Ideal) (φ := .f32) (s (ix3 h t k)) z)) e

theorem logSum_at (x : FVec Ideal S16x2048 .f32) (y : FVec Ideal S16x2048x2048 .f32) (h : Fin 16) (t : Fin 2048) {M : ℝ} {e : Fin 2048 → ℝ}
    (hx : x (ix2 h t) = (M : EReal)) (hy : ∀ k, y (ix3 h t k) = ((e k : ℝ) : EReal)) (he : 0 < ∑ k, e k) :
    logSum (F := Ideal) x y (ix2 h t) = ((M + Real.log (∑ k, e k) : ℝ) : EReal) := by
  have es : Host.reduceAdd (F := Ideal) (φ := .f32) y (constant S_ .f32 0x00000000#32) reducesTo_S16x2048x2048_S16x2048_d2 h_S_ (ix2 h t)
      = ((∑ k, e k : ℝ) : EReal) := by
    simp only [Host.reduceAdd, Ideal.hostReduceAdd_def]
    rw [Ideal.hostReduceAdd_single reducesTo_S16x2048x2048_S16x2048_d2 (by decide)]
    exact r_sum ofBits_zero fun k => (congrArg y (funext fun a => Fin.ext (by match a with | ⟨0, _⟩ => rfl | ⟨1, _⟩ => rfl | ⟨2, _⟩ => rfl))).trans (hy k)
  exact r_add hx (r_log es he)

section Real

variable {x0 : FVec Ideal ⟨2, ![2048, 3200]⟩ .f32} {x1 : FVec Ideal ⟨2, ![2048, 128]⟩ .f32} {x2 x3 : FVec Ideal ⟨2, ![1, 64]⟩ .f32}
  {x4 : FVec Ideal ⟨2, ![2048, 1024]⟩ .bf16} (w : Args x0 x1 x2 x3 x4)
include w

theorem lse_at (h : Fin 16) (t : Fin 2048) : lse (F := Ideal) x0 x1 x2 x3 (ix2 h t)
    = ((Ref.Mof x0 x1 x2 x3 h t + Real.log ((Hof x0 x1 x2 x3 x4 h).ZM (Ref.Mof x0 x1 x2 x3 h) t) : ℝ) : EReal) := by
  unfold lse
  exact logSum_at _ _ h t (Ref.r57_at w h t)
    (fun k => (terms_at _ _ h t k).trans (Ref.masked_exp _ _ t k (Ref.r56 w (ix3 h t k)) (Ref.r57_at w h t))) (Hd.ZM_pos _ _ _)

end Real

end Cert.Fox.HostA
-- ==== Proof.Block.lean ====
/- One block of 256 queries of one head, against the keys up to the block's end: the kernel's tile of probabilities, of
   score gradients, and what it adds into the three accumulators. -/
module

public import proofs.«01_k».proof.Proof.Ops

@[expose] public section

noncomputable section

namespace Cert.Fox

open Idealize.ShloMosaic Idealize.ShloMosaic.ValueIdx

/-! ## Sums over the queries before a bound -/

/-- The query `q` of the block at `o`. -/
abbrev row (o : ℕ) (h : o + 256 ≤ 2048) (q : Fin 256) : Fin 2048 := ⟨o + q.val, by have := q.isLt; omega⟩

/-- The sum over the queries before `o`. -/
def acc (g : Fin 2048 → ℝ) (o : ℕ) : ℝ := ∑ t : Fin 2048, if t.val < o then g t else 0

theorem acc_zero (g : Fin 2048 → ℝ) : acc g 0 = 0 := by simp [acc]
theorem acc_all (g : Fin 2048 → ℝ) : acc g 2048 = ∑ t, g t := Finset.sum_congr rfl fun t _ => if_pos t.isLt

theorem acc_step (g : Fin 2048 → ℝ) {o : ℕ} (h : o + 256 ≤ 2048) : acc g (o + 256) = acc g o + ∑ q, g (row o h q) := by
  have e : ∀ t : Fin 2048, (if t.val < o + 256 then g t else 0)
      = (if t.val < o then g t else 0) + if o ≤ t.val ∧ t.val < o + 256 then g t else 0 := fun t => by
    by_cases h1 : t.val < o
    · rw [if_pos h1, if_pos (by omega), if_neg (by omega), add_zero]
    · by_cases h2 : t.val < o + 256
      · rw [if_neg h1, if_pos h2, if_pos (by omega), zero_add]
      · rw [if_neg h1, if_neg h2, if_neg (by omega), zero_add]
  unfold acc
  rw [Finset.sum_congr rfl fun t _ => e t, Finset.sum_add_distrib, ← Finset.sum_filter fun t : Fin 2048 => o ≤ t.val ∧ t.val < o + 256]
  congr 1
  refine (Finset.sum_bij (fun q _ => row o h q) (fun q _ => ?_) (fun a _ b _ e => ?_) (fun t ht => ?_) fun _ _ => rfl).symm
  · have := q.isLt; simp only [Finset.mem_filter, Finset.mem_univ, true_and]; exact ⟨Nat.le_add_right _ _, by show o + q.val < _; omega⟩
  · have := congrArg Fin.val e; simp only at this; exact Fin.ext (by omega)
  · simp only [Finset.mem_filter, Finset.mem_univ, true_and] at ht
    exact ⟨⟨t.val - o, by omega⟩, Finset.mem_univ _, Fin.ext (by show o + (t.val - o) = t.val; omega)⟩

theorem acc_const (g : Fin 2048 → ℝ) {o o' : ℕ} (ho : o ≤ o') (h : ∀ t : Fin 2048, o ≤ t.val → t.val < o' → g t = 0) : acc g o' = acc g o :=
  Finset.sum_congr rfl fun t _ => by
    by_cases h1 : t.val < o
    · rw [if_pos h1, if_pos (by omega)]
    · by_cases h2 : t.val < o'
      · rw [if_neg h1, if_pos h2, h t (by omega) h2]
      · rw [if_neg h1, if_neg h2]

/-- The queries before `o` whose number is `j` modulo 128. -/
def lanes (g : Fin 2048 → ℝ) (j : Fin 128) : Fin 2048 → ℝ := fun t => if t.val % 128 = j.val then g t else 0

theorem sum_lanes (g : Fin 2048 → ℝ) : ∑ j, acc (lanes g j) 2048 = ∑ t, g t := by
  simp only [acc_all]
  rw [Finset.sum_comm]
  refine Finset.sum_congr rfl fun t _ => ?_
  have hm : t.val % 128 < 128 := Nat.mod_lt _ (by norm_num)
  rw [Finset.sum_eq_single (⟨t.val % 128, hm⟩ : Fin 128)]
  · exact if_pos rfl
  · intro j _ hj; exact if_neg fun e => hj (Fin.ext e.symm)
  · intro h; exact absurd (Finset.mem_univ _) h

theorem lanes_step (g : Fin 2048 → ℝ) (j : Fin 128) {n : ℕ} (h : 256 * n + 256 ≤ 2048) :
    acc (lanes g j) (256 * n + 256) = acc (lanes g j) (256 * n)
      + (g (row (256 * n) h ⟨j.val, by have := j.isLt; omega⟩) + g (row (256 * n) h ⟨128 + j.val, by have := j.isLt; omega⟩)) := by
  rw [acc_step _ h]
  congr 1
  have hj := j.isLt
  have hne : (⟨j.val, by omega⟩ : Fin 256) ≠ ⟨128 + j.val, by omega⟩ := fun e => by
    have := congrArg Fin.val e; simp only at this; omega
  rw [← Finset.sum_pair hne (f := fun q => g (row (256 * n) h q))]
  refine (Finset.sum_subset_zero_on_sdiff (Finset.subset_univ _) (fun q hq => ?_) fun q hq => ?_).symm
  · simp only [Finset.mem_sdiff, Finset.mem_univ, true_and, Finset.mem_insert, Finset.mem_singleton, not_or] at hq
    have h1 : q.val ≠ j.val := fun e => hq.1 (Fin.ext e)
    have h2 : q.val ≠ 128 + j.val := fun e => hq.2 (Fin.ext e)
    have := q.isLt
    exact if_neg (by show ¬ (256 * n + q.val) % 128 = j.val; omega)
  · simp only [Finset.mem_insert, Finset.mem_singleton] at hq
    rcases hq with rfl | rfl
    · exact (if_pos (by show (256 * n + j.val) % 128 = j.val; omega)).symm
    · exact (if_pos (by show (256 * n + (128 + j.val)) % 128 = j.val; omega)).symm

/-! ## Slices of whole rows and of whole columns -/

theorem Is.rows {a a' b o : ℕ} {x : (⟨2, ![a, b]⟩ : Shape).Idx → EReal} {f : Fin a → Fin b → ℝ} (hx : Is x f)
    (h : (⟨2, ![a, b]⟩ : Shape).Slices ![o, 0] ⟨2, ![a', b]⟩) (ha : o + a' ≤ a) :
    Is (extractStridedSlice ⟨2, ![a', b]⟩ ![o, 0] x h) fun i j => f ⟨o + i.val, by have := i.isLt; omega⟩ j :=
  (hx.slice h ha (by omega)).congr fun i j => congrArg _ (Fin.ext (Nat.zero_add _))
theorem Is.rows0 {a a' b : ℕ} {x : (⟨2, ![a, b]⟩ : Shape).Idx → EReal} {f : Fin a → Fin b → ℝ} (hx : Is x f)
    (h : (⟨2, ![a, b]⟩ : Shape).Slices ![0, 0] ⟨2, ![a', b]⟩) (ha : a' ≤ a) :
    Is (extractStridedSlice ⟨2, ![a', b]⟩ ![0, 0] x h) fun i j => f (i.castLE ha) j :=
  (hx.rows h (by omega)).congr fun i j => congrArg (fun r => f r j) (Fin.ext (Nat.zero_add _))
theorem Is.cols {a b b' o : ℕ} {x : (⟨2, ![a, b]⟩ : Shape).Idx → EReal} {f : Fin a → Fin b → ℝ} (hx : Is x f)
    (h : (⟨2, ![a, b]⟩ : Shape).Slices ![0, o] ⟨2, ![a, b']⟩) (hb : o + b' ≤ b) :
    Is (extractStridedSlice ⟨2, ![a, b']⟩ ![0, o] x h) fun i j => f i ⟨o + j.val, by have := j.isLt; omega⟩ :=
  (hx.slice h (by omega) hb).congr fun i j => congrArg (fun r => f r _) (Fin.ext (Nat.zero_add _))
theorem Is.cols0 {a b b' : ℕ} {x : (⟨2, ![a, b]⟩ : Shape).Idx → EReal} {f : Fin a → Fin b → ℝ} (hx : Is x f)
    (h : (⟨2, ![a, b]⟩ : Shape).Slices ![0, 0] ⟨2, ![a, b']⟩) (hb : b' ≤ b) :
    Is (extractStridedSlice ⟨2, ![a, b']⟩ ![0, 0] x h) fun i j => f i (j.castLE hb) :=
  (hx.cols h (by omega)).congr fun i j => congrArg (f i) (Fin.ext (Nat.zero_add _))

/-! ## The block -/

section Block

variable (H : Hd) (M : Fin 2048 → ℝ) {L o : ℕ} (hL : L ≤ 2048) (ho : o + 256 ≤ 2048) (hLo : o + 256 ≤ L)

/-- The tile of probabilities. -/
theorem block_P {kn : FVec Ideal ⟨2, ![L, 64]⟩ .bf16} {qi : FVec Ideal ⟨2, ![256, 64]⟩ .bf16} {ck : FVec Ideal ⟨2, ![L, 1]⟩ .f32}
    {cq lse : FVec Ideal ⟨2, ![1, 2048]⟩ .f32} {w : EReal}
    (hk : Is kn fun k d => H.kn (k.castLE hL) d) (hq : Is qi fun q d => H.qn (row o ho q) d * (1 / 8)) (hck : Is ck fun k _ => H.c (k.castLE hL)) (hcq : Is cq fun _ t => H.c t)
    (hl : Is lse fun _ t => M t + Real.log (H.ZM M t)) (hw : w = ⊥)
    {s2 s2' : (⟨2, ![1, 2048]⟩ : Shape).Slices ![0, o] ⟨2, ![1, 256]⟩}
    {b1 b1' : (⟨2, ![1, 256]⟩ : Shape).Broadcasts ⟨2, ![L, 256]⟩}
    {b2 : (⟨2, ![L, 1]⟩ : Shape).Broadcasts ⟨2, ![L, 256]⟩} {i0 : (⟨2, ![L, 256]⟩ : Shape).Iotas .tc 32 [0]}
    {i1 : (⟨2, ![L, 256]⟩ : Shape).Iotas .tc 32 [1]}
    {wf : DotDims.WF (⟨2, ![L, 64]⟩ : Shape) ⟨2, ![256, 64]⟩ ⟨2, ![L, 256]⟩ [1] [1] [0] [0] [] []} :
    Is (exp (subf (select (cmpi .sle (iota .tc ⟨2, ![L, 256]⟩ 32 [0] i0)
        (addi (iota .tc ⟨2, ![L, 256]⟩ 32 [1] i1) (broadcast ⟨2, ![L, 256]⟩ (BitVec.ofNat 32 o))))
          (subf (addf (matmul (dNT wf) none kn qi (constant ⟨2, ![L, 256]⟩ .f32 0x00000000#32))
            (broadcastTo ⟨2, ![L, 256]⟩ (extractStridedSlice ⟨2, ![1, 256]⟩ ![0, o] cq s2) b1))
            (broadcastTo ⟨2, ![L, 256]⟩ ck b2))
          (broadcast ⟨2, ![L, 256]⟩ w))
        (broadcastTo ⟨2, ![L, 256]⟩ (extractStridedSlice ⟨2, ![1, 256]⟩ ![0, o] lse s2') b1')) : FVec Ideal ⟨2, ![L, 256]⟩ .f32)
      fun k q => H.P (row o ho q) (k.castLE hL) := by
  have hs := ((Is.dotNT (φ₁ := .bf16) (φ₂ := .bf16) hk hq wf).add ((hcq.cols s2 ho).bcRow b1)).sub (hck.bcCol b2)
  have hb : 256 < 2 ^ 20 := by norm_num
  have ha : L < 2 ^ 20 := by omega
  have ho' : o < 2 ^ 20 := by omega
  refine (Is.maskedExp hs ((hl.cols s2' ho).bcRow b1') hw i0 i1 ha hb ho').congr fun k q => ?_
  have hkq : (k.castLE hL ≤ row o ho q) ↔ k.val ≤ o + q.val := Iff.rfl
  by_cases h : k.val ≤ o + q.val
  · rw [if_pos h, ← H.exp_lse M (hkq.mpr h)]
    congr 2
    unfold Hd.sc
    congr 2
    rw [Finset.sum_mul]
    exact Finset.sum_congr rfl fun d _ => by ring
  · rw [if_neg h, H.P_of_lt (not_le.mp (mt hkq.mp h))]

include hLo in
/-- The tile of the scores' gradients. -/
theorem block_dS {p : FVec Ideal ⟨2, ![L, 256]⟩ .f32} {vb : FVec Ideal ⟨2, ![L, 64]⟩ .bf16} {oi : FVec Ideal ⟨2, ![256, 64]⟩ .bf16}
    (hp : Is p fun k q => H.P (row o ho q) (k.castLE hL)) (hv : Is vb fun k d => H.v (k.castLE hL) d) (hoi : Is oi fun q d => H.o (row o ho q) d)
    {wf wf' : DotDims.WF (⟨2, ![L, 64]⟩ : Shape) ⟨2, ![256, 64]⟩ ⟨2, ![L, 256]⟩ [1] [1] [0] [0] [] []}
    {r : (⟨2, ![L, 256]⟩ : Shape).Reduces [0] ⟨1, ![256]⟩} {hφ : FKind.Formats .f32}
    {hacc : (0x00000000#32 : BitVec 32) = FKind.add.neutral .f32 hφ} {sc : (⟨1, ![256]⟩ : Shape).ShapeCasts ⟨2, ![1, 256]⟩}
    {b1 : (⟨2, ![1, 256]⟩ : Shape).Broadcasts ⟨2, ![L, 256]⟩} :
    Is (mulf p (subf (matmul (dNT wf) none vb oi (constant ⟨2, ![L, 256]⟩ .f32 0x00000000#32))
        (broadcastTo ⟨2, ![L, 256]⟩ (shapeCast ⟨2, ![1, 256]⟩ (multiReduction .add [0] ⟨1, ![256]⟩
          (mulf p (matmul (dNT wf') none vb oi (constant ⟨2, ![L, 256]⟩ .f32 0x00000000#32)))
          0x00000000#32 r hφ hacc) sc) b1)) : FVec Ideal ⟨2, ![L, 256]⟩ .f32)
      fun k q => H.dS (row o ho q) (k.castLE hL) := by
  have hd := Is.dotNT (φ₁ := .bf16) (φ₂ := .bf16) hv hoi wf
  refine (hp.mul (hd.sub (Is.bcRow (Is1.row ((hp.mul (Is.dotNT (φ₁ := .bf16) (φ₂ := .bf16) hv hoi wf')).sumRows r hφ hacc) sc) b1))).congr fun k q => ?_
  have e : ∀ k : Fin 2048, ∑ d, H.v k d * H.o (row o ho q) d = H.dP (row o ho q) k := fun k =>
    Finset.sum_congr rfl fun d _ => mul_comm _ _
  simp only [e]
  unfold Hd.dS
  rw [sum_prefix hL fun k => H.P (row o ho q) k * H.dP (row o ho q) k]
  intro k hk
  rw [H.P_of_lt, zero_mul]
  have := q.isLt
  show o + q.val < k.val
  omega

include hLo in
/-- The block's rows of the queries' gradient. -/
theorem block_dq {ds : FVec Ideal ⟨2, ![L, 256]⟩ .bf16} {kt : FVec Ideal ⟨2, ![64, L]⟩ .bf16}
    (hd : Is ds fun k q => H.dS (row o ho q) (k.castLE hL)) (hk : Is kt fun d k => H.kn (k.castLE hL) d)
    {wf : DotDims.WF (⟨2, ![64, L]⟩ : Shape) ⟨2, ![L, 256]⟩ ⟨2, ![64, 256]⟩ [1] [0] [0] [1] [] []}
    {tr : (⟨2, ![64, 256]⟩ : Shape).Transposes [1, 0] ⟨2, ![256, 64]⟩} :
    Is (transpose ⟨2, ![256, 64]⟩ [1, 0] (matmul (dNN wf) none kt ds (constant ⟨2, ![64, 256]⟩ .f32 0x00000000#32)) tr
        : FVec Ideal ⟨2, ![256, 64]⟩ .f32)
      fun q d => ∑ k, H.dS (row o ho q) k * H.kn k d := by
  refine (Is.transpose (Is.dotNN (φ₁ := .bf16) (φ₂ := .bf16) hk hd wf) tr).congr fun q d => ?_
  rw [← sum_prefix hL fun k => H.dS (row o ho q) k * H.kn k d]
  · exact Finset.sum_congr rfl fun k _ => mul_comm _ _
  · intro k hk
    rw [H.dS_of_lt, zero_mul]
    have := q.isLt
    show o + q.val < k.val
    omega

/-- What a product of a tile adds to an accumulator's first `L` rows. -/
theorem block_acc {x : FVec Ideal ⟨2, ![L, 256]⟩ .bf16} {y : FVec Ideal ⟨2, ![256, 64]⟩ .bf16} {a : FVec Ideal ⟨2, ![L, 64]⟩ .f32}
    {X : Fin 2048 → Fin 2048 → ℝ} {Y : Fin 2048 → Fin 64 → ℝ}
    (hx : Is x fun k q => X (row o ho q) (k.castLE hL)) (hy : Is y fun q d => Y (row o ho q) d)
    (ha : Is a fun k d => acc (fun t => X t (k.castLE hL) * Y t d) o)
    {wf : DotDims.WF (⟨2, ![L, 256]⟩ : Shape) ⟨2, ![256, 64]⟩ ⟨2, ![L, 64]⟩ [1] [0] [0] [1] [] []} :
    Is (addf a (matmul (dNN wf) none x y (constant ⟨2, ![L, 64]⟩ .f32 0x00000000#32)) : FVec Ideal ⟨2, ![L, 64]⟩ .f32)
      fun k d => acc (fun t => X t (k.castLE hL) * Y t d) (o + 256) :=
  (ha.add (Is.dotNN (φ₁ := .bf16) (φ₂ := .bf16) hx hy wf)).congr fun k d => (acc_step (fun t => X t (k.castLE hL) * Y t d) ho).symm

/-- What a tile adds to the lane sums of the scores' gradient. -/
theorem block_lanes {n : ℕ} (hn : o = 256 * n) {x : FVec Ideal ⟨2, ![L, 256]⟩ .f32} {a : FVec Ideal ⟨2, ![L, 128]⟩ .f32}
    {X : Fin 2048 → Fin 2048 → ℝ} (hx : Is x fun k q => X (row o ho q) (k.castLE hL))
    (ha : Is a fun k j => acc (lanes (fun t => X t (k.castLE hL)) j) o)
    {s1 : (⟨2, ![L, 256]⟩ : Shape).Slices ![0, 0] ⟨2, ![L, 128]⟩} {s2 : (⟨2, ![L, 256]⟩ : Shape).Slices ![0, 128] ⟨2, ![L, 128]⟩} :
    Is (addf a (addf (extractStridedSlice ⟨2, ![L, 128]⟩ ![0, 0] x s1) (extractStridedSlice ⟨2, ![L, 128]⟩ ![0, 128] x s2)) : FVec Ideal ⟨2, ![L, 128]⟩ .f32)
      fun k j => acc (lanes (fun t => X t (k.castLE hL)) j) (o + 256) := by
  subst hn
  exact (ha.add ((hx.cols0 s1 (by omega)).add (hx.cols s2 (by omega)))).congr fun k j => (lanes_step (fun t => X t (k.castLE hL)) j ho).symm

/-- What one head's arrays hold: the query rows (times the scale), the key rows and their transpose, the value rows, the
    output's gradient, the decay as a column and as a row, and the logarithm of the rows' sums. -/
structure HIn (qn kn vb ob : FVec Ideal ⟨2, ![2048, 64]⟩ .bf16) (kt : FVec Ideal ⟨2, ![64, 2048]⟩ .bf16)
    (ck : FVec Ideal ⟨2, ![2048, 1]⟩ .f32) (cq lse : FVec Ideal ⟨2, ![1, 2048]⟩ .f32) : Prop where
  q : Is qn fun t d => H.qn t d * (1 / 8)
  k : Is kn H.kn
  v : Is vb H.v
  o : Is ob H.o
  kt : Is kt fun d k => H.kn k d
  ck : Is ck fun k _ => H.c k
  cq : Is cq fun _ t => H.c t
  l : Is lse fun _ t => M t + Real.log (H.ZM M t)

variable {H M}
variable {qn kn vb ob : FVec Ideal ⟨2, ![2048, 64]⟩ .bf16} {kt : FVec Ideal ⟨2, ![64, 2048]⟩ .bf16}
    {ck : FVec Ideal ⟨2, ![2048, 1]⟩ .f32} {cq lse : FVec Ideal ⟨2, ![1, 2048]⟩ .f32}

/-- The block's tile of probabilities, of the head's arrays. -/
theorem HIn.P (h : HIn H M qn kn vb ob kt ck cq lse) {w : EReal} (hw : w = ⊥)
    (sq : (⟨2, ![2048, 64]⟩ : Shape).Slices ![o, 0] ⟨2, ![256, 64]⟩) (s2 : (⟨2, ![1, 2048]⟩ : Shape).Slices ![0, o] ⟨2, ![1, 256]⟩)
    (b1 : (⟨2, ![1, 256]⟩ : Shape).Broadcasts ⟨2, ![L, 256]⟩)
    {s1 : (⟨2, ![2048, 64]⟩ : Shape).Slices ![0, 0] ⟨2, ![L, 64]⟩}
    {s3 : (⟨2, ![2048, 1]⟩ : Shape).Slices ![0, 0] ⟨2, ![L, 1]⟩}
    (b2 : (⟨2, ![L, 1]⟩ : Shape).Broadcasts ⟨2, ![L, 256]⟩) {i0 : (⟨2, ![L, 256]⟩ : Shape).Iotas .tc 32 [0]}
    {i1 : (⟨2, ![L, 256]⟩ : Shape).Iotas .tc 32 [1]}
    {wf : DotDims.WF (⟨2, ![L, 64]⟩ : Shape) ⟨2, ![256, 64]⟩ ⟨2, ![L, 256]⟩ [1] [1] [0] [0] [] []} :
    Is (exp (subf (select (cmpi .sle (iota .tc ⟨2, ![L, 256]⟩ 32 [0] i0)
        (addi (iota .tc ⟨2, ![L, 256]⟩ 32 [1] i1) (broadcast ⟨2, ![L, 256]⟩ (BitVec.ofNat 32 o))))
          (subf (addf (matmul (dNT wf) none (extractStridedSlice ⟨2, ![L, 64]⟩ ![0, 0] kn s1) (extractStridedSlice ⟨2, ![256, 64]⟩ ![o, 0] qn sq)
              (constant ⟨2, ![L, 256]⟩ .f32 0x00000000#32))
            (broadcastTo ⟨2, ![L, 256]⟩ (extractStridedSlice ⟨2, ![1, 256]⟩ ![0, o] cq s2) b1))
            (broadcastTo ⟨2, ![L, 256]⟩ (extractStridedSlice ⟨2, ![L, 1]⟩ ![0, 0] ck s3) b2))
          (broadcast ⟨2, ![L, 256]⟩ w))
        (broadcastTo ⟨2, ![L, 256]⟩ (extractStridedSlice ⟨2, ![1, 256]⟩ ![0, o] lse s2) b1)) : FVec Ideal ⟨2, ![L, 256]⟩ .f32)
      fun k q => H.P (row o ho q) (k.castLE hL) :=
  block_P H M hL ho (h.k.rows0 s1 hL) (h.q.rows sq ho) (h.ck.rows0 s3 hL) h.cq h.l hw

include hLo in
/-- The block's tile of the scores' gradients, of the head's arrays. -/
theorem HIn.dS (h : HIn H M qn kn vb ob kt ck cq lse) {p : FVec Ideal ⟨2, ![L, 256]⟩ .f32}
    (hp : Is p fun k q => H.P (row o ho q) (k.castLE hL))
    (so : (⟨2, ![2048, 64]⟩ : Shape).Slices ![o, 0] ⟨2, ![256, 64]⟩)
    {s1 : (⟨2, ![2048, 64]⟩ : Shape).Slices ![0, 0] ⟨2, ![L, 64]⟩} {wf : DotDims.WF (⟨2, ![L, 64]⟩ : Shape) ⟨2, ![256, 64]⟩ ⟨2, ![L, 256]⟩ [1] [1] [0] [0] [] []}
    {r : (⟨2, ![L, 256]⟩ : Shape).Reduces [0] ⟨1, ![256]⟩} {hφ : FKind.Formats .f32}
    {hacc : (0x00000000#32 : BitVec 32) = FKind.add.neutral .f32 hφ} {sc : (⟨1, ![256]⟩ : Shape).ShapeCasts ⟨2, ![1, 256]⟩}
    {b1 : (⟨2, ![1, 256]⟩ : Shape).Broadcasts ⟨2, ![L, 256]⟩} :
    Is (mulf p (subf (matmul (dNT wf) none (extractStridedSlice ⟨2, ![L, 64]⟩ ![0, 0] vb s1) (extractStridedSlice ⟨2, ![256, 64]⟩ ![o, 0] ob so)
          (constant ⟨2, ![L, 256]⟩ .f32 0x00000000#32))
        (broadcastTo ⟨2, ![L, 256]⟩ (shapeCast ⟨2, ![1, 256]⟩ (multiReduction .add [0] ⟨1, ![256]⟩
          (mulf p (matmul (dNT wf) none (extractStridedSlice ⟨2, ![L, 64]⟩ ![0, 0] vb s1) (extractStridedSlice ⟨2, ![256, 64]⟩ ![o, 0] ob so)
            (constant ⟨2, ![L, 256]⟩ .f32 0x00000000#32)))
          0x00000000#32 r hφ hacc) sc) b1)) : FVec Ideal ⟨2, ![L, 256]⟩ .f32)
      fun k q => H.dS (row o ho q) (k.castLE hL) :=
  block_dS H hL ho hLo hp (h.v.rows0 s1 hL) (h.o.rows so ho)

/-- The last block's tile of probabilities, of the head's arrays. -/
theorem HIn.P' (h : HIn H M qn kn vb ob kt ck cq lse) {w : EReal} (hw : w = ⊥)
    (sq : (⟨2, ![2048, 64]⟩ : Shape).Slices ![o, 0] ⟨2, ![256, 64]⟩) (s2 : (⟨2, ![1, 2048]⟩ : Shape).Slices ![0, o] ⟨2, ![1, 256]⟩)
    (b1 : (⟨2, ![1, 256]⟩ : Shape).Broadcasts ⟨2, ![2048, 256]⟩)
    (b2 : (⟨2, ![2048, 1]⟩ : Shape).Broadcasts ⟨2, ![2048, 256]⟩) {i0 : (⟨2, ![2048, 256]⟩ : Shape).Iotas .tc 32 [0]}
    {i1 : (⟨2, ![2048, 256]⟩ : Shape).Iotas .tc 32 [1]}
    {wf : DotDims.WF (⟨2, ![2048, 64]⟩ : Shape) ⟨2, ![256, 64]⟩ ⟨2, ![2048, 256]⟩ [1] [1] [0] [0] [] []} :
    Is (exp (subf (select (cmpi .sle (iota .tc ⟨2, ![2048, 256]⟩ 32 [0] i0)
        (addi (iota .tc ⟨2, ![2048, 256]⟩ 32 [1] i1) (broadcast ⟨2, ![2048, 256]⟩ (BitVec.ofNat 32 o))))
          (subf (addf (matmul (dNT wf) none kn (extractStridedSlice ⟨2, ![256, 64]⟩ ![o, 0] qn sq)
              (constant ⟨2, ![2048, 256]⟩ .f32 0x00000000#32))
            (broadcastTo ⟨2, ![2048, 256]⟩ (extractStridedSlice ⟨2, ![1, 256]⟩ ![0, o] cq s2) b1))
            (broadcastTo ⟨2, ![2048, 256]⟩ ck b2))
          (broadcast ⟨2, ![2048, 256]⟩ w))
        (broadcastTo ⟨2, ![2048, 256]⟩ (extractStridedSlice ⟨2, ![1, 256]⟩ ![0, o] lse s2) b1)) : FVec Ideal ⟨2, ![2048, 256]⟩ .f32)
      fun k q => H.P (row o ho q) k :=
  block_P H M le_rfl ho h.k (h.q.rows sq ho) h.ck h.cq h.l hw

/-- The last block's tile of the scores' gradients, of the head's arrays. -/
theorem HIn.dS' (h : HIn H M qn kn vb ob kt ck cq lse) {p : FVec Ideal ⟨2, ![2048, 256]⟩ .f32}
    (hp : Is p fun k q => H.P (row o ho q) k)
    (so : (⟨2, ![2048, 64]⟩ : Shape).Slices ![o, 0] ⟨2, ![256, 64]⟩)
    {wf : DotDims.WF (⟨2, ![2048, 64]⟩ : Shape) ⟨2, ![256, 64]⟩ ⟨2, ![2048, 256]⟩ [1] [1] [0] [0] [] []}
    {r : (⟨2, ![2048, 256]⟩ : Shape).Reduces [0] ⟨1, ![256]⟩} {hφ : FKind.Formats .f32}
    {hacc : (0x00000000#32 : BitVec 32) = FKind.add.neutral .f32 hφ} {sc : (⟨1, ![256]⟩ : Shape).ShapeCasts ⟨2, ![1, 256]⟩}
    {b1 : (⟨2, ![1, 256]⟩ : Shape).Broadcasts ⟨2, ![2048, 256]⟩} :
    Is (mulf p (subf (matmul (dNT wf) none vb (extractStridedSlice ⟨2, ![256, 64]⟩ ![o, 0] ob so)
          (constant ⟨2, ![2048, 256]⟩ .f32 0x00000000#32))
        (broadcastTo ⟨2, ![2048, 256]⟩ (shapeCast ⟨2, ![1, 256]⟩ (multiReduction .add [0] ⟨1, ![256]⟩
          (mulf p (matmul (dNT wf) none vb (extractStridedSlice ⟨2, ![256, 64]⟩ ![o, 0] ob so)
            (constant ⟨2, ![2048, 256]⟩ .f32 0x00000000#32)))
          0x00000000#32 r hφ hacc) sc) b1)) : FVec Ideal ⟨2, ![2048, 256]⟩ .f32)
      fun k q => H.dS (row o ho q) k :=
  block_dS H le_rfl ho ho hp h.v (h.o.rows so ho)

end Block

end Cert.Fox
-- ==== Proof.Acc.lean ====
/- The three accumulators of a head: what each holds after the blocks before a bound, and what the stores into its first rows
   leave. -/
module

public import proofs.«01_k».proof.Proof.Block

@[expose] public section

noncomputable section

namespace Cert.Fox

open Idealize.ShloMosaic Idealize.ShloMosaic.ValueIdx

/-- The keys' gradient after the queries before `o`. -/
def accK (H : Hd) (o : ℕ) (k : Fin 2048) (d : Fin 64) : ℝ := acc (fun t => H.dS t k * (H.qn t d * (1 / 8))) o
/-- The values' gradient after the queries before `o`. -/
def accV (H : Hd) (o : ℕ) (k : Fin 2048) (d : Fin 64) : ℝ := acc (fun t => H.P t k * H.o t d) o
/-- The lane sums of the scores' gradients after the queries before `o`. -/
def accC (H : Hd) (o : ℕ) (k : Fin 2048) (j : Fin 128) : ℝ := acc (lanes (fun t => H.dS t k) j) o

/-- A family of matrices whose rows from `o + 256` on don't change with the block at `o`. -/
def Grows {n : ℕ} (F : ℕ → Fin 2048 → Fin n → ℝ) : Prop :=
  ∀ o (k : Fin 2048) (d : Fin n), o + 256 ≤ k.val → F (o + 256) k d = F o k d

theorem grows_accK (H : Hd) : Grows (accK H) := fun o k d h => acc_const _ (by omega) fun t _ ht => by
  rw [H.dS_of_lt (show t < k from by rw [Fin.lt_def]; omega), zero_mul]
theorem grows_accV (H : Hd) : Grows (accV H) := fun o k d h => acc_const _ (by omega) fun t _ ht => by
  rw [H.P_of_lt (show t < k from by rw [Fin.lt_def]; omega), zero_mul]
theorem grows_accC (H : Hd) : Grows (accC H) := fun o k d h => acc_const _ (by omega) fun t _ ht => by
  show (if _ then H.dS t k else 0) = 0
  rw [H.dS_of_lt (show t < k from by rw [Fin.lt_def]; omega), ite_self]

theorem off_zero : (![0, 0] : Fin 2 → ℕ) = fun _ => 0 := funext (by decide)

section

variable {sig : RefSig} {κ : Kind} {sp : Space} {n : ℕ}

/-- A load of the first `L` rows. -/
theorem load_rows {v : View sig κ sp ⟨2, ![2048, n]⟩ .f32} {Ls : List (View.Piece (Elt Ideal) ⟨2, ![2048, n]⟩ .f32)}
    {f : Fin 2048 → Fin n → ℝ} {L : ℕ} (hL : L ≤ 2048) (h : Is (View.canon Ls) f)
    {inb : ∀ a, (![0, 0] : Fin 2 → ℕ) a + (⟨2, ![L, n]⟩ : Shape).size a ≤ (⟨2, ![2048, n]⟩ : Shape).size a} :
    Is (a := L) (b := n) (v.readCov Ls (Rect.unit (s := ⟨2, ![2048, n]⟩) ![0, 0] (⟨2, ![L, n]⟩ : Shape).size inb).toLoadRect)
      fun k d => f (k.castLE hL) d := fun i j => by
  rw [View.readCov_eq_canon']
  rw [← h (i.castLE hL) j]
  refine congrArg _ (funext fun a => Fin.ext ?_)
  match a with
  | 0 => show 0 + 1 * i.val = i.val; omega
  | 1 => show 0 + 1 * j.val = j.val; omega

/-- A store into the first `L` rows of what the block at `o` makes of them. -/
theorem store_rows {Ls : List (View.Piece (Elt Ideal) ⟨2, ![2048, n]⟩ .f32)} (F : ℕ → Fin 2048 → Fin n → ℝ) (hF : Grows F)
    (o : ℕ) {L : ℕ} (hL : L ≤ 2048) (ho : L = o + 256) (h : Is (View.canon Ls) (F o))
    {w : (⟨2, ![L, n]⟩ : Shape).Idx → EReal} (hw : Is w fun k d => F L (k.castLE hL) d)
    {inb : ∀ a, (![0, 0] : Fin 2 → ℕ) a + (⟨2, ![L, n]⟩ : Shape).size a ≤ (⟨2, ![2048, n]⟩ : Shape).size a} :
    Is (View.canon ((⟨Rect.unit (s := ⟨2, ![2048, n]⟩) ![0, 0] (⟨2, ![L, n]⟩ : Shape).size inb, w⟩ : View.Piece (Elt Ideal) ⟨2, ![2048, n]⟩ .f32) :: Ls)) (F L) := fun i j => by
  by_cases hi : i.val < L
  · have e : ix2 i j = (Rect.unit (s := ⟨2, ![2048, n]⟩) ![0, 0] (⟨2, ![L, n]⟩ : Shape).size inb).emb (ix2 (⟨i.val, hi⟩ : Fin L) j) :=
      funext fun a => Fin.ext (by
        match a with
        | 0 => show i.val = 0 + 1 * i.val; omega
        | 1 => show j.val = 0 + 1 * j.val; omega)
    rw [e, View.canon_cons_emb]
    exact hw ⟨i.val, hi⟩ j
  · rw [View.canon_cons_of_not_mem]
    · rw [h i j, ho, hF o i j (by omega)]
    · intro hm
      have := (Rect.mem_set_unit (inb := inb).mp hm 0).2
      have h0 : i.val < 0 + L := this
      omega

/-- A block's load, product and store. -/
theorem acc_block {v : View sig κ sp ⟨2, ![2048, n]⟩ .f32} {Ls : List (View.Piece (Elt Ideal) ⟨2, ![2048, n]⟩ .f32)} (F : ℕ → Fin 2048 → Fin n → ℝ) (hF : Grows F)
    (o : ℕ) {L : ℕ} (hL : L ≤ 2048) (ho : L = o + 256) (h : Is (View.canon Ls) (F o))
    {w : (⟨2, ![L, n]⟩ : Shape).Idx → EReal}
    {inb inb' : ∀ a, (![0, 0] : Fin 2 → ℕ) a + (⟨2, ![L, n]⟩ : Shape).size a ≤ (⟨2, ![2048, n]⟩ : Shape).size a}
    (hw : Is (a := L) (b := n) (v.readCov Ls (Rect.unit (s := ⟨2, ![2048, n]⟩) ![0, 0] (⟨2, ![L, n]⟩ : Shape).size inb').toLoadRect)
        (fun k d => F o (k.castLE hL) d) → Is w fun k d => F L (k.castLE hL) d) :
    Is (View.canon ((⟨Rect.unit (s := ⟨2, ![2048, n]⟩) ![0, 0] (⟨2, ![L, n]⟩ : Shape).size inb, w⟩ : View.Piece (Elt Ideal) ⟨2, ![2048, n]⟩ .f32) :: Ls)) (F L) :=
  store_rows F hF o hL ho h (hw (load_rows hL h))

/-- A store of the whole array. -/
theorem store_all {m : ℕ} {Ls : List (View.Piece (Elt Ideal) ⟨2, ![m, n]⟩ .f32)} {f : Fin m → Fin n → ℝ}
    {w : (⟨2, ![m, n]⟩ : Shape).Idx → EReal} (hw : Is w f)
    {inb : ∀ a, (![0, 0] : Fin 2 → ℕ) a + (⟨2, ![m, n]⟩ : Shape).size a ≤ (⟨2, ![m, n]⟩ : Shape).size a} :
    Is (View.canon ((⟨Rect.unit (s := ⟨2, ![m, n]⟩) ![0, 0] (⟨2, ![m, n]⟩ : Shape).size inb, w⟩ : View.Piece (Elt Ideal) ⟨2, ![m, n]⟩ .f32) :: Ls)) f := by
  rw [View.canon_cons_unit_zero off_zero inb w Ls]
  exact hw

/-- A load of the whole array. -/
theorem load_all {m : ℕ} {v : View sig κ sp ⟨2, ![m, n]⟩ .f32} {Ls : List (View.Piece (Elt Ideal) ⟨2, ![m, n]⟩ .f32)}
    {f : Fin m → Fin n → ℝ} (h : Is (View.canon Ls) f)
    {inb : ∀ a, (![0, 0] : Fin 2 → ℕ) a + (⟨2, ![m, n]⟩ : Shape).size a ≤ (⟨2, ![m, n]⟩ : Shape).size a} :
    Is (a := m) (b := n) (v.readCov Ls (Rect.unit (s := ⟨2, ![m, n]⟩) ![0, 0] (⟨2, ![m, n]⟩ : Shape).size inb).toLoadRect) f := by
  rw [View.readCov_eq_canon']
  have e := View.ld_unit_zero off_zero inb (View.canon Ls)
  exact fun i j => (congrFun e (ix2 i j)).trans (h i j)

end

end Cert.Fox
-- ==== Proof.Head.lean ====
/- What a head does before and after its blocks: the norms and their gradients, its column of a wide array, and the arrays put
   together. -/
module

public import proofs.«01_k».proof.Proof.Acc

@[expose] public section

noncomputable section

namespace Cert.Fox

open Idealize.ShloMosaic Idealize.ShloMosaic.ValueIdx

/-! ## The norms -/

section Norm

variable {x n y : FVec Ideal ⟨2, ![2048, 64]⟩ .f32} {m r s : FVec Ideal ⟨2, ![2048, 1]⟩ .f32} {g : FVec Ideal ⟨2, ![1, 64]⟩ .f32}
variable {X Y : Fin 2048 → Fin 64 → ℝ} {G : Fin 64 → ℝ}
variable {hred : (⟨2, ![2048, 64]⟩ : Shape).Reduces [1] ⟨1, ![2048]⟩} {hred1 : (⟨2, ![2048, 1]⟩ : Shape).Reduces [1] ⟨1, ![2048]⟩}
variable {hredr : (⟨2, ![2048, 64]⟩ : Shape).Reduces [0] ⟨1, ![64]⟩}
variable {hφ hφ' : FKind.Formats .f32} {ha : (0x00000000#32 : BitVec 32) = FKind.add.neutral .f32 hφ} {ha' : (0x00000000#32 : BitVec 32) = FKind.add.neutral .f32 hφ'}
variable {hc hc' : (⟨1, ![2048]⟩ : Shape).ShapeCasts ⟨2, ![2048, 1]⟩} {hcr : (⟨1, ![64]⟩ : Shape).ShapeCasts ⟨2, ![1, 64]⟩}
variable {hb hb' : (⟨2, ![2048, 1]⟩ : Shape).Broadcasts ⟨2, ![2048, 64]⟩} {hbr : (⟨2, ![1, 64]⟩ : Shape).Broadcasts ⟨2, ![2048, 64]⟩}

theorem is_ms (hx : Is x X) :
    Is (addf (divf (shapeCast ⟨2, ![2048, 1]⟩ (multiReduction .add [1] ⟨1, ![2048]⟩ (mulf x x) 0x00000000#32 hred hφ ha) hc)
        (broadcast ⟨2, ![2048, 1]⟩ (Scalar.ofBits .f32 0x42800000#32 : Ideal .f32))) (broadcast ⟨2, ![2048, 1]⟩ (Scalar.ofBits .f32 0x358637BD#32 : Ideal .f32)))
      fun t _ => ms X t :=
  Is.add (Is.div (((hx.mul hx).sumCols hred hφ ha).col hc) (Is.lit ofBits_64) fun _ _ => by norm_num) (Is.lit ofBits_eps)

theorem is_rs (hm : Is m fun t _ => ms X t) : Is (rsqrt m) fun t _ => rs X t := Is.rsqrt hm fun t _ => ms_pos X t

theorem is_sl (hr : Is r fun t _ => rs X t) (hm : Is m fun t _ => ms X t) :
    Is (mulf (broadcast ⟨2, ![2048, 1]⟩ (Scalar.ofBits .f32 0xBF000000#32 : Ideal .f32)) (divf r m)) fun t _ => sl X t :=
  (Is.mul (Is.lit ofBits_neg_half) (Is.div hr hm fun t _ => (ms_pos X t).ne')).congr fun _ _ => by unfold sl; ring

theorem is_xn (hx : Is x X) (hr : Is r fun t _ => rs X t) : Is (mulf x (broadcastTo ⟨2, ![2048, 64]⟩ r hb)) (xn X) :=
  Is.mul hx (hr.bcCol hb)

theorem is_gain (hg : Is g fun _ d => G d) : Is (broadcastTo ⟨2, ![2048, 64]⟩ g hbr) fun _ d => G d := hg.bcRow hbr

theorem is_nrm (hn : Is n (xn X)) (hg : Is y fun _ d => G d) : Is (mulf n y) (nrm X G) := Is.mul hn hg

theorem is_eighth (hy : Is y Y) : Is (mulf y (broadcast ⟨2, ![2048, 64]⟩ (Scalar.ofBits .f32 0x3E000000#32 : Ideal .f32))) fun t d => Y t d * (1 / 8) :=
  Is.mul hy (Is.lit ofBits_eighth)

/-- The norm's gradient in the gain … -/
theorem is_vjpG (hn : Is n (xn X)) (hy : Is y Y) :
    Is (shapeCast ⟨2, ![1, 64]⟩ (multiReduction .add [0] ⟨1, ![64]⟩ (mulf n y) 0x00000000#32 hredr hφ ha) hcr) fun _ d => vjpG X Y d :=
  ((hn.mul hy).sumRows hredr hφ ha).row hcr

/-- … and in its row. -/
theorem is_vjpX (hx : Is x X) (hg : Is g fun _ d => G d) (hr : Is r fun t _ => rs X t) (hs : Is s fun t _ => sl X t) (hy : Is y Y) :
    Is (addf (addf (mulf (mulf y (broadcastTo ⟨2, ![2048, 64]⟩ g hbr)) (broadcastTo ⟨2, ![2048, 64]⟩ r hb))
        (mulf x (broadcastTo ⟨2, ![2048, 64]⟩ (shapeCast ⟨2, ![2048, 1]⟩ (multiReduction .add [1] ⟨1, ![2048]⟩
          (divf (mulf (shapeCast ⟨2, ![2048, 1]⟩ (multiReduction .add [1] ⟨1, ![2048]⟩ (mulf x (mulf y (broadcastTo ⟨2, ![2048, 64]⟩ g hbr))) 0x00000000#32 hred hφ ha) hc) s)
            (broadcast ⟨2, ![2048, 1]⟩ (Scalar.ofBits .f32 0x42800000#32 : Ideal .f32))) 0x00000000#32 hred1 hφ' ha') hc') hb')))
        (mulf (broadcastTo ⟨2, ![2048, 64]⟩ (shapeCast ⟨2, ![2048, 1]⟩ (multiReduction .add [1] ⟨1, ![2048]⟩
          (divf (mulf (shapeCast ⟨2, ![2048, 1]⟩ (multiReduction .add [1] ⟨1, ![2048]⟩ (mulf x (mulf y (broadcastTo ⟨2, ![2048, 64]⟩ g hbr))) 0x00000000#32 hred hφ ha) hc) s)
            (broadcast ⟨2, ![2048, 1]⟩ (Scalar.ofBits .f32 0x42800000#32 : Ideal .f32))) 0x00000000#32 hred1 hφ' ha') hc') hb') x))
      (vjpX X G Y) := by
  have h1 := hy.mul (hg.bcRow (a := 2048) hbr)
  have h2 := ((Is.div (((hx.mul h1).sumCols hred hφ ha |>.col hc).mul hs) (Is.lit ofBits_64) (fun _ _ => by norm_num)).sumCols hred1 hφ' ha'
    |>.col hc').bcCol (b := 64) hb'
  refine (((h1.mul (hr.bcCol hb)).add (hx.mul h2)).add (h2.mul hx)).congr fun t d => ?_
  simp only [Fin.sum_univ_one, Finset.univ_unique, Finset.sum_singleton, vjpX]
  ring

end Norm

/-! ## A head's column of a wide array -/

theorem cmp_lane {w : BitVec 32} {e : ℕ} (hw : w = BitVec.ofNat 32 e) (he : e < 128) (h : (⟨2, ![2048, 128]⟩ : Shape).Iotas .tc 32 [1])
    (t : Fin 2048) (j : Fin 128) :
    cmpi .eq (iota .tc ⟨2, ![2048, 128]⟩ 32 [1] h) (broadcast ⟨2, ![2048, 128]⟩ w) (ix2 t j) = BitVec.ofBool (decide (j.val = e)) := by
  have hj := j.isLt
  show BitVec.ofBool (decide (BitVec.ofNat 32 (0 * 128 + j.val) = w)) = _
  congr 1
  rw [hw, decide_eq_decide, zero_mul, zero_add]
  constructor
  · intro h
    have := congrArg BitVec.toNat h
    rwa [BitVec.toNat_ofNat, BitVec.toNat_ofNat, Nat.mod_eq_of_lt (by omega), Nat.mod_eq_of_lt (by omega)] at this
  · intro h; rw [h]

theorem is_pick {w : BitVec 32} {e : ℕ} (hw : w = BitVec.ofNat 32 e) (he : e < 128) {h : (⟨2, ![2048, 128]⟩ : Shape).Iotas .tc 32 [1]}
    {x : FVec Ideal ⟨2, ![2048, 128]⟩ .f32} {C : Fin 2048 → ℝ} (hC : ∀ t, x (ix2 t ⟨e, he⟩) = ((C t : ℝ) : EReal))
    {hred : (⟨2, ![2048, 128]⟩ : Shape).Reduces [1] ⟨1, ![2048]⟩} {hφ : FKind.Formats .f32}
    {ha : (0x00000000#32 : BitVec 32) = FKind.add.neutral .f32 hφ} {hc : (⟨1, ![2048]⟩ : Shape).ShapeCasts ⟨2, ![2048, 1]⟩} :
    Is (shapeCast ⟨2, ![2048, 1]⟩ (multiReduction .add [1] ⟨1, ![2048]⟩
      (select (cmpi .eq (iota .tc ⟨2, ![2048, 128]⟩ 32 [1] h) (broadcast ⟨2, ![2048, 128]⟩ w)) x
        (broadcast ⟨2, ![2048, 128]⟩ (Scalar.ofBits .f32 0x00000000#32 : Ideal .f32))) 0x00000000#32 hred hφ ha) hc) fun t _ => C t := by
  have key : Is (select (cmpi .eq (iota .tc ⟨2, ![2048, 128]⟩ 32 [1] h) (broadcast ⟨2, ![2048, 128]⟩ w)) x
        (broadcast ⟨2, ![2048, 128]⟩ (Scalar.ofBits .f32 0x00000000#32 : Ideal .f32))) fun t (j : Fin 128) => if j = ⟨e, he⟩ then C t else 0 := fun t j => by
    show Scalar.select (cmpi .eq (iota .tc ⟨2, ![2048, 128]⟩ 32 [1] h) (broadcast ⟨2, ![2048, 128]⟩ w) (ix2 t j)) (x (ix2 t j))
      (Ideal.ofBits .f32 0x00000000#32) = _
    rw [cmp_lane hw he]
    by_cases hj : j = ⟨e, he⟩
    · subst hj; simp only [decide_true, if_true]; exact hC t
    · have : ¬ j.val = e := fun h => hj (Fin.ext h)
      simp only [decide_eq_false this, if_neg hj]; exact ofBits_zero
  refine ((key.sumCols hred hφ ha).col hc).congr fun t _ => ?_
  simp

/-- The head's column replaced, the rest as before. -/
theorem put_apply {w : BitVec 32} {e : ℕ} (hw : w = BitVec.ofNat 32 e) (he : e < 128) {h : (⟨2, ![2048, 128]⟩ : Shape).Iotas .tc 32 [1]}
    {x y : FVec Ideal ⟨2, ![2048, 128]⟩ .f32} {f : Fin 2048 → Fin 128 → ℝ} (hx : Is x f)
    {hred : (⟨2, ![2048, 128]⟩ : Shape).Reduces [1] ⟨1, ![2048]⟩} {hφ : FKind.Formats .f32}
    {ha : (0x00000000#32 : BitVec 32) = FKind.add.neutral .f32 hφ} {hc : (⟨1, ![2048]⟩ : Shape).ShapeCasts ⟨2, ![2048, 1]⟩}
    {hc1 : (⟨2, ![2048, 1]⟩ : Shape).ShapeCasts ⟨2, ![2048, 1]⟩} {hc2 : (⟨2, ![2048, 128]⟩ : Shape).ShapeCasts ⟨2, ![2048, 128]⟩}
    {hb : (⟨2, ![2048, 1]⟩ : Shape).Broadcasts ⟨2, ![2048, 128]⟩} (t : Fin 2048) (j : Fin 128) :
    select (cmpi .eq (iota .tc ⟨2, ![2048, 128]⟩ 32 [1] h) (broadcast ⟨2, ![2048, 128]⟩ w))
      (broadcastTo ⟨2, ![2048, 128]⟩ (shapeCast ⟨2, ![2048, 1]⟩ (subf (broadcast ⟨2, ![2048, 1]⟩ (Scalar.ofBits .f32 0x00000000#32 : Ideal .f32))
        (shapeCast ⟨2, ![2048, 1]⟩ (multiReduction .add [1] ⟨1, ![2048]⟩ x 0x00000000#32 hred hφ ha) hc)) hc1) hb)
      (shapeCast ⟨2, ![2048, 128]⟩ y hc2) (ix2 t j) = if j.val = e then ((-∑ j, f t j : ℝ) : EReal) else y (ix2 t j) := by
  rw [select_apply, cmp_lane hw he]
  by_cases hj : j.val = e
  · simp only [decide_eq_true hj, if_pos hj]
    have h0 : (Scalar.ofBits .f32 0x00000000#32 : Ideal .f32) = (0 : EReal) := ofBits_zero
    rw [h0]
    exact ((Is.neg0 ((hx.sumCols hred hφ ha).col hc)).cast hc1).bcCol hb t j
  · simp only [decide_eq_false hj, if_neg hj]
    show shapeCast ⟨2, ![2048, 128]⟩ y hc2 (ix2 t j) = _
    rw [shapeCast_self]

/-! ## Arrays put together -/

theorem is_cat8 {x0 x1 x2 x3 x4 x5 x6 x7 : FVec Ideal ⟨2, ![256, 64]⟩ .f32} {f : Fin 2048 → Fin 64 → ℝ}
    (h0 : Is x0 fun q d => f (row 0 (by decide) q) d) (h1 : Is x1 fun q d => f (row 256 (by decide) q) d)
    (h2 : Is x2 fun q d => f (row 512 (by decide) q) d) (h3 : Is x3 fun q d => f (row 768 (by decide) q) d)
    (h4 : Is x4 fun q d => f (row 1024 (by decide) q) d) (h5 : Is x5 fun q d => f (row 1280 (by decide) q) d)
    (h6 : Is x6 fun q d => f (row 1536 (by decide) q) d) (h7 : Is x7 fun q d => f (row 1792 (by decide) q) d) {h} :
    Is (concatenate ⟨2, ![2048, 64]⟩ 0 [⟨⟨2, ![256, 64]⟩, x0⟩, ⟨⟨2, ![256, 64]⟩, x1⟩, ⟨⟨2, ![256, 64]⟩, x2⟩, ⟨⟨2, ![256, 64]⟩, x3⟩,
      ⟨⟨2, ![256, 64]⟩, x4⟩, ⟨⟨2, ![256, 64]⟩, x5⟩, ⟨⟨2, ![256, 64]⟩, x6⟩, ⟨⟨2, ![256, 64]⟩, x7⟩] h) f := fun t d => by
  have ht := t.isLt
  have key : ∀ (k : ℕ) (hk : k < 8) (x : FVec Ideal ⟨2, ![256, 64]⟩ .f32) (hr : 256 * k + 256 ≤ 2048)
      (hx : Is x fun q d => f (row (256 * k) hr q) d) (hxk : ([⟨⟨2, ![256, 64]⟩, x0⟩, ⟨⟨2, ![256, 64]⟩, x1⟩, ⟨⟨2, ![256, 64]⟩, x2⟩, ⟨⟨2, ![256, 64]⟩, x3⟩,
      ⟨⟨2, ![256, 64]⟩, x4⟩, ⟨⟨2, ![256, 64]⟩, x5⟩, ⟨⟨2, ![256, 64]⟩, x6⟩, ⟨⟨2, ![256, 64]⟩, x7⟩] : List ((s : Shape) × (s.Idx → Ideal .f32)))[k]'hk = ⟨⟨2, ![256, 64]⟩, x⟩)
      (hl : 256 * k ≤ t.val) (hu : t.val < 256 * k + 256)
      (hp : ((([⟨⟨2, ![256, 64]⟩, x0⟩, ⟨⟨2, ![256, 64]⟩, x1⟩, ⟨⟨2, ![256, 64]⟩, x2⟩, ⟨⟨2, ![256, 64]⟩, x3⟩,
      ⟨⟨2, ![256, 64]⟩, x4⟩, ⟨⟨2, ![256, 64]⟩, x5⟩, ⟨⟨2, ![256, 64]⟩, x6⟩, ⟨⟨2, ![256, 64]⟩, x7⟩] : List ((s : Shape) × (s.Idx → Ideal .f32))).take k).map (·.1) |>.map
        fun s => if h : s.rank = (⟨2, ![2048, 64]⟩ : Shape).rank then s.size ((0 : Fin 2).cast h.symm) else 0).sum = 256 * k),
      concatenate ⟨2, ![2048, 64]⟩ 0 [⟨⟨2, ![256, 64]⟩, x0⟩, ⟨⟨2, ![256, 64]⟩, x1⟩, ⟨⟨2, ![256, 64]⟩, x2⟩, ⟨⟨2, ![256, 64]⟩, x3⟩,
      ⟨⟨2, ![256, 64]⟩, x4⟩, ⟨⟨2, ![256, 64]⟩, x5⟩, ⟨⟨2, ![256, 64]⟩, x6⟩, ⟨⟨2, ![256, 64]⟩, x7⟩] h (ix2 t d) = ((f t d : ℝ) : EReal) := by
    intro k hk x hr hx hxk hl hu hp
    refine (concatenate_apply_piece (t := ⟨2, ![2048, 64]⟩) 0 _ h (ix2 t d) k hk _ x hxk rfl (256 * k) hp
      (ix2 ⟨t.val - 256 * k, by omega⟩ d) (fun b hb => ?_) ?_).trans ?_
    · match b with
      | ⟨0, _⟩ => exact absurd rfl hb
      | ⟨1, _⟩ => rfl
    · show 256 * k + (t.val - 256 * k) = t.val; omega
    · have e : row (256 * k) hr ⟨t.val - 256 * k, by omega⟩ = t := Fin.ext (by show 256 * k + (t.val - 256 * k) = t.val; omega)
      exact (hx ⟨t.val - 256 * k, by omega⟩ d).trans (by show ((f (row (256 * k) hr ⟨t.val - 256 * k, by omega⟩) d : ℝ) : EReal) = _; rw [e])
  rcases (by omega : t.val < 256 ∨ 256 ≤ t.val ∧ t.val < 512 ∨ 512 ≤ t.val ∧ t.val < 768 ∨ 768 ≤ t.val ∧ t.val < 1024 ∨
    1024 ≤ t.val ∧ t.val < 1280 ∨ 1280 ≤ t.val ∧ t.val < 1536 ∨ 1536 ≤ t.val ∧ t.val < 1792 ∨ 1792 ≤ t.val) with c | c | c | c | c | c | c | c
  · exact key 0 (by decide) x0 (by decide) h0 rfl (by omega) (by omega) rfl
  · exact key 1 (by decide) x1 (by decide) h1 rfl (by omega) (by omega) rfl
  · exact key 2 (by decide) x2 (by decide) h2 rfl (by omega) (by omega) rfl
  · exact key 3 (by decide) x3 (by decide) h3 rfl (by omega) (by omega) rfl
  · exact key 4 (by decide) x4 (by decide) h4 rfl (by omega) (by omega) rfl
  · exact key 5 (by decide) x5 (by decide) h5 rfl (by omega) (by omega) rfl
  · exact key 6 (by decide) x6 (by decide) h6 rfl (by omega) (by omega) rfl
  · exact key 7 (by decide) x7 (by decide) h7 rfl (by omega) (by omega) rfl

/-- Two heads side by side. -/
def two (f g : Fin 2048 → Fin 64 → ℝ) (t : Fin 2048) (j : Fin 128) : ℝ :=
  if h : j.val < 64 then f t ⟨j.val, h⟩ else g t ⟨j.val - 64, by have := j.isLt; omega⟩

theorem is_cat2 {x y : FVec Ideal ⟨2, ![2048, 64]⟩ .f32} {f g : Fin 2048 → Fin 64 → ℝ} (hx : Is x f) (hy : Is y g) {h} :
    Is (concatenate ⟨2, ![2048, 128]⟩ 1 [⟨⟨2, ![2048, 64]⟩, x⟩, ⟨⟨2, ![2048, 64]⟩, y⟩] h) (two f g) := fun t j => by
  have hj := j.isLt
  unfold two
  by_cases c : j.val < 64
  · rw [dif_pos c]
    refine (concatenate_pair_apply_left (t := ⟨2, ![2048, 128]⟩) 1 x y h (ix2 t j) rfl (ix2 t ⟨j.val, c⟩) fun b => ?_).trans (hx _ _)
    match b with
    | ⟨0, _⟩ => rfl
    | ⟨1, _⟩ => rfl
  · rw [dif_neg c]
    refine (concatenate_pair_apply_right (t := ⟨2, ![2048, 128]⟩) 1 x y h (ix2 t j) rfl rfl (ix2 t ⟨j.val - 64, by omega⟩) (fun b hb => ?_) ?_).trans (hy _ _)
    · match b with
      | ⟨0, _⟩ => rfl
      | ⟨1, _⟩ => exact absurd rfl hb
    · show (j.val - 64) + 64 = j.val; omega

/-- A slab of real numbers. -/
def Is3 {a b : ℕ} (x : (⟨3, ![1, a, b]⟩ : Shape).Idx → EReal) (f : Fin a → Fin b → ℝ) : Prop := ∀ i j, x (ix3 0 i j) = ((f i j : ℝ) : EReal)

theorem Is.slab {a b : ℕ} {x : (⟨2, ![a, b]⟩ : Shape).Idx → EReal} {f : Fin a → Fin b → ℝ} (hx : Is x f) {h} :
    Is3 (shapeCast ⟨3, ![1, a, b]⟩ x h) f := fun i j =>
  (shapeCast_ab_1ab_apply x h 0 i j).trans (hx i j)

theorem is_line {b : ℕ} {x : (⟨3, ![1, 1, b]⟩ : Shape).Idx → EReal} {f : Fin b → ℝ} (hx : ∀ j, x (ix3 0 0 j) = ((f j : ℝ) : EReal)) {h} :
    Is (shapeCast ⟨2, ![1, b]⟩ x h) fun _ j => f j := fun i j => by
  obtain rfl : i = 0 := Subsingleton.elim _ _
  exact (shapeCast_1ab_ab_apply x h 0 j).trans (hx j)

end Cert.Fox
-- ==== Proof.Loads.lean ====
/- The blocks a pair of heads is given, the loads of them, and the stores that its three gradients and its columns leave. -/
module

public import proofs.«01_k».proof.Proof.Head

@[expose] public section

noncomputable section

namespace Cert.Fox

open Idealize.ShloMosaic Idealize.ShloMosaic.ValueIdx

/-- What the windows of pair `n` hold of its two heads. -/
structure Win (n : ℕ) (x0 x1 x2 x3 : FVec Ideal ⟨2, ![2048, 128]⟩ .f32) (x4 : FVec Ideal ⟨3, ![1, 2, 2048]⟩ .f32) (x5 x6 : FVec Ideal ⟨2, ![1, 64]⟩ .f32)
    (x7 : FVec Ideal ⟨3, ![1, 8, 2048]⟩ .f32) (x8 : FVec Ideal ⟨2, ![2048, 128]⟩ .bf16) (H H' : Hd) (M M' : Fin 2048 → ℝ) : Prop where
  lt : n < 8
  q : Is x0 (two H.xq H'.xq)
  k : Is x1 (two H.xk H'.xk)
  v : Is x2 (two H.v H'.v)
  o : Is x8 (two H.o H'.o)
  c : ∀ t, x3 (ix2 t ⟨2 * n + 0, by omega⟩) = ((H.c t : ℝ) : EReal)
  c' : ∀ t, x3 (ix2 t ⟨2 * n + 1, by omega⟩) = ((H'.c t : ℝ) : EReal)
  r : ∀ t, x4 (ix3 0 0 t) = ((H.c t : ℝ) : EReal)
  r' : ∀ t, x4 (ix3 0 1 t) = ((H'.c t : ℝ) : EReal)
  gq : Is x5 fun _ d => H.gq d
  gq' : Is x5 fun _ d => H'.gq d
  gk : Is x6 fun _ d => H.gk d
  gk' : Is x6 fun _ d => H'.gk d
  l : ∀ t, x7 (ix3 0 0 t) = ((M t + Real.log (H.ZM M t) : ℝ) : EReal)
  l' : ∀ t, x7 (ix3 0 1 t) = ((M' t + Real.log (H'.ZM M' t) : ℝ) : EReal)

/-- The word of a head's column. -/
theorem word0 (n : ℕ) : Scalar.addi (Scalar.muli 2#32 (BitVec.ofNat 32 n)) 0#32 = BitVec.ofNat 32 (2 * n + 0) := by
  rw [BitVec.ofNat_add, BitVec.ofNat_mul]; rfl
theorem word1 (n : ℕ) : Scalar.addi (Scalar.muli 2#32 (BitVec.ofNat 32 n)) 1#32 = BitVec.ofNat 32 (2 * n + 1) := by
  rw [BitVec.ofNat_add, BitVec.ofNat_mul]; rfl

section

variable {sig : RefSig} {κ : Kind} {sp : Space}

theorem two_lo (f g : Fin 2048 → Fin 64 → ℝ) (t : Fin 2048) (d : Fin 64) : two f g t ⟨0 + d.val, by have := d.isLt; omega⟩ = f t d := by
  have hd := d.isLt
  unfold two
  rw [dif_pos (show 0 + d.val < 64 by omega)]
  congr 1; exact Fin.ext (by show 0 + d.val = d.val; omega)
theorem two_hi (f g : Fin 2048 → Fin 64 → ℝ) (t : Fin 2048) (d : Fin 64) : two f g t ⟨64 + d.val, by have := d.isLt; omega⟩ = g t d := by
  have hd := d.isLt
  unfold two
  rw [dif_neg (show ¬ 64 + d.val < 64 by omega)]
  congr 1; exact Fin.ext (by show 64 + d.val - 64 = d.val; omega)

/-- A load of 64 columns. -/
theorem load_col {e : EltTy} (o : ℕ) (ho : o + 64 ≤ 128) {m : Memref sig κ sp ⟨2, ![2048, 128]⟩ e} {h : m.IsWhole} {x : (⟨2, ![2048, 128]⟩ : Shape).Idx → Elt Ideal e}
    {inb : ∀ a, (![0, o] : Fin 2 → ℕ) a + (⟨2, ![2048, 64]⟩ : Shape).size a ≤ (⟨2, ![2048, 128]⟩ : Shape).size a} (t : Fin 2048) (d : Fin 64) :
    View.readAt (Elt Ideal) m.view (Rect.unit (s := ⟨2, ![2048, 128]⟩) ![0, o] (⟨2, ![2048, 64]⟩ : Shape).size inb).toLoadRect (h.unread x) (ix2 t d)
      = x (ix2 t ⟨o + d.val, by have := d.isLt; omega⟩) := by
  rw [View.readAt_eq_ld, h.read_unread]
  refine congrArg x (Shape.idx_ext₂ ?_ ?_)
  · show 0 + 1 * t.val = t.val; omega
  · show o + 1 * d.val = o + d.val; omega

/-- The first head's columns … -/
theorem load_lo {m : Memref sig κ sp ⟨2, ![2048, 128]⟩ .f32} {h : m.IsWhole} {x : FVec Ideal ⟨2, ![2048, 128]⟩ .f32} {f g : Fin 2048 → Fin 64 → ℝ}
    (hx : Is x (two f g)) {inb : ∀ a, (![0, 0] : Fin 2 → ℕ) a + (⟨2, ![2048, 64]⟩ : Shape).size a ≤ (⟨2, ![2048, 128]⟩ : Shape).size a} :
    Is (a := 2048) (b := 64) (View.readAt (Elt Ideal) m.view (Rect.unit (s := ⟨2, ![2048, 128]⟩) ![0, 0] (⟨2, ![2048, 64]⟩ : Shape).size inb).toLoadRect (h.unread x)) f :=
  fun t d => (load_col 0 (by decide) t d).trans ((hx t _).trans (congrArg _ (two_lo f g t d)))

/-- … the second's … -/
theorem load_hi {m : Memref sig κ sp ⟨2, ![2048, 128]⟩ .f32} {h : m.IsWhole} {x : FVec Ideal ⟨2, ![2048, 128]⟩ .f32} {f g : Fin 2048 → Fin 64 → ℝ}
    (hx : Is x (two f g)) {inb : ∀ a, (![0, 64] : Fin 2 → ℕ) a + (⟨2, ![2048, 64]⟩ : Shape).size a ≤ (⟨2, ![2048, 128]⟩ : Shape).size a} :
    Is (a := 2048) (b := 64) (View.readAt (Elt Ideal) m.view (Rect.unit (s := ⟨2, ![2048, 128]⟩) ![0, 64] (⟨2, ![2048, 64]⟩ : Shape).size inb).toLoadRect (h.unread x)) g :=
  fun t d => (load_col 64 (by decide) t d).trans ((hx t _).trans (congrArg _ (two_hi f g t d)))

/-- … and those of the cotangent. -/
theorem load_lo16 {m : Memref sig κ sp ⟨2, ![2048, 128]⟩ .bf16} {h : m.IsWhole} {x : FVec Ideal ⟨2, ![2048, 128]⟩ .bf16} {f g : Fin 2048 → Fin 64 → ℝ}
    (hx : Is x (two f g)) {inb : ∀ a, (![0, 0] : Fin 2 → ℕ) a + (⟨2, ![2048, 64]⟩ : Shape).size a ≤ (⟨2, ![2048, 128]⟩ : Shape).size a} :
    Is (a := 2048) (b := 64) (View.readAt (Elt Ideal) m.view (Rect.unit (s := ⟨2, ![2048, 128]⟩) ![0, 0] (⟨2, ![2048, 64]⟩ : Shape).size inb).toLoadRect (h.unread x)) f :=
  fun t d => (load_col 0 (by decide) t d).trans ((hx t _).trans (congrArg _ (two_lo f g t d)))

theorem load_hi16 {m : Memref sig κ sp ⟨2, ![2048, 128]⟩ .bf16} {h : m.IsWhole} {x : FVec Ideal ⟨2, ![2048, 128]⟩ .bf16} {f g : Fin 2048 → Fin 64 → ℝ}
    (hx : Is x (two f g)) {inb : ∀ a, (![0, 64] : Fin 2 → ℕ) a + (⟨2, ![2048, 64]⟩ : Shape).size a ≤ (⟨2, ![2048, 128]⟩ : Shape).size a} :
    Is (a := 2048) (b := 64) (View.readAt (Elt Ideal) m.view (Rect.unit (s := ⟨2, ![2048, 128]⟩) ![0, 64] (⟨2, ![2048, 64]⟩ : Shape).size inb).toLoadRect (h.unread x)) g :=
  fun t d => (load_col 64 (by decide) t d).trans ((hx t _).trans (congrArg _ (two_hi f g t d)))

/-- A load of a whole array. -/
theorem load_at {a b : ℕ} {m : Memref sig κ sp ⟨2, ![a, b]⟩ .f32} {h : m.IsWhole} {x : FVec Ideal ⟨2, ![a, b]⟩ .f32}
    {inb : ∀ c, (![0, 0] : Fin 2 → ℕ) c + (⟨2, ![a, b]⟩ : Shape).size c ≤ (⟨2, ![a, b]⟩ : Shape).size c} :
    View.readAt (Elt Ideal) m.view (Rect.unit (s := ⟨2, ![a, b]⟩) ![0, 0] (⟨2, ![a, b]⟩ : Shape).size inb).toLoadRect (h.unread x) = x := by
  rw [View.readAt_eq_ld, h.read_unread]
  exact View.ld_unit_zero (Val := Elt Ideal) (e := .f32) off_zero inb x

theorem load_is {a b : ℕ} {m : Memref sig κ sp ⟨2, ![a, b]⟩ .f32} {h : m.IsWhole} {x : FVec Ideal ⟨2, ![a, b]⟩ .f32} {f : Fin a → Fin b → ℝ} (hx : Is x f)
    {inb : ∀ c, (![0, 0] : Fin 2 → ℕ) c + (⟨2, ![a, b]⟩ : Shape).size c ≤ (⟨2, ![a, b]⟩ : Shape).size c} :
    Is (a := a) (b := b) (View.readAt (Elt Ideal) m.view (Rect.unit (s := ⟨2, ![a, b]⟩) ![0, 0] (⟨2, ![a, b]⟩ : Shape).size inb).toLoadRect (h.unread x)) f :=
  fun i j => (congrFun load_at (ix2 i j)).trans (hx i j)

/-- A load of one row of a slab. -/
theorem load_line {r p : ℕ} (hp : p < r) {m : Memref sig κ sp ⟨3, ![1, r, 2048]⟩ .f32} {h : m.IsWhole} {x : FVec Ideal ⟨3, ![1, r, 2048]⟩ .f32} {f : Fin 2048 → ℝ}
    (hx : ∀ t, x (ix3 0 ⟨p, hp⟩ t) = ((f t : ℝ) : EReal))
    {inb : ∀ c, (![0, p, 0] : Fin 3 → ℕ) c + (⟨3, ![1, 1, 2048]⟩ : Shape).size c ≤ (⟨3, ![1, r, 2048]⟩ : Shape).size c} (t : Fin 2048) :
    View.readAt (Elt Ideal) m.view (Rect.unit (s := ⟨3, ![1, r, 2048]⟩) ![0, p, 0] (⟨3, ![1, 1, 2048]⟩ : Shape).size inb).toLoadRect (h.unread x) (ix3 0 0 t) = ((f t : ℝ) : EReal) := by
  rw [View.readAt_eq_ld, h.read_unread, ← hx t]
  refine congrArg x (funext fun c => Fin.ext ?_)
  match c with
  | 0 => rfl
  | 1 => show p + 1 * 0 = p; omega
  | 2 => show 0 + 1 * t.val = t.val; omega

/-- The three slabs that the stores of the gradients leave. -/
theorem slabs {w2 w1 w0 : FVec Ideal ⟨3, ![1, 2048, 128]⟩ .bf16} {f2 f1 f0 : Fin 2048 → Fin 128 → ℝ} (h2 : Is3 w2 f2) (h1 : Is3 w1 f1) (h0 : Is3 w0 f0)
    {i2 : ∀ c, (![2, 0, 0] : Fin 3 → ℕ) c + (![1, 2048, 128] : Fin 3 → ℕ) c ≤ (⟨3, ![3, 2048, 128]⟩ : Shape).size c}
    {i1 : ∀ c, (![1, 0, 0] : Fin 3 → ℕ) c + (![1, 2048, 128] : Fin 3 → ℕ) c ≤ (⟨3, ![3, 2048, 128]⟩ : Shape).size c}
    {i0 : ∀ c, (![0, 0, 0] : Fin 3 → ℕ) c + (![1, 2048, 128] : Fin 3 → ℕ) c ≤ (⟨3, ![3, 2048, 128]⟩ : Shape).size c} (s : Fin 3) (t : Fin 2048) (j : Fin 128) :
    View.canon ([⟨Rect.unit (s := ⟨3, ![3, 2048, 128]⟩) ![2, 0, 0] ![1, 2048, 128] i2, w2⟩, ⟨Rect.unit (s := ⟨3, ![3, 2048, 128]⟩) ![1, 0, 0] ![1, 2048, 128] i1, w1⟩,
      ⟨Rect.unit (s := ⟨3, ![3, 2048, 128]⟩) ![0, 0, 0] ![1, 2048, 128] i0, w0⟩] : List (View.Piece (Elt Ideal) ⟨3, ![3, 2048, 128]⟩ .bf16)) (ix3 s t j)
      = (((![f0, f1, f2] : Fin 3 → Fin 2048 → Fin 128 → ℝ) s t j : ℝ) : EReal) := by
  have at_ : ∀ (p : ℕ) (inb : ∀ c, (![p, 0, 0] : Fin 3 → ℕ) c + (![1, 2048, 128] : Fin 3 → ℕ) c ≤ (⟨3, ![3, 2048, 128]⟩ : Shape).size c) (hs : s.val = p)
      (w : FVec Ideal ⟨3, ![1, 2048, 128]⟩ .bf16) (L : List (View.Piece (Elt Ideal) ⟨3, ![3, 2048, 128]⟩ .bf16)),
      View.canon ((⟨Rect.unit (s := ⟨3, ![3, 2048, 128]⟩) ![p, 0, 0] ![1, 2048, 128] inb, w⟩ : View.Piece (Elt Ideal) ⟨3, ![3, 2048, 128]⟩ .bf16) :: L) (ix3 s t j) = w (ix3 0 t j) := by
    intro p inb hs w L
    have e : ix3 s t j = (Rect.unit (s := ⟨3, ![3, 2048, 128]⟩) ![p, 0, 0] ![1, 2048, 128] inb).emb (ix3 (0 : Fin 1) t j) :=
      funext fun c => Fin.ext (by
        match c with
        | 0 => show s.val = p + 1 * 0; omega
        | 1 => show t.val = 0 + 1 * t.val; omega
        | 2 => show j.val = 0 + 1 * j.val; omega)
    rw [e, View.canon_cons_emb]
  have off_ : ∀ (p : ℕ) (inb : ∀ c, (![p, 0, 0] : Fin 3 → ℕ) c + (![1, 2048, 128] : Fin 3 → ℕ) c ≤ (⟨3, ![3, 2048, 128]⟩ : Shape).size c) (hs : s.val < p)
      (w : FVec Ideal ⟨3, ![1, 2048, 128]⟩ .bf16) (L : List (View.Piece (Elt Ideal) ⟨3, ![3, 2048, 128]⟩ .bf16)),
      View.canon ((⟨Rect.unit (s := ⟨3, ![3, 2048, 128]⟩) ![p, 0, 0] ![1, 2048, 128] inb, w⟩ : View.Piece (Elt Ideal) ⟨3, ![3, 2048, 128]⟩ .bf16) :: L) (ix3 s t j) = View.canon L (ix3 s t j) := by
    intro p inb hs w L
    refine View.canon_cons_of_not_mem _ _ fun hm => ?_
    have := (Rect.mem_set_unit (inb := inb).mp hm 0).1
    have h0 : p ≤ s.val := this
    omega
  match s with
  | 0 => rw [off_ 2 i2 (by decide), off_ 1 i1 (by decide), at_ 0 i0 rfl]; exact h0 t j
  | 1 => rw [off_ 2 i2 (by decide), at_ 1 i1 rfl]; exact h1 t j
  | 2 => rw [at_ 2 i2 rfl]; exact h2 t j

/-- A store of a whole array leaves it. -/
theorem stored {a b : ℕ} {Ls : List (View.Piece (Elt Ideal) ⟨2, ![a, b]⟩ .f32)} {w : (⟨2, ![a, b]⟩ : Shape).Idx → EReal}
    {inb : ∀ c, (![0, 0] : Fin 2 → ℕ) c + (⟨2, ![a, b]⟩ : Shape).size c ≤ (⟨2, ![a, b]⟩ : Shape).size c} :
    View.canon ((⟨Rect.unit (s := ⟨2, ![a, b]⟩) ![0, 0] (⟨2, ![a, b]⟩ : Shape).size inb, w⟩ : View.Piece (Elt Ideal) ⟨2, ![a, b]⟩ .f32) :: Ls) = w :=
  View.canon_cons_unit_zero off_zero inb w Ls

/-- A load of a whole array after stores. -/
theorem reload {a b : ℕ} {v : View sig κ sp ⟨2, ![a, b]⟩ .f32} {Ls : List (View.Piece (Elt Ideal) ⟨2, ![a, b]⟩ .f32)}
    {inb : ∀ c, (![0, 0] : Fin 2 → ℕ) c + (⟨2, ![a, b]⟩ : Shape).size c ≤ (⟨2, ![a, b]⟩ : Shape).size c} :
    (v.readCov Ls (Rect.unit (s := ⟨2, ![a, b]⟩) ![0, 0] (⟨2, ![a, b]⟩ : Shape).size inb).toLoadRect : (⟨2, ![a, b]⟩ : Shape).Idx → EReal) = View.canon Ls := by
  rw [View.readCov_eq_canon']
  exact View.ld_unit_zero off_zero inb (View.canon Ls)

end

theorem accC_all (H : Hd) (k : Fin 2048) : (-∑ j, accC H 2048 k j : ℝ) = H.dC k := by
  unfold accC Hd.dC; rw [sum_lanes]
theorem accK_all (H : Hd) (k : Fin 2048) (d : Fin 64) : accK H 2048 k d = H.dNk k d := by
  unfold accK Hd.dNk; rw [acc_all, Finset.sum_mul]; exact Finset.sum_congr rfl fun _ _ => by ring
theorem accV_all (H : Hd) (k : Fin 2048) (d : Fin 64) : accV H 2048 k d = H.dV k d := by
  unfold accV Hd.dV; rw [acc_all]
theorem is_zeroK (H : Hd) {w : BitVec 32} (hw : Ideal.ofBits .f32 w = ((0 : ℝ) : EReal)) {h} :
    Is (shapeCast ⟨2, ![2048, 64]⟩ (broadcast ⟨2, ![2048, 64]⟩ (Scalar.ofBits .f32 w : Ideal .f32)) h) (accK H 0) :=
  ((Is.lit hw).cast h).congr fun _ _ => (acc_zero _).symm
theorem is_zeroV (H : Hd) {w : BitVec 32} (hw : Ideal.ofBits .f32 w = ((0 : ℝ) : EReal)) {h} :
    Is (shapeCast ⟨2, ![2048, 64]⟩ (broadcast ⟨2, ![2048, 64]⟩ (Scalar.ofBits .f32 w : Ideal .f32)) h) (accV H 0) :=
  ((Is.lit hw).cast h).congr fun _ _ => (acc_zero _).symm
theorem is_zeroC (H : Hd) {w : BitVec 32} (hw : Ideal.ofBits .f32 w = ((0 : ℝ) : EReal)) {h} :
    Is (shapeCast ⟨2, ![2048, 128]⟩ (broadcast ⟨2, ![2048, 128]⟩ (Scalar.ofBits .f32 w : Ideal .f32)) h) (accC H 0) :=
  ((Is.lit hw).cast h).congr fun _ _ => (acc_zero _).symm

end Cert.Fox
-- ==== Proof.Blocks.lean ====
/- What each grid point's staged blocks hold: the two heads of its pair. -/
module

public import proofs.«01_k».proof.Proof.HostA
public import proofs.«01_k».proof.Proof.Loads
public import Idealize.ShloMosaic.Lib.Pipeline.ValueKit.Geometry

@[expose] public section

noncomputable section

namespace Cert.Fox

open Idealize.ShloMosaic Idealize.ShloMosaic.ValueIdx Idealize.ShloMosaic.TcCoe Idealize.SL Idealize.SL.Sem
open Cert.KernelIdeal Cert.KernelIdeal.Gen

theorem lt8 (t : Fin cfg0.N) : t.val < 8 := t.isLt
theorem coord : ∀ t : Fin cfg0.N, (grid0.coords t 0).val = t.val := by decide +kernel

theorem places : ∀ t : Fin cfg0.N, win0_0.index t = ![0, t.val] ∧ win0_1.index t = ![0, 8 + t.val] ∧ win0_2.index t = ![0, 16 + t.val]
    ∧ win0_3.index t = ![0, 0] ∧ win0_4.index t = ![t.val, 0, 0] ∧ win0_5.index t = ![0, 0] ∧ win0_6.index t = ![0, 0]
    ∧ win0_7.index t = ![t.val, 0, 0] ∧ win0_8.index t = ![0, t.val] := by decide +kernel

section

variable (m : (k : Loc nD τ sig) → Buf (Elt Ideal) k) (c : Dev nD) (t : Fin cfg0.N)

/-- The arguments on a device. -/
abbrev a0 : FVec Ideal ⟨2, ![2048, 3200]⟩ .f32 := m ((c : Thread nD τ).loc main_arg0)
abbrev a1 : FVec Ideal ⟨2, ![2048, 128]⟩ .f32 := m ((c : Thread nD τ).loc main_arg1)
abbrev a2 : FVec Ideal ⟨2, ![1, 64]⟩ .f32 := m ((c : Thread nD τ).loc main_arg2)
abbrev a3 : FVec Ideal ⟨2, ![1, 64]⟩ .f32 := m ((c : Thread nD τ).loc main_arg3)
abbrev a4 : FVec Ideal ⟨2, ![2048, 1024]⟩ .bf16 := m ((c : Thread nD τ).loc main_arg4)

theorem blk0 (i : Fin 2048) (j : Fin 128) :
    (iblk m c 0 t : FVec Ideal ⟨2, ![2048, 128]⟩ .f32) (ix2 i j) = a0 m c (ix2 i ⟨128 * t.val + j.val, by have := lt8 t; omega⟩) := by
  have h := (places t).1
  unfold iblk
  blk_simp
  refine (congrFun (V_main_arg0 m c) _).trans (congrArg (a0 m c) (funext fun a => Fin.ext ?_))
  fin_cases a
  all_goals blk_simp [h]
  show t.val * 128 + j.val = 128 * t.val + j.val
  omega

theorem blk1 (i : Fin 2048) (j : Fin 128) :
    (iblk m c 1 t : FVec Ideal ⟨2, ![2048, 128]⟩ .f32) (ix2 i j) = a0 m c (ix2 i ⟨1024 + (128 * t.val + j.val), by have := lt8 t; omega⟩) := by
  have h := (places t).2.1
  unfold iblk
  blk_simp
  refine (congrFun (V_main_arg0 m c) _).trans (congrArg (a0 m c) (funext fun a => Fin.ext ?_))
  fin_cases a
  all_goals blk_simp [h]
  show (8 + t.val) * 128 + j.val = 1024 + (128 * t.val + j.val)
  omega

theorem blk2 (i : Fin 2048) (j : Fin 128) :
    (iblk m c 2 t : FVec Ideal ⟨2, ![2048, 128]⟩ .f32) (ix2 i j) = a0 m c (ix2 i ⟨2048 + (128 * t.val + j.val), by have := lt8 t; omega⟩) := by
  have h := (places t).2.2.1
  unfold iblk
  blk_simp
  refine (congrFun (V_main_arg0 m c) _).trans (congrArg (a0 m c) (funext fun a => Fin.ext ?_))
  fin_cases a
  all_goals blk_simp [h]
  show (16 + t.val) * 128 + j.val = 2048 + (128 * t.val + j.val)
  omega

theorem blk3 (i : Fin 2048) (j : Fin 128) :
    (iblk m c 3 t : FVec Ideal ⟨2, ![2048, 128]⟩ .f32) (ix2 i j) = a1 m c (ix2 i j) := by
  have h := (places t).2.2.2.1
  unfold iblk
  blk_simp
  refine (congrFun (V_main_arg1 m c) _).trans (congrArg (a1 m c) (funext fun a => Fin.ext ?_))
  fin_cases a
  all_goals blk_simp [h]

theorem blk5 (i : Fin 1) (j : Fin 64) :
    (iblk m c 5 t : FVec Ideal ⟨2, ![1, 64]⟩ .f32) (ix2 i j) = a2 m c (ix2 i j) := by
  have h := (places t).2.2.2.2.2.1
  unfold iblk
  blk_simp
  refine (congrFun (V_main_arg2 m c) _).trans (congrArg (a2 m c) (funext fun a => Fin.ext ?_))
  fin_cases a
  all_goals blk_simp [h]

theorem blk6 (i : Fin 1) (j : Fin 64) :
    (iblk m c 6 t : FVec Ideal ⟨2, ![1, 64]⟩ .f32) (ix2 i j) = a3 m c (ix2 i j) := by
  have h := (places t).2.2.2.2.2.2.1
  unfold iblk
  blk_simp
  refine (congrFun (V_main_arg3 m c) _).trans (congrArg (a3 m c) (funext fun a => Fin.ext ?_))
  fin_cases a
  all_goals blk_simp [h]

theorem blk8 (i : Fin 2048) (j : Fin 128) :
    (iblk m c 8 t : FVec Ideal ⟨2, ![2048, 128]⟩ .bf16) (ix2 i j) = a4 m c (ix2 i ⟨128 * t.val + j.val, by have := lt8 t; omega⟩) := by
  have h := (places t).2.2.2.2.2.2.2.2
  unfold iblk
  blk_simp
  refine (congrFun (V_main_arg4 m c) _).trans (congrArg (a4 m c) (funext fun a => Fin.ext ?_))
  fin_cases a
  all_goals blk_simp [h]
  show t.val * 128 + j.val = 128 * t.val + j.val
  omega

theorem blk4 (r : Fin 2) (j : Fin 2048) :
    (iblk m c 4 t : FVec Ideal ⟨3, ![1, 2, 2048]⟩ .f32) (ix3 0 r j) = a1 m c (ix2 j ⟨2 * t.val + r.val, by have := lt8 t; omega⟩) := by
  have h := (places t).2.2.2.2.1
  unfold iblk
  blk_simp
  refine (congrFun (HostA.V61 (F := Ideal) m c) _).trans ?_
  refine (congrArg _ (show _ = ix3 (⟨t.val, lt8 t⟩ : Fin 8) r j from funext fun a => Fin.ext ?_)).trans ?_
  · fin_cases a
    all_goals blk_simp [h]
  · refine (HostA.cast_at _ _ r j).trans ?_
    refine (transpose_apply _ _ _ _ (ix2 j (⟨2 * t.val + r.val, by have := lt8 t; omega⟩ : Fin 16)) fun b => ?_).trans ?_
    · fin_cases b <;> rfl
    · refine (extractStridedSlice_apply _ _ _ _ (ix2 j (⟨2 * t.val + r.val, by have := lt8 t; omega⟩ : Fin 128)) fun b => ?_)
      fin_cases b <;> exact (Nat.zero_add _).symm

theorem blk7 (r : Fin 2) (j : Fin 2048) :
    (iblk m c 7 t : FVec Ideal ⟨3, ![1, 8, 2048]⟩ .f32) (ix3 0 ⟨r.val, by omega⟩ j)
      = HostA.lse (F := Ideal) (a0 m c) (a1 m c) (a2 m c) (a3 m c) (ix2 (⟨2 * t.val + r.val, by have := lt8 t; omega⟩ : Fin 16) j) := by
  have h := (places t).2.2.2.2.2.2.2.1
  unfold iblk
  blk_simp
  refine (congrFun (HostA.V58 (F := Ideal) m c) _).trans ?_
  refine (congrArg _ (show _ = ix3 (⟨t.val, lt8 t⟩ : Fin 8) (⟨r.val, by omega⟩ : Fin 8) j from funext fun a => Fin.ext ?_)).trans ?_
  · fin_cases a
    all_goals blk_simp [h]
  · refine (pad_apply_of_inside _ _ _ _ _ _ _ _ (ix3 (⟨t.val, lt8 t⟩ : Fin 8) r j) fun a => ?_).trans (HostA.cast_at _ _ r j)
    fin_cases a <;> exact ((Nat.zero_add _).trans (Nat.mul_one _)).symm

/-- The two heads of a grid point's pair. -/
abbrev hA : Fin 16 := ⟨2 * t.val, by have := lt8 t; omega⟩
abbrev hB : Fin 16 := ⟨2 * t.val + 1, by have := lt8 t; omega⟩
/-- A head of a device's arguments, and its rows' maxima. -/
abbrev HD (h : Fin 16) : Hd := Hof (a0 m c) (a1 m c) (a2 m c) (a3 m c) (a4 m c) h
abbrev MX (h : Fin 16) : Fin 2048 → ℝ := Ref.Mof (a0 m c) (a1 m c) (a2 m c) (a3 m c) h

theorem two_at {α : Type} {f g : Fin 2048 → Fin 64 → ℝ} {x : α → EReal} {p : Fin 128 → α} (i : Fin 2048)
    (hf : ∀ d : Fin 64, x (p ⟨d.val, by omega⟩) = ((f i d : ℝ) : EReal)) (hg : ∀ d : Fin 64, x (p ⟨64 + d.val, by omega⟩) = ((g i d : ℝ) : EReal)) (j : Fin 128) :
    x (p j) = ((two f g i j : ℝ) : EReal) := by
  unfold two
  by_cases h : j.val < 64
  · rw [dif_pos h]; exact hf ⟨j.val, h⟩
  · rw [dif_neg h]
    have e := hg ⟨j.val - 64, by omega⟩
    rwa [show (⟨64 + (⟨j.val - 64, by omega⟩ : Fin 64).val, by simp; omega⟩ : Fin 128) = j from Fin.ext (by simp; omega)] at e

/-- A real column of an array, reached at two spellings of its place. -/
theorem col {n : ℕ} (x : Fin n → EReal) {a b : Fin n} (e : a.val = b.val) (h : x b = ((x b).toReal : EReal)) : x a = ((x b).toReal : EReal) := by
  obtain rfl : a = b := Fin.ext e
  exact h

variable (w : Args (a0 m c) (a1 m c) (a2 m c) (a3 m c) (a4 m c))
include w

theorem win : Win t.val (iblk m c 0 t) (iblk m c 1 t) (iblk m c 2 t) (iblk m c 3 t) (iblk m c 4 t) (iblk m c 5 t) (iblk m c 6 t)
    (iblk m c 7 t) (iblk m c 8 t) (HD m c (hA t)) (HD m c (hB t)) (MX m c (hA t)) (MX m c (hB t)) where
  lt := lt8 t
  q i j := (blk0 m c t i j).trans (two_at (f := (HD m c (hA t)).xq) (g := (HD m c (hB t)).xq) (x := fun k => a0 m c (ix2 i k))
    (p := fun j => ⟨128 * t.val + j.val, by have := lt8 t; omega⟩) i
    (fun d => col (fun k => a0 m c (ix2 i k)) (b := ⟨64 * (hA t).val + d.val, by have := lt8 t; simp only; omega⟩) (by simp only; omega) (w.p i _ (by have := lt8 t; show 64 * (hA t).val + d.val < 3072; simp only; omega)))
    (fun d => col (fun k => a0 m c (ix2 i k)) (b := ⟨64 * (hB t).val + d.val, by have := lt8 t; simp only; omega⟩) (by simp only; omega) (w.p i _ (by have := lt8 t; show 64 * (hB t).val + d.val < 3072; simp only; omega))) j)
  k i j := (blk1 m c t i j).trans (two_at (f := (HD m c (hA t)).xk) (g := (HD m c (hB t)).xk) (x := fun k => a0 m c (ix2 i k))
    (p := fun j => ⟨1024 + (128 * t.val + j.val), by have := lt8 t; omega⟩) i
    (fun d => col (fun k => a0 m c (ix2 i k)) (b := ⟨1024 + (64 * (hA t).val + d.val), by have := lt8 t; simp only; omega⟩) (by simp only; omega) (w.p i _ (by have := lt8 t; show 1024 + (64 * (hA t).val + d.val) < 3072; simp only; omega)))
    (fun d => col (fun k => a0 m c (ix2 i k)) (b := ⟨1024 + (64 * (hB t).val + d.val), by have := lt8 t; simp only; omega⟩) (by simp only; omega) (w.p i _ (by have := lt8 t; show 1024 + (64 * (hB t).val + d.val) < 3072; simp only; omega))) j)
  v i j := (blk2 m c t i j).trans (two_at (f := (HD m c (hA t)).v) (g := (HD m c (hB t)).v) (x := fun k => a0 m c (ix2 i k))
    (p := fun j => ⟨2048 + (128 * t.val + j.val), by have := lt8 t; omega⟩) i
    (fun d => col (fun k => a0 m c (ix2 i k)) (b := ⟨2048 + (64 * (hA t).val + d.val), by have := lt8 t; simp only; omega⟩) (by simp only; omega) (w.p i _ (by have := lt8 t; show 2048 + (64 * (hA t).val + d.val) < 3072; simp only; omega)))
    (fun d => col (fun k => a0 m c (ix2 i k)) (b := ⟨2048 + (64 * (hB t).val + d.val), by have := lt8 t; simp only; omega⟩) (by simp only; omega) (w.p i _ (by have := lt8 t; show 2048 + (64 * (hB t).val + d.val) < 3072; simp only; omega))) j)
  o i j := (blk8 m c t i j).trans (two_at (f := (HD m c (hA t)).o) (g := (HD m c (hB t)).o) (x := fun k => a4 m c (ix2 i k))
    (p := fun j => ⟨128 * t.val + j.val, by have := lt8 t; omega⟩) i
    (fun d => col (fun k => a4 m c (ix2 i k)) (b := ⟨64 * (hA t).val + d.val, by have := lt8 t; simp only; omega⟩) (by simp only; omega) (w.o i _))
    (fun d => col (fun k => a4 m c (ix2 i k)) (b := ⟨64 * (hB t).val + d.val, by have := lt8 t; simp only; omega⟩) (by simp only; omega) (w.o i _)) j)
  c i := (blk3 m c t i _).trans (w.c i _ (by have := lt8 t; dsimp only; omega))
  c' i := (blk3 m c t i _).trans (w.c i _ (by have := lt8 t; dsimp only; omega))
  r i := (blk4 m c t 0 i).trans (w.c i _ (by have := lt8 t; dsimp only [Fin.val_zero]; omega))
  r' i := (blk4 m c t 1 i).trans (w.c i _ (by have := lt8 t; dsimp only [Fin.val_one]; omega))
  gq i d := by obtain rfl : i = 0 := Subsingleton.elim _ _; exact (blk5 m c t 0 d).trans (w.gq d)
  gq' i d := by obtain rfl : i = 0 := Subsingleton.elim _ _; exact (blk5 m c t 0 d).trans (w.gq d)
  gk i d := by obtain rfl : i = 0 := Subsingleton.elim _ _; exact (blk6 m c t 0 d).trans (w.gk d)
  gk' i d := by obtain rfl : i = 0 := Subsingleton.elim _ _; exact (blk6 m c t 0 d).trans (w.gk d)
  l i := (blk7 m c t 0 i).trans (HostA.lse_at w (hA t) i)
  l' i := (blk7 m c t 1 i).trans (HostA.lse_at w (hB t) i)

end
end Cert.Fox
-- ==== Proof.Pay0.lean ====
/- The first head of a pair: what each of the eight blocks' values holds, of the head's arrays. -/
module

public import proofs.«01_k».proof.Proof.Acc
public import proofs.«01_k».proof.Proof.Gen.KernelIdeal.Skeleton

@[expose] public section

noncomputable section

namespace Cert.Fox

open Idealize.ShloMosaic Idealize.ShloMosaic.ValueIdx Cert.KernelIdeal Cert.KernelIdeal.Gen

variable {H : Hd} {M : Fin 2048 → ℝ} {qn kn vb ob : FVec Ideal S2048x64 .bf16} {kt : FVec Ideal S64x2048 .bf16}
  {ck : FVec Ideal S2048x1 .f32} {cq l : FVec Ideal S1x2048 .f32} {a0 : BitVec 32} {xc : FVec Ideal S2048x128 .f32}
  {lc : FVec Ideal S1x1x2048 .f32}

theorem mask_eq : Named.named (F := Ideal) (φ := .f32) κ "mask" 0xF149F2CA#32 = (⊥ : EReal) :=
  IdealRules.named_const.ideal_named_scalar _ _ _ _ rfl

/-- The queries' gradient of block 0. -/
theorem dq0_0 (h : HIn H M qn kn vb ob kt ck cq l) :
    Is (k0_pay33 qn kn kt vb ob ck cq l : FVec Ideal S256x64 .f32)
      fun q d => ∑ k, H.dS (row 0 (by decide) q) k * H.kn k d :=
  have hL : 256 ≤ 2048 := by decide
  have ho : 0 + 256 ≤ 2048 := by decide
  have hLo : 0 + 256 ≤ 256 := by decide
  block_dq H hL ho hLo (Is.trunc (h.dS hL ho hLo (h.P hL ho mask_eq slices_S2048x64_o0_0_S256x64 slices_S1x2048_o0_0_S1x256 broadcasts_S1x256_S256x256 broadcasts_S256x1_S256x256) slices_S2048x64_o0_0_S256x64) _) (h.kt.cols0 slices_S64x2048_o0_0_S64x256 hL)

/-- The keys' accumulator after block 0. -/
theorem accK0_0 (h : HIn H M qn kn vb ob kt ck cq l) {a : FVec Ideal S256x64 .f32}
    (ha : Is a fun k d => accK H 0 (k.castLE (by decide)) d) :
    Is (k0_pay34 qn kn vb ob ck cq l a : FVec Ideal S256x64 .f32)
      fun k d => accK H 256 (k.castLE (by decide)) d :=
  have hL : 256 ≤ 2048 := by decide
  have ho : 0 + 256 ≤ 2048 := by decide
  have hLo : 0 + 256 ≤ 256 := by decide
  Is.cast (block_acc hL ho (X := H.dS) (Y := fun t d => H.qn t d * (1 / 8)) (Is.trunc (h.dS hL ho hLo (h.P hL ho mask_eq slices_S2048x64_o0_0_S256x64 slices_S1x2048_o0_0_S1x256 broadcasts_S1x256_S256x256 broadcasts_S256x1_S256x256) slices_S2048x64_o0_0_S256x64) _) (h.q.rows slices_S2048x64_o0_0_S256x64 ho) ha) _

/-- The values' accumulator after block 0. -/
theorem accV0_0 (h : HIn H M qn kn vb ob kt ck cq l) {a : FVec Ideal S256x64 .f32}
    (ha : Is a fun k d => accV H 0 (k.castLE (by decide)) d) :
    Is (k0_pay36 (k0_pay35 qn kn ob ck cq l a) : FVec Ideal S256x64 .f32)
      fun k d => accV H 256 (k.castLE (by decide)) d :=
  have hL : 256 ≤ 2048 := by decide
  have ho : 0 + 256 ≤ 2048 := by decide
  Is.cast (block_acc hL ho (X := H.P) (Y := H.o) (Is.trunc (h.P hL ho mask_eq slices_S2048x64_o0_0_S256x64 slices_S1x2048_o0_0_S1x256 broadcasts_S1x256_S256x256 broadcasts_S256x1_S256x256) _) (h.o.rows slices_S2048x64_o0_0_S256x64 ho) ha) _

/-- The decay' accumulator after block 0. -/
theorem accC0_0 (h : HIn H M qn kn vb ob kt ck cq l) {a : FVec Ideal S256x128 .f32}
    (ha : Is a fun k d => accC H 0 (k.castLE (by decide)) d) :
    Is (k0_pay37 (k0_pay31 qn kn vb ob ck cq l) a : FVec Ideal S256x128 .f32)
      fun k d => accC H 256 (k.castLE (by decide)) d :=
  have hL : 256 ≤ 2048 := by decide
  have ho : 0 + 256 ≤ 2048 := by decide
  have hLo : 0 + 256 ≤ 256 := by decide
  Is.cast (block_lanes hL ho (n := 0) rfl (X := H.dS) (h.dS hL ho hLo (h.P hL ho mask_eq slices_S2048x64_o0_0_S256x64 slices_S1x2048_o0_0_S1x256 broadcasts_S1x256_S256x256 broadcasts_S256x1_S256x256) slices_S2048x64_o0_0_S256x64) ha) _

/-- The queries' gradient of block 1. -/
theorem dq0_1 (h : HIn H M qn kn vb ob kt ck cq l) :
    Is (k0_pay43 qn kn kt vb ob ck cq l : FVec Ideal S256x64 .f32)
      fun q d => ∑ k, H.dS (row 256 (by decide) q) k * H.kn k d :=
  have hL : 512 ≤ 2048 := by decide
  have ho : 256 + 256 ≤ 2048 := by decide
  have hLo : 256 + 256 ≤ 512 := by decide
  block_dq H hL ho hLo (Is.trunc (h.dS hL ho hLo (h.P hL ho mask_eq slices_S2048x64_o256_0_S256x64 slices_S1x2048_o0_256_S1x256 broadcasts_S1x256_S512x256 broadcasts_S512x1_S512x256) slices_S2048x64_o256_0_S256x64) _) (h.kt.cols0 slices_S64x2048_o0_0_S64x512 hL)

/-- The keys' accumulator after block 1. -/
theorem accK0_1 (h : HIn H M qn kn vb ob kt ck cq l) {a : FVec Ideal S512x64 .f32}
    (ha : Is a fun k d => accK H 256 (k.castLE (by decide)) d) :
    Is (k0_pay44 (k0_pay38 qn) (k0_pay42 qn kn vb ob ck cq l) a : FVec Ideal S512x64 .f32)
      fun k d => accK H 512 (k.castLE (by decide)) d :=
  have hL : 512 ≤ 2048 := by decide
  have ho : 256 + 256 ≤ 2048 := by decide
  have hLo : 256 + 256 ≤ 512 := by decide
  Is.cast (block_acc hL ho (X := H.dS) (Y := fun t d => H.qn t d * (1 / 8)) (Is.trunc (h.dS hL ho hLo (h.P hL ho mask_eq slices_S2048x64_o256_0_S256x64 slices_S1x2048_o0_256_S1x256 broadcasts_S1x256_S512x256 broadcasts_S512x1_S512x256) slices_S2048x64_o256_0_S256x64) _) (h.q.rows slices_S2048x64_o256_0_S256x64 ho) ha) _

/-- The values' accumulator after block 1. -/
theorem accV0_1 (h : HIn H M qn kn vb ob kt ck cq l) {a : FVec Ideal S512x64 .f32}
    (ha : Is a fun k d => accV H 256 (k.castLE (by decide)) d) :
    Is (k0_pay45 (k0_pay39 ob) (k0_pay40 qn kn ck cq l) a : FVec Ideal S512x64 .f32)
      fun k d => accV H 512 (k.castLE (by decide)) d :=
  have hL : 512 ≤ 2048 := by decide
  have ho : 256 + 256 ≤ 2048 := by decide
  Is.cast (block_acc hL ho (X := H.P) (Y := H.o) (Is.trunc (h.P hL ho mask_eq slices_S2048x64_o256_0_S256x64 slices_S1x2048_o0_256_S1x256 broadcasts_S1x256_S512x256 broadcasts_S512x1_S512x256) _) (h.o.rows slices_S2048x64_o256_0_S256x64 ho) ha) _

/-- The decay' accumulator after block 1. -/
theorem accC0_1 (h : HIn H M qn kn vb ob kt ck cq l) {a : FVec Ideal S512x128 .f32}
    (ha : Is a fun k d => accC H 256 (k.castLE (by decide)) d) :
    Is (k0_pay46 (k0_pay41 qn kn vb ob ck cq l) a : FVec Ideal S512x128 .f32)
      fun k d => accC H 512 (k.castLE (by decide)) d :=
  have hL : 512 ≤ 2048 := by decide
  have ho : 256 + 256 ≤ 2048 := by decide
  have hLo : 256 + 256 ≤ 512 := by decide
  Is.cast (block_lanes hL ho (n := 1) rfl (X := H.dS) (h.dS hL ho hLo (h.P hL ho mask_eq slices_S2048x64_o256_0_S256x64 slices_S1x2048_o0_256_S1x256 broadcasts_S1x256_S512x256 broadcasts_S512x1_S512x256) slices_S2048x64_o256_0_S256x64) ha) _

/-- The queries' gradient of block 2. -/
theorem dq0_2 (h : HIn H M qn kn vb ob kt ck cq l) :
    Is (k0_pay52 kt vb (k0_pay48 ob) (k0_pay49 qn kn ck cq l) : FVec Ideal S256x64 .f32)
      fun q d => ∑ k, H.dS (row 512 (by decide) q) k * H.kn k d :=
  have hL : 768 ≤ 2048 := by decide
  have ho : 512 + 256 ≤ 2048 := by decide
  have hLo : 512 + 256 ≤ 768 := by decide
  block_dq H hL ho hLo (Is.trunc (h.dS hL ho hLo (h.P hL ho mask_eq slices_S2048x64_o512_0_S256x64 slices_S1x2048_o0_512_S1x256 broadcasts_S1x256_S768x256 broadcasts_S768x1_S768x256) slices_S2048x64_o512_0_S256x64) _) (h.kt.cols0 slices_S64x2048_o0_0_S64x768 hL)

/-- The keys' accumulator after block 2. -/
theorem accK0_2 (h : HIn H M qn kn vb ob kt ck cq l) {a : FVec Ideal S768x64 .f32}
    (ha : Is a fun k d => accK H 512 (k.castLE (by decide)) d) :
    Is (k0_pay53 vb (k0_pay47 qn) (k0_pay48 ob) (k0_pay49 qn kn ck cq l) a : FVec Ideal S768x64 .f32)
      fun k d => accK H 768 (k.castLE (by decide)) d :=
  have hL : 768 ≤ 2048 := by decide
  have ho : 512 + 256 ≤ 2048 := by decide
  have hLo : 512 + 256 ≤ 768 := by decide
  Is.cast (block_acc hL ho (X := H.dS) (Y := fun t d => H.qn t d * (1 / 8)) (Is.trunc (h.dS hL ho hLo (h.P hL ho mask_eq slices_S2048x64_o512_0_S256x64 slices_S1x2048_o0_512_S1x256 broadcasts_S1x256_S768x256 broadcasts_S768x1_S768x256) slices_S2048x64_o512_0_S256x64) _) (h.q.rows slices_S2048x64_o512_0_S256x64 ho) ha) _

/-- The values' accumulator after block 2. -/
theorem accV0_2 (h : HIn H M qn kn vb ob kt ck cq l) {a : FVec Ideal S768x64 .f32}
    (ha : Is a fun k d => accV H 512 (k.castLE (by decide)) d) :
    Is (k0_pay54 (k0_pay48 ob) (k0_pay49 qn kn ck cq l) a : FVec Ideal S768x64 .f32)
      fun k d => accV H 768 (k.castLE (by decide)) d :=
  have hL : 768 ≤ 2048 := by decide
  have ho : 512 + 256 ≤ 2048 := by decide
  Is.cast (block_acc hL ho (X := H.P) (Y := H.o) (Is.trunc (h.P hL ho mask_eq slices_S2048x64_o512_0_S256x64 slices_S1x2048_o0_512_S1x256 broadcasts_S1x256_S768x256 broadcasts_S768x1_S768x256) _) (h.o.rows slices_S2048x64_o512_0_S256x64 ho) ha) _

/-- The decay' accumulator after block 2. -/
theorem accC0_2 (h : HIn H M qn kn vb ob kt ck cq l) {a : FVec Ideal S768x128 .f32}
    (ha : Is a fun k d => accC H 512 (k.castLE (by decide)) d) :
    Is (k0_pay55 vb (k0_pay48 ob) (k0_pay49 qn kn ck cq l) a : FVec Ideal S768x128 .f32)
      fun k d => accC H 768 (k.castLE (by decide)) d :=
  have hL : 768 ≤ 2048 := by decide
  have ho : 512 + 256 ≤ 2048 := by decide
  have hLo : 512 + 256 ≤ 768 := by decide
  Is.cast (block_lanes hL ho (n := 2) rfl (X := H.dS) (h.dS hL ho hLo (h.P hL ho mask_eq slices_S2048x64_o512_0_S256x64 slices_S1x2048_o0_512_S1x256 broadcasts_S1x256_S768x256 broadcasts_S768x1_S768x256) slices_S2048x64_o512_0_S256x64) ha) _

/-- The queries' gradient of block 3. -/
theorem dq0_3 (h : HIn H M qn kn vb ob kt ck cq l) :
    Is (k0_pay63 kt vb ck l (k0_pay57 ob) (k0_pay58 qn kn) (k0_pay59 cq) : FVec Ideal S256x64 .f32)
      fun q d => ∑ k, H.dS (row 768 (by decide) q) k * H.kn k d :=
  have hL : 1024 ≤ 2048 := by decide
  have ho : 768 + 256 ≤ 2048 := by decide
  have hLo : 768 + 256 ≤ 1024 := by decide
  block_dq H hL ho hLo (Is.trunc (h.dS hL ho hLo (h.P hL ho mask_eq slices_S2048x64_o768_0_S256x64 slices_S1x2048_o0_768_S1x256 broadcasts_S1x256_S1024x256 broadcasts_S1024x1_S1024x256) slices_S2048x64_o768_0_S256x64) _) (h.kt.cols0 slices_S64x2048_o0_0_S64x1024 hL)

/-- The keys' accumulator after block 3. -/
theorem accK0_3 (h : HIn H M qn kn vb ob kt ck cq l) {a : FVec Ideal S1024x64 .f32}
    (ha : Is a fun k d => accK H 768 (k.castLE (by decide)) d) :
    Is (k0_pay64 vb ck l (k0_pay56 qn) (k0_pay57 ob) (k0_pay58 qn kn) (k0_pay59 cq) a : FVec Ideal S1024x64 .f32)
      fun k d => accK H 1024 (k.castLE (by decide)) d :=
  have hL : 1024 ≤ 2048 := by decide
  have ho : 768 + 256 ≤ 2048 := by decide
  have hLo : 768 + 256 ≤ 1024 := by decide
  Is.cast (block_acc hL ho (X := H.dS) (Y := fun t d => H.qn t d * (1 / 8)) (Is.trunc (h.dS hL ho hLo (h.P hL ho mask_eq slices_S2048x64_o768_0_S256x64 slices_S1x2048_o0_768_S1x256 broadcasts_S1x256_S1024x256 broadcasts_S1024x1_S1024x256) slices_S2048x64_o768_0_S256x64) _) (h.q.rows slices_S2048x64_o768_0_S256x64 ho) ha) _

/-- The values' accumulator after block 3. -/
theorem accV0_3 (h : HIn H M qn kn vb ob kt ck cq l) {a : FVec Ideal S1024x64 .f32}
    (ha : Is a fun k d => accV H 768 (k.castLE (by decide)) d) :
    Is (k0_pay65 ck l (k0_pay57 ob) (k0_pay58 qn kn) (k0_pay59 cq) a : FVec Ideal S1024x64 .f32)
      fun k d => accV H 1024 (k.castLE (by decide)) d :=
  have hL : 1024 ≤ 2048 := by decide
  have ho : 768 + 256 ≤ 2048 := by decide
  Is.cast (block_acc hL ho (X := H.P) (Y := H.o) (Is.trunc (h.P hL ho mask_eq slices_S2048x64_o768_0_S256x64 slices_S1x2048_o0_768_S1x256 broadcasts_S1x256_S1024x256 broadcasts_S1024x1_S1024x256) _) (h.o.rows slices_S2048x64_o768_0_S256x64 ho) ha) _

/-- The decay' accumulator after block 3. -/
theorem accC0_3 (h : HIn H M qn kn vb ob kt ck cq l) {a : FVec Ideal S1024x128 .f32}
    (ha : Is a fun k d => accC H 768 (k.castLE (by decide)) d) :
    Is (k0_pay67 (k0_pay66 vb ck l (k0_pay57 ob) (k0_pay58 qn kn) (k0_pay59 cq)) a : FVec Ideal S1024x128 .f32)
      fun k d => accC H 1024 (k.castLE (by decide)) d :=
  have hL : 1024 ≤ 2048 := by decide
  have ho : 768 + 256 ≤ 2048 := by decide
  have hLo : 768 + 256 ≤ 1024 := by decide
  Is.cast (block_lanes hL ho (n := 3) rfl (X := H.dS) (h.dS hL ho hLo (h.P hL ho mask_eq slices_S2048x64_o768_0_S256x64 slices_S1x2048_o0_768_S1x256 broadcasts_S1x256_S1024x256 broadcasts_S1024x1_S1024x256) slices_S2048x64_o768_0_S256x64) ha) _

/-- The queries' gradient of block 4. -/
theorem dq0_4 (h : HIn H M qn kn vb ob kt ck cq l) :
    Is (k0_pay73 qn kn kt vb ob ck cq l : FVec Ideal S256x64 .f32)
      fun q d => ∑ k, H.dS (row 1024 (by decide) q) k * H.kn k d :=
  have hL : 1280 ≤ 2048 := by decide
  have ho : 1024 + 256 ≤ 2048 := by decide
  have hLo : 1024 + 256 ≤ 1280 := by decide
  block_dq H hL ho hLo (Is.trunc (h.dS hL ho hLo (h.P hL ho mask_eq slices_S2048x64_o1024_0_S256x64 slices_S1x2048_o0_1024_S1x256 broadcasts_S1x256_S1280x256 broadcasts_S1280x1_S1280x256) slices_S2048x64_o1024_0_S256x64) _) (h.kt.cols0 slices_S64x2048_o0_0_S64x1280 hL)

/-- The keys' accumulator after block 4. -/
theorem accK0_4 (h : HIn H M qn kn vb ob kt ck cq l) {a : FVec Ideal S1280x64 .f32}
    (ha : Is a fun k d => accK H 1024 (k.castLE (by decide)) d) :
    Is ((k0_pay74 qn kn vb ob ck cq l a) : FVec Ideal S1280x64 .f32)
      fun k d => accK H 1280 (k.castLE (by decide)) d :=
  have hL : 1280 ≤ 2048 := by decide
  have ho : 1024 + 256 ≤ 2048 := by decide
  have hLo : 1024 + 256 ≤ 1280 := by decide
  Is.cast (block_acc hL ho (X := H.dS) (Y := fun t d => H.qn t d * (1 / 8)) (Is.trunc (h.dS hL ho hLo (h.P hL ho mask_eq slices_S2048x64_o1024_0_S256x64 slices_S1x2048_o0_1024_S1x256 broadcasts_S1x256_S1280x256 broadcasts_S1280x1_S1280x256) slices_S2048x64_o1024_0_S256x64) _) (h.q.rows slices_S2048x64_o1024_0_S256x64 ho) ha) _

/-- The values' accumulator after block 4. -/
theorem accV0_4 (h : HIn H M qn kn vb ob kt ck cq l) {a : FVec Ideal S1280x64 .f32}
    (ha : Is a fun k d => accV H 1024 (k.castLE (by decide)) d) :
    Is (k0_pay75 (k0_pay69 ob) (k0_pay70 qn kn ck cq l) a : FVec Ideal S1280x64 .f32)
      fun k d => accV H 1280 (k.castLE (by decide)) d :=
  have hL : 1280 ≤ 2048 := by decide
  have ho : 1024 + 256 ≤ 2048 := by decide
  Is.cast (block_acc hL ho (X := H.P) (Y := H.o) (Is.trunc (h.P hL ho mask_eq slices_S2048x64_o1024_0_S256x64 slices_S1x2048_o0_1024_S1x256 broadcasts_S1x256_S1280x256 broadcasts_S1280x1_S1280x256) _) (h.o.rows slices_S2048x64_o1024_0_S256x64 ho) ha) _

/-- The decay' accumulator after block 4. -/
theorem accC0_4 (h : HIn H M qn kn vb ob kt ck cq l) {a : FVec Ideal S1280x128 .f32}
    (ha : Is a fun k d => accC H 1024 (k.castLE (by decide)) d) :
    Is (k0_pay76 (k0_pay71 qn kn vb ob ck cq l) a : FVec Ideal S1280x128 .f32)
      fun k d => accC H 1280 (k.castLE (by decide)) d :=
  have hL : 1280 ≤ 2048 := by decide
  have ho : 1024 + 256 ≤ 2048 := by decide
  have hLo : 1024 + 256 ≤ 1280 := by decide
  Is.cast (block_lanes hL ho (n := 4) rfl (X := H.dS) (h.dS hL ho hLo (h.P hL ho mask_eq slices_S2048x64_o1024_0_S256x64 slices_S1x2048_o0_1024_S1x256 broadcasts_S1x256_S1280x256 broadcasts_S1280x1_S1280x256) slices_S2048x64_o1024_0_S256x64) ha) _

/-- The queries' gradient of block 5. -/
theorem dq0_5 (h : HIn H M qn kn vb ob kt ck cq l) :
    Is (k0_pay83 kt (k0_pay79 qn kn ck cq l) (k0_pay80 qn kn vb ob ck cq l) : FVec Ideal S256x64 .f32)
      fun q d => ∑ k, H.dS (row 1280 (by decide) q) k * H.kn k d :=
  have hL : 1536 ≤ 2048 := by decide
  have ho : 1280 + 256 ≤ 2048 := by decide
  have hLo : 1280 + 256 ≤ 1536 := by decide
  block_dq H hL ho hLo (Is.trunc (h.dS hL ho hLo (h.P hL ho mask_eq slices_S2048x64_o1280_0_S256x64 slices_S1x2048_o0_1280_S1x256 broadcasts_S1x256_S1536x256 broadcasts_S1536x1_S1536x256) slices_S2048x64_o1280_0_S256x64) _) (h.kt.cols0 slices_S64x2048_o0_0_S64x1536 hL)

/-- The keys' accumulator after block 5. -/
theorem accK0_5 (h : HIn H M qn kn vb ob kt ck cq l) {a : FVec Ideal S1536x64 .f32}
    (ha : Is a fun k d => accK H 1280 (k.castLE (by decide)) d) :
    Is (k0_pay84 (k0_pay77 qn) (k0_pay79 qn kn ck cq l) (k0_pay80 qn kn vb ob ck cq l) a : FVec Ideal S1536x64 .f32)
      fun k d => accK H 1536 (k.castLE (by decide)) d :=
  have hL : 1536 ≤ 2048 := by decide
  have ho : 1280 + 256 ≤ 2048 := by decide
  have hLo : 1280 + 256 ≤ 1536 := by decide
  Is.cast (block_acc hL ho (X := H.dS) (Y := fun t d => H.qn t d * (1 / 8)) (Is.trunc (h.dS hL ho hLo (h.P hL ho mask_eq slices_S2048x64_o1280_0_S256x64 slices_S1x2048_o0_1280_S1x256 broadcasts_S1x256_S1536x256 broadcasts_S1536x1_S1536x256) slices_S2048x64_o1280_0_S256x64) _) (h.q.rows slices_S2048x64_o1280_0_S256x64 ho) ha) _

/-- The values' accumulator after block 5. -/
theorem accV0_5 (h : HIn H M qn kn vb ob kt ck cq l) {a : FVec Ideal S1536x64 .f32}
    (ha : Is a fun k d => accV H 1280 (k.castLE (by decide)) d) :
    Is (k0_pay85 (k0_pay78 ob) (k0_pay79 qn kn ck cq l) a : FVec Ideal S1536x64 .f32)
      fun k d => accV H 1536 (k.castLE (by decide)) d :=
  have hL : 1536 ≤ 2048 := by decide
  have ho : 1280 + 256 ≤ 2048 := by decide
  Is.cast (block_acc hL ho (X := H.P) (Y := H.o) (Is.trunc (h.P hL ho mask_eq slices_S2048x64_o1280_0_S256x64 slices_S1x2048_o0_1280_S1x256 broadcasts_S1x256_S1536x256 broadcasts_S1536x1_S1536x256) _) (h.o.rows slices_S2048x64_o1280_0_S256x64 ho) ha) _

/-- The decay' accumulator after block 5. -/
theorem accC0_5 (h : HIn H M qn kn vb ob kt ck cq l) {a : FVec Ideal S1536x128 .f32}
    (ha : Is a fun k d => accC H 1280 (k.castLE (by decide)) d) :
    Is (k0_pay86 (k0_pay79 qn kn ck cq l) (k0_pay80 qn kn vb ob ck cq l) a : FVec Ideal S1536x128 .f32)
      fun k d => accC H 1536 (k.castLE (by decide)) d :=
  have hL : 1536 ≤ 2048 := by decide
  have ho : 1280 + 256 ≤ 2048 := by decide
  have hLo : 1280 + 256 ≤ 1536 := by decide
  Is.cast (block_lanes hL ho (n := 5) rfl (X := H.dS) (h.dS hL ho hLo (h.P hL ho mask_eq slices_S2048x64_o1280_0_S256x64 slices_S1x2048_o0_1280_S1x256 broadcasts_S1x256_S1536x256 broadcasts_S1536x1_S1536x256) slices_S2048x64_o1280_0_S256x64) ha) _

/-- The queries' gradient of block 6. -/
theorem dq0_6 (h : HIn H M qn kn vb ob kt ck cq l) :
    Is (k0_pay94 kt vb l (k0_pay88 ob) (k0_pay89 qn kn ck cq) (iota Kind.tc S1792x256 32 [0] iota_S1792x256_d0_w32) k0_pay90 : FVec Ideal S256x64 .f32)
      fun q d => ∑ k, H.dS (row 1536 (by decide) q) k * H.kn k d :=
  have hL : 1792 ≤ 2048 := by decide
  have ho : 1536 + 256 ≤ 2048 := by decide
  have hLo : 1536 + 256 ≤ 1792 := by decide
  block_dq H hL ho hLo (Is.trunc (h.dS hL ho hLo (h.P hL ho mask_eq slices_S2048x64_o1536_0_S256x64 slices_S1x2048_o0_1536_S1x256 broadcasts_S1x256_S1792x256 broadcasts_S1792x1_S1792x256) slices_S2048x64_o1536_0_S256x64) _) (h.kt.cols0 slices_S64x2048_o0_0_S64x1792 hL)

/-- The keys' accumulator after block 6. -/
theorem accK0_6 (h : HIn H M qn kn vb ob kt ck cq l) {a : FVec Ideal S1792x64 .f32}
    (ha : Is a fun k d => accK H 1536 (k.castLE (by decide)) d) :
    Is (k0_pay95 vb l (k0_pay87 qn) (k0_pay88 ob) (k0_pay89 qn kn ck cq) (iota Kind.tc S1792x256 32 [0] iota_S1792x256_d0_w32) k0_pay90 a : FVec Ideal S1792x64 .f32)
      fun k d => accK H 1792 (k.castLE (by decide)) d :=
  have hL : 1792 ≤ 2048 := by decide
  have ho : 1536 + 256 ≤ 2048 := by decide
  have hLo : 1536 + 256 ≤ 1792 := by decide
  Is.cast (block_acc hL ho (X := H.dS) (Y := fun t d => H.qn t d * (1 / 8)) (Is.trunc (h.dS hL ho hLo (h.P hL ho mask_eq slices_S2048x64_o1536_0_S256x64 slices_S1x2048_o0_1536_S1x256 broadcasts_S1x256_S1792x256 broadcasts_S1792x1_S1792x256) slices_S2048x64_o1536_0_S256x64) _) (h.q.rows slices_S2048x64_o1536_0_S256x64 ho) ha) _

/-- The values' accumulator after block 6. -/
theorem accV0_6 (h : HIn H M qn kn vb ob kt ck cq l) {a : FVec Ideal S1792x64 .f32}
    (ha : Is a fun k d => accV H 1536 (k.castLE (by decide)) d) :
    Is (k0_pay96 l (k0_pay88 ob) (k0_pay89 qn kn ck cq) (iota Kind.tc S1792x256 32 [0] iota_S1792x256_d0_w32) k0_pay90 a : FVec Ideal S1792x64 .f32)
      fun k d => accV H 1792 (k.castLE (by decide)) d :=
  have hL : 1792 ≤ 2048 := by decide
  have ho : 1536 + 256 ≤ 2048 := by decide
  Is.cast (block_acc hL ho (X := H.P) (Y := H.o) (Is.trunc (h.P hL ho mask_eq slices_S2048x64_o1536_0_S256x64 slices_S1x2048_o0_1536_S1x256 broadcasts_S1x256_S1792x256 broadcasts_S1792x1_S1792x256) _) (h.o.rows slices_S2048x64_o1536_0_S256x64 ho) ha) _

/-- The decay' accumulator after block 6. -/
theorem accC0_6 (h : HIn H M qn kn vb ob kt ck cq l) {a : FVec Ideal S1792x128 .f32}
    (ha : Is a fun k d => accC H 1536 (k.castLE (by decide)) d) :
    Is ((k0_pay97 vb l (k0_pay88 ob) (k0_pay89 qn kn ck cq) (iota Kind.tc S1792x256 32 [0] iota_S1792x256_d0_w32) k0_pay90 a) : FVec Ideal S1792x128 .f32)
      fun k d => accC H 1792 (k.castLE (by decide)) d :=
  have hL : 1792 ≤ 2048 := by decide
  have ho : 1536 + 256 ≤ 2048 := by decide
  have hLo : 1536 + 256 ≤ 1792 := by decide
  Is.cast (block_lanes hL ho (n := 6) rfl (X := H.dS) (h.dS hL ho hLo (h.P hL ho mask_eq slices_S2048x64_o1536_0_S256x64 slices_S1x2048_o0_1536_S1x256 broadcasts_S1x256_S1792x256 broadcasts_S1792x1_S1792x256) slices_S2048x64_o1536_0_S256x64) ha) _

/-- The queries' gradient of block 7. -/
theorem dq0_7 (h : HIn H M qn kn vb ob kt ck cq l) :
    Is (k0_pay103 qn kn kt vb ob ck cq l : FVec Ideal S256x64 .f32)
      fun q d => ∑ k, H.dS (row 1792 (by decide) q) k * H.kn k d :=
  have hL : 2048 ≤ 2048 := by decide
  have ho : 1792 + 256 ≤ 2048 := by decide
  have hLo : 1792 + 256 ≤ 2048 := by decide
  block_dq H hL ho hLo (Is.trunc (h.dS' ho (h.P' ho mask_eq slices_S2048x64_o1792_0_S256x64 slices_S1x2048_o0_1792_S1x256 broadcasts_S1x256_S2048x256 broadcasts_S2048x1_S2048x256) slices_S2048x64_o1792_0_S256x64) _) h.kt

/-- The keys' accumulator after block 7. -/
theorem accK0_7 (h : HIn H M qn kn vb ob kt ck cq l) {a : FVec Ideal S2048x64 .f32}
    (ha : Is a fun k d => accK H 1792 (k.castLE (by decide)) d) :
    Is (k0_pay104 qn kn vb ob ck cq l a : FVec Ideal S2048x64 .f32)
      fun k d => accK H 2048 (k.castLE (by decide)) d :=
  have hL : 2048 ≤ 2048 := by decide
  have ho : 1792 + 256 ≤ 2048 := by decide
  have hLo : 1792 + 256 ≤ 2048 := by decide
  Is.cast (block_acc hL ho (X := H.dS) (Y := fun t d => H.qn t d * (1 / 8)) (Is.trunc (h.dS' ho (h.P' ho mask_eq slices_S2048x64_o1792_0_S256x64 slices_S1x2048_o0_1792_S1x256 broadcasts_S1x256_S2048x256 broadcasts_S2048x1_S2048x256) slices_S2048x64_o1792_0_S256x64) _) (h.q.rows slices_S2048x64_o1792_0_S256x64 ho) ha) _

/-- The values' accumulator after block 7. -/
theorem accV0_7 (h : HIn H M qn kn vb ob kt ck cq l) {a : FVec Ideal S2048x64 .f32}
    (ha : Is a fun k d => accV H 1792 (k.castLE (by decide)) d) :
    Is ((k0_pay105 qn kn ob ck cq l a) : FVec Ideal S2048x64 .f32)
      fun k d => accV H 2048 (k.castLE (by decide)) d :=
  have hL : 2048 ≤ 2048 := by decide
  have ho : 1792 + 256 ≤ 2048 := by decide
  Is.cast (block_acc hL ho (X := H.P) (Y := H.o) (Is.trunc (h.P' ho mask_eq slices_S2048x64_o1792_0_S256x64 slices_S1x2048_o0_1792_S1x256 broadcasts_S1x256_S2048x256 broadcasts_S2048x1_S2048x256) _) (h.o.rows slices_S2048x64_o1792_0_S256x64 ho) ha) _

/-- The decay' accumulator after block 7. -/
theorem accC0_7 (h : HIn H M qn kn vb ob kt ck cq l) {a : FVec Ideal S2048x128 .f32}
    (ha : Is a fun k d => accC H 1792 (k.castLE (by decide)) d) :
    Is (k0_pay106 (k0_pay101 qn kn vb ob ck cq l) a : FVec Ideal S2048x128 .f32)
      fun k d => accC H 2048 (k.castLE (by decide)) d :=
  have hL : 2048 ≤ 2048 := by decide
  have ho : 1792 + 256 ≤ 2048 := by decide
  have hLo : 1792 + 256 ≤ 2048 := by decide
  Is.cast (block_lanes hL ho (n := 7) rfl (X := H.dS) (h.dS' ho (h.P' ho mask_eq slices_S2048x64_o1792_0_S256x64 slices_S1x2048_o0_1792_S1x256 broadcasts_S1x256_S2048x256 broadcasts_S2048x1_S2048x256) slices_S2048x64_o1792_0_S256x64) ha) _

end Cert.Fox
-- ==== Proof.Pay1.lean ====
/- The second head of a pair: what each of the eight blocks' values holds, of the head's arrays. -/
module

public import proofs.«01_k».proof.Proof.Pay0
public import proofs.«01_k».proof.Proof.Gen.KernelIdeal.Skeleton

@[expose] public section

noncomputable section

namespace Cert.Fox

open Idealize.ShloMosaic Idealize.ShloMosaic.ValueIdx Cert.KernelIdeal Cert.KernelIdeal.Gen

variable {H : Hd} {M : Fin 2048 → ℝ} {qn kn vb ob : FVec Ideal S2048x64 .bf16} {kt : FVec Ideal S64x2048 .bf16}
  {ck : FVec Ideal S2048x1 .f32} {cq l : FVec Ideal S1x2048 .f32} {a0 : BitVec 32} {xc : FVec Ideal S2048x128 .f32}
  {lc : FVec Ideal S1x1x2048 .f32}

/-- The queries' gradient of block 0. -/
theorem dq1_0 (h : HIn H M qn kn vb ob kt (k0_pay132 a0 xc) (k0_pay133 lc) l) :
    Is (k0_pay145 kt vb l (k0_pay139 ob) (k0_pay140 qn kn lc) (k0_pay141 a0 xc) : FVec Ideal S256x64 .f32)
      fun q d => ∑ k, H.dS (row 0 (by decide) q) k * H.kn k d :=
  have hL : 256 ≤ 2048 := by decide
  have ho : 0 + 256 ≤ 2048 := by decide
  have hLo : 0 + 256 ≤ 256 := by decide
  block_dq H hL ho hLo (Is.trunc (h.dS hL ho hLo (h.P hL ho mask_eq slices_S2048x64_o0_0_S256x64 slices_S1x2048_o0_0_S1x256 broadcasts_S1x256_S256x256 broadcasts_S256x1_S256x256) slices_S2048x64_o0_0_S256x64) _) (h.kt.cols0 slices_S64x2048_o0_0_S64x256 hL)

/-- The keys' accumulator after block 0. -/
theorem accK1_0 (h : HIn H M qn kn vb ob kt (k0_pay132 a0 xc) (k0_pay133 lc) l) {a : FVec Ideal S256x64 .f32}
    (ha : Is a fun k d => accK H 0 (k.castLE (by decide)) d) :
    Is (k0_pay146 vb l (k0_pay138 qn) (k0_pay139 ob) (k0_pay140 qn kn lc) (k0_pay141 a0 xc) a : FVec Ideal S256x64 .f32)
      fun k d => accK H 256 (k.castLE (by decide)) d :=
  have hL : 256 ≤ 2048 := by decide
  have ho : 0 + 256 ≤ 2048 := by decide
  have hLo : 0 + 256 ≤ 256 := by decide
  Is.cast (block_acc hL ho (X := H.dS) (Y := fun t d => H.qn t d * (1 / 8)) (Is.trunc (h.dS hL ho hLo (h.P hL ho mask_eq slices_S2048x64_o0_0_S256x64 slices_S1x2048_o0_0_S1x256 broadcasts_S1x256_S256x256 broadcasts_S256x1_S256x256) slices_S2048x64_o0_0_S256x64) _) (h.q.rows slices_S2048x64_o0_0_S256x64 ho) ha) _

/-- The values' accumulator after block 0. -/
theorem accV1_0 (h : HIn H M qn kn vb ob kt (k0_pay132 a0 xc) (k0_pay133 lc) l) {a : FVec Ideal S256x64 .f32}
    (ha : Is a fun k d => accV H 0 (k.castLE (by decide)) d) :
    Is (k0_pay147 l (k0_pay139 ob) (k0_pay140 qn kn lc) (k0_pay141 a0 xc) a : FVec Ideal S256x64 .f32)
      fun k d => accV H 256 (k.castLE (by decide)) d :=
  have hL : 256 ≤ 2048 := by decide
  have ho : 0 + 256 ≤ 2048 := by decide
  Is.cast (block_acc hL ho (X := H.P) (Y := H.o) (Is.trunc (h.P hL ho mask_eq slices_S2048x64_o0_0_S256x64 slices_S1x2048_o0_0_S1x256 broadcasts_S1x256_S256x256 broadcasts_S256x1_S256x256) _) (h.o.rows slices_S2048x64_o0_0_S256x64 ho) ha) _

/-- The decay' accumulator after block 0. -/
theorem accC1_0 (h : HIn H M qn kn vb ob kt (k0_pay132 a0 xc) (k0_pay133 lc) l) {a : FVec Ideal S256x128 .f32}
    (ha : Is a fun k d => accC H 0 (k.castLE (by decide)) d) :
    Is (k0_pay149 (k0_pay148 vb l (k0_pay139 ob) (k0_pay140 qn kn lc) (k0_pay141 a0 xc)) a : FVec Ideal S256x128 .f32)
      fun k d => accC H 256 (k.castLE (by decide)) d :=
  have hL : 256 ≤ 2048 := by decide
  have ho : 0 + 256 ≤ 2048 := by decide
  have hLo : 0 + 256 ≤ 256 := by decide
  Is.cast (block_lanes hL ho (n := 0) rfl (X := H.dS) (h.dS hL ho hLo (h.P hL ho mask_eq slices_S2048x64_o0_0_S256x64 slices_S1x2048_o0_0_S1x256 broadcasts_S1x256_S256x256 broadcasts_S256x1_S256x256) slices_S2048x64_o0_0_S256x64) ha) _

/-- The queries' gradient of block 1. -/
theorem dq1_1 (h : HIn H M qn kn vb ob kt ck cq l) :
    Is (k0_pay155 qn kn kt vb ob ck cq l : FVec Ideal S256x64 .f32)
      fun q d => ∑ k, H.dS (row 256 (by decide) q) k * H.kn k d :=
  have hL : 512 ≤ 2048 := by decide
  have ho : 256 + 256 ≤ 2048 := by decide
  have hLo : 256 + 256 ≤ 512 := by decide
  block_dq H hL ho hLo (Is.trunc (h.dS hL ho hLo (h.P hL ho mask_eq slices_S2048x64_o256_0_S256x64 slices_S1x2048_o0_256_S1x256 broadcasts_S1x256_S512x256 broadcasts_S512x1_S512x256) slices_S2048x64_o256_0_S256x64) _) (h.kt.cols0 slices_S64x2048_o0_0_S64x512 hL)

/-- The keys' accumulator after block 1. -/
theorem accK1_1 (h : HIn H M qn kn vb ob kt ck cq l) {a : FVec Ideal S512x64 .f32}
    (ha : Is a fun k d => accK H 256 (k.castLE (by decide)) d) :
    Is (k0_pay156 qn kn vb ob ck cq l a : FVec Ideal S512x64 .f32)
      fun k d => accK H 512 (k.castLE (by decide)) d :=
  have hL : 512 ≤ 2048 := by decide
  have ho : 256 + 256 ≤ 2048 := by decide
  have hLo : 256 + 256 ≤ 512 := by decide
  Is.cast (block_acc hL ho (X := H.dS) (Y := fun t d => H.qn t d * (1 / 8)) (Is.trunc (h.dS hL ho hLo (h.P hL ho mask_eq slices_S2048x64_o256_0_S256x64 slices_S1x2048_o0_256_S1x256 broadcasts_S1x256_S512x256 broadcasts_S512x1_S512x256) slices_S2048x64_o256_0_S256x64) _) (h.q.rows slices_S2048x64_o256_0_S256x64 ho) ha) _

/-- The values' accumulator after block 1. -/
theorem accV1_1 (h : HIn H M qn kn vb ob kt ck cq l) {a : FVec Ideal S512x64 .f32}
    (ha : Is a fun k d => accV H 256 (k.castLE (by decide)) d) :
    Is (k0_pay157 (k0_pay151 ob) (k0_pay152 qn kn ck cq l) a : FVec Ideal S512x64 .f32)
      fun k d => accV H 512 (k.castLE (by decide)) d :=
  have hL : 512 ≤ 2048 := by decide
  have ho : 256 + 256 ≤ 2048 := by decide
  Is.cast (block_acc hL ho (X := H.P) (Y := H.o) (Is.trunc (h.P hL ho mask_eq slices_S2048x64_o256_0_S256x64 slices_S1x2048_o0_256_S1x256 broadcasts_S1x256_S512x256 broadcasts_S512x1_S512x256) _) (h.o.rows slices_S2048x64_o256_0_S256x64 ho) ha) _

/-- The decay' accumulator after block 1. -/
theorem accC1_1 (h : HIn H M qn kn vb ob kt ck cq l) {a : FVec Ideal S512x128 .f32}
    (ha : Is a fun k d => accC H 256 (k.castLE (by decide)) d) :
    Is (k0_pay158 (k0_pay153 qn kn vb ob ck cq l) a : FVec Ideal S512x128 .f32)
      fun k d => accC H 512 (k.castLE (by decide)) d :=
  have hL : 512 ≤ 2048 := by decide
  have ho : 256 + 256 ≤ 2048 := by decide
  have hLo : 256 + 256 ≤ 512 := by decide
  Is.cast (block_lanes hL ho (n := 1) rfl (X := H.dS) (h.dS hL ho hLo (h.P hL ho mask_eq slices_S2048x64_o256_0_S256x64 slices_S1x2048_o0_256_S1x256 broadcasts_S1x256_S512x256 broadcasts_S512x1_S512x256) slices_S2048x64_o256_0_S256x64) ha) _

/-- The queries' gradient of block 2. -/
theorem dq1_2 (h : HIn H M qn kn vb ob kt ck cq l) :
    Is (k0_pay165 (k0_pay163 qn kn vb ob ck cq l) (k0_pay164 kt) : FVec Ideal S256x64 .f32)
      fun q d => ∑ k, H.dS (row 512 (by decide) q) k * H.kn k d :=
  have hL : 768 ≤ 2048 := by decide
  have ho : 512 + 256 ≤ 2048 := by decide
  have hLo : 512 + 256 ≤ 768 := by decide
  block_dq H hL ho hLo (Is.trunc (h.dS hL ho hLo (h.P hL ho mask_eq slices_S2048x64_o512_0_S256x64 slices_S1x2048_o0_512_S1x256 broadcasts_S1x256_S768x256 broadcasts_S768x1_S768x256) slices_S2048x64_o512_0_S256x64) _) (h.kt.cols0 slices_S64x2048_o0_0_S64x768 hL)

/-- The keys' accumulator after block 2. -/
theorem accK1_2 (h : HIn H M qn kn vb ob kt ck cq l) {a : FVec Ideal S768x64 .f32}
    (ha : Is a fun k d => accK H 512 (k.castLE (by decide)) d) :
    Is (k0_pay166 (k0_pay159 qn) (k0_pay163 qn kn vb ob ck cq l) a : FVec Ideal S768x64 .f32)
      fun k d => accK H 768 (k.castLE (by decide)) d :=
  have hL : 768 ≤ 2048 := by decide
  have ho : 512 + 256 ≤ 2048 := by decide
  have hLo : 512 + 256 ≤ 768 := by decide
  Is.cast (block_acc hL ho (X := H.dS) (Y := fun t d => H.qn t d * (1 / 8)) (Is.trunc (h.dS hL ho hLo (h.P hL ho mask_eq slices_S2048x64_o512_0_S256x64 slices_S1x2048_o0_512_S1x256 broadcasts_S1x256_S768x256 broadcasts_S768x1_S768x256) slices_S2048x64_o512_0_S256x64) _) (h.q.rows slices_S2048x64_o512_0_S256x64 ho) ha) _

/-- The values' accumulator after block 2. -/
theorem accV1_2 (h : HIn H M qn kn vb ob kt ck cq l) {a : FVec Ideal S768x64 .f32}
    (ha : Is a fun k d => accV H 512 (k.castLE (by decide)) d) :
    Is (k0_pay167 (k0_pay160 ob) (k0_pay161 qn kn ck cq l) a : FVec Ideal S768x64 .f32)
      fun k d => accV H 768 (k.castLE (by decide)) d :=
  have hL : 768 ≤ 2048 := by decide
  have ho : 512 + 256 ≤ 2048 := by decide
  Is.cast (block_acc hL ho (X := H.P) (Y := H.o) (Is.trunc (h.P hL ho mask_eq slices_S2048x64_o512_0_S256x64 slices_S1x2048_o0_512_S1x256 broadcasts_S1x256_S768x256 broadcasts_S768x1_S768x256) _) (h.o.rows slices_S2048x64_o512_0_S256x64 ho) ha) _

/-- The decay' accumulator after block 2. -/
theorem accC1_2 (h : HIn H M qn kn vb ob kt ck cq l) {a : FVec Ideal S768x128 .f32}
    (ha : Is a fun k d => accC H 512 (k.castLE (by decide)) d) :
    Is (k0_pay168 (k0_pay162 qn kn vb ob ck cq l) a : FVec Ideal S768x128 .f32)
      fun k d => accC H 768 (k.castLE (by decide)) d :=
  have hL : 768 ≤ 2048 := by decide
  have ho : 512 + 256 ≤ 2048 := by decide
  have hLo : 512 + 256 ≤ 768 := by decide
  Is.cast (block_lanes hL ho (n := 2) rfl (X := H.dS) (h.dS hL ho hLo (h.P hL ho mask_eq slices_S2048x64_o512_0_S256x64 slices_S1x2048_o0_512_S1x256 broadcasts_S1x256_S768x256 broadcasts_S768x1_S768x256) slices_S2048x64_o512_0_S256x64) ha) _

/-- The queries' gradient of block 3. -/
theorem dq1_3 (h : HIn H M qn kn vb ob kt ck cq l) :
    Is (k0_pay177 kt vb l (k0_pay170 ob) (k0_pay171 qn kn ck cq) k0_pay172 k0_pay173 : FVec Ideal S256x64 .f32)
      fun q d => ∑ k, H.dS (row 768 (by decide) q) k * H.kn k d :=
  have hL : 1024 ≤ 2048 := by decide
  have ho : 768 + 256 ≤ 2048 := by decide
  have hLo : 768 + 256 ≤ 1024 := by decide
  block_dq H hL ho hLo (Is.trunc (h.dS hL ho hLo (h.P hL ho mask_eq slices_S2048x64_o768_0_S256x64 slices_S1x2048_o0_768_S1x256 broadcasts_S1x256_S1024x256 broadcasts_S1024x1_S1024x256) slices_S2048x64_o768_0_S256x64) _) (h.kt.cols0 slices_S64x2048_o0_0_S64x1024 hL)

/-- The keys' accumulator after block 3. -/
theorem accK1_3 (h : HIn H M qn kn vb ob kt ck cq l) {a : FVec Ideal S1024x64 .f32}
    (ha : Is a fun k d => accK H 768 (k.castLE (by decide)) d) :
    Is (k0_pay178 vb l (k0_pay169 qn) (k0_pay170 ob) (k0_pay171 qn kn ck cq) k0_pay172 k0_pay173 a : FVec Ideal S1024x64 .f32)
      fun k d => accK H 1024 (k.castLE (by decide)) d :=
  have hL : 1024 ≤ 2048 := by decide
  have ho : 768 + 256 ≤ 2048 := by decide
  have hLo : 768 + 256 ≤ 1024 := by decide
  Is.cast (block_acc hL ho (X := H.dS) (Y := fun t d => H.qn t d * (1 / 8)) (Is.trunc (h.dS hL ho hLo (h.P hL ho mask_eq slices_S2048x64_o768_0_S256x64 slices_S1x2048_o0_768_S1x256 broadcasts_S1x256_S1024x256 broadcasts_S1024x1_S1024x256) slices_S2048x64_o768_0_S256x64) _) (h.q.rows slices_S2048x64_o768_0_S256x64 ho) ha) _

/-- The values' accumulator after block 3. -/
theorem accV1_3 (h : HIn H M qn kn vb ob kt ck cq l) {a : FVec Ideal S1024x64 .f32}
    (ha : Is a fun k d => accV H 768 (k.castLE (by decide)) d) :
    Is (k0_pay179 l (k0_pay170 ob) (k0_pay171 qn kn ck cq) k0_pay172 k0_pay173 a : FVec Ideal S1024x64 .f32)
      fun k d => accV H 1024 (k.castLE (by decide)) d :=
  have hL : 1024 ≤ 2048 := by decide
  have ho : 768 + 256 ≤ 2048 := by decide
  Is.cast (block_acc hL ho (X := H.P) (Y := H.o) (Is.trunc (h.P hL ho mask_eq slices_S2048x64_o768_0_S256x64 slices_S1x2048_o0_768_S1x256 broadcasts_S1x256_S1024x256 broadcasts_S1024x1_S1024x256) _) (h.o.rows slices_S2048x64_o768_0_S256x64 ho) ha) _

/-- The decay' accumulator after block 3. -/
theorem accC1_3 (h : HIn H M qn kn vb ob kt ck cq l) {a : FVec Ideal S1024x128 .f32}
    (ha : Is a fun k d => accC H 768 (k.castLE (by decide)) d) :
    Is (k0_pay180 vb l (k0_pay170 ob) (k0_pay171 qn kn ck cq) k0_pay172 k0_pay173 a : FVec Ideal S1024x128 .f32)
      fun k d => accC H 1024 (k.castLE (by decide)) d :=
  have hL : 1024 ≤ 2048 := by decide
  have ho : 768 + 256 ≤ 2048 := by decide
  have hLo : 768 + 256 ≤ 1024 := by decide
  Is.cast (block_lanes hL ho (n := 3) rfl (X := H.dS) (h.dS hL ho hLo (h.P hL ho mask_eq slices_S2048x64_o768_0_S256x64 slices_S1x2048_o0_768_S1x256 broadcasts_S1x256_S1024x256 broadcasts_S1024x1_S1024x256) slices_S2048x64_o768_0_S256x64) ha) _

/-- The queries' gradient of block 4. -/
theorem dq1_4 (h : HIn H M qn kn vb ob kt ck cq l) :
    Is (k0_pay186 kn kt vb ck cq l (k0_pay181 qn) (k0_pay182 ob) : FVec Ideal S256x64 .f32)
      fun q d => ∑ k, H.dS (row 1024 (by decide) q) k * H.kn k d :=
  have hL : 1280 ≤ 2048 := by decide
  have ho : 1024 + 256 ≤ 2048 := by decide
  have hLo : 1024 + 256 ≤ 1280 := by decide
  block_dq H hL ho hLo (Is.trunc (h.dS hL ho hLo (h.P hL ho mask_eq slices_S2048x64_o1024_0_S256x64 slices_S1x2048_o0_1024_S1x256 broadcasts_S1x256_S1280x256 broadcasts_S1280x1_S1280x256) slices_S2048x64_o1024_0_S256x64) _) (h.kt.cols0 slices_S64x2048_o0_0_S64x1280 hL)

/-- The keys' accumulator after block 4. -/
theorem accK1_4 (h : HIn H M qn kn vb ob kt ck cq l) {a : FVec Ideal S1280x64 .f32}
    (ha : Is a fun k d => accK H 1024 (k.castLE (by decide)) d) :
    Is (k0_pay187 kn vb ck cq l (k0_pay181 qn) (k0_pay182 ob) a : FVec Ideal S1280x64 .f32)
      fun k d => accK H 1280 (k.castLE (by decide)) d :=
  have hL : 1280 ≤ 2048 := by decide
  have ho : 1024 + 256 ≤ 2048 := by decide
  have hLo : 1024 + 256 ≤ 1280 := by decide
  Is.cast (block_acc hL ho (X := H.dS) (Y := fun t d => H.qn t d * (1 / 8)) (Is.trunc (h.dS hL ho hLo (h.P hL ho mask_eq slices_S2048x64_o1024_0_S256x64 slices_S1x2048_o0_1024_S1x256 broadcasts_S1x256_S1280x256 broadcasts_S1280x1_S1280x256) slices_S2048x64_o1024_0_S256x64) _) (h.q.rows slices_S2048x64_o1024_0_S256x64 ho) ha) _

/-- The values' accumulator after block 4. -/
theorem accV1_4 (h : HIn H M qn kn vb ob kt ck cq l) {a : FVec Ideal S1280x64 .f32}
    (ha : Is a fun k d => accV H 1024 (k.castLE (by decide)) d) :
    Is (k0_pay189 (k0_pay188 kn ck cq l (k0_pay181 qn) (k0_pay182 ob) a) : FVec Ideal S1280x64 .f32)
      fun k d => accV H 1280 (k.castLE (by decide)) d :=
  have hL : 1280 ≤ 2048 := by decide
  have ho : 1024 + 256 ≤ 2048 := by decide
  Is.cast (block_acc hL ho (X := H.P) (Y := H.o) (Is.trunc (h.P hL ho mask_eq slices_S2048x64_o1024_0_S256x64 slices_S1x2048_o0_1024_S1x256 broadcasts_S1x256_S1280x256 broadcasts_S1280x1_S1280x256) _) (h.o.rows slices_S2048x64_o1024_0_S256x64 ho) ha) _

/-- The decay' accumulator after block 4. -/
theorem accC1_4 (h : HIn H M qn kn vb ob kt ck cq l) {a : FVec Ideal S1280x128 .f32}
    (ha : Is a fun k d => accC H 1024 (k.castLE (by decide)) d) :
    Is (k0_pay190 (k0_pay184 kn vb ck cq l (k0_pay181 qn) (k0_pay182 ob)) a : FVec Ideal S1280x128 .f32)
      fun k d => accC H 1280 (k.castLE (by decide)) d :=
  have hL : 1280 ≤ 2048 := by decide
  have ho : 1024 + 256 ≤ 2048 := by decide
  have hLo : 1024 + 256 ≤ 1280 := by decide
  Is.cast (block_lanes hL ho (n := 4) rfl (X := H.dS) (h.dS hL ho hLo (h.P hL ho mask_eq slices_S2048x64_o1024_0_S256x64 slices_S1x2048_o0_1024_S1x256 broadcasts_S1x256_S1280x256 broadcasts_S1280x1_S1280x256) slices_S2048x64_o1024_0_S256x64) ha) _

/-- The queries' gradient of block 5. -/
theorem dq1_5 (h : HIn H M qn kn vb ob kt ck cq l) :
    Is (k0_pay196 qn kn kt vb ob ck cq l : FVec Ideal S256x64 .f32)
      fun q d => ∑ k, H.dS (row 1280 (by decide) q) k * H.kn k d :=
  have hL : 1536 ≤ 2048 := by decide
  have ho : 1280 + 256 ≤ 2048 := by decide
  have hLo : 1280 + 256 ≤ 1536 := by decide
  block_dq H hL ho hLo (Is.trunc (h.dS hL ho hLo (h.P hL ho mask_eq slices_S2048x64_o1280_0_S256x64 slices_S1x2048_o0_1280_S1x256 broadcasts_S1x256_S1536x256 broadcasts_S1536x1_S1536x256) slices_S2048x64_o1280_0_S256x64) _) (h.kt.cols0 slices_S64x2048_o0_0_S64x1536 hL)

/-- The keys' accumulator after block 5. -/
theorem accK1_5 (h : HIn H M qn kn vb ob kt ck cq l) {a : FVec Ideal S1536x64 .f32}
    (ha : Is a fun k d => accK H 1280 (k.castLE (by decide)) d) :
    Is (k0_pay198 (k0_pay197 qn kn vb ob ck cq l a) : FVec Ideal S1536x64 .f32)
      fun k d => accK H 1536 (k.castLE (by decide)) d :=
  have hL : 1536 ≤ 2048 := by decide
  have ho : 1280 + 256 ≤ 2048 := by decide
  have hLo : 1280 + 256 ≤ 1536 := by decide
  Is.cast (block_acc hL ho (X := H.dS) (Y := fun t d => H.qn t d * (1 / 8)) (Is.trunc (h.dS hL ho hLo (h.P hL ho mask_eq slices_S2048x64_o1280_0_S256x64 slices_S1x2048_o0_1280_S1x256 broadcasts_S1x256_S1536x256 broadcasts_S1536x1_S1536x256) slices_S2048x64_o1280_0_S256x64) _) (h.q.rows slices_S2048x64_o1280_0_S256x64 ho) ha) _

/-- The values' accumulator after block 5. -/
theorem accV1_5 (h : HIn H M qn kn vb ob kt ck cq l) {a : FVec Ideal S1536x64 .f32}
    (ha : Is a fun k d => accV H 1280 (k.castLE (by decide)) d) :
    Is (k0_pay199 (k0_pay192 ob) (k0_pay193 qn kn ck cq l) a : FVec Ideal S1536x64 .f32)
      fun k d => accV H 1536 (k.castLE (by decide)) d :=
  have hL : 1536 ≤ 2048 := by decide
  have ho : 1280 + 256 ≤ 2048 := by decide
  Is.cast (block_acc hL ho (X := H.P) (Y := H.o) (Is.trunc (h.P hL ho mask_eq slices_S2048x64_o1280_0_S256x64 slices_S1x2048_o0_1280_S1x256 broadcasts_S1x256_S1536x256 broadcasts_S1536x1_S1536x256) _) (h.o.rows slices_S2048x64_o1280_0_S256x64 ho) ha) _

/-- The decay' accumulator after block 5. -/
theorem accC1_5 (h : HIn H M qn kn vb ob kt ck cq l) {a : FVec Ideal S1536x128 .f32}
    (ha : Is a fun k d => accC H 1280 (k.castLE (by decide)) d) :
    Is (k0_pay200 (k0_pay194 qn kn vb ob ck cq l) a : FVec Ideal S1536x128 .f32)
      fun k d => accC H 1536 (k.castLE (by decide)) d :=
  have hL : 1536 ≤ 2048 := by decide
  have ho : 1280 + 256 ≤ 2048 := by decide
  have hLo : 1280 + 256 ≤ 1536 := by decide
  Is.cast (block_lanes hL ho (n := 5) rfl (X := H.dS) (h.dS hL ho hLo (h.P hL ho mask_eq slices_S2048x64_o1280_0_S256x64 slices_S1x2048_o0_1280_S1x256 broadcasts_S1x256_S1536x256 broadcasts_S1536x1_S1536x256) slices_S2048x64_o1280_0_S256x64) ha) _

/-- The queries' gradient of block 6. -/
theorem dq1_6 (h : HIn H M qn kn vb ob kt ck cq l) :
    Is (k0_pay208 kt (k0_pay203 qn kn ck cq l) (k0_pay204 vb ob) (k0_pay205 qn kn vb ob ck cq l) : FVec Ideal S256x64 .f32)
      fun q d => ∑ k, H.dS (row 1536 (by decide) q) k * H.kn k d :=
  have hL : 1792 ≤ 2048 := by decide
  have ho : 1536 + 256 ≤ 2048 := by decide
  have hLo : 1536 + 256 ≤ 1792 := by decide
  block_dq H hL ho hLo (Is.trunc (h.dS hL ho hLo (h.P hL ho mask_eq slices_S2048x64_o1536_0_S256x64 slices_S1x2048_o0_1536_S1x256 broadcasts_S1x256_S1792x256 broadcasts_S1792x1_S1792x256) slices_S2048x64_o1536_0_S256x64) _) (h.kt.cols0 slices_S64x2048_o0_0_S64x1792 hL)

/-- The keys' accumulator after block 6. -/
theorem accK1_6 (h : HIn H M qn kn vb ob kt ck cq l) {a : FVec Ideal S1792x64 .f32}
    (ha : Is a fun k d => accK H 1536 (k.castLE (by decide)) d) :
    Is (k0_pay209 (k0_pay201 qn) (k0_pay203 qn kn ck cq l) (k0_pay204 vb ob) (k0_pay205 qn kn vb ob ck cq l) a : FVec Ideal S1792x64 .f32)
      fun k d => accK H 1792 (k.castLE (by decide)) d :=
  have hL : 1792 ≤ 2048 := by decide
  have ho : 1536 + 256 ≤ 2048 := by decide
  have hLo : 1536 + 256 ≤ 1792 := by decide
  Is.cast (block_acc hL ho (X := H.dS) (Y := fun t d => H.qn t d * (1 / 8)) (Is.trunc (h.dS hL ho hLo (h.P hL ho mask_eq slices_S2048x64_o1536_0_S256x64 slices_S1x2048_o0_1536_S1x256 broadcasts_S1x256_S1792x256 broadcasts_S1792x1_S1792x256) slices_S2048x64_o1536_0_S256x64) _) (h.q.rows slices_S2048x64_o1536_0_S256x64 ho) ha) _

/-- The values' accumulator after block 6. -/
theorem accV1_6 (h : HIn H M qn kn vb ob kt ck cq l) {a : FVec Ideal S1792x64 .f32}
    (ha : Is a fun k d => accV H 1536 (k.castLE (by decide)) d) :
    Is (k0_pay210 (k0_pay202 ob) (k0_pay203 qn kn ck cq l) a : FVec Ideal S1792x64 .f32)
      fun k d => accV H 1792 (k.castLE (by decide)) d :=
  have hL : 1792 ≤ 2048 := by decide
  have ho : 1536 + 256 ≤ 2048 := by decide
  Is.cast (block_acc hL ho (X := H.P) (Y := H.o) (Is.trunc (h.P hL ho mask_eq slices_S2048x64_o1536_0_S256x64 slices_S1x2048_o0_1536_S1x256 broadcasts_S1x256_S1792x256 broadcasts_S1792x1_S1792x256) _) (h.o.rows slices_S2048x64_o1536_0_S256x64 ho) ha) _

/-- The decay' accumulator after block 6. -/
theorem accC1_6 (h : HIn H M qn kn vb ob kt ck cq l) {a : FVec Ideal S1792x128 .f32}
    (ha : Is a fun k d => accC H 1536 (k.castLE (by decide)) d) :
    Is (k0_pay211 (k0_pay203 qn kn ck cq l) (k0_pay204 vb ob) (k0_pay205 qn kn vb ob ck cq l) a : FVec Ideal S1792x128 .f32)
      fun k d => accC H 1792 (k.castLE (by decide)) d :=
  have hL : 1792 ≤ 2048 := by decide
  have ho : 1536 + 256 ≤ 2048 := by decide
  have hLo : 1536 + 256 ≤ 1792 := by decide
  Is.cast (block_lanes hL ho (n := 6) rfl (X := H.dS) (h.dS hL ho hLo (h.P hL ho mask_eq slices_S2048x64_o1536_0_S256x64 slices_S1x2048_o0_1536_S1x256 broadcasts_S1x256_S1792x256 broadcasts_S1792x1_S1792x256) slices_S2048x64_o1536_0_S256x64) ha) _

/-- The queries' gradient of block 7. -/
theorem dq1_7 (h : HIn H M qn kn vb ob kt ck cq l) :
    Is (k0_pay218 kt vb l (k0_pay213 ob) (k0_pay214 qn kn ck cq) (iota Kind.tc S2048x256 32 [0] iota_S2048x256_d0_w32) (iota Kind.tc S2048x256 32 [1] iota_S2048x256_d1_w32) : FVec Ideal S256x64 .f32)
      fun q d => ∑ k, H.dS (row 1792 (by decide) q) k * H.kn k d :=
  have hL : 2048 ≤ 2048 := by decide
  have ho : 1792 + 256 ≤ 2048 := by decide
  have hLo : 1792 + 256 ≤ 2048 := by decide
  block_dq H hL ho hLo (Is.trunc (h.dS' ho (h.P' ho mask_eq slices_S2048x64_o1792_0_S256x64 slices_S1x2048_o0_1792_S1x256 broadcasts_S1x256_S2048x256 broadcasts_S2048x1_S2048x256) slices_S2048x64_o1792_0_S256x64) _) h.kt

/-- The keys' accumulator after block 7. -/
theorem accK1_7 (h : HIn H M qn kn vb ob kt ck cq l) {a : FVec Ideal S2048x64 .f32}
    (ha : Is a fun k d => accK H 1792 (k.castLE (by decide)) d) :
    Is (k0_pay219 vb l (k0_pay212 qn) (k0_pay213 ob) (k0_pay214 qn kn ck cq) (iota Kind.tc S2048x256 32 [0] iota_S2048x256_d0_w32) (iota Kind.tc S2048x256 32 [1] iota_S2048x256_d1_w32) a : FVec Ideal S2048x64 .f32)
      fun k d => accK H 2048 (k.castLE (by decide)) d :=
  have hL : 2048 ≤ 2048 := by decide
  have ho : 1792 + 256 ≤ 2048 := by decide
  have hLo : 1792 + 256 ≤ 2048 := by decide
  Is.cast (block_acc hL ho (X := H.dS) (Y := fun t d => H.qn t d * (1 / 8)) (Is.trunc (h.dS' ho (h.P' ho mask_eq slices_S2048x64_o1792_0_S256x64 slices_S1x2048_o0_1792_S1x256 broadcasts_S1x256_S2048x256 broadcasts_S2048x1_S2048x256) slices_S2048x64_o1792_0_S256x64) _) (h.q.rows slices_S2048x64_o1792_0_S256x64 ho) ha) _

/-- The values' accumulator after block 7. -/
theorem accV1_7 (h : HIn H M qn kn vb ob kt ck cq l) {a : FVec Ideal S2048x64 .f32}
    (ha : Is a fun k d => accV H 1792 (k.castLE (by decide)) d) :
    Is (k0_pay220 l (k0_pay213 ob) (k0_pay214 qn kn ck cq) (iota Kind.tc S2048x256 32 [0] iota_S2048x256_d0_w32) (iota Kind.tc S2048x256 32 [1] iota_S2048x256_d1_w32) a : FVec Ideal S2048x64 .f32)
      fun k d => accV H 2048 (k.castLE (by decide)) d :=
  have hL : 2048 ≤ 2048 := by decide
  have ho : 1792 + 256 ≤ 2048 := by decide
  Is.cast (block_acc hL ho (X := H.P) (Y := H.o) (Is.trunc (h.P' ho mask_eq slices_S2048x64_o1792_0_S256x64 slices_S1x2048_o0_1792_S1x256 broadcasts_S1x256_S2048x256 broadcasts_S2048x1_S2048x256) _) (h.o.rows slices_S2048x64_o1792_0_S256x64 ho) ha) _

/-- The decay' accumulator after block 7. -/
theorem accC1_7 (h : HIn H M qn kn vb ob kt ck cq l) {a : FVec Ideal S2048x128 .f32}
    (ha : Is a fun k d => accC H 1792 (k.castLE (by decide)) d) :
    Is (k0_pay222 (k0_pay221 vb l (k0_pay213 ob) (k0_pay214 qn kn ck cq) (iota Kind.tc S2048x256 32 [0] iota_S2048x256_d0_w32) (iota Kind.tc S2048x256 32 [1] iota_S2048x256_d1_w32) a) : FVec Ideal S2048x128 .f32)
      fun k d => accC H 2048 (k.castLE (by decide)) d :=
  have hL : 2048 ≤ 2048 := by decide
  have ho : 1792 + 256 ≤ 2048 := by decide
  have hLo : 1792 + 256 ≤ 2048 := by decide
  Is.cast (block_lanes hL ho (n := 7) rfl (X := H.dS) (h.dS' ho (h.P' ho mask_eq slices_S2048x64_o1792_0_S256x64 slices_S1x2048_o0_1792_S1x256 broadcasts_S1x256_S2048x256 broadcasts_S2048x1_S2048x256) slices_S2048x64_o1792_0_S256x64) ha) _

end Cert.Fox
-- ==== Proof.RunA.lean ====
/- What the run of a pair of heads leaves, at the first pair: its words, one after the other. -/
module

public import proofs.«01_k».proof.Proof.Loads
public import proofs.«01_k».proof.Proof.Pay1
public import proofs.«01_k».proof.Proof.Gen.KernelIdeal.Frame

@[expose] public section

noncomputable section

namespace Cert.Fox.RunA

open Idealize.ShloMosaic Idealize.ShloMosaic.ValueIdx Cert.KernelIdeal Cert.KernelIdeal.Gen

variable {c : Dev nD} {i : grid0.Coords} {arg1 : Memref sig .tc .vmem S2048x128 .f32} {harg1 : arg1.IsWhole} {arg2 : Memref sig .tc .vmem S2048x128 .f32} {harg2 : arg2.IsWhole}
  {arg3 : Memref sig .tc .vmem S2048x128 .f32} {harg3 : arg3.IsWhole} {arg4 : Memref sig .tc .vmem S2048x128 .f32} {harg4 : arg4.IsWhole}
  {arg5 : Memref sig .tc .vmem S1x2x2048 .f32} {harg5 : arg5.IsWhole} {arg6 : Memref sig .tc .vmem S1x64 .f32} {harg6 : arg6.IsWhole}
  {arg7 : Memref sig .tc .vmem S1x64 .f32} {harg7 : arg7.IsWhole} {arg8 : Memref sig .tc .vmem S1x8x2048 .f32} {harg8 : arg8.IsWhole}
  {arg9 : Memref sig .tc .vmem S2048x128 .bf16} {harg9 : arg9.IsWhole} {arg10 : Memref sig .tc .vmem S3x2048x128 .bf16} {harg10 : arg10.IsWhole}
  {arg11 : Memref sig .tc .vmem S2048x128 .f32} {harg11 : arg11.IsWhole} {arg12 : Memref sig .tc .vmem S1x64 .f32} {harg12 : arg12.IsWhole}
  {arg13 : Memref sig .tc .vmem S1x64 .f32} {harg13 : arg13.IsWhole} {arg14 : Memref sig .tc .vmem S2048x64 .f32} {harg14 : arg14.IsWhole}
  {arg15 : Memref sig .tc .vmem S2048x64 .f32} {harg15 : arg15.IsWhole} {arg16 : Memref sig .tc .vmem S2048x128 .f32} {harg16 : arg16.IsWhole}
  {x0 x1 x2 x3 : Vec Ideal S2048x128 .f32} {x4 : Vec Ideal S1x2x2048 .f32} {x5 x6 : Vec Ideal S1x64 .f32} {x7 : Vec Ideal S1x8x2048 .f32} {x8 : Vec Ideal S2048x128 .bf16}
  {xo10 : Vec Ideal S2048x128 .f32} {xo11 xo12 : Vec Ideal S1x64 .f32}
  {H H' : Hd} {M M' : Fin 2048 → ℝ}

theorem hin0 (w : Win (i 0).val x0 x1 x2 x3 x4 x5 x6 x7 x8 H H' M M') : HIn H M (kernelRun0_A.sl.r_12 (F := Ideal) c arg1 harg1 arg6 harg6 x0 x5)
    (kernelRun0_A.sl.r_13 (F := Ideal) c arg2 harg2 arg7 harg7 x1 x6)
    (kernelRun0_A.sl.r_15 (F := Ideal) c arg3 harg3 x2)
    (kernelRun0_A.sl.r_16 (F := Ideal) c arg9 harg9 x8)
    (kernelRun0_A.sl.r_14 (F := Ideal) c arg2 harg2 arg7 harg7 x1 x6)
    (kernelRun0_A.sl.r_17 (F := Ideal) c i arg4 harg4 x3)
    (kernelRun0_A.sl.r_18 (F := Ideal) c arg5 harg5 x4)
    (kernelRun0_A.sl.r_19 (F := Ideal) c arg8 harg8 x7) :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  { q := Is.trunc (is_eighth (Y := H.qn) (is_nrm (is_xn hq (is_rs (is_ms hq (hφ := .inl rfl) (ha := rfl)))) (is_gain hgq))) _
    k := Is.trunc (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _
    v := Is.trunc (load_lo w.v) _
    o := load_lo16 w.o
    kt := Is.trunc (Is.transpose (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _) _
    ck := is_pick (hφ := .inl rfl) (ha := rfl) (word0 _) (by have := w.lt; omega) fun t => (congrFun load_at _).trans (w.c t)
    cq := is_line (load_line (by decide) w.r)
    l := is_line (load_line (by decide) w.l) }

include harg3 in
theorem accK0 (w : Win (i 0).val x0 x1 x2 x3 x4 x5 x6 x7 x8 H H' M M') : Is (View.canon (kernelRun0_A.sl.HS0_9 (F := Ideal) c i arg1 harg1 arg2 harg2 arg3 harg3 arg4 harg4 arg5 harg5 arg6 harg6 arg7 harg7 arg8 harg8 arg9 harg9 arg14 x0 x1 x2 x3 x4 x5 x6 x7 x8)) (accK H 2048) :=
  have h := hin0 (c := c) (harg1 := harg1) (harg2 := harg2) (harg3 := harg3) (harg4 := harg4) (harg5 := harg5) (harg6 := harg6) (harg7 := harg7) (harg8 := harg8) (harg9 := harg9) w
  acc_block (accK H) (grows_accK H) 1792 (by decide) rfl (acc_block (accK H) (grows_accK H) 1536 (by decide) rfl (acc_block (accK H) (grows_accK H) 1280 (by decide) rfl (acc_block (accK H) (grows_accK H) 1024 (by decide) rfl (acc_block (accK H) (grows_accK H) 768 (by decide) rfl (acc_block (accK H) (grows_accK H) 512 (by decide) rfl (acc_block (accK H) (grows_accK H) 256 (by decide) rfl (acc_block (accK H) (grows_accK H) 0 (by decide) rfl (store_all (is_zeroK H ofBits_zero (h := shapeCasts_S2048x64_S2048x64))) fun a => accK0_0 h a) fun a => accK0_1 h a) fun a => accK0_2 h a) fun a => accK0_3 h a) fun a => accK0_4 h a) fun a => accK0_5 h a) fun a => accK0_6 h a) fun a => accK0_7 h a

include harg3 in
theorem accV0 (w : Win (i 0).val x0 x1 x2 x3 x4 x5 x6 x7 x8 H H' M M') : Is (View.canon (kernelRun0_A.sl.HS1_9 (F := Ideal) c i arg1 harg1 arg2 harg2 arg4 harg4 arg5 harg5 arg6 harg6 arg7 harg7 arg8 harg8 arg9 harg9 arg15 x0 x1 x3 x4 x5 x6 x7 x8)) (accV H 2048) :=
  have h := hin0 (c := c) (harg1 := harg1) (harg2 := harg2) (harg3 := harg3) (harg4 := harg4) (harg5 := harg5) (harg6 := harg6) (harg7 := harg7) (harg8 := harg8) (harg9 := harg9) w
  acc_block (accV H) (grows_accV H) 1792 (by decide) rfl (acc_block (accV H) (grows_accV H) 1536 (by decide) rfl (acc_block (accV H) (grows_accV H) 1280 (by decide) rfl (acc_block (accV H) (grows_accV H) 1024 (by decide) rfl (acc_block (accV H) (grows_accV H) 768 (by decide) rfl (acc_block (accV H) (grows_accV H) 512 (by decide) rfl (acc_block (accV H) (grows_accV H) 256 (by decide) rfl (acc_block (accV H) (grows_accV H) 0 (by decide) rfl (store_all (is_zeroV H ofBits_zero (h := shapeCasts_S2048x64_S2048x64))) fun a => accV0_0 h a) fun a => accV0_1 h a) fun a => accV0_2 h a) fun a => accV0_3 h a) fun a => accV0_4 h a) fun a => accV0_5 h a) fun a => accV0_6 h a) fun a => accV0_7 h a

include harg3 in
theorem accC0 (w : Win (i 0).val x0 x1 x2 x3 x4 x5 x6 x7 x8 H H' M M') : Is (View.canon (kernelRun0_A.sl.HS2_9 (F := Ideal) c i arg1 harg1 arg2 harg2 arg3 harg3 arg4 harg4 arg5 harg5 arg6 harg6 arg7 harg7 arg8 harg8 arg9 harg9 arg16 x0 x1 x2 x3 x4 x5 x6 x7 x8)) (accC H 2048) :=
  have h := hin0 (c := c) (harg1 := harg1) (harg2 := harg2) (harg3 := harg3) (harg4 := harg4) (harg5 := harg5) (harg6 := harg6) (harg7 := harg7) (harg8 := harg8) (harg9 := harg9) w
  acc_block (accC H) (grows_accC H) 1792 (by decide) rfl (acc_block (accC H) (grows_accC H) 1536 (by decide) rfl (acc_block (accC H) (grows_accC H) 1280 (by decide) rfl (acc_block (accC H) (grows_accC H) 1024 (by decide) rfl (acc_block (accC H) (grows_accC H) 768 (by decide) rfl (acc_block (accC H) (grows_accC H) 512 (by decide) rfl (acc_block (accC H) (grows_accC H) 256 (by decide) rfl (acc_block (accC H) (grows_accC H) 0 (by decide) rfl (store_all (is_zeroC H ofBits_zero (h := shapeCasts_S2048x128_S2048x128))) fun a => accC0_0 h a) fun a => accC0_1 h a) fun a => accC0_2 h a) fun a => accC0_3 h a) fun a => accC0_4 h a) fun a => accC0_5 h a) fun a => accC0_6 h a) fun a => accC0_7 h a

theorem hin1 (w : Win (i 0).val x0 x1 x2 x3 x4 x5 x6 x7 x8 H H' M M') : HIn H' M' (kernelRun0_A.sl.r_71 (F := Ideal) c arg1 harg1 arg6 harg6 x0 x5)
    (kernelRun0_A.sl.r_72 (F := Ideal) c arg2 harg2 arg7 harg7 x1 x6)
    (kernelRun0_A.sl.r_74 (F := Ideal) c arg3 harg3 x2)
    (kernelRun0_A.sl.r_75 (F := Ideal) c arg9 harg9 x8)
    (kernelRun0_A.sl.r_73 (F := Ideal) c arg2 harg2 arg7 harg7 x1 x6)
    (kernelRun0_A.sl.r_76 (F := Ideal) c i arg4 harg4 x3)
    (kernelRun0_A.sl.r_77 (F := Ideal) c arg5 harg5 x4)
    (kernelRun0_A.sl.r_78 (F := Ideal) c arg8 harg8 x7) :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  { q := Is.trunc (is_eighth (Y := H'.qn) (is_nrm (is_xn hq (is_rs (is_ms hq (hφ := .inl rfl) (ha := rfl)))) (is_gain hgq))) _
    k := Is.trunc (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _
    v := Is.trunc (load_hi w.v) _
    o := load_hi16 w.o
    kt := Is.trunc (Is.transpose (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _) _
    ck := is_pick (hφ := .inl rfl) (ha := rfl) (word1 _) (by have := w.lt; omega) fun t => (congrFun load_at _).trans (w.c' t)
    cq := is_line (load_line (by decide) w.r')
    l := is_line (load_line (by decide) w.l') }

include harg3 in
theorem accK1 (w : Win (i 0).val x0 x1 x2 x3 x4 x5 x6 x7 x8 H H' M M') : Is (View.canon (kernelRun0_A.sl.HS0_18 (F := Ideal) c i arg1 harg1 arg2 harg2 arg3 harg3 arg4 harg4 arg5 harg5 arg6 harg6 arg7 harg7 arg8 harg8 arg9 harg9 arg14 x0 x1 x2 x3 x4 x5 x6 x7 x8)) (accK H' 2048) :=
  have h := hin1 (c := c) (harg1 := harg1) (harg2 := harg2) (harg3 := harg3) (harg4 := harg4) (harg5 := harg5) (harg6 := harg6) (harg7 := harg7) (harg8 := harg8) (harg9 := harg9) w
  acc_block (accK H') (grows_accK H') 1792 (by decide) rfl (acc_block (accK H') (grows_accK H') 1536 (by decide) rfl (acc_block (accK H') (grows_accK H') 1280 (by decide) rfl (acc_block (accK H') (grows_accK H') 1024 (by decide) rfl (acc_block (accK H') (grows_accK H') 768 (by decide) rfl (acc_block (accK H') (grows_accK H') 512 (by decide) rfl (acc_block (accK H') (grows_accK H') 256 (by decide) rfl (acc_block (accK H') (grows_accK H') 0 (by decide) rfl (store_all (is_zeroK H' ofBits_zero (h := shapeCasts_S2048x64_S2048x64))) fun a => accK1_0 h a) fun a => accK1_1 h a) fun a => accK1_2 h a) fun a => accK1_3 h a) fun a => accK1_4 h a) fun a => accK1_5 h a) fun a => accK1_6 h a) fun a => accK1_7 h a

include harg3 in
theorem accV1 (w : Win (i 0).val x0 x1 x2 x3 x4 x5 x6 x7 x8 H H' M M') : Is (View.canon (kernelRun0_A.sl.HS1_18 (F := Ideal) c i arg1 harg1 arg2 harg2 arg4 harg4 arg5 harg5 arg6 harg6 arg7 harg7 arg8 harg8 arg9 harg9 arg15 x0 x1 x3 x4 x5 x6 x7 x8)) (accV H' 2048) :=
  have h := hin1 (c := c) (harg1 := harg1) (harg2 := harg2) (harg3 := harg3) (harg4 := harg4) (harg5 := harg5) (harg6 := harg6) (harg7 := harg7) (harg8 := harg8) (harg9 := harg9) w
  acc_block (accV H') (grows_accV H') 1792 (by decide) rfl (acc_block (accV H') (grows_accV H') 1536 (by decide) rfl (acc_block (accV H') (grows_accV H') 1280 (by decide) rfl (acc_block (accV H') (grows_accV H') 1024 (by decide) rfl (acc_block (accV H') (grows_accV H') 768 (by decide) rfl (acc_block (accV H') (grows_accV H') 512 (by decide) rfl (acc_block (accV H') (grows_accV H') 256 (by decide) rfl (acc_block (accV H') (grows_accV H') 0 (by decide) rfl (store_all (is_zeroV H' ofBits_zero (h := shapeCasts_S2048x64_S2048x64))) fun a => accV1_0 h a) fun a => accV1_1 h a) fun a => accV1_2 h a) fun a => accV1_3 h a) fun a => accV1_4 h a) fun a => accV1_5 h a) fun a => accV1_6 h a) fun a => accV1_7 h a

include harg3 in
theorem accC1 (w : Win (i 0).val x0 x1 x2 x3 x4 x5 x6 x7 x8 H H' M M') : Is (View.canon (kernelRun0_A.sl.HS2_18 (F := Ideal) c i arg1 harg1 arg2 harg2 arg3 harg3 arg4 harg4 arg5 harg5 arg6 harg6 arg7 harg7 arg8 harg8 arg9 harg9 arg16 x0 x1 x2 x3 x4 x5 x6 x7 x8)) (accC H' 2048) :=
  have h := hin1 (c := c) (harg1 := harg1) (harg2 := harg2) (harg3 := harg3) (harg4 := harg4) (harg5 := harg5) (harg6 := harg6) (harg7 := harg7) (harg8 := harg8) (harg9 := harg9) w
  acc_block (accC H') (grows_accC H') 1792 (by decide) rfl (acc_block (accC H') (grows_accC H') 1536 (by decide) rfl (acc_block (accC H') (grows_accC H') 1280 (by decide) rfl (acc_block (accC H') (grows_accC H') 1024 (by decide) rfl (acc_block (accC H') (grows_accC H') 768 (by decide) rfl (acc_block (accC H') (grows_accC H') 512 (by decide) rfl (acc_block (accC H') (grows_accC H') 256 (by decide) rfl (acc_block (accC H') (grows_accC H') 0 (by decide) rfl (store_all (is_zeroC H' ofBits_zero (h := shapeCasts_S2048x128_S2048x128))) fun a => accC1_0 h a) fun a => accC1_1 h a) fun a => accC1_2 h a) fun a => accC1_3 h a) fun a => accC1_4 h a) fun a => accC1_5 h a) fun a => accC1_6 h a) fun a => accC1_7 h a

include harg3 in
theorem ct0 (w : Win (i 0).val x0 x1 x2 x3 x4 x5 x6 x7 x8 H H' M M') : Is (k0_pay107 (F := Ideal) (kernelRun0_A.sl.r_21 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_28 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_32 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_37 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_42 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_48 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_52 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_55 (F := Ideal) c i arg1 harg1 arg2 harg2 arg3 harg3 arg4 harg4 arg5 harg5 arg6 harg6 arg7 harg7 arg8 harg8 arg9 harg9 x0 x1 x2 x3 x4 x5 x6 x7 x8)) H.dNq :=
  have h := hin0 (c := c) (harg1 := harg1) (harg2 := harg2) (harg3 := harg3) (harg4 := harg4) (harg5 := harg5) (harg6 := harg6) (harg7 := harg7) (harg8 := harg8) (harg9 := harg9) w
  is_eighth (Y := fun t d => ∑ k, H.dS t k * H.kn k d) (is_cat8 (dq0_0 h) (dq0_1 h) (dq0_2 h) (dq0_3 h) (dq0_4 h) (dq0_5 h) (dq0_6 h) (dq0_7 h) (h := concatenates_S256x64_S256x64_S256x64_S256x64_S256x64_S256x64_S256x64_S256x64_S2048x64_d0))

include harg3 in
theorem dq0 (w : Win (i 0).val x0 x1 x2 x3 x4 x5 x6 x7 x8 H H' M M') : Is (kernelRun0_A.sl.r_58 (F := Ideal) c i arg1 harg1 arg2 harg2 arg3 harg3 arg4 harg4 arg5 harg5 arg6 harg6 arg7 harg7 arg8 harg8 arg9 harg9 x0 x1 x2 x3 x4 x5 x6 x7 x8) H.dQ :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hq
  is_vjpX (hφ := .inl rfl) (ha := rfl) (hφ' := .inl rfl) (ha' := rfl) hq hgq (is_rs hm) (is_sl (is_rs hm) hm) (ct0 (harg3 := harg3) w)

include harg3 in
theorem dgq0 (w : Win (i 0).val x0 x1 x2 x3 x4 x5 x6 x7 x8 H H' M M') : Is (kernelRun0_A.sl.r_57 (F := Ideal) c i arg1 harg1 arg2 harg2 arg3 harg3 arg4 harg4 arg5 harg5 arg6 harg6 arg7 harg7 arg8 harg8 arg9 harg9 x0 x1 x2 x3 x4 x5 x6 x7 x8) fun _ d => H.dGq d :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hq
  is_vjpG (hφ := .inl rfl) (ha := rfl) (is_xn hq (is_rs hm)) (ct0 (harg3 := harg3) w)

include harg3 in
theorem ck0 (w : Win (i 0).val x0 x1 x2 x3 x4 x5 x6 x7 x8 H H' M M') : Is (kernelRun0_A.sl.v524 (F := Ideal) c i arg1 harg1 arg2 harg2 arg3 harg3 arg4 harg4 arg5 harg5 arg6 harg6 arg7 harg7 arg8 harg8 arg9 harg9 arg14 x0 x1 x2 x3 x4 x5 x6 x7 x8) H.dNk :=
  Is.congr (load_all (accK0 (harg3 := harg3) w)) fun k d => accK_all H k d

include harg3 in
theorem dk0 (w : Win (i 0).val x0 x1 x2 x3 x4 x5 x6 x7 x8 H H' M M') : Is (kernelRun0_A.sl.r_62 (F := Ideal) c i arg1 harg1 arg2 harg2 arg3 harg3 arg4 harg4 arg5 harg5 arg6 harg6 arg7 harg7 arg8 harg8 arg9 harg9 arg14 x0 x1 x2 x3 x4 x5 x6 x7 x8) H.dK :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hk
  is_vjpX (hφ := .inl rfl) (ha := rfl) (hφ' := .inl rfl) (ha' := rfl) hk hgk (is_rs hm) (is_sl (is_rs hm) hm) (ck0 w)

include harg3 in
theorem dgk0 (w : Win (i 0).val x0 x1 x2 x3 x4 x5 x6 x7 x8 H H' M M') : Is (kernelRun0_A.sl.r_59 (F := Ideal) c i arg1 harg1 arg2 harg2 arg3 harg3 arg4 harg4 arg5 harg5 arg6 harg6 arg7 harg7 arg8 harg8 arg9 harg9 arg14 x0 x1 x2 x3 x4 x5 x6 x7 x8) fun _ d => H.dGk d :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hk
  is_vjpG (hφ := .inl rfl) (ha := rfl) (is_xn hk (is_rs hm)) (ck0 w)

include harg3 in
theorem dv0 (w : Win (i 0).val x0 x1 x2 x3 x4 x5 x6 x7 x8 H H' M M') : Is (kernelRun0_A.sl.v553 (F := Ideal) c i arg1 harg1 arg2 harg2 arg4 harg4 arg5 harg5 arg6 harg6 arg7 harg7 arg8 harg8 arg9 harg9 arg15 x0 x1 x3 x4 x5 x6 x7 x8) H.dV :=
  Is.congr (load_all (accV0 (harg3 := harg3) w)) fun k d => accV_all H k d

include harg3 in
theorem dc0 (w : Win (i 0).val x0 x1 x2 x3 x4 x5 x6 x7 x8 H H' M M') : Is (kernelRun0_A.sl.v558 (F := Ideal) c i arg1 harg1 arg2 harg2 arg3 harg3 arg4 harg4 arg5 harg5 arg6 harg6 arg7 harg7 arg8 harg8 arg9 harg9 arg16 x0 x1 x2 x3 x4 x5 x6 x7 x8) (accC H 2048) :=
  load_all (accC0 (harg3 := harg3) w)

include harg3 in
theorem ct1 (w : Win (i 0).val x0 x1 x2 x3 x4 x5 x6 x7 x8 H H' M M') : Is (k0_pay223 (F := Ideal) (kernelRun0_A.sl.r_83 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_88 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_95 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_99 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_103 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_108 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_115 (F := Ideal) c i arg1 harg1 arg2 harg2 arg3 harg3 arg4 harg4 arg5 harg5 arg6 harg6 arg7 harg7 arg8 harg8 arg9 harg9 x0 x1 x2 x3 x4 x5 x6 x7 x8)
    (kernelRun0_A.sl.r_119 (F := Ideal) c i arg1 harg1 arg2 harg2 arg3 harg3 arg4 harg4 arg5 harg5 arg6 harg6 arg7 harg7 arg8 harg8 arg9 harg9 x0 x1 x2 x3 x4 x5 x6 x7 x8)) H'.dNq :=
  have h := hin1 (c := c) (harg1 := harg1) (harg2 := harg2) (harg3 := harg3) (harg4 := harg4) (harg5 := harg5) (harg6 := harg6) (harg7 := harg7) (harg8 := harg8) (harg9 := harg9) w
  is_eighth (Y := fun t d => ∑ k, H'.dS t k * H'.kn k d) (is_cat8 (dq1_0 h) (dq1_1 h) (dq1_2 h) (dq1_3 h) (dq1_4 h) (dq1_5 h) (dq1_6 h) (dq1_7 h) (h := concatenates_S256x64_S256x64_S256x64_S256x64_S256x64_S256x64_S256x64_S256x64_S2048x64_d0))

include harg3 in
theorem dq1 (w : Win (i 0).val x0 x1 x2 x3 x4 x5 x6 x7 x8 H H' M M') : Is (kernelRun0_A.sl.r_122 (F := Ideal) c i arg1 harg1 arg2 harg2 arg3 harg3 arg4 harg4 arg5 harg5 arg6 harg6 arg7 harg7 arg8 harg8 arg9 harg9 x0 x1 x2 x3 x4 x5 x6 x7 x8) H'.dQ :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hq
  is_vjpX (hφ := .inl rfl) (ha := rfl) (hφ' := .inl rfl) (ha' := rfl) hq hgq (is_rs hm) (is_sl (is_rs hm) hm) (ct1 (harg3 := harg3) w)

include harg3 in
theorem dgq1 (w : Win (i 0).val x0 x1 x2 x3 x4 x5 x6 x7 x8 H H' M M') : Is (kernelRun0_A.sl.r_121 (F := Ideal) c i arg1 harg1 arg2 harg2 arg3 harg3 arg4 harg4 arg5 harg5 arg6 harg6 arg7 harg7 arg8 harg8 arg9 harg9 x0 x1 x2 x3 x4 x5 x6 x7 x8) fun _ d => H'.dGq d :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hq
  is_vjpG (hφ := .inl rfl) (ha := rfl) (is_xn hq (is_rs hm)) (ct1 (harg3 := harg3) w)

include harg3 in
theorem ck1 (w : Win (i 0).val x0 x1 x2 x3 x4 x5 x6 x7 x8 H H' M M') : Is (kernelRun0_A.sl.v1089 (F := Ideal) c i arg1 harg1 arg2 harg2 arg3 harg3 arg4 harg4 arg5 harg5 arg6 harg6 arg7 harg7 arg8 harg8 arg9 harg9 arg14 x0 x1 x2 x3 x4 x5 x6 x7 x8) H'.dNk :=
  Is.congr (load_all (accK1 (harg3 := harg3) w)) fun k d => accK_all H' k d

include harg3 in
theorem dk1 (w : Win (i 0).val x0 x1 x2 x3 x4 x5 x6 x7 x8 H H' M M') : Is (kernelRun0_A.sl.r_124 (F := Ideal) c i arg1 harg1 arg2 harg2 arg3 harg3 arg4 harg4 arg5 harg5 arg6 harg6 arg7 harg7 arg8 harg8 arg9 harg9 arg14 x0 x1 x2 x3 x4 x5 x6 x7 x8) H'.dK :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hk
  is_vjpX (hφ := .inl rfl) (ha := rfl) (hφ' := .inl rfl) (ha' := rfl) hk hgk (is_rs hm) (is_sl (is_rs hm) hm) (ck1 w)

include harg3 in
theorem dgk1 (w : Win (i 0).val x0 x1 x2 x3 x4 x5 x6 x7 x8 H H' M M') : Is (kernelRun0_A.sl.r_123 (F := Ideal) c i arg1 harg1 arg2 harg2 arg3 harg3 arg4 harg4 arg5 harg5 arg6 harg6 arg7 harg7 arg8 harg8 arg9 harg9 arg14 x0 x1 x2 x3 x4 x5 x6 x7 x8) fun _ d => H'.dGk d :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hk
  is_vjpG (hφ := .inl rfl) (ha := rfl) (is_xn hk (is_rs hm)) (ck1 w)

include harg3 in
theorem dv1 (w : Win (i 0).val x0 x1 x2 x3 x4 x5 x6 x7 x8 H H' M M') : Is (kernelRun0_A.sl.v1118 (F := Ideal) c i arg1 harg1 arg2 harg2 arg4 harg4 arg5 harg5 arg6 harg6 arg7 harg7 arg8 harg8 arg9 harg9 arg15 x0 x1 x3 x4 x5 x6 x7 x8) H'.dV :=
  Is.congr (load_all (accV1 (harg3 := harg3) w)) fun k d => accV_all H' k d

include harg3 in
theorem dc1 (w : Win (i 0).val x0 x1 x2 x3 x4 x5 x6 x7 x8 H H' M M') : Is (kernelRun0_A.sl.v1123 (F := Ideal) c i arg1 harg1 arg2 harg2 arg3 harg3 arg4 harg4 arg5 harg5 arg6 harg6 arg7 harg7 arg8 harg8 arg9 harg9 arg16 x0 x1 x2 x3 x4 x5 x6 x7 x8) (accC H' 2048) :=
  load_all (accC1 (harg3 := harg3) w)

/-- The gradients of queries, keys and values. -/
theorem out9 {hc0 : cond0_0 i} (w : Win (i 0).val x0 x1 x2 x3 x4 x5 x6 x7 x8 H H' M M') (s : Fin 3) (t : Fin 2048) (j : Fin 128) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 s t j)
      = (((![two H.dQ H'.dQ, two H.dK H'.dK, two H.dV H'.dV] : Fin 3 → Fin 2048 → Fin 128 → ℝ) s t j : ℝ) : EReal) := by
  rw [out0_A_9, View.read_writes_junk_eq_canon]
  exact slabs (Is.slab (Is.trunc (is_cat2 (dv0 (harg1 := harg1) (harg2 := harg2) (harg3 := harg3) (harg4 := harg4) (harg5 := harg5) (harg6 := harg6) (harg7 := harg7) (harg8 := harg8) (harg9 := harg9) w) (dv1 (harg1 := harg1) (harg2 := harg2) (harg3 := harg3) (harg4 := harg4) (harg5 := harg5) (harg6 := harg6) (harg7 := harg7) (harg8 := harg8) (harg9 := harg9) w)) _)) (Is.slab (Is.trunc (is_cat2 (dk0 (harg1 := harg1) (harg2 := harg2) (harg3 := harg3) (harg4 := harg4) (harg5 := harg5) (harg6 := harg6) (harg7 := harg7) (harg8 := harg8) (harg9 := harg9) w) (dk1 (harg1 := harg1) (harg2 := harg2) (harg3 := harg3) (harg4 := harg4) (harg5 := harg5) (harg6 := harg6) (harg7 := harg7) (harg8 := harg8) (harg9 := harg9) w)) _))
    (Is.slab (Is.trunc (is_cat2 (dq0 (harg1 := harg1) (harg2 := harg2) (harg3 := harg3) (harg4 := harg4) (harg5 := harg5) (harg6 := harg6) (harg7 := harg7) (harg8 := harg8) (harg9 := harg9) w) (dq1 (harg1 := harg1) (harg2 := harg2) (harg3 := harg3) (harg4 := harg4) (harg5 := harg5) (harg6 := harg6) (harg7 := harg7) (harg8 := harg8) (harg9 := harg9) w)) _)) s t j

/-- The pair's two columns. -/
theorem out10 {hc0 : cond0_0 i} (w : Win (i 0).val x0 x1 x2 x3 x4 x5 x6 x7 x8 H H' M M') (t : Fin 2048) (j : Fin 128) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 t j)
      = if j.val = 2 * (i 0).val + 1 then ((H'.dC t : ℝ) : EReal) else if j.val = 2 * (i 0).val + 0 then ((H.dC t : ℝ) : EReal) else (((0 : ℝ)) : EReal) := by
  have hn := w.lt
  rw [out0_A_10, View.read_writes_junk_eq_canon]
  refine (congrFun stored (ix2 t j)).trans ((put_apply (word1 (i 0).val) (by omega) (dc1 (harg1 := harg1) (harg2 := harg2) (harg3 := harg3) (harg4 := harg4) (harg5 := harg5) (harg6 := harg6) (harg7 := harg7) (harg8 := harg8) (harg9 := harg9) w) t j).trans ?_)
  rw [accC_all]
  refine if_congr Iff.rfl rfl ?_
  refine (congrFun (reload.trans stored) (ix2 t j)).trans ((put_apply (word0 (i 0).val) (by omega) (dc0 (harg1 := harg1) (harg2 := harg2) (harg3 := harg3) (harg4 := harg4) (harg5 := harg5) (harg6 := harg6) (harg7 := harg7) (harg8 := harg8) (harg9 := harg9) w) t j).trans ?_)
  rw [accC_all]
  refine if_congr Iff.rfl rfl ?_
  exact (congrFun ((reload (v := arg11.view) (Ls := (kernelRun0_A.sl.H10_1 (F := Ideal)))).trans stored) (ix2 t j)).trans ofBits_zero

/-- The gain's gradient, the pair's two heads added. -/
theorem out11 {hc0 : cond0_0 i} (w : Win (i 0).val x0 x1 x2 x3 x4 x5 x6 x7 x8 H H' M M')  :
    Is (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) fun _ d => 0 + H.dGq d + H'.dGq d := by
  rw [out0_A_11, View.read_writes_junk_eq_canon]
  exact store_all (Is.add (Is.cast (load_all (store_all (Is.add (Is.cast (load_all (store_all (Is.lit ofBits_zero))) shapeCasts_S1x64_S1x64) (dgq0 (harg1 := harg1) (harg2 := harg2) (harg3 := harg3) (harg4 := harg4) (harg5 := harg5) (harg6 := harg6) (harg7 := harg7) (harg8 := harg8) (harg9 := harg9) w)))) shapeCasts_S1x64_S1x64) (dgq1 (harg1 := harg1) (harg2 := harg2) (harg3 := harg3) (harg4 := harg4) (harg5 := harg5) (harg6 := harg6) (harg7 := harg7) (harg8 := harg8) (harg9 := harg9) w))

/-- The gain's gradient, the pair's two heads added. -/
theorem out12 {hc0 : cond0_0 i} (w : Win (i 0).val x0 x1 x2 x3 x4 x5 x6 x7 x8 H H' M M')  :
    Is (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) fun _ d => 0 + H.dGk d + H'.dGk d := by
  rw [out0_A_12, View.read_writes_junk_eq_canon]
  exact store_all (Is.add (Is.cast (load_all (store_all (Is.add (Is.cast (load_all (store_all (Is.lit ofBits_zero))) shapeCasts_S1x64_S1x64) (dgk0 (harg1 := harg1) (harg2 := harg2) (harg3 := harg3) (harg4 := harg4) (harg5 := harg5) (harg6 := harg6) (harg7 := harg7) (harg8 := harg8) (harg9 := harg9) w)))) shapeCasts_S1x64_S1x64) (dgk1 (harg1 := harg1) (harg2 := harg2) (harg3 := harg3) (harg4 := harg4) (harg5 := harg5) (harg6 := harg6) (harg7 := harg7) (harg8 := harg8) (harg9 := harg9) w))

end Cert.Fox.RunA
-- ==== Proof.RunB.lean ====
/- What the run of a pair of heads leaves, at a later pair: its words, one after the other. -/
module

public import proofs.«01_k».proof.Proof.Loads
public import proofs.«01_k».proof.Proof.Pay1
public import proofs.«01_k».proof.Proof.Gen.KernelIdeal.Frame

@[expose] public section

noncomputable section

namespace Cert.Fox.RunB

open Idealize.ShloMosaic Idealize.ShloMosaic.ValueIdx Cert.KernelIdeal Cert.KernelIdeal.Gen

variable {c : Dev nD} {i : grid0.Coords} {arg1 : Memref sig .tc .vmem S2048x128 .f32} {harg1 : arg1.IsWhole} {arg2 : Memref sig .tc .vmem S2048x128 .f32} {harg2 : arg2.IsWhole}
  {arg3 : Memref sig .tc .vmem S2048x128 .f32} {harg3 : arg3.IsWhole} {arg4 : Memref sig .tc .vmem S2048x128 .f32} {harg4 : arg4.IsWhole}
  {arg5 : Memref sig .tc .vmem S1x2x2048 .f32} {harg5 : arg5.IsWhole} {arg6 : Memref sig .tc .vmem S1x64 .f32} {harg6 : arg6.IsWhole}
  {arg7 : Memref sig .tc .vmem S1x64 .f32} {harg7 : arg7.IsWhole} {arg8 : Memref sig .tc .vmem S1x8x2048 .f32} {harg8 : arg8.IsWhole}
  {arg9 : Memref sig .tc .vmem S2048x128 .bf16} {harg9 : arg9.IsWhole} {arg10 : Memref sig .tc .vmem S3x2048x128 .bf16} {harg10 : arg10.IsWhole}
  {arg11 : Memref sig .tc .vmem S2048x128 .f32} {harg11 : arg11.IsWhole} {arg12 : Memref sig .tc .vmem S1x64 .f32} {harg12 : arg12.IsWhole}
  {arg13 : Memref sig .tc .vmem S1x64 .f32} {harg13 : arg13.IsWhole} {arg14 : Memref sig .tc .vmem S2048x64 .f32} {harg14 : arg14.IsWhole}
  {arg15 : Memref sig .tc .vmem S2048x64 .f32} {harg15 : arg15.IsWhole} {arg16 : Memref sig .tc .vmem S2048x128 .f32} {harg16 : arg16.IsWhole}
  {x0 x1 x2 x3 : Vec Ideal S2048x128 .f32} {x4 : Vec Ideal S1x2x2048 .f32} {x5 x6 : Vec Ideal S1x64 .f32} {x7 : Vec Ideal S1x8x2048 .f32} {x8 : Vec Ideal S2048x128 .bf16}
  {xo10 : Vec Ideal S2048x128 .f32} {xo11 xo12 : Vec Ideal S1x64 .f32}
  {H H' : Hd} {M M' : Fin 2048 → ℝ}

theorem hin0 (w : Win (i 0).val x0 x1 x2 x3 x4 x5 x6 x7 x8 H H' M M') : HIn H M (kernelRun0_B.sl.r_12 (F := Ideal) c arg1 harg1 arg6 harg6 x0 x5)
    (kernelRun0_B.sl.r_13 (F := Ideal) c arg2 harg2 arg7 harg7 x1 x6)
    (kernelRun0_B.sl.r_15 (F := Ideal) c arg3 harg3 x2)
    (kernelRun0_B.sl.r_16 (F := Ideal) c arg9 harg9 x8)
    (kernelRun0_B.sl.r_14 (F := Ideal) c arg2 harg2 arg7 harg7 x1 x6)
    (kernelRun0_B.sl.r_17 (F := Ideal) c i arg4 harg4 x3)
    (kernelRun0_B.sl.r_18 (F := Ideal) c arg5 harg5 x4)
    (kernelRun0_B.sl.r_19 (F := Ideal) c arg8 harg8 x7) :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  { q := Is.trunc (is_eighth (Y := H.qn) (is_nrm (is_xn hq (is_rs (is_ms hq (hφ := .inl rfl) (ha := rfl)))) (is_gain hgq))) _
    k := Is.trunc (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _
    v := Is.trunc (load_lo w.v) _
    o := load_lo16 w.o
    kt := Is.trunc (Is.transpose (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _) _
    ck := is_pick (hφ := .inl rfl) (ha := rfl) (word0 _) (by have := w.lt; omega) fun t => (congrFun load_at _).trans (w.c t)
    cq := is_line (load_line (by decide) w.r)
    l := is_line (load_line (by decide) w.l) }

include harg3 in
theorem accK0 (w : Win (i 0).val x0 x1 x2 x3 x4 x5 x6 x7 x8 H H' M M') : Is (View.canon (kernelRun0_B.sl.HS0_9 (F := Ideal) c i arg1 harg1 arg2 harg2 arg3 harg3 arg4 harg4 arg5 harg5 arg6 harg6 arg7 harg7 arg8 harg8 arg9 harg9 arg14 x0 x1 x2 x3 x4 x5 x6 x7 x8)) (accK H 2048) :=
  have h := hin0 (c := c) (harg1 := harg1) (harg2 := harg2) (harg3 := harg3) (harg4 := harg4) (harg5 := harg5) (harg6 := harg6) (harg7 := harg7) (harg8 := harg8) (harg9 := harg9) w
  acc_block (accK H) (grows_accK H) 1792 (by decide) rfl (acc_block (accK H) (grows_accK H) 1536 (by decide) rfl (acc_block (accK H) (grows_accK H) 1280 (by decide) rfl (acc_block (accK H) (grows_accK H) 1024 (by decide) rfl (acc_block (accK H) (grows_accK H) 768 (by decide) rfl (acc_block (accK H) (grows_accK H) 512 (by decide) rfl (acc_block (accK H) (grows_accK H) 256 (by decide) rfl (acc_block (accK H) (grows_accK H) 0 (by decide) rfl (store_all (is_zeroK H ofBits_zero (h := shapeCasts_S2048x64_S2048x64))) fun a => accK0_0 h a) fun a => accK0_1 h a) fun a => accK0_2 h a) fun a => accK0_3 h a) fun a => accK0_4 h a) fun a => accK0_5 h a) fun a => accK0_6 h a) fun a => accK0_7 h a

include harg3 in
theorem accV0 (w : Win (i 0).val x0 x1 x2 x3 x4 x5 x6 x7 x8 H H' M M') : Is (View.canon (kernelRun0_B.sl.HS1_9 (F := Ideal) c i arg1 harg1 arg2 harg2 arg4 harg4 arg5 harg5 arg6 harg6 arg7 harg7 arg8 harg8 arg9 harg9 arg15 x0 x1 x3 x4 x5 x6 x7 x8)) (accV H 2048) :=
  have h := hin0 (c := c) (harg1 := harg1) (harg2 := harg2) (harg3 := harg3) (harg4 := harg4) (harg5 := harg5) (harg6 := harg6) (harg7 := harg7) (harg8 := harg8) (harg9 := harg9) w
  acc_block (accV H) (grows_accV H) 1792 (by decide) rfl (acc_block (accV H) (grows_accV H) 1536 (by decide) rfl (acc_block (accV H) (grows_accV H) 1280 (by decide) rfl (acc_block (accV H) (grows_accV H) 1024 (by decide) rfl (acc_block (accV H) (grows_accV H) 768 (by decide) rfl (acc_block (accV H) (grows_accV H) 512 (by decide) rfl (acc_block (accV H) (grows_accV H) 256 (by decide) rfl (acc_block (accV H) (grows_accV H) 0 (by decide) rfl (store_all (is_zeroV H ofBits_zero (h := shapeCasts_S2048x64_S2048x64))) fun a => accV0_0 h a) fun a => accV0_1 h a) fun a => accV0_2 h a) fun a => accV0_3 h a) fun a => accV0_4 h a) fun a => accV0_5 h a) fun a => accV0_6 h a) fun a => accV0_7 h a

include harg3 in
theorem accC0 (w : Win (i 0).val x0 x1 x2 x3 x4 x5 x6 x7 x8 H H' M M') : Is (View.canon (kernelRun0_B.sl.HS2_9 (F := Ideal) c i arg1 harg1 arg2 harg2 arg3 harg3 arg4 harg4 arg5 harg5 arg6 harg6 arg7 harg7 arg8 harg8 arg9 harg9 arg16 x0 x1 x2 x3 x4 x5 x6 x7 x8)) (accC H 2048) :=
  have h := hin0 (c := c) (harg1 := harg1) (harg2 := harg2) (harg3 := harg3) (harg4 := harg4) (harg5 := harg5) (harg6 := harg6) (harg7 := harg7) (harg8 := harg8) (harg9 := harg9) w
  acc_block (accC H) (grows_accC H) 1792 (by decide) rfl (acc_block (accC H) (grows_accC H) 1536 (by decide) rfl (acc_block (accC H) (grows_accC H) 1280 (by decide) rfl (acc_block (accC H) (grows_accC H) 1024 (by decide) rfl (acc_block (accC H) (grows_accC H) 768 (by decide) rfl (acc_block (accC H) (grows_accC H) 512 (by decide) rfl (acc_block (accC H) (grows_accC H) 256 (by decide) rfl (acc_block (accC H) (grows_accC H) 0 (by decide) rfl (store_all (is_zeroC H ofBits_zero (h := shapeCasts_S2048x128_S2048x128))) fun a => accC0_0 h a) fun a => accC0_1 h a) fun a => accC0_2 h a) fun a => accC0_3 h a) fun a => accC0_4 h a) fun a => accC0_5 h a) fun a => accC0_6 h a) fun a => accC0_7 h a

theorem hin1 (w : Win (i 0).val x0 x1 x2 x3 x4 x5 x6 x7 x8 H H' M M') : HIn H' M' (kernelRun0_B.sl.r_71 (F := Ideal) c arg1 harg1 arg6 harg6 x0 x5)
    (kernelRun0_B.sl.r_72 (F := Ideal) c arg2 harg2 arg7 harg7 x1 x6)
    (kernelRun0_B.sl.r_74 (F := Ideal) c arg3 harg3 x2)
    (kernelRun0_B.sl.r_75 (F := Ideal) c arg9 harg9 x8)
    (kernelRun0_B.sl.r_73 (F := Ideal) c arg2 harg2 arg7 harg7 x1 x6)
    (kernelRun0_B.sl.r_76 (F := Ideal) c i arg4 harg4 x3)
    (kernelRun0_B.sl.r_77 (F := Ideal) c arg5 harg5 x4)
    (kernelRun0_B.sl.r_78 (F := Ideal) c arg8 harg8 x7) :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  { q := Is.trunc (is_eighth (Y := H'.qn) (is_nrm (is_xn hq (is_rs (is_ms hq (hφ := .inl rfl) (ha := rfl)))) (is_gain hgq))) _
    k := Is.trunc (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _
    v := Is.trunc (load_hi w.v) _
    o := load_hi16 w.o
    kt := Is.trunc (Is.transpose (is_nrm (is_xn (hb := broadcasts_S2048x1_S2048x64) hk (is_rs (is_ms hk (hred := reduces_S2048x64_S2048) (hc := shapeCasts_S2048_S2048x1) (hφ := .inl rfl) (ha := rfl)))) (is_gain hgk (hbr := broadcasts_S1x64_S2048x64))) _) _
    ck := is_pick (hφ := .inl rfl) (ha := rfl) (word1 _) (by have := w.lt; omega) fun t => (congrFun load_at _).trans (w.c' t)
    cq := is_line (load_line (by decide) w.r')
    l := is_line (load_line (by decide) w.l') }

include harg3 in
theorem accK1 (w : Win (i 0).val x0 x1 x2 x3 x4 x5 x6 x7 x8 H H' M M') : Is (View.canon (kernelRun0_B.sl.HS0_18 (F := Ideal) c i arg1 harg1 arg2 harg2 arg3 harg3 arg4 harg4 arg5 harg5 arg6 harg6 arg7 harg7 arg8 harg8 arg9 harg9 arg14 x0 x1 x2 x3 x4 x5 x6 x7 x8)) (accK H' 2048) :=
  have h := hin1 (c := c) (harg1 := harg1) (harg2 := harg2) (harg3 := harg3) (harg4 := harg4) (harg5 := harg5) (harg6 := harg6) (harg7 := harg7) (harg8 := harg8) (harg9 := harg9) w
  acc_block (accK H') (grows_accK H') 1792 (by decide) rfl (acc_block (accK H') (grows_accK H') 1536 (by decide) rfl (acc_block (accK H') (grows_accK H') 1280 (by decide) rfl (acc_block (accK H') (grows_accK H') 1024 (by decide) rfl (acc_block (accK H') (grows_accK H') 768 (by decide) rfl (acc_block (accK H') (grows_accK H') 512 (by decide) rfl (acc_block (accK H') (grows_accK H') 256 (by decide) rfl (acc_block (accK H') (grows_accK H') 0 (by decide) rfl (store_all (is_zeroK H' ofBits_zero (h := shapeCasts_S2048x64_S2048x64))) fun a => accK1_0 h a) fun a => accK1_1 h a) fun a => accK1_2 h a) fun a => accK1_3 h a) fun a => accK1_4 h a) fun a => accK1_5 h a) fun a => accK1_6 h a) fun a => accK1_7 h a

include harg3 in
theorem accV1 (w : Win (i 0).val x0 x1 x2 x3 x4 x5 x6 x7 x8 H H' M M') : Is (View.canon (kernelRun0_B.sl.HS1_18 (F := Ideal) c i arg1 harg1 arg2 harg2 arg4 harg4 arg5 harg5 arg6 harg6 arg7 harg7 arg8 harg8 arg9 harg9 arg15 x0 x1 x3 x4 x5 x6 x7 x8)) (accV H' 2048) :=
  have h := hin1 (c := c) (harg1 := harg1) (harg2 := harg2) (harg3 := harg3) (harg4 := harg4) (harg5 := harg5) (harg6 := harg6) (harg7 := harg7) (harg8 := harg8) (harg9 := harg9) w
  acc_block (accV H') (grows_accV H') 1792 (by decide) rfl (acc_block (accV H') (grows_accV H') 1536 (by decide) rfl (acc_block (accV H') (grows_accV H') 1280 (by decide) rfl (acc_block (accV H') (grows_accV H') 1024 (by decide) rfl (acc_block (accV H') (grows_accV H') 768 (by decide) rfl (acc_block (accV H') (grows_accV H') 512 (by decide) rfl (acc_block (accV H') (grows_accV H') 256 (by decide) rfl (acc_block (accV H') (grows_accV H') 0 (by decide) rfl (store_all (is_zeroV H' ofBits_zero (h := shapeCasts_S2048x64_S2048x64))) fun a => accV1_0 h a) fun a => accV1_1 h a) fun a => accV1_2 h a) fun a => accV1_3 h a) fun a => accV1_4 h a) fun a => accV1_5 h a) fun a => accV1_6 h a) fun a => accV1_7 h a

include harg3 in
theorem accC1 (w : Win (i 0).val x0 x1 x2 x3 x4 x5 x6 x7 x8 H H' M M') : Is (View.canon (kernelRun0_B.sl.HS2_18 (F := Ideal) c i arg1 harg1 arg2 harg2 arg3 harg3 arg4 harg4 arg5 harg5 arg6 harg6 arg7 harg7 arg8 harg8 arg9 harg9 arg16 x0 x1 x2 x3 x4 x5 x6 x7 x8)) (accC H' 2048) :=
  have h := hin1 (c := c) (harg1 := harg1) (harg2 := harg2) (harg3 := harg3) (harg4 := harg4) (harg5 := harg5) (harg6 := harg6) (harg7 := harg7) (harg8 := harg8) (harg9 := harg9) w
  acc_block (accC H') (grows_accC H') 1792 (by decide) rfl (acc_block (accC H') (grows_accC H') 1536 (by decide) rfl (acc_block (accC H') (grows_accC H') 1280 (by decide) rfl (acc_block (accC H') (grows_accC H') 1024 (by decide) rfl (acc_block (accC H') (grows_accC H') 768 (by decide) rfl (acc_block (accC H') (grows_accC H') 512 (by decide) rfl (acc_block (accC H') (grows_accC H') 256 (by decide) rfl (acc_block (accC H') (grows_accC H') 0 (by decide) rfl (store_all (is_zeroC H' ofBits_zero (h := shapeCasts_S2048x128_S2048x128))) fun a => accC1_0 h a) fun a => accC1_1 h a) fun a => accC1_2 h a) fun a => accC1_3 h a) fun a => accC1_4 h a) fun a => accC1_5 h a) fun a => accC1_6 h a) fun a => accC1_7 h a

include harg3 in
theorem ct0 (w : Win (i 0).val x0 x1 x2 x3 x4 x5 x6 x7 x8 H H' M M') : Is (k0_pay107 (F := Ideal) (kernelRun0_B.sl.r_21 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_28 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_32 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_37 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_42 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_48 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_52 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_55 (F := Ideal) c i arg1 harg1 arg2 harg2 arg3 harg3 arg4 harg4 arg5 harg5 arg6 harg6 arg7 harg7 arg8 harg8 arg9 harg9 x0 x1 x2 x3 x4 x5 x6 x7 x8)) H.dNq :=
  have h := hin0 (c := c) (harg1 := harg1) (harg2 := harg2) (harg3 := harg3) (harg4 := harg4) (harg5 := harg5) (harg6 := harg6) (harg7 := harg7) (harg8 := harg8) (harg9 := harg9) w
  is_eighth (Y := fun t d => ∑ k, H.dS t k * H.kn k d) (is_cat8 (dq0_0 h) (dq0_1 h) (dq0_2 h) (dq0_3 h) (dq0_4 h) (dq0_5 h) (dq0_6 h) (dq0_7 h) (h := concatenates_S256x64_S256x64_S256x64_S256x64_S256x64_S256x64_S256x64_S256x64_S2048x64_d0))

include harg3 in
theorem dq0 (w : Win (i 0).val x0 x1 x2 x3 x4 x5 x6 x7 x8 H H' M M') : Is (kernelRun0_B.sl.r_58 (F := Ideal) c i arg1 harg1 arg2 harg2 arg3 harg3 arg4 harg4 arg5 harg5 arg6 harg6 arg7 harg7 arg8 harg8 arg9 harg9 x0 x1 x2 x3 x4 x5 x6 x7 x8) H.dQ :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hq
  is_vjpX (hφ := .inl rfl) (ha := rfl) (hφ' := .inl rfl) (ha' := rfl) hq hgq (is_rs hm) (is_sl (is_rs hm) hm) (ct0 (harg3 := harg3) w)

include harg3 in
theorem dgq0 (w : Win (i 0).val x0 x1 x2 x3 x4 x5 x6 x7 x8 H H' M M') : Is (kernelRun0_B.sl.r_57 (F := Ideal) c i arg1 harg1 arg2 harg2 arg3 harg3 arg4 harg4 arg5 harg5 arg6 harg6 arg7 harg7 arg8 harg8 arg9 harg9 x0 x1 x2 x3 x4 x5 x6 x7 x8) fun _ d => H.dGq d :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hq
  is_vjpG (hφ := .inl rfl) (ha := rfl) (is_xn hq (is_rs hm)) (ct0 (harg3 := harg3) w)

include harg3 in
theorem ck0 (w : Win (i 0).val x0 x1 x2 x3 x4 x5 x6 x7 x8 H H' M M') : Is (kernelRun0_B.sl.v524 (F := Ideal) c i arg1 harg1 arg2 harg2 arg3 harg3 arg4 harg4 arg5 harg5 arg6 harg6 arg7 harg7 arg8 harg8 arg9 harg9 arg14 x0 x1 x2 x3 x4 x5 x6 x7 x8) H.dNk :=
  Is.congr (load_all (accK0 (harg3 := harg3) w)) fun k d => accK_all H k d

include harg3 in
theorem dk0 (w : Win (i 0).val x0 x1 x2 x3 x4 x5 x6 x7 x8 H H' M M') : Is (kernelRun0_B.sl.r_62 (F := Ideal) c i arg1 harg1 arg2 harg2 arg3 harg3 arg4 harg4 arg5 harg5 arg6 harg6 arg7 harg7 arg8 harg8 arg9 harg9 arg14 x0 x1 x2 x3 x4 x5 x6 x7 x8) H.dK :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hk
  is_vjpX (hφ := .inl rfl) (ha := rfl) (hφ' := .inl rfl) (ha' := rfl) hk hgk (is_rs hm) (is_sl (is_rs hm) hm) (ck0 w)

include harg3 in
theorem dgk0 (w : Win (i 0).val x0 x1 x2 x3 x4 x5 x6 x7 x8 H H' M M') : Is (kernelRun0_B.sl.r_59 (F := Ideal) c i arg1 harg1 arg2 harg2 arg3 harg3 arg4 harg4 arg5 harg5 arg6 harg6 arg7 harg7 arg8 harg8 arg9 harg9 arg14 x0 x1 x2 x3 x4 x5 x6 x7 x8) fun _ d => H.dGk d :=
  have hq := load_lo (m := arg1) (h := harg1) (inb := inb_S2048x128_S2048x64_0_0) w.q
  have hk := load_lo (m := arg2) (h := harg2) (inb := inb_S2048x128_S2048x64_0_0) w.k
  have hgq := load_is (m := arg6) (h := harg6) (inb := inb_S1x64_S1x64_0_0) w.gq
  have hgk := load_is (m := arg7) (h := harg7) (inb := inb_S1x64_S1x64_0_0) w.gk
  have hm := is_ms (hφ := .inl rfl) (ha := rfl) (hred := reduces_S2048x64_S2048) (hc := shapeCasts_S2048_S2048x1) hk
  is_vjpG (hφ := .inl rfl) (ha := rfl) (is_xn hk (is_rs hm)) (ck0 w)

include harg3 in
theorem dv0 (w : Win (i 0).val x0 x1 x2 x3 x4 x5 x6 x7 x8 H H' M M') : Is (kernelRun0_B.sl.v553 (F := Ideal) c i arg1 harg1 arg2 harg2 arg4 harg4 arg5 harg5 arg6 harg6 arg7 harg7 arg8 harg8 arg9 harg9 arg15 x0 x1 x3 x4 x5 x6 x7 x8) H.dV :=
  Is.congr (load_all (accV0 (harg3 := harg3) w)) fun k d => accV_all H k d

include harg3 in
theorem dc0 (w : Win (i 0).val x0 x1 x2 x3 x4 x5 x6 x7 x8 H H' M M') : Is (kernelRun0_B.sl.v558 (F := Ideal) c i arg1 harg1 arg2 harg2 arg3 harg3 arg4 harg4 arg5 harg5 arg6 harg6 arg7 harg7 arg8 harg8 arg9 harg9 arg16 x0 x1 x2 x3 x4 x5 x6 x7 x8) (accC H 2048) :=
  load_all (accC0 (harg3 := harg3) w)

include harg3 in
theorem ct1 (w : Win (i 0).val x0 x1 x2 x3 x4 x5 x6 x7 x8 H H' M M') : Is (k0_pay223 (F := Ideal) (kernelRun0_B.sl.r_83 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_88 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_95 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_99 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_103 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_108 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_115 (F := Ideal) c i arg1 harg1 arg2 harg2 arg3 harg3 arg4 harg4 arg5 harg5 arg6 harg6 arg7 harg7 arg8 harg8 arg9 harg9 x0 x1 x2 x3 x4 x5 x6 x7 x8)
    (kernelRun0_B.sl.r_119 (F := Ideal) c i arg1 harg1 arg2 harg2 arg3 harg3 arg4 harg4 arg5 harg5 arg6 harg6 arg7 harg7 arg8 harg8 arg9 harg9 x0 x1 x2 x3 x4 x5 x6 x7 x8)) H'.dNq :=
  have h := hin1 (c := c) (harg1 := harg1) (harg2 := harg2) (harg3 := harg3) (harg4 := harg4) (harg5 := harg5) (harg6 := harg6) (harg7 := harg7) (harg8 := harg8) (harg9 := harg9) w
  is_eighth (Y := fun t d => ∑ k, H'.dS t k * H'.kn k d) (is_cat8 (dq1_0 h) (dq1_1 h) (dq1_2 h) (dq1_3 h) (dq1_4 h) (dq1_5 h) (dq1_6 h) (dq1_7 h) (h := concatenates_S256x64_S256x64_S256x64_S256x64_S256x64_S256x64_S256x64_S256x64_S2048x64_d0))

include harg3 in
theorem dq1 (w : Win (i 0).val x0 x1 x2 x3 x4 x5 x6 x7 x8 H H' M M') : Is (kernelRun0_B.sl.r_122 (F := Ideal) c i arg1 harg1 arg2 harg2 arg3 harg3 arg4 harg4 arg5 harg5 arg6 harg6 arg7 harg7 arg8 harg8 arg9 harg9 x0 x1 x2 x3 x4 x5 x6 x7 x8) H'.dQ :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hq
  is_vjpX (hφ := .inl rfl) (ha := rfl) (hφ' := .inl rfl) (ha' := rfl) hq hgq (is_rs hm) (is_sl (is_rs hm) hm) (ct1 (harg3 := harg3) w)

include harg3 in
theorem dgq1 (w : Win (i 0).val x0 x1 x2 x3 x4 x5 x6 x7 x8 H H' M M') : Is (kernelRun0_B.sl.r_121 (F := Ideal) c i arg1 harg1 arg2 harg2 arg3 harg3 arg4 harg4 arg5 harg5 arg6 harg6 arg7 harg7 arg8 harg8 arg9 harg9 x0 x1 x2 x3 x4 x5 x6 x7 x8) fun _ d => H'.dGq d :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hq
  is_vjpG (hφ := .inl rfl) (ha := rfl) (is_xn hq (is_rs hm)) (ct1 (harg3 := harg3) w)

include harg3 in
theorem ck1 (w : Win (i 0).val x0 x1 x2 x3 x4 x5 x6 x7 x8 H H' M M') : Is (kernelRun0_B.sl.v1089 (F := Ideal) c i arg1 harg1 arg2 harg2 arg3 harg3 arg4 harg4 arg5 harg5 arg6 harg6 arg7 harg7 arg8 harg8 arg9 harg9 arg14 x0 x1 x2 x3 x4 x5 x6 x7 x8) H'.dNk :=
  Is.congr (load_all (accK1 (harg3 := harg3) w)) fun k d => accK_all H' k d

include harg3 in
theorem dk1 (w : Win (i 0).val x0 x1 x2 x3 x4 x5 x6 x7 x8 H H' M M') : Is (kernelRun0_B.sl.r_124 (F := Ideal) c i arg1 harg1 arg2 harg2 arg3 harg3 arg4 harg4 arg5 harg5 arg6 harg6 arg7 harg7 arg8 harg8 arg9 harg9 arg14 x0 x1 x2 x3 x4 x5 x6 x7 x8) H'.dK :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hk
  is_vjpX (hφ := .inl rfl) (ha := rfl) (hφ' := .inl rfl) (ha' := rfl) hk hgk (is_rs hm) (is_sl (is_rs hm) hm) (ck1 w)

include harg3 in
theorem dgk1 (w : Win (i 0).val x0 x1 x2 x3 x4 x5 x6 x7 x8 H H' M M') : Is (kernelRun0_B.sl.r_123 (F := Ideal) c i arg1 harg1 arg2 harg2 arg3 harg3 arg4 harg4 arg5 harg5 arg6 harg6 arg7 harg7 arg8 harg8 arg9 harg9 arg14 x0 x1 x2 x3 x4 x5 x6 x7 x8) fun _ d => H'.dGk d :=
  have hq := load_hi (m := arg1) (h := harg1) (inb := inb_S2048x128_S2048x64_0_64) w.q
  have hk := load_hi (m := arg2) (h := harg2) (inb := inb_S2048x128_S2048x64_0_64) w.k
  have hgq := load_is (m := arg6) (h := harg6) (inb := inb_S1x64_S1x64_0_0) w.gq'
  have hgk := load_is (m := arg7) (h := harg7) (inb := inb_S1x64_S1x64_0_0) w.gk'
  have hm := is_ms (hφ := .inl rfl) (ha := rfl) (hred := reduces_S2048x64_S2048) (hc := shapeCasts_S2048_S2048x1) hk
  is_vjpG (hφ := .inl rfl) (ha := rfl) (is_xn hk (is_rs hm)) (ck1 w)

include harg3 in
theorem dv1 (w : Win (i 0).val x0 x1 x2 x3 x4 x5 x6 x7 x8 H H' M M') : Is (kernelRun0_B.sl.v1118 (F := Ideal) c i arg1 harg1 arg2 harg2 arg4 harg4 arg5 harg5 arg6 harg6 arg7 harg7 arg8 harg8 arg9 harg9 arg15 x0 x1 x3 x4 x5 x6 x7 x8) H'.dV :=
  Is.congr (load_all (accV1 (harg3 := harg3) w)) fun k d => accV_all H' k d

include harg3 in
theorem dc1 (w : Win (i 0).val x0 x1 x2 x3 x4 x5 x6 x7 x8 H H' M M') : Is (kernelRun0_B.sl.v1123 (F := Ideal) c i arg1 harg1 arg2 harg2 arg3 harg3 arg4 harg4 arg5 harg5 arg6 harg6 arg7 harg7 arg8 harg8 arg9 harg9 arg16 x0 x1 x2 x3 x4 x5 x6 x7 x8) (accC H' 2048) :=
  load_all (accC1 (harg3 := harg3) w)

/-- The gradients of queries, keys and values. -/
theorem out9 {hc0 : ¬ cond0_0 i} (w : Win (i 0).val x0 x1 x2 x3 x4 x5 x6 x7 x8 H H' M M') (s : Fin 3) (t : Fin 2048) (j : Fin 128) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 (ix3 s t j)
      = (((![two H.dQ H'.dQ, two H.dK H'.dK, two H.dV H'.dV] : Fin 3 → Fin 2048 → Fin 128 → ℝ) s t j : ℝ) : EReal) := by
  rw [out0_B_9, View.read_writes_junk_eq_canon]
  exact slabs (Is.slab (Is.trunc (is_cat2 (dv0 (harg1 := harg1) (harg2 := harg2) (harg3 := harg3) (harg4 := harg4) (harg5 := harg5) (harg6 := harg6) (harg7 := harg7) (harg8 := harg8) (harg9 := harg9) w) (dv1 (harg1 := harg1) (harg2 := harg2) (harg3 := harg3) (harg4 := harg4) (harg5 := harg5) (harg6 := harg6) (harg7 := harg7) (harg8 := harg8) (harg9 := harg9) w)) _)) (Is.slab (Is.trunc (is_cat2 (dk0 (harg1 := harg1) (harg2 := harg2) (harg3 := harg3) (harg4 := harg4) (harg5 := harg5) (harg6 := harg6) (harg7 := harg7) (harg8 := harg8) (harg9 := harg9) w) (dk1 (harg1 := harg1) (harg2 := harg2) (harg3 := harg3) (harg4 := harg4) (harg5 := harg5) (harg6 := harg6) (harg7 := harg7) (harg8 := harg8) (harg9 := harg9) w)) _))
    (Is.slab (Is.trunc (is_cat2 (dq0 (harg1 := harg1) (harg2 := harg2) (harg3 := harg3) (harg4 := harg4) (harg5 := harg5) (harg6 := harg6) (harg7 := harg7) (harg8 := harg8) (harg9 := harg9) w) (dq1 (harg1 := harg1) (harg2 := harg2) (harg3 := harg3) (harg4 := harg4) (harg5 := harg5) (harg6 := harg6) (harg7 := harg7) (harg8 := harg8) (harg9 := harg9) w)) _)) s t j

/-- The pair's two columns. -/
theorem out10 {hc0 : ¬ cond0_0 i} (w : Win (i 0).val x0 x1 x2 x3 x4 x5 x6 x7 x8 H H' M M') (t : Fin 2048) (j : Fin 128) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 (ix2 t j)
      = if j.val = 2 * (i 0).val + 1 then ((H'.dC t : ℝ) : EReal) else if j.val = 2 * (i 0).val + 0 then ((H.dC t : ℝ) : EReal) else xo10 (ix2 t j) := by
  have hn := w.lt
  rw [out0_B_10, View.read_writes_junk_eq_canon]
  refine (congrFun stored (ix2 t j)).trans ((put_apply (word1 (i 0).val) (by omega) (dc1 (harg1 := harg1) (harg2 := harg2) (harg3 := harg3) (harg4 := harg4) (harg5 := harg5) (harg6 := harg6) (harg7 := harg7) (harg8 := harg8) (harg9 := harg9) w) t j).trans ?_)
  rw [accC_all]
  refine if_congr Iff.rfl rfl ?_
  refine (congrFun (reload.trans stored) (ix2 t j)).trans ((put_apply (word0 (i 0).val) (by omega) (dc0 (harg1 := harg1) (harg2 := harg2) (harg3 := harg3) (harg4 := harg4) (harg5 := harg5) (harg6 := harg6) (harg7 := harg7) (harg8 := harg8) (harg9 := harg9) w) t j).trans ?_)
  rw [accC_all]
  refine if_congr Iff.rfl rfl ?_
  exact congrFun load_at (ix2 t j)

/-- The gain's gradient, the pair's two heads added. -/
theorem out11 {hc0 : ¬ cond0_0 i} (w : Win (i 0).val x0 x1 x2 x3 x4 x5 x6 x7 x8 H H' M M') {g : Fin 64 → ℝ} (ho : Is xo11 fun _ d => g d) :
    Is (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12) fun _ d => g d + H.dGq d + H'.dGq d := by
  rw [out0_B_11, View.read_writes_junk_eq_canon]
  exact store_all (Is.add (Is.cast (load_all (store_all (Is.add (Is.cast ((load_is ho)) shapeCasts_S1x64_S1x64) (dgq0 (harg1 := harg1) (harg2 := harg2) (harg3 := harg3) (harg4 := harg4) (harg5 := harg5) (harg6 := harg6) (harg7 := harg7) (harg8 := harg8) (harg9 := harg9) w)))) shapeCasts_S1x64_S1x64) (dgq1 (harg1 := harg1) (harg2 := harg2) (harg3 := harg3) (harg4 := harg4) (harg5 := harg5) (harg6 := harg6) (harg7 := harg7) (harg8 := harg8) (harg9 := harg9) w))

/-- The gain's gradient, the pair's two heads added. -/
theorem out12 {hc0 : ¬ cond0_0 i} (w : Win (i 0).val x0 x1 x2 x3 x4 x5 x6 x7 x8 H H' M M') {g : Fin 64 → ℝ} (ho : Is xo12 fun _ d => g d) :
    Is (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12) fun _ d => g d + H.dGk d + H'.dGk d := by
  rw [out0_B_12, View.read_writes_junk_eq_canon]
  exact store_all (Is.add (Is.cast (load_all (store_all (Is.add (Is.cast ((load_is ho)) shapeCasts_S1x64_S1x64) (dgk0 (harg1 := harg1) (harg2 := harg2) (harg3 := harg3) (harg4 := harg4) (harg5 := harg5) (harg6 := harg6) (harg7 := harg7) (harg8 := harg8) (harg9 := harg9) w)))) shapeCasts_S1x64_S1x64) (dgk1 (harg1 := harg1) (harg2 := harg2) (harg3 := harg3) (harg4 := harg4) (harg5 := harg5) (harg6 := harg6) (harg7 := harg7) (harg8 := harg8) (harg9 := harg9) w))

end Cert.Fox.RunB
-- ==== Proof.Outs.lean ====
/- What the region's buffers hold after each grid point, and the result arrays after the last one. -/
module

public import proofs.«01_k».proof.Proof.Blocks
public import proofs.«01_k».proof.Proof.RunA
public import proofs.«01_k».proof.Proof.RunB

@[expose] public section

noncomputable section

namespace Cert.Fox

open Idealize.ShloMosaic Idealize.ShloMosaic.ValueIdx Idealize.ShloMosaic.TcCoe Idealize.SL Idealize.SL.Sem
open Cert.KernelIdeal Cert.KernelIdeal.Gen

/-- A family over the heads, continued by zero. -/
def ext (f : Fin 16 → ℝ) (k : ℕ) : ℝ := if h : k < 16 then f ⟨k, h⟩ else 0

theorem ext_of (f : Fin 16 → ℝ) (h : Fin 16) {k : ℕ} (e : k = h.val) : ext f k = f h := by
  subst e; exact dif_pos h.isLt

theorem sum_ext (f : Fin 16 → ℝ) : ∑ k ∈ Finset.range 16, ext f k = ∑ h, f h := (Finset.sum_fin_eq_sum_range f).symm

theorem sum_step (f : Fin 16 → ℝ) (n : ℕ) (h h' : Fin 16) (e : h.val = 2 * n) (e' : h'.val = 2 * n + 1) :
    ∑ k ∈ Finset.range (2 * n), ext f k + f h + f h' = ∑ k ∈ Finset.range (2 * (n + 1)), ext f k := by
  rw [show 2 * (n + 1) = 2 * n + 1 + 1 from by ring, Finset.sum_range_succ, Finset.sum_range_succ, ext_of f h e.symm, ext_of f h' e'.symm]

theorem sum_first (f : Fin 16 → ℝ) {n : ℕ} (h h' : Fin 16) (e : h.val = 2 * n) (e' : h'.val = 2 * n + 1) (e0 : n = 0) :
    0 + f h + f h' = ∑ k ∈ Finset.range (2 * (n + 1)), ext f k := by
  rw [← sum_step f n h h' e e', e0]; rfl

/-- One column's step: the pair's own two columns are stored, the others kept. -/
theorem col_step (f : Fin 16 → ℝ) (n j : ℕ) (h h' : Fin 16) (e : h.val = 2 * n) (e' : h'.val = 2 * n + 1) {p x : EReal}
    (hx : x = ((if j < 2 * n then ext f j else 0 : ℝ) : EReal))
    (hp : p = if j = 2 * n + 1 then ((f h' : ℝ) : EReal) else if j = 2 * n + 0 then ((f h : ℝ) : EReal) else x) :
    p = ((if j < 2 * (n + 1) then ext f j else 0 : ℝ) : EReal) := by
  subst hp
  by_cases h1 : j = 2 * n + 1
  · rw [if_pos h1, if_pos (by omega), ext_of f h' (by omega)]
  · rw [if_neg h1]
    by_cases h0 : j = 2 * n + 0
    · rw [if_pos h0, if_pos (by omega), ext_of f h (by omega)]
    · rw [if_neg h0, hx]
      by_cases h2 : j < 2 * n
      · rw [if_pos h2, if_pos (by omega)]
      · rw [if_neg h2, if_neg (by omega)]

section

variable (m : (k : Loc nD τ sig) → Buf (Elt Ideal) k) (c : Dev nD)

/-- What the buffers hold after point `n`. -/
structure After (n : ℕ) (hn : n < 8) (X9 : FVec Ideal ⟨3, ![3, 2048, 128]⟩ .bf16) (X10 : FVec Ideal ⟨2, ![2048, 128]⟩ .f32)
    (X11 X12 : FVec Ideal ⟨2, ![1, 64]⟩ .f32) : Prop where
  d : ∀ s t j, X9 (ix3 s t j) = (((![two (HD m c ⟨2 * n, by omega⟩).dQ (HD m c ⟨2 * n + 1, by omega⟩).dQ,
    two (HD m c ⟨2 * n, by omega⟩).dK (HD m c ⟨2 * n + 1, by omega⟩).dK,
    two (HD m c ⟨2 * n, by omega⟩).dV (HD m c ⟨2 * n + 1, by omega⟩).dV] : Fin 3 → Fin 2048 → Fin 128 → ℝ) s t j : ℝ) : EReal)
  dc : ∀ t j, X10 (ix2 t j) = ((if j.val < 2 * (n + 1) then ext (fun h => (HD m c h).dC t) j.val else 0 : ℝ) : EReal)
  gq : Is X11 fun _ d => ∑ k ∈ Finset.range (2 * (n + 1)), ext (fun h => (HD m c h).dGq d) k
  gk : Is X12 fun _ d => ∑ k ∈ Finset.range (2 * (n + 1)), ext (fun h => (HD m c h).dGk d) k

variable (w : Args (a0 m c) (a1 m c) (a2 m c) (a3 m c) (a4 m c))
include w

theorem win' (t : Fin cfg0.N) : Win (grid0.coords t 0).val (iblk m c 0 t) (iblk m c 1 t) (iblk m c 2 t) (iblk m c 3 t) (iblk m c 4 t)
    (iblk m c 5 t) (iblk m c 6 t) (iblk m c 7 t) (iblk m c 8 t) (HD m c (hA t)) (HD m c (hB t)) (MX m c (hA t)) (MX m c (hB t)) :=
  (coord t).symm ▸ win m c t w

theorem after_first (t : Fin cfg0.N) (h0 : t.val % 8 = 0) : After m c t.val (lt8 t) (outsAt0 m c t.val t.isLt).1 (outsAt0 m c t.val t.isLt).2.1
    (outsAt0 m c t.val t.isLt).2.2.1 (outsAt0 m c t.val t.isLt).2.2.2 := by
  have e0 : t.val = 0 := by have := lt8 t; omega
  rw [outsAt0_A m c t h0]
  dsimp only
  refine ⟨fun s i j => RunA.out9 (win' m c w t) s i j, fun i j => ?_, fun i d => ?_, fun i d => ?_⟩
  · refine col_step (fun h => (HD m c h).dC i) t.val j.val (hA t) (hB t) rfl rfl (x := ((0 : ℝ) : EReal)) (by rw [e0, if_neg (by omega)]) ?_
    exact (RunA.out10 (win' m c w t) i j).trans (by rw [coord t])
  · refine (RunA.out11 (win' m c w t) i d).trans (congrArg _ ?_)
    exact sum_first (fun h => (HD m c h).dGq d) (hA t) (hB t) rfl rfl e0
  · refine (RunA.out12 (win' m c w t) i d).trans (congrArg _ ?_)
    exact sum_first (fun h => (HD m c h).dGk d) (hA t) (hB t) rfl rfl e0

theorem after_next (t : Fin cfg0.N) (h0 : ¬ t.val % 8 = 0) (n : ℕ) (hn : n < 8) (e : t.val = n + 1) (hn' : t.val - 1 < cfg0.N)
    (h : After m c n hn (outsAt0 m c (t.val - 1) hn').1 (outsAt0 m c (t.val - 1) hn').2.1 (outsAt0 m c (t.val - 1) hn').2.2.1 (outsAt0 m c (t.val - 1) hn').2.2.2) :
    After m c t.val (lt8 t) (outsAt0 m c t.val t.isLt).1 (outsAt0 m c t.val t.isLt).2.1
      (outsAt0 m c t.val t.isLt).2.2.1 (outsAt0 m c t.val t.isLt).2.2.2 := by
  rw [outsAt0_B m c t h0]
  dsimp only
  refine ⟨fun s i j => RunB.out9 (win' m c w t) s i j, fun i j => ?_, fun i d => ?_, fun i d => ?_⟩
  · refine col_step (fun h => (HD m c h).dC i) t.val j.val (hA t) (hB t) rfl rfl ((h.dc i j).trans (by rw [e])) ?_
    exact (RunB.out10 (win' m c w t) i j).trans (by rw [coord t])
  · refine (RunB.out11 (win' m c w t) h.gq i d).trans (congrArg _ ?_)
    have es := sum_step (fun h => (HD m c h).dGq d) t.val (hA t) (hB t) rfl rfl
    exact (congrArg (fun k => ∑ k ∈ Finset.range (2 * k), ext (fun h => (HD m c h).dGq d) k + (HD m c (hA t)).dGq d + (HD m c (hB t)).dGq d) e.symm).trans es
  · refine (RunB.out12 (win' m c w t) h.gk i d).trans (congrArg _ ?_)
    have es := sum_step (fun h => (HD m c h).dGk d) t.val (hA t) (hB t) rfl rfl
    exact (congrArg (fun k => ∑ k ∈ Finset.range (2 * k), ext (fun h => (HD m c h).dGk d) k + (HD m c (hA t)).dGk d + (HD m c (hB t)).dGk d) e.symm).trans es

theorem after_at : ∀ (n : ℕ) (hn : n < cfg0.N), After m c n hn (outsAt0 m c n hn).1 (outsAt0 m c n hn).2.1 (outsAt0 m c n hn).2.2.1 (outsAt0 m c n hn).2.2.2
  | 0, hn => after_first m c w ⟨0, hn⟩ rfl
  | n + 1, hn => after_next m c w ⟨n + 1, hn⟩ (by have : n + 1 < 8 := hn; simp only; omega) n (by have : n + 1 < 8 := hn; omega) rfl (Nat.lt_of_succ_lt hn)
      (after_at n (Nat.lt_of_succ_lt hn))

end

/-! ## The result arrays -/

/-- Lane `j` of pair `n`'s slab is lane `j % 64` of head `2n + j / 64`. -/
theorem two_col (f : Fin 16 → Fin 2048 → Fin 64 → ℝ) (n : ℕ) (hn : n < 8) (i : Fin 2048) (j : Fin 128) (J : Fin 1024)
    (e : J.val = n * 128 + j.val) : two (f ⟨2 * n, by omega⟩) (f ⟨2 * n + 1, by omega⟩) i j = f (Ref.hd J) i (Ref.ln J) := by
  unfold two
  by_cases h : j.val < 64
  · rw [dif_pos h, show Ref.hd J = ⟨2 * n, by omega⟩ from Fin.ext (by show J.val / 64 = 2 * n; omega),
      show Ref.ln J = ⟨j.val, h⟩ from Fin.ext (by show J.val % 64 = j.val; omega)]
  · rw [dif_neg h, show Ref.hd J = ⟨2 * n + 1, by omega⟩ from Fin.ext (by show J.val / 64 = 2 * n + 1; omega),
      show Ref.ln J = ⟨j.val - 64, by omega⟩ from Fin.ext (by show J.val % 64 = j.val - 64; omega)]

theorem place9 : ∀ t : Fin cfg0.N, win0_9.index t = ![0, 0, t.val] := by decide +kernel

section

variable (m : (k : Loc nD τ sig) → Buf (Elt Ideal) k) (c : Dev nD) (w : Args (a0 m c) (a1 m c) (a2 m c) (a3 m c) (a4 m c))
include w

theorem arr9 : ((dats m 0 c).arrAt 9 cfg0.N : FVec Ideal ⟨3, ![3, 2048, 1024]⟩ .bf16)
    = Cert.ReferenceIdeal.Read.val_main_v165 (F := Ideal) (a0 m c) (a1 m c) (a2 m c) (a3 m c) (a4 m c) := by
  refine (dats m 0 c).arrAt_eq_of_covers 9 _ (by decide +kernel) fun t hf y => ?_
  blk_simp
  obtain ⟨s, i, j, rfl⟩ : ∃ (s : Fin 3) (i : Fin 2048) (j : Fin 128), y = ix3 s i j := ⟨y 0, y 1, y 2, eq_ix3 y⟩
  have hp := place9 t
  have ey : (win0_9.blk t).view.emb (ix3 s i j) = ix3 s i (⟨t.val * 128 + j.val, by have := lt8 t; omega⟩ : Fin 1024) := by
    refine funext fun a => Fin.ext ?_
    fin_cases a
    all_goals blk_simp [hp]
  refine Eq.trans ?_ ((Ref.r165 w s i (⟨t.val * 128 + j.val, by have := lt8 t; omega⟩ : Fin 1024)).symm.trans (congrArg _ ey.symm))
  refine (congrFun (after0_9 m c t) _).trans (((after_at m c w t.val t.isLt).d s i j).trans (congrArg _ ?_))
  fin_cases s
  · exact two_col (fun h => (HD m c h).dQ) t.val (lt8 t) i j _ rfl
  · exact two_col (fun h => (HD m c h).dK) t.val (lt8 t) i j _ rfl
  · exact two_col (fun h => (HD m c h).dV) t.val (lt8 t) i j _ rfl

theorem arr10 : ((dats m 0 c).arrAt 10 cfg0.N : FVec Ideal ⟨2, ![2048, 128]⟩ .f32)
    = Cert.ReferenceIdeal.Read.val_main_v167 (F := Ideal) (a0 m c) (a1 m c) (a2 m c) (a3 m c) (a4 m c) := by
  refine (dats m 0 c).arrAt_eq_of_after_last 10 (⟨7, by decide⟩ : Fin cfg0.N) (by decide +kernel) _ fun y => ?_
  blk_simp
  obtain ⟨i, j, rfl⟩ : ∃ (i : Fin 2048) (j : Fin 128), y = ix2 i j := ⟨y 0, y 1, eq_ix2 y⟩
  refine (congrFun (after0_10 m c _) _).trans (((after_at m c w 7 (by decide)).dc i j).trans ((Ref.r167 w i j).trans (congrArg _ ?_)).symm)
  by_cases h : j.val < 16
  · rw [dif_pos h, if_pos (by omega)]; exact (ext_of (fun h => (HD m c h).dC i) ⟨j.val, h⟩ rfl).symm
  · rw [dif_neg h, if_neg (by omega)]

theorem arr11 : ((dats m 0 c).arrAt 11 cfg0.N : FVec Ideal ⟨2, ![1, 64]⟩ .f32)
    = Cert.ReferenceIdeal.Read.val_main_v168 (F := Ideal) (a0 m c) (a1 m c) (a2 m c) (a3 m c) (a4 m c) := by
  refine (dats m 0 c).arrAt_eq_of_after_last 11 (⟨7, by decide⟩ : Fin cfg0.N) (by decide +kernel) _ fun y => ?_
  blk_simp
  obtain ⟨i, j, rfl⟩ : ∃ (i : Fin 1) (j : Fin 64), y = ix2 i j := ⟨y 0, y 1, eq_ix2 y⟩
  exact (congrFun (after0_11 m c _) _).trans (((after_at m c w 7 (by decide)).gq i j).trans ((Ref.r168 w (ix2 i j)).trans (congrArg _ (sum_ext fun h => (HD m c h).dGq j).symm)).symm)

theorem arr12 : ((dats m 0 c).arrAt 12 cfg0.N : FVec Ideal ⟨2, ![1, 64]⟩ .f32)
    = Cert.ReferenceIdeal.Read.val_main_v169 (F := Ideal) (a0 m c) (a1 m c) (a2 m c) (a3 m c) (a4 m c) := by
  refine (dats m 0 c).arrAt_eq_of_after_last 12 (⟨7, by decide⟩ : Fin cfg0.N) (by decide +kernel) _ fun y => ?_
  blk_simp
  obtain ⟨i, j, rfl⟩ : ∃ (i : Fin 1) (j : Fin 64), y = ix2 i j := ⟨y 0, y 1, eq_ix2 y⟩
  exact (congrFun (after0_12 m c _) _).trans (((after_at m c w 7 (by decide)).gk i j).trans ((Ref.r169 w (ix2 i j)).trans (congrArg _ (sum_ext fun h => (HD m c h).dGk j).symm)).symm)

end
end Cert.Fox
-- ==== Proof.Final.lean ====
/- From the precondition to real arguments, and the two runs' results side by side. -/
module

public import proofs.«01_k».proof.Defs
public import proofs.«01_k».proof.Proof.Outs
public import proofs.«01_k».proof.Proof.Gen.Pre_real_inputs
public import proofs.«01_k».proof.Proof.Gen.ReferenceIdeal.Run

@[expose] public section

noncomputable section

namespace Cert.Fox

open Idealize.ShloMosaic Idealize.ShloMosaic.ValueIdx Idealize.ShloMosaic.TcCoe Idealize.SL Idealize.SL.Sem

/-- A value whose absolute value is below infinity is a real. -/
theorem real_of_lt {x b : EReal} (hb : b = ⊤) (h : Ideal.cmp .olt (max x (-x)) b = 1#1) : x = (x.toReal : EReal) := by
  subst hb
  have h' : max x (-x) < ⊤ := by
    by_contra hn
    simp only [Ideal.cmp, if_neg hn] at h
    revert h; simp [hn]
  refine (EReal.coe_toReal ?_ ?_).symm
  · rintro rfl; simp at h'
  · rintro rfl; simp at h'

section

open Cert.Pre_real_inputs

variable {x0 : FVec Ideal ⟨2, ![2048, 3200]⟩ .f32} {x1 : FVec Ideal ⟨2, ![2048, 128]⟩ .f32} {x2 x3 : FVec Ideal ⟨2, ![1, 64]⟩ .f32}
  {x4 : FVec Ideal ⟨2, ![2048, 1024]⟩ .bf16}

/-- The precondition's five tables all ones: every argument that the computation reads is real. -/
theorem args_of
    (h0 : (fn (F := Ideal) x0 x1 x2 x3 x4).1 = fun _ => 1#1)
    (h1 : (fn (F := Ideal) x0 x1 x2 x3 x4).2.1 = fun _ => 1#1)
    (h2 : (fn (F := Ideal) x0 x1 x2 x3 x4).2.2.1 = fun _ => 1#1)
    (h3 : (fn (F := Ideal) x0 x1 x2 x3 x4).2.2.2.1 = fun _ => 1#1)
    (h4 : (fn (F := Ideal) x0 x1 x2 x3 x4).2.2.2.2 = fun _ => 1#1) : Args x0 x1 x2 x3 x4 where
  p t j hj := by
    have e : extractStridedSlice S2048x3072 ![0, 0] x0 Facts.slices_S2048x3200_S2048x3072_0_0 (ix2 t (⟨j.val, hj⟩ : Fin 3072)) = x0 (ix2 t j) :=
      extractStridedSlice_apply _ _ _ _ _ fun a => by fin_cases a <;> exact (Nat.zero_add _).symm
    have h : Ideal.cmp .olt (max (extractStridedSlice S2048x3072 ![0, 0] x0 Facts.slices_S2048x3200_S2048x3072_0_0 (ix2 t (⟨j.val, hj⟩ : Fin 3072)))
        (-(extractStridedSlice S2048x3072 ![0, 0] x0 Facts.slices_S2048x3200_S2048x3072_0_0 (ix2 t (⟨j.val, hj⟩ : Fin 3072))))) (Ideal.ofBits .f32 0x7F800000#32) = 1#1 := congrFun h0 (ix2 t (⟨j.val, hj⟩ : Fin 3072))
    rw [e] at h
    exact real_of_lt ofBits_inf h
  c t j hj := by
    have e : extractStridedSlice S2048x16 ![0, 0] x1 Facts.slices_S2048x128_S2048x16_0_0 (ix2 t (⟨j.val, hj⟩ : Fin 16)) = x1 (ix2 t j) :=
      extractStridedSlice_apply _ _ _ _ _ fun a => by fin_cases a <;> exact (Nat.zero_add _).symm
    have h : Ideal.cmp .olt (max (extractStridedSlice S2048x16 ![0, 0] x1 Facts.slices_S2048x128_S2048x16_0_0 (ix2 t (⟨j.val, hj⟩ : Fin 16)))
        (-(extractStridedSlice S2048x16 ![0, 0] x1 Facts.slices_S2048x128_S2048x16_0_0 (ix2 t (⟨j.val, hj⟩ : Fin 16))))) (Ideal.ofBits .f32 0x7F800000#32) = 1#1 := congrFun h1 (ix2 t (⟨j.val, hj⟩ : Fin 16))
    rw [e] at h
    exact real_of_lt ofBits_inf h
  gq d := real_of_lt ofBits_inf (congrFun h2 (ix2 0 d))
  gk d := real_of_lt ofBits_inf (congrFun h3 (ix2 0 d))
  o t j := real_of_lt ofBits_inf16 (congrFun h4 (ix2 t j))

end

section

variable (m : (ℓ : Loc KernelIdeal.nD KernelIdeal.τ KernelIdeal.sig) → Buf (Elt Ideal) ℓ)

theorem args_pre (h : Pre_KernelIdeal_real_inputs (hPre_real_inputs := Cert.Pre_real_inputs.Gen.facts) m) (c : Dev KernelIdeal.nD) :
    Args (a0 m c) (a1 m c) (a2 m c) (a3 m c) (a4 m c) :=
  args_of (h c).1 (h c).2.1 (h c).2.2.1 (h c).2.2.2.1 (h c).2.2.2.2

end

/-- A value of five arguments depends on nothing else. -/
theorem val_congr {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he
  rfl

/-- The two runs end with the same four results. -/
theorem algebraic : algebraic_KernelIdeal_ReferenceIdeal_pre_real_inputs (hKernelIdeal := Cert.KernelIdeal.Gen.facts)
    (hReferenceIdeal := Cert.ReferenceIdeal.Gen.facts) (hPre_real_inputs := Cert.Pre_real_inputs.Gen.facts) := by
  intro m g m' g' hp hm
  refine ⟨fun c => Cert.ReferenceIdeal.Read.val_main_v165 (F := Ideal) (a0 m c) (a1 m c) (a2 m c) (a3 m c) (a4 m c),
    fun c => Cert.ReferenceIdeal.Read.val_main_v167 (F := Ideal) (a0 m c) (a1 m c) (a2 m c) (a3 m c) (a4 m c),
    fun c => Cert.ReferenceIdeal.Read.val_main_v168 (F := Ideal) (a0 m c) (a1 m c) (a2 m c) (a3 m c) (a4 m c),
    fun c => Cert.ReferenceIdeal.Read.val_main_v169 (F := Ideal) (a0 m c) (a1 m c) (a2 m c) (a3 m c) (a4 m c), ?_, ?_⟩
  · refine (θ_run (Cert.KernelIdeal.defs (F := Ideal)) _ _).mono (fun r h c => ?_) (Cert.KernelIdeal.Value.run_blocks (F := Ideal) m g)
    obtain ⟨h9, h10, h11, h12, hk⟩ := h c
    exact ⟨h9.trans (arr9 m c (args_pre m hp c)), h10.trans (arr10 m c (args_pre m hp c)), h11.trans (arr11 m c (args_pre m hp c)),
      h12.trans (arr12 m c (args_pre m hp c)), hk⟩
  · refine (θ_run (Cert.ReferenceIdeal.defs (F := Ideal)) _ _).mono (fun r h c => ?_) (Cert.ReferenceIdeal.Value.run (F := Ideal) m' g')
    obtain ⟨e0, e1, e2, e3, e4⟩ := hm c
    obtain ⟨h165, h167, h168, h169, hk⟩ := h c
    have d0 : (StableHlo.launchContents m' c (Proc.devRef .tc Cert.ReferenceIdeal.main_arg0) : FVec Ideal ⟨2, ![2048, 3200]⟩ .f32) = a0 m c := e0
    have d1 : (StableHlo.launchContents m' c (Proc.devRef .tc Cert.ReferenceIdeal.main_arg1) : FVec Ideal ⟨2, ![2048, 128]⟩ .f32) = a1 m c := e1
    have d2 : (StableHlo.launchContents m' c (Proc.devRef .tc Cert.ReferenceIdeal.main_arg2) : FVec Ideal ⟨2, ![1, 64]⟩ .f32) = a2 m c := e2
    have d3 : (StableHlo.launchContents m' c (Proc.devRef .tc Cert.ReferenceIdeal.main_arg3) : FVec Ideal ⟨2, ![1, 64]⟩ .f32) = a3 m c := e3
    have d4 : (StableHlo.launchContents m' c (Proc.devRef .tc Cert.ReferenceIdeal.main_arg4) : FVec Ideal ⟨2, ![2048, 1024]⟩ .bf16) = a4 m c := e4
    exact ⟨h165.trans ((Cert.ReferenceIdeal.Read.val_main_v165_eq _).trans (val_congr Cert.ReferenceIdeal.Read.val_main_v165 d0 d1 d2 d3 d4)),
      h167.trans ((Cert.ReferenceIdeal.Read.val_main_v167_eq _).trans (val_congr Cert.ReferenceIdeal.Read.val_main_v167 d0 d1 d2 d3 d4)),
      h168.trans ((Cert.ReferenceIdeal.Read.val_main_v168_eq _).trans (val_congr Cert.ReferenceIdeal.Read.val_main_v168 d0 d1 d2 d3 d4)),
      h169.trans ((Cert.ReferenceIdeal.Read.val_main_v169_eq _).trans (val_congr Cert.ReferenceIdeal.Read.val_main_v169 d0 d1 d2 d3 d4)), hk⟩

end Cert.Fox
-- ==== Proof.Mm.lean ====
/- Products of matrices of extended reals, read at an index: the blocks' products of a kernel's body are sums over the
   contracted axis, as the host's are. -/
module

public import proofs.«01_k».proof.Proof.Ops

@[expose] public section

noncomputable section

namespace Cert.Mlp

open Idealize.ShloMosaic Idealize.ShloMosaic.ValueIdx

theorem zero2 : (![0, 0] : Fin 2 → ℕ) = fun _ => 0 := by ext a; fin_cases a <;> rfl
theorem zero3 : (![0, 0, 0] : Fin 3 → ℕ) = fun _ => 0 := by ext a; fin_cases a <;> rfl

variable {m n k : ℕ} {φ₁ φ₂ : FTy}

/-- The dimension numbers of a product of columns by columns. -/
abbrev dTN (wf : DotDims.WF (⟨2, ![k, m]⟩ : Shape) ⟨2, ![k, n]⟩ ⟨2, ![m, n]⟩ [0] [0] [1] [1] [] []) :
    DotDims (⟨2, ![k, m]⟩ : Shape) ⟨2, ![k, n]⟩ ⟨2, ![m, n]⟩ where
  lhsContracting := [0]
  rhsContracting := [0]
  lhsNonContracting := [1]
  rhsNonContracting := [1]
  lhsBatch := []
  rhsBatch := []
  wf := wf

theorem tn_at (x : FVec Ideal ⟨2, ![k, m]⟩ φ₁) (y : FVec Ideal ⟨2, ![k, n]⟩ φ₂)
    (wf : DotDims.WF (⟨2, ![k, m]⟩ : Shape) ⟨2, ![k, n]⟩ ⟨2, ![m, n]⟩ [0] [0] [1] [1] [] []) (i : Fin m) (j : Fin n) :
    matmul (dTN wf) none x y (constant ⟨2, ![m, n]⟩ .f32 0x00000000#32) (ix2 i j) = ∑ c, x (ix2 c i) * y (ix2 c j) := by
  refine (Ideal.matmul_constant_zero_apply (dTN wf) none x y (ix2 i j)).trans ?_
  refine Fintype.sum_equiv (contrEquiv1 (dTN wf) k rfl rfl) _ (fun c : Fin k => x (ix2 c i) * y (ix2 c j)) fun q => ?_
  congr 1
  · exact congrArg x (Shape.idx_ext₂ rfl rfl)
  · exact congrArg y (Shape.idx_ext₂ rfl rfl)

theorem nn_at (x : FVec Ideal ⟨2, ![m, k]⟩ φ₁) (y : FVec Ideal ⟨2, ![k, n]⟩ φ₂)
    (wf : DotDims.WF (⟨2, ![m, k]⟩ : Shape) ⟨2, ![k, n]⟩ ⟨2, ![m, n]⟩ [1] [0] [0] [1] [] []) (i : Fin m) (j : Fin n) :
    matmul (Fox.dNN wf) none x y (constant ⟨2, ![m, n]⟩ .f32 0x00000000#32) (ix2 i j) = ∑ c, x (ix2 i c) * y (ix2 c j) := by
  refine (Ideal.matmul_constant_zero_apply (Fox.dNN wf) none x y (ix2 i j)).trans ?_
  refine Fintype.sum_equiv (contrEquiv1 (Fox.dNN wf) k rfl rfl) _ (fun c : Fin k => x (ix2 i c) * y (ix2 c j)) fun q => ?_
  congr 1
  · exact congrArg x (Shape.idx_ext₂ rfl rfl)
  · exact congrArg y (Shape.idx_ext₂ rfl rfl)

theorem nt_at (x : FVec Ideal ⟨2, ![m, k]⟩ φ₁) (y : FVec Ideal ⟨2, ![n, k]⟩ φ₂)
    (wf : DotDims.WF (⟨2, ![m, k]⟩ : Shape) ⟨2, ![n, k]⟩ ⟨2, ![m, n]⟩ [1] [1] [0] [0] [] []) (i : Fin m) (j : Fin n) :
    matmul (Fox.dNT wf) none x y (constant ⟨2, ![m, n]⟩ .f32 0x00000000#32) (ix2 i j) = ∑ c, x (ix2 i c) * y (ix2 j c) := by
  refine (Ideal.matmul_constant_zero_apply (Fox.dNT wf) none x y (ix2 i j)).trans ?_
  refine Fintype.sum_equiv (contrEquiv1 (Fox.dNT wf) k rfl rfl) _ (fun c : Fin k => x (ix2 i c) * y (ix2 j c)) fun q => ?_
  congr 1
  · exact congrArg x (Shape.idx_ext₂ rfl rfl)
  · exact congrArg y (Shape.idx_ext₂ rfl rfl)

end Cert.Mlp

end
-- ==== Proof.DwDown.lean ====
/- The gradient of w_down: the columns of the activations by the columns of the gradient, block by block of rows of the result. -/
module

public import proofs.«01_k».proof.Proof.Mm
public import proofs.«01_k».proof.Defs
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Pipeline.ValueKit.Geometry

@[expose] public section

noncomputable section

namespace Cert.Mlp.DwDown

open Idealize.ShloMosaic Idealize.ShloMosaic.ValueIdx Idealize.ShloMosaic.TcCoe Idealize.SL Idealize.SL.Sem
open Cert.DwDownIdeal Cert.DwDownIdeal.Gen

theorem places : ∀ t : Fin cfg0.N, win0_0.index t = ![0, t.val] ∧ win0_1.index t = ![0, 0] ∧ win0_2.index t = ![t.val, 0] := by decide +kernel

/-- The block of the result from the blocks of the operands. -/
theorem out_at (x0 x1 : FVec Ideal ⟨2, ![2048, 1024]⟩ .bf16) (i j : Fin 1024) :
    (out0_2 (F := Ideal) x0 x1 : FVec Ideal ⟨2, ![1024, 1024]⟩ .bf16) (ix2 i j) = ∑ k : Fin 2048, x0 (ix2 k i) * x1 (ix2 k j) := by
  unfold out0_2
  rw [View.canon_unit_zero (h := zero2), View.ld_unit_zero (h := zero2), View.ld_unit_zero (h := zero2)]
  exact tn_at x0 x1 _ i j

section

variable (m : (k : Loc nD τ sig) → Buf (Elt Ideal) k) (c : Dev nD) (t : Fin cfg0.N)

abbrev a0 : FVec Ideal ⟨2, ![2048, 4096]⟩ .bf16 := m ((c : Thread nD τ).loc main_arg0)
abbrev a1 : FVec Ideal ⟨2, ![2048, 1024]⟩ .bf16 := m ((c : Thread nD τ).loc main_arg1)

theorem blk0 (i : Fin 2048) (j : Fin 1024) :
    (iblk m c 0 t : FVec Ideal ⟨2, ![2048, 1024]⟩ .bf16) (ix2 i j) = a0 m c (ix2 i ⟨t.val * 1024 + j.val, by have : t.val < 4 := t.isLt; omega⟩) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 1024) :
    (iblk m c 1 t : FVec Ideal ⟨2, ![2048, 1024]⟩ .bf16) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 4096]⟩ .bf16) (x1 : FVec Ideal ⟨2, ![2048, 1024]⟩ .bf16) (i : Fin 4096) (j : Fin 1024) :
    (Cert.DwDownRefIdeal.Read.val_main_v6 (F := Ideal) x0 x1 : FVec Ideal ⟨2, ![4096, 1024]⟩ .bf16) (ix2 i j) = ∑ k : Fin 2048, x0 (ix2 k i) * x1 (ix2 k j) := by
  show Cert.DwDownRefIdeal.Read.val_main_v5 (F := Ideal) x0 x1 (ix2 i j) = _
  refine (Cert.DwDownRefIdeal.Read.val_main_v5_apply (F := Ideal) x0 x1 _).trans ?_
  refine (Cert.DwDownRefIdeal.Read.val_main_v4_apply x0 x1 _).trans (Finset.sum_congr rfl fun k _ => ?_)
  refine (mul_comm _ _).trans (congrArg₂ (· * ·) ?_ ?_)
  · exact congrArg x0 (Shape.idx_ext₂ rfl rfl)
  · exact congrArg x1 (Shape.idx_ext₂ rfl rfl)

theorem arr : ((dats m 0 c).arrAt 2 cfg0.N : FVec Ideal ⟨2, ![4096, 1024]⟩ .bf16)
    = Cert.DwDownRefIdeal.Read.val_main_v6 (F := Ideal) (a0 m c) (a1 m c) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  have hp := (places t).2.2
  have ey : (win0_2.blk t).view.emb (ix2 i j) = ix2 (⟨t.val * 1024 + i.val, by have : t.val < 4 := t.isLt; omega⟩ : Fin 4096) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  exact congrArg₂ (· * ·) (blk0 m c t k i) (blk1 m c t k j)

end

/-- The two runs end with the same result. -/
theorem algebraic : algebraic_DwDownIdeal_DwDownRefIdeal (hDwDownIdeal := Cert.DwDownIdeal.Gen.facts) (hDwDownRefIdeal := Cert.DwDownRefIdeal.Gen.facts) := by
  intro m g m' g' _ hm
  refine ⟨fun c => Cert.DwDownRefIdeal.Read.val_main_v6 (F := Ideal) (a0 m c) (a1 m c), ?_, ?_⟩
  · refine (θ_run (Cert.DwDownIdeal.defs (F := Ideal)) _ _).mono (fun r h c => ?_) (Cert.DwDownIdeal.Value.run_blocks (F := Ideal) m g)
    exact ⟨(h c).1.trans (arr m c), (h c).2⟩
  · refine (θ_run (Cert.DwDownRefIdeal.defs (F := Ideal)) _ _).mono (fun r h c => ?_) (Cert.DwDownRefIdeal.Value.run (F := Ideal) m' g')
    obtain ⟨e0, e1⟩ := hm c
    refine ⟨(h c).1.trans ((Cert.DwDownRefIdeal.Read.val_main_v6_eq _ _).trans ?_), (h c).2⟩
    exact congrArg₂ (Cert.DwDownRefIdeal.Read.val_main_v6 (F := Ideal)) e0 e1

end Cert.Mlp.DwDown

end
-- ==== Proof.DwUp.lean ====
/- The gradient of w_up: the columns of the norm's result by the columns of the gradient, one block of columns of the
   result after another, each its own slab of the result. -/
module

public import proofs.«01_k».proof.Proof.Mm
public import proofs.«01_k».proof.Defs
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Pipeline.ValueKit.Geometry

@[expose] public section

noncomputable section

namespace Cert.Mlp.DwUp

open Idealize.ShloMosaic Idealize.ShloMosaic.ValueIdx Idealize.ShloMosaic.TcCoe Idealize.SL Idealize.SL.Sem
open Cert.DwUpIdeal Cert.DwUpIdeal.Gen

theorem places : ∀ t : Fin cfg0.N, win0_0.index t = ![0, 0] ∧ win0_1.index t = ![0, t.val] ∧ win0_2.index t = ![t.val, 0, 0] := by decide +kernel

/-- The block of the result from the blocks of the operands. -/
theorem out_at (x0 : FVec Ideal ⟨2, ![2048, 1024]⟩ .bf16) (x1 : FVec Ideal ⟨2, ![2048, 512]⟩ .bf16) (i : Fin 1024) (j : Fin 512) :
    (out0_2 (F := Ideal) x0 x1 : FVec Ideal ⟨3, ![1, 1024, 512]⟩ .bf16) (ix3 0 i j) = ∑ k : Fin 2048, x0 (ix2 k i) * x1 (ix2 k j) := by
  unfold out0_2
  rw [View.canon_unit_zero (h := zero3), View.ld_unit_zero (h := zero2), View.ld_unit_zero (h := zero2)]
  unfold k0_pay1
  refine (shapeCast_apply _ shapeCasts_S1024x512_S1x1024x512 (ix3 0 i j) (ix2 i j) ?_).trans ?_
  · rw [Shape.rowMajor_val_two, Shape.rowMajor_val_three]
    show i.val * 512 + j.val = (0 * 1024 + i.val) * 512 + j.val
    omega
  · exact tn_at x0 x1 _ i j

section

variable (m : (k : Loc nD τ sig) → Buf (Elt Ideal) k) (c : Dev nD) (t : Fin cfg0.N)

abbrev a0 : FVec Ideal ⟨2, ![2048, 1024]⟩ .bf16 := m ((c : Thread nD τ).loc main_arg0)
abbrev a1 : FVec Ideal ⟨2, ![2048, 4096]⟩ .bf16 := m ((c : Thread nD τ).loc main_arg1)

/-- The column of the whole gradient that a column of slab `b` is. -/
abbrev col (b : Fin 8) (j : Fin 512) : Fin 4096 := ⟨b.val * 512 + j.val, by omega⟩

theorem blk0 (i : Fin 2048) (j : Fin 1024) :
    (iblk m c 0 t : FVec Ideal ⟨2, ![2048, 1024]⟩ .bf16) (ix2 i j) = a0 m c (ix2 i j) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 512) :
    (iblk m c 1 t : FVec Ideal ⟨2, ![2048, 512]⟩ .bf16) (ix2 i j) = a1 m c (ix2 i (col ⟨t.val, t.isLt⟩ j)) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 1024]⟩ .bf16) (x1 : FVec Ideal ⟨2, ![2048, 4096]⟩ .bf16) (b : Fin 8) (i : Fin 1024) (j : Fin 512) :
    (Cert.DwUpRefIdeal.Read.val_main_v8 (F := Ideal) x0 x1 : FVec Ideal ⟨3, ![8, 1024, 512]⟩ .bf16) (ix3 b i j)
      = ∑ k : Fin 2048, x0 (ix2 k i) * x1 (ix2 k (col b j)) := by
  show Cert.DwUpRefIdeal.Read.val_main_v7 (F := Ideal) x0 x1 (ix3 b i j) = _
  refine (Cert.DwUpRefIdeal.Read.val_main_v7_apply (F := Ideal) x0 x1 _).trans ?_
  refine (Cert.DwUpRefIdeal.Read.val_main_v6_apply (F := Ideal) x0 x1 _).trans ?_
  refine (Cert.DwUpRefIdeal.Read.val_main_v5_apply (F := Ideal) x0 x1 _).trans ?_
  refine (Cert.DwUpRefIdeal.Read.val_main_v4_apply x0 x1 _).trans (Finset.sum_congr rfl fun k _ => ?_)
  refine (mul_comm _ _).trans (congrArg₂ (· * ·) ?_ ?_)
  · refine congrArg x0 (Shape.idx_ext₂ rfl ?_)
    show ((i.val * 8 + b.val) * 512 + j.val) / 4096 = i.val
    omega
  · refine congrArg x1 (Shape.idx_ext₂ rfl ?_)
    show ((i.val * 8 + b.val) * 512 + j.val) % 4096 = b.val * 512 + j.val
    omega

theorem arr : ((dats m 0 c).arrAt 2 cfg0.N : FVec Ideal ⟨3, ![8, 1024, 512]⟩ .bf16)
    = Cert.DwUpRefIdeal.Read.val_main_v8 (F := Ideal) (a0 m c) (a1 m c) := by
  refine (dats m 0 c).arrAt_eq_of_covers 2 _ (by decide +kernel) fun t hf y => ?_
  blk_simp
  obtain ⟨z, i, j, rfl⟩ : ∃ (z : Fin 1) (i : Fin 1024) (j : Fin 512), y = ix3 z i j := ⟨y 0, y 1, y 2, eq_ix3 y⟩
  obtain rfl : z = 0 := Subsingleton.elim _ _
  have hp := (places t).2.2
  have ey : (win0_2.blk t).view.emb (ix3 0 i j) = ix3 (⟨t.val, t.isLt⟩ : Fin 8) i j := by
    refine funext fun a => Fin.ext ?_
    fin_cases a
    all_goals blk_simp [hp]
  refine Eq.trans ?_ ((ref_at _ _ _ _ _).symm.trans (congrArg _ ey.symm))
  refine (congrFun (after0_2 m c t) _).trans ((out_at _ _ i j).trans (Finset.sum_congr rfl fun k _ => ?_))
  exact congrArg₂ (· * ·) (blk0 m c t k i) (blk1 m c t k j)

end

/-- The two runs end with the same result. -/
theorem algebraic : algebraic_DwUpIdeal_DwUpRefIdeal (hDwUpIdeal := Cert.DwUpIdeal.Gen.facts) (hDwUpRefIdeal := Cert.DwUpRefIdeal.Gen.facts) := by
  intro m g m' g' _ hm
  refine ⟨fun c => Cert.DwUpRefIdeal.Read.val_main_v8 (F := Ideal) (a0 m c) (a1 m c), ?_, ?_⟩
  · refine (θ_run (Cert.DwUpIdeal.defs (F := Ideal)) _ _).mono (fun r h c => ?_) (Cert.DwUpIdeal.Value.run_blocks (F := Ideal) m g)
    exact ⟨(h c).1.trans (arr m c), (h c).2⟩
  · refine (θ_run (Cert.DwUpRefIdeal.defs (F := Ideal)) _ _).mono (fun r h c => ?_) (Cert.DwUpRefIdeal.Value.run (F := Ideal) m' g')
    obtain ⟨e0, e1⟩ := hm c
    refine ⟨(h c).1.trans ((Cert.DwUpRefIdeal.Read.val_main_v8_eq _ _).trans ?_), (h c).2⟩
    exact congrArg₂ (Cert.DwUpRefIdeal.Read.val_main_v8 (F := Ideal)) e0 e1

end Cert.Mlp.DwUp

end
-- ==== Proof.Norm.lean ====
/- The gradient of an RMS norm of rows of 1024, over the extended reals: the rows' functions that the kernel's body and the
   host compute alike, and the layout operations read at an index. -/
module

public import proofs.«01_k».proof.Proof.Mm

@[expose] public section

noncomputable section

namespace Cert.Mlp

open Idealize.ShloMosaic Idealize.ShloMosaic.ValueIdx

/-! ## A row's functions -/

section Row

/-- The mean of the squares and the small constant, -/
def rowE (x : Fin 1024 → EReal) : EReal := Ideal.div (∑ k, x k * x k) (Ideal.ofBits .f32 0x44800000#32) + Ideal.ofBits .f32 0x358637BD#32
/-- the reciprocal of its root, -/
def rowR (x : Fin 1024 → EReal) : EReal := Ideal.rsqrt (rowE x)
/-- that one's derivative, -/
def rowP (x : Fin 1024 → EReal) : EReal := Ideal.ofBits .f32 0xBF000000#32 * Ideal.div (rowR x) (rowE x)
/-- what the mean's cotangent is, for the cotangent `y` of the normed row, -/
def rowS (x y : Fin 1024 → EReal) : EReal := Ideal.div ((∑ k, x k * y k) * rowP x) (Ideal.ofBits .f32 0x44800000#32)
/-- and the row's own. -/
def rowD (x y : Fin 1024 → EReal) (j : Fin 1024) : EReal := y j * rowR x + x j * rowS x y + rowS x y * x j

end Row

/-- Row `i` of an array. -/
abbrev rowOf {n : ℕ} (x : FVec Ideal ⟨2, ![n, 1024]⟩ .f32) (i : Fin n) : Fin 1024 → EReal := fun k => x (ix2 i k)

/-- Rows by the rows of an array whose 4096 columns lie in eight slabs. -/
def slabSum {n : ℕ} (x : FVec Ideal ⟨2, ![n, 4096]⟩ .bf16) (w : FVec Ideal ⟨3, ![8, 1024, 512]⟩ .bf16) (i : Fin n) (j : Fin 1024) : EReal :=
  ∑ k : Fin 4096, x (ix2 i k) * w (ix3 (⟨k.val / 512, by omega⟩ : Fin 8) j (⟨k.val % 512, by omega⟩ : Fin 512))

/-! ## Layout -/

section Layout

variable {a b : ℕ} {α : Type}

theorem bcCol_at (x : (⟨2, ![a, 1]⟩ : Shape).Idx → α) (h : (⟨2, ![a, 1]⟩ : Shape).Broadcasts ⟨2, ![a, b]⟩) (i : Fin a) (j : Fin b) :
    broadcastTo ⟨2, ![a, b]⟩ x h (ix2 i j) = x (ix2 i 0) := by
  refine broadcastTo_apply x h (ix2 i j) (ix2 i 0) fun c => ?_
  match c with
  | ⟨0, _⟩ =>
    show i.val = if a = 1 then 0 else i.val
    split_ifs with h1
    · have := i.isLt; omega
    · rfl
  | ⟨1, _⟩ => rfl

theorem bcRow_at (x : (⟨2, ![1, b]⟩ : Shape).Idx → α) (h : (⟨2, ![1, b]⟩ : Shape).Broadcasts ⟨2, ![a, b]⟩) (i : Fin a) (j : Fin b) :
    broadcastTo ⟨2, ![a, b]⟩ x h (ix2 i j) = x (ix2 0 j) := by
  refine broadcastTo_apply x h (ix2 i j) (ix2 0 j) fun c => ?_
  match c with
  | ⟨0, _⟩ => rfl
  | ⟨1, _⟩ =>
    show j.val = if b = 1 then 0 else j.val
    split_ifs with h1
    · have := j.isLt; omega
    · rfl

theorem sumCols_at (x : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ x 0x00000000#32 h hφ hacc (ix1 i) = ∑ j, x (ix2 i j) := by
  rw [Ideal.multiReduction_add_single]
  refine Finset.sum_congr rfl fun j _ => congrArg x (Shape.idx_ext₂ ?_ ?_)
  · exact (Shape.Reduces.lift_val h _ _ _).trans rfl
  · exact (Shape.Reduces.lift_val h _ _ _).trans rfl

theorem sumRows_at (x : FVec Ideal ⟨2, ![a, b]⟩ .f32) (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ x 0x00000000#32 h hφ hacc (ix1 j) = ∑ i, x (ix2 i j) := by
  rw [Ideal.multiReduction_add_single]
  refine Finset.sum_congr rfl fun i _ => congrArg x (Shape.idx_ext₂ ?_ ?_)
  · exact (Shape.Reduces.lift_val h _ _ _).trans rfl
  · exact (Shape.Reduces.lift_val h _ _ _).trans rfl

theorem col_at (x : (⟨1, ![a]⟩ : Shape).Idx → α) (h : (⟨1, ![a]⟩ : Shape).ShapeCasts ⟨2, ![a, 1]⟩) (i : Fin a) (j : Fin 1) :
    shapeCast ⟨2, ![a, 1]⟩ x h (ix2 i j) = x (ix1 i) := by
  refine shapeCast_apply x h (ix2 i j) (ix1 i) ?_
  rw [Shape.rowMajor_val_two, Shape.rowMajor_val_one]
  show i.val = i.val * 1 + j.val
  omega

theorem row_at (x : (⟨1, ![a]⟩ : Shape).Idx → α) (h : (⟨1, ![a]⟩ : Shape).ShapeCasts ⟨2, ![1, a]⟩) (i : Fin 1) (j : Fin a) :
    shapeCast ⟨2, ![1, a]⟩ x h (ix2 i j) = x (ix1 j) := by
  rw [shapeCast_a_1a_apply]

theorem slab_at (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 0 i j) := by
  refine shapeCast_apply x h (ix2 i j) (ix3 0 i j) ?_
  rw [Shape.rowMajor_val_two, Shape.rowMajor_val_three]
  show (0 * a + i.val) * b + j.val = i.val * b + j.val
  rw [Nat.zero_mul, Nat.zero_add]

theorem store_at {e : EltTy} {w : (⟨2, ![a, b]⟩ : Shape).Idx → Elt Ideal e} {Ls : List (View.Piece (Elt Ideal) ⟨2, ![a, b]⟩ e)}
    {inb : ∀ c, (![0, 0] : Fin 2 → ℕ) c + (⟨2, ![a, b]⟩ : Shape).size c ≤ (⟨2, ![a, b]⟩ : Shape).size c} (y : (⟨2, ![a, b]⟩ : Shape).Idx) {v : Elt Ideal e} (hw : w y = v) :
    View.canon ((⟨Rect.unit (s := ⟨2, ![a, b]⟩) ![0, 0] (⟨2, ![a, b]⟩ : Shape).size inb, w⟩ : View.Piece (Elt Ideal) ⟨2, ![a, b]⟩ e) :: Ls) y = v :=
  (congrFun (View.canon_cons_unit_zero zero2 inb w Ls) y).trans hw

end Layout

/-! ## Sums by blocks -/

/-- A sum over 4096 is the sum of the sums over its eight blocks of 512, added from the first. -/
theorem sum_eight (F : Fin 4096 → EReal) (B : Fin 8 → EReal) (hB : ∀ b : Fin 8, B b = ∑ c : Fin 512, F ⟨b.val * 512 + c.val, by omega⟩) :
    B 0 + B 1 + B 2 + B 3 + B 4 + B 5 + B 6 + B 7 = ∑ k, F k := by
  have h : ∀ n : ℕ, (hn : n < 8) → ∑ k ∈ Finset.range (n * 512 + 512), (if h : k < 4096 then F ⟨k, h⟩ else 0)
      = ∑ k ∈ Finset.range (n * 512), (if h : k < 4096 then F ⟨k, h⟩ else 0) + B ⟨n, hn⟩ := fun n hn => by
    rw [Finset.sum_range_add, hB, Finset.sum_range (n := 512)]
    refine congrArg _ (Finset.sum_congr rfl fun c _ => dif_pos ?_)
    omega
  rw [Finset.sum_fin_eq_sum_range]
  refine Eq.symm ?_
  refine (h 7 (by decide)).trans (congrArg (· + B 7) ?_)
  refine (h 6 (by decide)).trans (congrArg (· + B 6) ?_)
  refine (h 5 (by decide)).trans (congrArg (· + B 5) ?_)
  refine (h 4 (by decide)).trans (congrArg (· + B 4) ?_)
  refine (h 3 (by decide)).trans (congrArg (· + B 3) ?_)
  refine (h 2 (by decide)).trans (congrArg (· + B 2) ?_)
  refine (h 1 (by decide)).trans (congrArg (· + B 1) ?_)
  refine (h 0 (by decide)).trans ?_
  rw [Nat.zero_mul, Finset.sum_range_zero, zero_add]; rfl

/-- A family over the rows of an array of 2048, continued by zero, -/
def rows (f : Fin 2048 → EReal) (k : ℕ) : EReal := if h : k < 2048 then f ⟨k, h⟩ else 0

/-- summed over all, -/
theorem rows_all (f : Fin 2048 → EReal) : ∑ k ∈ Finset.range 2048, rows f k = ∑ i, f i := (Finset.sum_fin_eq_sum_range f).symm

/-- and one block of 512 rows further. -/
theorem rows_step (f : Fin 2048 → EReal) (n : ℕ) (hn : n < 4) (g : Fin 512 → EReal) (hg : ∀ i : Fin 512, g i = f ⟨n * 512 + i.val, by omega⟩) :
    ∑ k ∈ Finset.range (n * 512), rows f k + ∑ i, g i = ∑ k ∈ Finset.range ((n + 1) * 512), rows f k := by
  rw [show (n + 1) * 512 = n * 512 + 512 by ring, Finset.sum_range_add, Finset.sum_range (n := 512)]
  refine congrArg _ (Finset.sum_congr rfl fun i _ => (hg i).trans ?_)
  unfold rows
  rw [dif_pos (by omega)]

end Cert.Mlp

end
-- ==== Proof.DhPay.lean ====
/- What the body of the gradient of the MLP's input computes of its blocks, read at an index. -/
module

public import proofs.«01_k».proof.Proof.Norm
public import proofs.«01_k».proof.Proof.Gen.DhIdeal.Skeleton

@[expose] public section

noncomputable section

namespace Cert.Mlp.Dh

open Idealize.ShloMosaic Idealize.ShloMosaic.ValueIdx
open Cert.DhIdeal Cert.DhIdeal.Gen

/-- One block's product, by a load of the gradient's columns and one of the weights' slab. -/
def part (v : FVec Ideal ⟨2, ![512, 512]⟩ .bf16) (w : FVec Ideal ⟨3, ![1, 1024, 512]⟩ .bf16) (i : Fin 512) (j : Fin 1024) : EReal :=
  ∑ k : Fin 512, v (ix2 i k) * w (ix3 0 j k)

theorem part_at (v : FVec Ideal ⟨2, ![512, 512]⟩ .bf16) (w : FVec Ideal ⟨3, ![1, 1024, 512]⟩ .bf16) (i : Fin 512) (j : Fin 1024) :
    matmul (F := Ideal) dot_S512x512_S1024x512_S512x1024_1_1_0_0_n_n none v (shapeCast S1024x512 w shapeCasts_S1x1024x512_S1024x512 : FVec Ideal S1024x512 .bf16)
      (constant S512x1024 .f32 0x00000000#32) (ix2 i j) = part v w i j :=
  (nt_at v _ _ i j).trans (Finset.sum_congr rfl fun k _ => congrArg (v (ix2 i k) * ·) (slab_at w _ j k))

theorem pay6_at (v0 v4 v9 v14 v19 : FVec Ideal ⟨2, ![512, 512]⟩ .bf16) (w0 w5 w10 w15 w20 : FVec Ideal ⟨3, ![1, 1024, 512]⟩ .bf16) (i : Fin 512) (j : Fin 1024) :
    k0_pay6 (F := Ideal) v0 w0 v4 w5 v9 w10 v14 w15 v19 w20 (ix2 i j)
      = part v0 w0 i j + part v4 w5 i j + part v9 w10 i j + part v14 w15 i j + part v19 w20 i j :=
  congrArg₂ (· + ·) (congrArg₂ (· + ·) (congrArg₂ (· + ·) (congrArg₂ (· + ·) (part_at v0 w0 i j) (part_at v4 w5 i j)) (part_at v9 w10 i j)) (part_at v14 w15 i j))
    (part_at v19 w20 i j)

theorem pay7_at (y : FVec Ideal ⟨2, ![512, 1024]⟩ .f32) (v0 v4 v9 : FVec Ideal ⟨2, ![512, 512]⟩ .bf16) (w0 w5 w10 : FVec Ideal ⟨3, ![1, 1024, 512]⟩ .bf16)
    (i : Fin 512) (j : Fin 1024) :
    k0_pay7 (F := Ideal) y v0 w0 v4 w5 v9 w10 (ix2 i j) = y (ix2 i j) + part v0 w0 i j + part v4 w5 i j + part v9 w10 i j :=
  congrArg₂ (· + ·) (congrArg₂ (· + ·) (congrArg₂ (· + ·) rfl (part_at v0 w0 i j)) (part_at v4 w5 i j)) (part_at v9 w10 i j)

/-! ## The rows' functions -/

section

variable (x : FVec Ideal ⟨2, ![512, 1024]⟩ .f32)

theorem pay8_at (i : Fin 512) : k0_pay8 (F := Ideal) x (ix2 i 0) = rowE (rowOf x i) :=
  congrArg (fun z => Ideal.div z (Ideal.ofBits .f32 0x44800000#32) + Ideal.ofBits .f32 0x358637BD#32) ((col_at _ _ i 0).trans (sumCols_at _ _ _ _ i))

theorem pay9_at (i : Fin 512) : k0_pay9 (F := Ideal) x (ix2 i 0) = rowR (rowOf x i) := congrArg Ideal.rsqrt (pay8_at x i)

theorem pay10_at (i : Fin 512) : k0_pay10 (F := Ideal) x (ix2 i 0) = rowP (rowOf x i) :=
  congrArg₂ (fun a b => Ideal.ofBits .f32 0xBF000000#32 * Ideal.div a b) (pay9_at x i) (pay8_at x i)

theorem pay1_at (r p : FVec Ideal ⟨2, ![512, 1]⟩ .f32) (y z : FVec Ideal ⟨2, ![512, 1024]⟩ .f32) (i : Fin 512) (j : Fin 1024) (Y : Fin 1024 → EReal)
    (hr : r (ix2 i 0) = rowR (rowOf x i)) (hp : p (ix2 i 0) = rowP (rowOf x i)) (hy : ∀ k, y (ix2 i k) = Y k) (hz : ∀ k, z (ix2 i k) = x (ix2 i k) * Y k) :
    k0_pay1 (F := Ideal) x r p y z (ix2 i j) = rowD (rowOf x i) Y j := by
  have e : multiReduction (F := Ideal) .add [1] S512 z 0x00000000#32 reduces_S512x1024_S512 (.inl rfl) rfl (ix1 i) = ∑ k, x (ix2 i k) * Y k :=
    (sumCols_at z _ _ _ i).trans (Finset.sum_congr rfl fun k _ => hz k)
  have s : ∀ w : FVec Ideal S512x1 .f32, w (ix2 i 0) = rowS (rowOf x i) Y →
      broadcastTo S512x1024 (shapeCast S512x1 (multiReduction (F := Ideal) .add [1] S512 w 0x00000000#32 reduces_S512x1_S512 (.inl rfl) rfl) shapeCasts_S512_S512x1 : FVec Ideal S512x1 .f32)
        broadcasts_S512x1_S512x1024 (ix2 i j) = rowS (rowOf x i) Y := fun w hw =>
    (bcCol_at _ _ i j).trans ((col_at _ _ i 0).trans ((sumCols_at _ _ _ _ i).trans ((Fintype.sum_unique _).trans hw)))
  have s' := s (divf (mulf (shapeCast S512x1 (multiReduction (F := Ideal) .add [1] S512 z 0x00000000#32 reduces_S512x1024_S512 (.inl rfl) rfl) shapeCasts_S512_S512x1) p)
    (broadcast S512x1 (Scalar.ofBits (F := Ideal) .f32 0x44800000#32))) (congrArg₂ (fun a b => Ideal.div (a * b) (Ideal.ofBits .f32 0x44800000#32)) ((col_at _ shapeCasts_S512_S512x1 i 0).trans e) hp)
  exact congrArg₂ (· + ·) (congrArg₂ (· + ·) (congrArg₂ (· * ·) (hy j) ((bcCol_at _ _ i j).trans hr)) (congrArg (x (ix2 i j) * ·) s')) (congrArg (· * x (ix2 i j)) s')

end

section

variable (x : FVec Ideal ⟨2, ![512, 1024]⟩ .f32) (y : FVec Ideal ⟨2, ![512, 1024]⟩ .f32) (v0 v4 v9 : FVec Ideal ⟨2, ![512, 512]⟩ .bf16)
  (w0 w5 w10 : FVec Ideal ⟨3, ![1, 1024, 512]⟩ .bf16) (g : FVec Ideal ⟨2, ![1, 1024]⟩ .f32) (Y : Fin 512 → Fin 1024 → EReal)
  (hY : ∀ i j, k0_pay7 (F := Ideal) y v0 w0 v4 w5 v9 w10 (ix2 i j) = Y i j)
include hY

theorem pay12_at (i : Fin 512) (j : Fin 1024) : k0_pay12 (F := Ideal) y v0 w0 v4 w5 v9 w10 g (ix2 i j) = Y i j * g (ix2 0 j) :=
  congrArg₂ (· * ·) (hY i j) ((bcRow_at _ _ i j).trans (congrFun (shapeCast_self g _) _))

theorem pay13_at (i : Fin 512) (j : Fin 1024) : k0_pay13 (F := Ideal) y v0 w0 v4 w5 v9 w10 x g (ix2 i j) = x (ix2 i j) * (Y i j * g (ix2 0 j)) :=
  congrArg (x (ix2 i j) * ·) (pay12_at y v0 v4 v9 w0 w5 w10 g Y hY i j)

theorem pay11_at (j : Fin 1024) : k0_pay11 (F := Ideal) y v0 w0 v4 w5 v9 w10 x (ix2 0 j) = ∑ i, x (ix2 i j) * rowR (rowOf x i) * Y i j :=
  (row_at _ _ 0 j).trans ((sumRows_at _ _ _ _ j).trans (Finset.sum_congr rfl fun i _ =>
    congrArg₂ (· * ·) (congrArg (x (ix2 i j) * ·) ((bcCol_at _ _ i j).trans (pay9_at x i))) (hY i j)))

/-- The gradient of the input, without the residual's. -/
theorem dh_at (i : Fin 512) (j : Fin 1024) :
    k0_pay1 (F := Ideal) x (k0_pay9 x) (k0_pay10 x) (k0_pay12 y v0 w0 v4 w5 v9 w10 g) (k0_pay13 y v0 w0 v4 w5 v9 w10 x g) (ix2 i j)
      = rowD (rowOf x i) (fun k => Y i k * g (ix2 0 k)) j :=
  pay1_at x _ _ _ _ i j _ (pay9_at x i) (pay10_at x i) (fun k => pay12_at y v0 v4 v9 w0 w5 w10 g Y hY i k) fun k => pay13_at x y v0 v4 v9 w0 w5 w10 g Y hY i k

end

/-! ## From the loads -/

/-- A load of block `b` of the gradient's columns … -/
def LdV (d : FVec Ideal ⟨2, ![512, 4096]⟩ .bf16) (v : FVec Ideal ⟨2, ![512, 512]⟩ .bf16) (b : Fin 8) : Prop :=
  ∀ (i k : Fin 512), v (ix2 i k) = d (ix2 i ⟨b.val * 512 + k.val, by omega⟩)

/-- … and of slab `b` of the weights. -/
def LdW (w : FVec Ideal ⟨3, ![8, 1024, 512]⟩ .bf16) (u : FVec Ideal ⟨3, ![1, 1024, 512]⟩ .bf16) (b : Fin 8) : Prop :=
  ∀ (j : Fin 1024) (k : Fin 512), u (ix3 0 j k) = w (ix3 b j k)

section

variable {d : FVec Ideal ⟨2, ![512, 4096]⟩ .bf16} {w : FVec Ideal ⟨3, ![8, 1024, 512]⟩ .bf16}

theorem part_of {v : FVec Ideal ⟨2, ![512, 512]⟩ .bf16} {u : FVec Ideal ⟨3, ![1, 1024, 512]⟩ .bf16} {b : Fin 8} (hv : LdV d v b) (hu : LdW w u b)
    (i : Fin 512) (j : Fin 1024) : part v u i j = ∑ k : Fin 512,
      (fun k : Fin 4096 => d (ix2 i k) * w (ix3 (⟨k.val / 512, by omega⟩ : Fin 8) j (⟨k.val % 512, by omega⟩ : Fin 512))) ⟨b.val * 512 + k.val, by omega⟩ :=
  Finset.sum_congr rfl fun k _ => congrArg₂ (· * ·) (hv i k) ((hu j k).trans (congrArg w (funext fun a => Fin.ext (by
    match a with
    | 0 => show b.val = (b.val * 512 + k.val) / 512; omega
    | 1 => rfl
    | 2 => show k.val = (b.val * 512 + k.val) % 512; omega))))

variable {v0 v1 v2 v3 v4 v5 v6 v7 : FVec Ideal ⟨2, ![512, 512]⟩ .bf16} {u0 u1 u2 u3 u4 u5 u6 u7 : FVec Ideal ⟨3, ![1, 1024, 512]⟩ .bf16}
  (hv0 : LdV d v0 0) (hu0 : LdW w u0 0) (hv1 : LdV d v1 1) (hu1 : LdW w u1 1) (hv2 : LdV d v2 2) (hu2 : LdW w u2 2) (hv3 : LdV d v3 3) (hu3 : LdW w u3 3)
  (hv4 : LdV d v4 4) (hu4 : LdW w u4 4) (hv5 : LdV d v5 5) (hu5 : LdW w u5 5) (hv6 : LdV d v6 6) (hu6 : LdW w u6 6) (hv7 : LdV d v7 7) (hu7 : LdW w u7 7)
include hv0 hu0 hv1 hu1 hv2 hu2 hv3 hu3 hv4 hu4 hv5 hu5 hv6 hu6 hv7 hu7

/-- The cotangent of the normed rows, from the eight loads. -/
theorem grad_at (i : Fin 512) (j : Fin 1024) :
    k0_pay7 (F := Ideal) (k0_pay6 v0 u0 v1 u1 v2 u2 v3 u3 v4 u4) v5 u5 v6 u6 v7 u7 (ix2 i j) = slabSum d w i j := by
  rw [pay7_at, pay6_at, part_of hv0 hu0, part_of hv1 hu1, part_of hv2 hu2, part_of hv3 hu3, part_of hv4 hu4, part_of hv5 hu5, part_of hv6 hu6, part_of hv7 hu7]
  exact sum_eight _ (fun b => ∑ k : Fin 512, (fun k : Fin 4096 => d (ix2 i k) * w (ix3 (⟨k.val / 512, by omega⟩ : Fin 8) j (⟨k.val % 512, by omega⟩ : Fin 512)))
    ⟨b.val * 512 + k.val, by omega⟩) fun b => rfl

variable {x x' e e' : FVec Ideal ⟨2, ![512, 1024]⟩ .f32} {g g' : FVec Ideal ⟨2, ![1, 1024]⟩ .f32} (hx : x' = x) (hg : g' = g) (he : e' = e)

include hx hg he in
/-- What is stored for the input's gradient; -/
theorem stored_dh (i : Fin 512) (j : Fin 1024) :
    k0_pay2 (F := Ideal) x' (k0_pay9 x') (k0_pay10 x') (k0_pay12 (k0_pay6 v0 u0 v1 u1 v2 u2 v3 u3 v4 u4) v5 u5 v6 u6 v7 u7 g')
        (k0_pay13 (k0_pay6 v0 u0 v1 u1 v2 u2 v3 u3 v4 u4) v5 u5 v6 u6 v7 u7 x' g') e' (ix2 i j)
      = e (ix2 i j) + rowD (rowOf x i) (fun k => slabSum d w i k * g (ix2 0 k)) j := by
  subst hx hg he
  exact congrArg (e' (ix2 i j) + ·) (dh_at x' _ v5 v6 v7 u5 u6 u7 g' _ (fun i j => grad_at hv0 hu0 hv1 hu1 hv2 hu2 hv3 hu3 hv4 hu4 hv5 hu5 hv6 hu6 hv7 hu7 i j) i j)

include hx in
/-- and what is added to the gain's. -/
theorem stored_dg {z : FVec Ideal ⟨2, ![1, 1024]⟩ .f32} {y : EReal} (j : Fin 1024) (hz : z (ix2 0 j) = y) :
    k0_pay5 (F := Ideal) (k0_pay11 (k0_pay6 v0 u0 v1 u1 v2 u2 v3 u3 v4 u4) v5 u5 v6 u6 v7 u7 x') z (ix2 0 j)
      = y + ∑ i, x (ix2 i j) * rowR (rowOf x i) * slabSum d w i j := by
  subst hx
  exact congrArg₂ (· + ·) ((congrFun (shapeCast_self z _) _).trans hz)
    (pay11_at x' _ v5 v6 v7 u5 u6 u7 _ (fun i j => grad_at hv0 hu0 hv1 hu1 hv2 hu2 hv3 hu3 hv4 hu4 hv5 hu5 hv6 hu6 hv7 hu7 i j) j)

end

end Cert.Mlp.Dh

end
-- ==== Proof.DhRun.lean ====
/- What the body of the gradient of the MLP's input leaves in its results' buffers, at the first block of rows and at a later one. -/
module

public import proofs.«01_k».proof.Proof.DhPay
public import proofs.«01_k».proof.Proof.Loads
public import proofs.«01_k».proof.Proof.Gen.DhIdeal.Frame

@[expose] public section

noncomputable section

namespace Cert.Mlp.Dh

open Idealize.ShloMosaic Idealize.ShloMosaic.ValueIdx
open Cert.DhIdeal Cert.DhIdeal.Gen

section

variable {sig : RefSig} {κ : Kind} {sp : Space}

theorem ldV (b : Fin 8) {o : ℕ} (ho : o = b.val * 512) {m : Memref sig κ sp ⟨2, ![512, 4096]⟩ .bf16} {h : m.IsWhole} {x : FVec Ideal ⟨2, ![512, 4096]⟩ .bf16}
    {inb : ∀ a, (![0, o] : Fin 2 → ℕ) a + (⟨2, ![512, 512]⟩ : Shape).size a ≤ (⟨2, ![512, 4096]⟩ : Shape).size a} :
    LdV x (View.readAt (Elt Ideal) m.view (Rect.unit (s := ⟨2, ![512, 4096]⟩) ![0, o] (⟨2, ![512, 512]⟩ : Shape).size inb).toLoadRect (h.unread x)) b := fun i k => by
  subst ho
  rw [View.readAt_eq_ld, h.read_unread]
  refine congrArg x (Shape.idx_ext₂ ?_ ?_)
  · show 0 + 1 * i.val = i.val; omega
  · show b.val * 512 + 1 * k.val = b.val * 512 + k.val; omega

theorem ldW (b : Fin 8) {o : ℕ} (ho : o = b.val) {m : Memref sig κ sp ⟨3, ![8, 1024, 512]⟩ .bf16} {h : m.IsWhole} {x : FVec Ideal ⟨3, ![8, 1024, 512]⟩ .bf16}
    {inb : ∀ a, (![o, 0, 0] : Fin 3 → ℕ) a + (⟨3, ![1, 1024, 512]⟩ : Shape).size a ≤ (⟨3, ![8, 1024, 512]⟩ : Shape).size a} :
    LdW x (View.readAt (Elt Ideal) m.view (Rect.unit (s := ⟨3, ![8, 1024, 512]⟩) ![o, 0, 0] (⟨3, ![1, 1024, 512]⟩ : Shape).size inb).toLoadRect (h.unread x)) b := fun j k => by
  subst ho
  rw [View.readAt_eq_ld, h.read_unread]
  refine congrArg x (funext fun a => Fin.ext ?_)
  match a with
  | 0 => show b.val + 1 * 0 = b.val; omega
  | 1 => show 0 + 1 * j.val = j.val; omega
  | 2 => show 0 + 1 * k.val = k.val; omega

end

variable {c : Dev nD} {i : grid0.Coords} {arg1 : Memref sig .tc .vmem S512x4096 .bf16} {harg1 : arg1.IsWhole} {arg2 : Memref sig .tc .vmem S8x1024x512 .bf16} {harg2 : arg2.IsWhole}
  {arg3 : Memref sig .tc .vmem S512x1024 .f32} {harg3 : arg3.IsWhole} {arg4 : Memref sig .tc .vmem S1x1024 .f32} {harg4 : arg4.IsWhole}
  {arg5 : Memref sig .tc .vmem S512x1024 .f32} {harg5 : arg5.IsWhole} {arg6 : Memref sig .tc .vmem S512x1024 .f32} {harg6 : arg6.IsWhole}
  {arg7 : Memref sig .tc .vmem S1x1024 .f32} {harg7 : arg7.IsWhole} {arg8 : Memref sig .tc .vmem S512x1024 .bf16} {harg8 : arg8.IsWhole}
  {x0 : Vec Ideal S512x4096 .bf16} {x1 : Vec Ideal S8x1024x512 .bf16} {x2 : Vec Ideal S512x1024 .f32} {x3 : Vec Ideal S1x1024 .f32} {x4 : Vec Ideal S512x1024 .f32} {xo6 : Vec Ideal S1x1024 .f32}

/-- A block's gradient. -/
abbrev dhBlk (x0 : FVec Ideal ⟨2, ![512, 4096]⟩ .bf16) (x1 : FVec Ideal ⟨3, ![8, 1024, 512]⟩ .bf16) (x2 : FVec Ideal ⟨2, ![512, 1024]⟩ .f32) (x3 : FVec Ideal ⟨2, ![1, 1024]⟩ .f32)
    (x4 : FVec Ideal ⟨2, ![512, 1024]⟩ .f32) (r : Fin 512) (j : Fin 1024) : EReal :=
  x4 (ix2 r j) + rowD (rowOf x2 r) (fun k => slabSum x0 x1 r k * x3 (ix2 0 k)) j

/-- A row's part of the gain's gradient, … -/
abbrev dgRow {n : ℕ} (x0 : FVec Ideal ⟨2, ![n, 4096]⟩ .bf16) (x1 : FVec Ideal ⟨3, ![8, 1024, 512]⟩ .bf16) (x2 : FVec Ideal ⟨2, ![n, 1024]⟩ .f32) (j : Fin 1024)
    (r : Fin n) : EReal :=
  x2 (ix2 r j) * rowR (rowOf x2 r) * slabSum x0 x1 r j

/-- … and a block's. -/
abbrev dgBlk (x0 : FVec Ideal ⟨2, ![512, 4096]⟩ .bf16) (x1 : FVec Ideal ⟨3, ![8, 1024, 512]⟩ .bf16) (x2 : FVec Ideal ⟨2, ![512, 1024]⟩ .f32) (j : Fin 1024) : EReal :=
  ∑ r, dgRow x0 x1 x2 j r

theorem outA5 {hc0 : cond0_0 i} (r : Fin 512) (j : Fin 1024) :
    out0_A_5 (F := Ideal) c i arg1 harg1 arg2 harg2 arg3 harg3 arg4 harg4 arg5 harg5 arg6 harg6 arg7 harg7 arg8 harg8 hc0 x0 x1 x2 x3 x4 (ix2 r j) = dhBlk x0 x1 x2 x3 x4 r j := by
  rw [out0_A_5, View.read_writes_junk_eq_canon]
  exact store_at _ (stored_dh (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at Fox.load_at Fox.load_at r j)

theorem outA7 {hc0 : cond0_0 i} (r : Fin 512) (j : Fin 1024) :
    out0_A_7 (F := Ideal) c i arg1 harg1 arg2 harg2 arg3 harg3 arg4 harg4 arg5 harg5 arg6 harg6 arg7 harg7 arg8 harg8 hc0 x0 x1 x2 x3 x4 (ix2 r j) = dhBlk x0 x1 x2 x3 x4 r j := by
  rw [out0_A_7, View.read_writes_junk_eq_canon]
  exact store_at _ (stored_dh (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at Fox.load_at Fox.load_at r j)

theorem outA6 {hc0 : cond0_0 i} (j : Fin 1024) :
    out0_A_6 (F := Ideal) c i arg1 harg1 arg2 harg2 arg3 harg3 arg4 harg4 arg5 harg5 arg6 harg6 arg7 harg7 arg8 harg8 hc0 x0 x1 x2 x3 x4 (ix2 0 j) = 0 + dgBlk x0 x1 x2 j := by
  rw [out0_A_6, View.read_writes_junk_eq_canon]
  exact store_at _ (stored_dg (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at j ((congrFun (Fox.reload.trans Fox.stored) _).trans Ideal.ofBits_zero_f32))

theorem outB5 {hc0 : ¬ cond0_0 i} (r : Fin 512) (j : Fin 1024) :
    out0_B_5 (F := Ideal) c i arg1 harg1 arg2 harg2 arg3 harg3 arg4 harg4 arg5 harg5 arg6 harg6 arg7 harg7 arg8 harg8 hc0 x0 x1 x2 x3 x4 xo6 (ix2 r j) = dhBlk x0 x1 x2 x3 x4 r j := by
  rw [out0_B_5, View.read_writes_junk_eq_canon]
  exact store_at _ (stored_dh (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at Fox.load_at Fox.load_at r j)

theorem outB7 {hc0 : ¬ cond0_0 i} (r : Fin 512) (j : Fin 1024) :
    out0_B_7 (F := Ideal) c i arg1 harg1 arg2 harg2 arg3 harg3 arg4 harg4 arg5 harg5 arg6 harg6 arg7 harg7 arg8 harg8 hc0 x0 x1 x2 x3 x4 xo6 (ix2 r j) = dhBlk x0 x1 x2 x3 x4 r j := by
  rw [out0_B_7, View.read_writes_junk_eq_canon]
  exact store_at _ (stored_dh (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at Fox.load_at Fox.load_at r j)

theorem outB6 {hc0 : ¬ cond0_0 i} (j : Fin 1024) :
    out0_B_6 (F := Ideal) c i arg1 harg1 arg2 harg2 arg3 harg3 arg4 harg4 arg5 harg5 arg6 harg6 arg7 harg7 arg8 harg8 hc0 x0 x1 x2 x3 x4 xo6 (ix2 0 j) = xo6 (ix2 0 j) + dgBlk x0 x1 x2 j := by
  rw [out0_B_6, View.read_writes_junk_eq_canon]
  exact store_at _ (stored_dg (ldV 0 rfl) (ldW 0 rfl) (ldV 1 rfl) (ldW 1 rfl) (ldV 2 rfl) (ldW 2 rfl) (ldV 3 rfl) (ldW 3 rfl) (ldV 4 rfl) (ldW 4 rfl) (ldV 5 rfl) (ldW 5 rfl) (ldV 6 rfl) (ldW 6 rfl) (ldV 7 rfl) (ldW 7 rfl) Fox.load_at j (congrFun Fox.load_at _))

end Cert.Mlp.Dh

end
-- ==== Proof.DhRef.lean ====
/- The host's gradient of the MLP's input, read at an index. -/
module

public import proofs.«01_k».proof.Proof.Norm
public import proofs.«01_k».proof.Proof.Gen.DhRefIdeal.Read

@[expose] public section

noncomputable section

namespace Cert.Mlp.Dh

open Idealize.ShloMosaic Idealize.ShloMosaic.ValueIdx
open Cert.DhRefIdeal Cert.DhRefIdeal.Gen Cert.DhRefIdeal.Read

variable (x0 : FVec Ideal ⟨2, ![2048, 4096]⟩ .bf16) (x1 : FVec Ideal ⟨3, ![8, 1024, 512]⟩ .bf16) (x2 : FVec Ideal ⟨2, ![2048, 1024]⟩ .f32)
  (x3 : FVec Ideal ⟨1, ![1024]⟩ .f32) (x4 : FVec Ideal ⟨2, ![2048, 1024]⟩ .f32)

theorem zero_first : (val_main_cst (F := Ideal)) (Shape.Idx.first h_S_) = 0 := Ideal.ofBits_zero_f32

theorem v21_at (i : Fin 2048) (j : Fin 1024) : val_main_v21 (F := Ideal) x0 x1 (ix2 i j) = slabSum x0 x1 i j := by
  refine (val_main_v21_apply x0 x1 _).trans (Finset.sum_congr rfl fun k _ => congrArg₂ (· * ·) ?_ ?_)
  · exact congrArg x0 (Shape.idx_ext₂ rfl rfl)
  · refine (val_main_v1_apply (F := Ideal) x1 _).trans ((val_main_v0_apply (F := Ideal) x1 _).trans (congrArg x1 (funext fun a => Fin.ext ?_)))
    match a with
    | 0 => show (j.val * 4096 + k.val) / 512 % 8 = k.val / 512; omega
    | 1 => show (j.val * 4096 + k.val) / 4096 = j.val; omega
    | 2 => show (j.val * 4096 + k.val) % 512 = k.val % 512; omega

theorem v9_at (i : Fin 2048) : val_main_v9 (F := Ideal) x2 (ix2 i 0) = rowE (rowOf x2 i) := by
  refine congrArg (fun z => Ideal.div z (Ideal.ofBits .f32 0x44800000#32) + Ideal.ofBits .f32 0x358637BD#32) ?_
  refine (val_main_v5_apply (F := Ideal) x2 _).trans ((val_main_v4_apply x2 _).trans ?_)
  refine (congrArg (· + _) zero_first).trans ((zero_add _).trans (Finset.sum_congr rfl fun k _ => ?_))
  exact congrArg (fun z => x2 z * x2 z) (Shape.idx_ext₂ rfl rfl)

theorem v10_at (i : Fin 2048) : val_main_v10 (F := Ideal) x2 (ix2 i 0) = rowR (rowOf x2 i) := congrArg Ideal.rsqrt (v9_at x2 i)

theorem v13_at (i : Fin 2048) : val_main_v13 (F := Ideal) x2 (ix2 i 0) = rowP (rowOf x2 i) :=
  congrArg₂ (fun a b => Ideal.ofBits .f32 0xBF000000#32 * Ideal.div a b) (v10_at x2 i) (v9_at x2 i)

theorem v15_at (i : Fin 2048) (j : Fin 1024) : val_main_v15 (F := Ideal) x2 (ix2 i j) = x2 (ix2 i j) * rowR (rowOf x2 i) :=
  congrArg (x2 (ix2 i j) * ·) ((val_main_v14_apply (F := Ideal) x2 _).trans
    ((congrArg (val_main_v10 (F := Ideal) x2) (Shape.idx_ext₂ rfl rfl : idx_main_v14 (ix2 i j) = ix2 i 0)).trans (v10_at x2 i)))

theorem v26_at (i : Fin 2048) (j : Fin 1024) : val_main_v26 (F := Ideal) x0 x1 x3 (ix2 i j) = slabSum x0 x1 i j * x3 (ix1 j) :=
  congrArg₂ (· * ·) (v21_at x0 x1 i j) ((val_main_v25_apply (F := Ideal) x3 _).trans ((val_main_v16_apply (F := Ideal) x3 _).trans
    (congrArg x3 (funext fun a => Fin.ext (by match a with | 0 => rfl)))))

theorem v38_at (i : Fin 2048) (j : Fin 1024) :
    val_main_v38 (F := Ideal) x0 x1 x2 x3 (ix2 i j) = rowS (rowOf x2 i) fun k => slabSum x0 x1 i k * x3 (ix1 k) := by
  refine (val_main_v38_apply (F := Ideal) x0 x1 x2 x3 _).trans ((val_main_v37_apply x0 x1 x2 x3 _).trans ?_)
  refine (congrArg (· + _) zero_first).trans ((zero_add _).trans ((Fintype.sum_unique _).trans ?_))
  have e : idx_main_v37 (idx_main_v38 (ix2 i j)) default = ix2 i 0 := Shape.idx_ext₂ rfl rfl
  rw [e]
  refine congrArg₂ (fun a b => Ideal.div (a * b) (Ideal.ofBits .f32 0x44800000#32)) ?_ (v13_at x2 i)
  refine (val_main_v30_apply (F := Ideal) x0 x1 x2 x3 _).trans ((val_main_v29_apply x0 x1 x2 x3 _).trans ?_)
  refine (congrArg (· + _) zero_first).trans ((zero_add _).trans (Finset.sum_congr rfl fun k _ => ?_))
  have e : idx_main_v29 (idx_main_v30 (ix2 i 0)) k = ix2 i k := Shape.idx_ext₂ (show i.val * 1 + 0 = i.val by omega) rfl
  rw [e]
  exact congrArg (x2 (ix2 i k) * ·) (v26_at x0 x1 x3 i k)

theorem v42_at (i : Fin 2048) (j : Fin 1024) :
    val_main_v42 (F := Ideal) x0 x1 x2 x3 x4 (ix2 i j) = x4 (ix2 i j) + rowD (rowOf x2 i) (fun k => slabSum x0 x1 i k * x3 (ix1 k)) j := by
  have e : val_main_v31 (F := Ideal) x2 (ix2 i j) = rowR (rowOf x2 i) :=
    (val_main_v31_apply (F := Ideal) x2 _).trans ((congrArg (val_main_v10 (F := Ideal) x2) (Shape.idx_ext₂ rfl rfl : idx_main_v31 (ix2 i j) = ix2 i 0)).trans (v10_at x2 i))
  have s := v38_at x0 x1 x2 x3 i j
  have h : val_main_v42 (F := Ideal) x0 x1 x2 x3 x4 (ix2 i j)
      = x4 (ix2 i j) + slabSum x0 x1 i j * x3 (ix1 j) * rowR (rowOf x2 i) + x2 (ix2 i j) * rowS (rowOf x2 i) (fun k => slabSum x0 x1 i k * x3 (ix1 k))
        + rowS (rowOf x2 i) (fun k => slabSum x0 x1 i k * x3 (ix1 k)) * x2 (ix2 i j) :=
    congrArg₂ (· + ·) (congrArg₂ (· + ·) (congrArg (x4 (ix2 i j) + ·) (congrArg₂ (· * ·) (v26_at x0 x1 x3 i j) e)) (congrArg (x2 (ix2 i j) * ·) s)) (congrArg (· * x2 (ix2 i j)) s)
  rw [h]
  unfold rowD
  simp only [add_assoc]

theorem v44_at (j : Fin 1024) :
    val_main_v44 (F := Ideal) x0 x1 x2 (ix2 0 j) = ∑ i, x2 (ix2 i j) * rowR (rowOf x2 i) * slabSum x0 x1 i j := by
  refine (val_main_v44_apply (F := Ideal) x0 x1 x2 _).trans ((val_main_v27_apply x0 x1 x2 _).trans ?_)
  refine (congrArg (· + _) zero_first).trans ((zero_add _).trans ((Fintype.sum_unique _).trans ?_))
  refine (val_main_v24_apply (F := Ideal) x0 x1 x2 _).trans ((val_main_v23_apply x0 x1 x2 _).trans ?_)
  refine (congrArg (· + _) zero_first).trans ((zero_add _).trans (Finset.sum_congr rfl fun i _ => ?_))
  have e : idx_main_v23 (idx_main_v24 (idx_main_v27 (idx_main_v44 (ix2 0 j)) default)) i = ix2 i j := Shape.idx_ext₂ rfl (show 0 * 1024 + j.val = j.val by omega)
  rw [e]
  exact congrArg₂ (· * ·) (v15_at x2 i j) (v21_at x0 x1 i j)

end Cert.Mlp.Dh

end
-- ==== Proof.Dh.lean ====
/- The gradient of the MLP's input: the kernel's blocks and its running sum of the gain's gradient are the reference's arrays. -/
module

public import proofs.«01_k».proof.Proof.DhRun
public import proofs.«01_k».proof.Proof.DhRef
public import proofs.«01_k».proof.Defs
public import proofs.«01_k».proof.Proof.Gen.DhIdeal.Value
public import proofs.«01_k».proof.Proof.Gen.DhRefIdeal.Run
public import Idealize.ShloMosaic.Lib.StableHlo.RunRead
public import Idealize.ShloMosaic.Lib.Pipeline.ValueKit.Geometry

@[expose] public section

noncomputable section

namespace Cert.Mlp.Dh

open Idealize.ShloMosaic Idealize.ShloMosaic.ValueIdx Idealize.ShloMosaic.TcCoe Idealize.SL Idealize.SL.Sem
open Cert.DhIdeal Cert.DhIdeal.Gen

theorem places : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] := by decide +kernel

theorem lt4 (t : Fin cfg0.N) : t.val < 4 := t.isLt

/-- Row `i` of block `n`. -/
abbrev rowAt (n : ℕ) (hn : n < 4) (i : Fin 512) : Fin 2048 := ⟨n * 512 + i.val, by omega⟩

section

variable (m : (k : Loc nD τ sig) → Buf (Elt Ideal) k) (c : Dev nD)

abbrev a0 : FVec Ideal ⟨2, ![2048, 4096]⟩ .bf16 := m ((c : Thread nD τ).loc main_arg0)
abbrev a1 : FVec Ideal ⟨3, ![8, 1024, 512]⟩ .bf16 := m ((c : Thread nD τ).loc main_arg1)
abbrev a2 : FVec Ideal ⟨2, ![2048, 1024]⟩ .f32 := m ((c : Thread nD τ).loc main_arg2)
abbrev a3 : FVec Ideal ⟨1, ![1024]⟩ .f32 := m ((c : Thread nD τ).loc main_arg3)
abbrev a4 : FVec Ideal ⟨2, ![2048, 1024]⟩ .f32 := m ((c : Thread nD τ).loc main_arg4)

/-- The gain, as the call takes it. -/
theorem V_gain : (V m c main_v0 : (⟨S1x1024, .f32⟩ : BufTy).Contents (Elt Ideal)) = shapeCast S1x1024 (a3 m c) shapeCasts_S1024_S1x1024 := by
  unfold_abbrev_sides
  after_reads_simp
  rfl

section

variable (t : Fin cfg0.N)

theorem blk0 (i : Fin 512) (k : Fin 4096) :
    (iblk m c 0 t : FVec Ideal ⟨2, ![512, 4096]⟩ .bf16) (ix2 i k) = a0 m c (ix2 (rowAt t.val (lt4 t) i) k) := by
  have h := (places t).1
  unfold iblk
  blk_simp
  refine (congrFun (V_main_arg0 m c) _).trans (congrArg (a0 m c) (funext fun a => Fin.ext ?_))
  fin_cases a
  all_goals blk_simp [h]

theorem blk1 : (iblk m c 1 t : FVec Ideal ⟨3, ![8, 1024, 512]⟩ .bf16) = a1 m c := by
  have h := (places t).2.1
  funext y
  unfold iblk
  blk_simp
  refine (congrFun (V_main_arg1 m c) _).trans (congrArg (a1 m c) (funext fun a => Fin.ext ?_))
  fin_cases a
  all_goals blk_simp [h]

theorem blk2 (i : Fin 512) (j : Fin 1024) :
    (iblk m c 2 t : FVec Ideal ⟨2, ![512, 1024]⟩ .f32) (ix2 i j) = a2 m c (ix2 (rowAt t.val (lt4 t) i) j) := by
  have h := (places t).2.2.1
  unfold iblk
  blk_simp
  refine (congrFun (V_main_arg2 m c) _).trans (congrArg (a2 m c) (funext fun a => Fin.ext ?_))
  fin_cases a
  all_goals blk_simp [h]

theorem blk3 (k : Fin 1024) : (iblk m c 3 t : FVec Ideal ⟨2, ![1, 1024]⟩ .f32) (ix2 0 k) = a3 m c (ix1 k) := by
  have h := (places t).2.2.2.1
  unfold iblk
  blk_simp
  refine (congrFun (V_gain m c) _).trans ((congrArg (shapeCast S1x1024 (a3 m c) shapeCasts_S1024_S1x1024) (funext fun a => Fin.ext ?_)).trans (shapeCast_a_1a_apply (a3 m c) _ 0 k))
  fin_cases a
  all_goals blk_simp [h]

theorem blk4 (i : Fin 512) (j : Fin 1024) :
    (iblk m c 4 t : FVec Ideal ⟨2, ![512, 1024]⟩ .f32) (ix2 i j) = a4 m c (ix2 (rowAt t.val (lt4 t) i) j) := by
  have h := (places t).2.2.2.2.1
  unfold iblk
  blk_simp
  refine (congrFun (V_main_arg4 m c) _).trans (congrArg (a4 m c) (funext fun a => Fin.ext ?_))
  fin_cases a
  all_goals blk_simp [h]

theorem slab_blk (i : Fin 512) (j : Fin 1024) : slabSum (iblk m c 0 t) (iblk m c 1 t) i j = slabSum (a0 m c) (a1 m c) (rowAt t.val (lt4 t) i) j :=
  Finset.sum_congr rfl fun k _ => congrArg₂ (· * ·) (blk0 m c t i k) (congrFun (blk1 m c t) _)

theorem row_blk (i : Fin 512) : rowOf (iblk m c 2 t) i = rowOf (a2 m c) (rowAt t.val (lt4 t) i) := funext fun k => blk2 m c t i k

theorem dh_blk (i : Fin 512) (j : Fin 1024) : dhBlk (iblk m c 0 t) (iblk m c 1 t) (iblk m c 2 t) (iblk m c 3 t) (iblk m c 4 t) i j
    = Cert.DhRefIdeal.Read.val_main_v42 (F := Ideal) (a0 m c) (a1 m c) (a2 m c) (a3 m c) (a4 m c) (ix2 (rowAt t.val (lt4 t) i) j) := by
  refine Eq.trans ?_ (v42_at _ _ _ _ _ _ _).symm
  unfold dhBlk
  rw [row_blk m c t i, blk4 m c t i j]
  refine congrArg (_ + ·) (congrArg (fun d => rowD _ d j) (funext fun k => ?_))
  exact congrArg₂ (· * ·) (slab_blk m c t i k) (blk3 m c t k)

/-- A row's part of the gain's gradient. -/
def term (j : Fin 1024) (r : Fin 2048) : EReal := dgRow (a0 m c) (a1 m c) (a2 m c) j r

theorem dg_blk (j : Fin 1024) (i : Fin 512) : dgRow (iblk m c 0 t) (iblk m c 1 t) (iblk m c 2 t) j i
    = term m c j (rowAt t.val (lt4 t) i) :=
  congrArg₂ (· * ·) (congrArg₂ (· * ·) (blk2 m c t i j) (congrArg rowR (row_blk m c t i))) (slab_blk m c t i j)

end

/-- What the buffers hold after point `n`. -/
structure After (n : ℕ) (hn : n < 4) (X5 : FVec Ideal ⟨2, ![512, 1024]⟩ .f32) (X6 : FVec Ideal ⟨2, ![1, 1024]⟩ .f32)
    (X7 : FVec Ideal ⟨2, ![512, 1024]⟩ .bf16) : Prop where
  dh : ∀ i j, X5 (ix2 i j) = Cert.DhRefIdeal.Read.val_main_v42 (F := Ideal) (a0 m c) (a1 m c) (a2 m c) (a3 m c) (a4 m c) (ix2 (rowAt n hn i) j)
  dg : ∀ j, X6 (ix2 0 j) = ∑ k ∈ Finset.range ((n + 1) * 512), rows (term m c j) k
  dh' : ∀ i j, X7 (ix2 i j) = Cert.DhRefIdeal.Read.val_main_v42 (F := Ideal) (a0 m c) (a1 m c) (a2 m c) (a3 m c) (a4 m c) (ix2 (rowAt n hn i) j)

theorem after_first (t : Fin cfg0.N) (h0 : t.val % 4 = 0) :
    After m c t.val (lt4 t) (outsAt0 m c t.val t.isLt).1 (outsAt0 m c t.val t.isLt).2.1 (outsAt0 m c t.val t.isLt).2.2 := by
  have e0 : t.val = 0 := by have := lt4 t; omega
  rw [outsAt0_A m c t h0]
  dsimp only
  refine ⟨fun i j => (outA5 i j).trans (dh_blk m c t i j), fun j => outA6 j |>.trans ?_, fun i j => (outA7 i j).trans (dh_blk m c t i j)⟩
  refine Eq.trans ?_ (rows_step (term m c j) t.val (lt4 t) _ fun i => dg_blk m c t j i)
  refine congrArg (· + _) (Eq.symm ?_)
  rw [e0]
  rfl

theorem after_next (t : Fin cfg0.N) (h0 : ¬ t.val % 4 = 0) (n : ℕ) (hn : n < 4) (e : t.val = n + 1) (hn' : t.val - 1 < cfg0.N)
    (h : After m c n hn (outsAt0 m c (t.val - 1) hn').1 (outsAt0 m c (t.val - 1) hn').2.1 (outsAt0 m c (t.val - 1) hn').2.2) :
    After m c t.val (lt4 t) (outsAt0 m c t.val t.isLt).1 (outsAt0 m c t.val t.isLt).2.1 (outsAt0 m c t.val t.isLt).2.2 := by
  rw [outsAt0_B m c t h0]
  dsimp only
  refine ⟨fun i j => (outB5 i j).trans (dh_blk m c t i j), fun j => outB6 j |>.trans ?_, fun i j => (outB7 i j).trans (dh_blk m c t i j)⟩
  refine Eq.trans ?_ (rows_step (term m c j) t.val (lt4 t) _ fun i => dg_blk m c t j i)
  exact congrArg (· + _) ((h.dg j).trans (congrArg (fun k => ∑ r ∈ Finset.range (k * 512), rows (term m c j) r) e.symm))

theorem after_at : ∀ (n : ℕ) (hn : n < cfg0.N), After m c n hn (outsAt0 m c n hn).1 (outsAt0 m c n hn).2.1 (outsAt0 m c n hn).2.2
  | 0, hn => after_first m c ⟨0, hn⟩ rfl
  | n + 1, hn => after_next m c ⟨n + 1, hn⟩ (by have : n + 1 < 4 := hn; simp only; omega) n (by have : n + 1 < 4 := hn; omega) rfl (Nat.lt_of_succ_lt hn)
      (after_at n (Nat.lt_of_succ_lt hn))

/-! ## The result arrays -/

theorem arr5 : ((dats m 0 c).arrAt 5 cfg0.N : FVec Ideal ⟨2, ![2048, 1024]⟩ .f32)
    = Cert.DhRefIdeal.Read.val_main_v42 (F := Ideal) (a0 m c) (a1 m c) (a2 m c) (a3 m c) (a4 m c) := by
  refine (dats m 0 c).arrAt_eq_of_covers 5 _ (by decide +kernel) fun t hf y => ?_
  blk_simp
  obtain ⟨i, j, rfl⟩ : ∃ (i : Fin 512) (j : Fin 1024), y = ix2 i j := ⟨y 0, y 1, eq_ix2 y⟩
  have hp := (places t).2.2.2.2.2.1
  have ey : (win0_5.blk t).view.emb (ix2 i j) = ix2 (rowAt t.val (lt4 t) i) j := by
    refine funext fun a => Fin.ext ?_
    fin_cases a
    all_goals blk_simp [hp]
  exact (congrFun (after0_5 m c t) _).trans (((after_at m c t.val t.isLt).dh i j).trans (congrArg _ ey.symm))

theorem arr7 : ((dats m 0 c).arrAt 7 cfg0.N : FVec Ideal ⟨2, ![2048, 1024]⟩ .bf16)
    = Cert.DhRefIdeal.Read.val_main_v43 (F := Ideal) (a0 m c) (a1 m c) (a2 m c) (a3 m c) (a4 m c) := by
  refine (dats m 0 c).arrAt_eq_of_covers 7 _ (by decide +kernel) fun t hf y => ?_
  blk_simp
  obtain ⟨i, j, rfl⟩ : ∃ (i : Fin 512) (j : Fin 1024), y = ix2 i j := ⟨y 0, y 1, eq_ix2 y⟩
  have hp := (places t).2.2.2.2.2.2.2
  have ey : (win0_7.blk t).view.emb (ix2 i j) = ix2 (rowAt t.val (lt4 t) i) j := by
    refine funext fun a => Fin.ext ?_
    fin_cases a
    all_goals blk_simp [hp]
  refine (congrFun (after0_7 m c t) _).trans (((after_at m c t.val t.isLt).dh' i j).trans ?_)
  exact congrArg (Cert.DhRefIdeal.Read.val_main_v42 (F := Ideal) (a0 m c) (a1 m c) (a2 m c) (a3 m c) (a4 m c)) ey.symm

theorem arr6 : ((dats m 0 c).arrAt 6 cfg0.N : FVec Ideal ⟨2, ![1, 1024]⟩ .f32)
    = Cert.DhRefIdeal.Read.val_main_v44 (F := Ideal) (a0 m c) (a1 m c) (a2 m c) := by
  refine (dats m 0 c).arrAt_eq_of_after_last 6 (⟨3, by decide⟩ : Fin cfg0.N) (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  have hp := (places ⟨3, by decide⟩).2.2.2.2.2.2.1
  refine (congrFun (after0_6 m c _) _).trans (((after_at m c 3 (by decide)).dg j).trans ((rows_all _).trans ((v44_at _ _ _ j).symm.trans (congrArg _ ?_))))
  refine funext fun a => Fin.ext ?_
  fin_cases a
  all_goals blk_simp [hp]

end

/-- The two runs end with the same results. -/
theorem algebraic : algebraic_DhIdeal_DhRefIdeal (hDhIdeal := Cert.DhIdeal.Gen.facts) (hDhRefIdeal := Cert.DhRefIdeal.Gen.facts) := by
  intro m g m' g' _ hm
  refine ⟨fun c => Cert.DhRefIdeal.Read.val_main_v42 (F := Ideal) (a0 m c) (a1 m c) (a2 m c) (a3 m c) (a4 m c),
    fun c => Cert.DhRefIdeal.Read.val_main_v43 (F := Ideal) (a0 m c) (a1 m c) (a2 m c) (a3 m c) (a4 m c),
    fun c => Cert.DhRefIdeal.Read.val_main_v44 (F := Ideal) (a0 m c) (a1 m c) (a2 m c), ?_, ?_⟩
  · refine (θ_run (Cert.DhIdeal.defs (F := Ideal)) _ _).mono (fun r h c => ?_) (Cert.DhIdeal.Value.run_blocks (F := Ideal) m g)
    obtain ⟨h5, h6, h7, hr⟩ := h c
    exact ⟨h5.trans (arr5 m c), h7.trans (arr7 m c), h6.trans (arr6 m c), hr⟩
  · refine (θ_run (Cert.DhRefIdeal.defs (F := Ideal)) _ _).mono (fun r h c => ?_) (Cert.DhRefIdeal.Value.run (F := Ideal) m' g')
    obtain ⟨e0, e1, e2, e3, e4⟩ := hm c
    obtain ⟨h0, h1, h2, hr⟩ := h c
    refine ⟨h0.trans ((Cert.DhRefIdeal.Read.val_main_v42_eq m' c).trans ?_), h1.trans ((Cert.DhRefIdeal.Read.val_main_v43_eq m' c).trans ?_),
      h2.trans ((Cert.DhRefIdeal.Read.val_main_v44_eq _ _ _).trans ?_), hr⟩
    · rw [e0, e1, e2, e3, e4]
    · rw [e0, e1, e2, e3, e4]
    · rw [e0, e1, e2]

end Cert.Mlp.Dh

end
-- ==== Proof.Down.lean ====
/- The activations by w_down, added to the layer's input: each block of the result is a block of rows by a block of columns. -/
module

public import proofs.«01_k».proof.Proof.Mm
public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit.Geometry

@[expose] public section

noncomputable section

namespace Cert.Mlp.Down

open Idealize.ShloMosaic Idealize.ShloMosaic.ValueIdx Idealize.ShloMosaic.TcCoe Idealize.SL Idealize.SL.Sem
open Cert.DownIdeal Cert.DownIdeal.Gen

theorem places : ∀ t : Fin cfg0.N, win0_0.index t = ![t.val / 2, 0] ∧ win0_1.index t = ![0, t.val % 2] ∧ win0_2.index t = ![t.val / 2, t.val % 2]
    ∧ win0_3.index t = ![t.val / 2, t.val % 2] := by decide +kernel

/-- The block of the result from the blocks of the operands. -/
theorem out_at (x0 : FVec Ideal ⟨2, ![1024, 4096]⟩ .bf16) (x1 : FVec Ideal ⟨2, ![4096, 512]⟩ .bf16) (x2 : FVec Ideal ⟨2, ![1024, 512]⟩ .f32)
    (i : Fin 1024) (j : Fin 512) :
    (out0_3 (F := Ideal) x0 x1 x2 : FVec Ideal ⟨2, ![1024, 512]⟩ .f32) (ix2 i j) = x2 (ix2 i j) + ∑ k : Fin 4096, x0 (ix2 i k) * x1 (ix2 k j) := by
  unfold out0_3
  rw [View.canon_unit_zero (h := zero2), View.ld_unit_zero (h := zero2), View.ld_unit_zero (h := zero2), View.ld_unit_zero (h := zero2)]
  exact congrArg (x2 (ix2 i j) + ·) (nn_at x0 x1 _ i j)

section

variable (m : (k : Loc nD τ sig) → Buf (Elt Ideal) k) (c : Dev nD) (t : Fin cfg0.N)

abbrev a0 : FVec Ideal ⟨2, ![2048, 4096]⟩ .bf16 := m ((c : Thread nD τ).loc main_arg0)
abbrev a1 : FVec Ideal ⟨2, ![4096, 1024]⟩ .bf16 := m ((c : Thread nD τ).loc main_arg1)
abbrev a2 : FVec Ideal ⟨2, ![2048, 1024]⟩ .f32 := m ((c : Thread nD τ).loc main_arg2)

/-- The row and the column of the whole result that a block's row and column are. -/
abbrev row (i : Fin 1024) : Fin 2048 := ⟨t.val / 2 * 1024 + i.val, by have : t.val < 4 := t.isLt; omega⟩
abbrev col (j : Fin 512) : Fin 1024 := ⟨t.val % 2 * 512 + j.val, by have : t.val < 4 := t.isLt; omega⟩

theorem blk0 (i : Fin 1024) (j : Fin 4096) :
    (iblk m c 0 t : FVec Ideal ⟨2, ![1024, 4096]⟩ .bf16) (ix2 i j) = a0 m c (ix2 (row t i) j) := by
  have h := (places t).1
  unfold iblk
  blk_simp
  refine (congrFun (V_main_arg0 m c) _).trans (congrArg (a0 m c) (funext fun a => Fin.ext ?_))
  fin_cases a
  all_goals blk_simp [h]

theorem blk1 (i : Fin 4096) (j : Fin 512) :
    (iblk m c 1 t : FVec Ideal ⟨2, ![4096, 512]⟩ .bf16) (ix2 i j) = a1 m c (ix2 i (col t j)) := by
  have h := (places t).2.1
  unfold iblk
  blk_simp
  refine (congrFun (V_main_arg1 m c) _).trans (congrArg (a1 m c) (funext fun a => Fin.ext ?_))
  fin_cases a
  all_goals blk_simp [h]

theorem blk2 (i : Fin 1024) (j : Fin 512) :
    (iblk m c 2 t : FVec Ideal ⟨2, ![1024, 512]⟩ .f32) (ix2 i j) = a2 m c (ix2 (row t i) (col t j)) := by
  have h := (places t).2.2.1
  unfold iblk
  blk_simp
  refine (congrFun (V_main_arg2 m c) _).trans (congrArg (a2 m c) (funext fun a => Fin.ext ?_))
  fin_cases a
  all_goals blk_simp [h]

theorem ref_at (x0 : FVec Ideal ⟨2, ![2048, 4096]⟩ .bf16) (x1 : FVec Ideal ⟨2, ![4096, 1024]⟩ .bf16) (x2 : FVec Ideal ⟨2, ![2048, 1024]⟩ .f32)
    (i : Fin 2048) (j : Fin 1024) :
    (Cert.DownRefIdeal.Read.val_main_v3 (F := Ideal) x0 x1 x2 : FVec Ideal ⟨2, ![2048, 1024]⟩ .f32) (ix2 i j)
      = x2 (ix2 i j) + ∑ k : Fin 4096, x0 (ix2 i k) * x1 (ix2 k j) := by
  refine (Cert.DownRefIdeal.Read.val_main_v3_apply (F := Ideal) x0 x1 x2 _).trans ?_
  refine congrArg (x2 (ix2 i j) + ·) ?_
  refine (Cert.DownRefIdeal.Read.val_main_v2_apply x0 x1 _).trans (Finset.sum_congr rfl fun k _ => congrArg₂ (· * ·) ?_ ?_)
  · exact congrArg x0 (Shape.idx_ext₂ rfl rfl)
  · exact congrArg x1 (Shape.idx_ext₂ rfl rfl)

theorem arr : ((dats m 0 c).arrAt 3 cfg0.N : FVec Ideal ⟨2, ![2048, 1024]⟩ .f32)
    = Cert.DownRefIdeal.Read.val_main_v3 (F := Ideal) (a0 m c) (a1 m c) (a2 m c) := by
  refine (dats m 0 c).arrAt_eq_of_covers 3 _ (by decide +kernel) fun t hf y => ?_
  blk_simp
  obtain ⟨i, j, rfl⟩ : ∃ (i : Fin 1024) (j : Fin 512), y = ix2 i j := ⟨y 0, y 1, eq_ix2 y⟩
  have hp := (places t).2.2.2
  have ey : (win0_3.blk t).view.emb (ix2 i j) = ix2 (row t i) (col t j) := by
    refine funext fun a => Fin.ext ?_
    fin_cases a
    all_goals blk_simp [hp]
  refine Eq.trans ?_ ((ref_at _ _ _ _ _).symm.trans (congrArg _ ey.symm))
  refine (congrFun (after0_3 m c t) _).trans ((out_at _ _ _ i j).trans (congrArg₂ (· + ·) (blk2 m c t i j) (Finset.sum_congr rfl fun k _ => ?_)))
  exact congrArg₂ (· * ·) (blk0 m c t i k) (blk1 m c t k j)

end

/-- The two runs end with the same result. -/
theorem algebraic : algebraic_DownIdeal_DownRefIdeal (hDownIdeal := Cert.DownIdeal.Gen.facts) (hDownRefIdeal := Cert.DownRefIdeal.Gen.facts) := by
  intro m g m' g' _ hm
  refine ⟨fun c => Cert.DownRefIdeal.Read.val_main_v3 (F := Ideal) (a0 m c) (a1 m c) (a2 m c), ?_, ?_⟩
  · refine (θ_run (Cert.DownIdeal.defs (F := Ideal)) _ _).mono (fun r h c => ?_) (Cert.DownIdeal.Value.run_blocks (F := Ideal) m g)
    exact ⟨(h c).1.trans (arr m c), (h c).2⟩
  · refine (θ_run (Cert.DownRefIdeal.defs (F := Ideal)) _ _).mono (fun r h c => ?_) (Cert.DownRefIdeal.Value.run (F := Ideal) m' g')
    obtain ⟨e0, e1, e2⟩ := hm c
    refine ⟨(h c).1.trans ((Cert.DownRefIdeal.Read.val_main_v3_eq _ _ _).trans ?_), (h c).2⟩
    exact congr (congrArg₂ (Cert.DownRefIdeal.Read.val_main_v3 (F := Ideal)) e0 e1) e2

end Cert.Mlp.Down

end
-- ==== Proof.DownLossRef.lean ====
/- The host's loss and its gradient, read at an index: the error, a fixed multiple of it, and a fixed multiple of the sum of its squares. The
   multiple is taken out of the sums, whose terms are not negative. -/
module

public import proofs.«01_k».proof.Proof.Mm
public import proofs.«01_k».proof.Proof.Gen.DownLossRefIdeal.Read
public import Idealize.ShloMosaic.Lib.Pipeline.Value

@[expose] public section

noncomputable section

namespace Cert.Mlp.DownLoss

open Idealize.ShloMosaic Idealize.ShloMosaic.ValueIdx

/-! ## Multiples -/

theorem ofBits_unit : Ideal.ofBits .f32 0x3F800000#32 = ((1 : ℝ) : EReal) := by simp [Ideal.ofBits, Ideal.ieee, -EReal.coe_mul]; norm_num
theorem ofBits_two : Ideal.ofBits .f32 0x40000000#32 = ((2 : ℝ) : EReal) := by simp [Ideal.ofBits, Ideal.ieee, -EReal.coe_mul]; norm_num
theorem ofBits_half : Ideal.ofBits .f32 0x3F000000#32 = ((1 / 2 : ℝ) : EReal) := by simp [Ideal.ofBits, Ideal.ieee, -EReal.coe_mul]; norm_num
theorem ofBits_1024 : Ideal.ofBits .f32 0x44800000#32 = ((1024 : ℝ) : EReal) := by simp [Ideal.ofBits, Ideal.ieee, -EReal.coe_mul]; norm_num
theorem ofBits_inv : Ideal.ofBits .f32 0x3A800000#32 = ((1 / 1024 : ℝ) : EReal) := by simp [Ideal.ofBits, Ideal.ieee, -EReal.coe_mul]; norm_num
theorem ofBits_half_inv : Ideal.ofBits .f32 0x3A000000#32 = ((1 / 2048 : ℝ) : EReal) := by simp [Ideal.ofBits, Ideal.ieee, -EReal.coe_mul]; norm_num

theorem div_1024 (x : EReal) : Ideal.div x (Ideal.ofBits .f32 0x44800000#32) = ((1 / 1024 : ℝ) : EReal) * x := by
  rw [ofBits_1024, mul_comm]
  unfold Ideal.div
  rw [if_neg (by norm_num), ← EReal.coe_inv]
  norm_num

theorem sq_nonneg (x : EReal) : 0 ≤ x * x := by
  rcases le_total 0 x with h | h
  · exact mul_nonneg h h
  · have h' : 0 ≤ -x := EReal.neg_nonneg.mpr h
    have := mul_nonneg h' h'
    rwa [neg_mul, mul_neg, neg_neg] at this

/-- A factor is taken out of a sum of terms that are not negative. -/
theorem mul_sum_of_nonneg {ι : Type} (s : Finset ι) (c : EReal) (f : ι → EReal) (hf : ∀ i, 0 ≤ f i) : ∑ i ∈ s, c * f i = c * ∑ i ∈ s, f i := by
  classical
  induction s using Finset.induction_on with
  | empty => simp
  | insert a s ha ih =>
    rw [Finset.sum_insert ha, Finset.sum_insert ha, ih, EReal.left_distrib_of_nonneg (hf a) (Finset.sum_nonneg fun i _ => hf i)]

/-! ## The reference -/

/-- The layer's result less the target. -/
abbrev err {n p : ℕ} (a : FVec Ideal ⟨2, ![n, 4096]⟩ .bf16) (w : FVec Ideal ⟨2, ![4096, p]⟩ .bf16) (h z : FVec Ideal ⟨2, ![n, p]⟩ .f32) (i : Fin n) (j : Fin p) : EReal :=
  h (ix2 i j) + ∑ k : Fin 4096, a (ix2 i k) * w (ix2 k j) - z (ix2 i j)

open Cert.DownLossRefIdeal Cert.DownLossRefIdeal.Gen Cert.DownLossRefIdeal.Read

variable (x0 : FVec Ideal ⟨2, ![2048, 4096]⟩ .bf16) (x1 : FVec Ideal ⟨2, ![4096, 1024]⟩ .bf16) (x2 x3 : FVec Ideal ⟨2, ![2048, 1024]⟩ .f32)

theorem v4_at (i : Fin 2048) (j : Fin 1024) : val_main_v4 (F := Ideal) x0 x1 x2 x3 (ix2 i j) = err x0 x1 x2 x3 i j := by
  refine congrArg (x2 (ix2 i j) + · - x3 (ix2 i j)) ?_
  refine (val_main_v2_apply x0 x1 _).trans (Finset.sum_congr rfl fun k _ => congrArg₂ (· * ·) ?_ ?_)
  · exact congrArg x0 (Shape.idx_ext₂ rfl rfl)
  · exact congrArg x1 (Shape.idx_ext₂ rfl rfl)

theorem v18_at (i : Fin 2048) (j : Fin 1024) : val_main_v18 (F := Ideal) x0 x1 x2 x3 (ix2 i j) = err x0 x1 x2 x3 i j * Ideal.ofBits .f32 0x3A800000#32 := by
  rw [← v4_at]
  show Ideal.div (Ideal.ofBits .f32 0x3F000000#32 * Ideal.ofBits .f32 0x3F800000#32) (Ideal.ofBits .f32 0x44800000#32)
    * (Ideal.ofBits .f32 0x40000000#32 * val_main_v4 (F := Ideal) x0 x1 x2 x3 (ix2 i j)) = _
  rw [div_1024, ofBits_half, ofBits_unit, ofBits_two, ← mul_assoc, ofBits_inv, ← EReal.coe_mul, ← EReal.coe_mul, ← EReal.coe_mul, mul_comm]
  norm_num

/-- The sum of the squares of a row's errors. -/
abbrev sqs {n p : ℕ} (a : FVec Ideal ⟨2, ![n, 4096]⟩ .bf16) (w : FVec Ideal ⟨2, ![4096, p]⟩ .bf16) (h z : FVec Ideal ⟨2, ![n, p]⟩ .f32) (i : Fin n) : EReal :=
  ∑ j, err a w h z i j * err a w h z i j

theorem v10_at (i : Fin 2048) : val_main_v10 (F := Ideal) x0 x1 x2 x3 (ix1 i) = ((1 / 1024 : ℝ) : EReal) * sqs x0 x1 x2 x3 i := by
  show Ideal.div (val_main_v8 (F := Ideal) x0 x1 x2 x3 (ix1 i)) (Ideal.ofBits .f32 0x44800000#32) = _
  rw [div_1024]
  refine congrArg (_ * ·) ((val_main_v8_apply x0 x1 x2 x3 _).trans ?_)
  refine (congrArg (· + _) Ideal.ofBits_zero_f32).trans ((zero_add _).trans (Finset.sum_congr rfl fun j _ => ?_))
  have e : val_main_v4 (F := Ideal) x0 x1 x2 x3 (idx_main_v8 (ix1 i) j) = err x0 x1 x2 x3 i j :=
    (congrArg (val_main_v4 (F := Ideal) x0 x1 x2 x3) (Shape.idx_ext₂ rfl rfl : idx_main_v8 (ix1 i) j = ix2 i j)).trans (v4_at x0 x1 x2 x3 i j)
  exact congrArg₂ (· * ·) e e

theorem v20_at (y : (⟨2, ![8, 128]⟩ : Shape).Idx) :
    val_main_v20 (F := Ideal) x0 x1 x2 x3 y = Ideal.ofBits .f32 0x3A000000#32 * ∑ i, sqs x0 x1 x2 x3 i := by
  refine (val_main_v20_apply (F := Ideal) x0 x1 x2 x3 y).trans ?_
  show Ideal.ofBits .f32 0x3F000000#32 * val_main_v11 (F := Ideal) x0 x1 x2 x3 (idx_main_v20 y) = _
  rw [val_main_v11_apply]
  have e : ∑ j : S2048.Idx, val_main_v10 (F := Ideal) x0 x1 x2 x3 j = ((1 / 1024 : ℝ) : EReal) * ∑ i, sqs x0 x1 x2 x3 i := by
    rw [← mul_sum_of_nonneg _ _ _ fun i => Finset.sum_nonneg fun j _ => sq_nonneg _]
    refine (Fintype.sum_equiv (⟨fun i => ix1 i, fun q => q 0, fun _ => rfl, fun q => (eq_ix1 q).symm⟩ : Fin 2048 ≃ S2048.Idx) _ _ fun i => (v10_at x0 x1 x2 x3 i).symm).symm
  refine (congrArg (fun q => Ideal.ofBits .f32 0x3F000000#32 * q) ((congrArg₂ (· + ·) Ideal.ofBits_zero_f32 e).trans (zero_add _))).trans ?_
  rw [← mul_assoc, ofBits_half, ofBits_half_inv, ← EReal.coe_mul]
  norm_num

end Cert.Mlp.DownLoss

end
-- ==== Proof.DhqRef.lean ====
/- The host's gradient of the rows that the keys and the values are made of, read at an index. -/
module

public import proofs.«01_k».proof.Proof.Norm
public import proofs.«01_k».proof.Proof.Gen.DhqRefIdeal.Read

@[expose] public section

noncomputable section

namespace Cert.Mlp.Dhq

open Idealize.ShloMosaic Idealize.ShloMosaic.ValueIdx
open Cert.DhqRefIdeal Cert.DhqRefIdeal.Gen Cert.DhqRefIdeal.Read

variable (x0 : FVec Ideal ⟨2, ![2048, 1024]⟩ .bf16) (x1 : FVec Ideal ⟨2, ![1024, 1024]⟩ .bf16) (x2 : FVec Ideal ⟨2, ![2048, 1024]⟩ .f32)
  (x3 : FVec Ideal ⟨1, ![1024]⟩ .f32) (x4 : FVec Ideal ⟨2, ![2048, 1024]⟩ .f32)

theorem zero_first : (val_main_cst (F := Ideal)) (Shape.Idx.first h_S_) = 0 := Ideal.ofBits_zero_f32

/-- The cotangent of the normed rows. -/
def gradQ {n : ℕ} (x : FVec Ideal ⟨2, ![n, 1024]⟩ .bf16) (w : FVec Ideal ⟨2, ![1024, 1024]⟩ .bf16) (i : Fin n) (j : Fin 1024) : EReal :=
  ∑ k : Fin 1024, x (ix2 i k) * w (ix2 j k)

theorem v19_at (i : Fin 2048) (j : Fin 1024) : val_main_v19 (F := Ideal) x0 x1 (ix2 i j) = gradQ x0 x1 i j :=
  (val_main_v19_apply x0 x1 _).trans (Finset.sum_congr rfl fun k _ =>
    congrArg₂ (· * ·) (congrArg x0 (Shape.idx_ext₂ rfl rfl)) (congrArg x1 (Shape.idx_ext₂ rfl rfl)))

theorem v7_at (i : Fin 2048) : val_main_v7 (F := Ideal) x2 (ix2 i 0) = rowE (rowOf x2 i) := by
  refine congrArg (fun z => Ideal.div z (Ideal.ofBits .f32 0x44800000#32) + Ideal.ofBits .f32 0x358637BD#32) ?_
  refine (val_main_v3_apply (F := Ideal) x2 _).trans ((val_main_v2_apply x2 _).trans ?_)
  refine (congrArg (· + _) zero_first).trans ((zero_add _).trans (Finset.sum_congr rfl fun k _ => ?_))
  exact congrArg (fun z => x2 z * x2 z) (Shape.idx_ext₂ rfl rfl)

theorem v8_at (i : Fin 2048) : val_main_v8 (F := Ideal) x2 (ix2 i 0) = rowR (rowOf x2 i) := congrArg Ideal.rsqrt (v7_at x2 i)

theorem v11_at (i : Fin 2048) : val_main_v11 (F := Ideal) x2 (ix2 i 0) = rowP (rowOf x2 i) :=
  congrArg₂ (fun a b => Ideal.ofBits .f32 0xBF000000#32 * Ideal.div a b) (v8_at x2 i) (v7_at x2 i)

theorem v13_at (i : Fin 2048) (j : Fin 1024) : val_main_v13 (F := Ideal) x2 (ix2 i j) = x2 (ix2 i j) * rowR (rowOf x2 i) :=
  congrArg (x2 (ix2 i j) * ·) ((val_main_v12_apply (F := Ideal) x2 _).trans
    ((congrArg (val_main_v8 (F := Ideal) x2) (Shape.idx_ext₂ rfl rfl : idx_main_v12 (ix2 i j) = ix2 i 0)).trans (v8_at x2 i)))

theorem v24_at (i : Fin 2048) (j : Fin 1024) : val_main_v24 (F := Ideal) x0 x1 x3 (ix2 i j) = gradQ x0 x1 i j * x3 (ix1 j) :=
  congrArg₂ (· * ·) (v19_at x0 x1 i j) ((val_main_v23_apply (F := Ideal) x3 _).trans ((val_main_v14_apply (F := Ideal) x3 _).trans
    (congrArg x3 (funext fun a => Fin.ext (by match a with | 0 => rfl)))))

theorem v36_at (i : Fin 2048) (j : Fin 1024) :
    val_main_v36 (F := Ideal) x0 x1 x2 x3 (ix2 i j) = rowS (rowOf x2 i) fun k => gradQ x0 x1 i k * x3 (ix1 k) := by
  refine (val_main_v36_apply (F := Ideal) x0 x1 x2 x3 _).trans ((val_main_v35_apply x0 x1 x2 x3 _).trans ?_)
  refine (congrArg (· + _) zero_first).trans ((zero_add _).trans ((Fintype.sum_unique _).trans ?_))
  have e : idx_main_v35 (idx_main_v36 (ix2 i j)) default = ix2 i 0 := Shape.idx_ext₂ rfl rfl
  rw [e]
  refine congrArg₂ (fun a b => Ideal.div (a * b) (Ideal.ofBits .f32 0x44800000#32)) ?_ (v11_at x2 i)
  refine (val_main_v28_apply (F := Ideal) x0 x1 x2 x3 _).trans ((val_main_v27_apply x0 x1 x2 x3 _).trans ?_)
  refine (congrArg (· + _) zero_first).trans ((zero_add _).trans (Finset.sum_congr rfl fun k _ => ?_))
  have e : idx_main_v27 (idx_main_v28 (ix2 i 0)) k = ix2 i k := Shape.idx_ext₂ (show i.val * 1 + 0 = i.val by omega) rfl
  rw [e]
  exact congrArg (x2 (ix2 i k) * ·) (v24_at x0 x1 x3 i k)

theorem v40_at (i : Fin 2048) (j : Fin 1024) :
    val_main_v40 (F := Ideal) x0 x1 x2 x3 x4 (ix2 i j) = x4 (ix2 i j) + rowD (rowOf x2 i) (fun k => gradQ x0 x1 i k * x3 (ix1 k)) j := by
  have e : val_main_v29 (F := Ideal) x2 (ix2 i j) = rowR (rowOf x2 i) :=
    (val_main_v29_apply (F := Ideal) x2 _).trans ((congrArg (val_main_v8 (F := Ideal) x2) (Shape.idx_ext₂ rfl rfl : idx_main_v29 (ix2 i j) = ix2 i 0)).trans (v8_at x2 i))
  have s := v36_at x0 x1 x2 x3 i j
  have h : val_main_v40 (F := Ideal) x0 x1 x2 x3 x4 (ix2 i j)
      = x4 (ix2 i j) + gradQ x0 x1 i j * x3 (ix1 j) * rowR (rowOf x2 i) + x2 (ix2 i j) * rowS (rowOf x2 i) (fun k => gradQ x0 x1 i k * x3 (ix1 k))
        + rowS (rowOf x2 i) (fun k => gradQ x0 x1 i k * x3 (ix1 k)) * x2 (ix2 i j) :=
    congrArg₂ (· + ·) (congrArg₂ (· + ·) (congrArg (x4 (ix2 i j) + ·) (congrArg₂ (· * ·) (v24_at x0 x1 x3 i j) e)) (congrArg (x2 (ix2 i j) * ·) s)) (congrArg (· * x2 (ix2 i j)) s)
  rw [h]
  unfold rowD
  simp only [add_assoc]

theorem v41_at (j : Fin 1024) :
    val_main_v41 (F := Ideal) x0 x1 x2 (ix2 0 j) = ∑ i, x2 (ix2 i j) * rowR (rowOf x2 i) * gradQ x0 x1 i j := by
  refine (val_main_v41_apply (F := Ideal) x0 x1 x2 _).trans ((val_main_v25_apply x0 x1 x2 _).trans ?_)
  refine (congrArg (· + _) zero_first).trans ((zero_add _).trans ((Fintype.sum_unique _).trans ?_))
  refine (val_main_v22_apply (F := Ideal) x0 x1 x2 _).trans ((val_main_v21_apply x0 x1 x2 _).trans ?_)
  refine (congrArg (· + _) zero_first).trans ((zero_add _).trans (Finset.sum_congr rfl fun i _ => ?_))
  have e : idx_main_v21 (idx_main_v22 (idx_main_v25 (idx_main_v41 (ix2 0 j)) default)) i = ix2 i j := Shape.idx_ext₂ rfl (show 0 * 1024 + j.val = j.val by omega)
  rw [e]
  exact congrArg₂ (· * ·) (v13_at x2 i j) (v19_at x0 x1 i j)

end Cert.Mlp.Dhq

end
-- ==== Proof.DhqRun.lean ====
/- The gradient of the rows that the keys and the values are made of: what the body computes of its blocks, and what it leaves in its
   results' buffers at the first block of rows and at a later one. -/
module

public import proofs.«01_k».proof.Proof.DhqRef
public import proofs.«01_k».proof.Proof.Loads
public import proofs.«01_k».proof.Proof.Gen.DhqIdeal.Frame

@[expose] public section

noncomputable section

namespace Cert.Mlp.Dhq

open Idealize.ShloMosaic Idealize.ShloMosaic.ValueIdx
open Cert.DhqIdeal Cert.DhqIdeal.Gen

theorem ld_at {a b : ℕ} {sig : RefSig} {κ : Kind} {sp : Space} {m : Memref sig κ sp ⟨2, ![a, b]⟩ .bf16} {h : m.IsWhole} {x : FVec Ideal ⟨2, ![a, b]⟩ .bf16}
    {inb : ∀ c, (![0, 0] : Fin 2 → ℕ) c + (⟨2, ![a, b]⟩ : Shape).size c ≤ (⟨2, ![a, b]⟩ : Shape).size c} :
    View.readAt (Elt Ideal) m.view (Rect.unit (s := ⟨2, ![a, b]⟩) ![0, 0] (⟨2, ![a, b]⟩ : Shape).size inb).toLoadRect (h.unread x) = x := by
  rw [View.readAt_eq_ld, h.read_unread]
  exact View.ld_unit_zero (Val := Elt Ideal) (e := .bf16) zero2 inb x

variable {d d' : FVec Ideal ⟨2, ![512, 1024]⟩ .bf16} {w w' : FVec Ideal ⟨2, ![1024, 1024]⟩ .bf16} {x x' e e' : FVec Ideal ⟨2, ![512, 1024]⟩ .f32} {g g' : FVec Ideal ⟨2, ![1, 1024]⟩ .f32}
  (hd : d' = d) (hw : w' = w) (hx : x' = x) (hg : g' = g) (he : e' = e)

theorem grad_at (i : Fin 512) (j : Fin 1024) : k0_pay4 (F := Ideal) d w (ix2 i j) = gradQ d w i j := nt_at d w _ i j

theorem mean_at (i : Fin 512) : k0_pay5 (F := Ideal) x (ix2 i 0) = rowE (rowOf x i) :=
  congrArg (fun z => Ideal.div z (Ideal.ofBits .f32 0x44800000#32) + Ideal.ofBits .f32 0x358637BD#32) ((col_at _ _ i 0).trans (sumCols_at _ _ _ _ i))

theorem root_at (i : Fin 512) : k0_pay6 (F := Ideal) x (ix2 i 0) = rowR (rowOf x i) := congrArg Ideal.rsqrt (mean_at i)

include hd hw hx in
/-- What is added to the gain's gradient; -/
theorem stored_dg {z : FVec Ideal ⟨2, ![1, 1024]⟩ .f32} {y : EReal} (j : Fin 1024) (hz : z (ix2 0 j) = y) :
    k0_pay3 (F := Ideal) (k0_pay7 d' w' x') z (ix2 0 j) = y + ∑ i, x (ix2 i j) * rowR (rowOf x i) * gradQ d w i j := by
  subst hd hw hx
  exact congrArg₂ (· + ·) ((congrFun (shapeCast_self z _) _).trans hz) ((row_at _ _ 0 j).trans ((sumRows_at _ _ _ _ j).trans (Finset.sum_congr rfl fun i _ =>
    congrArg₂ (· * ·) (congrArg (x' (ix2 i j) * ·) ((bcCol_at _ _ i j).trans (root_at i))) (grad_at i j))))

/-- and the rows' own. -/
theorem own_at (i : Fin 512) (j : Fin 1024) :
    k0_pay8 (F := Ideal) d w x g (ix2 i j) = rowD (rowOf x i) (fun k => gradQ d w i k * g (ix2 0 k)) j := by
  have hy : ∀ k : Fin 1024, mulf (F := Ideal) (k0_pay4 d w) (broadcastTo S512x1024 (shapeCast S1x1024 g shapeCasts_S1x1024_S1x1024 : FVec Ideal S1x1024 .f32) broadcasts_S1x1024_S512x1024) (ix2 i k)
      = gradQ d w i k * g (ix2 0 k) := fun k => congrArg₂ (· * ·) (grad_at i k) ((bcRow_at _ _ i k).trans (congrFun (shapeCast_self g _) _))
  have e := (sumCols_at (mulf (F := Ideal) x (mulf (F := Ideal) (k0_pay4 d w) (broadcastTo S512x1024 (shapeCast S1x1024 g shapeCasts_S1x1024_S1x1024 : FVec Ideal S1x1024 .f32) broadcasts_S1x1024_S512x1024)))
    reduces_S512x1024_S512 (.inl rfl) rfl i).trans (Finset.sum_congr rfl fun k _ => congrArg (x (ix2 i k) * ·) (hy k))
  have p : mulf (F := Ideal) (broadcast S512x1 (Scalar.ofBits (F := Ideal) .f32 0xBF000000#32)) (divf (k0_pay6 x) (k0_pay5 x)) (ix2 i 0) = rowP (rowOf x i) :=
    congrArg₂ (fun a b => Ideal.ofBits .f32 0xBF000000#32 * Ideal.div a b) (root_at i) (mean_at i)
  have s : ∀ v : FVec Ideal S512x1 .f32, v (ix2 i 0) = rowS (rowOf x i) (fun k => gradQ d w i k * g (ix2 0 k)) →
      broadcastTo S512x1024 (shapeCast S512x1 (multiReduction (F := Ideal) .add [1] S512 v 0x00000000#32 reduces_S512x1_S512 (.inl rfl) rfl) shapeCasts_S512_S512x1 : FVec Ideal S512x1 .f32)
        broadcasts_S512x1_S512x1024 (ix2 i j) = rowS (rowOf x i) (fun k => gradQ d w i k * g (ix2 0 k)) := fun v hv =>
    (bcCol_at _ _ i j).trans ((col_at _ _ i 0).trans ((sumCols_at _ _ _ _ i).trans ((Fintype.sum_unique _).trans hv)))
  have s' := s (divf (mulf (shapeCast S512x1 (multiReduction (F := Ideal) .add [1] S512 (mulf (F := Ideal) x (mulf (F := Ideal) (k0_pay4 d w) (broadcastTo S512x1024 (shapeCast S1x1024 g shapeCasts_S1x1024_S1x1024 : FVec Ideal S1x1024 .f32) broadcasts_S1x1024_S512x1024)))
    0x00000000#32 reduces_S512x1024_S512 (.inl rfl) rfl) shapeCasts_S512_S512x1) (mulf (F := Ideal) (broadcast S512x1 (Scalar.ofBits (F := Ideal) .f32 0xBF000000#32)) (divf (k0_pay6 x) (k0_pay5 x))))
    (broadcast S512x1 (Scalar.ofBits (F := Ideal) .f32 0x44800000#32))) (congrArg₂ (fun a b => Ideal.div (a * b) (Ideal.ofBits .f32 0x44800000#32)) ((col_at _ shapeCasts_S512_S512x1 i 0).trans e) p)
  exact congrArg₂ (· + ·) (congrArg₂ (· + ·) (congrArg₂ (· * ·) (hy j) ((bcCol_at _ _ i j).trans (root_at i))) (congrArg (x (ix2 i j) * ·) s')) (congrArg (· * x (ix2 i j)) s')

include hd hw hx hg he in
theorem stored_dh (i : Fin 512) (j : Fin 1024) :
    k0_pay1 (F := Ideal) (k0_pay8 d' w' x' g') e' (ix2 i j) = e (ix2 i j) + rowD (rowOf x i) (fun k => gradQ d w i k * g (ix2 0 k)) j := by
  subst hd hw hx hg he
  exact congrArg (e' (ix2 i j) + ·) (own_at i j)

/-! ## The buffers -/

variable {c : Dev nD} {i : grid0.Coords} {arg1 : Memref sig .tc .vmem S512x1024 .bf16} {harg1 : arg1.IsWhole} {arg2 : Memref sig .tc .vmem S1024x1024 .bf16} {harg2 : arg2.IsWhole}
  {arg3 : Memref sig .tc .vmem S512x1024 .f32} {harg3 : arg3.IsWhole} {arg4 : Memref sig .tc .vmem S1x1024 .f32} {harg4 : arg4.IsWhole}
  {arg5 : Memref sig .tc .vmem S512x1024 .f32} {harg5 : arg5.IsWhole} {arg6 : Memref sig .tc .vmem S512x1024 .f32} {harg6 : arg6.IsWhole}
  {arg7 : Memref sig .tc .vmem S1x1024 .f32} {harg7 : arg7.IsWhole}
  {x0 : Vec Ideal S512x1024 .bf16} {x1 : Vec Ideal S1024x1024 .bf16} {x2 : Vec Ideal S512x1024 .f32} {x3 : Vec Ideal S1x1024 .f32} {x4 : Vec Ideal S512x1024 .f32} {xo6 : Vec Ideal S1x1024 .f32}

/-- A block's gradient. -/
abbrev dhBlk (x0 : FVec Ideal ⟨2, ![512, 1024]⟩ .bf16) (x1 : FVec Ideal ⟨2, ![1024, 1024]⟩ .bf16) (x2 : FVec Ideal ⟨2, ![512, 1024]⟩ .f32) (x3 : FVec Ideal ⟨2, ![1, 1024]⟩ .f32)
    (x4 : FVec Ideal ⟨2, ![512, 1024]⟩ .f32) (r : Fin 512) (j : Fin 1024) : EReal :=
  x4 (ix2 r j) + rowD (rowOf x2 r) (fun k => gradQ x0 x1 r k * x3 (ix2 0 k)) j

/-- A row's part of the gain's gradient, … -/
abbrev dgRow {n : ℕ} (x0 : FVec Ideal ⟨2, ![n, 1024]⟩ .bf16) (x1 : FVec Ideal ⟨2, ![1024, 1024]⟩ .bf16) (x2 : FVec Ideal ⟨2, ![n, 1024]⟩ .f32) (j : Fin 1024)
    (r : Fin n) : EReal :=
  x2 (ix2 r j) * rowR (rowOf x2 r) * gradQ x0 x1 r j

/-- … and a block's. -/
abbrev dgBlk (x0 : FVec Ideal ⟨2, ![512, 1024]⟩ .bf16) (x1 : FVec Ideal ⟨2, ![1024, 1024]⟩ .bf16) (x2 : FVec Ideal ⟨2, ![512, 1024]⟩ .f32) (j : Fin 1024) : EReal :=
  ∑ r, dgRow x0 x1 x2 j r

theorem outA5 {hc0 : cond0_0 i} (r : Fin 512) (j : Fin 1024) :
    out0_A_5 (F := Ideal) c i arg1 harg1 arg2 harg2 arg3 harg3 arg4 harg4 arg5 harg5 arg6 harg6 arg7 harg7 hc0 x0 x1 x2 x3 x4 (ix2 r j) = dhBlk x0 x1 x2 x3 x4 r j := by
  rw [out0_A_5, View.read_writes_junk_eq_canon]
  exact store_at _ (stored_dh ld_at ld_at Fox.load_at Fox.load_at Fox.load_at r j)

theorem outA6 {hc0 : cond0_0 i} (j : Fin 1024) :
    out0_A_6 (F := Ideal) c i arg1 harg1 arg2 harg2 arg3 harg3 arg4 harg4 arg5 harg5 arg6 harg6 arg7 harg7 hc0 x0 x1 x2 x3 x4 (ix2 0 j) = 0 + dgBlk x0 x1 x2 j := by
  rw [out0_A_6, View.read_writes_junk_eq_canon]
  exact store_at _ (stored_dg ld_at ld_at Fox.load_at j ((congrFun (Fox.reload.trans Fox.stored) _).trans Ideal.ofBits_zero_f32))

theorem outB5 {hc0 : ¬ cond0_0 i} (r : Fin 512) (j : Fin 1024) :
    out0_B_5 (F := Ideal) c i arg1 harg1 arg2 harg2 arg3 harg3 arg4 harg4 arg5 harg5 arg6 harg6 arg7 harg7 hc0 x0 x1 x2 x3 x4 xo6 (ix2 r j) = dhBlk x0 x1 x2 x3 x4 r j := by
  rw [out0_B_5, View.read_writes_junk_eq_canon]
  exact store_at _ (stored_dh ld_at ld_at Fox.load_at Fox.load_at Fox.load_at r j)

theorem outB6 {hc0 : ¬ cond0_0 i} (j : Fin 1024) :
    out0_B_6 (F := Ideal) c i arg1 harg1 arg2 harg2 arg3 harg3 arg4 harg4 arg5 harg5 arg6 harg6 arg7 harg7 hc0 x0 x1 x2 x3 x4 xo6 (ix2 0 j) = xo6 (ix2 0 j) + dgBlk x0 x1 x2 j := by
  rw [out0_B_6, View.read_writes_junk_eq_canon]
  exact store_at _ (stored_dg ld_at ld_at Fox.load_at j (congrFun Fox.load_at _))

end Cert.Mlp.Dhq

end
-- ==== Proof.DownLossRun.lean ====
/- The loss and its gradient: what the body computes of its blocks, and what it leaves in its results' buffers at the first block and at a
   later one. -/
module

public import proofs.«01_k».proof.Proof.DownLossRef
public import proofs.«01_k».proof.Proof.DhqRun
public import proofs.«01_k».proof.Proof.Gen.DownLossIdeal.Frame
public import Idealize.ShloMosaic.Lib.Pointwise.Reduce

@[expose] public section

noncomputable section

namespace Cert.Mlp.DownLoss

open Idealize.ShloMosaic hiding ix2 ix3
open Idealize.ShloMosaic.ValueIdx
open Cert.DownLossIdeal Cert.DownLossIdeal.Gen

section

variable {a a' : FVec Ideal ⟨2, ![1024, 4096]⟩ .bf16} {w w' : FVec Ideal ⟨2, ![4096, 512]⟩ .bf16} {h h' z z' : FVec Ideal ⟨2, ![1024, 512]⟩ .f32}
  (hh : h' = h) (ha : a' = a) (hw : w' = w) (hz : z' = z)

include hh ha hw hz

theorem err_at (i : Fin 1024) (j : Fin 512) : k0_pay1 (F := Ideal) h' a' w' z' (ix2 i j) = err a w h z i j := by
  subst hh ha hw hz
  exact congrArg (h' (ix2 i j) + · - z' (ix2 i j)) (nn_at a' w' _ i j)

theorem stored_dy (i : Fin 1024) (j : Fin 512) : k0_pay2 (F := Ideal) h' a' w' z' (ix2 i j) = err a w h z i j * Ideal.ofBits .f32 0x3A800000#32 :=
  congrArg (· * Ideal.ofBits .f32 0x3A800000#32) (err_at hh ha hw hz i j)

theorem stored_dyb (i : Fin 1024) (j : Fin 512) : k0_pay3 (F := Ideal) h' a' w' z' (ix2 i j) = err a w h z i j * Ideal.ofBits .f32 0x3A800000#32 :=
  congrArg (· * Ideal.ofBits .f32 0x3A800000#32) (err_at hh ha hw hz i j)

theorem stored_loss {v : FVec Ideal ⟨2, ![8, 128]⟩ .f32} {q : EReal} (y : (⟨2, ![8, 128]⟩ : Shape).Idx) (hv : v y = q) :
    k0_pay5 (F := Ideal) h' a' w' z' v y = q + Ideal.ofBits .f32 0x3A000000#32 * ∑ i, sqs a w h z i := by
  refine congrArg₂ (· + ·) ((congrFun (shapeCast_self v _) _).trans hv) (congrArg (Ideal.ofBits .f32 0x3A000000#32 * ·) ?_)
  refine (Ideal.reduceAdd_r3_a12 reduces_S1x1024x512_S1 _ _).trans (Finset.sum_congr rfl fun i _ => Finset.sum_congr rfl fun j _ => ?_)
  exact (shapeCast_ab_1ab_apply _ _ _ i j).trans (congrArg₂ (· * ·) (err_at hh ha hw hz i j) (err_at hh ha hw hz i j))

end

variable {c : Dev nD} {i : grid0.Coords} {arg2 : Memref sig .tc .vmem S1024x4096 .bf16} {harg2 : arg2.IsWhole} {arg3 : Memref sig .tc .vmem S4096x512 .bf16} {harg3 : arg3.IsWhole}
  {arg4 : Memref sig .tc .vmem S1024x512 .f32} {harg4 : arg4.IsWhole} {arg5 : Memref sig .tc .vmem S1024x512 .f32} {harg5 : arg5.IsWhole}
  {arg6 : Memref sig .tc .vmem S1024x512 .f32} {harg6 : arg6.IsWhole} {arg7 : Memref sig .tc .vmem S1024x512 .bf16} {harg7 : arg7.IsWhole}
  {arg8 : Memref sig .tc .vmem S8x128 .f32} {harg8 : arg8.IsWhole}
  {x0 : Vec Ideal S1024x4096 .bf16} {x1 : Vec Ideal S4096x512 .bf16} {x2 x3 : Vec Ideal S1024x512 .f32} {xo6 : Vec Ideal S8x128 .f32}

/-- A block's gradient, … -/
abbrev dyBlk (x0 : FVec Ideal ⟨2, ![1024, 4096]⟩ .bf16) (x1 : FVec Ideal ⟨2, ![4096, 512]⟩ .bf16) (x2 x3 : FVec Ideal ⟨2, ![1024, 512]⟩ .f32) (r : Fin 1024) (j : Fin 512) : EReal :=
  err x0 x1 x2 x3 r j * Ideal.ofBits .f32 0x3A800000#32

/-- … and its part of the loss. -/
abbrev lossBlk (x0 : FVec Ideal ⟨2, ![1024, 4096]⟩ .bf16) (x1 : FVec Ideal ⟨2, ![4096, 512]⟩ .bf16) (x2 x3 : FVec Ideal ⟨2, ![1024, 512]⟩ .f32) : EReal :=
  Ideal.ofBits .f32 0x3A000000#32 * ∑ r, sqs x0 x1 x2 x3 r

theorem outA4 {hc0 : cond0_0 i} (r : Fin 1024) (j : Fin 512) :
    out0_A_4 (F := Ideal) c i arg2 harg2 arg3 harg3 arg4 harg4 arg5 harg5 arg6 harg6 arg7 harg7 arg8 harg8 hc0 x0 x1 x2 x3 (ix2 r j) = dyBlk x0 x1 x2 x3 r j := by
  rw [out0_A_4, View.read_writes_junk_eq_canon]
  exact store_at _ (stored_dy Fox.load_at Dhq.ld_at Dhq.ld_at Fox.load_at r j)

theorem outA5 {hc0 : cond0_0 i} (r : Fin 1024) (j : Fin 512) :
    out0_A_5 (F := Ideal) c i arg2 harg2 arg3 harg3 arg4 harg4 arg5 harg5 arg6 harg6 arg7 harg7 arg8 harg8 hc0 x0 x1 x2 x3 (ix2 r j) = dyBlk x0 x1 x2 x3 r j := by
  rw [out0_A_5, View.read_writes_junk_eq_canon]
  exact store_at _ (stored_dyb Fox.load_at Dhq.ld_at Dhq.ld_at Fox.load_at r j)

theorem outA6 {hc0 : cond0_0 i} (y : (⟨2, ![8, 128]⟩ : Shape).Idx) :
    out0_A_6 (F := Ideal) c i arg2 harg2 arg3 harg3 arg4 harg4 arg5 harg5 arg6 harg6 arg7 harg7 arg8 harg8 hc0 x0 x1 x2 x3 y = 0 + lossBlk x0 x1 x2 x3 := by
  rw [out0_A_6, View.read_writes_junk_eq_canon]
  exact store_at _ (stored_loss Fox.load_at Dhq.ld_at Dhq.ld_at Fox.load_at y ((congrFun (Fox.reload.trans Fox.stored) _).trans Ideal.ofBits_zero_f32))

theorem outB4 {hc0 : ¬ cond0_0 i} (r : Fin 1024) (j : Fin 512) :
    out0_B_4 (F := Ideal) c i arg2 harg2 arg3 harg3 arg4 harg4 arg5 harg5 arg6 harg6 arg7 harg7 arg8 harg8 hc0 x0 x1 x2 x3 xo6 (ix2 r j) = dyBlk x0 x1 x2 x3 r j := by
  rw [out0_B_4, View.read_writes_junk_eq_canon]
  exact store_at _ (stored_dy Fox.load_at Dhq.ld_at Dhq.ld_at Fox.load_at r j)

theorem outB5 {hc0 : ¬ cond0_0 i} (r : Fin 1024) (j : Fin 512) :
    out0_B_5 (F := Ideal) c i arg2 harg2 arg3 harg3 arg4 harg4 arg5 harg5 arg6 harg6 arg7 harg7 arg8 harg8 hc0 x0 x1 x2 x3 xo6 (ix2 r j) = dyBlk x0 x1 x2 x3 r j := by
  rw [out0_B_5, View.read_writes_junk_eq_canon]
  exact store_at _ (stored_dyb Fox.load_at Dhq.ld_at Dhq.ld_at Fox.load_at r j)

theorem outB6 {hc0 : ¬ cond0_0 i} (y : (⟨2, ![8, 128]⟩ : Shape).Idx) :
    out0_B_6 (F := Ideal) c i arg2 harg2 arg3 harg3 arg4 harg4 arg5 harg5 arg6 harg6 arg7 harg7 arg8 harg8 hc0 x0 x1 x2 x3 xo6 y = xo6 y + lossBlk x0 x1 x2 x3 := by
  rw [out0_B_6, View.read_writes_junk_eq_canon]
  exact store_at _ (stored_loss Fox.load_at Dhq.ld_at Dhq.ld_at Fox.load_at y (congrFun Fox.load_at _))

end Cert.Mlp.DownLoss

end
-- ==== Proof.DownLoss.lean ====
/- The activations by w_down, added to the layer's input, less the target: the kernel's blocks are the gradient of the loss, and the tile that
   it adds the blocks' squares into is the loss. -/
module

public import proofs.«01_k».proof.Proof.DownLossRun
public import proofs.«01_k».proof.Defs
public import proofs.«01_k».proof.Proof.Gen.DownLossIdeal.Value
public import proofs.«01_k».proof.Proof.Gen.DownLossRefIdeal.Run
public import Idealize.ShloMosaic.Lib.Pipeline.ValueKit.Geometry

@[expose] public section

noncomputable section

namespace Cert.Mlp.DownLoss

open Idealize.ShloMosaic hiding ix2 ix3 eq_ix2
open Idealize.ShloMosaic.ValueIdx Idealize.ShloMosaic.TcCoe Idealize.SL Idealize.SL.Sem
open Cert.DownLossIdeal Cert.DownLossIdeal.Gen

theorem places : ∀ t : Fin cfg0.N, win0_0.index t = ![t.val / 2, 0] ∧ win0_1.index t = ![0, t.val % 2] ∧ win0_2.index t = ![t.val / 2, t.val % 2]
    ∧ win0_3.index t = ![t.val / 2, t.val % 2] ∧ win0_4.index t = ![t.val / 2, t.val % 2] ∧ win0_5.index t = ![t.val / 2, t.val % 2]
    ∧ win0_6.index t = ![0, 0] := by decide +kernel

theorem lt4 (t : Fin cfg0.N) : t.val < 4 := t.isLt

/-- The row and the column of the whole result that a row and a column of block `n` are. -/
abbrev row (n : ℕ) (hn : n < 4) (i : Fin 1024) : Fin 2048 := ⟨n / 2 * 1024 + i.val, by omega⟩
abbrev col (n : ℕ) (hn : n < 4) (j : Fin 512) : Fin 1024 := ⟨n % 2 * 512 + j.val, by omega⟩

/-- An entry of the product. -/
abbrev prodAt {n p : ℕ} (a : FVec Ideal ⟨2, ![n, 4096]⟩ .bf16) (w : FVec Ideal ⟨2, ![4096, p]⟩ .bf16) (i : Fin n) (j : Fin p) : EReal := ∑ k : Fin 4096, a (ix2 i k) * w (ix2 k j)

/-- A sum over all rows and columns is the four blocks' sums. -/
theorem four_blocks (f : Fin 2048 → Fin 1024 → EReal) : ∑ n : Fin 4, ∑ i : Fin 1024, ∑ j : Fin 512, f (row n.val n.isLt i) (col n.val n.isLt j) = ∑ i, ∑ j, f i j := by
  have hc : ∀ i, ∑ j, f i j = ∑ j, f i (col 0 (by omega) j) + ∑ j, f i (col 1 (by omega) j) := fun i =>
    (Fin.sum_univ_add (a := 512) (b := 512) (f i)).trans (congrArg₂ (· + ·) (Finset.sum_congr rfl fun j _ => congrArg (f i) (Fin.ext (by simp [col])))
      (Finset.sum_congr rfl fun j _ => congrArg (f i) (Fin.ext (by simp [col]; omega))))
  have hr : ∀ g : Fin 2048 → EReal, ∑ i, g i = ∑ i, g (row 0 (by omega) i) + ∑ i, g (row 2 (by omega) i) := fun g =>
    (Fin.sum_univ_add (a := 1024) (b := 1024) g).trans (congrArg₂ (· + ·) (Finset.sum_congr rfl fun j _ => congrArg g (Fin.ext (by simp [row])))
      (Finset.sum_congr rfl fun j _ => congrArg g (Fin.ext (by simp [row]; omega))))
  rw [hr]
  simp only [hc]
  rw [Finset.sum_add_distrib, Finset.sum_add_distrib, Fin.sum_univ_four, add_assoc (_ + _)]
  rfl

section

variable (m : (k : Loc nD τ sig) → Buf (Elt Ideal) k) (c : Dev nD)

abbrev a0 : FVec Ideal ⟨2, ![2048, 4096]⟩ .bf16 := m ((c : Thread nD τ).loc main_arg0)
abbrev a1 : FVec Ideal ⟨2, ![4096, 1024]⟩ .bf16 := m ((c : Thread nD τ).loc main_arg1)
abbrev a2 : FVec Ideal ⟨2, ![2048, 1024]⟩ .f32 := m ((c : Thread nD τ).loc main_arg2)
abbrev a3 : FVec Ideal ⟨2, ![2048, 1024]⟩ .f32 := m ((c : Thread nD τ).loc main_arg3)

/-- The error. -/
abbrev E (i : Fin 2048) (j : Fin 1024) : EReal := err (a0 m c) (a1 m c) (a2 m c) (a3 m c) i j

section

variable (t : Fin cfg0.N)

theorem blk0 (i : Fin 1024) (k : Fin 4096) :
    (iblk m c 0 t : FVec Ideal ⟨2, ![1024, 4096]⟩ .bf16) (ix2 i k) = a0 m c (ix2 (row t.val (lt4 t) i) k) := by
  have h := (places t).1
  unfold iblk
  blk_simp
  refine (congrFun (V_main_arg0 m c) _).trans (congrArg (a0 m c) (funext fun a => Fin.ext ?_))
  fin_cases a
  all_goals blk_simp [h]

theorem blk1 (k : Fin 4096) (j : Fin 512) :
    (iblk m c 1 t : FVec Ideal ⟨2, ![4096, 512]⟩ .bf16) (ix2 k j) = a1 m c (ix2 k (col t.val (lt4 t) j)) := by
  have h := (places t).2.1
  unfold iblk
  blk_simp
  refine (congrFun (V_main_arg1 m c) _).trans (congrArg (a1 m c) (funext fun a => Fin.ext ?_))
  fin_cases a
  all_goals blk_simp [h]

theorem blk2 (i : Fin 1024) (j : Fin 512) :
    (iblk m c 2 t : FVec Ideal ⟨2, ![1024, 512]⟩ .f32) (ix2 i j) = a2 m c (ix2 (row t.val (lt4 t) i) (col t.val (lt4 t) j)) := by
  have h := (places t).2.2.1
  unfold iblk
  blk_simp
  refine (congrFun (V_main_arg2 m c) _).trans (congrArg (a2 m c) (funext fun a => Fin.ext ?_))
  fin_cases a
  all_goals blk_simp [h]

theorem blk3 (i : Fin 1024) (j : Fin 512) :
    (iblk m c 3 t : FVec Ideal ⟨2, ![1024, 512]⟩ .f32) (ix2 i j) = a3 m c (ix2 (row t.val (lt4 t) i) (col t.val (lt4 t) j)) := by
  have h := (places t).2.2.2.1
  unfold iblk
  blk_simp
  refine (congrFun (V_main_arg3 m c) _).trans (congrArg (a3 m c) (funext fun a => Fin.ext ?_))
  fin_cases a
  all_goals blk_simp [h]

theorem err_blk (i : Fin 1024) (j : Fin 512) :
    err (iblk m c 0 t) (iblk m c 1 t) (iblk m c 2 t) (iblk m c 3 t) i j = E m c (row t.val (lt4 t) i) (col t.val (lt4 t) j) := by
  have e : prodAt (iblk m c 0 t) (iblk m c 1 t) i j = prodAt (a0 m c) (a1 m c) (row t.val (lt4 t) i) (col t.val (lt4 t) j) :=
    Finset.sum_congr rfl fun k _ => congrArg₂ (· * ·) (blk0 m c t i k) (blk1 m c t k j)
  exact congrArg₂ (· - ·) (congrArg₂ (· + ·) (blk2 m c t i j) e) (blk3 m c t i j)

/-- The sum of the squares of the errors of block `n`. -/
def part (n : ℕ) (hn : n < 4) : EReal := ∑ i : Fin 1024, ∑ j : Fin 512, E m c (row n hn i) (col n hn j) * E m c (row n hn i) (col n hn j)

theorem loss_blk : lossBlk (iblk m c 0 t) (iblk m c 1 t) (iblk m c 2 t) (iblk m c 3 t) = Ideal.ofBits .f32 0x3A000000#32 * part m c t.val (lt4 t) :=
  congrArg (Ideal.ofBits .f32 0x3A000000#32 * ·) (Finset.sum_congr rfl fun i _ => Finset.sum_congr rfl fun j _ => congrArg₂ (· * ·) (err_blk m c t i j) (err_blk m c t i j))

end

/-- What the buffers hold after point `n`. -/
structure After (n : ℕ) (hn : n < 4) (X4 : FVec Ideal ⟨2, ![1024, 512]⟩ .f32) (X5 : FVec Ideal ⟨2, ![1024, 512]⟩ .bf16) (X6 : FVec Ideal ⟨2, ![8, 128]⟩ .f32) : Prop where
  dy : ∀ i j, X4 (ix2 i j) = E m c (row n hn i) (col n hn j) * Ideal.ofBits .f32 0x3A800000#32
  dyb : ∀ i j, X5 (ix2 i j) = E m c (row n hn i) (col n hn j) * Ideal.ofBits .f32 0x3A800000#32
  loss : ∀ y, X6 y = ∑ k : Fin (n + 1), Ideal.ofBits .f32 0x3A000000#32 * part m c k.val (by omega)

theorem after_first (t : Fin cfg0.N) (h0 : t.val % 4 = 0) :
    After m c t.val (lt4 t) (outsAt0 m c t.val t.isLt).1 (outsAt0 m c t.val t.isLt).2.1 (outsAt0 m c t.val t.isLt).2.2 := by
  have e0 : t = ⟨0, by decide⟩ := Fin.ext (by have := lt4 t; show t.val = 0; omega)
  rw [outsAt0_A m c t h0]
  dsimp only
  refine ⟨fun i j => (outA4 i j).trans (congrArg (· * _) (err_blk m c t i j)), fun i j => (outA5 i j).trans (congrArg (· * _) (err_blk m c t i j)),
    fun y => (outA6 y).trans ((zero_add _).trans ((loss_blk m c t).trans ?_))⟩
  subst e0
  exact (Fin.sum_univ_one fun k : Fin 1 => Ideal.ofBits .f32 0x3A000000#32 * part m c k.val (by omega)).symm

theorem after_next (t : Fin cfg0.N) (h0 : ¬ t.val % 4 = 0) (n : ℕ) (hn : n < 4) (hn1 : n + 1 < 4) (e : t = ⟨n + 1, hn1⟩) (hn' : t.val - 1 < cfg0.N)
    (h : After m c n hn (outsAt0 m c (t.val - 1) hn').1 (outsAt0 m c (t.val - 1) hn').2.1 (outsAt0 m c (t.val - 1) hn').2.2) :
    After m c t.val (lt4 t) (outsAt0 m c t.val t.isLt).1 (outsAt0 m c t.val t.isLt).2.1 (outsAt0 m c t.val t.isLt).2.2 := by
  rw [outsAt0_B m c t h0]
  dsimp only
  refine ⟨fun i j => (outB4 i j).trans (congrArg (· * _) (err_blk m c t i j)), fun i j => (outB5 i j).trans (congrArg (· * _) (err_blk m c t i j)),
    fun y => (outB6 y).trans ((congrArg₂ (· + ·) (h.loss y) (loss_blk m c t)).trans ?_)⟩
  subst e
  exact (Fin.sum_univ_castSucc (n := n + 1) fun k => Ideal.ofBits .f32 0x3A000000#32 * part m c k.val (by omega)).symm

theorem after_at : ∀ (n : ℕ) (hn : n < cfg0.N), After m c n hn (outsAt0 m c n hn).1 (outsAt0 m c n hn).2.1 (outsAt0 m c n hn).2.2
  | 0, hn => after_first m c ⟨0, hn⟩ rfl
  | n + 1, hn => after_next m c ⟨n + 1, hn⟩ (by have : n + 1 < 4 := hn; simp only; omega) n (by have : n + 1 < 4 := hn; omega) hn rfl (Nat.lt_of_succ_lt hn)
      (after_at n (Nat.lt_of_succ_lt hn))

/-! ## The result arrays -/

theorem arr4 : ((dats m 0 c).arrAt 4 cfg0.N : FVec Ideal ⟨2, ![2048, 1024]⟩ .f32)
    = Cert.DownLossRefIdeal.Read.val_main_v18 (F := Ideal) (a0 m c) (a1 m c) (a2 m c) (a3 m c) := by
  refine (dats m 0 c).arrAt_eq_of_covers 4 _ (by decide +kernel) fun t hf y => ?_
  blk_simp
  obtain ⟨i, j, rfl⟩ : ∃ (i : Fin 1024) (j : Fin 512), y = ix2 i j := ⟨y 0, y 1, eq_ix2 y⟩
  have hp := (places t).2.2.2.2.1
  have ey : (win0_4.blk t).view.emb (ix2 i j) = ix2 (row t.val (lt4 t) i) (col t.val (lt4 t) j) := by
    refine funext fun a => Fin.ext ?_
    fin_cases a
    all_goals blk_simp [hp]
  exact (congrFun (after0_4 m c t) _).trans (((after_at m c t.val t.isLt).dy i j).trans ((v18_at _ _ _ _ _ _).symm.trans (congrArg _ ey.symm)))

theorem arr5 : ((dats m 0 c).arrAt 5 cfg0.N : FVec Ideal ⟨2, ![2048, 1024]⟩ .bf16)
    = Cert.DownLossRefIdeal.Read.val_main_v19 (F := Ideal) (a0 m c) (a1 m c) (a2 m c) (a3 m c) := by
  refine (dats m 0 c).arrAt_eq_of_covers 5 _ (by decide +kernel) fun t hf y => ?_
  blk_simp
  obtain ⟨i, j, rfl⟩ : ∃ (i : Fin 1024) (j : Fin 512), y = ix2 i j := ⟨y 0, y 1, eq_ix2 y⟩
  have hp := (places t).2.2.2.2.2.1
  have ey : (win0_5.blk t).view.emb (ix2 i j) = ix2 (row t.val (lt4 t) i) (col t.val (lt4 t) j) := by
    refine funext fun a => Fin.ext ?_
    fin_cases a
    all_goals blk_simp [hp]
  exact (congrFun (after0_5 m c t) _).trans (((after_at m c t.val t.isLt).dyb i j).trans ((v18_at _ _ _ _ _ _).symm.trans (congrArg _ ey.symm)))

theorem arr6 : ((dats m 0 c).arrAt 6 cfg0.N : FVec Ideal ⟨2, ![8, 128]⟩ .f32)
    = Cert.DownLossRefIdeal.Read.val_main_v20 (F := Ideal) (a0 m c) (a1 m c) (a2 m c) (a3 m c) := by
  refine (dats m 0 c).arrAt_eq_of_after_last 6 (⟨3, by decide⟩ : Fin cfg0.N) (by decide +kernel) _ fun y => ?_
  blk_simp
  refine (congrFun (after0_6 m c _) _).trans (((after_at m c 3 (by decide)).loss y).trans (Eq.trans ?_ (v20_at _ _ _ _ _).symm))
  refine (mul_sum_of_nonneg _ _ _ fun n => Finset.sum_nonneg fun i _ => Finset.sum_nonneg fun j _ => sq_nonneg _).trans (congrArg (_ * ·) ?_)
  exact four_blocks fun i j => E m c i j * E m c i j

end

/-- The two runs end with the same results. -/
theorem algebraic : algebraic_DownLossIdeal_DownLossRefIdeal (hDownLossIdeal := Cert.DownLossIdeal.Gen.facts) (hDownLossRefIdeal := Cert.DownLossRefIdeal.Gen.facts) := by
  intro m g m' g' _ hm
  refine ⟨fun c => Cert.DownLossRefIdeal.Read.val_main_v18 (F := Ideal) (a0 m c) (a1 m c) (a2 m c) (a3 m c),
    fun c => Cert.DownLossRefIdeal.Read.val_main_v19 (F := Ideal) (a0 m c) (a1 m c) (a2 m c) (a3 m c),
    fun c => Cert.DownLossRefIdeal.Read.val_main_v20 (F := Ideal) (a0 m c) (a1 m c) (a2 m c) (a3 m c), ?_, ?_⟩
  · refine (θ_run (Cert.DownLossIdeal.defs (F := Ideal)) _ _).mono (fun r h c => ?_) (Cert.DownLossIdeal.Value.run_blocks (F := Ideal) m g)
    obtain ⟨h4, h5, h6, hr⟩ := h c
    exact ⟨h4.trans (arr4 m c), h5.trans (arr5 m c), h6.trans (arr6 m c), hr⟩
  · refine (θ_run (Cert.DownLossRefIdeal.defs (F := Ideal)) _ _).mono (fun r h c => ?_) (Cert.DownLossRefIdeal.Value.run (F := Ideal) m' g')
    obtain ⟨e0, e1, e2, e3⟩ := hm c
    obtain ⟨h0, h1, h2, hr⟩ := h c
    refine ⟨h0.trans ((Cert.DownLossRefIdeal.Read.val_main_v18_eq _ _ _ _).trans ?_), h1.trans ((Cert.DownLossRefIdeal.Read.val_main_v19_eq _ _ _ _).trans ?_),
      h2.trans ((Cert.DownLossRefIdeal.Read.val_main_v20_eq _ _ _ _).trans ?_), hr⟩
    all_goals rw [e0, e1, e2, e3]

end Cert.Mlp.DownLoss

end
-- ==== Proof.DwIn.lean ====
/- The gradient of the input projection: the columns of q's, k's and v's gradients by the columns of the norm's result, one block
   of the result's rows after another. -/
module

public import proofs.«01_k».proof.Proof.Mm
public import proofs.«01_k».proof.Defs
public import proofs.«01_k».proof.Proof.Gen.DwInIdeal.Value
public import proofs.«01_k».proof.Proof.Gen.DwInRefIdeal.Run
public import proofs.«01_k».proof.Proof.Gen.DwInRefIdeal.Read
public import Idealize.ShloMosaic.Lib.Pipeline.ValueKit.Geometry

@[expose] public section

noncomputable section

namespace Cert.Mlp.DwIn

open Idealize.ShloMosaic Idealize.ShloMosaic.ValueIdx Idealize.ShloMosaic.TcCoe Idealize.SL Idealize.SL.Sem
open Cert.DwInIdeal Cert.DwInIdeal.Gen

theorem places : ∀ t : Fin cfg0.N, win0_0.index t = ![t.val / 2, 0, t.val % 2] ∧ win0_1.index t = ![0, 0] ∧ win0_2.index t = ![t.val, 0] := by decide +kernel

/-- The block of the result from the blocks of the operands. -/
theorem out_at (x0 : FVec Ideal ⟨3, ![1, 2048, 512]⟩ .bf16) (x1 : FVec Ideal ⟨2, ![2048, 1024]⟩ .bf16) (i : Fin 512) (j : Fin 1024) :
    (out0_2 (F := Ideal) x0 x1 : FVec Ideal ⟨2, ![512, 1024]⟩ .bf16) (ix2 i j) = ∑ k : Fin 2048, x0 (ix3 0 k i) * x1 (ix2 k j) := by
  unfold out0_2
  rw [View.canon_unit_zero (h := zero2), View.ld_unit_zero (h := zero3), View.ld_unit_zero (h := zero2)]
  unfold k0_pay1
  refine (tn_at (shapeCast S2048x512 x0 shapeCasts_S1x2048x512_S2048x512) x1 _ i j).trans (Finset.sum_congr rfl fun k _ => congrArg (· * _) ?_)
  refine shapeCast_apply _ shapeCasts_S1x2048x512_S2048x512 (ix2 k i) (ix3 0 k i) ?_
  rw [Shape.rowMajor_val_two, Shape.rowMajor_val_three]
  show (0 * 2048 + k.val) * 512 + i.val = k.val * 512 + i.val
  omega

section

variable (m : (k : Loc nD τ sig) → Buf (Elt Ideal) k) (c : Dev nD) (t : Fin cfg0.N)

abbrev a0 : FVec Ideal ⟨3, ![3, 2048, 1024]⟩ .bf16 := m ((c : Thread nD τ).loc main_arg0)
abbrev a1 : FVec Ideal ⟨2, ![2048, 1024]⟩ .bf16 := m ((c : Thread nD τ).loc main_arg1)

theorem blk0 (i : Fin 2048) (j : Fin 512) :
    (iblk m c 0 t : FVec Ideal ⟨3, ![1, 2048, 512]⟩ .bf16) (ix3 0 i j)
      = a0 m c (ix3 ⟨t.val / 2, by have : t.val < 6 := t.isLt; omega⟩ i ⟨t.val % 2 * 512 + j.val, by omega⟩) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 1024) :
    (iblk m c 1 t : FVec Ideal ⟨2, ![2048, 1024]⟩ .bf16) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨3, ![3, 2048, 1024]⟩ .bf16) (x1 : FVec Ideal ⟨2, ![2048, 1024]⟩ .bf16) (i : Fin 3072) (j : Fin 1024) :
    (Cert.DwInRefIdeal.Read.val_main_v9 (F := Ideal) x0 x1 : FVec Ideal ⟨2, ![3072, 1024]⟩ .bf16) (ix2 i j)
      = ∑ k : Fin 2048, x0 (ix3 ⟨i.val / 1024, by omega⟩ k ⟨i.val % 1024, by omega⟩) * x1 (ix2 k j) := by
  show Cert.DwInRefIdeal.Read.val_main_v8 (F := Ideal) x0 x1 (ix2 i j) = _
  refine (Cert.DwInRefIdeal.Read.val_main_v8_apply (F := Ideal) x0 x1 _).trans ?_
  refine (Cert.DwInRefIdeal.Read.val_main_v7_apply (F := Ideal) x0 x1 _).trans ?_
  refine (Cert.DwInRefIdeal.Read.val_main_v6_apply x0 x1 _).trans (Finset.sum_congr rfl fun k _ => congrArg₂ (· * ·) ?_ ?_)
  · refine (Cert.DwInRefIdeal.Read.val_main_v3_apply (F := Ideal) x0 _).trans ((Cert.DwInRefIdeal.Read.val_main_v2_apply (F := Ideal) x0 _).trans ?_)
    refine congrArg x0 (funext fun a => Fin.ext ?_)
    match a with
    | 0 => show (k.val * 3072 + i.val) / 1024 % 3 = i.val / 1024; omega
    | 1 => show (k.val * 3072 + i.val) / 3072 = k.val; omega
    | 2 => show (k.val * 3072 + i.val) % 1024 = i.val % 1024; omega
  · exact congrArg x1 (Shape.idx_ext₂ rfl rfl)

theorem arr : ((dats m 0 c).arrAt 2 cfg0.N : FVec Ideal ⟨2, ![3072, 1024]⟩ .bf16)
    = Cert.DwInRefIdeal.Read.val_main_v9 (F := Ideal) (a0 m c) (a1 m c) := by
  refine (dats m 0 c).arrAt_eq_of_covers 2 _ (by decide +kernel) fun t hf y => ?_
  blk_simp
  obtain ⟨i, j, rfl⟩ : ∃ (i : Fin 512) (j : Fin 1024), y = ix2 i j := ⟨y 0, y 1, eq_ix2 y⟩
  have hp := (places t).2.2
  have ht : t.val < 6 := t.isLt
  have ey : (win0_2.blk t).view.emb (ix2 i j) = ix2 (⟨t.val * 512 + i.val, by omega⟩ : Fin 3072) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  refine congrArg₂ (· * ·) ((blk0 m c t k i).trans (congrArg (a0 m c) (funext fun a => Fin.ext ?_))) (blk1 m c t k j)
  match a with
  | 0 => show t.val / 2 = (t.val * 512 + i.val) / 1024; omega
  | 1 => rfl
  | 2 => show t.val % 2 * 512 + i.val = (t.val * 512 + i.val) % 1024; omega

end

/-- The two runs end with the same result. -/
theorem algebraic : algebraic_DwInIdeal_DwInRefIdeal (hDwInIdeal := Cert.DwInIdeal.Gen.facts) (hDwInRefIdeal := Cert.DwInRefIdeal.Gen.facts) := by
  intro m g m' g' _ hm
  refine ⟨fun c => Cert.DwInRefIdeal.Read.val_main_v9 (F := Ideal) (a0 m c) (a1 m c), ?_, ?_⟩
  · refine (θ_run (Cert.DwInIdeal.defs (F := Ideal)) _ _).mono (fun r h c => ?_) (Cert.DwInIdeal.Value.run_blocks (F := Ideal) m g)
    exact ⟨(h c).1.trans (arr m c), (h c).2⟩
  · refine (θ_run (Cert.DwInRefIdeal.defs (F := Ideal)) _ _).mono (fun r h c => ?_) (Cert.DwInRefIdeal.Value.run (F := Ideal) m' g')
    obtain ⟨e0, e1⟩ := hm c
    refine ⟨(h c).1.trans ((Cert.DwInRefIdeal.Read.val_main_v9_eq _ _).trans ?_), (h c).2⟩
    exact congrArg₂ (Cert.DwInRefIdeal.Read.val_main_v9 (F := Ideal)) e0 e1

end Cert.Mlp.DwIn

end
-- ==== Proof.DwOut.lean ====
/- The gradient of w_out: the columns of the heads by the columns of the gradient, in one block. -/
module

public import proofs.«01_k».proof.Proof.Mm
public import proofs.«01_k».proof.Defs
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit.Geometry

@[expose] public section

noncomputable section

namespace Cert.Mlp.DwOut

open Idealize.ShloMosaic Idealize.ShloMosaic.ValueIdx Idealize.ShloMosaic.TcCoe Idealize.SL Idealize.SL.Sem
open Cert.DwOutIdeal Cert.DwOutIdeal.Gen

theorem places : ∀ t : Fin cfg0.N, win0_0.index t = ![0, t.val] ∧ win0_1.index t = ![0, 0] ∧ win0_2.index t = ![t.val, 0] := by decide +kernel

/-- The block of the result from the blocks of the operands. -/
theorem out_at (x0 x1 : FVec Ideal ⟨2, ![2048, 1024]⟩ .bf16) (i j : Fin 1024) :
    (out0_2 (F := Ideal) x0 x1 : FVec Ideal ⟨2, ![1024, 1024]⟩ .bf16) (ix2 i j) = ∑ k : Fin 2048, x0 (ix2 k i) * x1 (ix2 k j) := by
  unfold out0_2
  rw [View.canon_unit_zero (h := zero2), View.ld_unit_zero (h := zero2), View.ld_unit_zero (h := zero2)]
  exact tn_at x0 x1 _ i j

section

variable (m : (k : Loc nD τ sig) → Buf (Elt Ideal) k) (c : Dev nD) (t : Fin cfg0.N)

abbrev a0 : FVec Ideal ⟨2, ![2048, 1024]⟩ .bf16 := m ((c : Thread nD τ).loc main_arg0)
abbrev a1 : FVec Ideal ⟨2, ![2048, 1024]⟩ .bf16 := m ((c : Thread nD τ).loc main_arg1)

theorem blk0 (i : Fin 2048) (j : Fin 1024) :
    (iblk m c 0 t : FVec Ideal ⟨2, ![2048, 1024]⟩ .bf16) (ix2 i j) = a0 m c (ix2 i ⟨t.val * 1024 + j.val, by have : t.val < 1 := t.isLt; omega⟩) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 1024) :
    (iblk m c 1 t : FVec Ideal ⟨2, ![2048, 1024]⟩ .bf16) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 1024]⟩ .bf16) (x1 : FVec Ideal ⟨2, ![2048, 1024]⟩ .bf16) (i : Fin 1024) (j : Fin 1024) :
    (Cert.DwOutRefIdeal.Read.val_main_v6 (F := Ideal) x0 x1 : FVec Ideal ⟨2, ![1024, 1024]⟩ .bf16) (ix2 i j) = ∑ k : Fin 2048, x0 (ix2 k i) * x1 (ix2 k j) := by
  show Cert.DwOutRefIdeal.Read.val_main_v5 (F := Ideal) x0 x1 (ix2 i j) = _
  refine (Cert.DwOutRefIdeal.Read.val_main_v5_apply (F := Ideal) x0 x1 _).trans ?_
  refine (Cert.DwOutRefIdeal.Read.val_main_v4_apply x0 x1 _).trans (Finset.sum_congr rfl fun k _ => ?_)
  refine (mul_comm _ _).trans (congrArg₂ (· * ·) ?_ ?_)
  · exact congrArg x0 (Shape.idx_ext₂ rfl rfl)
  · exact congrArg x1 (Shape.idx_ext₂ rfl rfl)

theorem arr : ((dats m 0 c).arrAt 2 cfg0.N : FVec Ideal ⟨2, ![1024, 1024]⟩ .bf16)
    = Cert.DwOutRefIdeal.Read.val_main_v6 (F := Ideal) (a0 m c) (a1 m c) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  have hp := (places t).2.2
  have ey : (win0_2.blk t).view.emb (ix2 i j) = ix2 (⟨t.val * 1024 + i.val, by have : t.val < 1 := t.isLt; omega⟩ : Fin 1024) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  exact congrArg₂ (· * ·) (blk0 m c t k i) (blk1 m c t k j)

end

/-- The two runs end with the same result. -/
theorem algebraic : algebraic_DwOutIdeal_DwOutRefIdeal (hDwOutIdeal := Cert.DwOutIdeal.Gen.facts) (hDwOutRefIdeal := Cert.DwOutRefIdeal.Gen.facts) := by
  intro m g m' g' _ hm
  refine ⟨fun c => Cert.DwOutRefIdeal.Read.val_main_v6 (F := Ideal) (a0 m c) (a1 m c), ?_, ?_⟩
  · refine (θ_run (Cert.DwOutIdeal.defs (F := Ideal)) _ _).mono (fun r h c => ?_) (Cert.DwOutIdeal.Value.run_blocks (F := Ideal) m g)
    exact ⟨(h c).1.trans (arr m c), (h c).2⟩
  · refine (θ_run (Cert.DwOutRefIdeal.defs (F := Ideal)) _ _).mono (fun r h c => ?_) (Cert.DwOutRefIdeal.Value.run (F := Ideal) m' g')
    obtain ⟨e0, e1⟩ := hm c
    refine ⟨(h c).1.trans ((Cert.DwOutRefIdeal.Read.val_main_v6_eq _ _).trans ?_), (h c).2⟩
    exact congrArg₂ (Cert.DwOutRefIdeal.Read.val_main_v6 (F := Ideal)) e0 e1

end Cert.Mlp.DwOut

end
-- ==== Proof.DOut.lean ====
/- The gradient of an attention's heads: rows of the gradient by rows of w_out, one block of rows after another. -/
module

public import proofs.«01_k».proof.Proof.Mm
public import proofs.«01_k».proof.Defs
public import proofs.«01_k».proof.Proof.Gen.DOutIdeal.Value
public import proofs.«01_k».proof.Proof.Gen.DOutRefIdeal.Run
public import proofs.«01_k».proof.Proof.Gen.DOutRefIdeal.Read
public import Idealize.ShloMosaic.Lib.Pipeline.ValueKit.Geometry

@[expose] public section

noncomputable section

namespace Cert.Mlp.DOut

open Idealize.ShloMosaic Idealize.ShloMosaic.ValueIdx Idealize.ShloMosaic.TcCoe Idealize.SL Idealize.SL.Sem
open Cert.DOutIdeal Cert.DOutIdeal.Gen

theorem places : ∀ t : Fin cfg0.N, win0_0.index t = ![t.val, 0] ∧ win0_1.index t = ![0, 0] ∧ win0_2.index t = ![t.val, 0] := by decide +kernel

/-- The block of the result from the blocks of the operands. -/
theorem out_at (x0 x1 : FVec Ideal ⟨2, ![1024, 1024]⟩ .bf16) (i j : Fin 1024) :
    (out0_2 (F := Ideal) x0 x1 : FVec Ideal ⟨2, ![1024, 1024]⟩ .bf16) (ix2 i j) = ∑ k : Fin 1024, x0 (ix2 i k) * x1 (ix2 j k) := by
  unfold out0_2
  rw [View.canon_unit_zero (h := zero2), View.ld_unit_zero (h := zero2), View.ld_unit_zero (h := zero2)]
  exact nt_at x0 x1 _ i j

section

variable (m : (k : Loc nD τ sig) → Buf (Elt Ideal) k) (c : Dev nD) (t : Fin cfg0.N)

abbrev a0 : FVec Ideal ⟨2, ![2048, 1024]⟩ .bf16 := m ((c : Thread nD τ).loc main_arg0)
abbrev a1 : FVec Ideal ⟨2, ![1024, 1024]⟩ .bf16 := m ((c : Thread nD τ).loc main_arg1)

theorem blk0 (i j : Fin 1024) :
    (iblk m c 0 t : FVec Ideal ⟨2, ![1024, 1024]⟩ .bf16) (ix2 i j) = a0 m c (ix2 ⟨t.val * 1024 + i.val, by have : t.val < 2 := t.isLt; omega⟩ j) := by
  have h := (places t).1
  unfold iblk
  blk_simp
  refine (congrFun (V_main_arg0 m c) _).trans (congrArg (a0 m c) (funext fun a => Fin.ext ?_))
  fin_cases a
  all_goals blk_simp [h]

theorem blk1 (i j : Fin 1024) :
    (iblk m c 1 t : FVec Ideal ⟨2, ![1024, 1024]⟩ .bf16) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 1024]⟩ .bf16) (x1 : FVec Ideal ⟨2, ![1024, 1024]⟩ .bf16) (i : Fin 2048) (j : Fin 1024) :
    (Cert.DOutRefIdeal.Read.val_main_v5 (F := Ideal) x0 x1 : FVec Ideal ⟨2, ![2048, 1024]⟩ .bf16) (ix2 i j) = ∑ k : Fin 1024, x0 (ix2 i k) * x1 (ix2 j k) := by
  show Cert.DOutRefIdeal.Read.val_main_v4 (F := Ideal) x0 x1 (ix2 i j) = _
  refine (Cert.DOutRefIdeal.Read.val_main_v4_apply x0 x1 _).trans (Finset.sum_congr rfl fun k _ => congrArg₂ (· * ·) ?_ ?_)
  · exact congrArg x0 (Shape.idx_ext₂ rfl rfl)
  · exact congrArg x1 (Shape.idx_ext₂ rfl rfl)

theorem arr : ((dats m 0 c).arrAt 2 cfg0.N : FVec Ideal ⟨2, ![2048, 1024]⟩ .bf16)
    = Cert.DOutRefIdeal.Read.val_main_v5 (F := Ideal) (a0 m c) (a1 m c) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  have hp := (places t).2.2
  have ey : (win0_2.blk t).view.emb (ix2 i j) = ix2 (⟨t.val * 1024 + i.val, by have : t.val < 2 := t.isLt; omega⟩ : Fin 2048) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  exact congrArg₂ (· * ·) (blk0 m c t i k) (blk1 m c t j k)

end

/-- The two runs end with the same result. -/
theorem algebraic : algebraic_DOutIdeal_DOutRefIdeal (hDOutIdeal := Cert.DOutIdeal.Gen.facts) (hDOutRefIdeal := Cert.DOutRefIdeal.Gen.facts) := by
  intro m g m' g' _ hm
  refine ⟨fun c => Cert.DOutRefIdeal.Read.val_main_v5 (F := Ideal) (a0 m c) (a1 m c), ?_, ?_⟩
  · refine (θ_run (Cert.DOutIdeal.defs (F := Ideal)) _ _).mono (fun r h c => ?_) (Cert.DOutIdeal.Value.run_blocks (F := Ideal) m g)
    exact ⟨(h c).1.trans (arr m c), (h c).2⟩
  · refine (θ_run (Cert.DOutRefIdeal.defs (F := Ideal)) _ _).mono (fun r h c => ?_) (Cert.DOutRefIdeal.Value.run (F := Ideal) m' g')
    obtain ⟨e0, e1⟩ := hm c
    refine ⟨(h c).1.trans ((Cert.DOutRefIdeal.Read.val_main_v5_eq _ _).trans ?_), (h c).2⟩
    exact congrArg₂ (Cert.DOutRefIdeal.Read.val_main_v5 (F := Ideal)) e0 e1

end Cert.Mlp.DOut

end
-- ==== Proof.OutProj.lean ====
/- An attention's heads by w_out, added to the stream: each block of the result is a block of rows by a block of columns. -/
module

public import proofs.«01_k».proof.Proof.Mm
public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit.Geometry

@[expose] public section

noncomputable section

namespace Cert.Mlp.OutProj

open Idealize.ShloMosaic Idealize.ShloMosaic.ValueIdx Idealize.ShloMosaic.TcCoe Idealize.SL Idealize.SL.Sem
open Cert.OutProjIdeal Cert.OutProjIdeal.Gen

theorem places : ∀ t : Fin cfg0.N, win0_0.index t = ![t.val / 2, 0] ∧ win0_1.index t = ![0, t.val % 2] ∧ win0_2.index t = ![t.val / 2, t.val % 2]
    ∧ win0_3.index t = ![t.val / 2, t.val % 2] := by decide +kernel

/-- The block of the result from the blocks of the operands. -/
theorem out_at (x0 : FVec Ideal ⟨2, ![1024, 1024]⟩ .bf16) (x1 : FVec Ideal ⟨2, ![1024, 512]⟩ .bf16) (x2 : FVec Ideal ⟨2, ![1024, 512]⟩ .f32)
    (i : Fin 1024) (j : Fin 512) :
    (out0_3 (F := Ideal) x0 x1 x2 : FVec Ideal ⟨2, ![1024, 512]⟩ .f32) (ix2 i j) = x2 (ix2 i j) + ∑ k : Fin 1024, x0 (ix2 i k) * x1 (ix2 k j) := by
  unfold out0_3
  rw [View.canon_unit_zero (h := zero2), View.ld_unit_zero (h := zero2), View.ld_unit_zero (h := zero2), View.ld_unit_zero (h := zero2)]
  exact congrArg (x2 (ix2 i j) + ·) (nn_at x0 x1 _ i j)

section

variable (m : (k : Loc nD τ sig) → Buf (Elt Ideal) k) (c : Dev nD) (t : Fin cfg0.N)

abbrev a0 : FVec Ideal ⟨2, ![2048, 1024]⟩ .bf16 := m ((c : Thread nD τ).loc main_arg0)
abbrev a1 : FVec Ideal ⟨2, ![1024, 1024]⟩ .bf16 := m ((c : Thread nD τ).loc main_arg1)
abbrev a2 : FVec Ideal ⟨2, ![2048, 1024]⟩ .f32 := m ((c : Thread nD τ).loc main_arg2)

/-- The row and the column of the whole result that a block's row and column are. -/
abbrev row (i : Fin 1024) : Fin 2048 := ⟨t.val / 2 * 1024 + i.val, by have : t.val < 4 := t.isLt; omega⟩
abbrev col (j : Fin 512) : Fin 1024 := ⟨t.val % 2 * 512 + j.val, by have : t.val < 4 := t.isLt; omega⟩

theorem blk0 (i : Fin 1024) (j : Fin 1024) :
    (iblk m c 0 t : FVec Ideal ⟨2, ![1024, 1024]⟩ .bf16) (ix2 i j) = a0 m c (ix2 (row t i) j) := by
  have h := (places t).1
  unfold iblk
  blk_simp
  refine (congrFun (V_main_arg0 m c) _).trans (congrArg (a0 m c) (funext fun a => Fin.ext ?_))
  fin_cases a
  all_goals blk_simp [h]

theorem blk1 (i : Fin 1024) (j : Fin 512) :
    (iblk m c 1 t : FVec Ideal ⟨2, ![1024, 512]⟩ .bf16) (ix2 i j) = a1 m c (ix2 i (col t j)) := by
  have h := (places t).2.1
  unfold iblk
  blk_simp
  refine (congrFun (V_main_arg1 m c) _).trans (congrArg (a1 m c) (funext fun a => Fin.ext ?_))
  fin_cases a
  all_goals blk_simp [h]

theorem blk2 (i : Fin 1024) (j : Fin 512) :
    (iblk m c 2 t : FVec Ideal ⟨2, ![1024, 512]⟩ .f32) (ix2 i j) = a2 m c (ix2 (row t i) (col t j)) := by
  have h := (places t).2.2.1
  unfold iblk
  blk_simp
  refine (congrFun (V_main_arg2 m c) _).trans (congrArg (a2 m c) (funext fun a => Fin.ext ?_))
  fin_cases a
  all_goals blk_simp [h]

theorem ref_at (x0 : FVec Ideal ⟨2, ![2048, 1024]⟩ .bf16) (x1 : FVec Ideal ⟨2, ![1024, 1024]⟩ .bf16) (x2 : FVec Ideal ⟨2, ![2048, 1024]⟩ .f32)
    (i : Fin 2048) (j : Fin 1024) :
    (Cert.OutProjRefIdeal.Read.val_main_v3 (F := Ideal) x0 x1 x2 : FVec Ideal ⟨2, ![2048, 1024]⟩ .f32) (ix2 i j)
      = x2 (ix2 i j) + ∑ k : Fin 1024, x0 (ix2 i k) * x1 (ix2 k j) := by
  refine (Cert.OutProjRefIdeal.Read.val_main_v3_apply (F := Ideal) x0 x1 x2 _).trans ?_
  refine congrArg (x2 (ix2 i j) + ·) ?_
  refine (Cert.OutProjRefIdeal.Read.val_main_v2_apply x0 x1 _).trans (Finset.sum_congr rfl fun k _ => congrArg₂ (· * ·) ?_ ?_)
  · exact congrArg x0 (Shape.idx_ext₂ rfl rfl)
  · exact congrArg x1 (Shape.idx_ext₂ rfl rfl)

theorem arr : ((dats m 0 c).arrAt 3 cfg0.N : FVec Ideal ⟨2, ![2048, 1024]⟩ .f32)
    = Cert.OutProjRefIdeal.Read.val_main_v3 (F := Ideal) (a0 m c) (a1 m c) (a2 m c) := by
  refine (dats m 0 c).arrAt_eq_of_covers 3 _ (by decide +kernel) fun t hf y => ?_
  blk_simp
  obtain ⟨i, j, rfl⟩ : ∃ (i : Fin 1024) (j : Fin 512), y = ix2 i j := ⟨y 0, y 1, eq_ix2 y⟩
  have hp := (places t).2.2.2
  have ey : (win0_3.blk t).view.emb (ix2 i j) = ix2 (row t i) (col t j) := by
    refine funext fun a => Fin.ext ?_
    fin_cases a
    all_goals blk_simp [hp]
  refine Eq.trans ?_ ((ref_at _ _ _ _ _).symm.trans (congrArg _ ey.symm))
  refine (congrFun (after0_3 m c t) _).trans ((out_at _ _ _ i j).trans (congrArg₂ (· + ·) (blk2 m c t i j) (Finset.sum_congr rfl fun k _ => ?_)))
  exact congrArg₂ (· * ·) (blk0 m c t i k) (blk1 m c t k j)

end

/-- The two runs end with the same result. -/
theorem algebraic : algebraic_OutProjIdeal_OutProjRefIdeal (hOutProjIdeal := Cert.OutProjIdeal.Gen.facts) (hOutProjRefIdeal := Cert.OutProjRefIdeal.Gen.facts) := by
  intro m g m' g' _ hm
  refine ⟨fun c => Cert.OutProjRefIdeal.Read.val_main_v3 (F := Ideal) (a0 m c) (a1 m c) (a2 m c), ?_, ?_⟩
  · refine (θ_run (Cert.OutProjIdeal.defs (F := Ideal)) _ _).mono (fun r h c => ?_) (Cert.OutProjIdeal.Value.run_blocks (F := Ideal) m g)
    exact ⟨(h c).1.trans (arr m c), (h c).2⟩
  · refine (θ_run (Cert.OutProjRefIdeal.defs (F := Ideal)) _ _).mono (fun r h c => ?_) (Cert.OutProjRefIdeal.Value.run (F := Ideal) m' g')
    obtain ⟨e0, e1, e2⟩ := hm c
    refine ⟨(h c).1.trans ((Cert.OutProjRefIdeal.Read.val_main_v3_eq _ _ _).trans ?_), (h c).2⟩
    exact congr (congrArg₂ (Cert.OutProjRefIdeal.Read.val_main_v3 (F := Ideal)) e0 e1) e2

end Cert.Mlp.OutProj

end
-- ==== Proof.DxRef.lean ====
/- The host's gradient of the layer's input, read at an index. -/
module

public import proofs.«01_k».proof.Proof.Norm
public import proofs.«01_k».proof.Proof.Gen.DxRefIdeal.Read
public import Idealize.ShloMosaic.Lib.Pipeline.Value

@[expose] public section

noncomputable section

namespace Cert.Mlp.Dx

open Idealize.ShloMosaic Idealize.ShloMosaic.ValueIdx
open Cert.DxRefIdeal Cert.DxRefIdeal.Gen Cert.DxRefIdeal.Read

variable (x0 : FVec Ideal ⟨3, ![3, 2048, 1024]⟩ .bf16) (x1 : FVec Ideal ⟨2, ![2048, 128]⟩ .bf16) (x2 : FVec Ideal ⟨2, ![3200, 1024]⟩ .bf16)
  (x3 : FVec Ideal ⟨2, ![2048, 1024]⟩ .f32) (x4 : FVec Ideal ⟨1, ![1024]⟩ .f32) (x5 : FVec Ideal ⟨2, ![2048, 1024]⟩ .f32)

theorem zero_first : (val_main_cst (F := Ideal)) (Shape.Idx.first h_S_) = 0 := Ideal.ofBits_zero_f32

/-- One of the three slabs' part of the cotangent of the normed rows, by the weights' rows from `1024 s`; -/
def gradSlab {n : ℕ} (x : FVec Ideal ⟨3, ![3, n, 1024]⟩ .bf16) (w : FVec Ideal ⟨2, ![3200, 1024]⟩ .bf16) (s : Fin 3) (i : Fin n) (j : Fin 1024) : EReal :=
  ∑ k : Fin 1024, x (ix3 s i k) * w (ix2 (⟨s.val * 1024 + k.val, by omega⟩ : Fin 3200) j)

/-- the gates' part, by the last rows; -/
def gradGate {n : ℕ} (f : FVec Ideal ⟨2, ![n, 128]⟩ .bf16) (w : FVec Ideal ⟨2, ![3200, 1024]⟩ .bf16) (i : Fin n) (j : Fin 1024) : EReal :=
  ∑ k : Fin 128, f (ix2 i k) * w (ix2 (⟨3072 + k.val, by omega⟩ : Fin 3200) j)

/-- and the whole. -/
def gradX {n : ℕ} (x : FVec Ideal ⟨3, ![3, n, 1024]⟩ .bf16) (f : FVec Ideal ⟨2, ![n, 128]⟩ .bf16) (w : FVec Ideal ⟨2, ![3200, 1024]⟩ .bf16) (i : Fin n) (j : Fin 1024) : EReal :=
  gradGate f w i j + gradSlab x w 0 i j + gradSlab x w 1 i j + gradSlab x w 2 i j

/-- A sum over 3200 is the last 128's, and then the three thousands'. -/
theorem sum_four (F : Fin 3200 → EReal) :
    ∑ k, F k = (∑ k : Fin 128, F ⟨3072 + k.val, by omega⟩) + (∑ k : Fin 1024, F ⟨(0 : Fin 3).val * 1024 + k.val, by simp only [Fin.val_zero]; omega⟩)
      + (∑ k : Fin 1024, F ⟨(1 : Fin 3).val * 1024 + k.val, by simp only [Fin.val_one]; omega⟩)
      + ∑ k : Fin 1024, F ⟨(2 : Fin 3).val * 1024 + k.val, by simp only [Fin.val_two]; omega⟩ := by
  have h : ∀ a b : ℕ, (hab : a + b ≤ 3200) → ∑ k ∈ Finset.range (a + b), (if h : k < 3200 then F ⟨k, h⟩ else 0)
      = ∑ k ∈ Finset.range a, (if h : k < 3200 then F ⟨k, h⟩ else 0) + ∑ k : Fin b, F ⟨a + k.val, by omega⟩ := fun a b hab => by
    rw [Finset.sum_range_add, Finset.sum_range (n := b)]
    refine congrArg _ (Finset.sum_congr rfl fun c _ => dif_pos (by omega))
  have h0 : ∑ k ∈ Finset.range 1024, (if h : k < 3200 then F ⟨k, h⟩ else 0) = ∑ k : Fin 1024, F ⟨0 + k.val, by omega⟩ :=
    (h 0 1024 (by omega)).trans (by rw [Finset.sum_range_zero, zero_add])
  rw [Finset.sum_fin_eq_sum_range]
  refine ((h 3072 128 (by omega)).trans (congrArg (· + _) ((h 2048 1024 (by omega)).trans (congrArg (· + _) ((h 1024 1024 (by omega)).trans (congrArg (· + _) h0)))))).trans ?_
  rw [add_comm, ← add_assoc, ← add_assoc]
  rfl

theorem v8_first (i : Fin 2048) (k : Fin 1024) (n : Fin 3200) (hn : n.val = 0 + k.val) : val_main_v8 (F := Ideal) x0 x1 (ix2 i n) = x0 (ix3 0 i k) := by
  unfold val_main_v8
  refine Eq.trans (b := val_main_v3 (F := Ideal) x0 (ix2 i k)) (concatenate_apply_piece (t := S2048x3200) 1 _ _ (ix2 i n) 0 ?_ S2048x1024 (val_main_v3 (F := Ideal) x0) ?_ rfl 0 ?_ (ix2 i k) (fun b hb => ?_) ?_) ?_
  · exact (by decide : 0 < 4)
  · rfl
  · rfl
  · match b, hb with
    | ⟨0, _⟩, _ => rfl
    | ⟨1, _⟩, h => exact absurd rfl h
  · exact hn.symm
  · refine (val_main_v3_apply (F := Ideal) x0 _).trans ((val_main_v2_apply (F := Ideal) x0 _).trans (congrArg x0 (funext fun a => Fin.ext ?_)))
    match a with
    | 0 => rfl
    | 1 => show (i.val * 1024 + k.val) / 1024 % 2048 = i.val; omega
    | 2 => show (i.val * 1024 + k.val) % 1024 = k.val; omega

theorem v8_second (i : Fin 2048) (k : Fin 1024) (n : Fin 3200) (hn : n.val = 1024 + k.val) : val_main_v8 (F := Ideal) x0 x1 (ix2 i n) = x0 (ix3 1 i k) := by
  unfold val_main_v8
  refine Eq.trans (b := val_main_v5 (F := Ideal) x0 (ix2 i k)) (concatenate_apply_piece (t := S2048x3200) 1 _ _ (ix2 i n) 1 ?_ S2048x1024 (val_main_v5 (F := Ideal) x0) ?_ rfl 1024 ?_ (ix2 i k) (fun b hb => ?_) ?_) ?_
  · exact (by decide : 1 < 4)
  · rfl
  · rfl
  · match b, hb with
    | ⟨0, _⟩, _ => rfl
    | ⟨1, _⟩, h => exact absurd rfl h
  · exact hn.symm
  · refine (val_main_v5_apply (F := Ideal) x0 _).trans ((val_main_v4_apply (F := Ideal) x0 _).trans (congrArg x0 (funext fun a => Fin.ext ?_)))
    match a with
    | 0 => rfl
    | 1 => show (i.val * 1024 + k.val) / 1024 % 2048 = i.val; omega
    | 2 => show (i.val * 1024 + k.val) % 1024 = k.val; omega

theorem v8_third (i : Fin 2048) (k : Fin 1024) (n : Fin 3200) (hn : n.val = 2048 + k.val) : val_main_v8 (F := Ideal) x0 x1 (ix2 i n) = x0 (ix3 2 i k) := by
  unfold val_main_v8
  refine Eq.trans (b := val_main_v7 (F := Ideal) x0 (ix2 i k)) (concatenate_apply_piece (t := S2048x3200) 1 _ _ (ix2 i n) 2 ?_ S2048x1024 (val_main_v7 (F := Ideal) x0) ?_ rfl 2048 ?_ (ix2 i k) (fun b hb => ?_) ?_) ?_
  · exact (by decide : 2 < 4)
  · rfl
  · rfl
  · match b, hb with
    | ⟨0, _⟩, _ => rfl
    | ⟨1, _⟩, h => exact absurd rfl h
  · exact hn.symm
  · refine (val_main_v7_apply (F := Ideal) x0 _).trans ((val_main_v6_apply (F := Ideal) x0 _).trans (congrArg x0 (funext fun a => Fin.ext ?_)))
    match a with
    | 0 => rfl
    | 1 => show (i.val * 1024 + k.val) / 1024 % 2048 = i.val; omega
    | 2 => show (i.val * 1024 + k.val) % 1024 = k.val; omega

theorem v8_last (i : Fin 2048) (k : Fin 128) (n : Fin 3200) (hn : n.val = 3072 + k.val) : val_main_v8 (F := Ideal) x0 x1 (ix2 i n) = x1 (ix2 i k) := by
  unfold val_main_v8
  refine concatenate_apply_piece (t := S2048x3200) 1 _ _ (ix2 i n) 3 ?_ S2048x128 x1 ?_ rfl 3072 ?_ (ix2 i k) (fun b hb => ?_) ?_
  · exact (by decide : 3 < 4)
  · rfl
  · rfl
  · match b, hb with
    | ⟨0, _⟩, _ => rfl
    | ⟨1, _⟩, h => exact absurd rfl h
  · exact hn.symm

theorem v27_at (i : Fin 2048) (j : Fin 1024) : val_main_v27 (F := Ideal) x0 x1 x2 (ix2 i j) = gradX x0 x1 x2 i j := by
  have e : ∀ n : Fin 3200, val_main_v9 (F := Ideal) x0 x1 (lidx_main_v27 (ix2 i j) n) * val_main_v1 (F := Ideal) x2 (ridx_main_v27 (ix2 i j) n)
      = val_main_v8 (F := Ideal) x0 x1 (ix2 i n) * x2 (ix2 n j) := fun n =>
    congrArg₂ (· * ·) (congrArg (val_main_v8 (F := Ideal) x0 x1) (Shape.idx_ext₂ rfl rfl))
      ((val_main_v1_apply (F := Ideal) x2 _).trans (congrArg x2 (Shape.idx_ext₂ rfl rfl)))
  refine (val_main_v27_apply x0 x1 x2 _).trans ((Finset.sum_congr rfl fun n _ => e n).trans ((sum_four _).trans ?_))
  refine congrArg₂ (· + ·) (congrArg₂ (· + ·) (congrArg₂ (· + ·) ?_ ?_) ?_) ?_
  · exact Finset.sum_congr rfl fun k _ => congrArg (· * _) (v8_last x0 x1 i k _ rfl)
  · exact Finset.sum_congr rfl fun k _ => congrArg (· * _) (v8_first x0 x1 i k _ rfl)
  · exact Finset.sum_congr rfl fun k _ => congrArg (· * _) (v8_second x0 x1 i k _ rfl)
  · exact Finset.sum_congr rfl fun k _ => congrArg (· * _) (v8_third x0 x1 i k _ rfl)

theorem v16_at (i : Fin 2048) : val_main_v16 (F := Ideal) x3 (ix2 i 0) = rowE (rowOf x3 i) := by
  refine congrArg (fun z => Ideal.div z (Ideal.ofBits .f32 0x44800000#32) + Ideal.ofBits .f32 0x358637BD#32) ?_
  refine (val_main_v12_apply (F := Ideal) x3 _).trans ((val_main_v11_apply x3 _).trans ?_)
  refine (congrArg (· + _) zero_first).trans ((zero_add _).trans (Finset.sum_congr rfl fun k _ => ?_))
  exact congrArg (fun z => x3 z * x3 z) (Shape.idx_ext₂ rfl rfl)

theorem v17_at (i : Fin 2048) : val_main_v17 (F := Ideal) x3 (ix2 i 0) = rowR (rowOf x3 i) := congrArg Ideal.rsqrt (v16_at x3 i)

theorem v20_at (i : Fin 2048) : val_main_v20 (F := Ideal) x3 (ix2 i 0) = rowP (rowOf x3 i) :=
  congrArg₂ (fun a b => Ideal.ofBits .f32 0xBF000000#32 * Ideal.div a b) (v17_at x3 i) (v16_at x3 i)

theorem v22_at (i : Fin 2048) (j : Fin 1024) : val_main_v22 (F := Ideal) x3 (ix2 i j) = x3 (ix2 i j) * rowR (rowOf x3 i) :=
  congrArg (x3 (ix2 i j) * ·) ((val_main_v21_apply (F := Ideal) x3 _).trans
    ((congrArg (val_main_v17 (F := Ideal) x3) (Shape.idx_ext₂ rfl rfl : idx_main_v21 (ix2 i j) = ix2 i 0)).trans (v17_at x3 i)))

theorem v32_at (i : Fin 2048) (j : Fin 1024) : val_main_v32 (F := Ideal) x0 x1 x2 x4 (ix2 i j) = gradX x0 x1 x2 i j * x4 (ix1 j) :=
  congrArg₂ (· * ·) (v27_at x0 x1 x2 i j) ((val_main_v31_apply (F := Ideal) x4 _).trans ((val_main_v23_apply (F := Ideal) x4 _).trans
    (congrArg x4 (funext fun a => Fin.ext (by match a with | 0 => rfl)))))

theorem v44_at (i : Fin 2048) (j : Fin 1024) :
    val_main_v44 (F := Ideal) x0 x1 x2 x3 x4 (ix2 i j) = rowS (rowOf x3 i) fun k => gradX x0 x1 x2 i k * x4 (ix1 k) := by
  refine (val_main_v44_apply (F := Ideal) x0 x1 x2 x3 x4 _).trans ((val_main_v43_apply x0 x1 x2 x3 x4 _).trans ?_)
  refine (congrArg (· + _) zero_first).trans ((zero_add _).trans ((Fintype.sum_unique _).trans ?_))
  have e : idx_main_v43 (idx_main_v44 (ix2 i j)) default = ix2 i 0 := Shape.idx_ext₂ rfl rfl
  rw [e]
  refine congrArg₂ (fun a b => Ideal.div (a * b) (Ideal.ofBits .f32 0x44800000#32)) ?_ (v20_at x3 i)
  refine (val_main_v36_apply (F := Ideal) x0 x1 x2 x3 x4 _).trans ((val_main_v35_apply x0 x1 x2 x3 x4 _).trans ?_)
  refine (congrArg (· + _) zero_first).trans ((zero_add _).trans (Finset.sum_congr rfl fun k _ => ?_))
  have e : idx_main_v35 (idx_main_v36 (ix2 i 0)) k = ix2 i k := Shape.idx_ext₂ (show i.val * 1 + 0 = i.val by omega) rfl
  rw [e]
  exact congrArg (x3 (ix2 i k) * ·) (v32_at x0 x1 x2 x4 i k)

theorem v48_at (i : Fin 2048) (j : Fin 1024) :
    val_main_v48 (F := Ideal) x0 x1 x2 x3 x4 x5 (ix2 i j) = x5 (ix2 i j) + rowD (rowOf x3 i) (fun k => gradX x0 x1 x2 i k * x4 (ix1 k)) j := by
  have e : val_main_v37 (F := Ideal) x3 (ix2 i j) = rowR (rowOf x3 i) :=
    (val_main_v37_apply (F := Ideal) x3 _).trans ((congrArg (val_main_v17 (F := Ideal) x3) (Shape.idx_ext₂ rfl rfl : idx_main_v37 (ix2 i j) = ix2 i 0)).trans (v17_at x3 i))
  have s := v44_at x0 x1 x2 x3 x4 i j
  have h : val_main_v48 (F := Ideal) x0 x1 x2 x3 x4 x5 (ix2 i j)
      = x5 (ix2 i j) + gradX x0 x1 x2 i j * x4 (ix1 j) * rowR (rowOf x3 i) + x3 (ix2 i j) * rowS (rowOf x3 i) (fun k => gradX x0 x1 x2 i k * x4 (ix1 k))
        + rowS (rowOf x3 i) (fun k => gradX x0 x1 x2 i k * x4 (ix1 k)) * x3 (ix2 i j) :=
    congrArg₂ (· + ·) (congrArg₂ (· + ·) (congrArg (x5 (ix2 i j) + ·) (congrArg₂ (· * ·) (v32_at x0 x1 x2 x4 i j) e)) (congrArg (x3 (ix2 i j) * ·) s)) (congrArg (· * x3 (ix2 i j)) s)
  rw [h]
  unfold rowD
  simp only [add_assoc]

theorem v49_at (j : Fin 1024) :
    val_main_v49 (F := Ideal) x0 x1 x2 x3 (ix2 0 j) = ∑ i, x3 (ix2 i j) * rowR (rowOf x3 i) * gradX x0 x1 x2 i j := by
  refine (val_main_v49_apply (F := Ideal) x0 x1 x2 x3 _).trans ((val_main_v33_apply x0 x1 x2 x3 _).trans ?_)
  refine (congrArg (· + _) zero_first).trans ((zero_add _).trans ((Fintype.sum_unique _).trans ?_))
  refine (val_main_v30_apply (F := Ideal) x0 x1 x2 x3 _).trans ((val_main_v29_apply x0 x1 x2 x3 _).trans ?_)
  refine (congrArg (· + _) zero_first).trans ((zero_add _).trans (Finset.sum_congr rfl fun i _ => ?_))
  have e : idx_main_v29 (idx_main_v30 (idx_main_v33 (idx_main_v49 (ix2 0 j)) default)) i = ix2 i j := Shape.idx_ext₂ rfl (show 0 * 1024 + j.val = j.val by omega)
  rw [e]
  exact congrArg₂ (· * ·) (v22_at x3 i j) (v27_at x0 x1 x2 i j)

end Cert.Mlp.Dx

end
-- ==== Proof.DxRun.lean ====
/- The gradient of the layer's input: what the body computes of its blocks, and what it leaves in its results' buffers at the first block of
   rows and at a later one. -/
module

public import proofs.«01_k».proof.Proof.DxRef
public import proofs.«01_k».proof.Proof.Loads
public import proofs.«01_k».proof.Proof.Gen.DxIdeal.Frame

@[expose] public section

noncomputable section

namespace Cert.Mlp.Dx

open Idealize.ShloMosaic Idealize.ShloMosaic.ValueIdx
open Cert.DxIdeal Cert.DxIdeal.Gen

/-! ## The loads -/

/-- A load of one of the three slabs, -/
abbrev LdX (d : FVec Ideal ⟨3, ![3, 512, 1024]⟩ .bf16) (v : FVec Ideal ⟨3, ![1, 512, 1024]⟩ .bf16) (s : Fin 3) : Prop := ∀ i k, v (ix3 0 i k) = d (ix3 s i k)

/-- and one of `n` of the weights' rows, from row `o`. -/
abbrev LdR (n o : ℕ) (ho : o + n ≤ 3200) (w : FVec Ideal ⟨2, ![3200, 1024]⟩ .bf16) (u : FVec Ideal ⟨2, ![n, 1024]⟩ .bf16) : Prop :=
  ∀ (k : Fin n) (j : Fin 1024), u (ix2 k j) = w (ix2 (⟨o + k.val, by omega⟩ : Fin 3200) j)

section

variable {sig : RefSig} {κ : Kind} {sp : Space}

theorem ld_at {a b : ℕ} {m : Memref sig κ sp ⟨2, ![a, b]⟩ .bf16} {h : m.IsWhole} {x : FVec Ideal ⟨2, ![a, b]⟩ .bf16}
    {inb : ∀ c, (![0, 0] : Fin 2 → ℕ) c + (⟨2, ![a, b]⟩ : Shape).size c ≤ (⟨2, ![a, b]⟩ : Shape).size c} :
    View.readAt (Elt Ideal) m.view (Rect.unit (s := ⟨2, ![a, b]⟩) ![0, 0] (⟨2, ![a, b]⟩ : Shape).size inb).toLoadRect (h.unread x) = x := by
  rw [View.readAt_eq_ld, h.read_unread]
  exact View.ld_unit_zero (Val := Elt Ideal) (e := .bf16) zero2 inb x

theorem ldX (s : Fin 3) {o : ℕ} (ho : o = s.val) {m : Memref sig κ sp ⟨3, ![3, 512, 1024]⟩ .bf16} {h : m.IsWhole} {x : FVec Ideal ⟨3, ![3, 512, 1024]⟩ .bf16}
    {inb : ∀ a, (![o, 0, 0] : Fin 3 → ℕ) a + (⟨3, ![1, 512, 1024]⟩ : Shape).size a ≤ (⟨3, ![3, 512, 1024]⟩ : Shape).size a} :
    LdX x (View.readAt (Elt Ideal) m.view (Rect.unit (s := ⟨3, ![3, 512, 1024]⟩) ![o, 0, 0] (⟨3, ![1, 512, 1024]⟩ : Shape).size inb).toLoadRect (h.unread x)) s := fun j k => by
  subst ho
  rw [View.readAt_eq_ld, h.read_unread]
  refine congrArg x (funext fun a => Fin.ext ?_)
  match a with
  | 0 => show s.val + 1 * 0 = s.val; omega
  | 1 => show 0 + 1 * j.val = j.val; omega
  | 2 => show 0 + 1 * k.val = k.val; omega

theorem ldR (n o : ℕ) (ho : o + n ≤ 3200) {m : Memref sig κ sp ⟨2, ![3200, 1024]⟩ .bf16} {h : m.IsWhole} {x : FVec Ideal ⟨2, ![3200, 1024]⟩ .bf16}
    {inb : ∀ a, (![o, 0] : Fin 2 → ℕ) a + (⟨2, ![n, 1024]⟩ : Shape).size a ≤ (⟨2, ![3200, 1024]⟩ : Shape).size a} :
    LdR n o ho x (View.readAt (Elt Ideal) m.view (Rect.unit (s := ⟨2, ![3200, 1024]⟩) ![o, 0] (⟨2, ![n, 1024]⟩ : Shape).size inb).toLoadRect (h.unread x)) := fun k j => by
  rw [View.readAt_eq_ld, h.read_unread]
  refine congrArg x (Shape.idx_ext₂ ?_ ?_)
  · show o + 1 * k.val = o + k.val; omega
  · show 0 + 1 * j.val = j.val; omega

end

/-! ## The body -/

section

variable {d : FVec Ideal ⟨3, ![3, 512, 1024]⟩ .bf16} {f f' : FVec Ideal ⟨2, ![512, 128]⟩ .bf16} {w : FVec Ideal ⟨2, ![3200, 1024]⟩ .bf16}
  {v0 v1 v2 : FVec Ideal ⟨3, ![1, 512, 1024]⟩ .bf16} {u : FVec Ideal ⟨2, ![128, 1024]⟩ .bf16} {u0 u1 u2 : FVec Ideal ⟨2, ![1024, 1024]⟩ .bf16}
  (hf : f' = f) (hu : LdR 128 3072 (by omega) w u) (hv0 : LdX d v0 0) (hu0 : LdR 1024 0 (by omega) w u0) (hv1 : LdX d v1 1) (hu1 : LdR 1024 1024 (by omega) w u1)
  (hv2 : LdX d v2 2) (hu2 : LdR 1024 2048 (by omega) w u2)

theorem slab_of {s : Fin 3} {v : FVec Ideal ⟨3, ![1, 512, 1024]⟩ .bf16} {b : FVec Ideal ⟨2, ![1024, 1024]⟩ .bf16} {o : ℕ} {ho : o + 1024 ≤ 3200} (e : o = s.val * 1024)
    (hv : LdX d v s) (hb : LdR 1024 o ho w b) (i : Fin 512) (j : Fin 1024) :
    matmul (F := Ideal) dot_S512x1024_S1024x1024_S512x1024_1_0_0_1_n_n none (shapeCast S512x1024 v shapeCasts_S1x512x1024_S512x1024 : FVec Ideal S512x1024 .bf16) b
      (constant S512x1024 .f32 0x00000000#32) (ix2 i j) = gradSlab d w s i j := by
  subst e
  exact (nn_at _ _ _ i j).trans (Finset.sum_congr rfl fun k _ => congrArg₂ (· * ·) ((slab_at v _ i k).trans (hv i k)) (hb k j))

include hf hu hv0 hu0 hv1 hu1 hv2 hu2

/-- The cotangent of the normed rows, from the loads. -/
theorem grad_at (i : Fin 512) (j : Fin 1024) : k0_pay4 (F := Ideal) f' u v0 u0 v1 u1 v2 u2 (ix2 i j) = gradX d f w i j := by
  subst hf
  exact congrArg₂ (· + ·) (congrArg₂ (· + ·) (congrArg₂ (· + ·) ((nn_at _ _ _ i j).trans (Finset.sum_congr rfl fun k _ => congrArg (f' (ix2 i k) * ·) (hu k j)))
    (slab_of rfl hv0 hu0 i j)) (slab_of rfl hv1 hu1 i j)) (slab_of rfl hv2 hu2 i j)

end

variable {y : FVec Ideal ⟨2, ![512, 1024]⟩ .f32} {Y : Fin 512 → Fin 1024 → EReal} {x x' e e' : FVec Ideal ⟨2, ![512, 1024]⟩ .f32} {g g' : FVec Ideal ⟨2, ![1, 1024]⟩ .f32}
  (hy : ∀ i j, y (ix2 i j) = Y i j) (hx : x' = x) (hg : g' = g) (he : e' = e)

theorem mean_at (i : Fin 512) : k0_pay6 (F := Ideal) x (ix2 i 0) = rowE (rowOf x i) :=
  congrArg (fun z => Ideal.div z (Ideal.ofBits .f32 0x44800000#32) + Ideal.ofBits .f32 0x358637BD#32) ((col_at _ _ i 0).trans (sumCols_at _ _ _ _ i))

theorem root_at (i : Fin 512) : k0_pay7 (F := Ideal) x (ix2 i 0) = rowR (rowOf x i) := congrArg Ideal.rsqrt (mean_at i)

include hy hx in
/-- What is added to the gain's gradient; -/
theorem stored_dg {z : FVec Ideal ⟨2, ![1, 1024]⟩ .f32} {q : EReal} (j : Fin 1024) (hz : z (ix2 0 j) = q) :
    k0_pay3 (F := Ideal) y x' (k0_pay7 x') z (ix2 0 j) = q + ∑ i, x (ix2 i j) * rowR (rowOf x i) * Y i j := by
  subst hx
  exact congrArg₂ (· + ·) ((congrFun (shapeCast_self z _) _).trans hz) ((row_at _ _ 0 j).trans ((sumRows_at _ _ _ _ j).trans (Finset.sum_congr rfl fun i _ =>
    congrArg₂ (· * ·) (congrArg (x' (ix2 i j) * ·) ((bcCol_at _ _ i j).trans (root_at i))) (hy i j))))

include hy hx hg he in
/-- and what is stored for the input's. -/
theorem stored_dx (i : Fin 512) (j : Fin 1024) :
    k0_pay1 (F := Ideal) y x' (k0_pay5 g') (k0_pay6 x') (k0_pay7 x') e' (ix2 i j) = e (ix2 i j) + rowD (rowOf x i) (fun k => Y i k * g (ix2 0 k)) j := by
  subst hx hg he
  have hy : ∀ k : Fin 1024, mulf (F := Ideal) y (broadcastTo S512x1024 (k0_pay5 (F := Ideal) g') broadcasts_S1x1024_S512x1024) (ix2 i k) = Y i k * g' (ix2 0 k) := fun k =>
    congrArg₂ (· * ·) (hy i k) ((bcRow_at _ _ i k).trans (congrFun (shapeCast_self g' _) _))
  have e := (sumCols_at (mulf (F := Ideal) x' (mulf (F := Ideal) y (broadcastTo S512x1024 (k0_pay5 (F := Ideal) g') broadcasts_S1x1024_S512x1024)))
    reduces_S512x1024_S512 (.inl rfl) rfl i).trans (Finset.sum_congr rfl fun k _ => congrArg (x' (ix2 i k) * ·) (hy k))
  have p : mulf (F := Ideal) (broadcast S512x1 (Scalar.ofBits (F := Ideal) .f32 0xBF000000#32)) (divf (k0_pay7 x') (k0_pay6 x')) (ix2 i 0) = rowP (rowOf x' i) :=
    congrArg₂ (fun a b => Ideal.ofBits .f32 0xBF000000#32 * Ideal.div a b) (root_at i) (mean_at i)
  have s : ∀ v : FVec Ideal S512x1 .f32, v (ix2 i 0) = rowS (rowOf x' i) (fun k => Y i k * g' (ix2 0 k)) →
      broadcastTo S512x1024 (shapeCast S512x1 (multiReduction (F := Ideal) .add [1] S512 v 0x00000000#32 reduces_S512x1_S512 (.inl rfl) rfl) shapeCasts_S512_S512x1 : FVec Ideal S512x1 .f32)
        broadcasts_S512x1_S512x1024 (ix2 i j) = rowS (rowOf x' i) (fun k => Y i k * g' (ix2 0 k)) := fun v hv =>
    (bcCol_at _ _ i j).trans ((col_at _ _ i 0).trans ((sumCols_at _ _ _ _ i).trans ((Fintype.sum_unique _).trans hv)))
  have s' := s (divf (mulf (shapeCast S512x1 (multiReduction (F := Ideal) .add [1] S512 (mulf (F := Ideal) x' (mulf (F := Ideal) y (broadcastTo S512x1024 (k0_pay5 (F := Ideal) g') broadcasts_S1x1024_S512x1024)))
    0x00000000#32 reduces_S512x1024_S512 (.inl rfl) rfl) shapeCasts_S512_S512x1) (mulf (F := Ideal) (broadcast S512x1 (Scalar.ofBits (F := Ideal) .f32 0xBF000000#32)) (divf (k0_pay7 x') (k0_pay6 x'))))
    (broadcast S512x1 (Scalar.ofBits (F := Ideal) .f32 0x44800000#32))) (congrArg₂ (fun a b => Ideal.div (a * b) (Ideal.ofBits .f32 0x44800000#32)) ((col_at _ shapeCasts_S512_S512x1 i 0).trans e) p)
  exact congrArg (e' (ix2 i j) + ·) (congrArg₂ (· + ·) (congrArg₂ (· + ·) (congrArg₂ (· * ·) (hy j) ((bcCol_at _ _ i j).trans (root_at i))) (congrArg (x' (ix2 i j) * ·) s')) (congrArg (· * x' (ix2 i j)) s'))

/-! ## The buffers -/

variable {c : Dev nD} {i : grid0.Coords} {arg1 : Memref sig .tc .vmem S3x512x1024 .bf16} {harg1 : arg1.IsWhole} {arg2 : Memref sig .tc .vmem S512x128 .bf16} {harg2 : arg2.IsWhole}
  {arg3 : Memref sig .tc .vmem S3200x1024 .bf16} {harg3 : arg3.IsWhole} {arg4 : Memref sig .tc .vmem S512x1024 .f32} {harg4 : arg4.IsWhole}
  {arg5 : Memref sig .tc .vmem S1x1024 .f32} {harg5 : arg5.IsWhole} {arg6 : Memref sig .tc .vmem S512x1024 .f32} {harg6 : arg6.IsWhole}
  {arg7 : Memref sig .tc .vmem S512x1024 .f32} {harg7 : arg7.IsWhole} {arg8 : Memref sig .tc .vmem S1x1024 .f32} {harg8 : arg8.IsWhole}
  {x0 : Vec Ideal S3x512x1024 .bf16} {x1 : Vec Ideal S512x128 .bf16} {x2 : Vec Ideal S3200x1024 .bf16} {x3 : Vec Ideal S512x1024 .f32} {x4 : Vec Ideal S1x1024 .f32} {x5 : Vec Ideal S512x1024 .f32}
  {xo7 : Vec Ideal S1x1024 .f32}

/-- A block's gradient. -/
abbrev dxBlk (x0 : FVec Ideal ⟨3, ![3, 512, 1024]⟩ .bf16) (x1 : FVec Ideal ⟨2, ![512, 128]⟩ .bf16) (x2 : FVec Ideal ⟨2, ![3200, 1024]⟩ .bf16) (x3 : FVec Ideal ⟨2, ![512, 1024]⟩ .f32)
    (x4 : FVec Ideal ⟨2, ![1, 1024]⟩ .f32) (x5 : FVec Ideal ⟨2, ![512, 1024]⟩ .f32) (r : Fin 512) (j : Fin 1024) : EReal :=
  x5 (ix2 r j) + rowD (rowOf x3 r) (fun k => gradX x0 x1 x2 r k * x4 (ix2 0 k)) j

/-- A row's part of the gain's gradient, … -/
abbrev dgRow {n : ℕ} (x0 : FVec Ideal ⟨3, ![3, n, 1024]⟩ .bf16) (x1 : FVec Ideal ⟨2, ![n, 128]⟩ .bf16) (x2 : FVec Ideal ⟨2, ![3200, 1024]⟩ .bf16) (x3 : FVec Ideal ⟨2, ![n, 1024]⟩ .f32)
    (j : Fin 1024) (r : Fin n) : EReal :=
  x3 (ix2 r j) * rowR (rowOf x3 r) * gradX x0 x1 x2 r j

/-- … and a block's. -/
abbrev dgBlk (x0 : FVec Ideal ⟨3, ![3, 512, 1024]⟩ .bf16) (x1 : FVec Ideal ⟨2, ![512, 128]⟩ .bf16) (x2 : FVec Ideal ⟨2, ![3200, 1024]⟩ .bf16) (x3 : FVec Ideal ⟨2, ![512, 1024]⟩ .f32)
    (j : Fin 1024) : EReal :=
  ∑ r, dgRow x0 x1 x2 x3 j r

theorem outA6 {hc0 : cond0_0 i} (r : Fin 512) (j : Fin 1024) :
    out0_A_6 (F := Ideal) c i arg1 harg1 arg2 harg2 arg3 harg3 arg4 harg4 arg5 harg5 arg6 harg6 arg7 harg7 arg8 harg8 hc0 x0 x1 x2 x3 x4 x5 (ix2 r j) = dxBlk x0 x1 x2 x3 x4 x5 r j := by
  rw [out0_A_6, View.read_writes_junk_eq_canon]
  exact store_at _ (stored_dx (grad_at ld_at (ldR 128 3072 (by omega)) (ldX 0 rfl) (ldR 1024 0 (by omega)) (ldX 1 rfl) (ldR 1024 1024 (by omega)) (ldX 2 rfl) (ldR 1024 2048 (by omega))) Fox.load_at Fox.load_at Fox.load_at r j)

theorem outA7 {hc0 : cond0_0 i} (j : Fin 1024) :
    out0_A_7 (F := Ideal) c i arg1 harg1 arg2 harg2 arg3 harg3 arg4 harg4 arg5 harg5 arg6 harg6 arg7 harg7 arg8 harg8 hc0 x0 x1 x2 x3 x4 x5 (ix2 0 j) = 0 + dgBlk x0 x1 x2 x3 j := by
  rw [out0_A_7, View.read_writes_junk_eq_canon]
  exact store_at _ (stored_dg (grad_at ld_at (ldR 128 3072 (by omega)) (ldX 0 rfl) (ldR 1024 0 (by omega)) (ldX 1 rfl) (ldR 1024 1024 (by omega)) (ldX 2 rfl) (ldR 1024 2048 (by omega))) Fox.load_at j ((congrFun (Fox.reload.trans Fox.stored) _).trans Ideal.ofBits_zero_f32))

theorem outB6 {hc0 : ¬ cond0_0 i} (r : Fin 512) (j : Fin 1024) :
    out0_B_6 (F := Ideal) c i arg1 harg1 arg2 harg2 arg3 harg3 arg4 harg4 arg5 harg5 arg6 harg6 arg7 harg7 arg8 harg8 hc0 x0 x1 x2 x3 x4 x5 xo7 (ix2 r j) = dxBlk x0 x1 x2 x3 x4 x5 r j := by
  rw [out0_B_6, View.read_writes_junk_eq_canon]
  exact store_at _ (stored_dx (grad_at ld_at (ldR 128 3072 (by omega)) (ldX 0 rfl) (ldR 1024 0 (by omega)) (ldX 1 rfl) (ldR 1024 1024 (by omega)) (ldX 2 rfl) (ldR 1024 2048 (by omega))) Fox.load_at Fox.load_at Fox.load_at r j)

theorem outB7 {hc0 : ¬ cond0_0 i} (j : Fin 1024) :
    out0_B_7 (F := Ideal) c i arg1 harg1 arg2 harg2 arg3 harg3 arg4 harg4 arg5 harg5 arg6 harg6 arg7 harg7 arg8 harg8 hc0 x0 x1 x2 x3 x4 x5 xo7 (ix2 0 j) = xo7 (ix2 0 j) + dgBlk x0 x1 x2 x3 j := by
  rw [out0_B_7, View.read_writes_junk_eq_canon]
  exact store_at _ (stored_dg (grad_at ld_at (ldR 128 3072 (by omega)) (ldX 0 rfl) (ldR 1024 0 (by omega)) (ldX 1 rfl) (ldR 1024 1024 (by omega)) (ldX 2 rfl) (ldR 1024 2048 (by omega))) Fox.load_at j (congrFun Fox.load_at _))

end Cert.Mlp.Dx

end
-- ==== Proof.Dx.lean ====
/- The gradient of the layer's input: the kernel's blocks and its running sum of the gain's gradient are the reference's arrays. -/
module

public import proofs.«01_k».proof.Proof.DxRun
public import proofs.«01_k».proof.Defs
public import proofs.«01_k».proof.Proof.Gen.DxIdeal.Value
public import proofs.«01_k».proof.Proof.Gen.DxRefIdeal.Run
public import Idealize.ShloMosaic.Lib.StableHlo.RunRead
public import Idealize.ShloMosaic.Lib.Pipeline.ValueKit.Geometry

@[expose] public section

noncomputable section

namespace Cert.Mlp.Dx

open Idealize.ShloMosaic Idealize.ShloMosaic.ValueIdx Idealize.ShloMosaic.TcCoe Idealize.SL Idealize.SL.Sem
open Cert.DxIdeal Cert.DxIdeal.Gen

theorem places : ∀ t : Fin cfg0.N, win0_0.index t = ![0, t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] := by decide +kernel

theorem lt4 (t : Fin cfg0.N) : t.val < 4 := t.isLt

/-- Row `i` of block `n`. -/
abbrev rowAt (n : ℕ) (hn : n < 4) (i : Fin 512) : Fin 2048 := ⟨n * 512 + i.val, by omega⟩

section

variable (m : (k : Loc nD τ sig) → Buf (Elt Ideal) k) (c : Dev nD)

abbrev a0 : FVec Ideal ⟨3, ![3, 2048, 1024]⟩ .bf16 := m ((c : Thread nD τ).loc main_arg0)
abbrev a1 : FVec Ideal ⟨2, ![2048, 128]⟩ .bf16 := m ((c : Thread nD τ).loc main_arg1)
abbrev a2 : FVec Ideal ⟨2, ![3200, 1024]⟩ .bf16 := m ((c : Thread nD τ).loc main_arg2)
abbrev a3 : FVec Ideal ⟨2, ![2048, 1024]⟩ .f32 := m ((c : Thread nD τ).loc main_arg3)
abbrev a4 : FVec Ideal ⟨1, ![1024]⟩ .f32 := m ((c : Thread nD τ).loc main_arg4)
abbrev a5 : FVec Ideal ⟨2, ![2048, 1024]⟩ .f32 := m ((c : Thread nD τ).loc main_arg5)

/-- The gain, as the call takes it. -/
theorem V_gain : (V m c main_v0 : (⟨S1x1024, .f32⟩ : BufTy).Contents (Elt Ideal)) = shapeCast S1x1024 (a4 m c) shapeCasts_S1024_S1x1024 := by
  unfold_abbrev_sides
  after_reads_simp
  rfl

section

variable (t : Fin cfg0.N)

theorem blk0 (s : Fin 3) (i : Fin 512) (k : Fin 1024) :
    (iblk m c 0 t : FVec Ideal ⟨3, ![3, 512, 1024]⟩ .bf16) (ix3 s i k) = a0 m c (ix3 s (rowAt t.val (lt4 t) i) k) := by
  have h := (places t).1
  unfold iblk
  blk_simp
  refine (congrFun (V_main_arg0 m c) _).trans (congrArg (a0 m c) (funext fun a => Fin.ext ?_))
  fin_cases a
  all_goals blk_simp [h]

theorem blk1 (i : Fin 512) (k : Fin 128) :
    (iblk m c 1 t : FVec Ideal ⟨2, ![512, 128]⟩ .bf16) (ix2 i k) = a1 m c (ix2 (rowAt t.val (lt4 t) i) k) := by
  have h := (places t).2.1
  unfold iblk
  blk_simp
  refine (congrFun (V_main_arg1 m c) _).trans (congrArg (a1 m c) (funext fun a => Fin.ext ?_))
  fin_cases a
  all_goals blk_simp [h]

theorem blk2 : (iblk m c 2 t : FVec Ideal ⟨2, ![3200, 1024]⟩ .bf16) = a2 m c := by
  have h := (places t).2.2.1
  funext y
  unfold iblk
  blk_simp
  refine (congrFun (V_main_arg2 m c) _).trans (congrArg (a2 m c) (funext fun a => Fin.ext ?_))
  fin_cases a
  all_goals blk_simp [h]

theorem blk3 (i : Fin 512) (j : Fin 1024) :
    (iblk m c 3 t : FVec Ideal ⟨2, ![512, 1024]⟩ .f32) (ix2 i j) = a3 m c (ix2 (rowAt t.val (lt4 t) i) j) := by
  have h := (places t).2.2.2.1
  unfold iblk
  blk_simp
  refine (congrFun (V_main_arg3 m c) _).trans (congrArg (a3 m c) (funext fun a => Fin.ext ?_))
  fin_cases a
  all_goals blk_simp [h]

theorem blk4 (k : Fin 1024) : (iblk m c 4 t : FVec Ideal ⟨2, ![1, 1024]⟩ .f32) (ix2 0 k) = a4 m c (ix1 k) := by
  have h := (places t).2.2.2.2.1
  unfold iblk
  blk_simp
  refine (congrFun (V_gain m c) _).trans ((congrArg (shapeCast S1x1024 (a4 m c) shapeCasts_S1024_S1x1024) (funext fun a => Fin.ext ?_)).trans (shapeCast_a_1a_apply (a4 m c) _ 0 k))
  fin_cases a
  all_goals blk_simp [h]

theorem blk5 (i : Fin 512) (j : Fin 1024) :
    (iblk m c 5 t : FVec Ideal ⟨2, ![512, 1024]⟩ .f32) (ix2 i j) = a5 m c (ix2 (rowAt t.val (lt4 t) i) j) := by
  have h := (places t).2.2.2.2.2.1
  unfold iblk
  blk_simp
  refine (congrFun (V_main_arg5 m c) _).trans (congrArg (a5 m c) (funext fun a => Fin.ext ?_))
  fin_cases a
  all_goals blk_simp [h]

theorem slab_blk (s : Fin 3) (i : Fin 512) (j : Fin 1024) : gradSlab (iblk m c 0 t) (iblk m c 2 t) s i j = gradSlab (a0 m c) (a2 m c) s (rowAt t.val (lt4 t) i) j :=
  Finset.sum_congr rfl fun k _ => congrArg₂ (· * ·) (blk0 m c t s i k) (congrFun (blk2 m c t) _)

theorem gate_blk (i : Fin 512) (j : Fin 1024) : gradGate (iblk m c 1 t) (iblk m c 2 t) i j = gradGate (a1 m c) (a2 m c) (rowAt t.val (lt4 t) i) j :=
  Finset.sum_congr rfl fun k _ => congrArg₂ (· * ·) (blk1 m c t i k) (congrFun (blk2 m c t) _)

theorem grad_blk (i : Fin 512) (j : Fin 1024) :
    gradX (iblk m c 0 t) (iblk m c 1 t) (iblk m c 2 t) i j = gradX (a0 m c) (a1 m c) (a2 m c) (rowAt t.val (lt4 t) i) j :=
  congrArg₂ (· + ·) (congrArg₂ (· + ·) (congrArg₂ (· + ·) (gate_blk m c t i j) (slab_blk m c t 0 i j)) (slab_blk m c t 1 i j)) (slab_blk m c t 2 i j)

theorem row_blk (i : Fin 512) : rowOf (iblk m c 3 t) i = rowOf (a3 m c) (rowAt t.val (lt4 t) i) := funext fun k => blk3 m c t i k

theorem dx_blk (i : Fin 512) (j : Fin 1024) : dxBlk (iblk m c 0 t) (iblk m c 1 t) (iblk m c 2 t) (iblk m c 3 t) (iblk m c 4 t) (iblk m c 5 t) i j
    = Cert.DxRefIdeal.Read.val_main_v48 (F := Ideal) (a0 m c) (a1 m c) (a2 m c) (a3 m c) (a4 m c) (a5 m c) (ix2 (rowAt t.val (lt4 t) i) j) := by
  refine Eq.trans ?_ (v48_at _ _ _ _ _ _ _ _).symm
  unfold dxBlk
  rw [row_blk m c t i, blk5 m c t i j]
  refine congrArg (_ + ·) (congrArg (fun d => rowD _ d j) (funext fun k => ?_))
  exact congrArg₂ (· * ·) (grad_blk m c t i k) (blk4 m c t k)

/-- A row's part of the gain's gradient. -/
def term (j : Fin 1024) (r : Fin 2048) : EReal := dgRow (a0 m c) (a1 m c) (a2 m c) (a3 m c) j r

theorem dg_blk (j : Fin 1024) (i : Fin 512) : dgRow (iblk m c 0 t) (iblk m c 1 t) (iblk m c 2 t) (iblk m c 3 t) j i
    = term m c j (rowAt t.val (lt4 t) i) :=
  congrArg₂ (· * ·) (congrArg₂ (· * ·) (blk3 m c t i j) (congrArg rowR (row_blk m c t i))) (grad_blk m c t i j)

end

/-- What the buffers hold after point `n`. -/
structure After (n : ℕ) (hn : n < 4) (X6 : FVec Ideal ⟨2, ![512, 1024]⟩ .f32) (X7 : FVec Ideal ⟨2, ![1, 1024]⟩ .f32) : Prop where
  dx : ∀ i j, X6 (ix2 i j) = Cert.DxRefIdeal.Read.val_main_v48 (F := Ideal) (a0 m c) (a1 m c) (a2 m c) (a3 m c) (a4 m c) (a5 m c) (ix2 (rowAt n hn i) j)
  dg : ∀ j, X7 (ix2 0 j) = ∑ k ∈ Finset.range ((n + 1) * 512), rows (term m c j) k

theorem after_first (t : Fin cfg0.N) (h0 : t.val % 4 = 0) :
    After m c t.val (lt4 t) (outsAt0 m c t.val t.isLt).1 (outsAt0 m c t.val t.isLt).2 := by
  have e0 : t.val = 0 := by have := lt4 t; omega
  rw [outsAt0_A m c t h0]
  dsimp only
  refine ⟨fun i j => (outA6 i j).trans (dx_blk m c t i j), fun j => outA7 j |>.trans ?_⟩
  refine Eq.trans ?_ (rows_step (term m c j) t.val (lt4 t) _ fun i => dg_blk m c t j i)
  refine congrArg (· + _) (Eq.symm ?_)
  rw [e0]
  rfl

theorem after_next (t : Fin cfg0.N) (h0 : ¬ t.val % 4 = 0) (n : ℕ) (hn : n < 4) (e : t.val = n + 1) (hn' : t.val - 1 < cfg0.N)
    (h : After m c n hn (outsAt0 m c (t.val - 1) hn').1 (outsAt0 m c (t.val - 1) hn').2) :
    After m c t.val (lt4 t) (outsAt0 m c t.val t.isLt).1 (outsAt0 m c t.val t.isLt).2 := by
  rw [outsAt0_B m c t h0]
  dsimp only
  refine ⟨fun i j => (outB6 i j).trans (dx_blk m c t i j), fun j => outB7 j |>.trans ?_⟩
  refine Eq.trans ?_ (rows_step (term m c j) t.val (lt4 t) _ fun i => dg_blk m c t j i)
  exact congrArg (· + _) ((h.dg j).trans (congrArg (fun k => ∑ r ∈ Finset.range (k * 512), rows (term m c j) r) e.symm))

theorem after_at : ∀ (n : ℕ) (hn : n < cfg0.N), After m c n hn (outsAt0 m c n hn).1 (outsAt0 m c n hn).2
  | 0, hn => after_first m c ⟨0, hn⟩ rfl
  | n + 1, hn => after_next m c ⟨n + 1, hn⟩ (by have : n + 1 < 4 := hn; simp only; omega) n (by have : n + 1 < 4 := hn; omega) rfl (Nat.lt_of_succ_lt hn)
      (after_at n (Nat.lt_of_succ_lt hn))

/-! ## The result arrays -/

theorem arr6 : ((dats m 0 c).arrAt 6 cfg0.N : FVec Ideal ⟨2, ![2048, 1024]⟩ .f32)
    = Cert.DxRefIdeal.Read.val_main_v48 (F := Ideal) (a0 m c) (a1 m c) (a2 m c) (a3 m c) (a4 m c) (a5 m c) := by
  refine (dats m 0 c).arrAt_eq_of_covers 6 _ (by decide +kernel) fun t hf y => ?_
  blk_simp
  obtain ⟨i, j, rfl⟩ : ∃ (i : Fin 512) (j : Fin 1024), y = ix2 i j := ⟨y 0, y 1, eq_ix2 y⟩
  have hp := (places t).2.2.2.2.2.2.1
  have ey : (win0_6.blk t).view.emb (ix2 i j) = ix2 (rowAt t.val (lt4 t) i) j := by
    refine funext fun a => Fin.ext ?_
    fin_cases a
    all_goals blk_simp [hp]
  exact (congrFun (after0_6 m c t) _).trans (((after_at m c t.val t.isLt).dx i j).trans (congrArg _ ey.symm))

theorem arr7 : ((dats m 0 c).arrAt 7 cfg0.N : FVec Ideal ⟨2, ![1, 1024]⟩ .f32)
    = Cert.DxRefIdeal.Read.val_main_v49 (F := Ideal) (a0 m c) (a1 m c) (a2 m c) (a3 m c) := by
  refine (dats m 0 c).arrAt_eq_of_after_last 7 (⟨3, by decide⟩ : Fin cfg0.N) (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  have hp := (places ⟨3, by decide⟩).2.2.2.2.2.2.2
  refine (congrFun (after0_7 m c _) _).trans (((after_at m c 3 (by decide)).dg j).trans ((rows_all _).trans ((v49_at _ _ _ _ j).symm.trans (congrArg _ ?_))))
  refine funext fun a => Fin.ext ?_
  fin_cases a
  all_goals blk_simp [hp]

end

/-- The two runs end with the same results. -/
theorem algebraic : algebraic_DxIdeal_DxRefIdeal (hDxIdeal := Cert.DxIdeal.Gen.facts) (hDxRefIdeal := Cert.DxRefIdeal.Gen.facts) := by
  intro m g m' g' _ hm
  refine ⟨fun c => Cert.DxRefIdeal.Read.val_main_v48 (F := Ideal) (a0 m c) (a1 m c) (a2 m c) (a3 m c) (a4 m c) (a5 m c),
    fun c => Cert.DxRefIdeal.Read.val_main_v49 (F := Ideal) (a0 m c) (a1 m c) (a2 m c) (a3 m c), ?_, ?_⟩
  · refine (θ_run (Cert.DxIdeal.defs (F := Ideal)) _ _).mono (fun r h c => ?_) (Cert.DxIdeal.Value.run_blocks (F := Ideal) m g)
    obtain ⟨h6, h7, hr⟩ := h c
    exact ⟨h6.trans (arr6 m c), h7.trans (arr7 m c), hr⟩
  · refine (θ_run (Cert.DxRefIdeal.defs (F := Ideal)) _ _).mono (fun r h c => ?_) (Cert.DxRefIdeal.Value.run (F := Ideal) m' g')
    obtain ⟨e0, e1, e2, e3, e4, e5⟩ := hm c
    obtain ⟨h0, h1, hr⟩ := h c
    refine ⟨h0.trans ((Cert.DxRefIdeal.Read.val_main_v48_eq m' c).trans ?_), h1.trans ((Cert.DxRefIdeal.Read.val_main_v49_eq _ _ _ _).trans ?_), hr⟩
    · rw [e0, e1, e2, e3, e4, e5]
    · rw [e0, e1, e2, e3]

end Cert.Mlp.Dx

end
-- ==== Proof.Dhq.lean ====
/- The gradient of the rows that the keys and the values are made of: the kernel's blocks and its running sum of the gain's gradient are the reference's arrays. -/
module

public import proofs.«01_k».proof.Proof.DhqRun
public import proofs.«01_k».proof.Defs
public import proofs.«01_k».proof.Proof.Gen.DhqIdeal.Value
public import proofs.«01_k».proof.Proof.Gen.DhqRefIdeal.Run
public import Idealize.ShloMosaic.Lib.StableHlo.RunRead
public import Idealize.ShloMosaic.Lib.Pipeline.ValueKit.Geometry

@[expose] public section

noncomputable section

namespace Cert.Mlp.Dhq

open Idealize.ShloMosaic Idealize.ShloMosaic.ValueIdx Idealize.ShloMosaic.TcCoe Idealize.SL Idealize.SL.Sem
open Cert.DhqIdeal Cert.DhqIdeal.Gen

theorem places : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := by decide +kernel

theorem lt4 (t : Fin cfg0.N) : t.val < 4 := t.isLt

/-- Row `i` of block `n`. -/
abbrev rowAt (n : ℕ) (hn : n < 4) (i : Fin 512) : Fin 2048 := ⟨n * 512 + i.val, by omega⟩

section

variable (m : (k : Loc nD τ sig) → Buf (Elt Ideal) k) (c : Dev nD)

abbrev a0 : FVec Ideal ⟨2, ![2048, 1024]⟩ .bf16 := m ((c : Thread nD τ).loc main_arg0)
abbrev a1 : FVec Ideal ⟨2, ![1024, 1024]⟩ .bf16 := m ((c : Thread nD τ).loc main_arg1)
abbrev a2 : FVec Ideal ⟨2, ![2048, 1024]⟩ .f32 := m ((c : Thread nD τ).loc main_arg2)
abbrev a3 : FVec Ideal ⟨1, ![1024]⟩ .f32 := m ((c : Thread nD τ).loc main_arg3)
abbrev a4 : FVec Ideal ⟨2, ![2048, 1024]⟩ .f32 := m ((c : Thread nD τ).loc main_arg4)

/-- The gain, as the call takes it. -/
theorem V_gain : (V m c main_v0 : (⟨S1x1024, .f32⟩ : BufTy).Contents (Elt Ideal)) = shapeCast S1x1024 (a3 m c) shapeCasts_S1024_S1x1024 := by
  unfold_abbrev_sides
  after_reads_simp
  rfl

section

variable (t : Fin cfg0.N)

theorem blk0 (i : Fin 512) (k : Fin 1024) :
    (iblk m c 0 t : FVec Ideal ⟨2, ![512, 1024]⟩ .bf16) (ix2 i k) = a0 m c (ix2 (rowAt t.val (lt4 t) i) k) := by
  have h := (places t).1
  unfold iblk
  blk_simp
  refine (congrFun (V_main_arg0 m c) _).trans (congrArg (a0 m c) (funext fun a => Fin.ext ?_))
  fin_cases a
  all_goals blk_simp [h]

theorem blk1 : (iblk m c 1 t : FVec Ideal ⟨2, ![1024, 1024]⟩ .bf16) = a1 m c := by
  have h := (places t).2.1
  funext y
  unfold iblk
  blk_simp
  refine (congrFun (V_main_arg1 m c) _).trans (congrArg (a1 m c) (funext fun a => Fin.ext ?_))
  fin_cases a
  all_goals blk_simp [h]

theorem blk2 (i : Fin 512) (j : Fin 1024) :
    (iblk m c 2 t : FVec Ideal ⟨2, ![512, 1024]⟩ .f32) (ix2 i j) = a2 m c (ix2 (rowAt t.val (lt4 t) i) j) := by
  have h := (places t).2.2.1
  unfold iblk
  blk_simp
  refine (congrFun (V_main_arg2 m c) _).trans (congrArg (a2 m c) (funext fun a => Fin.ext ?_))
  fin_cases a
  all_goals blk_simp [h]

theorem blk3 (k : Fin 1024) : (iblk m c 3 t : FVec Ideal ⟨2, ![1, 1024]⟩ .f32) (ix2 0 k) = a3 m c (ix1 k) := by
  have h := (places t).2.2.2.1
  unfold iblk
  blk_simp
  refine (congrFun (V_gain m c) _).trans ((congrArg (shapeCast S1x1024 (a3 m c) shapeCasts_S1024_S1x1024) (funext fun a => Fin.ext ?_)).trans (shapeCast_a_1a_apply (a3 m c) _ 0 k))
  fin_cases a
  all_goals blk_simp [h]

theorem blk4 (i : Fin 512) (j : Fin 1024) :
    (iblk m c 4 t : FVec Ideal ⟨2, ![512, 1024]⟩ .f32) (ix2 i j) = a4 m c (ix2 (rowAt t.val (lt4 t) i) j) := by
  have h := (places t).2.2.2.2.1
  unfold iblk
  blk_simp
  refine (congrFun (V_main_arg4 m c) _).trans (congrArg (a4 m c) (funext fun a => Fin.ext ?_))
  fin_cases a
  all_goals blk_simp [h]

theorem slab_blk (i : Fin 512) (j : Fin 1024) : gradQ (iblk m c 0 t) (iblk m c 1 t) i j = gradQ (a0 m c) (a1 m c) (rowAt t.val (lt4 t) i) j :=
  Finset.sum_congr rfl fun k _ => congrArg₂ (· * ·) (blk0 m c t i k) (congrFun (blk1 m c t) _)

theorem row_blk (i : Fin 512) : rowOf (iblk m c 2 t) i = rowOf (a2 m c) (rowAt t.val (lt4 t) i) := funext fun k => blk2 m c t i k

theorem dh_blk (i : Fin 512) (j : Fin 1024) : dhBlk (iblk m c 0 t) (iblk m c 1 t) (iblk m c 2 t) (iblk m c 3 t) (iblk m c 4 t) i j
    = Cert.DhqRefIdeal.Read.val_main_v40 (F := Ideal) (a0 m c) (a1 m c) (a2 m c) (a3 m c) (a4 m c) (ix2 (rowAt t.val (lt4 t) i) j) := by
  refine Eq.trans ?_ (v40_at _ _ _ _ _ _ _).symm
  unfold dhBlk
  rw [row_blk m c t i, blk4 m c t i j]
  refine congrArg (_ + ·) (congrArg (fun d => rowD _ d j) (funext fun k => ?_))
  exact congrArg₂ (· * ·) (slab_blk m c t i k) (blk3 m c t k)

/-- A row's part of the gain's gradient. -/
def term (j : Fin 1024) (r : Fin 2048) : EReal := dgRow (a0 m c) (a1 m c) (a2 m c) j r

theorem dg_blk (j : Fin 1024) (i : Fin 512) : dgRow (iblk m c 0 t) (iblk m c 1 t) (iblk m c 2 t) j i
    = term m c j (rowAt t.val (lt4 t) i) :=
  congrArg₂ (· * ·) (congrArg₂ (· * ·) (blk2 m c t i j) (congrArg rowR (row_blk m c t i))) (slab_blk m c t i j)

end

/-- What the buffers hold after point `n`. -/
structure After (n : ℕ) (hn : n < 4) (X5 : FVec Ideal ⟨2, ![512, 1024]⟩ .f32) (X6 : FVec Ideal ⟨2, ![1, 1024]⟩ .f32) : Prop where
  dh : ∀ i j, X5 (ix2 i j) = Cert.DhqRefIdeal.Read.val_main_v40 (F := Ideal) (a0 m c) (a1 m c) (a2 m c) (a3 m c) (a4 m c) (ix2 (rowAt n hn i) j)
  dg : ∀ j, X6 (ix2 0 j) = ∑ k ∈ Finset.range ((n + 1) * 512), rows (term m c j) k

theorem after_first (t : Fin cfg0.N) (h0 : t.val % 4 = 0) :
    After m c t.val (lt4 t) (outsAt0 m c t.val t.isLt).1 (outsAt0 m c t.val t.isLt).2 := by
  have e0 : t.val = 0 := by have := lt4 t; omega
  rw [outsAt0_A m c t h0]
  dsimp only
  refine ⟨fun i j => (outA5 i j).trans (dh_blk m c t i j), fun j => outA6 j |>.trans ?_⟩
  refine Eq.trans ?_ (rows_step (term m c j) t.val (lt4 t) _ fun i => dg_blk m c t j i)
  refine congrArg (· + _) (Eq.symm ?_)
  rw [e0]
  rfl

theorem after_next (t : Fin cfg0.N) (h0 : ¬ t.val % 4 = 0) (n : ℕ) (hn : n < 4) (e : t.val = n + 1) (hn' : t.val - 1 < cfg0.N)
    (h : After m c n hn (outsAt0 m c (t.val - 1) hn').1 (outsAt0 m c (t.val - 1) hn').2) :
    After m c t.val (lt4 t) (outsAt0 m c t.val t.isLt).1 (outsAt0 m c t.val t.isLt).2 := by
  rw [outsAt0_B m c t h0]
  dsimp only
  refine ⟨fun i j => (outB5 i j).trans (dh_blk m c t i j), fun j => outB6 j |>.trans ?_⟩
  refine Eq.trans ?_ (rows_step (term m c j) t.val (lt4 t) _ fun i => dg_blk m c t j i)
  exact congrArg (· + _) ((h.dg j).trans (congrArg (fun k => ∑ r ∈ Finset.range (k * 512), rows (term m c j) r) e.symm))

theorem after_at : ∀ (n : ℕ) (hn : n < cfg0.N), After m c n hn (outsAt0 m c n hn).1 (outsAt0 m c n hn).2
  | 0, hn => after_first m c ⟨0, hn⟩ rfl
  | n + 1, hn => after_next m c ⟨n + 1, hn⟩ (by have : n + 1 < 4 := hn; simp only; omega) n (by have : n + 1 < 4 := hn; omega) rfl (Nat.lt_of_succ_lt hn)
      (after_at n (Nat.lt_of_succ_lt hn))

/-! ## The result arrays -/

theorem arr5 : ((dats m 0 c).arrAt 5 cfg0.N : FVec Ideal ⟨2, ![2048, 1024]⟩ .f32)
    = Cert.DhqRefIdeal.Read.val_main_v40 (F := Ideal) (a0 m c) (a1 m c) (a2 m c) (a3 m c) (a4 m c) := by
  refine (dats m 0 c).arrAt_eq_of_covers 5 _ (by decide +kernel) fun t hf y => ?_
  blk_simp
  obtain ⟨i, j, rfl⟩ : ∃ (i : Fin 512) (j : Fin 1024), y = ix2 i j := ⟨y 0, y 1, eq_ix2 y⟩
  have hp := (places t).2.2.2.2.2.1
  have ey : (win0_5.blk t).view.emb (ix2 i j) = ix2 (rowAt t.val (lt4 t) i) j := by
    refine funext fun a => Fin.ext ?_
    fin_cases a
    all_goals blk_simp [hp]
  exact (congrFun (after0_5 m c t) _).trans (((after_at m c t.val t.isLt).dh i j).trans (congrArg _ ey.symm))

theorem arr6 : ((dats m 0 c).arrAt 6 cfg0.N : FVec Ideal ⟨2, ![1, 1024]⟩ .f32)
    = Cert.DhqRefIdeal.Read.val_main_v41 (F := Ideal) (a0 m c) (a1 m c) (a2 m c) := by
  refine (dats m 0 c).arrAt_eq_of_after_last 6 (⟨3, by decide⟩ : Fin cfg0.N) (by decide +kernel) _ fun y => ?_
  blk_simp
  obtain ⟨z, j, rfl⟩ : ∃ (z : Fin 1) (j : Fin 1024), y = ix2 z j := ⟨y 0, y 1, eq_ix2 y⟩
  obtain rfl : z = 0 := Subsingleton.elim _ _
  have hp := (places ⟨3, by decide⟩).2.2.2.2.2.2
  refine (congrFun (after0_6 m c _) _).trans (((after_at m c 3 (by decide)).dg j).trans ((rows_all _).trans ((v41_at _ _ _ j).symm.trans (congrArg _ ?_))))
  refine funext fun a => Fin.ext ?_
  fin_cases a
  all_goals blk_simp [hp]

end

/-- The two runs end with the same results. -/
theorem algebraic : algebraic_DhqIdeal_DhqRefIdeal (hDhqIdeal := Cert.DhqIdeal.Gen.facts) (hDhqRefIdeal := Cert.DhqRefIdeal.Gen.facts) := by
  intro m g m' g' _ hm
  refine ⟨fun c => Cert.DhqRefIdeal.Read.val_main_v40 (F := Ideal) (a0 m c) (a1 m c) (a2 m c) (a3 m c) (a4 m c),
    fun c => Cert.DhqRefIdeal.Read.val_main_v41 (F := Ideal) (a0 m c) (a1 m c) (a2 m c), ?_, ?_⟩
  · refine (θ_run (Cert.DhqIdeal.defs (F := Ideal)) _ _).mono (fun r h c => ?_) (Cert.DhqIdeal.Value.run_blocks (F := Ideal) m g)
    obtain ⟨h5, h6, hr⟩ := h c
    exact ⟨h5.trans (arr5 m c), h6.trans (arr6 m c), hr⟩
  · refine (θ_run (Cert.DhqRefIdeal.defs (F := Ideal)) _ _).mono (fun r h c => ?_) (Cert.DhqRefIdeal.Value.run (F := Ideal) m' g')
    obtain ⟨e0, e1, e2, e3, e4⟩ := hm c
    obtain ⟨h0, h1, hr⟩ := h c
    refine ⟨h0.trans ((Cert.DhqRefIdeal.Read.val_main_v40_eq m' c).trans ?_), h1.trans ((Cert.DhqRefIdeal.Read.val_main_v41_eq _ _ _).trans ?_), hr⟩
    · rw [e0, e1, e2, e3, e4]
    · rw [e0, e1, e2]

end Cert.Mlp.Dhq

end
-- ==== Proof.UpIdealRun.lean ====
/- An MLP's product with w_up over the extended reals: the run of the body at a row block's first step, which normalises the rows, and at a later one, which
   finds them in the buffer; what the buffers hold after each step; the whole run, and that the arguments end unchanged. -/
module

public import proofs.«01_k».proof.Proof.Gen.UpIdeal.Frame
public import proofs.«01_k».proof.Proof.Gen.UpIdeal.Skeleton
public import Idealize.ShloMosaic.Lib.Pipeline.ValueKit.Basic
public import Idealize.ShloMosaic.Lib.Pipeline.TableIdle
public import Idealize.ShloMosaic.Lib.VecWindow
public import Idealize.ShloMosaic.Lib.Claim

@[expose] public section

set_option maxRecDepth 16384

noncomputable section

namespace Cert.Mlp.UpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.UpIdeal Cert.UpIdeal.Gen

variable {F : FTy → Type} [FloatOps F]

/-- The two halves of a block of the result's columns. -/
abbrev halves (w : Vec F S2x1024x512 .bf16) (h : Vec F S1024x1024 .bf16) : List (View.Piece (Elt F) S1024x1024 .bf16) :=
  [⟨Rect.unit (s := S1024x1024) ![0, 512] S1024x512.size inb_S1024x1024_S1024x512_0_512,
      k0_pay3 (View.ld w (Rect.unit (s := S2x1024x512) ![1, 0, 0] S1x1024x512.size inb_S2x1024x512_S1x1024x512_1_0_0)) h⟩,
    ⟨Rect.unit (s := S1024x1024) ![0, 0] S1024x512.size inb_S1024x1024_S1024x512_0_0,
      k0_pay2 (View.ld w (Rect.unit (s := S2x1024x512) ![0, 0, 0] S1x1024x512.size inb_S2x1024x512_S1x1024x512_0_0_0)) h⟩]

/-- A block of the result, from two slabs of the weights and the rows. -/
def act (w : Vec F S2x1024x512 .bf16) (h : Vec F S1024x1024 .bf16) : Vec F S1024x1024 .bf16 := View.canon (halves w h)

theorem halves_cover (w : Vec F S2x1024x512 .bf16) (h : Vec F S1024x1024 .bf16) (y : S1024x1024.Idx) : ∃ p ∈ halves w h, y ∈ p.1.set :=
  View.cover_of_tiledL (halves w h) S1024x512.size (by sl_kernel_rfl) y

theorem ld_whole {e : EltTy} (x : S1024x1024.Idx → Elt F e) (inb : ∀ a, (![0, 0] : Fin 2 → ℕ) a + S1024x1024.size a ≤ S1024x1024.size a) :
    View.ld x (Rect.unit (s := S1024x1024) ![0, 0] (no_index S1024x1024.size) inb) = x :=
  View.ld_unit_zero (Val := Elt F) (by ext a; fin_cases a <;> rfl) inb x

theorem ld_line (x : Vec F S1x1024 .f32) (inb : ∀ a, (![0, 0] : Fin 2 → ℕ) a + S1x1024.size a ≤ S1x1024.size a) :
    View.ld x (Rect.unit (s := S1x1024) ![0, 0] (no_index S1x1024.size) inb) = x :=
  View.ld_unit_zero (Val := Elt F) (by ext a; fin_cases a <;> rfl) inb x

theorem reload (r : Memref sig .tc .vmem S1024x1024 .bf16) (h : Vec F S1024x1024 .bf16) (inb inb' : ∀ a, (![0, 0] : Fin 2 → ℕ) a + S1024x1024.size a ≤ S1024x1024.size a) :
    r.view.readCov [(⟨Rect.unit (s := S1024x1024) ![0, 0] (no_index S1024x1024.size) inb', h⟩ : View.Piece (Elt F) S1024x1024 .bf16)]
      (Rect.unit (s := S1024x1024) ![0, 0] (no_index S1024x1024.size) inb).toLoadRect = h :=
  View.readCov_full r.view inb inb' h []

theorem first_iff : ∀ t : Fin cfg0.N, k0_cond1 (grid0.coords t) = 1#1 ↔ t.val % 4 = 0 := by decide +kernel

local notation "𝕄" => MT nD τ sig Unit (Elt F) ℕ (UR sig nD τ) ℕ

section

variable (c : Dev nD) (i : grid0.Coords) (r2 : Memref sig .tc .vmem S1024x1024 .f32) (h2 : r2.IsWhole) (r3 : Memref sig .tc .vmem S1x1024 .f32) (h3 : r3.IsWhole)
  (r4 : Memref sig .tc .vmem S2x1024x512 .bf16) (h4 : r4.IsWhole) (r5 : Memref sig .tc .vmem S1024x1024 .bf16) (h5 : r5.IsWhole)
  (r6 : Memref sig .tc .vmem S1024x1024 .bf16) (h6 : r6.IsWhole)
  (x : Vec F S1024x1024 .f32) (g : Vec F S1x1024 .f32) (w : Vec F S2x1024x512 .bf16)

/-- What the body holds at its start, the rows' buffer at `R`, and what it leaves, the rows being `h`. -/
abbrev before (R : sProp 𝕄) : sProp 𝕄 :=
  iprop(owns (c : Thread nD τ) r2 fullShare x ∗ owns (c : Thread nD τ) r3 fullShare g ∗ owns (c : Thread nD τ) r4 fullShare w
    ∗ (∃ d, owns (c : Thread nD τ) r5 fullShare d) ∗ R)
abbrev left (h : Vec F S1024x1024 .bf16) : sProp 𝕄 :=
  iprop(owns (c : Thread nD τ) r2 fullShare x ∗ owns (c : Thread nD τ) r3 fullShare g ∗ owns (c : Thread nD τ) r4 fullShare w
    ∗ owns (c : Thread nD τ) r5 fullShare (act w h) ∗ owns (c : Thread nD τ) r6 fullShare h)

set_option maxHeartbeats 1000000 in
/-- The first step of a row block normalises the rows and keeps them. -/
theorem body_first (hc : k0_cond1 i = 1#1) (E : Set ℕ) (K : PUnit → sProp 𝕄) :
    iprop(before c r2 r3 r4 r5 x g w (iprop(∃ d, owns (c : Thread nD τ) r6 fullShare d)) ∗ (left c r2 r3 r4 r5 r6 x g w (k0_pay1 x g) -∗ K ⟨⟩))
      ⊢ wp frame (wpE (defs₀ (F := F)) Variants.none c none) E (cc0_mlp_up i r2 h2 r3 h3 r4 h4 r5 h5 r6 h6) K := by
  simp only [cc0_mlp_up_eq_skeleton]
  unfold cc0_mlp_up_skel before left owns
  iintro ⟨⟨⟨%f0, %e0, H0⟩, ⟨%f1, %e1, H1⟩, ⟨%f2, %e2, H2⟩, ⟨%d3, %f3, -, H3⟩, ⟨%d4, %f4, -, H4⟩⟩, Hk⟩
  obtain rfl := h2.eq_unread e0; obtain rfl := h3.eq_unread e1; obtain rfl := h4.eq_unread e2
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    delta body_first.sl.v5 body_first.sl.H4_1
    rw [reload]
    simp only [View.readAt_eq_ld, h2.read_unread, h3.read_unread, h4.read_unread, ld_whole, ld_line]
    exact View.read_writes_eq_canon _ _ (halves w (k0_pay1 x g)) (halves_cover w (k0_pay1 x g))
  iexists _; isplitr
  swap; · iexact H4
  ipureintro
  delta body_first.sl.H4_1
  simp only [View.readAt_eq_ld, h2.read_unread, h3.read_unread, ld_whole, ld_line]
  exact View.read_writes_full _ _ _ _ _

set_option maxHeartbeats 1000000 in
/-- A later step reads them. -/
theorem body_next (hc : ¬ k0_cond1 i = 1#1) (h : Vec F S1024x1024 .bf16) (E : Set ℕ) (K : PUnit → sProp 𝕄) :
    iprop(before c r2 r3 r4 r5 x g w (owns (c : Thread nD τ) r6 fullShare h) ∗ (left c r2 r3 r4 r5 r6 x g w h -∗ K ⟨⟩))
      ⊢ wp frame (wpE (defs₀ (F := F)) Variants.none c none) E (cc0_mlp_up i r2 h2 r3 h3 r4 h4 r5 h5 r6 h6) K := by
  simp only [cc0_mlp_up_eq_skeleton]
  unfold cc0_mlp_up_skel before left owns
  iintro ⟨⟨⟨%f0, %e0, H0⟩, ⟨%f1, %e1, H1⟩, ⟨%f2, %e2, H2⟩, ⟨%d3, %f3, -, H3⟩, ⟨%f4, %e4, H4⟩⟩, Hk⟩
  obtain rfl := h2.eq_unread e0; obtain rfl := h3.eq_unread e1; obtain rfl := h4.eq_unread e2; obtain rfl := h6.eq_unread e4
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    simp only [View.readAt_eq_ld, h4.read_unread, h6.read_unread, ld_whole]
    exact View.read_writes_eq_canon _ _ (halves w h) (halves_cover w h)
  iexists _; isplitr
  swap; · iexact H4
  ipureintro
  exact h6.read_unread _

end

variable (m : (k : Loc nD τ sig) → Buf (Elt F) k) (ρ : Dev nD → PrngReg)

/-- The first step of a step's row block. -/
abbrev start (t : Fin cfg0.N) : Fin cfg0.N := ⟨t.val / 4 * 4, lt_of_le_of_lt (Nat.div_mul_le_self _ _) t.isLt⟩

theorem start_first (t : Fin cfg0.N) (h : t.val % 4 = 0) : start t = t := Fin.ext (by show t.val / 4 * 4 = t.val; omega)

/-- The normalised rows of a step's row block. -/
def normed (c : Dev nD) (t : Fin cfg0.N) : Vec F S1024x1024 .bf16 := k0_pay1 (iblk m c 0 (start t)) (iblk m c 1 (start t))

theorem normed_next (c : Dev nD) (t : Fin cfg0.N) (h : ¬ t.val % 4 = 0) (hp : t.val - 1 < cfg0.N) : normed m c t = normed m c ⟨t.val - 1, hp⟩ :=
  congrArg (fun s => k0_pay1 (iblk m c 0 s) (iblk m c 1 s)) (Fin.ext (by show t.val / 4 * 4 = (t.val - 1) / 4 * 4; omega))

/-- The arrays as the call finds them, and what each buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => act (iblk m c 2 t) (normed m c t)
    | ⟨4, _⟩ => normed m c t
  Φ _ := Pipeline.ΦA spec0 c
  q _ := fullShare
  owed _ := 0

theorem array (c : Dev nD) (w : Fin cfg0.W) : (dats m 0 c).A w = V m c (Pipeline.arrRef spec0 w) := by dsimp only [dats]

section

variable (c : Dev nD) (t : Fin cfg0.N)

theorem after_x : (dats m 0 c).after 0 t = iblk m c 0 t := by dsimp only [dats]
theorem after_g : (dats m 0 c).after 1 t = iblk m c 1 t := by dsimp only [dats]
theorem after_w : (dats m 0 c).after 2 t = iblk m c 2 t := by dsimp only [dats]
theorem after_y : (dats m 0 c).after 3 t = act (iblk m c 2 t) (normed m c t) := by dsimp only [dats]
theorem after_n : (dats m 0 c).after 4 t = normed m c t := by dsimp only [dats]

theorem found_x (d) : (dats m 0 c).before 0 t d = iblk m c 0 t := before0_0_of m (dats m 0 c) (array m c 0) (after_x m c) t d
theorem found_g (d) : (dats m 0 c).before 1 t d = iblk m c 1 t := before0_1_of m (dats m 0 c) (array m c 1) (after_g m c) t d
theorem found_w (d) : (dats m 0 c).before 2 t d = iblk m c 2 t := before0_2_of m (dats m 0 c) (array m c 2) (after_w m c) t d

end

/-- Where the rows' buffer is written, and where it holds what a step of its row block wrote. -/
theorem idle_iff : ∀ t : Fin cfg0.N, cfg0.idle 4 (grid0.coords t) = true ↔ ¬ t.val % 4 = 0 := by decide +kernel

theorem fresh_step : ∀ t : Fin cfg0.N,
    decide ((t.val + 1) % 4 = 0) = ((cfg0.win 4).flush t || (cfg0.idle 4 (cfg0.grid.coords t) && decide (t.val % 4 = 0))) := by decide +kernel

theorem fresh_at (t : Fin cfg0.N) : cfg0.fresh 4 t.val = decide (t.val % 4 = 0) :=
  Pipeline.Cfg.fresh_tab cfg0 4 (fun n => decide (n % 4 = 0)) rfl fresh_step t.val (Nat.le_of_lt t.isLt)

theorem carried (c : Dev nD) (t : Fin cfg0.N) (h0 : t.val ≠ 0) (hi : cfg0.idle 4 (cfg0.grid.coords t) = true) (_ : cfg0.fresh 4 t.val = false) :
    (dats m 0 c).after 4 t = (dats m 0 c).after 4 ⟨t.val - 1, by omega⟩ :=
  (after_n m c t).trans ((normed_next m c t ((idle_iff t).mp hi) (by omega)).trans (after_n m c _).symm)

/-- At a later step of a row block the buffer holds the block's normalised rows. -/
theorem found_n (c : Dev nD) (t : Fin cfg0.N) (h : ¬ t.val % 4 = 0) (d) : (dats m 0 c).before 4 t d = normed m c t := by
  rw [Dat.before_out_traj _ 4 rfl (fun _ _ => rfl) (carried m c) t.val t rfl d,
    if_neg (by rw [fresh_at t, decide_eq_false h]; exact Bool.false_ne_true)]
  exact (after_n m c _).trans (normed_next m c t h _).symm

/-! ## A step -/

section

variable (c : Dev nD) (t : Fin cfg0.N)

def stepPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def stepPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_x : (dats m 0 c).leavesExact 0 t = owns (c : Thread nD τ) (st0_0 t) fullShare (iblk m c 0 t) := by
  rw [← after_x]
theorem leaves_g : (dats m 0 c).leavesExact 1 t = owns (c : Thread nD τ) (st0_1 t) fullShare (iblk m c 1 t) := by
  rw [← after_g]
theorem leaves_w : (dats m 0 c).leavesExact 2 t = owns (c : Thread nD τ) (st0_2 t) fullShare (iblk m c 2 t) := by
  rw [← after_w]
theorem leaves_y : (dats m 0 c).leavesExact 3 t = owns (c : Thread nD τ) (st0_3 t) fullShare (act (iblk m c 2 t) (normed m c t)) := by
  rw [← after_y]

/-- The rows' buffer at the block's normalised rows is what a step must leave of it: where the step writes it, where the buffer goes
    back to its array, and where it stays. -/
theorem leaves_n : owns (c : Thread nD τ) (st0_4 t) fullShare (normed m c t) ⊢ (dats m 0 c).leavesExact 4 t := by
  by_cases hi : cfg0.idle 4 (cfg0.grid.coords t) = true
  · by_cases hf : (cfg0.win 4).flush t = true
    · have e : (dats m 0 c).leavesExact 4 t = owns (c : Thread nD τ) (st0_4 t) fullShare ((dats m 0 c).after 4 t) := by
        unfold Dat.leavesExact; rw [hi, hf]
      rw [e, after_n]
    · rw [Dat.leavesExact_idle _ 4 t hi (Bool.eq_false_iff.mpr hf)]
      iintro H
      iexists (fun _ => Classical.arbitrary _)
      rw [found_n m c t ((idle_iff t).mp hi)]
      iexact H
  · have e : (dats m 0 c).leavesExact 4 t = owns (c : Thread nD τ) (st0_4 t) fullShare ((dats m 0 c).after 4 t) := by
      unfold Dat.leavesExact; rw [Bool.eq_false_iff.mpr hi]
    rw [e, after_n]

set_option maxHeartbeats 800000 in
theorem step : stepPre m c t ⊢ wp frame (wpE (defs₀ (F := F)) Variants.none c none) Set.univ (bodyAt0 t) (fun _ => stepPost m c t) := by
  unfold stepPre stepPost bodyAt0
  simp only [found_x, found_g, found_w]
  rw [show (dats m 0 c).Φ t.succ = (dats m 0 c).Φ t.castSucc from rfl,
    show (dats m 0 c).owesAt () t.succ = (dats m 0 c).owesAt () t.castSucc from rfl,
    leaves_x, leaves_g, leaves_w, leaves_y]
  by_cases h0 : t.val % 4 = 0
  · have hn : normed m c t = k0_pay1 (iblk m c 0 t) (iblk m c 1 t) := by unfold normed; rw [start_first t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) ((first_iff t).mpr h0) Set.univ _)
    unfold before left
    isplitl [H0 H1 H2 H3 H4]
    · isplitl [H0]; · iexact H0
      isplitl [H1]; · iexact H1
      isplitl [H2]; · iexact H2
      isplitl [H3]; · iexists _; iexact H3
      iexists _; iexact H4
    rw [← hn]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4
  · simp only [found_n m c t h0]
    iintro ⟨HΦ, Ho, ⟨%d0, H0⟩, ⟨%d1, H1⟩, ⟨%d2, H2⟩, ⟨%d3, H3⟩, ⟨%d4, H4⟩⟩
    iapply (body_next c (grid0.coords t) _ _ _ _ _ _ _ _ _ _ (iblk m c 0 t) (iblk m c 1 t) (iblk m c 2 t) (fun h => h0 ((first_iff t).mp h)) (normed m c t) Set.univ _)
    unfold before left
    isplitl [H0 H1 H2 H3 H4]
    · isplitl [H0]; · iexact H0
      isplitl [H1]; · iexact H1
      isplitl [H2]; · iexact H2
      isplitl [H3]; · iexists _; iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4

end

theorem row_is (t : Fin cfg0.N) : defs₀ (F := F) .tc cfg0.body (cfg0.bodyArgs t (cfg0.slots t)) = bodyAt0 t := by
  unfold defs₀; rw [Defs.onTc_tc]

theorem steps (c : Dev nD) : BodyObligation (dats (F := F) m 0 c) (defs₀ (F := F)) Variants.none () Set.univ := fun t => by
  rw [bigSep_W0, bigSep_W0, row_is]
  exact triple_restated (step m c t) rfl .rfl fun _ => .rfl

/-! ## The run -/

set_option backward.isDefEq.respectTransparency.types false in
theorem run_ends : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (steps m c).loose) (hshare := fun c => (dats m 0 c).share_full fun _ => rfl)
    (howed := fun _ _ => rfl) (V := V m) (hmain := hmain m Variants.none) (hA := array m) (hΦ := fun _ _ => rfl)

theorem run_posts : θ_run defs (onTc (τ := τ) (main (F := F))) (s₀ m ρ) (Pipeline.FramePost cfgs (dats m) 0 (V m)) :=
  (θ_run defs _ _).mono (fun _ h => h.1) (run_ends m ρ)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (array m) (run_posts m ρ)) ((θ_run defs _ _).mono (fun _ h => h.2) (run_ends m ρ))

end Cert.Mlp.UpIdeal

end
-- ==== Proof.Up.lean ====
/- An MLP's product with w_up: the kernel's blocks of the activations and of the normalised rows are the reference's arrays. -/
module

public import proofs.«01_k».proof.Proof.Norm
public import proofs.«01_k».proof.Proof.UpIdealRun
public import proofs.«01_k».proof.Defs
public import proofs.«01_k».proof.Proof.Gen.UpRefIdeal.Run
public import proofs.«01_k».proof.Proof.Gen.UpRefIdeal.Read
public import Idealize.ShloMosaic.Lib.StableHlo.RunRead
public import Idealize.ShloMosaic.Lib.Pipeline.ValueKit.Geometry
public import Idealize.ShloMosaic.Lib.Pipeline.ValueKit.Tiles

@[expose] public section

noncomputable section

namespace Cert.Mlp.UpIdeal

open Idealize.ShloMosaic Idealize.ShloMosaic.ValueIdx Idealize.ShloMosaic.TcCoe Idealize.SL Idealize.SL.Sem
open Cert.UpIdeal Cert.UpIdeal.Gen

/-- The square of the positive part. -/
def reluSq (z : EReal) : EReal := max z (Ideal.ofBits .f32 0x00000000#32) * max z (Ideal.ofBits .f32 0x00000000#32)

/-- A normalised row, scaled. -/
def normRow (x g : Fin 1024 → EReal) (k : Fin 1024) : EReal := x k * rowR x * g k

/-! ## The reference, read at an index -/

section Ref

open Cert.UpRefIdeal Cert.UpRefIdeal.Gen Cert.UpRefIdeal.Read

variable (x0 : FVec Ideal ⟨2, ![2048, 1024]⟩ .f32) (x1 : FVec Ideal ⟨1, ![1024]⟩ .f32) (x2 : FVec Ideal ⟨3, ![8, 1024, 512]⟩ .bf16)

theorem ref_e (i : Fin 2048) : val_main_v6 (F := Ideal) x0 (ix2 i 0) = rowE (rowOf x0 i) := by
  refine congrArg (fun z => Ideal.div z (Ideal.ofBits .f32 0x44800000#32) + Ideal.ofBits .f32 0x358637BD#32) ?_
  refine (val_main_v2_apply (F := Ideal) x0 _).trans ((val_main_v1_apply x0 _).trans ?_)
  refine (congrArg (· + _) (Ideal.ofBits_zero_f32 : (val_main_cst (F := Ideal)) (Shape.Idx.first h_S_) = 0)).trans ((zero_add _).trans (Finset.sum_congr rfl fun k _ => ?_))
  exact congrArg (fun z => x0 z * x0 z) (Shape.idx_ext₂ rfl rfl)

theorem ref_n (i : Fin 2048) (k : Fin 1024) : val_main_v12 (F := Ideal) x0 x1 (ix2 i k) = normRow (rowOf x0 i) (fun k => x1 (ix1 k)) k := by
  refine congrArg₂ (· * ·) (congrArg (x0 (ix2 i k) * ·) ?_) ?_
  · exact (val_main_v8_apply (F := Ideal) x0 _).trans ((congrArg (val_main_v7 (F := Ideal) x0) (Shape.idx_ext₂ rfl rfl : idx_main_v8 (ix2 i k) = ix2 i 0)).trans
      (congrArg Ideal.rsqrt (ref_e x0 i)))
  · exact (val_main_v11_apply (F := Ideal) x1 _).trans ((val_main_v10_apply (F := Ideal) x1 _).trans (congrArg x1 (funext fun a => Fin.ext (by match a with | 0 => rfl))))

theorem ref_w (k : Fin 1024) (j : Fin 4096) :
    val_main_v15 (F := Ideal) x2 (ix2 k j) = x2 (ix3 (⟨j.val / 512, by omega⟩ : Fin 8) k (⟨j.val % 512, by omega⟩ : Fin 512)) := by
  refine (val_main_v15_apply (F := Ideal) x2 _).trans ((val_main_v14_apply (F := Ideal) x2 _).trans (congrArg x2 (funext fun a => Fin.ext ?_)))
  match a with
  | 0 => show (k.val * 4096 + j.val) / 512 % 8 = j.val / 512; omega
  | 1 => show (k.val * 4096 + j.val) / 4096 = k.val; omega
  | 2 => show (k.val * 4096 + j.val) % 512 = j.val % 512; omega

theorem ref_y (i : Fin 2048) (j : Fin 4096) : val_main_v19 (F := Ideal) x0 x1 x2 (ix2 i j)
    = reluSq (∑ k, normRow (rowOf x0 i) (fun k => x1 (ix1 k)) k * x2 (ix3 (⟨j.val / 512, by omega⟩ : Fin 8) k (⟨j.val % 512, by omega⟩ : Fin 512))) := by
  refine congrArg reluSq ((val_main_v16_apply x0 x1 x2 _).trans (Finset.sum_congr rfl fun k _ => congrArg₂ (· * ·) ?_ ?_))
  · exact (congrArg (val_main_v12 (F := Ideal) x0 x1) (Shape.idx_ext₂ rfl rfl : lidx_main_v16 (ix2 i j) k = ix2 i k)).trans (ref_n x0 x1 i k)
  · exact (congrArg (val_main_v15 (F := Ideal) x2) (Shape.idx_ext₂ rfl rfl : ridx_main_v16 (ix2 i j) k = ix2 k j)).trans (ref_w x2 k j)

end Ref

/-! ## The body, read at an index -/

theorem pay1_at (x : FVec Ideal ⟨2, ![1024, 1024]⟩ .f32) (g : FVec Ideal ⟨2, ![1, 1024]⟩ .f32) (i k : Fin 1024) :
    k0_pay1 (F := Ideal) x g (ix2 i k) = normRow (rowOf x i) (fun k => g (ix2 0 k)) k := by
  refine congrArg₂ (· * ·) (congrArg (x (ix2 i k) * ·) ((bcCol_at _ _ i k).trans (congrArg Ideal.rsqrt ?_))) ((bcRow_at _ _ i k).trans (congrFun (shapeCast_self g _) _))
  exact congrArg (fun z => Ideal.div z (Ideal.ofBits .f32 0x44800000#32) + Ideal.ofBits .f32 0x358637BD#32) ((col_at _ _ i 0).trans (sumCols_at _ _ _ _ i))

theorem pay2_at (v : FVec Ideal ⟨3, ![1, 1024, 512]⟩ .bf16) (h : FVec Ideal ⟨2, ![1024, 1024]⟩ .bf16) (i : Fin 1024) (j : Fin 512) :
    k0_pay2 (F := Ideal) v h (ix2 i j) = reluSq (∑ k, h (ix2 i k) * v (ix3 0 k j)) :=
  congrArg reluSq ((nn_at _ _ _ i j).trans (Finset.sum_congr rfl fun k _ => congrArg₂ (· * ·) (congrFun (shapeCast_self h _) _) (slab_at v _ k j)))

theorem pay3_at (v : FVec Ideal ⟨3, ![1, 1024, 512]⟩ .bf16) (h : FVec Ideal ⟨2, ![1024, 1024]⟩ .bf16) (i : Fin 1024) (j : Fin 512) :
    k0_pay3 (F := Ideal) v h (ix2 i j) = reluSq (∑ k, h (ix2 i k) * v (ix3 0 k j)) :=
  congrArg reluSq ((nn_at _ _ _ i j).trans (Finset.sum_congr rfl fun k _ => congrArg₂ (· * ·) (congrFun (shapeCast_self h _) _) (slab_at v _ k j)))

theorem act_of {F : FTy → Type} [FloatOps F] (w : Vec F S2x1024x512 .bf16) (h : Vec F S1024x1024 .bf16) (y : S1024x1024.Idx) (v : Elt F .bf16)
    (hhi : View.TileAt y ![0, 512] S1024x512.size (k0_pay3 (View.ld w (Rect.unit (s := S2x1024x512) ![1, 0, 0] S1x1024x512.size inb_S2x1024x512_S1x1024x512_1_0_0)) h) v)
    (hlo : View.TileAt y ![0, 0] S1024x512.size (k0_pay2 (View.ld w (Rect.unit (s := S2x1024x512) ![0, 0, 0] S1x1024x512.size inb_S2x1024x512_S1x1024x512_0_0_0)) h) v) :
    act w h y = v :=
  View.canon_eq_of_allAt (halves w h) y v (halves_cover w h y) (View.allAt_cons_unit _ _ _ _ _ hhi (View.allAt_cons_unit _ _ _ _ _ hlo (View.allAt_nil _ _)))

theorem slab_ld (w : FVec Ideal ⟨3, ![2, 1024, 512]⟩ .bf16) (b : Fin 2) (off : Fin 3 → ℕ) (ho : off = ![b.val, 0, 0])
    (inb : ∀ a, off a + S1x1024x512.size a ≤ S2x1024x512.size a) (k : Fin 1024) (j : Fin 512) :
    (View.ld (Val := Elt Ideal) (e' := .bf16) w (Rect.unit (s := S2x1024x512) off S1x1024x512.size inb) : FVec Ideal ⟨3, ![1, 1024, 512]⟩ .bf16) (ix3 0 k j) = w (ix3 b k j) := by
  subst ho
  refine congrArg w (funext fun a => Fin.ext ?_)
  match a with
  | 0 => show b.val + 1 * 0 = b.val; omega
  | 1 => show 0 + 1 * k.val = k.val; omega
  | 2 => show 0 + 1 * j.val = j.val; omega

/-- A block of the activations, at an index of which the column is split into its slab and the column there. -/
def actOf (w : FVec Ideal ⟨3, ![2, 1024, 512]⟩ .bf16) (h : FVec Ideal ⟨2, ![1024, 1024]⟩ .bf16) (i j : Fin 1024) : EReal :=
  reluSq (∑ k, h (ix2 i k) * w (ix3 (⟨j.val / 512, by omega⟩ : Fin 2) k (⟨j.val % 512, by omega⟩ : Fin 512)))

theorem half_at (w : FVec Ideal ⟨3, ![2, 1024, 512]⟩ .bf16) (h : FVec Ideal ⟨2, ![1024, 1024]⟩ .bf16) (v : FVec Ideal ⟨3, ![1, 1024, 512]⟩ .bf16) (b : Fin 2)
    (hv : ∀ (k : Fin 1024) (j : Fin 512), v (ix3 0 k j) = w (ix3 b k j)) (i : Fin 1024) (j : Fin 512) (q : Fin 1024) (hq : q.val = b.val * 512 + j.val) :
    reluSq (∑ k, h (ix2 i k) * v (ix3 0 k j)) = actOf w h i q := by
  refine congrArg reluSq (Finset.sum_congr rfl fun k _ => congrArg (h (ix2 i k) * ·) ((hv k j).trans (congrArg w ?_)))
  have e1 : b = (⟨q.val / 512, by omega⟩ : Fin 2) := Fin.ext (by show b.val = q.val / 512; omega)
  have e2 : j = (⟨q.val % 512, by omega⟩ : Fin 512) := Fin.ext (by show j.val = q.val % 512; omega)
  exact congrArg₂ (fun x y => ix3 x k y) e1 e2

theorem act_at (w : FVec Ideal ⟨3, ![2, 1024, 512]⟩ .bf16) (h : FVec Ideal ⟨2, ![1024, 1024]⟩ .bf16) (i q : Fin 1024) :
    act (F := Ideal) w h (ix2 i q) = actOf w h i q := by
  refine act_of (F := Ideal) w h (ix2 i q) (actOf w h i q) ?_ ?_
  · intro x hx
    obtain ⟨i', j, rfl⟩ : ∃ (i' : Fin 1024) (j : Fin 512), x = ix2 i' j := ⟨x 0, x 1, eq_ix2 x⟩
    have e0 : i.val = 0 + i'.val := hx 0
    have e1 : q.val = 512 + j.val := hx 1
    obtain rfl : i = i' := Fin.ext (by omega)
    exact (pay3_at _ h i j).trans (half_at w h _ 1 (fun k j => slab_ld w 1 _ rfl _ k j) i j q (by show q.val = 1 * 512 + j.val; omega))
  · intro x hx
    obtain ⟨i', j, rfl⟩ : ∃ (i' : Fin 1024) (j : Fin 512), x = ix2 i' j := ⟨x 0, x 1, eq_ix2 x⟩
    have e0 : i.val = 0 + i'.val := hx 0
    have e1 : q.val = 0 + j.val := hx 1
    obtain rfl : i = i' := Fin.ext (by omega)
    exact (pay2_at _ h i j).trans (half_at w h _ 0 (fun k j => slab_ld w 0 _ rfl _ k j) i j q (by show q.val = 0 * 512 + j.val; omega))

/-! ## The blocks -/

theorem places : ∀ t : Fin cfg0.N, win0_0.index t = ![t.val / 4, 0] ∧ win0_1.index t = ![0, 0] ∧ win0_2.index t = ![t.val % 4, 0, 0]
    ∧ win0_3.index t = ![t.val / 4, t.val % 4] ∧ win0_4.index t = ![t.val / 4, 0] := by decide +kernel

theorem lt8 (t : Fin cfg0.N) : t.val < 8 := t.isLt

/-- Row `i` and column `j` of a step's blocks, in the arrays. -/
abbrev row (t : Fin cfg0.N) (i : Fin 1024) : Fin 2048 := ⟨t.val / 4 * 1024 + i.val, by have := lt8 t; omega⟩
abbrev col (t : Fin cfg0.N) (j : Fin 1024) : Fin 4096 := ⟨t.val % 4 * 1024 + j.val, by omega⟩

theorem row_start (t : Fin cfg0.N) (i : Fin 1024) : row (start t) i = row t i := Fin.ext (by show t.val / 4 * 4 / 4 * 1024 + i.val = t.val / 4 * 1024 + i.val; omega)

section

variable (m : (k : Loc nD τ sig) → Buf (Elt Ideal) k) (c : Dev nD)

abbrev a0 : FVec Ideal ⟨2, ![2048, 1024]⟩ .f32 := m ((c : Thread nD τ).loc main_arg0)
abbrev a1 : FVec Ideal ⟨1, ![1024]⟩ .f32 := m ((c : Thread nD τ).loc main_arg1)
abbrev a2 : FVec Ideal ⟨3, ![8, 1024, 512]⟩ .bf16 := m ((c : Thread nD τ).loc main_arg2)

/-- The gain, as the call takes it. -/
theorem V_gain : (V m c main_v0 : (⟨S1x1024, .f32⟩ : BufTy).Contents (Elt Ideal)) = shapeCast S1x1024 (a1 m c) shapeCasts_S1024_S1x1024 := by
  unfold_abbrev_sides
  after_reads_simp
  rfl

section

variable (t : Fin cfg0.N)

theorem blk0 (i k : Fin 1024) : (iblk m c 0 t : FVec Ideal ⟨2, ![1024, 1024]⟩ .f32) (ix2 i k) = a0 m c (ix2 (row t i) k) := by
  have h := (places t).1
  unfold iblk
  blk_simp
  refine (congrFun (V_main_arg0 m c) _).trans (congrArg (a0 m c) (funext fun a => Fin.ext ?_))
  fin_cases a
  all_goals blk_simp [h]

theorem blk1 (k : Fin 1024) : (iblk m c 1 t : FVec Ideal ⟨2, ![1, 1024]⟩ .f32) (ix2 0 k) = a1 m c (ix1 k) := by
  have h := (places t).2.1
  unfold iblk
  blk_simp
  refine (congrFun (V_gain m c) _).trans ((congrArg (shapeCast S1x1024 (a1 m c) shapeCasts_S1024_S1x1024) (funext fun a => Fin.ext ?_)).trans (shapeCast_a_1a_apply (a1 m c) _ 0 k))
  fin_cases a
  all_goals blk_simp [h]

theorem blk2 (b : Fin 2) (k : Fin 1024) (j : Fin 512) :
    (iblk m c 2 t : FVec Ideal ⟨3, ![2, 1024, 512]⟩ .bf16) (ix3 b k j) = a2 m c (ix3 (⟨t.val % 4 * 2 + b.val, by omega⟩ : Fin 8) k j) := by
  have h := (places t).2.2.1
  unfold iblk
  blk_simp
  refine (congrFun (V_main_arg2 m c) _).trans (congrArg (a2 m c) (funext fun a => Fin.ext ?_))
  fin_cases a
  all_goals blk_simp [h]

theorem normed_at (i k : Fin 1024) : (normed m c t : FVec Ideal ⟨2, ![1024, 1024]⟩ .bf16) (ix2 i k)
    = normRow (rowOf (a0 m c) (row t i)) (fun k => a1 m c (ix1 k)) k := by
  refine (pay1_at _ _ i k).trans (congrArg₂ (fun x g => normRow x g k) (funext fun k => ?_) (funext fun k => blk1 m c _ k))
  exact (blk0 m c (start t) i k).trans (congrArg (fun r => a0 m c (ix2 r k)) (row_start t i))

end

/-! ## The result arrays -/

theorem arr3 : ((dats m 0 c).arrAt 3 cfg0.N : FVec Ideal ⟨2, ![2048, 4096]⟩ .bf16)
    = Cert.UpRefIdeal.Read.val_main_v19 (F := Ideal) (a0 m c) (a1 m c) (a2 m c) := by
  refine (dats m 0 c).arrAt_eq_of_covers 3 _ (by decide +kernel) fun t hf y => ?_
  blk_simp
  obtain ⟨i, j, rfl⟩ : ∃ (i j : Fin 1024), y = ix2 i j := ⟨y 0, y 1, eq_ix2 y⟩
  have hp := (places t).2.2.2.1
  have ey : (win0_3.blk t).view.emb (ix2 i j) = ix2 (row t i) (col t j) := by
    refine funext fun a => Fin.ext ?_
    fin_cases a
    all_goals blk_simp [hp]
  refine Eq.trans ?_ ((ref_y _ _ _ _ _).symm.trans (congrArg _ ey.symm))
  refine (congrFun (after_y m c t) _).trans ((act_at _ _ i j).trans (congrArg reluSq (Finset.sum_congr rfl fun k _ => congrArg₂ (· * ·) (normed_at m c t i k) ?_)))
  refine (blk2 m c t _ k _).trans (congrArg (a2 m c) (funext fun a => Fin.ext ?_))
  match a with
  | 0 => show t.val % 4 * 2 + j.val / 512 = (t.val % 4 * 1024 + j.val) / 512; omega
  | 1 => rfl
  | 2 => show j.val % 512 = (t.val % 4 * 1024 + j.val) % 512; omega

theorem arr4 : ((dats m 0 c).arrAt 4 cfg0.N : FVec Ideal ⟨2, ![2048, 1024]⟩ .bf16)
    = Cert.UpRefIdeal.Read.val_main_v20 (F := Ideal) (a0 m c) (a1 m c) := by
  refine (dats m 0 c).arrAt_eq_of_covers 4 _ (by decide +kernel) fun t hf y => ?_
  blk_simp
  obtain ⟨i, j, rfl⟩ : ∃ (i j : Fin 1024), y = ix2 i j := ⟨y 0, y 1, eq_ix2 y⟩
  have hp := (places t).2.2.2.2
  have ey : (win0_4.blk t).view.emb (ix2 i j) = ix2 (row t i) j := by
    refine funext fun a => Fin.ext ?_
    fin_cases a
    all_goals blk_simp [hp]
  refine Eq.trans ?_ ((ref_n _ _ _ _).symm.trans (congrArg (Cert.UpRefIdeal.Read.val_main_v12 (F := Ideal) (a0 m c) (a1 m c)) ey.symm))
  exact (congrFun (after_n m c t) _).trans (normed_at m c t i j)

end

/-- The two runs end with the same results. -/
theorem algebraic : algebraic_UpIdeal_UpRefIdeal (hUpIdeal := Cert.UpIdeal.Gen.facts) (hUpRefIdeal := Cert.UpRefIdeal.Gen.facts) := by
  intro m g m' g' _ hm
  refine ⟨fun c => Cert.UpRefIdeal.Read.val_main_v19 (F := Ideal) (a0 m c) (a1 m c) (a2 m c),
    fun c => Cert.UpRefIdeal.Read.val_main_v20 (F := Ideal) (a0 m c) (a1 m c), ?_, ?_⟩
  · refine (θ_run (Cert.UpIdeal.defs (F := Ideal)) _ _).mono (fun r h c => ?_) (run_posts (F := Ideal) m g)
    exact ⟨((h c).1 3).trans (arr3 m c), ((h c).1 4).trans (arr4 m c),
      ((h c).1 0).trans (((dats m 0 c).arrAt_in 0 rfl _).trans ((array m c 0).trans (V_main_arg0 m c))),
      ((h c).2 main_arg1 (Pipeline.mem_restRefs_of main_arg1 (by decide) (by decide))).trans (V_main_arg1 m c),
      ((h c).1 2).trans (((dats m 0 c).arrAt_in 2 rfl _).trans ((array m c 2).trans (V_main_arg2 m c)))⟩
  · refine (θ_run (Cert.UpRefIdeal.defs (F := Ideal)) _ _).mono (fun r h c => ?_) (Cert.UpRefIdeal.Value.run (F := Ideal) m' g')
    obtain ⟨e0, e1, e2⟩ := hm c
    obtain ⟨h0, h1, hr⟩ := h c
    refine ⟨h0.trans ((Cert.UpRefIdeal.Read.val_main_v19_eq _ _ _).trans ?_), h1.trans ((Cert.UpRefIdeal.Read.val_main_v20_eq _ _).trans ?_), hr⟩
    · rw [e0, e1, e2]
    · rw [e0, e1]

end Cert.Mlp.UpIdeal

end
-- ==== Proof.AInIdealRun.lean ====
/- The first input projection over the extended reals: the run of the body at a row block's first step, which normalises the rows, and at a later one, which
   finds them in the buffer; what the buffers hold after each step; the whole run, and that the arguments end unchanged. -/
module

public import proofs.«01_k».proof.Proof.Gen.AInIdeal.Frame
public import proofs.«01_k».proof.Proof.Gen.AInIdeal.Skeleton
public import Idealize.ShloMosaic.Lib.Pipeline.ValueKit.Basic
public import Idealize.ShloMosaic.Lib.Pipeline.TableIdle
public import Idealize.ShloMosaic.Lib.VecWindow
public import Idealize.ShloMosaic.Lib.Claim

@[expose] public section

set_option maxRecDepth 16384

noncomputable section

namespace Cert.Mlp.AInIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.AInIdeal Cert.AInIdeal.Gen

variable {F : FTy → Type} [FloatOps F]

/-- A block of the result, from a block of the weights and the rows. -/
abbrev act (w : Vec F S640x1024 .bf16) (h : Vec F S1024x1024 .bf16) : Vec F S1024x640 .f32 := k0_pay2 w h

theorem ld_whole {e : EltTy} (x : S1024x1024.Idx → Elt F e) (inb : ∀ a, (![0, 0] : Fin 2 → ℕ) a + S1024x1024.size a ≤ S1024x1024.size a) :
    View.ld x (Rect.unit (s := S1024x1024) ![0, 0] (no_index S1024x1024.size) inb) = x :=
  View.ld_unit_zero (Val := Elt F) (by ext a; fin_cases a <;> rfl) inb x

theorem ld_line (x : Vec F S1x1024 .f32) (inb : ∀ a, (![0, 0] : Fin 2 → ℕ) a + S1x1024.size a ≤ S1x1024.size a) :
    View.ld x (Rect.unit (s := S1x1024) ![0, 0] (no_index S1x1024.size) inb) = x :=
  View.ld_unit_zero (Val := Elt F) (by ext a; fin_cases a <;> rfl) inb x

theorem ld_w (x : Vec F S640x1024 .bf16) (inb : ∀ a, (![0, 0] : Fin 2 → ℕ) a + S640x1024.size a ≤ S640x1024.size a) :
    View.ld x (Rect.unit (s := S640x1024) ![0, 0] (no_index S640x1024.size) inb) = x :=
  View.ld_unit_zero (Val := Elt F) (by ext a; fin_cases a <;> rfl) inb x

theorem reload (r : Memref sig .tc .vmem S1024x1024 .bf16) (h : Vec F S1024x1024 .bf16) (inb inb' : ∀ a, (![0, 0] : Fin 2 → ℕ) a + S1024x1024.size a ≤ S1024x1024.size a) :
    r.view.readCov [(⟨Rect.unit (s := S1024x1024) ![0, 0] (no_index S1024x1024.size) inb', h⟩ : View.Piece (Elt F) S1024x1024 .bf16)]
      (Rect.unit (s := S1024x1024) ![0, 0] (no_index S1024x1024.size) inb).toLoadRect = h :=
  View.readCov_full r.view inb inb' h []

theorem first_iff : ∀ t : Fin cfg0.N, k0_cond1 (grid0.coords t) = 1#1 ↔ t.val % 5 = 0 := by decide +kernel

local notation "𝕄" => MT nD τ sig Unit (Elt F) ℕ (UR sig nD τ) ℕ

section

variable (c : Dev nD) (i : grid0.Coords) (r2 : Memref sig .tc .vmem S1024x1024 .f32) (h2 : r2.IsWhole) (r3 : Memref sig .tc .vmem S1x1024 .f32) (h3 : r3.IsWhole)
  (r4 : Memref sig .tc .vmem S640x1024 .bf16) (h4 : r4.IsWhole) (r5 : Memref sig .tc .vmem S1024x640 .f32) (h5 : r5.IsWhole)
  (r6 : Memref sig .tc .vmem S1024x1024 .bf16) (h6 : r6.IsWhole)
  (x : Vec F S1024x1024 .f32) (g : Vec F S1x1024 .f32) (w : Vec F S640x1024 .bf16)

/-- What the body holds at its start, the rows' buffer at `R`, and what it leaves, the rows being `h`. -/
abbrev before (R : sProp 𝕄) : sProp 𝕄 :=
  iprop(owns (c : Thread nD τ) r2 fullShare x ∗ owns (c : Thread nD τ) r3 fullShare g ∗ owns (c : Thread nD τ) r4 fullShare w
    ∗ (∃ d, owns (c : Thread nD τ) r5 fullShare d) ∗ R)
abbrev left (h : Vec F S1024x1024 .bf16) : sProp 𝕄 :=
  iprop(owns (c : Thread nD τ) r2 fullShare x ∗ owns (c : Thread nD τ) r3 fullShare g ∗ owns (c : Thread nD τ) r4 fullShare w
    ∗ owns (c : Thread nD τ) r5 fullShare (act w h) ∗ owns (c : Thread nD τ) r6 fullShare h)

set_option maxHeartbeats 1000000 in
/-- The first step of a row block normalises the rows and keeps them. -/
theorem body_first (hc : k0_cond1 i = 1#1) (E : Set ℕ) (K : PUnit → sProp 𝕄) :
    iprop(before c r2 r3 r4 r5 x g w (iprop(∃ d, owns (c : Thread nD τ) r6 fullShare d)) ∗ (left c r2 r3 r4 r5 r6 x g w (k0_pay1 x g) -∗ K ⟨⟩))
      ⊢ wp frame (wpE (defs₀ (F := F)) Variants.none c none) E (cc0_a_inproj i r2 h2 r3 h3 r4 h4 r5 h5 r6 h6) K := by
  simp only [cc0_a_inproj_eq_skeleton]
  unfold cc0_a_inproj_skel before left owns
  iintro ⟨⟨⟨%f0, %e0, H0⟩, ⟨%f1, %e1, H1⟩, ⟨%f2, %e2, H2⟩, ⟨%d3, %f3, -, H3⟩, ⟨%d4, %f4, -, H4⟩⟩, Hk⟩
  obtain rfl := h2.eq_unread e0; obtain rfl := h3.eq_unread e1; obtain rfl := h4.eq_unread e2
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    delta body_first.sl.v4 body_first.sl.H4_1
    rw [reload]
    simp only [View.readAt_eq_ld, h2.read_unread, h3.read_unread, h4.read_unread, ld_whole, ld_line, ld_w]
    exact View.read_writes_full _ _ _ _ _
  iexists _; isplitr
  swap; · iexact H4
  ipureintro
  delta body_first.sl.H4_1
  simp only [View.readAt_eq_ld, h2.read_unread, h3.read_unread, ld_whole, ld_line]
  exact View.read_writes_full _ _ _ _ _

set_option maxHeartbeats 1000000 in
/-- A later step reads them. -/
theorem body_next (hc : ¬ k0_cond1 i = 1#1) (h : Vec F S1024x1024 .bf16) (E : Set ℕ) (K : PUnit → sProp 𝕄) :
    iprop(before c r2 r3 r4 r5 x g w (owns (c : Thread nD τ) r6 fullShare h) ∗ (left c r2 r3 r4 r5 r6 x g w h -∗ K ⟨⟩))
      ⊢ wp frame (wpE (defs₀ (F := F)) Variants.none c none) E (cc0_a_inproj i r2 h2 r3 h3 r4 h4 r5 h5 r6 h6) K := by
  simp only [cc0_a_inproj_eq_skeleton]
  unfold cc0_a_inproj_skel before left owns
  iintro ⟨⟨⟨%f0, %e0, H0⟩, ⟨%f1, %e1, H1⟩, ⟨%f2, %e2, H2⟩, ⟨%d3, %f3, -, H3⟩, ⟨%f4, %e4, H4⟩⟩, Hk⟩
  obtain rfl := h2.eq_unread e0; obtain rfl := h3.eq_unread e1; obtain rfl := h4.eq_unread e2; obtain rfl := h6.eq_unread e4
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    simp only [View.readAt_eq_ld, h4.read_unread, h6.read_unread, ld_whole, ld_w]
    exact View.read_writes_full _ _ _ _ _
  iexists _; isplitr
  swap; · iexact H4
  ipureintro
  exact h6.read_unread _

end

variable (m : (k : Loc nD τ sig) → Buf (Elt F) k) (ρ : Dev nD → PrngReg)

/-- The first step of a step's row block. -/
abbrev start (t : Fin cfg0.N) : Fin cfg0.N := ⟨t.val / 5 * 5, lt_of_le_of_lt (Nat.div_mul_le_self _ _) t.isLt⟩

theorem start_first (t : Fin cfg0.N) (h : t.val % 5 = 0) : start t = t := Fin.ext (by show t.val / 5 * 5 = t.val; omega)

/-- The normalised rows of a step's row block. -/
def normed (c : Dev nD) (t : Fin cfg0.N) : Vec F S1024x1024 .bf16 := k0_pay1 (iblk m c 0 (start t)) (iblk m c 1 (start t))

theorem normed_next (c : Dev nD) (t : Fin cfg0.N) (h : ¬ t.val % 5 = 0) (hp : t.val - 1 < cfg0.N) : normed m c t = normed m c ⟨t.val - 1, hp⟩ :=
  congrArg (fun s => k0_pay1 (iblk m c 0 s) (iblk m c 1 s)) (Fin.ext (by show t.val / 5 * 5 = (t.val - 1) / 5 * 5; omega))

/-- The arrays as the call finds them, and what each buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => act (iblk m c 2 t) (normed m c t)
    | ⟨4, _⟩ => normed m c t
  Φ _ := Pipeline.ΦA spec0 c
  q _ := fullShare
  owed _ := 0

theorem array (c : Dev nD) (w : Fin cfg0.W) : (dats m 0 c).A w = V m c (Pipeline.arrRef spec0 w) := by dsimp only [dats]

section

variable (c : Dev nD) (t : Fin cfg0.N)

theorem after_x : (dats m 0 c).after 0 t = iblk m c 0 t := by dsimp only [dats]
theorem after_g : (dats m 0 c).after 1 t = iblk m c 1 t := by dsimp only [dats]
theorem after_w : (dats m 0 c).after 2 t = iblk m c 2 t := by dsimp only [dats]
theorem after_y : (dats m 0 c).after 3 t = act (iblk m c 2 t) (normed m c t) := by dsimp only [dats]
theorem after_n : (dats m 0 c).after 4 t = normed m c t := by dsimp only [dats]

theorem found_x (d) : (dats m 0 c).before 0 t d = iblk m c 0 t := before0_0_of m (dats m 0 c) (array m c 0) (after_x m c) t d
theorem found_g (d) : (dats m 0 c).before 1 t d = iblk m c 1 t := before0_1_of m (dats m 0 c) (array m c 1) (after_g m c) t d
theorem found_w (d) : (dats m 0 c).before 2 t d = iblk m c 2 t := before0_2_of m (dats m 0 c) (array m c 2) (after_w m c) t d

end

/-- Where the rows' buffer is written, and where it holds what a step of its row block wrote. -/
theorem idle_iff : ∀ t : Fin cfg0.N, cfg0.idle 4 (grid0.coords t) = true ↔ ¬ t.val % 5 = 0 := by decide +kernel

theorem fresh_step : ∀ t : Fin cfg0.N,
    decide ((t.val + 1) % 5 = 0) = ((cfg0.win 4).flush t || (cfg0.idle 4 (cfg0.grid.coords t) && decide (t.val % 5 = 0))) := by decide +kernel

theorem fresh_at (t : Fin cfg0.N) : cfg0.fresh 4 t.val = decide (t.val % 5 = 0) :=
  Pipeline.Cfg.fresh_tab cfg0 4 (fun n => decide (n % 5 = 0)) rfl fresh_step t.val (Nat.le_of_lt t.isLt)

theorem carried (c : Dev nD) (t : Fin cfg0.N) (h0 : t.val ≠ 0) (hi : cfg0.idle 4 (cfg0.grid.coords t) = true) (_ : cfg0.fresh 4 t.val = false) :
    (dats m 0 c).after 4 t = (dats m 0 c).after 4 ⟨t.val - 1, by omega⟩ :=
  (after_n m c t).trans ((normed_next m c t ((idle_iff t).mp hi) (by omega)).trans (after_n m c _).symm)

/-- At a later step of a row block the buffer holds the block's normalised rows. -/
theorem found_n (c : Dev nD) (t : Fin cfg0.N) (h : ¬ t.val % 5 = 0) (d) : (dats m 0 c).before 4 t d = normed m c t := by
  rw [Dat.before_out_traj _ 4 rfl (fun _ _ => rfl) (carried m c) t.val t rfl d,
    if_neg (by rw [fresh_at t, decide_eq_false h]; exact Bool.false_ne_true)]
  exact (after_n m c _).trans (normed_next m c t h _).symm

/-! ## A step -/

section

variable (c : Dev nD) (t : Fin cfg0.N)

def stepPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def stepPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_x : (dats m 0 c).leavesExact 0 t = owns (c : Thread nD τ) (st0_0 t) fullShare (iblk m c 0 t) := by
  rw [← after_x]
theorem leaves_g : (dats m 0 c).leavesExact 1 t = owns (c : Thread nD τ) (st0_1 t) fullShare (iblk m c 1 t) := by
  rw [← after_g]
theorem leaves_w : (dats m 0 c).leavesExact 2 t = owns (c : Thread nD τ) (st0_2 t) fullShare (iblk m c 2 t) := by
  rw [← after_w]
theorem leaves_y : (dats m 0 c).leavesExact 3 t = owns (c : Thread nD τ) (st0_3 t) fullShare (act (iblk m c 2 t) (normed m c t)) := by
  rw [← after_y]

/-- The rows' buffer at the block's normalised rows is what a step must leave of it: where the step writes it, where the buffer goes
    back to its array, and where it stays. -/
theorem leaves_n : owns (c : Thread nD τ) (st0_4 t) fullShare (normed m c t) ⊢ (dats m 0 c).leavesExact 4 t := by
  by_cases hi : cfg0.idle 4 (cfg0.grid.coords t) = true
  · by_cases hf : (cfg0.win 4).flush t = true
    · have e : (dats m 0 c).leavesExact 4 t = owns (c : Thread nD τ) (st0_4 t) fullShare ((dats m 0 c).after 4 t) := by
        unfold Dat.leavesExact; rw [hi, hf]
      rw [e, after_n]
    · rw [Dat.leavesExact_idle _ 4 t hi (Bool.eq_false_iff.mpr hf)]
      iintro H
      iexists (fun _ => Classical.arbitrary _)
      rw [found_n m c t ((idle_iff t).mp hi)]
      iexact H
  · have e : (dats m 0 c).leavesExact 4 t = owns (c : Thread nD τ) (st0_4 t) fullShare ((dats m 0 c).after 4 t) := by
      unfold Dat.leavesExact; rw [Bool.eq_false_iff.mpr hi]
    rw [e, after_n]

set_option maxHeartbeats 800000 in
theorem step : stepPre m c t ⊢ wp frame (wpE (defs₀ (F := F)) Variants.none c none) Set.univ (bodyAt0 t) (fun _ => stepPost m c t) := by
  unfold stepPre stepPost bodyAt0
  simp only [found_x, found_g, found_w]
  rw [show (dats m 0 c).Φ t.succ = (dats m 0 c).Φ t.castSucc from rfl,
    show (dats m 0 c).owesAt () t.succ = (dats m 0 c).owesAt () t.castSucc from rfl,
    leaves_x, leaves_g, leaves_w, leaves_y]
  by_cases h0 : t.val % 5 = 0
  · have hn : normed m c t = k0_pay1 (iblk m c 0 t) (iblk m c 1 t) := by unfold normed; rw [start_first t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) ((first_iff t).mpr h0) Set.univ _)
    unfold before left
    isplitl [H0 H1 H2 H3 H4]
    · isplitl [H0]; · iexact H0
      isplitl [H1]; · iexact H1
      isplitl [H2]; · iexact H2
      isplitl [H3]; · iexists _; iexact H3
      iexists _; iexact H4
    rw [← hn]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4
  · simp only [found_n m c t h0]
    iintro ⟨HΦ, Ho, ⟨%d0, H0⟩, ⟨%d1, H1⟩, ⟨%d2, H2⟩, ⟨%d3, H3⟩, ⟨%d4, H4⟩⟩
    iapply (body_next c (grid0.coords t) _ _ _ _ _ _ _ _ _ _ (iblk m c 0 t) (iblk m c 1 t) (iblk m c 2 t) (fun h => h0 ((first_iff t).mp h)) (normed m c t) Set.univ _)
    unfold before left
    isplitl [H0 H1 H2 H3 H4]
    · isplitl [H0]; · iexact H0
      isplitl [H1]; · iexact H1
      isplitl [H2]; · iexact H2
      isplitl [H3]; · iexists _; iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4

end

theorem row_is (t : Fin cfg0.N) : defs₀ (F := F) .tc cfg0.body (cfg0.bodyArgs t (cfg0.slots t)) = bodyAt0 t := by
  unfold defs₀; rw [Defs.onTc_tc]

theorem steps (c : Dev nD) : BodyObligation (dats (F := F) m 0 c) (defs₀ (F := F)) Variants.none () Set.univ := fun t => by
  rw [bigSep_W0, bigSep_W0, row_is]
  exact triple_restated (step m c t) rfl .rfl fun _ => .rfl

/-! ## The run -/

set_option backward.isDefEq.respectTransparency.types false in
theorem run_ends : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (steps m c).loose) (hshare := fun c => (dats m 0 c).share_full fun _ => rfl)
    (howed := fun _ _ => rfl) (V := V m) (hmain := hmain m Variants.none) (hA := array m) (hΦ := fun _ _ => rfl)

theorem run_posts : θ_run defs (onTc (τ := τ) (main (F := F))) (s₀ m ρ) (Pipeline.FramePost cfgs (dats m) 0 (V m)) :=
  (θ_run defs _ _).mono (fun _ h => h.1) (run_ends m ρ)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (array m) (run_posts m ρ)) ((θ_run defs _ _).mono (fun _ h => h.2) (run_ends m ρ))

end Cert.Mlp.AInIdeal

end
-- ==== Proof.AIn.lean ====
/- The first attention's input projection: the kernel's blocks of the product and of the normalised rows are the reference's arrays. -/
module

public import proofs.«01_k».proof.Proof.Up
public import proofs.«01_k».proof.Proof.AInIdealRun
public import proofs.«01_k».proof.Defs
public import proofs.«01_k».proof.Proof.Gen.AInRefIdeal.Run
public import proofs.«01_k».proof.Proof.Gen.AInRefIdeal.Read
public import Idealize.ShloMosaic.Lib.StableHlo.RunRead
public import Idealize.ShloMosaic.Lib.Pipeline.ValueKit.Geometry

@[expose] public section

noncomputable section

namespace Cert.Mlp.AInIdeal

open Idealize.ShloMosaic Idealize.ShloMosaic.ValueIdx Idealize.ShloMosaic.TcCoe Idealize.SL Idealize.SL.Sem
open Cert.AInIdeal Cert.AInIdeal.Gen
open Cert.Mlp.UpIdeal (normRow)

/-! ## The reference, read at an index -/

section Ref

open Cert.AInRefIdeal Cert.AInRefIdeal.Gen Cert.AInRefIdeal.Read

variable (x0 : FVec Ideal ⟨2, ![2048, 1024]⟩ .f32) (x1 : FVec Ideal ⟨1, ![1024]⟩ .f32) (x2 : FVec Ideal ⟨2, ![3200, 1024]⟩ .bf16)

theorem ref_e (i : Fin 2048) : val_main_v6 (F := Ideal) x0 (ix2 i 0) = rowE (rowOf x0 i) := by
  refine congrArg (fun z => Ideal.div z (Ideal.ofBits .f32 0x44800000#32) + Ideal.ofBits .f32 0x358637BD#32) ?_
  refine (val_main_v2_apply (F := Ideal) x0 _).trans ((val_main_v1_apply x0 _).trans ?_)
  refine (congrArg (· + _) (Ideal.ofBits_zero_f32 : (val_main_cst (F := Ideal)) (Shape.Idx.first h_S_) = 0)).trans ((zero_add _).trans (Finset.sum_congr rfl fun k _ => ?_))
  exact congrArg (fun z => x0 z * x0 z) (Shape.idx_ext₂ rfl rfl)

theorem ref_n (i : Fin 2048) (k : Fin 1024) : val_main_v12 (F := Ideal) x0 x1 (ix2 i k) = normRow (rowOf x0 i) (fun k => x1 (ix1 k)) k := by
  refine congrArg₂ (· * ·) (congrArg (x0 (ix2 i k) * ·) ?_) ?_
  · exact (val_main_v8_apply (F := Ideal) x0 _).trans ((congrArg (val_main_v7 (F := Ideal) x0) (Shape.idx_ext₂ rfl rfl : idx_main_v8 (ix2 i k) = ix2 i 0)).trans
      (congrArg Ideal.rsqrt (ref_e x0 i)))
  · exact (val_main_v11_apply (F := Ideal) x1 _).trans ((val_main_v10_apply (F := Ideal) x1 _).trans (congrArg x1 (funext fun a => Fin.ext (by match a with | 0 => rfl))))

theorem ref_y (i : Fin 2048) (j : Fin 3200) : val_main_v15 (F := Ideal) x0 x1 x2 (ix2 i j)
    = ∑ k, normRow (rowOf x0 i) (fun k => x1 (ix1 k)) k * x2 (ix2 j k) := by
  refine (val_main_v15_apply x0 x1 x2 _).trans (Finset.sum_congr rfl fun k _ => congrArg₂ (· * ·) ?_ ?_)
  · exact (congrArg (val_main_v12 (F := Ideal) x0 x1) (Shape.idx_ext₂ rfl rfl : lidx_main_v15 (ix2 i j) k = ix2 i k)).trans (ref_n x0 x1 i k)
  · exact (val_main_v14_apply (F := Ideal) x2 _).trans (congrArg x2 (Shape.idx_ext₂ rfl rfl))

end Ref

/-! ## The body, read at an index -/

theorem pay1_at (x : FVec Ideal ⟨2, ![1024, 1024]⟩ .f32) (g : FVec Ideal ⟨2, ![1, 1024]⟩ .f32) (i k : Fin 1024) :
    k0_pay1 (F := Ideal) x g (ix2 i k) = normRow (rowOf x i) (fun k => g (ix2 0 k)) k := by
  refine congrArg₂ (· * ·) (congrArg (x (ix2 i k) * ·) ((bcCol_at _ _ i k).trans (congrArg Ideal.rsqrt ?_))) ((bcRow_at _ _ i k).trans (congrFun (shapeCast_self g _) _))
  exact congrArg (fun z => Ideal.div z (Ideal.ofBits .f32 0x44800000#32) + Ideal.ofBits .f32 0x358637BD#32) ((col_at _ _ i 0).trans (sumCols_at _ _ _ _ i))

theorem act_at (w : FVec Ideal ⟨2, ![640, 1024]⟩ .bf16) (h : FVec Ideal ⟨2, ![1024, 1024]⟩ .bf16) (i : Fin 1024) (j : Fin 640) :
    k0_pay2 (F := Ideal) w h (ix2 i j) = ∑ k, h (ix2 i k) * w (ix2 j k) :=
  (nt_at _ _ _ i j).trans (Finset.sum_congr rfl fun k _ => congrArg₂ (· * ·) (congrFun (shapeCast_self h _) _) rfl)

/-! ## The blocks -/

theorem places : ∀ t : Fin cfg0.N, win0_0.index t = ![t.val / 5, 0] ∧ win0_1.index t = ![0, 0] ∧ win0_2.index t = ![t.val % 5, 0]
    ∧ win0_3.index t = ![t.val / 5, t.val % 5] ∧ win0_4.index t = ![t.val / 5, 0] := by decide +kernel

theorem lt_all (t : Fin cfg0.N) : t.val < 10 := t.isLt

/-- Row `i` and column `j` of a step's blocks, in the arrays. -/
abbrev row (t : Fin cfg0.N) (i : Fin 1024) : Fin 2048 := ⟨t.val / 5 * 1024 + i.val, by have := lt_all t; omega⟩
abbrev col (t : Fin cfg0.N) (j : Fin 640) : Fin 3200 := ⟨t.val % 5 * 640 + j.val, by omega⟩

theorem row_start (t : Fin cfg0.N) (i : Fin 1024) : row (start t) i = row t i := Fin.ext (by show t.val / 5 * 5 / 5 * 1024 + i.val = t.val / 5 * 1024 + i.val; omega)

section

variable (m : (k : Loc nD τ sig) → Buf (Elt Ideal) k) (c : Dev nD)

abbrev a0 : FVec Ideal ⟨2, ![2048, 1024]⟩ .f32 := m ((c : Thread nD τ).loc main_arg0)
abbrev a1 : FVec Ideal ⟨1, ![1024]⟩ .f32 := m ((c : Thread nD τ).loc main_arg1)
abbrev a2 : FVec Ideal ⟨2, ![3200, 1024]⟩ .bf16 := m ((c : Thread nD τ).loc main_arg2)

/-- The gain, as the call takes it. -/
theorem V_gain : (V m c main_v0 : (⟨S1x1024, .f32⟩ : BufTy).Contents (Elt Ideal)) = shapeCast S1x1024 (a1 m c) shapeCasts_S1024_S1x1024 := by
  unfold_abbrev_sides
  after_reads_simp
  rfl

section

variable (t : Fin cfg0.N)

theorem blk0 (i k : Fin 1024) : (iblk m c 0 t : FVec Ideal ⟨2, ![1024, 1024]⟩ .f32) (ix2 i k) = a0 m c (ix2 (row t i) k) := by
  have h := (places t).1
  unfold iblk
  blk_simp
  refine (congrFun (V_main_arg0 m c) _).trans (congrArg (a0 m c) (funext fun a => Fin.ext ?_))
  fin_cases a
  all_goals blk_simp [h]

theorem blk1 (k : Fin 1024) : (iblk m c 1 t : FVec Ideal ⟨2, ![1, 1024]⟩ .f32) (ix2 0 k) = a1 m c (ix1 k) := by
  have h := (places t).2.1
  unfold iblk
  blk_simp
  refine (congrFun (V_gain m c) _).trans ((congrArg (shapeCast S1x1024 (a1 m c) shapeCasts_S1024_S1x1024) (funext fun a => Fin.ext ?_)).trans (shapeCast_a_1a_apply (a1 m c) _ 0 k))
  fin_cases a
  all_goals blk_simp [h]

theorem blk2 (j : Fin 640) (k : Fin 1024) :
    (iblk m c 2 t : FVec Ideal ⟨2, ![640, 1024]⟩ .bf16) (ix2 j k) = a2 m c (ix2 (col t j) k) := by
  have h := (places t).2.2.1
  unfold iblk
  blk_simp
  refine (congrFun (V_main_arg2 m c) _).trans (congrArg (a2 m c) (funext fun a => Fin.ext ?_))
  fin_cases a
  all_goals blk_simp [h]

theorem normed_at (i k : Fin 1024) : (normed m c t : FVec Ideal ⟨2, ![1024, 1024]⟩ .bf16) (ix2 i k)
    = normRow (rowOf (a0 m c) (row t i)) (fun k => a1 m c (ix1 k)) k := by
  refine (pay1_at _ _ i k).trans (congrArg₂ (fun x g => normRow x g k) (funext fun k => ?_) (funext fun k => blk1 m c _ k))
  exact (blk0 m c (start t) i k).trans (congrArg (fun r => a0 m c (ix2 r k)) (row_start t i))

end

/-! ## The result arrays -/

theorem arr3 : ((dats m 0 c).arrAt 3 cfg0.N : FVec Ideal ⟨2, ![2048, 3200]⟩ .f32)
    = Cert.AInRefIdeal.Read.val_main_v15 (F := Ideal) (a0 m c) (a1 m c) (a2 m c) := by
  refine (dats m 0 c).arrAt_eq_of_covers 3 _ (by decide +kernel) fun t hf y => ?_
  blk_simp
  obtain ⟨i, j, rfl⟩ : ∃ (i : Fin 1024) (j : Fin 640), y = ix2 i j := ⟨y 0, y 1, eq_ix2 y⟩
  have hp := (places t).2.2.2.1
  have ey : (win0_3.blk t).view.emb (ix2 i j) = ix2 (row t i) (col t j) := by
    refine funext fun a => Fin.ext ?_
    fin_cases a
    all_goals blk_simp [hp]
  refine Eq.trans ?_ ((ref_y _ _ _ _ _).symm.trans (congrArg _ ey.symm))
  exact (congrFun (after_y m c t) _).trans ((act_at _ _ i j).trans (Finset.sum_congr rfl fun k _ => congrArg₂ (· * ·) (normed_at m c t i k) (blk2 m c t j k)))

theorem arr4 : ((dats m 0 c).arrAt 4 cfg0.N : FVec Ideal ⟨2, ![2048, 1024]⟩ .bf16)
    = Cert.AInRefIdeal.Read.val_main_v16 (F := Ideal) (a0 m c) (a1 m c) := by
  refine (dats m 0 c).arrAt_eq_of_covers 4 _ (by decide +kernel) fun t hf y => ?_
  blk_simp
  obtain ⟨i, j, rfl⟩ : ∃ (i j : Fin 1024), y = ix2 i j := ⟨y 0, y 1, eq_ix2 y⟩
  have hp := (places t).2.2.2.2
  have ey : (win0_4.blk t).view.emb (ix2 i j) = ix2 (row t i) j := by
    refine funext fun a => Fin.ext ?_
    fin_cases a
    all_goals blk_simp [hp]
  refine Eq.trans ?_ ((ref_n _ _ _ _).symm.trans (congrArg (Cert.AInRefIdeal.Read.val_main_v12 (F := Ideal) (a0 m c) (a1 m c)) ey.symm))
  exact (congrFun (after_n m c t) _).trans (normed_at m c t i j)

end

/-- The two runs end with the same results. -/
theorem algebraic : algebraic_AInIdeal_AInRefIdeal (hAInIdeal := Cert.AInIdeal.Gen.facts) (hAInRefIdeal := Cert.AInRefIdeal.Gen.facts) := by
  intro m g m' g' _ hm
  refine ⟨fun c => Cert.AInRefIdeal.Read.val_main_v15 (F := Ideal) (a0 m c) (a1 m c) (a2 m c),
    fun c => Cert.AInRefIdeal.Read.val_main_v16 (F := Ideal) (a0 m c) (a1 m c), ?_, ?_⟩
  · refine (θ_run (Cert.AInIdeal.defs (F := Ideal)) _ _).mono (fun r h c => ?_) (run_posts (F := Ideal) m g)
    exact ⟨((h c).1 3).trans (arr3 m c), ((h c).1 4).trans (arr4 m c),
      ((h c).1 0).trans (((dats m 0 c).arrAt_in 0 rfl _).trans ((array m c 0).trans (V_main_arg0 m c))),
      ((h c).2 main_arg1 (Pipeline.mem_restRefs_of main_arg1 (by decide) (by decide))).trans (V_main_arg1 m c),
      ((h c).1 2).trans (((dats m 0 c).arrAt_in 2 rfl _).trans ((array m c 2).trans (V_main_arg2 m c)))⟩
  · refine (θ_run (Cert.AInRefIdeal.defs (F := Ideal)) _ _).mono (fun r h c => ?_) (Cert.AInRefIdeal.Value.run (F := Ideal) m' g')
    obtain ⟨e0, e1, e2⟩ := hm c
    obtain ⟨h0, h1, hr⟩ := h c
    refine ⟨h0.trans ((Cert.AInRefIdeal.Read.val_main_v15_eq _ _ _).trans ?_), h1.trans ((Cert.AInRefIdeal.Read.val_main_v16_eq _ _).trans ?_), hr⟩
    · rw [e0, e1, e2]
    · rw [e0, e1]

end Cert.Mlp.AInIdeal

end
-- ==== Proof.BQIdealRun.lean ====
/- The second attention's queries over the extended reals: the run of the body at a row block's first step, which normalises the rows, and at a later one, which
   finds them in the buffer; what the buffers hold after each step; the whole run, and that the arguments end unchanged. -/
module

public import proofs.«01_k».proof.Proof.Gen.BQIdeal.Frame
public import proofs.«01_k».proof.Proof.Gen.BQIdeal.Skeleton
public import Idealize.ShloMosaic.Lib.Pipeline.ValueKit.Basic
public import Idealize.ShloMosaic.Lib.Pipeline.TableIdle
public import Idealize.ShloMosaic.Lib.VecWindow
public import Idealize.ShloMosaic.Lib.Claim

@[expose] public section

set_option maxRecDepth 16384

noncomputable section

namespace Cert.Mlp.BQIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.BQIdeal Cert.BQIdeal.Gen

variable {F : FTy → Type} [FloatOps F]

/-- A block of the result, from a block of the weights and the rows. -/
abbrev act (w : Vec F S1024x512 .bf16) (h : Vec F S1024x1024 .bf16) : Vec F S1024x512 .f32 := k0_pay2 w h

theorem ld_whole {e : EltTy} (x : S1024x1024.Idx → Elt F e) (inb : ∀ a, (![0, 0] : Fin 2 → ℕ) a + S1024x1024.size a ≤ S1024x1024.size a) :
    View.ld x (Rect.unit (s := S1024x1024) ![0, 0] (no_index S1024x1024.size) inb) = x :=
  View.ld_unit_zero (Val := Elt F) (by ext a; fin_cases a <;> rfl) inb x

theorem ld_line (x : Vec F S1x1024 .f32) (inb : ∀ a, (![0, 0] : Fin 2 → ℕ) a + S1x1024.size a ≤ S1x1024.size a) :
    View.ld x (Rect.unit (s := S1x1024) ![0, 0] (no_index S1x1024.size) inb) = x :=
  View.ld_unit_zero (Val := Elt F) (by ext a; fin_cases a <;> rfl) inb x

theorem ld_w (x : Vec F S1024x512 .bf16) (inb : ∀ a, (![0, 0] : Fin 2 → ℕ) a + S1024x512.size a ≤ S1024x512.size a) :
    View.ld x (Rect.unit (s := S1024x512) ![0, 0] (no_index S1024x512.size) inb) = x :=
  View.ld_unit_zero (Val := Elt F) (by ext a; fin_cases a <;> rfl) inb x

theorem reload (r : Memref sig .tc .vmem S1024x1024 .bf16) (h : Vec F S1024x1024 .bf16) (inb inb' : ∀ a, (![0, 0] : Fin 2 → ℕ) a + S1024x1024.size a ≤ S1024x1024.size a) :
    r.view.readCov [(⟨Rect.unit (s := S1024x1024) ![0, 0] (no_index S1024x1024.size) inb', h⟩ : View.Piece (Elt F) S1024x1024 .bf16)]
      (Rect.unit (s := S1024x1024) ![0, 0] (no_index S1024x1024.size) inb).toLoadRect = h :=
  View.readCov_full r.view inb inb' h []

theorem first_iff : ∀ t : Fin cfg0.N, k0_cond1 (grid0.coords t) = 1#1 ↔ t.val % 2 = 0 := by decide +kernel

local notation "𝕄" => MT nD τ sig Unit (Elt F) ℕ (UR sig nD τ) ℕ

section

variable (c : Dev nD) (i : grid0.Coords) (r2 : Memref sig .tc .vmem S1024x1024 .f32) (h2 : r2.IsWhole) (r3 : Memref sig .tc .vmem S1x1024 .f32) (h3 : r3.IsWhole)
  (r4 : Memref sig .tc .vmem S1024x512 .bf16) (h4 : r4.IsWhole) (r5 : Memref sig .tc .vmem S1024x512 .f32) (h5 : r5.IsWhole)
  (r6 : Memref sig .tc .vmem S1024x1024 .bf16) (h6 : r6.IsWhole)
  (x : Vec F S1024x1024 .f32) (g : Vec F S1x1024 .f32) (w : Vec F S1024x512 .bf16)

/-- What the body holds at its start, the rows' buffer at `R`, and what it leaves, the rows being `h`. -/
abbrev before (R : sProp 𝕄) : sProp 𝕄 :=
  iprop(owns (c : Thread nD τ) r2 fullShare x ∗ owns (c : Thread nD τ) r3 fullShare g ∗ owns (c : Thread nD τ) r4 fullShare w
    ∗ (∃ d, owns (c : Thread nD τ) r5 fullShare d) ∗ R)
abbrev left (h : Vec F S1024x1024 .bf16) : sProp 𝕄 :=
  iprop(owns (c : Thread nD τ) r2 fullShare x ∗ owns (c : Thread nD τ) r3 fullShare g ∗ owns (c : Thread nD τ) r4 fullShare w
    ∗ owns (c : Thread nD τ) r5 fullShare (act w h) ∗ owns (c : Thread nD τ) r6 fullShare h)

set_option maxHeartbeats 1000000 in
/-- The first step of a row block normalises the rows and keeps them. -/
theorem body_first (hc : k0_cond1 i = 1#1) (E : Set ℕ) (K : PUnit → sProp 𝕄) :
    iprop(before c r2 r3 r4 r5 x g w (iprop(∃ d, owns (c : Thread nD τ) r6 fullShare d)) ∗ (left c r2 r3 r4 r5 r6 x g w (k0_pay1 x g) -∗ K ⟨⟩))
      ⊢ wp frame (wpE (defs₀ (F := F)) Variants.none c none) E (cc0_b_qproj i r2 h2 r3 h3 r4 h4 r5 h5 r6 h6) K := by
  simp only [cc0_b_qproj_eq_skeleton]
  unfold cc0_b_qproj_skel before left owns
  iintro ⟨⟨⟨%f0, %e0, H0⟩, ⟨%f1, %e1, H1⟩, ⟨%f2, %e2, H2⟩, ⟨%d3, %f3, -, H3⟩, ⟨%d4, %f4, -, H4⟩⟩, Hk⟩
  obtain rfl := h2.eq_unread e0; obtain rfl := h3.eq_unread e1; obtain rfl := h4.eq_unread e2
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    delta body_first.sl.v4 body_first.sl.H4_1
    rw [reload]
    simp only [View.readAt_eq_ld, h2.read_unread, h3.read_unread, h4.read_unread, ld_whole, ld_line, ld_w]
    exact View.read_writes_full _ _ _ _ _
  iexists _; isplitr
  swap; · iexact H4
  ipureintro
  delta body_first.sl.H4_1
  simp only [View.readAt_eq_ld, h2.read_unread, h3.read_unread, ld_whole, ld_line]
  exact View.read_writes_full _ _ _ _ _

set_option maxHeartbeats 1000000 in
/-- A later step reads them. -/
theorem body_next (hc : ¬ k0_cond1 i = 1#1) (h : Vec F S1024x1024 .bf16) (E : Set ℕ) (K : PUnit → sProp 𝕄) :
    iprop(before c r2 r3 r4 r5 x g w (owns (c : Thread nD τ) r6 fullShare h) ∗ (left c r2 r3 r4 r5 r6 x g w h -∗ K ⟨⟩))
      ⊢ wp frame (wpE (defs₀ (F := F)) Variants.none c none) E (cc0_b_qproj i r2 h2 r3 h3 r4 h4 r5 h5 r6 h6) K := by
  simp only [cc0_b_qproj_eq_skeleton]
  unfold cc0_b_qproj_skel before left owns
  iintro ⟨⟨⟨%f0, %e0, H0⟩, ⟨%f1, %e1, H1⟩, ⟨%f2, %e2, H2⟩, ⟨%d3, %f3, -, H3⟩, ⟨%f4, %e4, H4⟩⟩, Hk⟩
  obtain rfl := h2.eq_unread e0; obtain rfl := h3.eq_unread e1; obtain rfl := h4.eq_unread e2; obtain rfl := h6.eq_unread e4
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    simp only [View.readAt_eq_ld, h4.read_unread, h6.read_unread, ld_whole, ld_w]
    exact View.read_writes_full _ _ _ _ _
  iexists _; isplitr
  swap; · iexact H4
  ipureintro
  exact h6.read_unread _

end

variable (m : (k : Loc nD τ sig) → Buf (Elt F) k) (ρ : Dev nD → PrngReg)

/-- The first step of a step's row block. -/
abbrev start (t : Fin cfg0.N) : Fin cfg0.N := ⟨t.val / 2 * 2, lt_of_le_of_lt (Nat.div_mul_le_self _ _) t.isLt⟩

theorem start_first (t : Fin cfg0.N) (h : t.val % 2 = 0) : start t = t := Fin.ext (by show t.val / 2 * 2 = t.val; omega)

/-- The normalised rows of a step's row block. -/
def normed (c : Dev nD) (t : Fin cfg0.N) : Vec F S1024x1024 .bf16 := k0_pay1 (iblk m c 0 (start t)) (iblk m c 1 (start t))

theorem normed_next (c : Dev nD) (t : Fin cfg0.N) (h : ¬ t.val % 2 = 0) (hp : t.val - 1 < cfg0.N) : normed m c t = normed m c ⟨t.val - 1, hp⟩ :=
  congrArg (fun s => k0_pay1 (iblk m c 0 s) (iblk m c 1 s)) (Fin.ext (by show t.val / 2 * 2 = (t.val - 1) / 2 * 2; omega))

/-- The arrays as the call finds them, and what each buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => act (iblk m c 2 t) (normed m c t)
    | ⟨4, _⟩ => normed m c t
  Φ _ := Pipeline.ΦA spec0 c
  q _ := fullShare
  owed _ := 0

theorem array (c : Dev nD) (w : Fin cfg0.W) : (dats m 0 c).A w = V m c (Pipeline.arrRef spec0 w) := by dsimp only [dats]

section

variable (c : Dev nD) (t : Fin cfg0.N)

theorem after_x : (dats m 0 c).after 0 t = iblk m c 0 t := by dsimp only [dats]
theorem after_g : (dats m 0 c).after 1 t = iblk m c 1 t := by dsimp only [dats]
theorem after_w : (dats m 0 c).after 2 t = iblk m c 2 t := by dsimp only [dats]
theorem after_y : (dats m 0 c).after 3 t = act (iblk m c 2 t) (normed m c t) := by dsimp only [dats]
theorem after_n : (dats m 0 c).after 4 t = normed m c t := by dsimp only [dats]

theorem found_x (d) : (dats m 0 c).before 0 t d = iblk m c 0 t := before0_0_of m (dats m 0 c) (array m c 0) (after_x m c) t d
theorem found_g (d) : (dats m 0 c).before 1 t d = iblk m c 1 t := before0_1_of m (dats m 0 c) (array m c 1) (after_g m c) t d
theorem found_w (d) : (dats m 0 c).before 2 t d = iblk m c 2 t := before0_2_of m (dats m 0 c) (array m c 2) (after_w m c) t d

end

/-- Where the rows' buffer is written, and where it holds what a step of its row block wrote. -/
theorem idle_iff : ∀ t : Fin cfg0.N, cfg0.idle 4 (grid0.coords t) = true ↔ ¬ t.val % 2 = 0 := by decide +kernel

theorem fresh_step : ∀ t : Fin cfg0.N,
    decide ((t.val + 1) % 2 = 0) = ((cfg0.win 4).flush t || (cfg0.idle 4 (cfg0.grid.coords t) && decide (t.val % 2 = 0))) := by decide +kernel

theorem fresh_at (t : Fin cfg0.N) : cfg0.fresh 4 t.val = decide (t.val % 2 = 0) :=
  Pipeline.Cfg.fresh_tab cfg0 4 (fun n => decide (n % 2 = 0)) rfl fresh_step t.val (Nat.le_of_lt t.isLt)

theorem carried (c : Dev nD) (t : Fin cfg0.N) (h0 : t.val ≠ 0) (hi : cfg0.idle 4 (cfg0.grid.coords t) = true) (_ : cfg0.fresh 4 t.val = false) :
    (dats m 0 c).after 4 t = (dats m 0 c).after 4 ⟨t.val - 1, by omega⟩ :=
  (after_n m c t).trans ((normed_next m c t ((idle_iff t).mp hi) (by omega)).trans (after_n m c _).symm)

/-- At a later step of a row block the buffer holds the block's normalised rows. -/
theorem found_n (c : Dev nD) (t : Fin cfg0.N) (h : ¬ t.val % 2 = 0) (d) : (dats m 0 c).before 4 t d = normed m c t := by
  rw [Dat.before_out_traj _ 4 rfl (fun _ _ => rfl) (carried m c) t.val t rfl d,
    if_neg (by rw [fresh_at t, decide_eq_false h]; exact Bool.false_ne_true)]
  exact (after_n m c _).trans (normed_next m c t h _).symm

/-! ## A step -/

section

variable (c : Dev nD) (t : Fin cfg0.N)

def stepPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def stepPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_x : (dats m 0 c).leavesExact 0 t = owns (c : Thread nD τ) (st0_0 t) fullShare (iblk m c 0 t) := by
  rw [← after_x]
theorem leaves_g : (dats m 0 c).leavesExact 1 t = owns (c : Thread nD τ) (st0_1 t) fullShare (iblk m c 1 t) := by
  rw [← after_g]
theorem leaves_w : (dats m 0 c).leavesExact 2 t = owns (c : Thread nD τ) (st0_2 t) fullShare (iblk m c 2 t) := by
  rw [← after_w]
theorem leaves_y : (dats m 0 c).leavesExact 3 t = owns (c : Thread nD τ) (st0_3 t) fullShare (act (iblk m c 2 t) (normed m c t)) := by
  rw [← after_y]

/-- The rows' buffer at the block's normalised rows is what a step must leave of it: where the step writes it, where the buffer goes
    back to its array, and where it stays. -/
theorem leaves_n : owns (c : Thread nD τ) (st0_4 t) fullShare (normed m c t) ⊢ (dats m 0 c).leavesExact 4 t := by
  by_cases hi : cfg0.idle 4 (cfg0.grid.coords t) = true
  · by_cases hf : (cfg0.win 4).flush t = true
    · have e : (dats m 0 c).leavesExact 4 t = owns (c : Thread nD τ) (st0_4 t) fullShare ((dats m 0 c).after 4 t) := by
        unfold Dat.leavesExact; rw [hi, hf]
      rw [e, after_n]
    · rw [Dat.leavesExact_idle _ 4 t hi (Bool.eq_false_iff.mpr hf)]
      iintro H
      iexists (fun _ => Classical.arbitrary _)
      rw [found_n m c t ((idle_iff t).mp hi)]
      iexact H
  · have e : (dats m 0 c).leavesExact 4 t = owns (c : Thread nD τ) (st0_4 t) fullShare ((dats m 0 c).after 4 t) := by
      unfold Dat.leavesExact; rw [Bool.eq_false_iff.mpr hi]
    rw [e, after_n]

set_option maxHeartbeats 800000 in
theorem step : stepPre m c t ⊢ wp frame (wpE (defs₀ (F := F)) Variants.none c none) Set.univ (bodyAt0 t) (fun _ => stepPost m c t) := by
  unfold stepPre stepPost bodyAt0
  simp only [found_x, found_g, found_w]
  rw [show (dats m 0 c).Φ t.succ = (dats m 0 c).Φ t.castSucc from rfl,
    show (dats m 0 c).owesAt () t.succ = (dats m 0 c).owesAt () t.castSucc from rfl,
    leaves_x, leaves_g, leaves_w, leaves_y]
  by_cases h0 : t.val % 2 = 0
  · have hn : normed m c t = k0_pay1 (iblk m c 0 t) (iblk m c 1 t) := by unfold normed; rw [start_first t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) ((first_iff t).mpr h0) Set.univ _)
    unfold before left
    isplitl [H0 H1 H2 H3 H4]
    · isplitl [H0]; · iexact H0
      isplitl [H1]; · iexact H1
      isplitl [H2]; · iexact H2
      isplitl [H3]; · iexists _; iexact H3
      iexists _; iexact H4
    rw [← hn]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4
  · simp only [found_n m c t h0]
    iintro ⟨HΦ, Ho, ⟨%d0, H0⟩, ⟨%d1, H1⟩, ⟨%d2, H2⟩, ⟨%d3, H3⟩, ⟨%d4, H4⟩⟩
    iapply (body_next c (grid0.coords t) _ _ _ _ _ _ _ _ _ _ (iblk m c 0 t) (iblk m c 1 t) (iblk m c 2 t) (fun h => h0 ((first_iff t).mp h)) (normed m c t) Set.univ _)
    unfold before left
    isplitl [H0 H1 H2 H3 H4]
    · isplitl [H0]; · iexact H0
      isplitl [H1]; · iexact H1
      isplitl [H2]; · iexact H2
      isplitl [H3]; · iexists _; iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_n m c t)
    iexact H4

end

theorem row_is (t : Fin cfg0.N) : defs₀ (F := F) .tc cfg0.body (cfg0.bodyArgs t (cfg0.slots t)) = bodyAt0 t := by
  unfold defs₀; rw [Defs.onTc_tc]

theorem steps (c : Dev nD) : BodyObligation (dats (F := F) m 0 c) (defs₀ (F := F)) Variants.none () Set.univ := fun t => by
  rw [bigSep_W0, bigSep_W0, row_is]
  exact triple_restated (step m c t) rfl .rfl fun _ => .rfl

/-! ## The run -/

set_option backward.isDefEq.respectTransparency.types false in
theorem run_ends : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (steps m c).loose) (hshare := fun c => (dats m 0 c).share_full fun _ => rfl)
    (howed := fun _ _ => rfl) (V := V m) (hmain := hmain m Variants.none) (hA := array m) (hΦ := fun _ _ => rfl)

theorem run_posts : θ_run defs (onTc (τ := τ) (main (F := F))) (s₀ m ρ) (Pipeline.FramePost cfgs (dats m) 0 (V m)) :=
  (θ_run defs _ _).mono (fun _ h => h.1) (run_ends m ρ)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (array m) (run_posts m ρ)) ((θ_run defs _ _).mono (fun _ h => h.2) (run_ends m ρ))

end Cert.Mlp.BQIdeal

end
-- ==== Proof.BQ.lean ====
/- The second attention's queries: the kernel's blocks of the product and of the normalised rows are the reference's arrays. -/
module

public import proofs.«01_k».proof.Proof.Up
public import proofs.«01_k».proof.Proof.BQIdealRun
public import proofs.«01_k».proof.Defs
public import proofs.«01_k».proof.Proof.Gen.BQRefIdeal.Run
public import proofs.«01_k».proof.Proof.Gen.BQRefIdeal.Read
public import Idealize.ShloMosaic.Lib.StableHlo.RunRead
public import Idealize.ShloMosaic.Lib.Pipeline.ValueKit.Geometry

@[expose] public section

noncomputable section

namespace Cert.Mlp.BQIdeal

open Idealize.ShloMosaic Idealize.ShloMosaic.ValueIdx Idealize.ShloMosaic.TcCoe Idealize.SL Idealize.SL.Sem
open Cert.BQIdeal Cert.BQIdeal.Gen
open Cert.Mlp.UpIdeal (normRow)

/-! ## The reference, read at an index -/

section Ref

open Cert.BQRefIdeal Cert.BQRefIdeal.Gen Cert.BQRefIdeal.Read

variable (x0 : FVec Ideal ⟨2, ![2048, 1024]⟩ .f32) (x1 : FVec Ideal ⟨1, ![1024]⟩ .f32) (x2 : FVec Ideal ⟨2, ![1024, 1024]⟩ .bf16)

theorem ref_e (i : Fin 2048) : val_main_v6 (F := Ideal) x0 (ix2 i 0) = rowE (rowOf x0 i) := by
  refine congrArg (fun z => Ideal.div z (Ideal.ofBits .f32 0x44800000#32) + Ideal.ofBits .f32 0x358637BD#32) ?_
  refine (val_main_v2_apply (F := Ideal) x0 _).trans ((val_main_v1_apply x0 _).trans ?_)
  refine (congrArg (· + _) (Ideal.ofBits_zero_f32 : (val_main_cst (F := Ideal)) (Shape.Idx.first h_S_) = 0)).trans ((zero_add _).trans (Finset.sum_congr rfl fun k _ => ?_))
  exact congrArg (fun z => x0 z * x0 z) (Shape.idx_ext₂ rfl rfl)

theorem ref_n (i : Fin 2048) (k : Fin 1024) : val_main_v12 (F := Ideal) x0 x1 (ix2 i k) = normRow (rowOf x0 i) (fun k => x1 (ix1 k)) k := by
  refine congrArg₂ (· * ·) (congrArg (x0 (ix2 i k) * ·) ?_) ?_
  · exact (val_main_v8_apply (F := Ideal) x0 _).trans ((congrArg (val_main_v7 (F := Ideal) x0) (Shape.idx_ext₂ rfl rfl : idx_main_v8 (ix2 i k) = ix2 i 0)).trans
      (congrArg Ideal.rsqrt (ref_e x0 i)))
  · exact (val_main_v11_apply (F := Ideal) x1 _).trans ((val_main_v10_apply (F := Ideal) x1 _).trans (congrArg x1 (funext fun a => Fin.ext (by match a with | 0 => rfl))))

theorem ref_y (i : Fin 2048) (j : Fin 1024) : val_main_v14 (F := Ideal) x0 x1 x2 (ix2 i j)
    = ∑ k, normRow (rowOf x0 i) (fun k => x1 (ix1 k)) k * x2 (ix2 k j) := by
  refine (val_main_v14_apply x0 x1 x2 _).trans (Finset.sum_congr rfl fun k _ => congrArg₂ (· * ·) ?_ ?_)
  · exact (congrArg (val_main_v12 (F := Ideal) x0 x1) (Shape.idx_ext₂ rfl rfl : lidx_main_v14 (ix2 i j) k = ix2 i k)).trans (ref_n x0 x1 i k)
  · exact congrArg x2 (Shape.idx_ext₂ rfl rfl)

end Ref

/-! ## The body, read at an index -/

theorem pay1_at (x : FVec Ideal ⟨2, ![1024, 1024]⟩ .f32) (g : FVec Ideal ⟨2, ![1, 1024]⟩ .f32) (i k : Fin 1024) :
    k0_pay1 (F := Ideal) x g (ix2 i k) = normRow (rowOf x i) (fun k => g (ix2 0 k)) k := by
  refine congrArg₂ (· * ·) (congrArg (x (ix2 i k) * ·) ((bcCol_at _ _ i k).trans (congrArg Ideal.rsqrt ?_))) ((bcRow_at _ _ i k).trans (congrFun (shapeCast_self g _) _))
  exact congrArg (fun z => Ideal.div z (Ideal.ofBits .f32 0x44800000#32) + Ideal.ofBits .f32 0x358637BD#32) ((col_at _ _ i 0).trans (sumCols_at _ _ _ _ i))

theorem act_at (w : FVec Ideal ⟨2, ![1024, 512]⟩ .bf16) (h : FVec Ideal ⟨2, ![1024, 1024]⟩ .bf16) (i : Fin 1024) (j : Fin 512) :
    k0_pay2 (F := Ideal) w h (ix2 i j) = ∑ k, h (ix2 i k) * w (ix2 k j) :=
  (nn_at _ _ _ i j).trans (Finset.sum_congr rfl fun k _ => congrArg₂ (· * ·) (congrFun (shapeCast_self h _) _) rfl)

/-! ## The blocks -/

theorem places : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, 0] := by decide +kernel

theorem lt_all (t : Fin cfg0.N) : t.val < 4 := t.isLt

/-- Row `i` and column `j` of a step's blocks, in the arrays. -/
abbrev row (t : Fin cfg0.N) (i : Fin 1024) : Fin 2048 := ⟨t.val / 2 * 1024 + i.val, by have := lt_all t; omega⟩
abbrev col (t : Fin cfg0.N) (j : Fin 512) : Fin 1024 := ⟨t.val % 2 * 512 + j.val, by omega⟩

theorem row_start (t : Fin cfg0.N) (i : Fin 1024) : row (start t) i = row t i := Fin.ext (by show t.val / 2 * 2 / 2 * 1024 + i.val = t.val / 2 * 1024 + i.val; omega)

section

variable (m : (k : Loc nD τ sig) → Buf (Elt Ideal) k) (c : Dev nD)

abbrev a0 : FVec Ideal ⟨2, ![2048, 1024]⟩ .f32 := m ((c : Thread nD τ).loc main_arg0)
abbrev a1 : FVec Ideal ⟨1, ![1024]⟩ .f32 := m ((c : Thread nD τ).loc main_arg1)
abbrev a2 : FVec Ideal ⟨2, ![1024, 1024]⟩ .bf16 := m ((c : Thread nD τ).loc main_arg2)

/-- The gain, as the call takes it. -/
theorem V_gain : (V m c main_v0 : (⟨S1x1024, .f32⟩ : BufTy).Contents (Elt Ideal)) = shapeCast S1x1024 (a1 m c) shapeCasts_S1024_S1x1024 := by
  unfold_abbrev_sides
  after_reads_simp
  rfl

section

variable (t : Fin cfg0.N)

theorem blk0 (i k : Fin 1024) : (iblk m c 0 t : FVec Ideal ⟨2, ![1024, 1024]⟩ .f32) (ix2 i k) = a0 m c (ix2 (row t i) k) := by
  have h := (places t).1
  unfold iblk
  blk_simp
  refine (congrFun (V_main_arg0 m c) _).trans (congrArg (a0 m c) (funext fun a => Fin.ext ?_))
  fin_cases a
  all_goals blk_simp [h]

theorem blk1 (k : Fin 1024) : (iblk m c 1 t : FVec Ideal ⟨2, ![1, 1024]⟩ .f32) (ix2 0 k) = a1 m c (ix1 k) := by
  have h := (places t).2.1
  unfold iblk
  blk_simp
  refine (congrFun (V_gain m c) _).trans ((congrArg (shapeCast S1x1024 (a1 m c) shapeCasts_S1024_S1x1024) (funext fun a => Fin.ext ?_)).trans (shapeCast_a_1a_apply (a1 m c) _ 0 k))
  fin_cases a
  all_goals blk_simp [h]

theorem blk2 (k : Fin 1024) (j : Fin 512) :
    (iblk m c 2 t : FVec Ideal ⟨2, ![1024, 512]⟩ .bf16) (ix2 k j) = a2 m c (ix2 k (col t j)) := by
  have h := (places t).2.2.1
  unfold iblk
  blk_simp
  refine (congrFun (V_main_arg2 m c) _).trans (congrArg (a2 m c) (funext fun a => Fin.ext ?_))
  fin_cases a
  all_goals blk_simp [h]

theorem normed_at (i k : Fin 1024) : (normed m c t : FVec Ideal ⟨2, ![1024, 1024]⟩ .bf16) (ix2 i k)
    = normRow (rowOf (a0 m c) (row t i)) (fun k => a1 m c (ix1 k)) k := by
  refine (pay1_at _ _ i k).trans (congrArg₂ (fun x g => normRow x g k) (funext fun k => ?_) (funext fun k => blk1 m c _ k))
  exact (blk0 m c (start t) i k).trans (congrArg (fun r => a0 m c (ix2 r k)) (row_start t i))

end

/-! ## The result arrays -/

theorem arr3 : ((dats m 0 c).arrAt 3 cfg0.N : FVec Ideal ⟨2, ![2048, 1024]⟩ .f32)
    = Cert.BQRefIdeal.Read.val_main_v14 (F := Ideal) (a0 m c) (a1 m c) (a2 m c) := by
  refine (dats m 0 c).arrAt_eq_of_covers 3 _ (by decide +kernel) fun t hf y => ?_
  blk_simp
  obtain ⟨i, j, rfl⟩ : ∃ (i : Fin 1024) (j : Fin 512), y = ix2 i j := ⟨y 0, y 1, eq_ix2 y⟩
  have hp := (places t).2.2.2.1
  have ey : (win0_3.blk t).view.emb (ix2 i j) = ix2 (row t i) (col t j) := by
    refine funext fun a => Fin.ext ?_
    fin_cases a
    all_goals blk_simp [hp]
  refine Eq.trans ?_ ((ref_y _ _ _ _ _).symm.trans (congrArg _ ey.symm))
  exact (congrFun (after_y m c t) _).trans ((act_at _ _ i j).trans (Finset.sum_congr rfl fun k _ => congrArg₂ (· * ·) (normed_at m c t i k) (blk2 m c t k j)))

theorem arr4 : ((dats m 0 c).arrAt 4 cfg0.N : FVec Ideal ⟨2, ![2048, 1024]⟩ .bf16)
    = Cert.BQRefIdeal.Read.val_main_v15 (F := Ideal) (a0 m c) (a1 m c) := by
  refine (dats m 0 c).arrAt_eq_of_covers 4 _ (by decide +kernel) fun t hf y => ?_
  blk_simp
  obtain ⟨i, j, rfl⟩ : ∃ (i j : Fin 1024), y = ix2 i j := ⟨y 0, y 1, eq_ix2 y⟩
  have hp := (places t).2.2.2.2
  have ey : (win0_4.blk t).view.emb (ix2 i j) = ix2 (row t i) j := by
    refine funext fun a => Fin.ext ?_
    fin_cases a
    all_goals blk_simp [hp]
  refine Eq.trans ?_ ((ref_n _ _ _ _).symm.trans (congrArg (Cert.BQRefIdeal.Read.val_main_v12 (F := Ideal) (a0 m c) (a1 m c)) ey.symm))
  exact (congrFun (after_n m c t) _).trans (normed_at m c t i j)

end

/-- The two runs end with the same results. -/
theorem algebraic : algebraic_BQIdeal_BQRefIdeal (hBQIdeal := Cert.BQIdeal.Gen.facts) (hBQRefIdeal := Cert.BQRefIdeal.Gen.facts) := by
  intro m g m' g' _ hm
  refine ⟨fun c => Cert.BQRefIdeal.Read.val_main_v14 (F := Ideal) (a0 m c) (a1 m c) (a2 m c),
    fun c => Cert.BQRefIdeal.Read.val_main_v15 (F := Ideal) (a0 m c) (a1 m c), ?_, ?_⟩
  · refine (θ_run (Cert.BQIdeal.defs (F := Ideal)) _ _).mono (fun r h c => ?_) (run_posts (F := Ideal) m g)
    exact ⟨((h c).1 3).trans (arr3 m c), ((h c).1 4).trans (arr4 m c),
      ((h c).1 0).trans (((dats m 0 c).arrAt_in 0 rfl _).trans ((array m c 0).trans (V_main_arg0 m c))),
      ((h c).2 main_arg1 (Pipeline.mem_restRefs_of main_arg1 (by decide) (by decide))).trans (V_main_arg1 m c),
      ((h c).1 2).trans (((dats m 0 c).arrAt_in 2 rfl _).trans ((array m c 2).trans (V_main_arg2 m c)))⟩
  · refine (θ_run (Cert.BQRefIdeal.defs (F := Ideal)) _ _).mono (fun r h c => ?_) (Cert.BQRefIdeal.Value.run (F := Ideal) m' g')
    obtain ⟨e0, e1, e2⟩ := hm c
    obtain ⟨h0, h1, hr⟩ := h c
    refine ⟨h0.trans ((Cert.BQRefIdeal.Read.val_main_v14_eq _ _ _).trans ?_), h1.trans ((Cert.BQRefIdeal.Read.val_main_v15_eq _ _).trans ?_), hr⟩
    · rw [e0, e1, e2]
    · rw [e0, e1]

end Cert.Mlp.BQIdeal

end
-- ==== Proof.DwGate.lean ====
/- The gradient of the input projection's gate: the columns of the gate's gradient by the columns of the norm's result, in one block. -/
module

public import proofs.«01_k».proof.Proof.Mm
public import proofs.«01_k».proof.Defs
public import proofs.«01_k».proof.Proof.Gen.DwGateIdeal.Value
public import proofs.«01_k».proof.Proof.Gen.DwGateRefIdeal.Run
public import proofs.«01_k».proof.Proof.Gen.DwGateRefIdeal.Read
public import Idealize.ShloMosaic.Lib.Pipeline.ValueKit.Geometry

@[expose] public section

noncomputable section

namespace Cert.Mlp.DwGate

open Idealize.ShloMosaic Idealize.ShloMosaic.ValueIdx Idealize.ShloMosaic.TcCoe Idealize.SL Idealize.SL.Sem
open Cert.DwGateIdeal Cert.DwGateIdeal.Gen

theorem places : ∀ t : Fin cfg0.N, win0_0.index t = ![0, t.val] ∧ win0_1.index t = ![0, 0] ∧ win0_2.index t = ![t.val, 0] := by decide +kernel

/-- The block of the result from the blocks of the operands. -/
theorem out_at (x0 : FVec Ideal ⟨2, ![2048, 128]⟩ .bf16) (x1 : FVec Ideal ⟨2, ![2048, 1024]⟩ .bf16) (i : Fin 128) (j : Fin 1024) :
    (out0_2 (F := Ideal) x0 x1 : FVec Ideal ⟨2, ![128, 1024]⟩ .bf16) (ix2 i j) = ∑ k : Fin 2048, x0 (ix2 k i) * x1 (ix2 k j) := by
  unfold out0_2
  rw [View.canon_unit_zero (h := zero2), View.ld_unit_zero (h := zero2), View.ld_unit_zero (h := zero2)]
  exact tn_at x0 x1 _ i j

section

variable (m : (k : Loc nD τ sig) → Buf (Elt Ideal) k) (c : Dev nD) (t : Fin cfg0.N)

abbrev a0 : FVec Ideal ⟨2, ![2048, 128]⟩ .bf16 := m ((c : Thread nD τ).loc main_arg0)
abbrev a1 : FVec Ideal ⟨2, ![2048, 1024]⟩ .bf16 := m ((c : Thread nD τ).loc main_arg1)

theorem blk0 (i : Fin 2048) (j : Fin 128) :
    (iblk m c 0 t : FVec Ideal ⟨2, ![2048, 128]⟩ .bf16) (ix2 i j) = a0 m c (ix2 i ⟨t.val * 128 + j.val, by have : t.val < 1 := t.isLt; omega⟩) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 1024) :
    (iblk m c 1 t : FVec Ideal ⟨2, ![2048, 1024]⟩ .bf16) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 128]⟩ .bf16) (x1 : FVec Ideal ⟨2, ![2048, 1024]⟩ .bf16) (i : Fin 128) (j : Fin 1024) :
    (Cert.DwGateRefIdeal.Read.val_main_v7 (F := Ideal) x0 x1 : FVec Ideal ⟨2, ![128, 1024]⟩ .bf16) (ix2 i j) = ∑ k : Fin 2048, x0 (ix2 k i) * x1 (ix2 k j) := by
  show Cert.DwGateRefIdeal.Read.val_main_v6 (F := Ideal) x0 x1 (ix2 i j) = _
  refine (Cert.DwGateRefIdeal.Read.val_main_v6_apply (F := Ideal) x0 x1 _).trans ?_
  refine (Cert.DwGateRefIdeal.Read.val_main_v5_apply (F := Ideal) x0 x1 _).trans ?_
  refine (Cert.DwGateRefIdeal.Read.val_main_v4_apply x0 x1 _).trans (Finset.sum_congr rfl fun k _ => congrArg₂ (· * ·) ?_ ?_)
  · exact congrArg x0 (Shape.idx_ext₂ rfl rfl)
  · exact congrArg x1 (Shape.idx_ext₂ rfl rfl)

theorem arr : ((dats m 0 c).arrAt 2 cfg0.N : FVec Ideal ⟨2, ![128, 1024]⟩ .bf16)
    = Cert.DwGateRefIdeal.Read.val_main_v7 (F := Ideal) (a0 m c) (a1 m c) := by
  refine (dats m 0 c).arrAt_eq_of_covers 2 _ (by decide +kernel) fun t hf y => ?_
  blk_simp
  obtain ⟨i, j, rfl⟩ : ∃ (i : Fin 128) (j : Fin 1024), y = ix2 i j := ⟨y 0, y 1, eq_ix2 y⟩
  have hp := (places t).2.2
  have ey : (win0_2.blk t).view.emb (ix2 i j) = ix2 (⟨t.val * 128 + i.val, by have : t.val < 1 := t.isLt; omega⟩ : Fin 128) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  exact congrArg₂ (· * ·) (blk0 m c t k i) (blk1 m c t k j)

end

/-- The two runs end with the same result. -/
theorem algebraic : algebraic_DwGateIdeal_DwGateRefIdeal (hDwGateIdeal := Cert.DwGateIdeal.Gen.facts) (hDwGateRefIdeal := Cert.DwGateRefIdeal.Gen.facts) := by
  intro m g m' g' _ hm
  refine ⟨fun c => Cert.DwGateRefIdeal.Read.val_main_v7 (F := Ideal) (a0 m c) (a1 m c), ?_, ?_⟩
  · refine (θ_run (Cert.DwGateIdeal.defs (F := Ideal)) _ _).mono (fun r h c => ?_) (Cert.DwGateIdeal.Value.run_blocks (F := Ideal) m g)
    exact ⟨(h c).1.trans (arr m c), (h c).2⟩
  · refine (θ_run (Cert.DwGateRefIdeal.defs (F := Ideal)) _ _).mono (fun r h c => ?_) (Cert.DwGateRefIdeal.Value.run (F := Ideal) m' g')
    obtain ⟨e0, e1⟩ := hm c
    refine ⟨(h c).1.trans ((Cert.DwGateRefIdeal.Read.val_main_v7_eq _ _).trans ?_), (h c).2⟩
    exact congrArg₂ (Cert.DwGateRefIdeal.Read.val_main_v7 (F := Ideal)) e0 e1

end Cert.Mlp.DwGate

end
-- ==== Proof.DwKv.lean ====
/- The gradient of w_kv: the columns of the normalised rows by the columns of the gradient, in one block. -/
module

public import proofs.«01_k».proof.Proof.Mm
public import proofs.«01_k».proof.Defs
public import proofs.«01_k».proof.Proof.Gen.DwKvIdeal.Value
public import proofs.«01_k».proof.Proof.Gen.DwKvRefIdeal.Run
public import proofs.«01_k».proof.Proof.Gen.DwKvRefIdeal.Read
public import Idealize.ShloMosaic.Lib.Pipeline.ValueKit.Geometry

@[expose] public section

noncomputable section

namespace Cert.Mlp.DwKv

open Idealize.ShloMosaic Idealize.ShloMosaic.ValueIdx Idealize.ShloMosaic.TcCoe Idealize.SL Idealize.SL.Sem
open Cert.DwKvIdeal Cert.DwKvIdeal.Gen

theorem places : ∀ t : Fin cfg0.N, win0_0.index t = ![0, t.val] ∧ win0_1.index t = ![0, 0] ∧ win0_2.index t = ![t.val, 0] := by decide +kernel

/-- The block of the result from the blocks of the operands. -/
theorem out_at (x0 : FVec Ideal ⟨2, ![2048, 1024]⟩ .bf16) (x1 : FVec Ideal ⟨2, ![2048, 256]⟩ .f32) (i : Fin 1024) (j : Fin 256) :
    (out0_2 (F := Ideal) x0 x1 : FVec Ideal ⟨2, ![1024, 256]⟩ .bf16) (ix2 i j) = ∑ k : Fin 2048, x0 (ix2 k i) * x1 (ix2 k j) := by
  unfold out0_2
  rw [View.canon_unit_zero (h := zero2), View.ld_unit_zero (h := zero2), View.ld_unit_zero (h := zero2)]
  exact tn_at x0 (truncf .bf16 x1 bitsLt_bf16_f32) _ i j

section

variable (m : (k : Loc nD τ sig) → Buf (Elt Ideal) k) (c : Dev nD) (t : Fin cfg0.N)

abbrev a0 : FVec Ideal ⟨2, ![2048, 1024]⟩ .bf16 := m ((c : Thread nD τ).loc main_arg0)
abbrev a1 : FVec Ideal ⟨2, ![2048, 256]⟩ .f32 := m ((c : Thread nD τ).loc main_arg1)

theorem blk0 (i : Fin 2048) (j : Fin 1024) :
    (iblk m c 0 t : FVec Ideal ⟨2, ![2048, 1024]⟩ .bf16) (ix2 i j) = a0 m c (ix2 i ⟨t.val * 1024 + j.val, by have : t.val < 1 := t.isLt; omega⟩) := by
  have h := (places t).1
  unfold iblk
  blk_simp
  refine (congrFun (V_main_arg0 m c) _).trans (congrArg (a0 m c) (funext fun a => Fin.ext ?_))
  fin_cases a
  all_goals blk_simp [h]

theorem blk1 (i : Fin 2048) (j : Fin 256) :
    (iblk m c 1 t : FVec Ideal ⟨2, ![2048, 256]⟩ .f32) (ix2 i j) = a1 m c (ix2 i j) := by
  have h := (places t).2.1
  unfold iblk
  blk_simp
  refine (congrFun (V_main_arg1 m c) _).trans (congrArg (a1 m c) (funext fun a => Fin.ext ?_))
  fin_cases a
  all_goals blk_simp [h]

theorem ref_at (x0 : FVec Ideal ⟨2, ![2048, 1024]⟩ .bf16) (x1 : FVec Ideal ⟨2, ![2048, 256]⟩ .f32) (i : Fin 1024) (j : Fin 256) :
    (Cert.DwKvRefIdeal.Read.val_main_v5 (F := Ideal) x0 x1 : FVec Ideal ⟨2, ![1024, 256]⟩ .bf16) (ix2 i j) = ∑ k : Fin 2048, x0 (ix2 k i) * x1 (ix2 k j) := by
  show Cert.DwKvRefIdeal.Read.val_main_v4 (F := Ideal) x0 x1 (ix2 i j) = _
  refine (Cert.DwKvRefIdeal.Read.val_main_v4_apply (F := Ideal) x0 x1 _).trans ?_
  refine (Cert.DwKvRefIdeal.Read.val_main_v3_apply x0 x1 _).trans (Finset.sum_congr rfl fun k _ => ?_)
  refine (mul_comm _ _).trans (congrArg₂ (· * ·) ?_ ?_)
  · exact congrArg x0 (Shape.idx_ext₂ rfl rfl)
  · exact congrArg x1 (Shape.idx_ext₂ rfl rfl)

theorem arr : ((dats m 0 c).arrAt 2 cfg0.N : FVec Ideal ⟨2, ![1024, 256]⟩ .bf16)
    = Cert.DwKvRefIdeal.Read.val_main_v5 (F := Ideal) (a0 m c) (a1 m c) := by
  refine (dats m 0 c).arrAt_eq_of_covers 2 _ (by decide +kernel) fun t hf y => ?_
  blk_simp
  obtain ⟨i, j, rfl⟩ : ∃ (i : Fin 1024) (j : Fin 256), y = ix2 i j := ⟨y 0, y 1, eq_ix2 y⟩
  have hp := (places t).2.2
  have ey : (win0_2.blk t).view.emb (ix2 i j) = ix2 (⟨t.val * 1024 + i.val, by have : t.val < 1 := t.isLt; omega⟩ : Fin 1024) j := by
    refine funext fun a => Fin.ext ?_
    fin_cases a
    all_goals blk_simp [hp]
  refine Eq.trans ?_ ((ref_at _ _ _ _).symm.trans (congrArg _ ey.symm))
  refine (congrFun (after0_2 m c t) _).trans ((out_at _ _ i j).trans (Finset.sum_congr rfl fun k _ => ?_))
  exact congrArg₂ (· * ·) (blk0 m c t k i) (blk1 m c t k j)

end

/-- The two runs end with the same result. -/
theorem algebraic : algebraic_DwKvIdeal_DwKvRefIdeal (hDwKvIdeal := Cert.DwKvIdeal.Gen.facts) (hDwKvRefIdeal := Cert.DwKvRefIdeal.Gen.facts) := by
  intro m g m' g' _ hm
  refine ⟨fun c => Cert.DwKvRefIdeal.Read.val_main_v5 (F := Ideal) (a0 m c) (a1 m c), ?_, ?_⟩
  · refine (θ_run (Cert.DwKvIdeal.defs (F := Ideal)) _ _).mono (fun r h c => ?_) (Cert.DwKvIdeal.Value.run_blocks (F := Ideal) m g)
    exact ⟨(h c).1.trans (arr m c), (h c).2⟩
  · refine (θ_run (Cert.DwKvRefIdeal.defs (F := Ideal)) _ _).mono (fun r h c => ?_) (Cert.DwKvRefIdeal.Value.run (F := Ideal) m' g')
    obtain ⟨e0, e1⟩ := hm c
    refine ⟨(h c).1.trans ((Cert.DwKvRefIdeal.Read.val_main_v5_eq _ _).trans ?_), (h c).2⟩
    exact congrArg₂ (Cert.DwKvRefIdeal.Read.val_main_v5 (F := Ideal)) e0 e1

end Cert.Mlp.DwKv

end
-- ==== Proof.Kv.lean ====
/- The shared keys and values: the kernel's blocks of the product and of the normalised rows are the reference's arrays. -/
module

public import proofs.«01_k».proof.Proof.Up
public import proofs.«01_k».proof.Proof.DownLossRun
public import proofs.«01_k».proof.Defs
public import proofs.«01_k».proof.Proof.Gen.KvIdeal.Value
public import proofs.«01_k».proof.Proof.Gen.KvRefIdeal.Run
public import proofs.«01_k».proof.Proof.Gen.KvRefIdeal.Read
public import Idealize.ShloMosaic.Lib.StableHlo.RunRead
public import Idealize.ShloMosaic.Lib.Pipeline.ValueKit.Geometry

@[expose] public section

noncomputable section

namespace Cert.Mlp.Kv

open Idealize.ShloMosaic hiding ix1 ix2 ix3 eq_ix2
open Idealize.ShloMosaic.ValueIdx Idealize.ShloMosaic.TcCoe Idealize.SL Idealize.SL.Sem
open Cert.KvIdeal Cert.KvIdeal.Gen
open Cert.Mlp.UpIdeal (normRow)

/-! ## The reference, read at an index -/

section Ref

open Cert.KvRefIdeal Cert.KvRefIdeal.Gen Cert.KvRefIdeal.Read

variable (x0 : FVec Ideal ⟨2, ![2048, 1024]⟩ .f32) (x1 : FVec Ideal ⟨1, ![1024]⟩ .f32) (x2 : FVec Ideal ⟨2, ![1024, 256]⟩ .bf16)

theorem ref_e (i : Fin 2048) : val_main_v6 (F := Ideal) x0 (ix2 i 0) = rowE (rowOf x0 i) := by
  refine congrArg (fun z => Ideal.div z (Ideal.ofBits .f32 0x44800000#32) + Ideal.ofBits .f32 0x358637BD#32) ?_
  refine (val_main_v2_apply (F := Ideal) x0 _).trans ((val_main_v1_apply x0 _).trans ?_)
  refine (congrArg (· + _) (Ideal.ofBits_zero_f32 : (val_main_cst (F := Ideal)) (Shape.Idx.first h_S_) = 0)).trans ((zero_add _).trans (Finset.sum_congr rfl fun k _ => ?_))
  exact congrArg (fun z => x0 z * x0 z) (Shape.idx_ext₂ rfl rfl)

theorem ref_n (i : Fin 2048) (k : Fin 1024) : val_main_v12 (F := Ideal) x0 x1 (ix2 i k) = normRow (rowOf x0 i) (fun k => x1 (ix1 k)) k := by
  refine congrArg₂ (· * ·) (congrArg (x0 (ix2 i k) * ·) ?_) ?_
  · exact (val_main_v8_apply (F := Ideal) x0 _).trans ((congrArg (val_main_v7 (F := Ideal) x0) (Shape.idx_ext₂ rfl rfl : idx_main_v8 (ix2 i k) = ix2 i 0)).trans
      (congrArg Ideal.rsqrt (ref_e x0 i)))
  · exact (val_main_v11_apply (F := Ideal) x1 _).trans ((val_main_v10_apply (F := Ideal) x1 _).trans (congrArg x1 (funext fun a => Fin.ext (by match a with | 0 => rfl))))

theorem ref_y (i : Fin 2048) (j : Fin 256) : val_main_v14 (F := Ideal) x0 x1 x2 (ix2 i j)
    = ∑ k, normRow (rowOf x0 i) (fun k => x1 (ix1 k)) k * x2 (ix2 k j) := by
  refine (val_main_v14_apply x0 x1 x2 _).trans (Finset.sum_congr rfl fun k _ => congrArg₂ (· * ·) ?_ ?_)
  · exact (congrArg (val_main_v12 (F := Ideal) x0 x1) (Shape.idx_ext₂ rfl rfl : lidx_main_v14 (ix2 i j) k = ix2 i k)).trans (ref_n x0 x1 i k)
  · exact congrArg x2 (Shape.idx_ext₂ rfl rfl)

end Ref

/-! ## The body, read at an index -/

theorem pay1_at (x : FVec Ideal ⟨2, ![1024, 1024]⟩ .f32) (g : FVec Ideal ⟨2, ![1, 1024]⟩ .f32) (i k : Fin 1024) :
    k0_pay1 (F := Ideal) x g (ix2 i k) = normRow (rowOf x i) (fun k => g (ix2 0 k)) k := by
  refine congrArg₂ (· * ·) (congrArg (x (ix2 i k) * ·) ((bcCol_at _ _ i k).trans (congrArg Ideal.rsqrt ?_))) ((bcRow_at _ _ i k).trans (congrFun (shapeCast_self g _) _))
  exact congrArg (fun z => Ideal.div z (Ideal.ofBits .f32 0x44800000#32) + Ideal.ofBits .f32 0x358637BD#32) ((col_at _ _ i 0).trans (sumCols_at _ _ _ _ i))

theorem stored_n {x x' : FVec Ideal ⟨2, ![1024, 1024]⟩ .f32} {g g' : FVec Ideal ⟨2, ![1, 1024]⟩ .f32} (hx : x' = x) (hg : g' = g) (i k : Fin 1024) :
    k0_pay1 (F := Ideal) x' g' (ix2 i k) = normRow (rowOf x i) (fun k => g (ix2 0 k)) k := by
  subst hx hg
  exact pay1_at _ _ i k

theorem stored_y {w w' : FVec Ideal ⟨2, ![1024, 256]⟩ .bf16} {h : FVec Ideal ⟨2, ![1024, 1024]⟩ .bf16} {n : Fin 1024 → EReal} (hw : w' = w) (i : Fin 1024) (j : Fin 256)
    (hh : ∀ k, h (ix2 i k) = n k) : k0_pay2 (F := Ideal) w' h (ix2 i j) = ∑ k, n k * w (ix2 k j) := by
  subst hw
  exact (nn_at _ _ _ i j).trans (Finset.sum_congr rfl fun k _ => congrArg (· * _) ((congrFun (shapeCast_self h _) _).trans (hh k)))

/-- A load of the whole buffer after the store of all of it. -/
theorem reload {a b : ℕ} {sp : Space} {v : View sig .tc sp ⟨2, ![a, b]⟩ .bf16} {w : (⟨2, ![a, b]⟩ : Shape).Idx → EReal}
    {inb inb' : ∀ c, (![0, 0] : Fin 2 → ℕ) c + (⟨2, ![a, b]⟩ : Shape).size c ≤ (⟨2, ![a, b]⟩ : Shape).size c} :
    (v.readCov [(⟨Rect.unit (s := ⟨2, ![a, b]⟩) ![0, 0] (⟨2, ![a, b]⟩ : Shape).size inb', w⟩ : View.Piece (Elt Ideal) ⟨2, ![a, b]⟩ .bf16)]
      (Rect.unit (s := ⟨2, ![a, b]⟩) ![0, 0] (⟨2, ![a, b]⟩ : Shape).size inb).toLoadRect : (⟨2, ![a, b]⟩ : Shape).Idx → EReal) = w := by
  rw [View.readCov_eq_canon']
  exact (View.ld_unit_zero (Val := Elt Ideal) (e := .bf16) zero2 inb _).trans (View.canon_cons_unit_zero (Val := Elt Ideal) (e := .bf16) zero2 inb' w [])

section

variable {c : Dev nD} {i : grid0.Coords} {arg2 : Memref sig .tc .vmem S1024x1024 .f32} {harg2 : arg2.IsWhole} {arg3 : Memref sig .tc .vmem S1x1024 .f32} {harg3 : arg3.IsWhole}
  {arg4 : Memref sig .tc .vmem S1024x256 .bf16} {harg4 : arg4.IsWhole} {arg5 : Memref sig .tc .vmem S1024x256 .f32} {harg5 : arg5.IsWhole}
  {arg6 : Memref sig .tc .vmem S1024x1024 .bf16} {harg6 : arg6.IsWhole} {hc0 : cond0_0 i}
  {x0 : FVec Ideal ⟨2, ![1024, 1024]⟩ .f32} {x1 : FVec Ideal ⟨2, ![1, 1024]⟩ .f32} {x2 : FVec Ideal ⟨2, ![1024, 256]⟩ .bf16}

theorem out3 (r : Fin 1024) (j : Fin 256) : out0_A_3 (F := Ideal) c i arg2 harg2 arg3 harg3 arg4 harg4 arg5 harg5 arg6 harg6 hc0 x0 x1 x2 (ix2 r j)
    = ∑ k, normRow (rowOf x0 r) (fun k => x1 (ix2 0 k)) k * x2 (ix2 k j) := by
  rw [out0_A_3, View.read_writes_junk_eq_canon]
  exact store_at _ (stored_y Dhq.ld_at r j fun k => (congrFun reload _).trans (stored_n Fox.load_at Fox.load_at r k))

theorem out4 (r k : Fin 1024) : out0_A_4 (F := Ideal) c i arg2 harg2 arg3 harg3 arg4 harg4 arg5 harg5 arg6 harg6 hc0 x0 x1 x2 (ix2 r k)
    = normRow (rowOf x0 r) (fun k => x1 (ix2 0 k)) k := by
  rw [out0_A_4, View.read_writes_junk_eq_canon]
  exact store_at _ (stored_n Fox.load_at Fox.load_at r k)

end

/-! ## The blocks -/

theorem places : ∀ t : Fin cfg0.N, win0_0.index t = ![t.val, 0] ∧ win0_1.index t = ![0, 0] ∧ win0_2.index t = ![0, 0]
    ∧ win0_3.index t = ![t.val, 0] ∧ win0_4.index t = ![t.val, 0] := by decide +kernel

/-- Row `i` of a step's blocks, in the arrays. -/
abbrev row (t : Fin cfg0.N) (i : Fin 1024) : Fin 2048 := ⟨t.val * 1024 + i.val, by have : t.val < 2 := t.isLt; omega⟩

section

variable (m : (k : Loc nD τ sig) → Buf (Elt Ideal) k) (c : Dev nD)

abbrev a0 : FVec Ideal ⟨2, ![2048, 1024]⟩ .f32 := m ((c : Thread nD τ).loc main_arg0)
abbrev a1 : FVec Ideal ⟨1, ![1024]⟩ .f32 := m ((c : Thread nD τ).loc main_arg1)
abbrev a2 : FVec Ideal ⟨2, ![1024, 256]⟩ .bf16 := m ((c : Thread nD τ).loc main_arg2)

/-- The gain, as the call takes it. -/
theorem V_gain : (V m c main_v0 : (⟨S1x1024, .f32⟩ : BufTy).Contents (Elt Ideal)) = shapeCast S1x1024 (a1 m c) shapeCasts_S1024_S1x1024 := by
  unfold_abbrev_sides
  after_reads_simp
  rfl

section

variable (t : Fin cfg0.N)

theorem blk0 (i k : Fin 1024) : (iblk m c 0 t : FVec Ideal ⟨2, ![1024, 1024]⟩ .f32) (ix2 i k) = a0 m c (ix2 (row t i) k) := by
  have h := (places t).1
  unfold iblk
  blk_simp
  refine (congrFun (V_main_arg0 m c) _).trans (congrArg (a0 m c) (funext fun a => Fin.ext ?_))
  fin_cases a
  all_goals blk_simp [h]

theorem blk1 (k : Fin 1024) : (iblk m c 1 t : FVec Ideal ⟨2, ![1, 1024]⟩ .f32) (ix2 0 k) = a1 m c (ix1 k) := by
  have h := (places t).2.1
  unfold iblk
  blk_simp
  refine (congrFun (V_gain m c) _).trans ((congrArg (shapeCast S1x1024 (a1 m c) shapeCasts_S1024_S1x1024) (funext fun a => Fin.ext ?_)).trans (shapeCast_a_1a_apply (a1 m c) _ 0 k))
  fin_cases a
  all_goals blk_simp [h]

theorem blk2 (k : Fin 1024) (j : Fin 256) :
    (iblk m c 2 t : FVec Ideal ⟨2, ![1024, 256]⟩ .bf16) (ix2 k j) = a2 m c (ix2 k j) := by
  have h := (places t).2.2.1
  unfold iblk
  blk_simp
  refine (congrFun (V_main_arg2 m c) _).trans (congrArg (a2 m c) (funext fun a => Fin.ext ?_))
  fin_cases a
  all_goals blk_simp [h]

theorem normed_at (i k : Fin 1024) :
    normRow (rowOf (iblk m c 0 t : FVec Ideal ⟨2, ![1024, 1024]⟩ .f32) i) (fun k => (iblk m c 1 t : FVec Ideal ⟨2, ![1, 1024]⟩ .f32) (ix2 0 k)) k
      = normRow (rowOf (a0 m c) (row t i)) (fun k => a1 m c (ix1 k)) k :=
  congrArg₂ (fun x g => normRow x g k) (funext fun k => blk0 m c t i k) (funext fun k => blk1 m c t k)

end

/-- What a step leaves in the two result buffers. -/
theorem left3 (t : Fin cfg0.N) (i : Fin 1024) (j : Fin 256) : (outsAt0 m c t).1 (ix2 i j)
    = ∑ k, normRow (rowOf (a0 m c) (row t i)) (fun k => a1 m c (ix1 k)) k * a2 m c (ix2 k j) := by
  rw [outsAt0]
  dsimp only
  exact (out3 i j).trans (Finset.sum_congr rfl fun k _ => congrArg₂ (· * ·) (normed_at m c t i k) (blk2 m c t k j))

theorem left4 (t : Fin cfg0.N) (i k : Fin 1024) : (outsAt0 m c t).2 (ix2 i k)
    = normRow (rowOf (a0 m c) (row t i)) (fun k => a1 m c (ix1 k)) k := by
  rw [outsAt0]
  dsimp only
  exact (out4 i k).trans (normed_at m c t i k)

/-! ## The result arrays -/

theorem arr3 : ((dats m 0 c).arrAt 3 cfg0.N : FVec Ideal ⟨2, ![2048, 256]⟩ .f32)
    = Cert.KvRefIdeal.Read.val_main_v14 (F := Ideal) (a0 m c) (a1 m c) (a2 m c) := by
  refine (dats m 0 c).arrAt_eq_of_covers 3 _ (by decide +kernel) fun t hf y => ?_
  blk_simp
  obtain ⟨i, j, rfl⟩ : ∃ (i : Fin 1024) (j : Fin 256), y = ix2 i j := ⟨y 0, y 1, eq_ix2 y⟩
  have hp := (places t).2.2.2.1
  have ey : (win0_3.blk t).view.emb (ix2 i j) = ix2 (row t i) j := by
    refine funext fun a => Fin.ext ?_
    fin_cases a
    all_goals blk_simp [hp]
  refine Eq.trans ?_ ((ref_y _ _ _ _ _).symm.trans (congrArg _ ey.symm))
  exact (congrFun (after0_3 m c t) _).trans (left3 m c t i j)

theorem arr4 : ((dats m 0 c).arrAt 4 cfg0.N : FVec Ideal ⟨2, ![2048, 1024]⟩ .bf16)
    = Cert.KvRefIdeal.Read.val_main_v15 (F := Ideal) (a0 m c) (a1 m c) := by
  refine (dats m 0 c).arrAt_eq_of_covers 4 _ (by decide +kernel) fun t hf y => ?_
  blk_simp
  obtain ⟨i, j, rfl⟩ : ∃ (i j : Fin 1024), y = ix2 i j := ⟨y 0, y 1, eq_ix2 y⟩
  have hp := (places t).2.2.2.2
  have ey : (win0_4.blk t).view.emb (ix2 i j) = ix2 (row t i) j := by
    refine funext fun a => Fin.ext ?_
    fin_cases a
    all_goals blk_simp [hp]
  refine Eq.trans ?_ ((ref_n _ _ _ _).symm.trans (congrArg (Cert.KvRefIdeal.Read.val_main_v12 (F := Ideal) (a0 m c) (a1 m c)) ey.symm))
  exact (congrFun (after0_4 m c t) _).trans (left4 m c t i j)

end

/-- The two runs end with the same results. -/
theorem algebraic : algebraic_KvIdeal_KvRefIdeal (hKvIdeal := Cert.KvIdeal.Gen.facts) (hKvRefIdeal := Cert.KvRefIdeal.Gen.facts) := by
  intro m g m' g' _ hm
  refine ⟨fun c => Cert.KvRefIdeal.Read.val_main_v14 (F := Ideal) (a0 m c) (a1 m c) (a2 m c),
    fun c => Cert.KvRefIdeal.Read.val_main_v15 (F := Ideal) (a0 m c) (a1 m c), ?_, ?_⟩
  · refine (θ_run (Cert.KvIdeal.defs (F := Ideal)) _ _).mono (fun r h c => ?_) (Cert.KvIdeal.Value.run_blocks (F := Ideal) m g)
    exact ⟨(h c).1.trans (arr3 m c), (h c).2.1.trans (arr4 m c), (h c).2.2⟩
  · refine (θ_run (Cert.KvRefIdeal.defs (F := Ideal)) _ _).mono (fun r h c => ?_) (Cert.KvRefIdeal.Value.run (F := Ideal) m' g')
    obtain ⟨e0, e1, e2⟩ := hm c
    obtain ⟨h0, h1, hr⟩ := h c
    refine ⟨h0.trans ((Cert.KvRefIdeal.Read.val_main_v14_eq _ _ _).trans ?_), h1.trans ((Cert.KvRefIdeal.Read.val_main_v15_eq _ _).trans ?_), hr⟩
    · rw [e0, e1, e2]
    · rw [e0, e1]

end Cert.Mlp.Kv

end
-- ==== Proof.lean ====
module

public import proofs.«01_k».proof.Proof.Final
public import proofs.«01_k».proof.Proof.DwDown
public import proofs.«01_k».proof.Proof.DwUp
public import proofs.«01_k».proof.Proof.Dh
public import proofs.«01_k».proof.Proof.Down
public import proofs.«01_k».proof.Proof.DownLoss
public import proofs.«01_k».proof.Proof.DwIn
public import proofs.«01_k».proof.Proof.DwOut
public import proofs.«01_k».proof.Proof.DOut
public import proofs.«01_k».proof.Proof.OutProj
public import proofs.«01_k».proof.Proof.Dx
public import proofs.«01_k».proof.Proof.Dhq
public import proofs.«01_k».proof.Proof.UpRun
public import proofs.«01_k».proof.Proof.Up
public import proofs.«01_k».proof.Proof.AInRun
public import proofs.«01_k».proof.Proof.AIn
public import proofs.«01_k».proof.Proof.BQRun
public import proofs.«01_k».proof.Proof.BQ
public import proofs.«01_k».proof.Proof.DwGate
public import proofs.«01_k».proof.Proof.DwKv
public import proofs.«01_k».proof.Proof.Kv
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Pre_real_inputs
public import proofs.«01_k».proof.Proof.Gen.ReferenceIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.Gen.DownLossRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DOut
public import proofs.«01_k».proof.Proof.Gen.DOut.Skeleton
public import proofs.«01_k».proof.Proof.Gen.DOut.Launch
public import proofs.«01_k».proof.Proof.Gen.DOut.Points
public import proofs.«01_k».proof.Proof.Gen.DOut.Frame
public import proofs.«01_k».proof.Proof.Gen.DOutIdeal
public import proofs.«01_k».proof.Proof.Gen.DOutIdeal.Skeleton
public import proofs.«01_k».proof.Proof.Gen.DOutIdeal.Launch
public import proofs.«01_k».proof.Proof.Gen.DOutIdeal.Points
public import proofs.«01_k».proof.Proof.Gen.DOutIdeal.Frame
public import proofs.«01_k».proof.Proof.Gen.DOutIdeal.Value
public import proofs.«01_k».proof.Proof.Gen.DOutRefIdeal
public import proofs.«01_k».proof.Proof.Gen.DOutRefIdeal.Run
public import proofs.«01_k».proof.Proof.Gen.DOutRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.Dhq
public import proofs.«01_k».proof.Proof.Gen.Dhq.Skeleton
public import proofs.«01_k».proof.Proof.Gen.Dhq.Launch
public import proofs.«01_k».proof.Proof.Gen.Dhq.Points
public import proofs.«01_k».proof.Proof.Gen.Dhq.Frame
public import proofs.«01_k».proof.Proof.Gen.DhqIdeal
public import proofs.«01_k».proof.Proof.Gen.DhqIdeal.Skeleton
public import proofs.«01_k».proof.Proof.Gen.DhqIdeal.Launch
public import proofs.«01_k».proof.Proof.Gen.DhqIdeal.Points
public import proofs.«01_k».proof.Proof.Gen.DhqIdeal.Frame
public import proofs.«01_k».proof.Proof.Gen.DhqIdeal.Value
public import proofs.«01_k».proof.Proof.Gen.DhqRefIdeal
public import proofs.«01_k».proof.Proof.Gen.DhqRefIdeal.Run
public import proofs.«01_k».proof.Proof.Gen.DhqRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.AIn
public import proofs.«01_k».proof.Proof.Gen.AIn.Skeleton
public import proofs.«01_k».proof.Proof.Gen.AIn.Launch
public import proofs.«01_k».proof.Proof.Gen.AIn.Points
public import proofs.«01_k».proof.Proof.Gen.AIn.Frame
public import proofs.«01_k».proof.Proof.Gen.AInIdeal
public import proofs.«01_k».proof.Proof.Gen.AInIdeal.Skeleton
public import proofs.«01_k».proof.Proof.Gen.AInIdeal.Launch
public import proofs.«01_k».proof.Proof.Gen.AInIdeal.Points
public import proofs.«01_k».proof.Proof.Gen.AInIdeal.Frame
public import proofs.«01_k».proof.Proof.Gen.AInRefIdeal
public import proofs.«01_k».proof.Proof.Gen.AInRefIdeal.Run
public import proofs.«01_k».proof.Proof.Gen.AInRefIdeal.Read
public import proofs.«01_k».proof.Proof.Gen.BQ
public import proofs.«01_k».proof.Proof.Gen.BQ.Skeleton
public import proofs.«01_k».proof.Proof.Gen.BQ.Launch
public import proofs.«01_k».proof.Proof.Gen.BQ.Points
public import proofs.«01_k».proof.Proof.Gen.BQ.Frame
public import proofs.«01_k».proof.Proof.Gen.BQIdeal
public import proofs.«01_k».proof.Proof.Gen.BQIdeal.Skeleton
public import proofs.«01_k».proof.Proof.Gen.BQIdeal.Launch
public import proofs.«01_k».proof.Proof.Gen.BQIdeal.Points
public import proofs.«01_k».proof.Proof.Gen.BQIdeal.Frame
public import proofs.«01_k».proof.Proof.Gen.BQRefIdeal
public import proofs.«01_k».proof.Proof.Gen.BQRefIdeal.Run
public import proofs.«01_k».proof.Proof.Gen.BQRefIdeal.Read
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Gen.DwKv
public import proofs.«01_k».proof.Proof.Gen.DwKv.Skeleton
public import proofs.«01_k».proof.Proof.Gen.DwKv.Launch
public import proofs.«01_k».proof.Proof.Gen.DwKv.Points
public import proofs.«01_k».proof.Proof.Gen.DwKv.Frame
public import proofs.«01_k».proof.Proof.Gen.DwKvIdeal
public import proofs.«01_k».proof.Proof.Gen.DwKvIdeal.Skeleton
public import proofs.«01_k».proof.Proof.Gen.DwKvIdeal.Launch
public import proofs.«01_k».proof.Proof.Gen.DwKvIdeal.Points
public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import proofs.«01_k».proof.Proof.Gen.DwKvRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import Idealize.ShloMosaic.Adequacy
public import Idealize.ShloMosaic.Init

@[expose] public section

noncomputable section

namespace Cert.Proof

open Idealize.ShloMosaic Idealize.SL.Sem Cert.Kernel

/-- The reference's frame, from its run; its counters because it has no semaphore. -/
theorem reference_frame : quiescent_ReferenceIdeal (hReferenceIdeal := Cert.ReferenceIdeal.Gen.facts) := fun m g _ =>
  (θ_run (Cert.ReferenceIdeal.defs (F := Ideal)) _ _).mono
    (fun r h => ⟨fun c => (h c).2.2.2.2, sem_eq_zero_of_no_sems (by decide) r.2⟩) (Cert.ReferenceIdeal.Value.run (F := Ideal) m g)

theorem reference_frame_pre : quiescent_ReferenceIdeal_pre_real_inputs (hReferenceIdeal := Cert.ReferenceIdeal.Gen.facts) (hPre_real_inputs := Cert.Pre_real_inputs.Gen.facts) := fun m g _ =>
  (θ_run (Cert.ReferenceIdeal.defs (F := Ideal)) _ _).mono
    (fun r h => ⟨fun c => (h c).2.2.2.2, sem_eq_zero_of_no_sems (by decide) r.2⟩) (Cert.ReferenceIdeal.Value.run (F := Ideal) m g)

theorem dwDown_reference_frame : quiescent_DwDownRefIdeal (hDwDownRefIdeal := Cert.DwDownRefIdeal.Gen.facts) := fun m g _ =>
  (θ_run (Cert.DwDownRefIdeal.defs (F := Ideal)) _ _).mono
    (fun r h => ⟨fun c => (h c).2, sem_eq_zero_of_no_sems (by decide) r.2⟩) (Cert.DwDownRefIdeal.Value.run (F := Ideal) m g)

theorem dwUp_reference_frame : quiescent_DwUpRefIdeal (hDwUpRefIdeal := Cert.DwUpRefIdeal.Gen.facts) := fun m g _ =>
  (θ_run (Cert.DwUpRefIdeal.defs (F := Ideal)) _ _).mono
    (fun r h => ⟨fun c => (h c).2, sem_eq_zero_of_no_sems (by decide) r.2⟩) (Cert.DwUpRefIdeal.Value.run (F := Ideal) m g)

theorem dh_reference_frame : quiescent_DhRefIdeal (hDhRefIdeal := Cert.DhRefIdeal.Gen.facts) := fun m g _ =>
  (θ_run (Cert.DhRefIdeal.defs (F := Ideal)) _ _).mono
    (fun r h => ⟨fun c => (h c).2.2.2, sem_eq_zero_of_no_sems (by decide) r.2⟩) (Cert.DhRefIdeal.Value.run (F := Ideal) m g)

theorem down_reference_frame : quiescent_DownRefIdeal (hDownRefIdeal := Cert.DownRefIdeal.Gen.facts) := fun m g _ =>
  (θ_run (Cert.DownRefIdeal.defs (F := Ideal)) _ _).mono
    (fun r h => ⟨fun c => (h c).2, sem_eq_zero_of_no_sems (by decide) r.2⟩) (Cert.DownRefIdeal.Value.run (F := Ideal) m g)

theorem downLoss_reference_frame : quiescent_DownLossRefIdeal (hDownLossRefIdeal := Cert.DownLossRefIdeal.Gen.facts) := fun m g _ =>
  (θ_run (Cert.DownLossRefIdeal.defs (F := Ideal)) _ _).mono
    (fun r h => ⟨fun c => (h c).2.2.2, sem_eq_zero_of_no_sems (by decide) r.2⟩) (Cert.DownLossRefIdeal.Value.run (F := Ideal) m g)

theorem dwIn_reference_frame : quiescent_DwInRefIdeal (hDwInRefIdeal := Cert.DwInRefIdeal.Gen.facts) := fun m g _ =>
  (θ_run (Cert.DwInRefIdeal.defs (F := Ideal)) _ _).mono
    (fun r h => ⟨fun c => (h c).2, sem_eq_zero_of_no_sems (by decide) r.2⟩) (Cert.DwInRefIdeal.Value.run (F := Ideal) m g)

theorem dwOut_reference_frame : quiescent_DwOutRefIdeal (hDwOutRefIdeal := Cert.DwOutRefIdeal.Gen.facts) := fun m g _ =>
  (θ_run (Cert.DwOutRefIdeal.defs (F := Ideal)) _ _).mono
    (fun r h => ⟨fun c => (h c).2, sem_eq_zero_of_no_sems (by decide) r.2⟩) (Cert.DwOutRefIdeal.Value.run (F := Ideal) m g)

theorem dOut_reference_frame : quiescent_DOutRefIdeal (hDOutRefIdeal := Cert.DOutRefIdeal.Gen.facts) := fun m g _ =>
  (θ_run (Cert.DOutRefIdeal.defs (F := Ideal)) _ _).mono
    (fun r h => ⟨fun c => (h c).2, sem_eq_zero_of_no_sems (by decide) r.2⟩) (Cert.DOutRefIdeal.Value.run (F := Ideal) m g)

theorem outProj_reference_frame : quiescent_OutProjRefIdeal (hOutProjRefIdeal := Cert.OutProjRefIdeal.Gen.facts) := fun m g _ =>
  (θ_run (Cert.OutProjRefIdeal.defs (F := Ideal)) _ _).mono
    (fun r h => ⟨fun c => (h c).2, sem_eq_zero_of_no_sems (by decide) r.2⟩) (Cert.OutProjRefIdeal.Value.run (F := Ideal) m g)

theorem dx_reference_frame : quiescent_DxRefIdeal (hDxRefIdeal := Cert.DxRefIdeal.Gen.facts) := fun m g _ =>
  (θ_run (Cert.DxRefIdeal.defs (F := Ideal)) _ _).mono
    (fun r h => ⟨fun c => (h c).2.2, sem_eq_zero_of_no_sems (by decide) r.2⟩) (Cert.DxRefIdeal.Value.run (F := Ideal) m g)

theorem dhq_reference_frame : quiescent_DhqRefIdeal (hDhqRefIdeal := Cert.DhqRefIdeal.Gen.facts) := fun m g _ =>
  (θ_run (Cert.DhqRefIdeal.defs (F := Ideal)) _ _).mono
    (fun r h => ⟨fun c => (h c).2.2, sem_eq_zero_of_no_sems (by decide) r.2⟩) (Cert.DhqRefIdeal.Value.run (F := Ideal) m g)

theorem up_reference_frame : quiescent_UpRefIdeal (hUpRefIdeal := Cert.UpRefIdeal.Gen.facts) := fun m g _ =>
  (θ_run (Cert.UpRefIdeal.defs (F := Ideal)) _ _).mono
    (fun r h => ⟨fun c => (h c).2.2, sem_eq_zero_of_no_sems (by decide) r.2⟩) (Cert.UpRefIdeal.Value.run (F := Ideal) m g)

theorem aIn_reference_frame : quiescent_AInRefIdeal (hAInRefIdeal := Cert.AInRefIdeal.Gen.facts) := fun m g _ =>
  (θ_run (Cert.AInRefIdeal.defs (F := Ideal)) _ _).mono
    (fun r h => ⟨fun c => (h c).2.2, sem_eq_zero_of_no_sems (by decide) r.2⟩) (Cert.AInRefIdeal.Value.run (F := Ideal) m g)

theorem bq_reference_frame : quiescent_BQRefIdeal (hBQRefIdeal := Cert.BQRefIdeal.Gen.facts) := fun m g _ =>
  (θ_run (Cert.BQRefIdeal.defs (F := Ideal)) _ _).mono
    (fun r h => ⟨fun c => (h c).2.2, sem_eq_zero_of_no_sems (by decide) r.2⟩) (Cert.BQRefIdeal.Value.run (F := Ideal) m g)

theorem dwGate_reference_frame : quiescent_DwGateRefIdeal (hDwGateRefIdeal := Cert.DwGateRefIdeal.Gen.facts) := fun m g _ =>
  (θ_run (Cert.DwGateRefIdeal.defs (F := Ideal)) _ _).mono
    (fun r h => ⟨fun c => (h c).2, sem_eq_zero_of_no_sems (by decide) r.2⟩) (Cert.DwGateRefIdeal.Value.run (F := Ideal) m g)

theorem dwKv_reference_frame : quiescent_DwKvRefIdeal (hDwKvRefIdeal := Cert.DwKvRefIdeal.Gen.facts) := fun m g _ =>
  (θ_run (Cert.DwKvRefIdeal.defs (F := Ideal)) _ _).mono
    (fun r h => ⟨fun c => (h c).2, sem_eq_zero_of_no_sems (by decide) r.2⟩) (Cert.DwKvRefIdeal.Value.run (F := Ideal) m g)

theorem kv_reference_frame : quiescent_KvRefIdeal (hKvRefIdeal := Cert.KvRefIdeal.Gen.facts) := fun m g _ =>
  (θ_run (Cert.KvRefIdeal.defs (F := Ideal)) _ _).mono
    (fun r h => ⟨fun c => (h c).2.2, sem_eq_zero_of_no_sems (by decide) r.2⟩) (Cert.KvRefIdeal.Value.run (F := Ideal) m g)

theorem claim : Cert.Claim := ⟨Cert.Kernel.Gen.facts, Cert.KernelIdeal.Gen.facts, Cert.ReferenceIdeal.Gen.facts,
  Cert.DwDown.Gen.facts, Cert.DwDownIdeal.Gen.facts, Cert.DwDownRefIdeal.Gen.facts,
  Cert.DwUp.Gen.facts, Cert.DwUpIdeal.Gen.facts, Cert.DwUpRefIdeal.Gen.facts,
  Cert.Dh.Gen.facts, Cert.DhIdeal.Gen.facts, Cert.DhRefIdeal.Gen.facts,
  Cert.Down.Gen.facts, Cert.DownIdeal.Gen.facts, Cert.DownRefIdeal.Gen.facts,
  Cert.DownLoss.Gen.facts, Cert.DownLossIdeal.Gen.facts, Cert.DownLossRefIdeal.Gen.facts,
  Cert.DwIn.Gen.facts, Cert.DwInIdeal.Gen.facts, Cert.DwInRefIdeal.Gen.facts,
  Cert.DwOut.Gen.facts, Cert.DwOutIdeal.Gen.facts, Cert.DwOutRefIdeal.Gen.facts,
  Cert.DOut.Gen.facts, Cert.DOutIdeal.Gen.facts, Cert.DOutRefIdeal.Gen.facts,
  Cert.OutProj.Gen.facts, Cert.OutProjIdeal.Gen.facts, Cert.OutProjRefIdeal.Gen.facts,
  Cert.Dx.Gen.facts, Cert.DxIdeal.Gen.facts, Cert.DxRefIdeal.Gen.facts,
  Cert.Dhq.Gen.facts, Cert.DhqIdeal.Gen.facts, Cert.DhqRefIdeal.Gen.facts,
  Cert.Up.Gen.facts, Cert.UpIdeal.Gen.facts, Cert.UpRefIdeal.Gen.facts,
  Cert.AIn.Gen.facts, Cert.AInIdeal.Gen.facts, Cert.AInRefIdeal.Gen.facts,
  Cert.BQ.Gen.facts, Cert.BQIdeal.Gen.facts, Cert.BQRefIdeal.Gen.facts,
  Cert.DwGate.Gen.facts, Cert.DwGateIdeal.Gen.facts, Cert.DwGateRefIdeal.Gen.facts,
  Cert.DwKv.Gen.facts, Cert.DwKvIdeal.Gen.facts, Cert.DwKvRefIdeal.Gen.facts,
  Cert.Kv.Gen.facts, Cert.KvIdeal.Gen.facts, Cert.KvRefIdeal.Gen.facts,
  Cert.Pre_real_inputs.Gen.facts,
  fun m ρ _ => Cert.Kernel.Gen.frame m ρ, fun m ρ _ => Cert.KernelIdeal.Gen.frame m ρ, fun m ρ _ => Cert.KernelIdeal.Gen.frame m ρ,
  reference_frame, reference_frame_pre,
  fun m ρ _ => Cert.DwDown.Gen.frame m ρ, fun m ρ _ => Cert.DwDownIdeal.Gen.frame m ρ, dwDown_reference_frame,
  fun m ρ _ => Cert.DwUp.Gen.frame m ρ, fun m ρ _ => Cert.DwUpIdeal.Gen.frame m ρ, dwUp_reference_frame,
  fun m ρ _ => Cert.Dh.Gen.frame m ρ, fun m ρ _ => Cert.DhIdeal.Gen.frame m ρ, dh_reference_frame,
  fun m ρ _ => Cert.Down.Gen.frame m ρ, fun m ρ _ => Cert.DownIdeal.Gen.frame m ρ, down_reference_frame,
  fun m ρ _ => Cert.DownLoss.Gen.frame m ρ, fun m ρ _ => Cert.DownLossIdeal.Gen.frame m ρ, downLoss_reference_frame,
  fun m ρ _ => Cert.DwIn.Gen.frame m ρ, fun m ρ _ => Cert.DwInIdeal.Gen.frame m ρ, dwIn_reference_frame,
  fun m ρ _ => Cert.DwOut.Gen.frame m ρ, fun m ρ _ => Cert.DwOutIdeal.Gen.frame m ρ, dwOut_reference_frame,
  fun m ρ _ => Cert.DOut.Gen.frame m ρ, fun m ρ _ => Cert.DOutIdeal.Gen.frame m ρ, dOut_reference_frame,
  fun m ρ _ => Cert.OutProj.Gen.frame m ρ, fun m ρ _ => Cert.OutProjIdeal.Gen.frame m ρ, outProj_reference_frame,
  fun m ρ _ => Cert.Dx.Gen.frame m ρ, fun m ρ _ => Cert.DxIdeal.Gen.frame m ρ, dx_reference_frame,
  fun m ρ _ => Cert.Dhq.Gen.frame m ρ, fun m ρ _ => Cert.DhqIdeal.Gen.frame m ρ, dhq_reference_frame,
  fun m ρ _ => Cert.Mlp.Up.kept m ρ, fun m ρ _ => Cert.Mlp.UpIdeal.kept m ρ, up_reference_frame,
  fun m ρ _ => Cert.Mlp.AIn.kept m ρ, fun m ρ _ => Cert.Mlp.AInIdeal.kept m ρ, aIn_reference_frame,
  fun m ρ _ => Cert.Mlp.BQ.kept m ρ, fun m ρ _ => Cert.Mlp.BQIdeal.kept m ρ, bq_reference_frame,
  fun m ρ _ => Cert.DwGate.Gen.frame m ρ, fun m ρ _ => Cert.DwGateIdeal.Gen.frame m ρ, dwGate_reference_frame,
  fun m ρ _ => Cert.DwKv.Gen.frame m ρ, fun m ρ _ => Cert.DwKvIdeal.Gen.frame m ρ, dwKv_reference_frame,
  fun m ρ _ => Cert.Kv.Gen.frame m ρ, fun m ρ _ => Cert.KvIdeal.Gen.frame m ρ, kv_reference_frame,
  IdealRules.named_const.statement Cert.KernelIdeal.κ "mask" .f32 0xF149F2CA#32 ⊥ rfl, Cert.Fox.algebraic,
  trivial, Cert.Mlp.DwDown.algebraic,
  trivial, Cert.Mlp.DwUp.algebraic,
  trivial, Cert.Mlp.Dh.algebraic,
  trivial, Cert.Mlp.Down.algebraic,
  trivial, Cert.Mlp.DownLoss.algebraic,
  trivial, Cert.Mlp.DwIn.algebraic,
  trivial, Cert.Mlp.DwOut.algebraic,
  trivial, Cert.Mlp.DOut.algebraic,
  trivial, Cert.Mlp.OutProj.algebraic,
  trivial, Cert.Mlp.Dx.algebraic,
  trivial, Cert.Mlp.Dhq.algebraic,
  trivial, Cert.Mlp.UpIdeal.algebraic,
  trivial, Cert.Mlp.AInIdeal.algebraic,
  trivial, Cert.Mlp.BQIdeal.algebraic,
  trivial, Cert.Mlp.DwGate.algebraic,
  trivial, Cert.Mlp.DwKv.algebraic,
  trivial, Cert.Mlp.Kv.algebraic⟩

end Cert.Proof

end
